-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GlaProj (m : (ℓ : Loc Cert.GlaProj.nD Cert.GlaProj.τ Cert.GlaProj.sig) → Buf (Elt Bits) ℓ) : Prop :=
  True

def Pre_GlaProjIdeal (m : (ℓ : Loc Cert.GlaProjIdeal.nD Cert.GlaProjIdeal.τ Cert.GlaProjIdeal.sig) → Buf (Elt Ideal) ℓ) : Prop :=
  True

def Pre_GlaProjRefIdeal (m : (ℓ : Loc Cert.GlaProjRefIdeal.nD Cert.GlaProjRefIdeal.τ Cert.GlaProjRefIdeal.sig) → Buf (Elt Ideal) ℓ) : Prop :=
  True

def Pre_GlaProjDx (m : (ℓ : Loc Cert.GlaProjDx.nD Cert.GlaProjDx.τ Cert.GlaProjDx.sig) → Buf (Elt Bits) ℓ) : Prop :=
  True

def Pre_GlaProjDxIdeal (m : (ℓ : Loc Cert.GlaProjDxIdeal.nD Cert.GlaProjDxIdeal.τ Cert.GlaProjDxIdeal.sig) → Buf (Elt Ideal) ℓ) : Prop :=
  True

def Pre_GlaProjDxRefIdeal (m : (ℓ : Loc Cert.GlaProjDxRefIdeal.nD Cert.GlaProjDxRefIdeal.τ Cert.GlaProjDxRefIdeal.sig) → Buf (Elt Ideal) ℓ) : Prop :=
  True

def Pre_GlaProjDw (m : (ℓ : Loc Cert.GlaProjDw.nD Cert.GlaProjDw.τ Cert.GlaProjDw.sig) → Buf (Elt Bits) ℓ) : Prop :=
  True

def Pre_GlaProjDwIdeal (m : (ℓ : Loc Cert.GlaProjDwIdeal.nD Cert.GlaProjDwIdeal.τ Cert.GlaProjDwIdeal.sig) → Buf (Elt Ideal) ℓ) : Prop :=
  True

def Pre_GlaProjDwRefIdeal (m : (ℓ : Loc Cert.GlaProjDwRefIdeal.nD Cert.GlaProjDwRefIdeal.τ Cert.GlaProjDwRefIdeal.sig) → Buf (Elt Ideal) ℓ) : Prop :=
  True

def Pre_GateProj (m : (ℓ : Loc Cert.GateProj.nD Cert.GateProj.τ Cert.GateProj.sig) → Buf (Elt Bits) ℓ) : Prop :=
  True

def Pre_GateProjIdeal (m : (ℓ : Loc Cert.GateProjIdeal.nD Cert.GateProjIdeal.τ Cert.GateProjIdeal.sig) → Buf (Elt Ideal) ℓ) : Prop :=
  True

def Pre_GateProjRefIdeal (m : (ℓ : Loc Cert.GateProjRefIdeal.nD Cert.GateProjRefIdeal.τ Cert.GateProjRefIdeal.sig) → Buf (Elt Ideal) ℓ) : Prop :=
  True

def Pre_GateProjDx (m : (ℓ : Loc Cert.GateProjDx.nD Cert.GateProjDx.τ Cert.GateProjDx.sig) → Buf (Elt Bits) ℓ) : Prop :=
  True

def Pre_GateProjDxIdeal (m : (ℓ : Loc Cert.GateProjDxIdeal.nD Cert.GateProjDxIdeal.τ Cert.GateProjDxIdeal.sig) → Buf (Elt Ideal) ℓ) : Prop :=
  True

def Pre_GateProjDxRefIdeal (m : (ℓ : Loc Cert.GateProjDxRefIdeal.nD Cert.GateProjDxRefIdeal.τ Cert.GateProjDxRefIdeal.sig) → Buf (Elt Ideal) ℓ) : Prop :=
  True

def Pre_GateProjDw (m : (ℓ : Loc Cert.GateProjDw.nD Cert.GateProjDw.τ Cert.GateProjDw.sig) → Buf (Elt Bits) ℓ) : Prop :=
  True

def Pre_GateProjDwIdeal (m : (ℓ : Loc Cert.GateProjDwIdeal.nD Cert.GateProjDwIdeal.τ Cert.GateProjDwIdeal.sig) → Buf (Elt Ideal) ℓ) : Prop :=
  True

def Pre_GateProjDwRefIdeal (m : (ℓ : Loc Cert.GateProjDwRefIdeal.nD Cert.GateProjDwRefIdeal.τ Cert.GateProjDwRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxRefIdeal (m : (ℓ : Loc Cert.MixOutDxRefIdeal.nD Cert.MixOutDxRefIdeal.τ Cert.MixOutDxRefIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwRefIdeal (m : (ℓ : Loc Cert.MixOutDwRefIdeal.nD Cert.MixOutDwRefIdeal.τ Cert.MixOutDwRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_KvProjDx (m : (ℓ : Loc Cert.KvProjDx.nD Cert.KvProjDx.τ Cert.KvProjDx.sig) → Buf (Elt Bits) ℓ) : Prop :=
  True

def Pre_KvProjDxIdeal (m : (ℓ : Loc Cert.KvProjDxIdeal.nD Cert.KvProjDxIdeal.τ Cert.KvProjDxIdeal.sig) → Buf (Elt Ideal) ℓ) : Prop :=
  True

def Pre_KvProjDxRefIdeal (m : (ℓ : Loc Cert.KvProjDxRefIdeal.nD Cert.KvProjDxRefIdeal.τ Cert.KvProjDxRefIdeal.sig) → Buf (Elt Ideal) ℓ) : Prop :=
  True

def Pre_KvProjDw (m : (ℓ : Loc Cert.KvProjDw.nD Cert.KvProjDw.τ Cert.KvProjDw.sig) → Buf (Elt Bits) ℓ) : Prop :=
  True

def Pre_KvProjDwIdeal (m : (ℓ : Loc Cert.KvProjDwIdeal.nD Cert.KvProjDwIdeal.τ Cert.KvProjDwIdeal.sig) → Buf (Elt Ideal) ℓ) : Prop :=
  True

def Pre_KvProjDwRefIdeal (m : (ℓ : Loc Cert.KvProjDwRefIdeal.nD Cert.KvProjDwRefIdeal.τ Cert.KvProjDwRefIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def Pre_QProjDx (m : (ℓ : Loc Cert.QProjDx.nD Cert.QProjDx.τ Cert.QProjDx.sig) → Buf (Elt Bits) ℓ) : Prop :=
  True

def Pre_QProjDxIdeal (m : (ℓ : Loc Cert.QProjDxIdeal.nD Cert.QProjDxIdeal.τ Cert.QProjDxIdeal.sig) → Buf (Elt Ideal) ℓ) : Prop :=
  True

def Pre_QProjDxRefIdeal (m : (ℓ : Loc Cert.QProjDxRefIdeal.nD Cert.QProjDxRefIdeal.τ Cert.QProjDxRefIdeal.sig) → Buf (Elt Ideal) ℓ) : Prop :=
  True

def Pre_QProjDw (m : (ℓ : Loc Cert.QProjDw.nD Cert.QProjDw.τ Cert.QProjDw.sig) → Buf (Elt Bits) ℓ) : Prop :=
  True

def Pre_QProjDwIdeal (m : (ℓ : Loc Cert.QProjDwIdeal.nD Cert.QProjDwIdeal.τ Cert.QProjDwIdeal.sig) → Buf (Elt Ideal) ℓ) : Prop :=
  True

def Pre_QProjDwRefIdeal (m : (ℓ : Loc Cert.QProjDwRefIdeal.nD Cert.QProjDwRefIdeal.τ Cert.QProjDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormPair (m : (ℓ : Loc Cert.NormPair.nD Cert.NormPair.τ Cert.NormPair.sig) → Buf (Elt Bits) ℓ) : Prop :=
  True

def Pre_NormPairIdeal (m : (ℓ : Loc Cert.NormPairIdeal.nD Cert.NormPairIdeal.τ Cert.NormPairIdeal.sig) → Buf (Elt Ideal) ℓ) : Prop :=
  True

def Pre_NormPairRefIdeal (m : (ℓ : Loc Cert.NormPairRefIdeal.nD Cert.NormPairRefIdeal.τ Cert.NormPairRefIdeal.sig) → Buf (Elt Ideal) ℓ) : Prop :=
  True

def Pre_NormDx (m : (ℓ : Loc Cert.NormDx.nD Cert.NormDx.τ Cert.NormDx.sig) → Buf (Elt Bits) ℓ) : Prop :=
  True

def Pre_NormDxIdeal (m : (ℓ : Loc Cert.NormDxIdeal.nD Cert.NormDxIdeal.τ Cert.NormDxIdeal.sig) → Buf (Elt Ideal) ℓ) : Prop :=
  True

def Pre_NormDxRefIdeal (m : (ℓ : Loc Cert.NormDxRefIdeal.nD Cert.NormDxRefIdeal.τ Cert.NormDxRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_ConvDx (m : (ℓ : Loc Cert.ConvDx.nD Cert.ConvDx.τ Cert.ConvDx.sig) → Buf (Elt Bits) ℓ) : Prop :=
  True

def Pre_ConvDxIdeal (m : (ℓ : Loc Cert.ConvDxIdeal.nD Cert.ConvDxIdeal.τ Cert.ConvDxIdeal.sig) → Buf (Elt Ideal) ℓ) : Prop :=
  True

def Pre_ConvDxRefIdeal (m : (ℓ : Loc Cert.ConvDxRefIdeal.nD Cert.ConvDxRefIdeal.τ Cert.ConvDxRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamQ (m : (ℓ : Loc Cert.AdamQ.nD Cert.AdamQ.τ Cert.AdamQ.sig) → Buf (Elt Bits) ℓ) : Prop :=
  True

def Pre_AdamQIdeal (m : (ℓ : Loc Cert.AdamQIdeal.nD Cert.AdamQIdeal.τ Cert.AdamQIdeal.sig) → Buf (Elt Ideal) ℓ) : Prop :=
  True

def Pre_AdamQRefIdeal (m : (ℓ : Loc Cert.AdamQRefIdeal.nD Cert.AdamQRefIdeal.τ Cert.AdamQRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_GlaProj [hGlaProj : Cert.GlaProj.Facts] : Prop :=
  ∀ (m : (ℓ : Loc Cert.GlaProj.nD Cert.GlaProj.τ Cert.GlaProj.sig) → Buf (Elt Bits) ℓ) (g : Dev Cert.GlaProj.nD → PrngReg), Pre_GlaProj m →
    θ_run (Cert.GlaProj.defs (F := Bits)) (onTc (τ := Cert.GlaProj.τ) (Cert.GlaProj.main (F := Bits))) ⟨m, fun _ => 0, g⟩ (fun r => (∀ c : Dev Cert.GlaProj.nD,
      r.2.mem ((c.tc : Thread Cert.GlaProj.nD Cert.GlaProj.τ).loc Cert.GlaProj.main_arg0) = m ((c.tc : Thread Cert.GlaProj.nD Cert.GlaProj.τ).loc Cert.GlaProj.main_arg0)
      ∧ r.2.mem ((c.tc : Thread Cert.GlaProj.nD Cert.GlaProj.τ).loc Cert.GlaProj.main_arg1) = m ((c.tc : Thread Cert.GlaProj.nD Cert.GlaProj.τ).loc Cert.GlaProj.main_arg1))
      ∧ r.2.sem = fun _ => 0)

def quiescent_GlaProjIdeal [hGlaProjIdeal : Cert.GlaProjIdeal.Facts] : Prop :=
  ∀ (m : (ℓ : Loc Cert.GlaProjIdeal.nD Cert.GlaProjIdeal.τ Cert.GlaProjIdeal.sig) → Buf (Elt Ideal) ℓ) (g : Dev Cert.GlaProjIdeal.nD → PrngReg), Pre_GlaProjIdeal m →
    θ_run (Cert.GlaProjIdeal.defs (F := Ideal)) (onTc (τ := Cert.GlaProjIdeal.τ) (Cert.GlaProjIdeal.main (F := Ideal))) ⟨m, fun _ => 0, g⟩ (fun r => (∀ c : Dev Cert.GlaProjIdeal.nD,
      r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
      ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1))
      ∧ r.2.sem = fun _ => 0)

def quiescent_GlaProjRefIdeal [hGlaProjRefIdeal : Cert.GlaProjRefIdeal.Facts] : Prop :=
  ∀ (m : (ℓ : Loc Cert.GlaProjRefIdeal.nD Cert.GlaProjRefIdeal.τ Cert.GlaProjRefIdeal.sig) → Buf (Elt Ideal) ℓ) (g : Dev Cert.GlaProjRefIdeal.nD → PrngReg), Pre_GlaProjRefIdeal m →
    θ_run (Cert.GlaProjRefIdeal.defs (F := Ideal)) (onTc (τ := Cert.GlaProjRefIdeal.τ) (Cert.GlaProjRefIdeal.main (F := Ideal))) ⟨m, fun _ => 0, g⟩ (fun r => (∀ c : Dev Cert.GlaProjRefIdeal.nD,
      r.2.mem ((c.tc : Thread Cert.GlaProjRefIdeal.nD Cert.GlaProjRefIdeal.τ).loc Cert.GlaProjRefIdeal.main_arg0) = m ((c.tc : Thread Cert.GlaProjRefIdeal.nD Cert.GlaProjRefIdeal.τ).loc Cert.GlaProjRefIdeal.main_arg0)
      ∧ r.2.mem ((c.tc : Thread Cert.GlaProjRefIdeal.nD Cert.GlaProjRefIdeal.τ).loc Cert.GlaProjRefIdeal.main_arg1) = m ((c.tc : Thread Cert.GlaProjRefIdeal.nD Cert.GlaProjRefIdeal.τ).loc Cert.GlaProjRefIdeal.main_arg1))
      ∧ r.2.sem = fun _ => 0)

def quiescent_GlaProjDx [hGlaProjDx : Cert.GlaProjDx.Facts] : Prop :=
  ∀ (m : (ℓ : Loc Cert.GlaProjDx.nD Cert.GlaProjDx.τ Cert.GlaProjDx.sig) → Buf (Elt Bits) ℓ) (g : Dev Cert.GlaProjDx.nD → PrngReg), Pre_GlaProjDx m →
    θ_run (Cert.GlaProjDx.defs (F := Bits)) (onTc (τ := Cert.GlaProjDx.τ) (Cert.GlaProjDx.main (F := Bits))) ⟨m, fun _ => 0, g⟩ (fun r => (∀ c : Dev Cert.GlaProjDx.nD,
      r.2.mem ((c.tc : Thread Cert.GlaProjDx.nD Cert.GlaProjDx.τ).loc Cert.GlaProjDx.main_arg0) = m ((c.tc : Thread Cert.GlaProjDx.nD Cert.GlaProjDx.τ).loc Cert.GlaProjDx.main_arg0)
      ∧ r.2.mem ((c.tc : Thread Cert.GlaProjDx.nD Cert.GlaProjDx.τ).loc Cert.GlaProjDx.main_arg1) = m ((c.tc : Thread Cert.GlaProjDx.nD Cert.GlaProjDx.τ).loc Cert.GlaProjDx.main_arg1))
      ∧ r.2.sem = fun _ => 0)

def quiescent_GlaProjDxIdeal [hGlaProjDxIdeal : Cert.GlaProjDxIdeal.Facts] : Prop :=
  ∀ (m : (ℓ : Loc Cert.GlaProjDxIdeal.nD Cert.GlaProjDxIdeal.τ Cert.GlaProjDxIdeal.sig) → Buf (Elt Ideal) ℓ) (g : Dev Cert.GlaProjDxIdeal.nD → PrngReg), Pre_GlaProjDxIdeal m →
    θ_run (Cert.GlaProjDxIdeal.defs (F := Ideal)) (onTc (τ := Cert.GlaProjDxIdeal.τ) (Cert.GlaProjDxIdeal.main (F := Ideal))) ⟨m, fun _ => 0, g⟩ (fun r => (∀ c : Dev Cert.GlaProjDxIdeal.nD,
      r.2.mem ((c.tc : Thread Cert.GlaProjDxIdeal.nD Cert.GlaProjDxIdeal.τ).loc Cert.GlaProjDxIdeal.main_arg0) = m ((c.tc : Thread Cert.GlaProjDxIdeal.nD Cert.GlaProjDxIdeal.τ).loc Cert.GlaProjDxIdeal.main_arg0)
      ∧ r.2.mem ((c.tc : Thread Cert.GlaProjDxIdeal.nD Cert.GlaProjDxIdeal.τ).loc Cert.GlaProjDxIdeal.main_arg1) = m ((c.tc : Thread Cert.GlaProjDxIdeal.nD Cert.GlaProjDxIdeal.τ).loc Cert.GlaProjDxIdeal.main_arg1))
      ∧ r.2.sem = fun _ => 0)

def quiescent_GlaProjDxRefIdeal [hGlaProjDxRefIdeal : Cert.GlaProjDxRefIdeal.Facts] : Prop :=
  ∀ (m : (ℓ : Loc Cert.GlaProjDxRefIdeal.nD Cert.GlaProjDxRefIdeal.τ Cert.GlaProjDxRefIdeal.sig) → Buf (Elt Ideal) ℓ) (g : Dev Cert.GlaProjDxRefIdeal.nD → PrngReg), Pre_GlaProjDxRefIdeal m →
    θ_run (Cert.GlaProjDxRefIdeal.defs (F := Ideal)) (onTc (τ := Cert.GlaProjDxRefIdeal.τ) (Cert.GlaProjDxRefIdeal.main (F := Ideal))) ⟨m, fun _ => 0, g⟩ (fun r => (∀ c : Dev Cert.GlaProjDxRefIdeal.nD,
      r.2.mem ((c.tc : Thread Cert.GlaProjDxRefIdeal.nD Cert.GlaProjDxRefIdeal.τ).loc Cert.GlaProjDxRefIdeal.main_arg0) = m ((c.tc : Thread Cert.GlaProjDxRefIdeal.nD Cert.GlaProjDxRefIdeal.τ).loc Cert.GlaProjDxRefIdeal.main_arg0)
      ∧ r.2.mem ((c.tc : Thread Cert.GlaProjDxRefIdeal.nD Cert.GlaProjDxRefIdeal.τ).loc Cert.GlaProjDxRefIdeal.main_arg1) = m ((c.tc : Thread Cert.GlaProjDxRefIdeal.nD Cert.GlaProjDxRefIdeal.τ).loc Cert.GlaProjDxRefIdeal.main_arg1))
      ∧ r.2.sem = fun _ => 0)

def quiescent_GlaProjDw [hGlaProjDw : Cert.GlaProjDw.Facts] : Prop :=
  ∀ (m : (ℓ : Loc Cert.GlaProjDw.nD Cert.GlaProjDw.τ Cert.GlaProjDw.sig) → Buf (Elt Bits) ℓ) (g : Dev Cert.GlaProjDw.nD → PrngReg), Pre_GlaProjDw m →
    θ_run (Cert.GlaProjDw.defs (F := Bits)) (onTc (τ := Cert.GlaProjDw.τ) (Cert.GlaProjDw.main (F := Bits))) ⟨m, fun _ => 0, g⟩ (fun r => (∀ c : Dev Cert.GlaProjDw.nD,
      r.2.mem ((c.tc : Thread Cert.GlaProjDw.nD Cert.GlaProjDw.τ).loc Cert.GlaProjDw.main_arg0) = m ((c.tc : Thread Cert.GlaProjDw.nD Cert.GlaProjDw.τ).loc Cert.GlaProjDw.main_arg0)
      ∧ r.2.mem ((c.tc : Thread Cert.GlaProjDw.nD Cert.GlaProjDw.τ).loc Cert.GlaProjDw.main_arg1) = m ((c.tc : Thread Cert.GlaProjDw.nD Cert.GlaProjDw.τ).loc Cert.GlaProjDw.main_arg1))
      ∧ r.2.sem = fun _ => 0)

def quiescent_GlaProjDwIdeal [hGlaProjDwIdeal : Cert.GlaProjDwIdeal.Facts] : Prop :=
  ∀ (m : (ℓ : Loc Cert.GlaProjDwIdeal.nD Cert.GlaProjDwIdeal.τ Cert.GlaProjDwIdeal.sig) → Buf (Elt Ideal) ℓ) (g : Dev Cert.GlaProjDwIdeal.nD → PrngReg), Pre_GlaProjDwIdeal m →
    θ_run (Cert.GlaProjDwIdeal.defs (F := Ideal)) (onTc (τ := Cert.GlaProjDwIdeal.τ) (Cert.GlaProjDwIdeal.main (F := Ideal))) ⟨m, fun _ => 0, g⟩ (fun r => (∀ c : Dev Cert.GlaProjDwIdeal.nD,
      r.2.mem ((c.tc : Thread Cert.GlaProjDwIdeal.nD Cert.GlaProjDwIdeal.τ).loc Cert.GlaProjDwIdeal.main_arg0) = m ((c.tc : Thread Cert.GlaProjDwIdeal.nD Cert.GlaProjDwIdeal.τ).loc Cert.GlaProjDwIdeal.main_arg0)
      ∧ r.2.mem ((c.tc : Thread Cert.GlaProjDwIdeal.nD Cert.GlaProjDwIdeal.τ).loc Cert.GlaProjDwIdeal.main_arg1) = m ((c.tc : Thread Cert.GlaProjDwIdeal.nD Cert.GlaProjDwIdeal.τ).loc Cert.GlaProjDwIdeal.main_arg1))
      ∧ r.2.sem = fun _ => 0)

def quiescent_GlaProjDwRefIdeal [hGlaProjDwRefIdeal : Cert.GlaProjDwRefIdeal.Facts] : Prop :=
  ∀ (m : (ℓ : Loc Cert.GlaProjDwRefIdeal.nD Cert.GlaProjDwRefIdeal.τ Cert.GlaProjDwRefIdeal.sig) → Buf (Elt Ideal) ℓ) (g : Dev Cert.GlaProjDwRefIdeal.nD → PrngReg), Pre_GlaProjDwRefIdeal m →
    θ_run (Cert.GlaProjDwRefIdeal.defs (F := Ideal)) (onTc (τ := Cert.GlaProjDwRefIdeal.τ) (Cert.GlaProjDwRefIdeal.main (F := Ideal))) ⟨m, fun _ => 0, g⟩ (fun r => (∀ c : Dev Cert.GlaProjDwRefIdeal.nD,
      r.2.mem ((c.tc : Thread Cert.GlaProjDwRefIdeal.nD Cert.GlaProjDwRefIdeal.τ).loc Cert.GlaProjDwRefIdeal.main_arg0) = m ((c.tc : Thread Cert.GlaProjDwRefIdeal.nD Cert.GlaProjDwRefIdeal.τ).loc Cert.GlaProjDwRefIdeal.main_arg0)
      ∧ r.2.mem ((c.tc : Thread Cert.GlaProjDwRefIdeal.nD Cert.GlaProjDwRefIdeal.τ).loc Cert.GlaProjDwRefIdeal.main_arg1) = m ((c.tc : Thread Cert.GlaProjDwRefIdeal.nD Cert.GlaProjDwRefIdeal.τ).loc Cert.GlaProjDwRefIdeal.main_arg1))
      ∧ r.2.sem = fun _ => 0)

def quiescent_GateProj [hGateProj : Cert.GateProj.Facts] : Prop :=
  ∀ (m : (ℓ : Loc Cert.GateProj.nD Cert.GateProj.τ Cert.GateProj.sig) → Buf (Elt Bits) ℓ) (g : Dev Cert.GateProj.nD → PrngReg), Pre_GateProj m →
    θ_run (Cert.GateProj.defs (F := Bits)) (onTc (τ := Cert.GateProj.τ) (Cert.GateProj.main (F := Bits))) ⟨m, fun _ => 0, g⟩ (fun r => (∀ c : Dev Cert.GateProj.nD,
      r.2.mem ((c.tc : Thread Cert.GateProj.nD Cert.GateProj.τ).loc Cert.GateProj.main_arg0) = m ((c.tc : Thread Cert.GateProj.nD Cert.GateProj.τ).loc Cert.GateProj.main_arg0)
      ∧ r.2.mem ((c.tc : Thread Cert.GateProj.nD Cert.GateProj.τ).loc Cert.GateProj.main_arg1) = m ((c.tc : Thread Cert.GateProj.nD Cert.GateProj.τ).loc Cert.GateProj.main_arg1))
      ∧ r.2.sem = fun _ => 0)

def quiescent_GateProjIdeal [hGateProjIdeal : Cert.GateProjIdeal.Facts] : Prop :=
  ∀ (m : (ℓ : Loc Cert.GateProjIdeal.nD Cert.GateProjIdeal.τ Cert.GateProjIdeal.sig) → Buf (Elt Ideal) ℓ) (g : Dev Cert.GateProjIdeal.nD → PrngReg), Pre_GateProjIdeal m →
    θ_run (Cert.GateProjIdeal.defs (F := Ideal)) (onTc (τ := Cert.GateProjIdeal.τ) (Cert.GateProjIdeal.main (F := Ideal))) ⟨m, fun _ => 0, g⟩ (fun r => (∀ c : Dev Cert.GateProjIdeal.nD,
      r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
      ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1))
      ∧ r.2.sem = fun _ => 0)

def quiescent_GateProjRefIdeal [hGateProjRefIdeal : Cert.GateProjRefIdeal.Facts] : Prop :=
  ∀ (m : (ℓ : Loc Cert.GateProjRefIdeal.nD Cert.GateProjRefIdeal.τ Cert.GateProjRefIdeal.sig) → Buf (Elt Ideal) ℓ) (g : Dev Cert.GateProjRefIdeal.nD → PrngReg), Pre_GateProjRefIdeal m →
    θ_run (Cert.GateProjRefIdeal.defs (F := Ideal)) (onTc (τ := Cert.GateProjRefIdeal.τ) (Cert.GateProjRefIdeal.main (F := Ideal))) ⟨m, fun _ => 0, g⟩ (fun r => (∀ c : Dev Cert.GateProjRefIdeal.nD,
      r.2.mem ((c.tc : Thread Cert.GateProjRefIdeal.nD Cert.GateProjRefIdeal.τ).loc Cert.GateProjRefIdeal.main_arg0) = m ((c.tc : Thread Cert.GateProjRefIdeal.nD Cert.GateProjRefIdeal.τ).loc Cert.GateProjRefIdeal.main_arg0)
      ∧ r.2.mem ((c.tc : Thread Cert.GateProjRefIdeal.nD Cert.GateProjRefIdeal.τ).loc Cert.GateProjRefIdeal.main_arg1) = m ((c.tc : Thread Cert.GateProjRefIdeal.nD Cert.GateProjRefIdeal.τ).loc Cert.GateProjRefIdeal.main_arg1))
      ∧ r.2.sem = fun _ => 0)

def quiescent_GateProjDx [hGateProjDx : Cert.GateProjDx.Facts] : Prop :=
  ∀ (m : (ℓ : Loc Cert.GateProjDx.nD Cert.GateProjDx.τ Cert.GateProjDx.sig) → Buf (Elt Bits) ℓ) (g : Dev Cert.GateProjDx.nD → PrngReg), Pre_GateProjDx m →
    θ_run (Cert.GateProjDx.defs (F := Bits)) (onTc (τ := Cert.GateProjDx.τ) (Cert.GateProjDx.main (F := Bits))) ⟨m, fun _ => 0, g⟩ (fun r => (∀ c : Dev Cert.GateProjDx.nD,
      r.2.mem ((c.tc : Thread Cert.GateProjDx.nD Cert.GateProjDx.τ).loc Cert.GateProjDx.main_arg0) = m ((c.tc : Thread Cert.GateProjDx.nD Cert.GateProjDx.τ).loc Cert.GateProjDx.main_arg0)
      ∧ r.2.mem ((c.tc : Thread Cert.GateProjDx.nD Cert.GateProjDx.τ).loc Cert.GateProjDx.main_arg1) = m ((c.tc : Thread Cert.GateProjDx.nD Cert.GateProjDx.τ).loc Cert.GateProjDx.main_arg1)
      ∧ r.2.mem ((c.tc : Thread Cert.GateProjDx.nD Cert.GateProjDx.τ).loc Cert.GateProjDx.main_arg2) = m ((c.tc : Thread Cert.GateProjDx.nD Cert.GateProjDx.τ).loc Cert.GateProjDx.main_arg2))
      ∧ r.2.sem = fun _ => 0)

def quiescent_GateProjDxIdeal [hGateProjDxIdeal : Cert.GateProjDxIdeal.Facts] : Prop :=
  ∀ (m : (ℓ : Loc Cert.GateProjDxIdeal.nD Cert.GateProjDxIdeal.τ Cert.GateProjDxIdeal.sig) → Buf (Elt Ideal) ℓ) (g : Dev Cert.GateProjDxIdeal.nD → PrngReg), Pre_GateProjDxIdeal m →
    θ_run (Cert.GateProjDxIdeal.defs (F := Ideal)) (onTc (τ := Cert.GateProjDxIdeal.τ) (Cert.GateProjDxIdeal.main (F := Ideal))) ⟨m, fun _ => 0, g⟩ (fun r => (∀ c : Dev Cert.GateProjDxIdeal.nD,
      r.2.mem ((c.tc : Thread Cert.GateProjDxIdeal.nD Cert.GateProjDxIdeal.τ).loc Cert.GateProjDxIdeal.main_arg0) = m ((c.tc : Thread Cert.GateProjDxIdeal.nD Cert.GateProjDxIdeal.τ).loc Cert.GateProjDxIdeal.main_arg0)
      ∧ r.2.mem ((c.tc : Thread Cert.GateProjDxIdeal.nD Cert.GateProjDxIdeal.τ).loc Cert.GateProjDxIdeal.main_arg1) = m ((c.tc : Thread Cert.GateProjDxIdeal.nD Cert.GateProjDxIdeal.τ).loc Cert.GateProjDxIdeal.main_arg1)
      ∧ r.2.mem ((c.tc : Thread Cert.GateProjDxIdeal.nD Cert.GateProjDxIdeal.τ).loc Cert.GateProjDxIdeal.main_arg2) = m ((c.tc : Thread Cert.GateProjDxIdeal.nD Cert.GateProjDxIdeal.τ).loc Cert.GateProjDxIdeal.main_arg2))
      ∧ r.2.sem = fun _ => 0)

def quiescent_GateProjDxRefIdeal [hGateProjDxRefIdeal : Cert.GateProjDxRefIdeal.Facts] : Prop :=
  ∀ (m : (ℓ : Loc Cert.GateProjDxRefIdeal.nD Cert.GateProjDxRefIdeal.τ Cert.GateProjDxRefIdeal.sig) → Buf (Elt Ideal) ℓ) (g : Dev Cert.GateProjDxRefIdeal.nD → PrngReg), Pre_GateProjDxRefIdeal m →
    θ_run (Cert.GateProjDxRefIdeal.defs (F := Ideal)) (onTc (τ := Cert.GateProjDxRefIdeal.τ) (Cert.GateProjDxRefIdeal.main (F := Ideal))) ⟨m, fun _ => 0, g⟩ (fun r => (∀ c : Dev Cert.GateProjDxRefIdeal.nD,
      r.2.mem ((c.tc : Thread Cert.GateProjDxRefIdeal.nD Cert.GateProjDxRefIdeal.τ).loc Cert.GateProjDxRefIdeal.main_arg0) = m ((c.tc : Thread Cert.GateProjDxRefIdeal.nD Cert.GateProjDxRefIdeal.τ).loc Cert.GateProjDxRefIdeal.main_arg0)
      ∧ r.2.mem ((c.tc : Thread Cert.GateProjDxRefIdeal.nD Cert.GateProjDxRefIdeal.τ).loc Cert.GateProjDxRefIdeal.main_arg1) = m ((c.tc : Thread Cert.GateProjDxRefIdeal.nD Cert.GateProjDxRefIdeal.τ).loc Cert.GateProjDxRefIdeal.main_arg1)
      ∧ r.2.mem ((c.tc : Thread Cert.GateProjDxRefIdeal.nD Cert.GateProjDxRefIdeal.τ).loc Cert.GateProjDxRefIdeal.main_arg2) = m ((c.tc : Thread Cert.GateProjDxRefIdeal.nD Cert.GateProjDxRefIdeal.τ).loc Cert.GateProjDxRefIdeal.main_arg2))
      ∧ r.2.sem = fun _ => 0)

def quiescent_GateProjDw [hGateProjDw : Cert.GateProjDw.Facts] : Prop :=
  ∀ (m : (ℓ : Loc Cert.GateProjDw.nD Cert.GateProjDw.τ Cert.GateProjDw.sig) → Buf (Elt Bits) ℓ) (g : Dev Cert.GateProjDw.nD → PrngReg), Pre_GateProjDw m →
    θ_run (Cert.GateProjDw.defs (F := Bits)) (onTc (τ := Cert.GateProjDw.τ) (Cert.GateProjDw.main (F := Bits))) ⟨m, fun _ => 0, g⟩ (fun r => (∀ c : Dev Cert.GateProjDw.nD,
      r.2.mem ((c.tc : Thread Cert.GateProjDw.nD Cert.GateProjDw.τ).loc Cert.GateProjDw.main_arg0) = m ((c.tc : Thread Cert.GateProjDw.nD Cert.GateProjDw.τ).loc Cert.GateProjDw.main_arg0)
      ∧ r.2.mem ((c.tc : Thread Cert.GateProjDw.nD Cert.GateProjDw.τ).loc Cert.GateProjDw.main_arg1) = m ((c.tc : Thread Cert.GateProjDw.nD Cert.GateProjDw.τ).loc Cert.GateProjDw.main_arg1))
      ∧ r.2.sem = fun _ => 0)

def quiescent_GateProjDwIdeal [hGateProjDwIdeal : Cert.GateProjDwIdeal.Facts] : Prop :=
  ∀ (m : (ℓ : Loc Cert.GateProjDwIdeal.nD Cert.GateProjDwIdeal.τ Cert.GateProjDwIdeal.sig) → Buf (Elt Ideal) ℓ) (g : Dev Cert.GateProjDwIdeal.nD → PrngReg), Pre_GateProjDwIdeal m →
    θ_run (Cert.GateProjDwIdeal.defs (F := Ideal)) (onTc (τ := Cert.GateProjDwIdeal.τ) (Cert.GateProjDwIdeal.main (F := Ideal))) ⟨m, fun _ => 0, g⟩ (fun r => (∀ c : Dev Cert.GateProjDwIdeal.nD,
      r.2.mem ((c.tc : Thread Cert.GateProjDwIdeal.nD Cert.GateProjDwIdeal.τ).loc Cert.GateProjDwIdeal.main_arg0) = m ((c.tc : Thread Cert.GateProjDwIdeal.nD Cert.GateProjDwIdeal.τ).loc Cert.GateProjDwIdeal.main_arg0)
      ∧ r.2.mem ((c.tc : Thread Cert.GateProjDwIdeal.nD Cert.GateProjDwIdeal.τ).loc Cert.GateProjDwIdeal.main_arg1) = m ((c.tc : Thread Cert.GateProjDwIdeal.nD Cert.GateProjDwIdeal.τ).loc Cert.GateProjDwIdeal.main_arg1))
      ∧ r.2.sem = fun _ => 0)

def quiescent_GateProjDwRefIdeal [hGateProjDwRefIdeal : Cert.GateProjDwRefIdeal.Facts] : Prop :=
  ∀ (m : (ℓ : Loc Cert.GateProjDwRefIdeal.nD Cert.GateProjDwRefIdeal.τ Cert.GateProjDwRefIdeal.sig) → Buf (Elt Ideal) ℓ) (g : Dev Cert.GateProjDwRefIdeal.nD → PrngReg), Pre_GateProjDwRefIdeal m →
    θ_run (Cert.GateProjDwRefIdeal.defs (F := Ideal)) (onTc (τ := Cert.GateProjDwRefIdeal.τ) (Cert.GateProjDwRefIdeal.main (F := Ideal))) ⟨m, fun _ => 0, g⟩ (fun r => (∀ c : Dev Cert.GateProjDwRefIdeal.nD,
      r.2.mem ((c.tc : Thread Cert.GateProjDwRefIdeal.nD Cert.GateProjDwRefIdeal.τ).loc Cert.GateProjDwRefIdeal.main_arg0) = m ((c.tc : Thread Cert.GateProjDwRefIdeal.nD Cert.GateProjDwRefIdeal.τ).loc Cert.GateProjDwRefIdeal.main_arg0)
      ∧ r.2.mem ((c.tc : Thread Cert.GateProjDwRefIdeal.nD Cert.GateProjDwRefIdeal.τ).loc Cert.GateProjDwRefIdeal.main_arg1) = m ((c.tc : Thread Cert.GateProjDwRefIdeal.nD Cert.GateProjDwRefIdeal.τ).loc Cert.GateProjDwRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ r.2.sem = fun _ => 0)

def quiescent_MixOutDxRefIdeal [hMixOutDxRefIdeal : Cert.MixOutDxRefIdeal.Facts] : Prop :=
  ∀ (m : (ℓ : Loc Cert.MixOutDxRefIdeal.nD Cert.MixOutDxRefIdeal.τ Cert.MixOutDxRefIdeal.sig) → Buf (Elt Ideal) ℓ) (g : Dev Cert.MixOutDxRefIdeal.nD → PrngReg), Pre_MixOutDxRefIdeal m →
    θ_run (Cert.MixOutDxRefIdeal.defs (F := Ideal)) (onTc (τ := Cert.MixOutDxRefIdeal.τ) (Cert.MixOutDxRefIdeal.main (F := Ideal))) ⟨m, fun _ => 0, g⟩ (fun r => (∀ c : Dev Cert.MixOutDxRefIdeal.nD,
      r.2.mem ((c.tc : Thread Cert.MixOutDxRefIdeal.nD Cert.MixOutDxRefIdeal.τ).loc Cert.MixOutDxRefIdeal.main_arg0) = m ((c.tc : Thread Cert.MixOutDxRefIdeal.nD Cert.MixOutDxRefIdeal.τ).loc Cert.MixOutDxRefIdeal.main_arg0)
      ∧ r.2.mem ((c.tc : Thread Cert.MixOutDxRefIdeal.nD Cert.MixOutDxRefIdeal.τ).loc Cert.MixOutDxRefIdeal.main_arg1) = m ((c.tc : Thread Cert.MixOutDxRefIdeal.nD Cert.MixOutDxRefIdeal.τ).loc Cert.MixOutDxRefIdeal.main_arg1))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ r.2.sem = fun _ => 0)

def quiescent_MixOutDwRefIdeal [hMixOutDwRefIdeal : Cert.MixOutDwRefIdeal.Facts] : Prop :=
  ∀ (m : (ℓ : Loc Cert.MixOutDwRefIdeal.nD Cert.MixOutDwRefIdeal.τ Cert.MixOutDwRefIdeal.sig) → Buf (Elt Ideal) ℓ) (g : Dev Cert.MixOutDwRefIdeal.nD → PrngReg), Pre_MixOutDwRefIdeal m →
    θ_run (Cert.MixOutDwRefIdeal.defs (F := Ideal)) (onTc (τ := Cert.MixOutDwRefIdeal.τ) (Cert.MixOutDwRefIdeal.main (F := Ideal))) ⟨m, fun _ => 0, g⟩ (fun r => (∀ c : Dev Cert.MixOutDwRefIdeal.nD,
      r.2.mem ((c.tc : Thread Cert.MixOutDwRefIdeal.nD Cert.MixOutDwRefIdeal.τ).loc Cert.MixOutDwRefIdeal.main_arg0) = m ((c.tc : Thread Cert.MixOutDwRefIdeal.nD Cert.MixOutDwRefIdeal.τ).loc Cert.MixOutDwRefIdeal.main_arg0)
      ∧ r.2.mem ((c.tc : Thread Cert.MixOutDwRefIdeal.nD Cert.MixOutDwRefIdeal.τ).loc Cert.MixOutDwRefIdeal.main_arg1) = m ((c.tc : Thread Cert.MixOutDwRefIdeal.nD Cert.MixOutDwRefIdeal.τ).loc Cert.MixOutDwRefIdeal.main_arg1))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1))
      ∧ r.2.sem = fun _ => 0)

def quiescent_KvProjDx [hKvProjDx : Cert.KvProjDx.Facts] : Prop :=
  ∀ (m : (ℓ : Loc Cert.KvProjDx.nD Cert.KvProjDx.τ Cert.KvProjDx.sig) → Buf (Elt Bits) ℓ) (g : Dev Cert.KvProjDx.nD → PrngReg), Pre_KvProjDx m →
    θ_run (Cert.KvProjDx.defs (F := Bits)) (onTc (τ := Cert.KvProjDx.τ) (Cert.KvProjDx.main (F := Bits))) ⟨m, fun _ => 0, g⟩ (fun r => (∀ c : Dev Cert.KvProjDx.nD,
      r.2.mem ((c.tc : Thread Cert.KvProjDx.nD Cert.KvProjDx.τ).loc Cert.KvProjDx.main_arg0) = m ((c.tc : Thread Cert.KvProjDx.nD Cert.KvProjDx.τ).loc Cert.KvProjDx.main_arg0)
      ∧ r.2.mem ((c.tc : Thread Cert.KvProjDx.nD Cert.KvProjDx.τ).loc Cert.KvProjDx.main_arg1) = m ((c.tc : Thread Cert.KvProjDx.nD Cert.KvProjDx.τ).loc Cert.KvProjDx.main_arg1))
      ∧ r.2.sem = fun _ => 0)

def quiescent_KvProjDxIdeal [hKvProjDxIdeal : Cert.KvProjDxIdeal.Facts] : Prop :=
  ∀ (m : (ℓ : Loc Cert.KvProjDxIdeal.nD Cert.KvProjDxIdeal.τ Cert.KvProjDxIdeal.sig) → Buf (Elt Ideal) ℓ) (g : Dev Cert.KvProjDxIdeal.nD → PrngReg), Pre_KvProjDxIdeal m →
    θ_run (Cert.KvProjDxIdeal.defs (F := Ideal)) (onTc (τ := Cert.KvProjDxIdeal.τ) (Cert.KvProjDxIdeal.main (F := Ideal))) ⟨m, fun _ => 0, g⟩ (fun r => (∀ c : Dev Cert.KvProjDxIdeal.nD,
      r.2.mem ((c.tc : Thread Cert.KvProjDxIdeal.nD Cert.KvProjDxIdeal.τ).loc Cert.KvProjDxIdeal.main_arg0) = m ((c.tc : Thread Cert.KvProjDxIdeal.nD Cert.KvProjDxIdeal.τ).loc Cert.KvProjDxIdeal.main_arg0)
      ∧ r.2.mem ((c.tc : Thread Cert.KvProjDxIdeal.nD Cert.KvProjDxIdeal.τ).loc Cert.KvProjDxIdeal.main_arg1) = m ((c.tc : Thread Cert.KvProjDxIdeal.nD Cert.KvProjDxIdeal.τ).loc Cert.KvProjDxIdeal.main_arg1))
      ∧ r.2.sem = fun _ => 0)

def quiescent_KvProjDxRefIdeal [hKvProjDxRefIdeal : Cert.KvProjDxRefIdeal.Facts] : Prop :=
  ∀ (m : (ℓ : Loc Cert.KvProjDxRefIdeal.nD Cert.KvProjDxRefIdeal.τ Cert.KvProjDxRefIdeal.sig) → Buf (Elt Ideal) ℓ) (g : Dev Cert.KvProjDxRefIdeal.nD → PrngReg), Pre_KvProjDxRefIdeal m →
    θ_run (Cert.KvProjDxRefIdeal.defs (F := Ideal)) (onTc (τ := Cert.KvProjDxRefIdeal.τ) (Cert.KvProjDxRefIdeal.main (F := Ideal))) ⟨m, fun _ => 0, g⟩ (fun r => (∀ c : Dev Cert.KvProjDxRefIdeal.nD,
      r.2.mem ((c.tc : Thread Cert.KvProjDxRefIdeal.nD Cert.KvProjDxRefIdeal.τ).loc Cert.KvProjDxRefIdeal.main_arg0) = m ((c.tc : Thread Cert.KvProjDxRefIdeal.nD Cert.KvProjDxRefIdeal.τ).loc Cert.KvProjDxRefIdeal.main_arg0)
      ∧ r.2.mem ((c.tc : Thread Cert.KvProjDxRefIdeal.nD Cert.KvProjDxRefIdeal.τ).loc Cert.KvProjDxRefIdeal.main_arg1) = m ((c.tc : Thread Cert.KvProjDxRefIdeal.nD Cert.KvProjDxRefIdeal.τ).loc Cert.KvProjDxRefIdeal.main_arg1))
      ∧ r.2.sem = fun _ => 0)

def quiescent_KvProjDw [hKvProjDw : Cert.KvProjDw.Facts] : Prop :=
  ∀ (m : (ℓ : Loc Cert.KvProjDw.nD Cert.KvProjDw.τ Cert.KvProjDw.sig) → Buf (Elt Bits) ℓ) (g : Dev Cert.KvProjDw.nD → PrngReg), Pre_KvProjDw m →
    θ_run (Cert.KvProjDw.defs (F := Bits)) (onTc (τ := Cert.KvProjDw.τ) (Cert.KvProjDw.main (F := Bits))) ⟨m, fun _ => 0, g⟩ (fun r => (∀ c : Dev Cert.KvProjDw.nD,
      r.2.mem ((c.tc : Thread Cert.KvProjDw.nD Cert.KvProjDw.τ).loc Cert.KvProjDw.main_arg0) = m ((c.tc : Thread Cert.KvProjDw.nD Cert.KvProjDw.τ).loc Cert.KvProjDw.main_arg0)
      ∧ r.2.mem ((c.tc : Thread Cert.KvProjDw.nD Cert.KvProjDw.τ).loc Cert.KvProjDw.main_arg1) = m ((c.tc : Thread Cert.KvProjDw.nD Cert.KvProjDw.τ).loc Cert.KvProjDw.main_arg1))
      ∧ r.2.sem = fun _ => 0)

def quiescent_KvProjDwIdeal [hKvProjDwIdeal : Cert.KvProjDwIdeal.Facts] : Prop :=
  ∀ (m : (ℓ : Loc Cert.KvProjDwIdeal.nD Cert.KvProjDwIdeal.τ Cert.KvProjDwIdeal.sig) → Buf (Elt Ideal) ℓ) (g : Dev Cert.KvProjDwIdeal.nD → PrngReg), Pre_KvProjDwIdeal m →
    θ_run (Cert.KvProjDwIdeal.defs (F := Ideal)) (onTc (τ := Cert.KvProjDwIdeal.τ) (Cert.KvProjDwIdeal.main (F := Ideal))) ⟨m, fun _ => 0, g⟩ (fun r => (∀ c : Dev Cert.KvProjDwIdeal.nD,
      r.2.mem ((c.tc : Thread Cert.KvProjDwIdeal.nD Cert.KvProjDwIdeal.τ).loc Cert.KvProjDwIdeal.main_arg0) = m ((c.tc : Thread Cert.KvProjDwIdeal.nD Cert.KvProjDwIdeal.τ).loc Cert.KvProjDwIdeal.main_arg0)
      ∧ r.2.mem ((c.tc : Thread Cert.KvProjDwIdeal.nD Cert.KvProjDwIdeal.τ).loc Cert.KvProjDwIdeal.main_arg1) = m ((c.tc : Thread Cert.KvProjDwIdeal.nD Cert.KvProjDwIdeal.τ).loc Cert.KvProjDwIdeal.main_arg1))
      ∧ r.2.sem = fun _ => 0)

def quiescent_KvProjDwRefIdeal [hKvProjDwRefIdeal : Cert.KvProjDwRefIdeal.Facts] : Prop :=
  ∀ (m : (ℓ : Loc Cert.KvProjDwRefIdeal.nD Cert.KvProjDwRefIdeal.τ Cert.KvProjDwRefIdeal.sig) → Buf (Elt Ideal) ℓ) (g : Dev Cert.KvProjDwRefIdeal.nD → PrngReg), Pre_KvProjDwRefIdeal m →
    θ_run (Cert.KvProjDwRefIdeal.defs (F := Ideal)) (onTc (τ := Cert.KvProjDwRefIdeal.τ) (Cert.KvProjDwRefIdeal.main (F := Ideal))) ⟨m, fun _ => 0, g⟩ (fun r => (∀ c : Dev Cert.KvProjDwRefIdeal.nD,
      r.2.mem ((c.tc : Thread Cert.KvProjDwRefIdeal.nD Cert.KvProjDwRefIdeal.τ).loc Cert.KvProjDwRefIdeal.main_arg0) = m ((c.tc : Thread Cert.KvProjDwRefIdeal.nD Cert.KvProjDwRefIdeal.τ).loc Cert.KvProjDwRefIdeal.main_arg0)
      ∧ r.2.mem ((c.tc : Thread Cert.KvProjDwRefIdeal.nD Cert.KvProjDwRefIdeal.τ).loc Cert.KvProjDwRefIdeal.main_arg1) = m ((c.tc : Thread Cert.KvProjDwRefIdeal.nD Cert.KvProjDwRefIdeal.τ).loc Cert.KvProjDwRefIdeal.main_arg1))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1))
      ∧ r.2.sem = fun _ => 0)

def quiescent_QProjDx [hQProjDx : Cert.QProjDx.Facts] : Prop :=
  ∀ (m : (ℓ : Loc Cert.QProjDx.nD Cert.QProjDx.τ Cert.QProjDx.sig) → Buf (Elt Bits) ℓ) (g : Dev Cert.QProjDx.nD → PrngReg), Pre_QProjDx m →
    θ_run (Cert.QProjDx.defs (F := Bits)) (onTc (τ := Cert.QProjDx.τ) (Cert.QProjDx.main (F := Bits))) ⟨m, fun _ => 0, g⟩ (fun r => (∀ c : Dev Cert.QProjDx.nD,
      r.2.mem ((c.tc : Thread Cert.QProjDx.nD Cert.QProjDx.τ).loc Cert.QProjDx.main_arg0) = m ((c.tc : Thread Cert.QProjDx.nD Cert.QProjDx.τ).loc Cert.QProjDx.main_arg0)
      ∧ r.2.mem ((c.tc : Thread Cert.QProjDx.nD Cert.QProjDx.τ).loc Cert.QProjDx.main_arg1) = m ((c.tc : Thread Cert.QProjDx.nD Cert.QProjDx.τ).loc Cert.QProjDx.main_arg1))
      ∧ r.2.sem = fun _ => 0)

def quiescent_QProjDxIdeal [hQProjDxIdeal : Cert.QProjDxIdeal.Facts] : Prop :=
  ∀ (m : (ℓ : Loc Cert.QProjDxIdeal.nD Cert.QProjDxIdeal.τ Cert.QProjDxIdeal.sig) → Buf (Elt Ideal) ℓ) (g : Dev Cert.QProjDxIdeal.nD → PrngReg), Pre_QProjDxIdeal m →
    θ_run (Cert.QProjDxIdeal.defs (F := Ideal)) (onTc (τ := Cert.QProjDxIdeal.τ) (Cert.QProjDxIdeal.main (F := Ideal))) ⟨m, fun _ => 0, g⟩ (fun r => (∀ c : Dev Cert.QProjDxIdeal.nD,
      r.2.mem ((c.tc : Thread Cert.QProjDxIdeal.nD Cert.QProjDxIdeal.τ).loc Cert.QProjDxIdeal.main_arg0) = m ((c.tc : Thread Cert.QProjDxIdeal.nD Cert.QProjDxIdeal.τ).loc Cert.QProjDxIdeal.main_arg0)
      ∧ r.2.mem ((c.tc : Thread Cert.QProjDxIdeal.nD Cert.QProjDxIdeal.τ).loc Cert.QProjDxIdeal.main_arg1) = m ((c.tc : Thread Cert.QProjDxIdeal.nD Cert.QProjDxIdeal.τ).loc Cert.QProjDxIdeal.main_arg1))
      ∧ r.2.sem = fun _ => 0)

def quiescent_QProjDxRefIdeal [hQProjDxRefIdeal : Cert.QProjDxRefIdeal.Facts] : Prop :=
  ∀ (m : (ℓ : Loc Cert.QProjDxRefIdeal.nD Cert.QProjDxRefIdeal.τ Cert.QProjDxRefIdeal.sig) → Buf (Elt Ideal) ℓ) (g : Dev Cert.QProjDxRefIdeal.nD → PrngReg), Pre_QProjDxRefIdeal m →
    θ_run (Cert.QProjDxRefIdeal.defs (F := Ideal)) (onTc (τ := Cert.QProjDxRefIdeal.τ) (Cert.QProjDxRefIdeal.main (F := Ideal))) ⟨m, fun _ => 0, g⟩ (fun r => (∀ c : Dev Cert.QProjDxRefIdeal.nD,
      r.2.mem ((c.tc : Thread Cert.QProjDxRefIdeal.nD Cert.QProjDxRefIdeal.τ).loc Cert.QProjDxRefIdeal.main_arg0) = m ((c.tc : Thread Cert.QProjDxRefIdeal.nD Cert.QProjDxRefIdeal.τ).loc Cert.QProjDxRefIdeal.main_arg0)
      ∧ r.2.mem ((c.tc : Thread Cert.QProjDxRefIdeal.nD Cert.QProjDxRefIdeal.τ).loc Cert.QProjDxRefIdeal.main_arg1) = m ((c.tc : Thread Cert.QProjDxRefIdeal.nD Cert.QProjDxRefIdeal.τ).loc Cert.QProjDxRefIdeal.main_arg1))
      ∧ r.2.sem = fun _ => 0)

def quiescent_QProjDw [hQProjDw : Cert.QProjDw.Facts] : Prop :=
  ∀ (m : (ℓ : Loc Cert.QProjDw.nD Cert.QProjDw.τ Cert.QProjDw.sig) → Buf (Elt Bits) ℓ) (g : Dev Cert.QProjDw.nD → PrngReg), Pre_QProjDw m →
    θ_run (Cert.QProjDw.defs (F := Bits)) (onTc (τ := Cert.QProjDw.τ) (Cert.QProjDw.main (F := Bits))) ⟨m, fun _ => 0, g⟩ (fun r => (∀ c : Dev Cert.QProjDw.nD,
      r.2.mem ((c.tc : Thread Cert.QProjDw.nD Cert.QProjDw.τ).loc Cert.QProjDw.main_arg0) = m ((c.tc : Thread Cert.QProjDw.nD Cert.QProjDw.τ).loc Cert.QProjDw.main_arg0)
      ∧ r.2.mem ((c.tc : Thread Cert.QProjDw.nD Cert.QProjDw.τ).loc Cert.QProjDw.main_arg1) = m ((c.tc : Thread Cert.QProjDw.nD Cert.QProjDw.τ).loc Cert.QProjDw.main_arg1))
      ∧ r.2.sem = fun _ => 0)

def quiescent_QProjDwIdeal [hQProjDwIdeal : Cert.QProjDwIdeal.Facts] : Prop :=
  ∀ (m : (ℓ : Loc Cert.QProjDwIdeal.nD Cert.QProjDwIdeal.τ Cert.QProjDwIdeal.sig) → Buf (Elt Ideal) ℓ) (g : Dev Cert.QProjDwIdeal.nD → PrngReg), Pre_QProjDwIdeal m →
    θ_run (Cert.QProjDwIdeal.defs (F := Ideal)) (onTc (τ := Cert.QProjDwIdeal.τ) (Cert.QProjDwIdeal.main (F := Ideal))) ⟨m, fun _ => 0, g⟩ (fun r => (∀ c : Dev Cert.QProjDwIdeal.nD,
      r.2.mem ((c.tc : Thread Cert.QProjDwIdeal.nD Cert.QProjDwIdeal.τ).loc Cert.QProjDwIdeal.main_arg0) = m ((c.tc : Thread Cert.QProjDwIdeal.nD Cert.QProjDwIdeal.τ).loc Cert.QProjDwIdeal.main_arg0)
      ∧ r.2.mem ((c.tc : Thread Cert.QProjDwIdeal.nD Cert.QProjDwIdeal.τ).loc Cert.QProjDwIdeal.main_arg1) = m ((c.tc : Thread Cert.QProjDwIdeal.nD Cert.QProjDwIdeal.τ).loc Cert.QProjDwIdeal.main_arg1))
      ∧ r.2.sem = fun _ => 0)

def quiescent_QProjDwRefIdeal [hQProjDwRefIdeal : Cert.QProjDwRefIdeal.Facts] : Prop :=
  ∀ (m : (ℓ : Loc Cert.QProjDwRefIdeal.nD Cert.QProjDwRefIdeal.τ Cert.QProjDwRefIdeal.sig) → Buf (Elt Ideal) ℓ) (g : Dev Cert.QProjDwRefIdeal.nD → PrngReg), Pre_QProjDwRefIdeal m →
    θ_run (Cert.QProjDwRefIdeal.defs (F := Ideal)) (onTc (τ := Cert.QProjDwRefIdeal.τ) (Cert.QProjDwRefIdeal.main (F := Ideal))) ⟨m, fun _ => 0, g⟩ (fun r => (∀ c : Dev Cert.QProjDwRefIdeal.nD,
      r.2.mem ((c.tc : Thread Cert.QProjDwRefIdeal.nD Cert.QProjDwRefIdeal.τ).loc Cert.QProjDwRefIdeal.main_arg0) = m ((c.tc : Thread Cert.QProjDwRefIdeal.nD Cert.QProjDwRefIdeal.τ).loc Cert.QProjDwRefIdeal.main_arg0)
      ∧ r.2.mem ((c.tc : Thread Cert.QProjDwRefIdeal.nD Cert.QProjDwRefIdeal.τ).loc Cert.QProjDwRefIdeal.main_arg1) = m ((c.tc : Thread Cert.QProjDwRefIdeal.nD Cert.QProjDwRefIdeal.τ).loc Cert.QProjDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormPair [hNormPair : Cert.NormPair.Facts] : Prop :=
  ∀ (m : (ℓ : Loc Cert.NormPair.nD Cert.NormPair.τ Cert.NormPair.sig) → Buf (Elt Bits) ℓ) (g : Dev Cert.NormPair.nD → PrngReg), Pre_NormPair m →
    θ_run (Cert.NormPair.defs (F := Bits)) (onTc (τ := Cert.NormPair.τ) (Cert.NormPair.main (F := Bits))) ⟨m, fun _ => 0, g⟩ (fun r => (∀ c : Dev Cert.NormPair.nD,
      r.2.mem ((c.tc : Thread Cert.NormPair.nD Cert.NormPair.τ).loc Cert.NormPair.main_arg0) = m ((c.tc : Thread Cert.NormPair.nD Cert.NormPair.τ).loc Cert.NormPair.main_arg0)
      ∧ r.2.mem ((c.tc : Thread Cert.NormPair.nD Cert.NormPair.τ).loc Cert.NormPair.main_arg1) = m ((c.tc : Thread Cert.NormPair.nD Cert.NormPair.τ).loc Cert.NormPair.main_arg1)
      ∧ r.2.mem ((c.tc : Thread Cert.NormPair.nD Cert.NormPair.τ).loc Cert.NormPair.main_arg2) = m ((c.tc : Thread Cert.NormPair.nD Cert.NormPair.τ).loc Cert.NormPair.main_arg2))
      ∧ r.2.sem = fun _ => 0)

def quiescent_NormPairIdeal [hNormPairIdeal : Cert.NormPairIdeal.Facts] : Prop :=
  ∀ (m : (ℓ : Loc Cert.NormPairIdeal.nD Cert.NormPairIdeal.τ Cert.NormPairIdeal.sig) → Buf (Elt Ideal) ℓ) (g : Dev Cert.NormPairIdeal.nD → PrngReg), Pre_NormPairIdeal m →
    θ_run (Cert.NormPairIdeal.defs (F := Ideal)) (onTc (τ := Cert.NormPairIdeal.τ) (Cert.NormPairIdeal.main (F := Ideal))) ⟨m, fun _ => 0, g⟩ (fun r => (∀ c : Dev Cert.NormPairIdeal.nD,
      r.2.mem ((c.tc : Thread Cert.NormPairIdeal.nD Cert.NormPairIdeal.τ).loc Cert.NormPairIdeal.main_arg0) = m ((c.tc : Thread Cert.NormPairIdeal.nD Cert.NormPairIdeal.τ).loc Cert.NormPairIdeal.main_arg0)
      ∧ r.2.mem ((c.tc : Thread Cert.NormPairIdeal.nD Cert.NormPairIdeal.τ).loc Cert.NormPairIdeal.main_arg1) = m ((c.tc : Thread Cert.NormPairIdeal.nD Cert.NormPairIdeal.τ).loc Cert.NormPairIdeal.main_arg1)
      ∧ r.2.mem ((c.tc : Thread Cert.NormPairIdeal.nD Cert.NormPairIdeal.τ).loc Cert.NormPairIdeal.main_arg2) = m ((c.tc : Thread Cert.NormPairIdeal.nD Cert.NormPairIdeal.τ).loc Cert.NormPairIdeal.main_arg2))
      ∧ r.2.sem = fun _ => 0)

def quiescent_NormPairRefIdeal [hNormPairRefIdeal : Cert.NormPairRefIdeal.Facts] : Prop :=
  ∀ (m : (ℓ : Loc Cert.NormPairRefIdeal.nD Cert.NormPairRefIdeal.τ Cert.NormPairRefIdeal.sig) → Buf (Elt Ideal) ℓ) (g : Dev Cert.NormPairRefIdeal.nD → PrngReg), Pre_NormPairRefIdeal m →
    θ_run (Cert.NormPairRefIdeal.defs (F := Ideal)) (onTc (τ := Cert.NormPairRefIdeal.τ) (Cert.NormPairRefIdeal.main (F := Ideal))) ⟨m, fun _ => 0, g⟩ (fun r => (∀ c : Dev Cert.NormPairRefIdeal.nD,
      r.2.mem ((c.tc : Thread Cert.NormPairRefIdeal.nD Cert.NormPairRefIdeal.τ).loc Cert.NormPairRefIdeal.main_arg0) = m ((c.tc : Thread Cert.NormPairRefIdeal.nD Cert.NormPairRefIdeal.τ).loc Cert.NormPairRefIdeal.main_arg0)
      ∧ r.2.mem ((c.tc : Thread Cert.NormPairRefIdeal.nD Cert.NormPairRefIdeal.τ).loc Cert.NormPairRefIdeal.main_arg1) = m ((c.tc : Thread Cert.NormPairRefIdeal.nD Cert.NormPairRefIdeal.τ).loc Cert.NormPairRefIdeal.main_arg1)
      ∧ r.2.mem ((c.tc : Thread Cert.NormPairRefIdeal.nD Cert.NormPairRefIdeal.τ).loc Cert.NormPairRefIdeal.main_arg2) = m ((c.tc : Thread Cert.NormPairRefIdeal.nD Cert.NormPairRefIdeal.τ).loc Cert.NormPairRefIdeal.main_arg2))
      ∧ r.2.sem = fun _ => 0)

def quiescent_NormDx [hNormDx : Cert.NormDx.Facts] : Prop :=
  ∀ (m : (ℓ : Loc Cert.NormDx.nD Cert.NormDx.τ Cert.NormDx.sig) → Buf (Elt Bits) ℓ) (g : Dev Cert.NormDx.nD → PrngReg), Pre_NormDx m →
    θ_run (Cert.NormDx.defs (F := Bits)) (onTc (τ := Cert.NormDx.τ) (Cert.NormDx.main (F := Bits))) ⟨m, fun _ => 0, g⟩ (fun r => (∀ c : Dev Cert.NormDx.nD,
      r.2.mem ((c.tc : Thread Cert.NormDx.nD Cert.NormDx.τ).loc Cert.NormDx.main_arg0) = m ((c.tc : Thread Cert.NormDx.nD Cert.NormDx.τ).loc Cert.NormDx.main_arg0)
      ∧ r.2.mem ((c.tc : Thread Cert.NormDx.nD Cert.NormDx.τ).loc Cert.NormDx.main_arg1) = m ((c.tc : Thread Cert.NormDx.nD Cert.NormDx.τ).loc Cert.NormDx.main_arg1)
      ∧ r.2.mem ((c.tc : Thread Cert.NormDx.nD Cert.NormDx.τ).loc Cert.NormDx.main_arg2) = m ((c.tc : Thread Cert.NormDx.nD Cert.NormDx.τ).loc Cert.NormDx.main_arg2)
      ∧ r.2.mem ((c.tc : Thread Cert.NormDx.nD Cert.NormDx.τ).loc Cert.NormDx.main_arg3) = m ((c.tc : Thread Cert.NormDx.nD Cert.NormDx.τ).loc Cert.NormDx.main_arg3))
      ∧ r.2.sem = fun _ => 0)

def quiescent_NormDxIdeal [hNormDxIdeal : Cert.NormDxIdeal.Facts] : Prop :=
  ∀ (m : (ℓ : Loc Cert.NormDxIdeal.nD Cert.NormDxIdeal.τ Cert.NormDxIdeal.sig) → Buf (Elt Ideal) ℓ) (g : Dev Cert.NormDxIdeal.nD → PrngReg), Pre_NormDxIdeal m →
    θ_run (Cert.NormDxIdeal.defs (F := Ideal)) (onTc (τ := Cert.NormDxIdeal.τ) (Cert.NormDxIdeal.main (F := Ideal))) ⟨m, fun _ => 0, g⟩ (fun r => (∀ c : Dev Cert.NormDxIdeal.nD,
      r.2.mem ((c.tc : Thread Cert.NormDxIdeal.nD Cert.NormDxIdeal.τ).loc Cert.NormDxIdeal.main_arg0) = m ((c.tc : Thread Cert.NormDxIdeal.nD Cert.NormDxIdeal.τ).loc Cert.NormDxIdeal.main_arg0)
      ∧ r.2.mem ((c.tc : Thread Cert.NormDxIdeal.nD Cert.NormDxIdeal.τ).loc Cert.NormDxIdeal.main_arg1) = m ((c.tc : Thread Cert.NormDxIdeal.nD Cert.NormDxIdeal.τ).loc Cert.NormDxIdeal.main_arg1)
      ∧ r.2.mem ((c.tc : Thread Cert.NormDxIdeal.nD Cert.NormDxIdeal.τ).loc Cert.NormDxIdeal.main_arg2) = m ((c.tc : Thread Cert.NormDxIdeal.nD Cert.NormDxIdeal.τ).loc Cert.NormDxIdeal.main_arg2)
      ∧ r.2.mem ((c.tc : Thread Cert.NormDxIdeal.nD Cert.NormDxIdeal.τ).loc Cert.NormDxIdeal.main_arg3) = m ((c.tc : Thread Cert.NormDxIdeal.nD Cert.NormDxIdeal.τ).loc Cert.NormDxIdeal.main_arg3))
      ∧ r.2.sem = fun _ => 0)

def quiescent_NormDxRefIdeal [hNormDxRefIdeal : Cert.NormDxRefIdeal.Facts] : Prop :=
  ∀ (m : (ℓ : Loc Cert.NormDxRefIdeal.nD Cert.NormDxRefIdeal.τ Cert.NormDxRefIdeal.sig) → Buf (Elt Ideal) ℓ) (g : Dev Cert.NormDxRefIdeal.nD → PrngReg), Pre_NormDxRefIdeal m →
    θ_run (Cert.NormDxRefIdeal.defs (F := Ideal)) (onTc (τ := Cert.NormDxRefIdeal.τ) (Cert.NormDxRefIdeal.main (F := Ideal))) ⟨m, fun _ => 0, g⟩ (fun r => (∀ c : Dev Cert.NormDxRefIdeal.nD,
      r.2.mem ((c.tc : Thread Cert.NormDxRefIdeal.nD Cert.NormDxRefIdeal.τ).loc Cert.NormDxRefIdeal.main_arg0) = m ((c.tc : Thread Cert.NormDxRefIdeal.nD Cert.NormDxRefIdeal.τ).loc Cert.NormDxRefIdeal.main_arg0)
      ∧ r.2.mem ((c.tc : Thread Cert.NormDxRefIdeal.nD Cert.NormDxRefIdeal.τ).loc Cert.NormDxRefIdeal.main_arg1) = m ((c.tc : Thread Cert.NormDxRefIdeal.nD Cert.NormDxRefIdeal.τ).loc Cert.NormDxRefIdeal.main_arg1)
      ∧ r.2.mem ((c.tc : Thread Cert.NormDxRefIdeal.nD Cert.NormDxRefIdeal.τ).loc Cert.NormDxRefIdeal.main_arg2) = m ((c.tc : Thread Cert.NormDxRefIdeal.nD Cert.NormDxRefIdeal.τ).loc Cert.NormDxRefIdeal.main_arg2)
      ∧ r.2.mem ((c.tc : Thread Cert.NormDxRefIdeal.nD Cert.NormDxRefIdeal.τ).loc Cert.NormDxRefIdeal.main_arg3) = m ((c.tc : Thread Cert.NormDxRefIdeal.nD Cert.NormDxRefIdeal.τ).loc Cert.NormDxRefIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_ConvDx [hConvDx : Cert.ConvDx.Facts] : Prop :=
  ∀ (m : (ℓ : Loc Cert.ConvDx.nD Cert.ConvDx.τ Cert.ConvDx.sig) → Buf (Elt Bits) ℓ) (g : Dev Cert.ConvDx.nD → PrngReg), Pre_ConvDx m →
    θ_run (Cert.ConvDx.defs (F := Bits)) (onTc (τ := Cert.ConvDx.τ) (Cert.ConvDx.main (F := Bits))) ⟨m, fun _ => 0, g⟩ (fun r => (∀ c : Dev Cert.ConvDx.nD,
      r.2.mem ((c.tc : Thread Cert.ConvDx.nD Cert.ConvDx.τ).loc Cert.ConvDx.main_arg0) = m ((c.tc : Thread Cert.ConvDx.nD Cert.ConvDx.τ).loc Cert.ConvDx.main_arg0)
      ∧ r.2.mem ((c.tc : Thread Cert.ConvDx.nD Cert.ConvDx.τ).loc Cert.ConvDx.main_arg1) = m ((c.tc : Thread Cert.ConvDx.nD Cert.ConvDx.τ).loc Cert.ConvDx.main_arg1)
      ∧ r.2.mem ((c.tc : Thread Cert.ConvDx.nD Cert.ConvDx.τ).loc Cert.ConvDx.main_arg2) = m ((c.tc : Thread Cert.ConvDx.nD Cert.ConvDx.τ).loc Cert.ConvDx.main_arg2))
      ∧ r.2.sem = fun _ => 0)

def quiescent_ConvDxIdeal [hConvDxIdeal : Cert.ConvDxIdeal.Facts] : Prop :=
  ∀ (m : (ℓ : Loc Cert.ConvDxIdeal.nD Cert.ConvDxIdeal.τ Cert.ConvDxIdeal.sig) → Buf (Elt Ideal) ℓ) (g : Dev Cert.ConvDxIdeal.nD → PrngReg), Pre_ConvDxIdeal m →
    θ_run (Cert.ConvDxIdeal.defs (F := Ideal)) (onTc (τ := Cert.ConvDxIdeal.τ) (Cert.ConvDxIdeal.main (F := Ideal))) ⟨m, fun _ => 0, g⟩ (fun r => (∀ c : Dev Cert.ConvDxIdeal.nD,
      r.2.mem ((c.tc : Thread Cert.ConvDxIdeal.nD Cert.ConvDxIdeal.τ).loc Cert.ConvDxIdeal.main_arg0) = m ((c.tc : Thread Cert.ConvDxIdeal.nD Cert.ConvDxIdeal.τ).loc Cert.ConvDxIdeal.main_arg0)
      ∧ r.2.mem ((c.tc : Thread Cert.ConvDxIdeal.nD Cert.ConvDxIdeal.τ).loc Cert.ConvDxIdeal.main_arg1) = m ((c.tc : Thread Cert.ConvDxIdeal.nD Cert.ConvDxIdeal.τ).loc Cert.ConvDxIdeal.main_arg1)
      ∧ r.2.mem ((c.tc : Thread Cert.ConvDxIdeal.nD Cert.ConvDxIdeal.τ).loc Cert.ConvDxIdeal.main_arg2) = m ((c.tc : Thread Cert.ConvDxIdeal.nD Cert.ConvDxIdeal.τ).loc Cert.ConvDxIdeal.main_arg2))
      ∧ r.2.sem = fun _ => 0)

def quiescent_ConvDxRefIdeal [hConvDxRefIdeal : Cert.ConvDxRefIdeal.Facts] : Prop :=
  ∀ (m : (ℓ : Loc Cert.ConvDxRefIdeal.nD Cert.ConvDxRefIdeal.τ Cert.ConvDxRefIdeal.sig) → Buf (Elt Ideal) ℓ) (g : Dev Cert.ConvDxRefIdeal.nD → PrngReg), Pre_ConvDxRefIdeal m →
    θ_run (Cert.ConvDxRefIdeal.defs (F := Ideal)) (onTc (τ := Cert.ConvDxRefIdeal.τ) (Cert.ConvDxRefIdeal.main (F := Ideal))) ⟨m, fun _ => 0, g⟩ (fun r => (∀ c : Dev Cert.ConvDxRefIdeal.nD,
      r.2.mem ((c.tc : Thread Cert.ConvDxRefIdeal.nD Cert.ConvDxRefIdeal.τ).loc Cert.ConvDxRefIdeal.main_arg0) = m ((c.tc : Thread Cert.ConvDxRefIdeal.nD Cert.ConvDxRefIdeal.τ).loc Cert.ConvDxRefIdeal.main_arg0)
      ∧ r.2.mem ((c.tc : Thread Cert.ConvDxRefIdeal.nD Cert.ConvDxRefIdeal.τ).loc Cert.ConvDxRefIdeal.main_arg1) = m ((c.tc : Thread Cert.ConvDxRefIdeal.nD Cert.ConvDxRefIdeal.τ).loc Cert.ConvDxRefIdeal.main_arg1)
      ∧ r.2.mem ((c.tc : Thread Cert.ConvDxRefIdeal.nD Cert.ConvDxRefIdeal.τ).loc Cert.ConvDxRefIdeal.main_arg2) = m ((c.tc : Thread Cert.ConvDxRefIdeal.nD Cert.ConvDxRefIdeal.τ).loc Cert.ConvDxRefIdeal.main_arg2))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamQ [hAdamQ : Cert.AdamQ.Facts] : Prop :=
  ∀ (m : (ℓ : Loc Cert.AdamQ.nD Cert.AdamQ.τ Cert.AdamQ.sig) → Buf (Elt Bits) ℓ) (g : Dev Cert.AdamQ.nD → PrngReg), Pre_AdamQ m →
    θ_run (Cert.AdamQ.defs (F := Bits)) (onTc (τ := Cert.AdamQ.τ) (Cert.AdamQ.main (F := Bits))) ⟨m, fun _ => 0, g⟩ (fun r => (∀ c : Dev Cert.AdamQ.nD,
      r.2.mem ((c.tc : Thread Cert.AdamQ.nD Cert.AdamQ.τ).loc Cert.AdamQ.main_arg0) = m ((c.tc : Thread Cert.AdamQ.nD Cert.AdamQ.τ).loc Cert.AdamQ.main_arg0)
      ∧ r.2.mem ((c.tc : Thread Cert.AdamQ.nD Cert.AdamQ.τ).loc Cert.AdamQ.main_arg1) = m ((c.tc : Thread Cert.AdamQ.nD Cert.AdamQ.τ).loc Cert.AdamQ.main_arg1)
      ∧ r.2.mem ((c.tc : Thread Cert.AdamQ.nD Cert.AdamQ.τ).loc Cert.AdamQ.main_arg2) = m ((c.tc : Thread Cert.AdamQ.nD Cert.AdamQ.τ).loc Cert.AdamQ.main_arg2)
      ∧ r.2.mem ((c.tc : Thread Cert.AdamQ.nD Cert.AdamQ.τ).loc Cert.AdamQ.main_arg3) = m ((c.tc : Thread Cert.AdamQ.nD Cert.AdamQ.τ).loc Cert.AdamQ.main_arg3))
      ∧ r.2.sem = fun _ => 0)

def quiescent_AdamQIdeal [hAdamQIdeal : Cert.AdamQIdeal.Facts] : Prop :=
  ∀ (m : (ℓ : Loc Cert.AdamQIdeal.nD Cert.AdamQIdeal.τ Cert.AdamQIdeal.sig) → Buf (Elt Ideal) ℓ) (g : Dev Cert.AdamQIdeal.nD → PrngReg), Pre_AdamQIdeal m →
    θ_run (Cert.AdamQIdeal.defs (F := Ideal)) (onTc (τ := Cert.AdamQIdeal.τ) (Cert.AdamQIdeal.main (F := Ideal))) ⟨m, fun _ => 0, g⟩ (fun r => (∀ c : Dev Cert.AdamQIdeal.nD,
      r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
      ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
      ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
      ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ r.2.sem = fun _ => 0)

def quiescent_AdamQRefIdeal [hAdamQRefIdeal : Cert.AdamQRefIdeal.Facts] : Prop :=
  ∀ (m : (ℓ : Loc Cert.AdamQRefIdeal.nD Cert.AdamQRefIdeal.τ Cert.AdamQRefIdeal.sig) → Buf (Elt Ideal) ℓ) (g : Dev Cert.AdamQRefIdeal.nD → PrngReg), Pre_AdamQRefIdeal m →
    θ_run (Cert.AdamQRefIdeal.defs (F := Ideal)) (onTc (τ := Cert.AdamQRefIdeal.τ) (Cert.AdamQRefIdeal.main (F := Ideal))) ⟨m, fun _ => 0, g⟩ (fun r => (∀ c : Dev Cert.AdamQRefIdeal.nD,
      r.2.mem ((c.tc : Thread Cert.AdamQRefIdeal.nD Cert.AdamQRefIdeal.τ).loc Cert.AdamQRefIdeal.main_arg0) = m ((c.tc : Thread Cert.AdamQRefIdeal.nD Cert.AdamQRefIdeal.τ).loc Cert.AdamQRefIdeal.main_arg0)
      ∧ r.2.mem ((c.tc : Thread Cert.AdamQRefIdeal.nD Cert.AdamQRefIdeal.τ).loc Cert.AdamQRefIdeal.main_arg1) = m ((c.tc : Thread Cert.AdamQRefIdeal.nD Cert.AdamQRefIdeal.τ).loc Cert.AdamQRefIdeal.main_arg1)
      ∧ r.2.mem ((c.tc : Thread Cert.AdamQRefIdeal.nD Cert.AdamQRefIdeal.τ).loc Cert.AdamQRefIdeal.main_arg2) = m ((c.tc : Thread Cert.AdamQRefIdeal.nD Cert.AdamQRefIdeal.τ).loc Cert.AdamQRefIdeal.main_arg2)
      ∧ r.2.mem ((c.tc : Thread Cert.AdamQRefIdeal.nD Cert.AdamQRefIdeal.τ).loc Cert.AdamQRefIdeal.main_arg3) = m ((c.tc : Thread Cert.AdamQRefIdeal.nD Cert.AdamQRefIdeal.τ).loc Cert.AdamQRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_GlaProj_GlaProjIdeal : Prop :=
  True

def algebraic_GlaProjIdeal_GlaProjRefIdeal [hGlaProjIdeal : Cert.GlaProjIdeal.Facts] [hGlaProjRefIdeal : Cert.GlaProjRefIdeal.Facts] : Prop :=
  ∀ (m : (ℓ : Loc Cert.GlaProjIdeal.nD Cert.GlaProjIdeal.τ Cert.GlaProjIdeal.sig) → Buf (Elt Ideal) ℓ) (g : Dev Cert.GlaProjIdeal.nD → PrngReg)
    (m' : (ℓ : Loc Cert.GlaProjRefIdeal.nD Cert.GlaProjRefIdeal.τ Cert.GlaProjRefIdeal.sig) → Buf (Elt Ideal) ℓ) (g' : Dev Cert.GlaProjRefIdeal.nD → PrngReg), Pre_GlaProjIdeal m →
    (∀ c : Dev Cert.GlaProjIdeal.nD,
      m' ((c.tc : Thread Cert.GlaProjRefIdeal.nD Cert.GlaProjRefIdeal.τ).loc Cert.GlaProjRefIdeal.main_arg0) = m ((c.tc : Thread Cert.GlaProjIdeal.nD Cert.GlaProjIdeal.τ).loc Cert.GlaProjIdeal.main_arg0)
      ∧ m' ((c.tc : Thread Cert.GlaProjRefIdeal.nD Cert.GlaProjRefIdeal.τ).loc Cert.GlaProjRefIdeal.main_arg1) = m ((c.tc : Thread Cert.GlaProjIdeal.nD Cert.GlaProjIdeal.τ).loc Cert.GlaProjIdeal.main_arg1)) →
    ∃ (v0 : (c : Dev Cert.GlaProjIdeal.nD) → Buf (Elt Ideal) ((c.tc : Thread Cert.GlaProjIdeal.nD Cert.GlaProjIdeal.τ).loc Cert.GlaProjIdeal.main_v0)),
      θ_run (Cert.GlaProjIdeal.defs (F := Ideal)) (onTc (τ := Cert.GlaProjIdeal.τ) (Cert.GlaProjIdeal.main (F := Ideal))) ⟨m, fun _ => 0, g⟩ (fun r => ∀ c : Dev Cert.GlaProjIdeal.nD,
          r.2.mem ((c.tc : Thread Cert.GlaProjIdeal.nD Cert.GlaProjIdeal.τ).loc Cert.GlaProjIdeal.main_v0) = v0 c
          ∧ r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
          ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1))
      ∧ θ_run (Cert.GlaProjRefIdeal.defs (F := Ideal)) (onTc (τ := Cert.GlaProjRefIdeal.τ) (Cert.GlaProjRefIdeal.main (F := Ideal))) ⟨m', fun _ => 0, g'⟩ (fun r => ∀ c : Dev Cert.GlaProjRefIdeal.nD,
          r.2.mem ((c.tc : Thread Cert.GlaProjRefIdeal.nD Cert.GlaProjRefIdeal.τ).loc Cert.GlaProjRefIdeal.main_v2) = v0 c
          ∧ r.2.mem ((c.tc : Thread Cert.GlaProjRefIdeal.nD Cert.GlaProjRefIdeal.τ).loc Cert.GlaProjRefIdeal.main_arg0) = m' ((c.tc : Thread Cert.GlaProjRefIdeal.nD Cert.GlaProjRefIdeal.τ).loc Cert.GlaProjRefIdeal.main_arg0)
          ∧ r.2.mem ((c.tc : Thread Cert.GlaProjRefIdeal.nD Cert.GlaProjRefIdeal.τ).loc Cert.GlaProjRefIdeal.main_arg1) = m' ((c.tc : Thread Cert.GlaProjRefIdeal.nD Cert.GlaProjRefIdeal.τ).loc Cert.GlaProjRefIdeal.main_arg1))

def preserves_GlaProjDx_GlaProjDxIdeal : Prop :=
  True

def algebraic_GlaProjDxIdeal_GlaProjDxRefIdeal [hGlaProjDxIdeal : Cert.GlaProjDxIdeal.Facts] [hGlaProjDxRefIdeal : Cert.GlaProjDxRefIdeal.Facts] : Prop :=
  ∀ (m : (ℓ : Loc Cert.GlaProjDxIdeal.nD Cert.GlaProjDxIdeal.τ Cert.GlaProjDxIdeal.sig) → Buf (Elt Ideal) ℓ) (g : Dev Cert.GlaProjDxIdeal.nD → PrngReg)
    (m' : (ℓ : Loc Cert.GlaProjDxRefIdeal.nD Cert.GlaProjDxRefIdeal.τ Cert.GlaProjDxRefIdeal.sig) → Buf (Elt Ideal) ℓ) (g' : Dev Cert.GlaProjDxRefIdeal.nD → PrngReg), Pre_GlaProjDxIdeal m →
    (∀ c : Dev Cert.GlaProjDxIdeal.nD,
      m' ((c.tc : Thread Cert.GlaProjDxRefIdeal.nD Cert.GlaProjDxRefIdeal.τ).loc Cert.GlaProjDxRefIdeal.main_arg0) = m ((c.tc : Thread Cert.GlaProjDxIdeal.nD Cert.GlaProjDxIdeal.τ).loc Cert.GlaProjDxIdeal.main_arg0)
      ∧ m' ((c.tc : Thread Cert.GlaProjDxRefIdeal.nD Cert.GlaProjDxRefIdeal.τ).loc Cert.GlaProjDxRefIdeal.main_arg1) = m ((c.tc : Thread Cert.GlaProjDxIdeal.nD Cert.GlaProjDxIdeal.τ).loc Cert.GlaProjDxIdeal.main_arg1)) →
    ∃ (v0 : (c : Dev Cert.GlaProjDxIdeal.nD) → Buf (Elt Ideal) ((c.tc : Thread Cert.GlaProjDxIdeal.nD Cert.GlaProjDxIdeal.τ).loc Cert.GlaProjDxIdeal.main_v0)),
      θ_run (Cert.GlaProjDxIdeal.defs (F := Ideal)) (onTc (τ := Cert.GlaProjDxIdeal.τ) (Cert.GlaProjDxIdeal.main (F := Ideal))) ⟨m, fun _ => 0, g⟩ (fun r => ∀ c : Dev Cert.GlaProjDxIdeal.nD,
          r.2.mem ((c.tc : Thread Cert.GlaProjDxIdeal.nD Cert.GlaProjDxIdeal.τ).loc Cert.GlaProjDxIdeal.main_v0) = v0 c
          ∧ r.2.mem ((c.tc : Thread Cert.GlaProjDxIdeal.nD Cert.GlaProjDxIdeal.τ).loc Cert.GlaProjDxIdeal.main_arg0) = m ((c.tc : Thread Cert.GlaProjDxIdeal.nD Cert.GlaProjDxIdeal.τ).loc Cert.GlaProjDxIdeal.main_arg0)
          ∧ r.2.mem ((c.tc : Thread Cert.GlaProjDxIdeal.nD Cert.GlaProjDxIdeal.τ).loc Cert.GlaProjDxIdeal.main_arg1) = m ((c.tc : Thread Cert.GlaProjDxIdeal.nD Cert.GlaProjDxIdeal.τ).loc Cert.GlaProjDxIdeal.main_arg1))
      ∧ θ_run (Cert.GlaProjDxRefIdeal.defs (F := Ideal)) (onTc (τ := Cert.GlaProjDxRefIdeal.τ) (Cert.GlaProjDxRefIdeal.main (F := Ideal))) ⟨m', fun _ => 0, g'⟩ (fun r => ∀ c : Dev Cert.GlaProjDxRefIdeal.nD,
          r.2.mem ((c.tc : Thread Cert.GlaProjDxRefIdeal.nD Cert.GlaProjDxRefIdeal.τ).loc Cert.GlaProjDxRefIdeal.main_v4) = v0 c
          ∧ r.2.mem ((c.tc : Thread Cert.GlaProjDxRefIdeal.nD Cert.GlaProjDxRefIdeal.τ).loc Cert.GlaProjDxRefIdeal.main_arg0) = m' ((c.tc : Thread Cert.GlaProjDxRefIdeal.nD Cert.GlaProjDxRefIdeal.τ).loc Cert.GlaProjDxRefIdeal.main_arg0)
          ∧ r.2.mem ((c.tc : Thread Cert.GlaProjDxRefIdeal.nD Cert.GlaProjDxRefIdeal.τ).loc Cert.GlaProjDxRefIdeal.main_arg1) = m' ((c.tc : Thread Cert.GlaProjDxRefIdeal.nD Cert.GlaProjDxRefIdeal.τ).loc Cert.GlaProjDxRefIdeal.main_arg1))

def preserves_GlaProjDw_GlaProjDwIdeal : Prop :=
  True

def algebraic_GlaProjDwIdeal_GlaProjDwRefIdeal [hGlaProjDwIdeal : Cert.GlaProjDwIdeal.Facts] [hGlaProjDwRefIdeal : Cert.GlaProjDwRefIdeal.Facts] : Prop :=
  ∀ (m : (ℓ : Loc Cert.GlaProjDwIdeal.nD Cert.GlaProjDwIdeal.τ Cert.GlaProjDwIdeal.sig) → Buf (Elt Ideal) ℓ) (g : Dev Cert.GlaProjDwIdeal.nD → PrngReg)
    (m' : (ℓ : Loc Cert.GlaProjDwRefIdeal.nD Cert.GlaProjDwRefIdeal.τ Cert.GlaProjDwRefIdeal.sig) → Buf (Elt Ideal) ℓ) (g' : Dev Cert.GlaProjDwRefIdeal.nD → PrngReg), Pre_GlaProjDwIdeal m →
    (∀ c : Dev Cert.GlaProjDwIdeal.nD,
      m' ((c.tc : Thread Cert.GlaProjDwRefIdeal.nD Cert.GlaProjDwRefIdeal.τ).loc Cert.GlaProjDwRefIdeal.main_arg0) = m ((c.tc : Thread Cert.GlaProjDwIdeal.nD Cert.GlaProjDwIdeal.τ).loc Cert.GlaProjDwIdeal.main_arg0)
      ∧ m' ((c.tc : Thread Cert.GlaProjDwRefIdeal.nD Cert.GlaProjDwRefIdeal.τ).loc Cert.GlaProjDwRefIdeal.main_arg1) = m ((c.tc : Thread Cert.GlaProjDwIdeal.nD Cert.GlaProjDwIdeal.τ).loc Cert.GlaProjDwIdeal.main_arg1)) →
    ∃ (v0 : (c : Dev Cert.GlaProjDwIdeal.nD) → Buf (Elt Ideal) ((c.tc : Thread Cert.GlaProjDwIdeal.nD Cert.GlaProjDwIdeal.τ).loc Cert.GlaProjDwIdeal.main_v0)),
      θ_run (Cert.GlaProjDwIdeal.defs (F := Ideal)) (onTc (τ := Cert.GlaProjDwIdeal.τ) (Cert.GlaProjDwIdeal.main (F := Ideal))) ⟨m, fun _ => 0, g⟩ (fun r => ∀ c : Dev Cert.GlaProjDwIdeal.nD,
          r.2.mem ((c.tc : Thread Cert.GlaProjDwIdeal.nD Cert.GlaProjDwIdeal.τ).loc Cert.GlaProjDwIdeal.main_v0) = v0 c
          ∧ r.2.mem ((c.tc : Thread Cert.GlaProjDwIdeal.nD Cert.GlaProjDwIdeal.τ).loc Cert.GlaProjDwIdeal.main_arg0) = m ((c.tc : Thread Cert.GlaProjDwIdeal.nD Cert.GlaProjDwIdeal.τ).loc Cert.GlaProjDwIdeal.main_arg0)
          ∧ r.2.mem ((c.tc : Thread Cert.GlaProjDwIdeal.nD Cert.GlaProjDwIdeal.τ).loc Cert.GlaProjDwIdeal.main_arg1) = m ((c.tc : Thread Cert.GlaProjDwIdeal.nD Cert.GlaProjDwIdeal.τ).loc Cert.GlaProjDwIdeal.main_arg1))
      ∧ θ_run (Cert.GlaProjDwRefIdeal.defs (F := Ideal)) (onTc (τ := Cert.GlaProjDwRefIdeal.τ) (Cert.GlaProjDwRefIdeal.main (F := Ideal))) ⟨m', fun _ => 0, g'⟩ (fun r => ∀ c : Dev Cert.GlaProjDwRefIdeal.nD,
          r.2.mem ((c.tc : Thread Cert.GlaProjDwRefIdeal.nD Cert.GlaProjDwRefIdeal.τ).loc Cert.GlaProjDwRefIdeal.main_v6) = v0 c
          ∧ r.2.mem ((c.tc : Thread Cert.GlaProjDwRefIdeal.nD Cert.GlaProjDwRefIdeal.τ).loc Cert.GlaProjDwRefIdeal.main_arg0) = m' ((c.tc : Thread Cert.GlaProjDwRefIdeal.nD Cert.GlaProjDwRefIdeal.τ).loc Cert.GlaProjDwRefIdeal.main_arg0)
          ∧ r.2.mem ((c.tc : Thread Cert.GlaProjDwRefIdeal.nD Cert.GlaProjDwRefIdeal.τ).loc Cert.GlaProjDwRefIdeal.main_arg1) = m' ((c.tc : Thread Cert.GlaProjDwRefIdeal.nD Cert.GlaProjDwRefIdeal.τ).loc Cert.GlaProjDwRefIdeal.main_arg1))

def preserves_GateProj_GateProjIdeal : Prop :=
  True

def algebraic_GateProjIdeal_GateProjRefIdeal [hGateProjIdeal : Cert.GateProjIdeal.Facts] [hGateProjRefIdeal : Cert.GateProjRefIdeal.Facts] : Prop :=
  ∀ (m : (ℓ : Loc Cert.GateProjIdeal.nD Cert.GateProjIdeal.τ Cert.GateProjIdeal.sig) → Buf (Elt Ideal) ℓ) (g : Dev Cert.GateProjIdeal.nD → PrngReg)
    (m' : (ℓ : Loc Cert.GateProjRefIdeal.nD Cert.GateProjRefIdeal.τ Cert.GateProjRefIdeal.sig) → Buf (Elt Ideal) ℓ) (g' : Dev Cert.GateProjRefIdeal.nD → PrngReg), Pre_GateProjIdeal m →
    (∀ c : Dev Cert.GateProjIdeal.nD,
      m' ((c.tc : Thread Cert.GateProjRefIdeal.nD Cert.GateProjRefIdeal.τ).loc Cert.GateProjRefIdeal.main_arg0) = m ((c.tc : Thread Cert.GateProjIdeal.nD Cert.GateProjIdeal.τ).loc Cert.GateProjIdeal.main_arg0)
      ∧ m' ((c.tc : Thread Cert.GateProjRefIdeal.nD Cert.GateProjRefIdeal.τ).loc Cert.GateProjRefIdeal.main_arg1) = m ((c.tc : Thread Cert.GateProjIdeal.nD Cert.GateProjIdeal.τ).loc Cert.GateProjIdeal.main_arg1)) →
    ∃ (v0 : (c : Dev Cert.GateProjIdeal.nD) → Buf (Elt Ideal) ((c.tc : Thread Cert.GateProjIdeal.nD Cert.GateProjIdeal.τ).loc Cert.GateProjIdeal.main_v0)),
      θ_run (Cert.GateProjIdeal.defs (F := Ideal)) (onTc (τ := Cert.GateProjIdeal.τ) (Cert.GateProjIdeal.main (F := Ideal))) ⟨m, fun _ => 0, g⟩ (fun r => ∀ c : Dev Cert.GateProjIdeal.nD,
          r.2.mem ((c.tc : Thread Cert.GateProjIdeal.nD Cert.GateProjIdeal.τ).loc Cert.GateProjIdeal.main_v0) = v0 c
          ∧ r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
          ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1))
      ∧ θ_run (Cert.GateProjRefIdeal.defs (F := Ideal)) (onTc (τ := Cert.GateProjRefIdeal.τ) (Cert.GateProjRefIdeal.main (F := Ideal))) ⟨m', fun _ => 0, g'⟩ (fun r => ∀ c : Dev Cert.GateProjRefIdeal.nD,
          r.2.mem ((c.tc : Thread Cert.GateProjRefIdeal.nD Cert.GateProjRefIdeal.τ).loc Cert.GateProjRefIdeal.main_v3) = v0 c
          ∧ r.2.mem ((c.tc : Thread Cert.GateProjRefIdeal.nD Cert.GateProjRefIdeal.τ).loc Cert.GateProjRefIdeal.main_arg0) = m' ((c.tc : Thread Cert.GateProjRefIdeal.nD Cert.GateProjRefIdeal.τ).loc Cert.GateProjRefIdeal.main_arg0)
          ∧ r.2.mem ((c.tc : Thread Cert.GateProjRefIdeal.nD Cert.GateProjRefIdeal.τ).loc Cert.GateProjRefIdeal.main_arg1) = m' ((c.tc : Thread Cert.GateProjRefIdeal.nD Cert.GateProjRefIdeal.τ).loc Cert.GateProjRefIdeal.main_arg1))

def preserves_GateProjDx_GateProjDxIdeal : Prop :=
  True

def algebraic_GateProjDxIdeal_GateProjDxRefIdeal [hGateProjDxIdeal : Cert.GateProjDxIdeal.Facts] [hGateProjDxRefIdeal : Cert.GateProjDxRefIdeal.Facts] : Prop :=
  ∀ (m : (ℓ : Loc Cert.GateProjDxIdeal.nD Cert.GateProjDxIdeal.τ Cert.GateProjDxIdeal.sig) → Buf (Elt Ideal) ℓ) (g : Dev Cert.GateProjDxIdeal.nD → PrngReg)
    (m' : (ℓ : Loc Cert.GateProjDxRefIdeal.nD Cert.GateProjDxRefIdeal.τ Cert.GateProjDxRefIdeal.sig) → Buf (Elt Ideal) ℓ) (g' : Dev Cert.GateProjDxRefIdeal.nD → PrngReg), Pre_GateProjDxIdeal m →
    (∀ c : Dev Cert.GateProjDxIdeal.nD,
      m' ((c.tc : Thread Cert.GateProjDxRefIdeal.nD Cert.GateProjDxRefIdeal.τ).loc Cert.GateProjDxRefIdeal.main_arg0) = m ((c.tc : Thread Cert.GateProjDxIdeal.nD Cert.GateProjDxIdeal.τ).loc Cert.GateProjDxIdeal.main_arg0)
      ∧ m' ((c.tc : Thread Cert.GateProjDxRefIdeal.nD Cert.GateProjDxRefIdeal.τ).loc Cert.GateProjDxRefIdeal.main_arg1) = m ((c.tc : Thread Cert.GateProjDxIdeal.nD Cert.GateProjDxIdeal.τ).loc Cert.GateProjDxIdeal.main_arg1)
      ∧ m' ((c.tc : Thread Cert.GateProjDxRefIdeal.nD Cert.GateProjDxRefIdeal.τ).loc Cert.GateProjDxRefIdeal.main_arg2) = m ((c.tc : Thread Cert.GateProjDxIdeal.nD Cert.GateProjDxIdeal.τ).loc Cert.GateProjDxIdeal.main_arg2)) →
    ∃ (v0 : (c : Dev Cert.GateProjDxIdeal.nD) → Buf (Elt Ideal) ((c.tc : Thread Cert.GateProjDxIdeal.nD Cert.GateProjDxIdeal.τ).loc Cert.GateProjDxIdeal.main_v0)),
      θ_run (Cert.GateProjDxIdeal.defs (F := Ideal)) (onTc (τ := Cert.GateProjDxIdeal.τ) (Cert.GateProjDxIdeal.main (F := Ideal))) ⟨m, fun _ => 0, g⟩ (fun r => ∀ c : Dev Cert.GateProjDxIdeal.nD,
          r.2.mem ((c.tc : Thread Cert.GateProjDxIdeal.nD Cert.GateProjDxIdeal.τ).loc Cert.GateProjDxIdeal.main_v0) = v0 c
          ∧ r.2.mem ((c.tc : Thread Cert.GateProjDxIdeal.nD Cert.GateProjDxIdeal.τ).loc Cert.GateProjDxIdeal.main_arg0) = m ((c.tc : Thread Cert.GateProjDxIdeal.nD Cert.GateProjDxIdeal.τ).loc Cert.GateProjDxIdeal.main_arg0)
          ∧ r.2.mem ((c.tc : Thread Cert.GateProjDxIdeal.nD Cert.GateProjDxIdeal.τ).loc Cert.GateProjDxIdeal.main_arg1) = m ((c.tc : Thread Cert.GateProjDxIdeal.nD Cert.GateProjDxIdeal.τ).loc Cert.GateProjDxIdeal.main_arg1)
          ∧ r.2.mem ((c.tc : Thread Cert.GateProjDxIdeal.nD Cert.GateProjDxIdeal.τ).loc Cert.GateProjDxIdeal.main_arg2) = m ((c.tc : Thread Cert.GateProjDxIdeal.nD Cert.GateProjDxIdeal.τ).loc Cert.GateProjDxIdeal.main_arg2))
      ∧ θ_run (Cert.GateProjDxRefIdeal.defs (F := Ideal)) (onTc (τ := Cert.GateProjDxRefIdeal.τ) (Cert.GateProjDxRefIdeal.main (F := Ideal))) ⟨m', fun _ => 0, g'⟩ (fun r => ∀ c : Dev Cert.GateProjDxRefIdeal.nD,
          r.2.mem ((c.tc : Thread Cert.GateProjDxRefIdeal.nD Cert.GateProjDxRefIdeal.τ).loc Cert.GateProjDxRefIdeal.main_v5) = v0 c
          ∧ r.2.mem ((c.tc : Thread Cert.GateProjDxRefIdeal.nD Cert.GateProjDxRefIdeal.τ).loc Cert.GateProjDxRefIdeal.main_arg0) = m' ((c.tc : Thread Cert.GateProjDxRefIdeal.nD Cert.GateProjDxRefIdeal.τ).loc Cert.GateProjDxRefIdeal.main_arg0)
          ∧ r.2.mem ((c.tc : Thread Cert.GateProjDxRefIdeal.nD Cert.GateProjDxRefIdeal.τ).loc Cert.GateProjDxRefIdeal.main_arg1) = m' ((c.tc : Thread Cert.GateProjDxRefIdeal.nD Cert.GateProjDxRefIdeal.τ).loc Cert.GateProjDxRefIdeal.main_arg1)
          ∧ r.2.mem ((c.tc : Thread Cert.GateProjDxRefIdeal.nD Cert.GateProjDxRefIdeal.τ).loc Cert.GateProjDxRefIdeal.main_arg2) = m' ((c.tc : Thread Cert.GateProjDxRefIdeal.nD Cert.GateProjDxRefIdeal.τ).loc Cert.GateProjDxRefIdeal.main_arg2))

def preserves_GateProjDw_GateProjDwIdeal : Prop :=
  True

def algebraic_GateProjDwIdeal_GateProjDwRefIdeal [hGateProjDwIdeal : Cert.GateProjDwIdeal.Facts] [hGateProjDwRefIdeal : Cert.GateProjDwRefIdeal.Facts] : Prop :=
  ∀ (m : (ℓ : Loc Cert.GateProjDwIdeal.nD Cert.GateProjDwIdeal.τ Cert.GateProjDwIdeal.sig) → Buf (Elt Ideal) ℓ) (g : Dev Cert.GateProjDwIdeal.nD → PrngReg)
    (m' : (ℓ : Loc Cert.GateProjDwRefIdeal.nD Cert.GateProjDwRefIdeal.τ Cert.GateProjDwRefIdeal.sig) → Buf (Elt Ideal) ℓ) (g' : Dev Cert.GateProjDwRefIdeal.nD → PrngReg), Pre_GateProjDwIdeal m →
    (∀ c : Dev Cert.GateProjDwIdeal.nD,
      m' ((c.tc : Thread Cert.GateProjDwRefIdeal.nD Cert.GateProjDwRefIdeal.τ).loc Cert.GateProjDwRefIdeal.main_arg0) = m ((c.tc : Thread Cert.GateProjDwIdeal.nD Cert.GateProjDwIdeal.τ).loc Cert.GateProjDwIdeal.main_arg0)
      ∧ m' ((c.tc : Thread Cert.GateProjDwRefIdeal.nD Cert.GateProjDwRefIdeal.τ).loc Cert.GateProjDwRefIdeal.main_arg1) = m ((c.tc : Thread Cert.GateProjDwIdeal.nD Cert.GateProjDwIdeal.τ).loc Cert.GateProjDwIdeal.main_arg1)) →
    ∃ (v0 : (c : Dev Cert.GateProjDwIdeal.nD) → Buf (Elt Ideal) ((c.tc : Thread Cert.GateProjDwIdeal.nD Cert.GateProjDwIdeal.τ).loc Cert.GateProjDwIdeal.main_v0)),
      θ_run (Cert.GateProjDwIdeal.defs (F := Ideal)) (onTc (τ := Cert.GateProjDwIdeal.τ) (Cert.GateProjDwIdeal.main (F := Ideal))) ⟨m, fun _ => 0, g⟩ (fun r => ∀ c : Dev Cert.GateProjDwIdeal.nD,
          r.2.mem ((c.tc : Thread Cert.GateProjDwIdeal.nD Cert.GateProjDwIdeal.τ).loc Cert.GateProjDwIdeal.main_v0) = v0 c
          ∧ r.2.mem ((c.tc : Thread Cert.GateProjDwIdeal.nD Cert.GateProjDwIdeal.τ).loc Cert.GateProjDwIdeal.main_arg0) = m ((c.tc : Thread Cert.GateProjDwIdeal.nD Cert.GateProjDwIdeal.τ).loc Cert.GateProjDwIdeal.main_arg0)
          ∧ r.2.mem ((c.tc : Thread Cert.GateProjDwIdeal.nD Cert.GateProjDwIdeal.τ).loc Cert.GateProjDwIdeal.main_arg1) = m ((c.tc : Thread Cert.GateProjDwIdeal.nD Cert.GateProjDwIdeal.τ).loc Cert.GateProjDwIdeal.main_arg1))
      ∧ θ_run (Cert.GateProjDwRefIdeal.defs (F := Ideal)) (onTc (τ := Cert.GateProjDwRefIdeal.τ) (Cert.GateProjDwRefIdeal.main (F := Ideal))) ⟨m', fun _ => 0, g'⟩ (fun r => ∀ c : Dev Cert.GateProjDwRefIdeal.nD,
          r.2.mem ((c.tc : Thread Cert.GateProjDwRefIdeal.nD Cert.GateProjDwRefIdeal.τ).loc Cert.GateProjDwRefIdeal.main_v6) = v0 c
          ∧ r.2.mem ((c.tc : Thread Cert.GateProjDwRefIdeal.nD Cert.GateProjDwRefIdeal.τ).loc Cert.GateProjDwRefIdeal.main_arg0) = m' ((c.tc : Thread Cert.GateProjDwRefIdeal.nD Cert.GateProjDwRefIdeal.τ).loc Cert.GateProjDwRefIdeal.main_arg0)
          ∧ r.2.mem ((c.tc : Thread Cert.GateProjDwRefIdeal.nD Cert.GateProjDwRefIdeal.τ).loc Cert.GateProjDwRefIdeal.main_arg1) = m' ((c.tc : Thread Cert.GateProjDwRefIdeal.nD Cert.GateProjDwRefIdeal.τ).loc Cert.GateProjDwRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_MixOutDx_MixOutDxIdeal : Prop :=
  True

def algebraic_MixOutDxIdeal_MixOutDxRefIdeal [hMixOutDxIdeal : Cert.MixOutDxIdeal.Facts] [hMixOutDxRefIdeal : Cert.MixOutDxRefIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxRefIdeal.nD Cert.MixOutDxRefIdeal.τ Cert.MixOutDxRefIdeal.sig) → Buf (Elt Ideal) ℓ) (g' : Dev Cert.MixOutDxRefIdeal.nD → PrngReg), Pre_MixOutDxIdeal m →
    (∀ c : Dev Cert.MixOutDxIdeal.nD,
      m' ((c.tc : Thread Cert.MixOutDxRefIdeal.nD Cert.MixOutDxRefIdeal.τ).loc Cert.MixOutDxRefIdeal.main_arg0) = m ((c.tc : Thread Cert.MixOutDxIdeal.nD Cert.MixOutDxIdeal.τ).loc Cert.MixOutDxIdeal.main_arg0)
      ∧ m' ((c.tc : Thread Cert.MixOutDxRefIdeal.nD Cert.MixOutDxRefIdeal.τ).loc Cert.MixOutDxRefIdeal.main_arg1) = m ((c.tc : Thread Cert.MixOutDxIdeal.nD Cert.MixOutDxIdeal.τ).loc Cert.MixOutDxIdeal.main_arg1)) →
    ∃ (v0 : (c : Dev Cert.MixOutDxIdeal.nD) → Buf (Elt Ideal) ((c.tc : Thread Cert.MixOutDxIdeal.nD Cert.MixOutDxIdeal.τ).loc Cert.MixOutDxIdeal.main_v0)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v0) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ θ_run (Cert.MixOutDxRefIdeal.defs (F := Ideal)) (onTc (τ := Cert.MixOutDxRefIdeal.τ) (Cert.MixOutDxRefIdeal.main (F := Ideal))) ⟨m', fun _ => 0, g'⟩ (fun r => ∀ c : Dev Cert.MixOutDxRefIdeal.nD,
          r.2.mem ((c.tc : Thread Cert.MixOutDxRefIdeal.nD Cert.MixOutDxRefIdeal.τ).loc Cert.MixOutDxRefIdeal.main_v4) = v0 c
          ∧ r.2.mem ((c.tc : Thread Cert.MixOutDxRefIdeal.nD Cert.MixOutDxRefIdeal.τ).loc Cert.MixOutDxRefIdeal.main_arg0) = m' ((c.tc : Thread Cert.MixOutDxRefIdeal.nD Cert.MixOutDxRefIdeal.τ).loc Cert.MixOutDxRefIdeal.main_arg0)
          ∧ r.2.mem ((c.tc : Thread Cert.MixOutDxRefIdeal.nD Cert.MixOutDxRefIdeal.τ).loc Cert.MixOutDxRefIdeal.main_arg1) = m' ((c.tc : Thread Cert.MixOutDxRefIdeal.nD Cert.MixOutDxRefIdeal.τ).loc Cert.MixOutDxRefIdeal.main_arg1))

def preserves_MixOutDw_MixOutDwIdeal : Prop :=
  True

def algebraic_MixOutDwIdeal_MixOutDwRefIdeal [hMixOutDwIdeal : Cert.MixOutDwIdeal.Facts] [hMixOutDwRefIdeal : Cert.MixOutDwRefIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwRefIdeal.nD Cert.MixOutDwRefIdeal.τ Cert.MixOutDwRefIdeal.sig) → Buf (Elt Ideal) ℓ) (g' : Dev Cert.MixOutDwRefIdeal.nD → PrngReg), Pre_MixOutDwIdeal m →
    (∀ c : Dev Cert.MixOutDwIdeal.nD,
      m' ((c.tc : Thread Cert.MixOutDwRefIdeal.nD Cert.MixOutDwRefIdeal.τ).loc Cert.MixOutDwRefIdeal.main_arg0) = m ((c.tc : Thread Cert.MixOutDwIdeal.nD Cert.MixOutDwIdeal.τ).loc Cert.MixOutDwIdeal.main_arg0)
      ∧ m' ((c.tc : Thread Cert.MixOutDwRefIdeal.nD Cert.MixOutDwRefIdeal.τ).loc Cert.MixOutDwRefIdeal.main_arg1) = m ((c.tc : Thread Cert.MixOutDwIdeal.nD Cert.MixOutDwIdeal.τ).loc Cert.MixOutDwIdeal.main_arg1)) →
    ∃ (v0 : (c : Dev Cert.MixOutDwIdeal.nD) → Buf (Elt Ideal) ((c.tc : Thread Cert.MixOutDwIdeal.nD Cert.MixOutDwIdeal.τ).loc Cert.MixOutDwIdeal.main_v0)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v0) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ θ_run (Cert.MixOutDwRefIdeal.defs (F := Ideal)) (onTc (τ := Cert.MixOutDwRefIdeal.τ) (Cert.MixOutDwRefIdeal.main (F := Ideal))) ⟨m', fun _ => 0, g'⟩ (fun r => ∀ c : Dev Cert.MixOutDwRefIdeal.nD,
          r.2.mem ((c.tc : Thread Cert.MixOutDwRefIdeal.nD Cert.MixOutDwRefIdeal.τ).loc Cert.MixOutDwRefIdeal.main_v5) = v0 c
          ∧ r.2.mem ((c.tc : Thread Cert.MixOutDwRefIdeal.nD Cert.MixOutDwRefIdeal.τ).loc Cert.MixOutDwRefIdeal.main_arg0) = m' ((c.tc : Thread Cert.MixOutDwRefIdeal.nD Cert.MixOutDwRefIdeal.τ).loc Cert.MixOutDwRefIdeal.main_arg0)
          ∧ r.2.mem ((c.tc : Thread Cert.MixOutDwRefIdeal.nD Cert.MixOutDwRefIdeal.τ).loc Cert.MixOutDwRefIdeal.main_arg1) = m' ((c.tc : Thread Cert.MixOutDwRefIdeal.nD Cert.MixOutDwRefIdeal.τ).loc Cert.MixOutDwRefIdeal.main_arg1))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)) →
    ∃ (v0 : (c : Dev Cert.KvProjIdeal.nD) → Buf (Elt Ideal) ((c.tc : Thread Cert.KvProjIdeal.nD Cert.KvProjIdeal.τ).loc Cert.KvProjIdeal.main_v0)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v0) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v5) = v0 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1))

def preserves_KvProjDx_KvProjDxIdeal : Prop :=
  True

def algebraic_KvProjDxIdeal_KvProjDxRefIdeal [hKvProjDxIdeal : Cert.KvProjDxIdeal.Facts] [hKvProjDxRefIdeal : Cert.KvProjDxRefIdeal.Facts] : Prop :=
  ∀ (m : (ℓ : Loc Cert.KvProjDxIdeal.nD Cert.KvProjDxIdeal.τ Cert.KvProjDxIdeal.sig) → Buf (Elt Ideal) ℓ) (g : Dev Cert.KvProjDxIdeal.nD → PrngReg)
    (m' : (ℓ : Loc Cert.KvProjDxRefIdeal.nD Cert.KvProjDxRefIdeal.τ Cert.KvProjDxRefIdeal.sig) → Buf (Elt Ideal) ℓ) (g' : Dev Cert.KvProjDxRefIdeal.nD → PrngReg), Pre_KvProjDxIdeal m →
    (∀ c : Dev Cert.KvProjDxIdeal.nD,
      m' ((c.tc : Thread Cert.KvProjDxRefIdeal.nD Cert.KvProjDxRefIdeal.τ).loc Cert.KvProjDxRefIdeal.main_arg0) = m ((c.tc : Thread Cert.KvProjDxIdeal.nD Cert.KvProjDxIdeal.τ).loc Cert.KvProjDxIdeal.main_arg0)
      ∧ m' ((c.tc : Thread Cert.KvProjDxRefIdeal.nD Cert.KvProjDxRefIdeal.τ).loc Cert.KvProjDxRefIdeal.main_arg1) = m ((c.tc : Thread Cert.KvProjDxIdeal.nD Cert.KvProjDxIdeal.τ).loc Cert.KvProjDxIdeal.main_arg1)) →
    ∃ (v0 : (c : Dev Cert.KvProjDxIdeal.nD) → Buf (Elt Ideal) ((c.tc : Thread Cert.KvProjDxIdeal.nD Cert.KvProjDxIdeal.τ).loc Cert.KvProjDxIdeal.main_v0)),
      θ_run (Cert.KvProjDxIdeal.defs (F := Ideal)) (onTc (τ := Cert.KvProjDxIdeal.τ) (Cert.KvProjDxIdeal.main (F := Ideal))) ⟨m, fun _ => 0, g⟩ (fun r => ∀ c : Dev Cert.KvProjDxIdeal.nD,
          r.2.mem ((c.tc : Thread Cert.KvProjDxIdeal.nD Cert.KvProjDxIdeal.τ).loc Cert.KvProjDxIdeal.main_v0) = v0 c
          ∧ r.2.mem ((c.tc : Thread Cert.KvProjDxIdeal.nD Cert.KvProjDxIdeal.τ).loc Cert.KvProjDxIdeal.main_arg0) = m ((c.tc : Thread Cert.KvProjDxIdeal.nD Cert.KvProjDxIdeal.τ).loc Cert.KvProjDxIdeal.main_arg0)
          ∧ r.2.mem ((c.tc : Thread Cert.KvProjDxIdeal.nD Cert.KvProjDxIdeal.τ).loc Cert.KvProjDxIdeal.main_arg1) = m ((c.tc : Thread Cert.KvProjDxIdeal.nD Cert.KvProjDxIdeal.τ).loc Cert.KvProjDxIdeal.main_arg1))
      ∧ θ_run (Cert.KvProjDxRefIdeal.defs (F := Ideal)) (onTc (τ := Cert.KvProjDxRefIdeal.τ) (Cert.KvProjDxRefIdeal.main (F := Ideal))) ⟨m', fun _ => 0, g'⟩ (fun r => ∀ c : Dev Cert.KvProjDxRefIdeal.nD,
          r.2.mem ((c.tc : Thread Cert.KvProjDxRefIdeal.nD Cert.KvProjDxRefIdeal.τ).loc Cert.KvProjDxRefIdeal.main_v6) = v0 c
          ∧ r.2.mem ((c.tc : Thread Cert.KvProjDxRefIdeal.nD Cert.KvProjDxRefIdeal.τ).loc Cert.KvProjDxRefIdeal.main_arg0) = m' ((c.tc : Thread Cert.KvProjDxRefIdeal.nD Cert.KvProjDxRefIdeal.τ).loc Cert.KvProjDxRefIdeal.main_arg0)
          ∧ r.2.mem ((c.tc : Thread Cert.KvProjDxRefIdeal.nD Cert.KvProjDxRefIdeal.τ).loc Cert.KvProjDxRefIdeal.main_arg1) = m' ((c.tc : Thread Cert.KvProjDxRefIdeal.nD Cert.KvProjDxRefIdeal.τ).loc Cert.KvProjDxRefIdeal.main_arg1))

def preserves_KvProjDw_KvProjDwIdeal : Prop :=
  True

def algebraic_KvProjDwIdeal_KvProjDwRefIdeal [hKvProjDwIdeal : Cert.KvProjDwIdeal.Facts] [hKvProjDwRefIdeal : Cert.KvProjDwRefIdeal.Facts] : Prop :=
  ∀ (m : (ℓ : Loc Cert.KvProjDwIdeal.nD Cert.KvProjDwIdeal.τ Cert.KvProjDwIdeal.sig) → Buf (Elt Ideal) ℓ) (g : Dev Cert.KvProjDwIdeal.nD → PrngReg)
    (m' : (ℓ : Loc Cert.KvProjDwRefIdeal.nD Cert.KvProjDwRefIdeal.τ Cert.KvProjDwRefIdeal.sig) → Buf (Elt Ideal) ℓ) (g' : Dev Cert.KvProjDwRefIdeal.nD → PrngReg), Pre_KvProjDwIdeal m →
    (∀ c : Dev Cert.KvProjDwIdeal.nD,
      m' ((c.tc : Thread Cert.KvProjDwRefIdeal.nD Cert.KvProjDwRefIdeal.τ).loc Cert.KvProjDwRefIdeal.main_arg0) = m ((c.tc : Thread Cert.KvProjDwIdeal.nD Cert.KvProjDwIdeal.τ).loc Cert.KvProjDwIdeal.main_arg0)
      ∧ m' ((c.tc : Thread Cert.KvProjDwRefIdeal.nD Cert.KvProjDwRefIdeal.τ).loc Cert.KvProjDwRefIdeal.main_arg1) = m ((c.tc : Thread Cert.KvProjDwIdeal.nD Cert.KvProjDwIdeal.τ).loc Cert.KvProjDwIdeal.main_arg1)) →
    ∃ (v0 : (c : Dev Cert.KvProjDwIdeal.nD) → Buf (Elt Ideal) ((c.tc : Thread Cert.KvProjDwIdeal.nD Cert.KvProjDwIdeal.τ).loc Cert.KvProjDwIdeal.main_v0)),
      θ_run (Cert.KvProjDwIdeal.defs (F := Ideal)) (onTc (τ := Cert.KvProjDwIdeal.τ) (Cert.KvProjDwIdeal.main (F := Ideal))) ⟨m, fun _ => 0, g⟩ (fun r => ∀ c : Dev Cert.KvProjDwIdeal.nD,
          r.2.mem ((c.tc : Thread Cert.KvProjDwIdeal.nD Cert.KvProjDwIdeal.τ).loc Cert.KvProjDwIdeal.main_v0) = v0 c
          ∧ r.2.mem ((c.tc : Thread Cert.KvProjDwIdeal.nD Cert.KvProjDwIdeal.τ).loc Cert.KvProjDwIdeal.main_arg0) = m ((c.tc : Thread Cert.KvProjDwIdeal.nD Cert.KvProjDwIdeal.τ).loc Cert.KvProjDwIdeal.main_arg0)
          ∧ r.2.mem ((c.tc : Thread Cert.KvProjDwIdeal.nD Cert.KvProjDwIdeal.τ).loc Cert.KvProjDwIdeal.main_arg1) = m ((c.tc : Thread Cert.KvProjDwIdeal.nD Cert.KvProjDwIdeal.τ).loc Cert.KvProjDwIdeal.main_arg1))
      ∧ θ_run (Cert.KvProjDwRefIdeal.defs (F := Ideal)) (onTc (τ := Cert.KvProjDwRefIdeal.τ) (Cert.KvProjDwRefIdeal.main (F := Ideal))) ⟨m', fun _ => 0, g'⟩ (fun r => ∀ c : Dev Cert.KvProjDwRefIdeal.nD,
          r.2.mem ((c.tc : Thread Cert.KvProjDwRefIdeal.nD Cert.KvProjDwRefIdeal.τ).loc Cert.KvProjDwRefIdeal.main_v10) = v0 c
          ∧ r.2.mem ((c.tc : Thread Cert.KvProjDwRefIdeal.nD Cert.KvProjDwRefIdeal.τ).loc Cert.KvProjDwRefIdeal.main_arg0) = m' ((c.tc : Thread Cert.KvProjDwRefIdeal.nD Cert.KvProjDwRefIdeal.τ).loc Cert.KvProjDwRefIdeal.main_arg0)
          ∧ r.2.mem ((c.tc : Thread Cert.KvProjDwRefIdeal.nD Cert.KvProjDwRefIdeal.τ).loc Cert.KvProjDwRefIdeal.main_arg1) = m' ((c.tc : Thread Cert.KvProjDwRefIdeal.nD Cert.KvProjDwRefIdeal.τ).loc Cert.KvProjDwRefIdeal.main_arg1))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)) →
    ∃ (v0 : (c : Dev Cert.QProjIdeal.nD) → Buf (Elt Ideal) ((c.tc : Thread Cert.QProjIdeal.nD Cert.QProjIdeal.τ).loc Cert.QProjIdeal.main_v0)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v0) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v5) = v0 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1))

def preserves_QProjDx_QProjDxIdeal : Prop :=
  True

def algebraic_QProjDxIdeal_QProjDxRefIdeal [hQProjDxIdeal : Cert.QProjDxIdeal.Facts] [hQProjDxRefIdeal : Cert.QProjDxRefIdeal.Facts] : Prop :=
  ∀ (m : (ℓ : Loc Cert.QProjDxIdeal.nD Cert.QProjDxIdeal.τ Cert.QProjDxIdeal.sig) → Buf (Elt Ideal) ℓ) (g : Dev Cert.QProjDxIdeal.nD → PrngReg)
    (m' : (ℓ : Loc Cert.QProjDxRefIdeal.nD Cert.QProjDxRefIdeal.τ Cert.QProjDxRefIdeal.sig) → Buf (Elt Ideal) ℓ) (g' : Dev Cert.QProjDxRefIdeal.nD → PrngReg), Pre_QProjDxIdeal m →
    (∀ c : Dev Cert.QProjDxIdeal.nD,
      m' ((c.tc : Thread Cert.QProjDxRefIdeal.nD Cert.QProjDxRefIdeal.τ).loc Cert.QProjDxRefIdeal.main_arg0) = m ((c.tc : Thread Cert.QProjDxIdeal.nD Cert.QProjDxIdeal.τ).loc Cert.QProjDxIdeal.main_arg0)
      ∧ m' ((c.tc : Thread Cert.QProjDxRefIdeal.nD Cert.QProjDxRefIdeal.τ).loc Cert.QProjDxRefIdeal.main_arg1) = m ((c.tc : Thread Cert.QProjDxIdeal.nD Cert.QProjDxIdeal.τ).loc Cert.QProjDxIdeal.main_arg1)) →
    ∃ (v0 : (c : Dev Cert.QProjDxIdeal.nD) → Buf (Elt Ideal) ((c.tc : Thread Cert.QProjDxIdeal.nD Cert.QProjDxIdeal.τ).loc Cert.QProjDxIdeal.main_v0)),
      θ_run (Cert.QProjDxIdeal.defs (F := Ideal)) (onTc (τ := Cert.QProjDxIdeal.τ) (Cert.QProjDxIdeal.main (F := Ideal))) ⟨m, fun _ => 0, g⟩ (fun r => ∀ c : Dev Cert.QProjDxIdeal.nD,
          r.2.mem ((c.tc : Thread Cert.QProjDxIdeal.nD Cert.QProjDxIdeal.τ).loc Cert.QProjDxIdeal.main_v0) = v0 c
          ∧ r.2.mem ((c.tc : Thread Cert.QProjDxIdeal.nD Cert.QProjDxIdeal.τ).loc Cert.QProjDxIdeal.main_arg0) = m ((c.tc : Thread Cert.QProjDxIdeal.nD Cert.QProjDxIdeal.τ).loc Cert.QProjDxIdeal.main_arg0)
          ∧ r.2.mem ((c.tc : Thread Cert.QProjDxIdeal.nD Cert.QProjDxIdeal.τ).loc Cert.QProjDxIdeal.main_arg1) = m ((c.tc : Thread Cert.QProjDxIdeal.nD Cert.QProjDxIdeal.τ).loc Cert.QProjDxIdeal.main_arg1))
      ∧ θ_run (Cert.QProjDxRefIdeal.defs (F := Ideal)) (onTc (τ := Cert.QProjDxRefIdeal.τ) (Cert.QProjDxRefIdeal.main (F := Ideal))) ⟨m', fun _ => 0, g'⟩ (fun r => ∀ c : Dev Cert.QProjDxRefIdeal.nD,
          r.2.mem ((c.tc : Thread Cert.QProjDxRefIdeal.nD Cert.QProjDxRefIdeal.τ).loc Cert.QProjDxRefIdeal.main_v6) = v0 c
          ∧ r.2.mem ((c.tc : Thread Cert.QProjDxRefIdeal.nD Cert.QProjDxRefIdeal.τ).loc Cert.QProjDxRefIdeal.main_arg0) = m' ((c.tc : Thread Cert.QProjDxRefIdeal.nD Cert.QProjDxRefIdeal.τ).loc Cert.QProjDxRefIdeal.main_arg0)
          ∧ r.2.mem ((c.tc : Thread Cert.QProjDxRefIdeal.nD Cert.QProjDxRefIdeal.τ).loc Cert.QProjDxRefIdeal.main_arg1) = m' ((c.tc : Thread Cert.QProjDxRefIdeal.nD Cert.QProjDxRefIdeal.τ).loc Cert.QProjDxRefIdeal.main_arg1))

def preserves_QProjDw_QProjDwIdeal : Prop :=
  True

def algebraic_QProjDwIdeal_QProjDwRefIdeal [hQProjDwIdeal : Cert.QProjDwIdeal.Facts] [hQProjDwRefIdeal : Cert.QProjDwRefIdeal.Facts] : Prop :=
  ∀ (m : (ℓ : Loc Cert.QProjDwIdeal.nD Cert.QProjDwIdeal.τ Cert.QProjDwIdeal.sig) → Buf (Elt Ideal) ℓ) (g : Dev Cert.QProjDwIdeal.nD → PrngReg)
    (m' : (ℓ : Loc Cert.QProjDwRefIdeal.nD Cert.QProjDwRefIdeal.τ Cert.QProjDwRefIdeal.sig) → Buf (Elt Ideal) ℓ) (g' : Dev Cert.QProjDwRefIdeal.nD → PrngReg), Pre_QProjDwIdeal m →
    (∀ c : Dev Cert.QProjDwIdeal.nD,
      m' ((c.tc : Thread Cert.QProjDwRefIdeal.nD Cert.QProjDwRefIdeal.τ).loc Cert.QProjDwRefIdeal.main_arg0) = m ((c.tc : Thread Cert.QProjDwIdeal.nD Cert.QProjDwIdeal.τ).loc Cert.QProjDwIdeal.main_arg0)
      ∧ m' ((c.tc : Thread Cert.QProjDwRefIdeal.nD Cert.QProjDwRefIdeal.τ).loc Cert.QProjDwRefIdeal.main_arg1) = m ((c.tc : Thread Cert.QProjDwIdeal.nD Cert.QProjDwIdeal.τ).loc Cert.QProjDwIdeal.main_arg1)) →
    ∃ (v0 : (c : Dev Cert.QProjDwIdeal.nD) → Buf (Elt Ideal) ((c.tc : Thread Cert.QProjDwIdeal.nD Cert.QProjDwIdeal.τ).loc Cert.QProjDwIdeal.main_v0)),
      θ_run (Cert.QProjDwIdeal.defs (F := Ideal)) (onTc (τ := Cert.QProjDwIdeal.τ) (Cert.QProjDwIdeal.main (F := Ideal))) ⟨m, fun _ => 0, g⟩ (fun r => ∀ c : Dev Cert.QProjDwIdeal.nD,
          r.2.mem ((c.tc : Thread Cert.QProjDwIdeal.nD Cert.QProjDwIdeal.τ).loc Cert.QProjDwIdeal.main_v0) = v0 c
          ∧ r.2.mem ((c.tc : Thread Cert.QProjDwIdeal.nD Cert.QProjDwIdeal.τ).loc Cert.QProjDwIdeal.main_arg0) = m ((c.tc : Thread Cert.QProjDwIdeal.nD Cert.QProjDwIdeal.τ).loc Cert.QProjDwIdeal.main_arg0)
          ∧ r.2.mem ((c.tc : Thread Cert.QProjDwIdeal.nD Cert.QProjDwIdeal.τ).loc Cert.QProjDwIdeal.main_arg1) = m ((c.tc : Thread Cert.QProjDwIdeal.nD Cert.QProjDwIdeal.τ).loc Cert.QProjDwIdeal.main_arg1))
      ∧ θ_run (Cert.QProjDwRefIdeal.defs (F := Ideal)) (onTc (τ := Cert.QProjDwRefIdeal.τ) (Cert.QProjDwRefIdeal.main (F := Ideal))) ⟨m', fun _ => 0, g'⟩ (fun r => ∀ c : Dev Cert.QProjDwRefIdeal.nD,
          r.2.mem ((c.tc : Thread Cert.QProjDwRefIdeal.nD Cert.QProjDwRefIdeal.τ).loc Cert.QProjDwRefIdeal.main_v10) = v0 c
          ∧ r.2.mem ((c.tc : Thread Cert.QProjDwRefIdeal.nD Cert.QProjDwRefIdeal.τ).loc Cert.QProjDwRefIdeal.main_arg0) = m' ((c.tc : Thread Cert.QProjDwRefIdeal.nD Cert.QProjDwRefIdeal.τ).loc Cert.QProjDwRefIdeal.main_arg0)
          ∧ r.2.mem ((c.tc : Thread Cert.QProjDwRefIdeal.nD Cert.QProjDwRefIdeal.τ).loc Cert.QProjDwRefIdeal.main_arg1) = m' ((c.tc : Thread Cert.QProjDwRefIdeal.nD Cert.QProjDwRefIdeal.τ).loc Cert.QProjDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v6) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v10) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v7) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormPair_NormPairIdeal : Prop :=
  True

def algebraic_NormPairIdeal_NormPairRefIdeal [hNormPairIdeal : Cert.NormPairIdeal.Facts] [hNormPairRefIdeal : Cert.NormPairRefIdeal.Facts] : Prop :=
  ∀ (m : (ℓ : Loc Cert.NormPairIdeal.nD Cert.NormPairIdeal.τ Cert.NormPairIdeal.sig) → Buf (Elt Ideal) ℓ) (g : Dev Cert.NormPairIdeal.nD → PrngReg)
    (m' : (ℓ : Loc Cert.NormPairRefIdeal.nD Cert.NormPairRefIdeal.τ Cert.NormPairRefIdeal.sig) → Buf (Elt Ideal) ℓ) (g' : Dev Cert.NormPairRefIdeal.nD → PrngReg), Pre_NormPairIdeal m →
    (∀ c : Dev Cert.NormPairIdeal.nD,
      m' ((c.tc : Thread Cert.NormPairRefIdeal.nD Cert.NormPairRefIdeal.τ).loc Cert.NormPairRefIdeal.main_arg0) = m ((c.tc : Thread Cert.NormPairIdeal.nD Cert.NormPairIdeal.τ).loc Cert.NormPairIdeal.main_arg0)
      ∧ m' ((c.tc : Thread Cert.NormPairRefIdeal.nD Cert.NormPairRefIdeal.τ).loc Cert.NormPairRefIdeal.main_arg1) = m ((c.tc : Thread Cert.NormPairIdeal.nD Cert.NormPairIdeal.τ).loc Cert.NormPairIdeal.main_arg1)
      ∧ m' ((c.tc : Thread Cert.NormPairRefIdeal.nD Cert.NormPairRefIdeal.τ).loc Cert.NormPairRefIdeal.main_arg2) = m ((c.tc : Thread Cert.NormPairIdeal.nD Cert.NormPairIdeal.τ).loc Cert.NormPairIdeal.main_arg2)) →
    ∃ (v0 : (c : Dev Cert.NormPairIdeal.nD) → Buf (Elt Ideal) ((c.tc : Thread Cert.NormPairIdeal.nD Cert.NormPairIdeal.τ).loc Cert.NormPairIdeal.main_v0_0)) (v1 : (c : Dev Cert.NormPairIdeal.nD) → Buf (Elt Ideal) ((c.tc : Thread Cert.NormPairIdeal.nD Cert.NormPairIdeal.τ).loc Cert.NormPairIdeal.main_v0_1)),
      θ_run (Cert.NormPairIdeal.defs (F := Ideal)) (onTc (τ := Cert.NormPairIdeal.τ) (Cert.NormPairIdeal.main (F := Ideal))) ⟨m, fun _ => 0, g⟩ (fun r => ∀ c : Dev Cert.NormPairIdeal.nD,
          r.2.mem ((c.tc : Thread Cert.NormPairIdeal.nD Cert.NormPairIdeal.τ).loc Cert.NormPairIdeal.main_v0_0) = v0 c
          ∧ r.2.mem ((c.tc : Thread Cert.NormPairIdeal.nD Cert.NormPairIdeal.τ).loc Cert.NormPairIdeal.main_v0_1) = v1 c
          ∧ r.2.mem ((c.tc : Thread Cert.NormPairIdeal.nD Cert.NormPairIdeal.τ).loc Cert.NormPairIdeal.main_arg0) = m ((c.tc : Thread Cert.NormPairIdeal.nD Cert.NormPairIdeal.τ).loc Cert.NormPairIdeal.main_arg0)
          ∧ r.2.mem ((c.tc : Thread Cert.NormPairIdeal.nD Cert.NormPairIdeal.τ).loc Cert.NormPairIdeal.main_arg1) = m ((c.tc : Thread Cert.NormPairIdeal.nD Cert.NormPairIdeal.τ).loc Cert.NormPairIdeal.main_arg1)
          ∧ r.2.mem ((c.tc : Thread Cert.NormPairIdeal.nD Cert.NormPairIdeal.τ).loc Cert.NormPairIdeal.main_arg2) = m ((c.tc : Thread Cert.NormPairIdeal.nD Cert.NormPairIdeal.τ).loc Cert.NormPairIdeal.main_arg2))
      ∧ θ_run (Cert.NormPairRefIdeal.defs (F := Ideal)) (onTc (τ := Cert.NormPairRefIdeal.τ) (Cert.NormPairRefIdeal.main (F := Ideal))) ⟨m', fun _ => 0, g'⟩ (fun r => ∀ c : Dev Cert.NormPairRefIdeal.nD,
          r.2.mem ((c.tc : Thread Cert.NormPairRefIdeal.nD Cert.NormPairRefIdeal.τ).loc Cert.NormPairRefIdeal.main_v12) = v0 c
          ∧ r.2.mem ((c.tc : Thread Cert.NormPairRefIdeal.nD Cert.NormPairRefIdeal.τ).loc Cert.NormPairRefIdeal.main_v25) = v1 c
          ∧ r.2.mem ((c.tc : Thread Cert.NormPairRefIdeal.nD Cert.NormPairRefIdeal.τ).loc Cert.NormPairRefIdeal.main_arg0) = m' ((c.tc : Thread Cert.NormPairRefIdeal.nD Cert.NormPairRefIdeal.τ).loc Cert.NormPairRefIdeal.main_arg0)
          ∧ r.2.mem ((c.tc : Thread Cert.NormPairRefIdeal.nD Cert.NormPairRefIdeal.τ).loc Cert.NormPairRefIdeal.main_arg1) = m' ((c.tc : Thread Cert.NormPairRefIdeal.nD Cert.NormPairRefIdeal.τ).loc Cert.NormPairRefIdeal.main_arg1)
          ∧ r.2.mem ((c.tc : Thread Cert.NormPairRefIdeal.nD Cert.NormPairRefIdeal.τ).loc Cert.NormPairRefIdeal.main_arg2) = m' ((c.tc : Thread Cert.NormPairRefIdeal.nD Cert.NormPairRefIdeal.τ).loc Cert.NormPairRefIdeal.main_arg2))

def preserves_NormDx_NormDxIdeal : Prop :=
  True

def algebraic_NormDxIdeal_NormDxRefIdeal [hNormDxIdeal : Cert.NormDxIdeal.Facts] [hNormDxRefIdeal : Cert.NormDxRefIdeal.Facts] : Prop :=
  ∀ (m : (ℓ : Loc Cert.NormDxIdeal.nD Cert.NormDxIdeal.τ Cert.NormDxIdeal.sig) → Buf (Elt Ideal) ℓ) (g : Dev Cert.NormDxIdeal.nD → PrngReg)
    (m' : (ℓ : Loc Cert.NormDxRefIdeal.nD Cert.NormDxRefIdeal.τ Cert.NormDxRefIdeal.sig) → Buf (Elt Ideal) ℓ) (g' : Dev Cert.NormDxRefIdeal.nD → PrngReg), Pre_NormDxIdeal m →
    (∀ c : Dev Cert.NormDxIdeal.nD,
      m' ((c.tc : Thread Cert.NormDxRefIdeal.nD Cert.NormDxRefIdeal.τ).loc Cert.NormDxRefIdeal.main_arg0) = m ((c.tc : Thread Cert.NormDxIdeal.nD Cert.NormDxIdeal.τ).loc Cert.NormDxIdeal.main_arg0)
      ∧ m' ((c.tc : Thread Cert.NormDxRefIdeal.nD Cert.NormDxRefIdeal.τ).loc Cert.NormDxRefIdeal.main_arg1) = m ((c.tc : Thread Cert.NormDxIdeal.nD Cert.NormDxIdeal.τ).loc Cert.NormDxIdeal.main_arg1)
      ∧ m' ((c.tc : Thread Cert.NormDxRefIdeal.nD Cert.NormDxRefIdeal.τ).loc Cert.NormDxRefIdeal.main_arg2) = m ((c.tc : Thread Cert.NormDxIdeal.nD Cert.NormDxIdeal.τ).loc Cert.NormDxIdeal.main_arg2)
      ∧ m' ((c.tc : Thread Cert.NormDxRefIdeal.nD Cert.NormDxRefIdeal.τ).loc Cert.NormDxRefIdeal.main_arg3) = m ((c.tc : Thread Cert.NormDxIdeal.nD Cert.NormDxIdeal.τ).loc Cert.NormDxIdeal.main_arg3)) →
    ∃ (v0 : (c : Dev Cert.NormDxIdeal.nD) → Buf (Elt Ideal) ((c.tc : Thread Cert.NormDxIdeal.nD Cert.NormDxIdeal.τ).loc Cert.NormDxIdeal.main_v0_0)) (v1 : (c : Dev Cert.NormDxIdeal.nD) → Buf (Elt Ideal) ((c.tc : Thread Cert.NormDxIdeal.nD Cert.NormDxIdeal.τ).loc Cert.NormDxIdeal.main_v0_1)),
      θ_run (Cert.NormDxIdeal.defs (F := Ideal)) (onTc (τ := Cert.NormDxIdeal.τ) (Cert.NormDxIdeal.main (F := Ideal))) ⟨m, fun _ => 0, g⟩ (fun r => ∀ c : Dev Cert.NormDxIdeal.nD,
          r.2.mem ((c.tc : Thread Cert.NormDxIdeal.nD Cert.NormDxIdeal.τ).loc Cert.NormDxIdeal.main_v0_0) = v0 c
          ∧ r.2.mem ((c.tc : Thread Cert.NormDxIdeal.nD Cert.NormDxIdeal.τ).loc Cert.NormDxIdeal.main_v0_1) = v1 c
          ∧ r.2.mem ((c.tc : Thread Cert.NormDxIdeal.nD Cert.NormDxIdeal.τ).loc Cert.NormDxIdeal.main_arg0) = m ((c.tc : Thread Cert.NormDxIdeal.nD Cert.NormDxIdeal.τ).loc Cert.NormDxIdeal.main_arg0)
          ∧ r.2.mem ((c.tc : Thread Cert.NormDxIdeal.nD Cert.NormDxIdeal.τ).loc Cert.NormDxIdeal.main_arg1) = m ((c.tc : Thread Cert.NormDxIdeal.nD Cert.NormDxIdeal.τ).loc Cert.NormDxIdeal.main_arg1)
          ∧ r.2.mem ((c.tc : Thread Cert.NormDxIdeal.nD Cert.NormDxIdeal.τ).loc Cert.NormDxIdeal.main_arg2) = m ((c.tc : Thread Cert.NormDxIdeal.nD Cert.NormDxIdeal.τ).loc Cert.NormDxIdeal.main_arg2)
          ∧ r.2.mem ((c.tc : Thread Cert.NormDxIdeal.nD Cert.NormDxIdeal.τ).loc Cert.NormDxIdeal.main_arg3) = m ((c.tc : Thread Cert.NormDxIdeal.nD Cert.NormDxIdeal.τ).loc Cert.NormDxIdeal.main_arg3))
      ∧ θ_run (Cert.NormDxRefIdeal.defs (F := Ideal)) (onTc (τ := Cert.NormDxRefIdeal.τ) (Cert.NormDxRefIdeal.main (F := Ideal))) ⟨m', fun _ => 0, g'⟩ (fun r => ∀ c : Dev Cert.NormDxRefIdeal.nD,
          r.2.mem ((c.tc : Thread Cert.NormDxRefIdeal.nD Cert.NormDxRefIdeal.τ).loc Cert.NormDxRefIdeal.main_v34) = v0 c
          ∧ r.2.mem ((c.tc : Thread Cert.NormDxRefIdeal.nD Cert.NormDxRefIdeal.τ).loc Cert.NormDxRefIdeal.main_v17) = v1 c
          ∧ r.2.mem ((c.tc : Thread Cert.NormDxRefIdeal.nD Cert.NormDxRefIdeal.τ).loc Cert.NormDxRefIdeal.main_arg0) = m' ((c.tc : Thread Cert.NormDxRefIdeal.nD Cert.NormDxRefIdeal.τ).loc Cert.NormDxRefIdeal.main_arg0)
          ∧ r.2.mem ((c.tc : Thread Cert.NormDxRefIdeal.nD Cert.NormDxRefIdeal.τ).loc Cert.NormDxRefIdeal.main_arg1) = m' ((c.tc : Thread Cert.NormDxRefIdeal.nD Cert.NormDxRefIdeal.τ).loc Cert.NormDxRefIdeal.main_arg1)
          ∧ r.2.mem ((c.tc : Thread Cert.NormDxRefIdeal.nD Cert.NormDxRefIdeal.τ).loc Cert.NormDxRefIdeal.main_arg2) = m' ((c.tc : Thread Cert.NormDxRefIdeal.nD Cert.NormDxRefIdeal.τ).loc Cert.NormDxRefIdeal.main_arg2)
          ∧ r.2.mem ((c.tc : Thread Cert.NormDxRefIdeal.nD Cert.NormDxRefIdeal.τ).loc Cert.NormDxRefIdeal.main_arg3) = m' ((c.tc : Thread Cert.NormDxRefIdeal.nD Cert.NormDxRefIdeal.τ).loc Cert.NormDxRefIdeal.main_arg3))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v38) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_ConvDx_ConvDxIdeal : Prop :=
  True

def algebraic_ConvDxIdeal_ConvDxRefIdeal [hConvDxIdeal : Cert.ConvDxIdeal.Facts] [hConvDxRefIdeal : Cert.ConvDxRefIdeal.Facts] : Prop :=
  ∀ (m : (ℓ : Loc Cert.ConvDxIdeal.nD Cert.ConvDxIdeal.τ Cert.ConvDxIdeal.sig) → Buf (Elt Ideal) ℓ) (g : Dev Cert.ConvDxIdeal.nD → PrngReg)
    (m' : (ℓ : Loc Cert.ConvDxRefIdeal.nD Cert.ConvDxRefIdeal.τ Cert.ConvDxRefIdeal.sig) → Buf (Elt Ideal) ℓ) (g' : Dev Cert.ConvDxRefIdeal.nD → PrngReg), Pre_ConvDxIdeal m →
    (∀ c : Dev Cert.ConvDxIdeal.nD,
      m' ((c.tc : Thread Cert.ConvDxRefIdeal.nD Cert.ConvDxRefIdeal.τ).loc Cert.ConvDxRefIdeal.main_arg0) = m ((c.tc : Thread Cert.ConvDxIdeal.nD Cert.ConvDxIdeal.τ).loc Cert.ConvDxIdeal.main_arg0)
      ∧ m' ((c.tc : Thread Cert.ConvDxRefIdeal.nD Cert.ConvDxRefIdeal.τ).loc Cert.ConvDxRefIdeal.main_arg1) = m ((c.tc : Thread Cert.ConvDxIdeal.nD Cert.ConvDxIdeal.τ).loc Cert.ConvDxIdeal.main_arg1)
      ∧ m' ((c.tc : Thread Cert.ConvDxRefIdeal.nD Cert.ConvDxRefIdeal.τ).loc Cert.ConvDxRefIdeal.main_arg2) = m ((c.tc : Thread Cert.ConvDxIdeal.nD Cert.ConvDxIdeal.τ).loc Cert.ConvDxIdeal.main_arg2)) →
    ∃ (v0 : (c : Dev Cert.ConvDxIdeal.nD) → Buf (Elt Ideal) ((c.tc : Thread Cert.ConvDxIdeal.nD Cert.ConvDxIdeal.τ).loc Cert.ConvDxIdeal.main_v0)),
      θ_run (Cert.ConvDxIdeal.defs (F := Ideal)) (onTc (τ := Cert.ConvDxIdeal.τ) (Cert.ConvDxIdeal.main (F := Ideal))) ⟨m, fun _ => 0, g⟩ (fun r => ∀ c : Dev Cert.ConvDxIdeal.nD,
          r.2.mem ((c.tc : Thread Cert.ConvDxIdeal.nD Cert.ConvDxIdeal.τ).loc Cert.ConvDxIdeal.main_v0) = v0 c
          ∧ r.2.mem ((c.tc : Thread Cert.ConvDxIdeal.nD Cert.ConvDxIdeal.τ).loc Cert.ConvDxIdeal.main_arg0) = m ((c.tc : Thread Cert.ConvDxIdeal.nD Cert.ConvDxIdeal.τ).loc Cert.ConvDxIdeal.main_arg0)
          ∧ r.2.mem ((c.tc : Thread Cert.ConvDxIdeal.nD Cert.ConvDxIdeal.τ).loc Cert.ConvDxIdeal.main_arg1) = m ((c.tc : Thread Cert.ConvDxIdeal.nD Cert.ConvDxIdeal.τ).loc Cert.ConvDxIdeal.main_arg1)
          ∧ r.2.mem ((c.tc : Thread Cert.ConvDxIdeal.nD Cert.ConvDxIdeal.τ).loc Cert.ConvDxIdeal.main_arg2) = m ((c.tc : Thread Cert.ConvDxIdeal.nD Cert.ConvDxIdeal.τ).loc Cert.ConvDxIdeal.main_arg2))
      ∧ θ_run (Cert.ConvDxRefIdeal.defs (F := Ideal)) (onTc (τ := Cert.ConvDxRefIdeal.τ) (Cert.ConvDxRefIdeal.main (F := Ideal))) ⟨m', fun _ => 0, g'⟩ (fun r => ∀ c : Dev Cert.ConvDxRefIdeal.nD,
          r.2.mem ((c.tc : Thread Cert.ConvDxRefIdeal.nD Cert.ConvDxRefIdeal.τ).loc Cert.ConvDxRefIdeal.main_v41) = v0 c
          ∧ r.2.mem ((c.tc : Thread Cert.ConvDxRefIdeal.nD Cert.ConvDxRefIdeal.τ).loc Cert.ConvDxRefIdeal.main_arg0) = m' ((c.tc : Thread Cert.ConvDxRefIdeal.nD Cert.ConvDxRefIdeal.τ).loc Cert.ConvDxRefIdeal.main_arg0)
          ∧ r.2.mem ((c.tc : Thread Cert.ConvDxRefIdeal.nD Cert.ConvDxRefIdeal.τ).loc Cert.ConvDxRefIdeal.main_arg1) = m' ((c.tc : Thread Cert.ConvDxRefIdeal.nD Cert.ConvDxRefIdeal.τ).loc Cert.ConvDxRefIdeal.main_arg1)
          ∧ r.2.mem ((c.tc : Thread Cert.ConvDxRefIdeal.nD Cert.ConvDxRefIdeal.τ).loc Cert.ConvDxRefIdeal.main_arg2) = m' ((c.tc : Thread Cert.ConvDxRefIdeal.nD Cert.ConvDxRefIdeal.τ).loc Cert.ConvDxRefIdeal.main_arg2))

def preserves_AdamKv_AdamKvIdeal : Prop :=
  IdealRules.named_const.Statement Cert.AdamKvIdeal.κ "inv_bias1" .f32 0x3FC48605#32 ((8388608 / 5463681 : ℝ) : EReal)
  ∧ IdealRules.named_const.Statement Cert.AdamKvIdeal.κ "inv_bias2" .f32 0x42C8E6D3#32 ((268435456 / 2672307 : ℝ) : EReal)

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v23) = v0 c
          ∧ r.2.mem ((c.tc : Thread Cert.AdamKvRefIdeal.nD Cert.AdamKvRefIdeal.τ).loc Cert.AdamKvRefIdeal.main_v4) = v1 c
          ∧ r.2.mem ((c.tc : Thread Cert.AdamKvRefIdeal.nD Cert.AdamKvRefIdeal.τ).loc Cert.AdamKvRefIdeal.main_v10) = v2 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamQ_AdamQIdeal : Prop :=
  IdealRules.named_const.Statement Cert.AdamQIdeal.κ "inv_bias1" .f32 0x3FC48605#32 ((8388608 / 5463681 : ℝ) : EReal)
  ∧ IdealRules.named_const.Statement Cert.AdamQIdeal.κ "inv_bias2" .f32 0x42C8E6D3#32 ((268435456 / 2672307 : ℝ) : EReal)

def algebraic_AdamQIdeal_AdamQRefIdeal [hAdamQIdeal : Cert.AdamQIdeal.Facts] [hAdamQRefIdeal : Cert.AdamQRefIdeal.Facts] : Prop :=
  ∀ (m : (ℓ : Loc Cert.AdamQIdeal.nD Cert.AdamQIdeal.τ Cert.AdamQIdeal.sig) → Buf (Elt Ideal) ℓ) (g : Dev Cert.AdamQIdeal.nD → PrngReg)
    (m' : (ℓ : Loc Cert.AdamQRefIdeal.nD Cert.AdamQRefIdeal.τ Cert.AdamQRefIdeal.sig) → Buf (Elt Ideal) ℓ) (g' : Dev Cert.AdamQRefIdeal.nD → PrngReg), Pre_AdamQIdeal m →
    (∀ c : Dev Cert.AdamQIdeal.nD,
      m' ((c.tc : Thread Cert.AdamQRefIdeal.nD Cert.AdamQRefIdeal.τ).loc Cert.AdamQRefIdeal.main_arg0) = m ((c.tc : Thread Cert.AdamQIdeal.nD Cert.AdamQIdeal.τ).loc Cert.AdamQIdeal.main_arg0)
      ∧ m' ((c.tc : Thread Cert.AdamQRefIdeal.nD Cert.AdamQRefIdeal.τ).loc Cert.AdamQRefIdeal.main_arg1) = m ((c.tc : Thread Cert.AdamQIdeal.nD Cert.AdamQIdeal.τ).loc Cert.AdamQIdeal.main_arg1)
      ∧ m' ((c.tc : Thread Cert.AdamQRefIdeal.nD Cert.AdamQRefIdeal.τ).loc Cert.AdamQRefIdeal.main_arg2) = m ((c.tc : Thread Cert.AdamQIdeal.nD Cert.AdamQIdeal.τ).loc Cert.AdamQIdeal.main_arg2)
      ∧ m' ((c.tc : Thread Cert.AdamQRefIdeal.nD Cert.AdamQRefIdeal.τ).loc Cert.AdamQRefIdeal.main_arg3) = m ((c.tc : Thread Cert.AdamQIdeal.nD Cert.AdamQIdeal.τ).loc Cert.AdamQIdeal.main_arg3)) →
    ∃ (v0 : (c : Dev Cert.AdamQIdeal.nD) → Buf (Elt Ideal) ((c.tc : Thread Cert.AdamQIdeal.nD Cert.AdamQIdeal.τ).loc Cert.AdamQIdeal.main_v0_0)) (v1 : (c : Dev Cert.AdamQIdeal.nD) → Buf (Elt Ideal) ((c.tc : Thread Cert.AdamQIdeal.nD Cert.AdamQIdeal.τ).loc Cert.AdamQIdeal.main_v0_1)) (v2 : (c : Dev Cert.AdamQIdeal.nD) → Buf (Elt Ideal) ((c.tc : Thread Cert.AdamQIdeal.nD Cert.AdamQIdeal.τ).loc Cert.AdamQIdeal.main_v0_2)),
      θ_run (Cert.AdamQIdeal.defs (F := Ideal)) (onTc (τ := Cert.AdamQIdeal.τ) (Cert.AdamQIdeal.main (F := Ideal))) ⟨m, fun _ => 0, g⟩ (fun r => ∀ c : Dev Cert.AdamQIdeal.nD,
          r.2.mem ((c.tc : Thread Cert.AdamQIdeal.nD Cert.AdamQIdeal.τ).loc Cert.AdamQIdeal.main_v0_0) = v0 c
          ∧ r.2.mem ((c.tc : Thread Cert.AdamQIdeal.nD Cert.AdamQIdeal.τ).loc Cert.AdamQIdeal.main_v0_1) = v1 c
          ∧ r.2.mem ((c.tc : Thread Cert.AdamQIdeal.nD Cert.AdamQIdeal.τ).loc Cert.AdamQIdeal.main_v0_2) = v2 c
          ∧ r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
          ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
          ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
          ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ θ_run (Cert.AdamQRefIdeal.defs (F := Ideal)) (onTc (τ := Cert.AdamQRefIdeal.τ) (Cert.AdamQRefIdeal.main (F := Ideal))) ⟨m', fun _ => 0, g'⟩ (fun r => ∀ c : Dev Cert.AdamQRefIdeal.nD,
          r.2.mem ((c.tc : Thread Cert.AdamQRefIdeal.nD Cert.AdamQRefIdeal.τ).loc Cert.AdamQRefIdeal.main_v23) = v0 c
          ∧ r.2.mem ((c.tc : Thread Cert.AdamQRefIdeal.nD Cert.AdamQRefIdeal.τ).loc Cert.AdamQRefIdeal.main_v4) = v1 c
          ∧ r.2.mem ((c.tc : Thread Cert.AdamQRefIdeal.nD Cert.AdamQRefIdeal.τ).loc Cert.AdamQRefIdeal.main_v10) = v2 c
          ∧ r.2.mem ((c.tc : Thread Cert.AdamQRefIdeal.nD Cert.AdamQRefIdeal.τ).loc Cert.AdamQRefIdeal.main_arg0) = m' ((c.tc : Thread Cert.AdamQRefIdeal.nD Cert.AdamQRefIdeal.τ).loc Cert.AdamQRefIdeal.main_arg0)
          ∧ r.2.mem ((c.tc : Thread Cert.AdamQRefIdeal.nD Cert.AdamQRefIdeal.τ).loc Cert.AdamQRefIdeal.main_arg1) = m' ((c.tc : Thread Cert.AdamQRefIdeal.nD Cert.AdamQRefIdeal.τ).loc Cert.AdamQRefIdeal.main_arg1)
          ∧ r.2.mem ((c.tc : Thread Cert.AdamQRefIdeal.nD Cert.AdamQRefIdeal.τ).loc Cert.AdamQRefIdeal.main_arg2) = m' ((c.tc : Thread Cert.AdamQRefIdeal.nD Cert.AdamQRefIdeal.τ).loc Cert.AdamQRefIdeal.main_arg2)
          ∧ r.2.mem ((c.tc : Thread Cert.AdamQRefIdeal.nD Cert.AdamQRefIdeal.τ).loc Cert.AdamQRefIdeal.main_arg3) = m' ((c.tc : Thread Cert.AdamQRefIdeal.nD Cert.AdamQRefIdeal.τ).loc Cert.AdamQRefIdeal.main_arg3))

def preserves_AdamOut_AdamOutIdeal : Prop :=
  IdealRules.named_const.Statement Cert.AdamOutIdeal.κ "inv_bias1" .f32 0x3FC48605#32 ((8388608 / 5463681 : ℝ) : EReal)
  ∧ IdealRules.named_const.Statement Cert.AdamOutIdeal.κ "inv_bias2" .f32 0x42C8E6D3#32 ((268435456 / 2672307 : ℝ) : EReal)

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamIn_AdamInIdeal : Prop :=
  IdealRules.named_const.Statement Cert.AdamInIdeal.κ "inv_bias1" .f32 0x3FC48605#32 ((8388608 / 5463681 : ℝ) : EReal)
  ∧ IdealRules.named_const.Statement Cert.AdamInIdeal.κ "inv_bias2" .f32 0x42C8E6D3#32 ((268435456 / 2672307 : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v24) = v0 c
          ∧ r.2.mem ((c.tc : Thread Cert.AdamInRefIdeal.nD Cert.AdamInRefIdeal.τ).loc Cert.AdamInRefIdeal.main_v5) = v1 c
          ∧ r.2.mem ((c.tc : Thread Cert.AdamInRefIdeal.nD Cert.AdamInRefIdeal.τ).loc Cert.AdamInRefIdeal.main_v11) = v2 c
          ∧ r.2.mem ((c.tc : Thread Cert.AdamInRefIdeal.nD Cert.AdamInRefIdeal.τ).loc Cert.AdamInRefIdeal.main_v0) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamSmall_AdamSmallIdeal : Prop :=
  IdealRules.named_const.Statement Cert.AdamSmallIdeal.κ "inv_bias1" .f32 0x3FC48605#32 ((8388608 / 5463681 : ℝ) : EReal)
  ∧ IdealRules.named_const.Statement Cert.AdamSmallIdeal.κ "inv_bias2" .f32 0x42C8E6D3#32 ((268435456 / 2672307 : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamUp_AdamUpIdeal : Prop :=
  IdealRules.named_const.Statement Cert.AdamUpIdeal.κ "inv_bias1" .f32 0x3FC48605#32 ((8388608 / 5463681 : ℝ) : EReal)
  ∧ IdealRules.named_const.Statement Cert.AdamUpIdeal.κ "inv_bias2" .f32 0x42C8E6D3#32 ((268435456 / 2672307 : ℝ) : EReal)

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v26) = v0 c
          ∧ r.2.mem ((c.tc : Thread Cert.AdamUpRefIdeal.nD Cert.AdamUpRefIdeal.τ).loc Cert.AdamUpRefIdeal.main_v7) = v1 c
          ∧ r.2.mem ((c.tc : Thread Cert.AdamUpRefIdeal.nD Cert.AdamUpRefIdeal.τ).loc Cert.AdamUpRefIdeal.main_v13) = v2 c
          ∧ r.2.mem ((c.tc : Thread Cert.AdamUpRefIdeal.nD Cert.AdamUpRefIdeal.τ).loc Cert.AdamUpRefIdeal.main_v2) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamDown_AdamDownIdeal : Prop :=
  IdealRules.named_const.Statement Cert.AdamDownIdeal.κ "inv_bias1" .f32 0x3FC48605#32 ((8388608 / 5463681 : ℝ) : EReal)
  ∧ IdealRules.named_const.Statement Cert.AdamDownIdeal.κ "inv_bias2" .f32 0x42C8E6D3#32 ((268435456 / 2672307 : ℝ) : EReal)

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v26) = v0 c
          ∧ r.2.mem ((c.tc : Thread Cert.AdamDownRefIdeal.nD Cert.AdamDownRefIdeal.τ).loc Cert.AdamDownRefIdeal.main_v7) = v1 c
          ∧ r.2.mem ((c.tc : Thread Cert.AdamDownRefIdeal.nD Cert.AdamDownRefIdeal.τ).loc Cert.AdamDownRefIdeal.main_v13) = v2 c
          ∧ r.2.mem ((c.tc : Thread Cert.AdamDownRefIdeal.nD Cert.AdamDownRefIdeal.τ).loc Cert.AdamDownRefIdeal.main_v2) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def Claim : Prop :=
  ∃ (hKernel : Cert.Kernel.Facts) (hKernelIdeal : Cert.KernelIdeal.Facts) (hReferenceIdeal : Cert.ReferenceIdeal.Facts) (hGlaProj : Cert.GlaProj.Facts) (hGlaProjIdeal : Cert.GlaProjIdeal.Facts) (hGlaProjRefIdeal : Cert.GlaProjRefIdeal.Facts) (hGlaProjDx : Cert.GlaProjDx.Facts) (hGlaProjDxIdeal : Cert.GlaProjDxIdeal.Facts) (hGlaProjDxRefIdeal : Cert.GlaProjDxRefIdeal.Facts) (hGlaProjDw : Cert.GlaProjDw.Facts) (hGlaProjDwIdeal : Cert.GlaProjDwIdeal.Facts) (hGlaProjDwRefIdeal : Cert.GlaProjDwRefIdeal.Facts) (hGateProj : Cert.GateProj.Facts) (hGateProjIdeal : Cert.GateProjIdeal.Facts) (hGateProjRefIdeal : Cert.GateProjRefIdeal.Facts) (hGateProjDx : Cert.GateProjDx.Facts) (hGateProjDxIdeal : Cert.GateProjDxIdeal.Facts) (hGateProjDxRefIdeal : Cert.GateProjDxRefIdeal.Facts) (hGateProjDw : Cert.GateProjDw.Facts) (hGateProjDwIdeal : Cert.GateProjDwIdeal.Facts) (hGateProjDwRefIdeal : Cert.GateProjDwRefIdeal.Facts) (hMixOut : Cert.MixOut.Facts) (hMixOutIdeal : Cert.MixOutIdeal.Facts) (hMixOutRefIdeal : Cert.MixOutRefIdeal.Facts) (hMixOutDx : Cert.MixOutDx.Facts) (hMixOutDxIdeal : Cert.MixOutDxIdeal.Facts) (hMixOutDxRefIdeal : Cert.MixOutDxRefIdeal.Facts) (hMixOutDw : Cert.MixOutDw.Facts) (hMixOutDwIdeal : Cert.MixOutDwIdeal.Facts) (hMixOutDwRefIdeal : Cert.MixOutDwRefIdeal.Facts) (hKvProj : Cert.KvProj.Facts) (hKvProjIdeal : Cert.KvProjIdeal.Facts) (hKvProjRefIdeal : Cert.KvProjRefIdeal.Facts) (hKvProjDx : Cert.KvProjDx.Facts) (hKvProjDxIdeal : Cert.KvProjDxIdeal.Facts) (hKvProjDxRefIdeal : Cert.KvProjDxRefIdeal.Facts) (hKvProjDw : Cert.KvProjDw.Facts) (hKvProjDwIdeal : Cert.KvProjDwIdeal.Facts) (hKvProjDwRefIdeal : Cert.KvProjDwRefIdeal.Facts) (hQProj : Cert.QProj.Facts) (hQProjIdeal : Cert.QProjIdeal.Facts) (hQProjRefIdeal : Cert.QProjRefIdeal.Facts) (hQProjDx : Cert.QProjDx.Facts) (hQProjDxIdeal : Cert.QProjDxIdeal.Facts) (hQProjDxRefIdeal : Cert.QProjDxRefIdeal.Facts) (hQProjDw : Cert.QProjDw.Facts) (hQProjDwIdeal : Cert.QProjDwIdeal.Facts) (hQProjDwRefIdeal : Cert.QProjDwRefIdeal.Facts) (hUp : Cert.Up.Facts) (hUpIdeal : Cert.UpIdeal.Facts) (hUpRefIdeal : Cert.UpRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDown : Cert.Down.Facts) (hDownIdeal : Cert.DownIdeal.Facts) (hDownRefIdeal : Cert.DownRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hNorm : Cert.Norm.Facts) (hNormIdeal : Cert.NormIdeal.Facts) (hNormRefIdeal : Cert.NormRefIdeal.Facts) (hNormPair : Cert.NormPair.Facts) (hNormPairIdeal : Cert.NormPairIdeal.Facts) (hNormPairRefIdeal : Cert.NormPairRefIdeal.Facts) (hNormDx : Cert.NormDx.Facts) (hNormDxIdeal : Cert.NormDxIdeal.Facts) (hNormDxRefIdeal : Cert.NormDxRefIdeal.Facts) (hGlu : Cert.Glu.Facts) (hGluIdeal : Cert.GluIdeal.Facts) (hGluRefIdeal : Cert.GluRefIdeal.Facts) (hConvDx : Cert.ConvDx.Facts) (hConvDxIdeal : Cert.ConvDxIdeal.Facts) (hConvDxRefIdeal : Cert.ConvDxRefIdeal.Facts) (hAdamKv : Cert.AdamKv.Facts) (hAdamKvIdeal : Cert.AdamKvIdeal.Facts) (hAdamKvRefIdeal : Cert.AdamKvRefIdeal.Facts) (hAdamQ : Cert.AdamQ.Facts) (hAdamQIdeal : Cert.AdamQIdeal.Facts) (hAdamQRefIdeal : Cert.AdamQRefIdeal.Facts) (hAdamOut : Cert.AdamOut.Facts) (hAdamOutIdeal : Cert.AdamOutIdeal.Facts) (hAdamOutRefIdeal : Cert.AdamOutRefIdeal.Facts) (hAdamIn : Cert.AdamIn.Facts) (hAdamInIdeal : Cert.AdamInIdeal.Facts) (hAdamInRefIdeal : Cert.AdamInRefIdeal.Facts) (hAdamSmall : Cert.AdamSmall.Facts) (hAdamSmallIdeal : Cert.AdamSmallIdeal.Facts) (hAdamSmallRefIdeal : Cert.AdamSmallRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts),
    quiescent_Kernel (hKernel := hKernel)
    ∧ quiescent_KernelIdeal (hKernelIdeal := hKernelIdeal)
    ∧ quiescent_ReferenceIdeal (hReferenceIdeal := hReferenceIdeal)
    ∧ quiescent_GlaProj (hGlaProj := hGlaProj)
    ∧ quiescent_GlaProjIdeal (hGlaProjIdeal := hGlaProjIdeal)
    ∧ quiescent_GlaProjRefIdeal (hGlaProjRefIdeal := hGlaProjRefIdeal)
    ∧ quiescent_GlaProjDx (hGlaProjDx := hGlaProjDx)
    ∧ quiescent_GlaProjDxIdeal (hGlaProjDxIdeal := hGlaProjDxIdeal)
    ∧ quiescent_GlaProjDxRefIdeal (hGlaProjDxRefIdeal := hGlaProjDxRefIdeal)
    ∧ quiescent_GlaProjDw (hGlaProjDw := hGlaProjDw)
    ∧ quiescent_GlaProjDwIdeal (hGlaProjDwIdeal := hGlaProjDwIdeal)
    ∧ quiescent_GlaProjDwRefIdeal (hGlaProjDwRefIdeal := hGlaProjDwRefIdeal)
    ∧ quiescent_GateProj (hGateProj := hGateProj)
    ∧ quiescent_GateProjIdeal (hGateProjIdeal := hGateProjIdeal)
    ∧ quiescent_GateProjRefIdeal (hGateProjRefIdeal := hGateProjRefIdeal)
    ∧ quiescent_GateProjDx (hGateProjDx := hGateProjDx)
    ∧ quiescent_GateProjDxIdeal (hGateProjDxIdeal := hGateProjDxIdeal)
    ∧ quiescent_GateProjDxRefIdeal (hGateProjDxRefIdeal := hGateProjDxRefIdeal)
    ∧ quiescent_GateProjDw (hGateProjDw := hGateProjDw)
    ∧ quiescent_GateProjDwIdeal (hGateProjDwIdeal := hGateProjDwIdeal)
    ∧ quiescent_GateProjDwRefIdeal (hGateProjDwRefIdeal := hGateProjDwRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixOutDx (hMixOutDx := hMixOutDx)
    ∧ quiescent_MixOutDxIdeal (hMixOutDxIdeal := hMixOutDxIdeal)
    ∧ quiescent_MixOutDxRefIdeal (hMixOutDxRefIdeal := hMixOutDxRefIdeal)
    ∧ quiescent_MixOutDw (hMixOutDw := hMixOutDw)
    ∧ quiescent_MixOutDwIdeal (hMixOutDwIdeal := hMixOutDwIdeal)
    ∧ quiescent_MixOutDwRefIdeal (hMixOutDwRefIdeal := hMixOutDwRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_KvProjDx (hKvProjDx := hKvProjDx)
    ∧ quiescent_KvProjDxIdeal (hKvProjDxIdeal := hKvProjDxIdeal)
    ∧ quiescent_KvProjDxRefIdeal (hKvProjDxRefIdeal := hKvProjDxRefIdeal)
    ∧ quiescent_KvProjDw (hKvProjDw := hKvProjDw)
    ∧ quiescent_KvProjDwIdeal (hKvProjDwIdeal := hKvProjDwIdeal)
    ∧ quiescent_KvProjDwRefIdeal (hKvProjDwRefIdeal := hKvProjDwRefIdeal)
    ∧ quiescent_QProj (hQProj := hQProj)
    ∧ quiescent_QProjIdeal (hQProjIdeal := hQProjIdeal)
    ∧ quiescent_QProjRefIdeal (hQProjRefIdeal := hQProjRefIdeal)
    ∧ quiescent_QProjDx (hQProjDx := hQProjDx)
    ∧ quiescent_QProjDxIdeal (hQProjDxIdeal := hQProjDxIdeal)
    ∧ quiescent_QProjDxRefIdeal (hQProjDxRefIdeal := hQProjDxRefIdeal)
    ∧ quiescent_QProjDw (hQProjDw := hQProjDw)
    ∧ quiescent_QProjDwIdeal (hQProjDwIdeal := hQProjDwIdeal)
    ∧ quiescent_QProjDwRefIdeal (hQProjDwRefIdeal := hQProjDwRefIdeal)
    ∧ quiescent_Up (hUp := hUp)
    ∧ quiescent_UpIdeal (hUpIdeal := hUpIdeal)
    ∧ quiescent_UpRefIdeal (hUpRefIdeal := hUpRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_Down (hDown := hDown)
    ∧ quiescent_DownIdeal (hDownIdeal := hDownIdeal)
    ∧ quiescent_DownRefIdeal (hDownRefIdeal := hDownRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_Norm (hNorm := hNorm)
    ∧ quiescent_NormIdeal (hNormIdeal := hNormIdeal)
    ∧ quiescent_NormRefIdeal (hNormRefIdeal := hNormRefIdeal)
    ∧ quiescent_NormPair (hNormPair := hNormPair)
    ∧ quiescent_NormPairIdeal (hNormPairIdeal := hNormPairIdeal)
    ∧ quiescent_NormPairRefIdeal (hNormPairRefIdeal := hNormPairRefIdeal)
    ∧ quiescent_NormDx (hNormDx := hNormDx)
    ∧ quiescent_NormDxIdeal (hNormDxIdeal := hNormDxIdeal)
    ∧ quiescent_NormDxRefIdeal (hNormDxRefIdeal := hNormDxRefIdeal)
    ∧ quiescent_Glu (hGlu := hGlu)
    ∧ quiescent_GluIdeal (hGluIdeal := hGluIdeal)
    ∧ quiescent_GluRefIdeal (hGluRefIdeal := hGluRefIdeal)
    ∧ quiescent_ConvDx (hConvDx := hConvDx)
    ∧ quiescent_ConvDxIdeal (hConvDxIdeal := hConvDxIdeal)
    ∧ quiescent_ConvDxRefIdeal (hConvDxRefIdeal := hConvDxRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamQ (hAdamQ := hAdamQ)
    ∧ quiescent_AdamQIdeal (hAdamQIdeal := hAdamQIdeal)
    ∧ quiescent_AdamQRefIdeal (hAdamQRefIdeal := hAdamQRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ preserves_Kernel_KernelIdeal
    ∧ algebraic_KernelIdeal_ReferenceIdeal (hKernelIdeal := hKernelIdeal) (hReferenceIdeal := hReferenceIdeal)
    ∧ preserves_GlaProj_GlaProjIdeal
    ∧ algebraic_GlaProjIdeal_GlaProjRefIdeal (hGlaProjIdeal := hGlaProjIdeal) (hGlaProjRefIdeal := hGlaProjRefIdeal)
    ∧ preserves_GlaProjDx_GlaProjDxIdeal
    ∧ algebraic_GlaProjDxIdeal_GlaProjDxRefIdeal (hGlaProjDxIdeal := hGlaProjDxIdeal) (hGlaProjDxRefIdeal := hGlaProjDxRefIdeal)
    ∧ preserves_GlaProjDw_GlaProjDwIdeal
    ∧ algebraic_GlaProjDwIdeal_GlaProjDwRefIdeal (hGlaProjDwIdeal := hGlaProjDwIdeal) (hGlaProjDwRefIdeal := hGlaProjDwRefIdeal)
    ∧ preserves_GateProj_GateProjIdeal
    ∧ algebraic_GateProjIdeal_GateProjRefIdeal (hGateProjIdeal := hGateProjIdeal) (hGateProjRefIdeal := hGateProjRefIdeal)
    ∧ preserves_GateProjDx_GateProjDxIdeal
    ∧ algebraic_GateProjDxIdeal_GateProjDxRefIdeal (hGateProjDxIdeal := hGateProjDxIdeal) (hGateProjDxRefIdeal := hGateProjDxRefIdeal)
    ∧ preserves_GateProjDw_GateProjDwIdeal
    ∧ algebraic_GateProjDwIdeal_GateProjDwRefIdeal (hGateProjDwIdeal := hGateProjDwIdeal) (hGateProjDwRefIdeal := hGateProjDwRefIdeal)
    ∧ preserves_MixOut_MixOutIdeal
    ∧ algebraic_MixOutIdeal_MixOutRefIdeal (hMixOutIdeal := hMixOutIdeal) (hMixOutRefIdeal := hMixOutRefIdeal)
    ∧ preserves_MixOutDx_MixOutDxIdeal
    ∧ algebraic_MixOutDxIdeal_MixOutDxRefIdeal (hMixOutDxIdeal := hMixOutDxIdeal) (hMixOutDxRefIdeal := hMixOutDxRefIdeal)
    ∧ preserves_MixOutDw_MixOutDwIdeal
    ∧ algebraic_MixOutDwIdeal_MixOutDwRefIdeal (hMixOutDwIdeal := hMixOutDwIdeal) (hMixOutDwRefIdeal := hMixOutDwRefIdeal)
    ∧ preserves_KvProj_KvProjIdeal
    ∧ algebraic_KvProjIdeal_KvProjRefIdeal (hKvProjIdeal := hKvProjIdeal) (hKvProjRefIdeal := hKvProjRefIdeal)
    ∧ preserves_KvProjDx_KvProjDxIdeal
    ∧ algebraic_KvProjDxIdeal_KvProjDxRefIdeal (hKvProjDxIdeal := hKvProjDxIdeal) (hKvProjDxRefIdeal := hKvProjDxRefIdeal)
    ∧ preserves_KvProjDw_KvProjDwIdeal
    ∧ algebraic_KvProjDwIdeal_KvProjDwRefIdeal (hKvProjDwIdeal := hKvProjDwIdeal) (hKvProjDwRefIdeal := hKvProjDwRefIdeal)
    ∧ preserves_QProj_QProjIdeal
    ∧ algebraic_QProjIdeal_QProjRefIdeal (hQProjIdeal := hQProjIdeal) (hQProjRefIdeal := hQProjRefIdeal)
    ∧ preserves_QProjDx_QProjDxIdeal
    ∧ algebraic_QProjDxIdeal_QProjDxRefIdeal (hQProjDxIdeal := hQProjDxIdeal) (hQProjDxRefIdeal := hQProjDxRefIdeal)
    ∧ preserves_QProjDw_QProjDwIdeal
    ∧ algebraic_QProjDwIdeal_QProjDwRefIdeal (hQProjDwIdeal := hQProjDwIdeal) (hQProjDwRefIdeal := hQProjDwRefIdeal)
    ∧ preserves_Up_UpIdeal
    ∧ algebraic_UpIdeal_UpRefIdeal (hUpIdeal := hUpIdeal) (hUpRefIdeal := hUpRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_Down_DownIdeal
    ∧ algebraic_DownIdeal_DownRefIdeal (hDownIdeal := hDownIdeal) (hDownRefIdeal := hDownRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_Norm_NormIdeal
    ∧ algebraic_NormIdeal_NormRefIdeal (hNormIdeal := hNormIdeal) (hNormRefIdeal := hNormRefIdeal)
    ∧ preserves_NormPair_NormPairIdeal
    ∧ algebraic_NormPairIdeal_NormPairRefIdeal (hNormPairIdeal := hNormPairIdeal) (hNormPairRefIdeal := hNormPairRefIdeal)
    ∧ preserves_NormDx_NormDxIdeal
    ∧ algebraic_NormDxIdeal_NormDxRefIdeal (hNormDxIdeal := hNormDxIdeal) (hNormDxRefIdeal := hNormDxRefIdeal)
    ∧ preserves_Glu_GluIdeal
    ∧ algebraic_GluIdeal_GluRefIdeal (hGluIdeal := hGluIdeal) (hGluRefIdeal := hGluRefIdeal)
    ∧ preserves_ConvDx_ConvDxIdeal
    ∧ algebraic_ConvDxIdeal_ConvDxRefIdeal (hConvDxIdeal := hConvDxIdeal) (hConvDxRefIdeal := hConvDxRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamQ_AdamQIdeal
    ∧ algebraic_AdamQIdeal_AdamQRefIdeal (hAdamQIdeal := hAdamQIdeal) (hAdamQRefIdeal := hAdamQRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamIn_AdamInIdeal
    ∧ algebraic_AdamInIdeal_AdamInRefIdeal (hAdamInIdeal := hAdamInIdeal) (hAdamInRefIdeal := hAdamInRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
-- ==== Kernel.lean ====
abbrev S4096x6144 : Shape := ⟨2, ![4096, 6144]⟩
abbrev S4096x1024 : Shape := ⟨2, ![4096, 1024]⟩
abbrev S4096x2048 : Shape := ⟨2, ![4096, 2048]⟩
abbrev S4x64x512x256 : Shape := ⟨4, ![4, 64, 512, 256]⟩
abbrev S512x256 : Shape := ⟨2, ![512, 256]⟩
abbrev S512x512 : Shape := ⟨2, ![512, 512]⟩
abbrev S1x8x512x256 : Shape := ⟨4, ![1, 8, 512, 256]⟩
abbrev S64x64 : Shape := ⟨2, ![64, 64]⟩
abbrev S64x256 : Shape := ⟨2, ![64, 256]⟩
abbrev S1x256 : Shape := ⟨2, ![1, 256]⟩
abbrev S64x512 : Shape := ⟨2, ![64, 512]⟩
abbrev S1x1x512x256 : Shape := ⟨4, ![1, 1, 512, 256]⟩
abbrev S256 : Shape := ⟨1, ![256]⟩

abbrev nBuf : Space → Nat
  | .hbm => 9
  | .vmem => 34
  | .smem => 0
  | _ => 0

abbrev bufTy : (tb : Table) → Fin (tcTables nBuf tb) → BufTy
  | .hbm, ⟨0, _⟩ => ⟨S4096x6144, .f32⟩
  | .hbm, ⟨1, _⟩ => ⟨S4096x1024, .f32⟩
  | .hbm, ⟨2, _⟩ => ⟨S4096x2048, .bf16⟩
  | .hbm, ⟨3, _⟩ => ⟨S4096x2048, .f32⟩
  | .hbm, ⟨4, _⟩ => ⟨S4x64x512x256, .f32⟩
  | .hbm, ⟨5, _⟩ => ⟨S4096x1024, .bf16⟩
  | .hbm, ⟨6, _⟩ => ⟨S4096x1024, .bf16⟩
  | .hbm, ⟨7, _⟩ => ⟨S4096x2048, .bf16⟩
  | .hbm, ⟨8, _⟩ => ⟨S4096x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x512, .f32⟩
  | .local _ .vmem, ⟨9, _⟩ => ⟨S512x512, .f32⟩
  | .local _ .vmem, ⟨10, _⟩ => ⟨S1x8x512x256, .f32⟩
  | .local _ .vmem, ⟨11, _⟩ => ⟨S1x8x512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x512, .f32⟩
  | .local _ .vmem, ⟨18, _⟩ => ⟨S512x512, .f32⟩
  | .local _ .vmem, ⟨19, _⟩ => ⟨S512x256, .f32⟩
  | .local _ .vmem, ⟨20, _⟩ => ⟨S512x256, .f32⟩
  | .local _ .vmem, ⟨21, _⟩ => ⟨S1x8x512x256, .f32⟩
  | .local _ .vmem, ⟨22, _⟩ => ⟨S1x8x512x256, .f32⟩
  | .local _ .vmem, ⟨23, _⟩ => ⟨S512x512, .bf16⟩
  | .local _ .vmem, ⟨24, _⟩ => ⟨S512x512, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x512, .bf16⟩
  | .local _ .vmem, ⟨30, _⟩ => ⟨S512x512, .bf16⟩
  | .local _ .vmem, ⟨31, _⟩ => ⟨S512x256, .f32⟩
  | .local _ .vmem, ⟨32, _⟩ => ⟨S512x256, .f32⟩
  | .local _ .vmem, ⟨33, _⟩ => ⟨S512x256, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c4_i32 : BitVec 32 := 4#32
  let v1 : BitVec 32 := Scalar.addi c4_i32 arg0
  let c0_i32 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c4_i32 : BitVec 32 := 4#32
  let v1 : BitVec 32 := Scalar.addi c4_i32 arg0
  let c0_i32 : BitVec 32 := 0#32
  ![v0.toNat, v1.toNat]

def cc1_transform_3 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc1_transform_4 (i : grid1.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc1_transform_6 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc1_transform_7 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc1_transform_8 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc1_transform_9 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x8x512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S512x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S512x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== ReferenceIdeal.lean ====
abbrev S4096x6144 : Shape := ⟨2, ![4096, 6144]⟩
abbrev S4096x1024 : Shape := ⟨2, ![4096, 1024]⟩
abbrev S4096x2048 : Shape := ⟨2, ![4096, 2048]⟩
abbrev S64x64x4x256 : Shape := ⟨4, ![64, 64, 4, 256]⟩
abbrev S64x4x64x256 : Shape := ⟨4, ![64, 4, 64, 256]⟩
abbrev S_ : Shape := ⟨0, ![]⟩
abbrev S64x64x4x512 : Shape := ⟨4, ![64, 64, 4, 512]⟩
abbrev S64x4x64x512 : Shape := ⟨4, ![64, 4, 64, 512]⟩
abbrev S64x4x1x256 : Shape := ⟨4, ![64, 4, 1, 256]⟩
abbrev S64x64 : Shape := ⟨2, ![64, 64]⟩
abbrev S64x4x64x64 : Shape := ⟨4, ![64, 4, 64, 64]⟩
abbrev S4x256x512 : Shape := ⟨3, ![4, 256, 512]⟩
abbrev S64x4x256 : Shape := ⟨3, ![64, 4, 256]⟩
abbrev S64x4x256x512 : Shape := ⟨4, ![64, 4, 256, 512]⟩
abbrev S64x4x256x1 : Shape := ⟨4, ![64, 4, 256, 1]⟩
abbrev S1x4x64x256 : Shape := ⟨4, ![1, 4, 64, 256]⟩
abbrev S4x64x256 : Shape := ⟨3, ![4, 64, 256]⟩
abbrev S1x4x64x512 : Shape := ⟨4, ![1, 4, 64, 512]⟩
abbrev S4x64x512 : Shape := ⟨3, ![4, 64, 512]⟩
abbrev S1x4x256 : Shape := ⟨3, ![1, 4, 256]⟩
abbrev S4x256 : Shape := ⟨2, ![4, 256]⟩
abbrev S4x256x1 : Shape := ⟨3, ![4, 256, 1]⟩
abbrev S1x4x256x512 : Shape := ⟨4, ![1, 4, 256, 512]⟩
abbrev S1x4x256x1 : Shape := ⟨4, ![1, 4, 256, 1]⟩
abbrev S4x512x64 : Shape := ⟨3, ![4, 512, 64]⟩
abbrev S4x256x64 : Shape := ⟨3, ![4, 256, 64]⟩
abbrev S4x512x256 : Shape := ⟨3, ![4, 512, 256]⟩
abbrev S64x4x512x64 : Shape := ⟨4, ![64, 4, 512, 64]⟩

abbrev nBuf : Space → Nat
  | .hbm => 263
  | .vmem => 0
  | .smem => 0
  | _ => 0

abbrev hbmTy0_0 (i : Nat) : BufTy := match i % 128 with
  | 0 => ⟨S4096x6144, .f32⟩
  | 1 => ⟨S4096x1024, .f32⟩
  | 2 => ⟨S4096x2048, .bf16⟩
  | 3 => ⟨S4096x1024, .f32⟩
  | 4 => ⟨S4096x1024, .f32⟩
  | 5 => ⟨S4096x2048, .f32⟩
  | 6 => ⟨S4096x2048, .f32⟩
  | 7 => ⟨S64x64x4x256, .f32⟩
  | 8 => ⟨S64x4x64x256, .f32⟩
  | 9 => ⟨S_, .f32⟩
  | 10 => ⟨S64x4x64x256, .f32⟩
  | 11 => ⟨S64x4x64x256, .f32⟩
  | 12 => ⟨S64x64x4x256, .f32⟩
  | 13 => ⟨S64x4x64x256, .f32⟩
  | 14 => ⟨S64x64x4x512, .f32⟩
  | 15 => ⟨S64x4x64x512, .f32⟩
  | 16 => ⟨S64x64x4x256, .f32⟩
  | 17 => ⟨S64x4x64x256, .f32⟩
  | 18 => ⟨S64x4x1x256, .f32⟩
  | 19 => ⟨S64x4x64x256, .f32⟩
  | 20 => ⟨S64x4x64x256, .f32⟩
  | 21 => ⟨S64x4x64x256, .f32⟩
  | 22 => ⟨S64x4x64x256, .f32⟩
  | 23 => ⟨S64x4x64x256, .f32⟩
  | 24 => ⟨S64x4x64x256, .f32⟩
  | 25 => ⟨S64x4x64x256, .f32⟩
  | 26 => ⟨S64x4x64x256, .f32⟩
  | 27 => ⟨S64x4x64x256, .f32⟩
  | 28 => ⟨S_, .i1⟩
  | 29 => ⟨S64x64, .i1⟩
  | 30 => ⟨S64x64, .i32⟩
  | 31 => ⟨S_, .i32⟩
  | 32 => ⟨S64x64, .i32⟩
  | 33 => ⟨S64x64, .i32⟩
  | 34 => ⟨S64x64, .i32⟩
  | 35 => ⟨S64x64, .i1⟩
  | 36 => ⟨S_, .i1⟩
  | 37 => ⟨S64x64, .i1⟩
  | 38 => ⟨S64x64, .i1⟩
  | 39 => ⟨S64x4x64x64, .f32⟩
  | 40 => ⟨S_, .f32⟩
  | 41 => ⟨S_, .f32⟩
  | 42 => ⟨S64x4x64x64, .i1⟩
  | 43 => ⟨S64x4x64x64, .f32⟩
  | 44 => ⟨S64x4x64x64, .f32⟩
  | 45 => ⟨S_, .f32⟩
  | 46 => ⟨S64x4x64x64, .f32⟩
  | 47 => ⟨S64x4x64x512, .f32⟩
  | 48 => ⟨S_, .f32⟩
  | 49 => ⟨S4x256x512, .f32⟩
  | 50 => ⟨S64x4x256, .f32⟩
  | 51 => ⟨S64x4x256, .f32⟩
  | 52 => ⟨S_, .f32⟩
  | 53 => ⟨S64x4x64x512, .f32⟩
  | 54 => ⟨S_, .f32⟩
  | 55 => ⟨S64x4x256x512, .f32⟩
  | 56 => ⟨S_, .f32⟩
  | 57 => ⟨S64x4x256x1, .f32⟩
  | 58 => ⟨S_, .i32⟩
  | 59 => ⟨S64x4x64x256, .f32⟩
  | 60 => ⟨S64x4x64x256, .f32⟩
  | 61 => ⟨S64x4x64x512, .f32⟩
  | 62 => ⟨S64x4x256, .f32⟩
  | 63 => ⟨S_, .i32⟩
  | 64 => ⟨S4x256x512, .f32⟩
  | 65 => ⟨S64x4x64x512, .f32⟩
  | 66 => ⟨S64x4x256x512, .f32⟩
  | 67 => ⟨S64x4x256x1, .f32⟩
  | 68 => ⟨S_, .i32⟩
  | 69 => ⟨S_, .i1⟩
  | 70 => ⟨S_, .i32⟩
  | 71 => ⟨S_, .i32⟩
  | 72 => ⟨S_, .i32⟩
  | 73 => ⟨S1x4x64x256, .f32⟩
  | 74 => ⟨S4x64x256, .f32⟩
  | 75 => ⟨S_, .i32⟩
  | 76 => ⟨S_, .i32⟩
  | 77 => ⟨S_, .i32⟩
  | 78 => ⟨S1x4x64x256, .f32⟩
  | 79 => ⟨S4x64x256, .f32⟩
  | 80 => ⟨S_, .i32⟩
  | 81 => ⟨S_, .i32⟩
  | 82 => ⟨S_, .i32⟩
  | 83 => ⟨S1x4x64x512, .f32⟩
  | 84 => ⟨S4x64x512, .f32⟩
  | 85 => ⟨S_, .i32⟩
  | 86 => ⟨S_, .i32⟩
  | 87 => ⟨S1x4x256, .f32⟩
  | 88 => ⟨S4x256, .f32⟩
  | 89 => ⟨S4x64x512, .f32⟩
  | 90 => ⟨S4x256x1, .f32⟩
  | 91 => ⟨S4x256x512, .f32⟩
  | 92 => ⟨S4x256x512, .f32⟩
  | 93 => ⟨S4x256x512, .f32⟩
  | 94 => ⟨S4x256x512, .f32⟩
  | 95 => ⟨S1x4x64x512, .f32⟩
  | 96 => ⟨S_, .i32⟩
  | 97 => ⟨S_, .i32⟩
  | 98 => ⟨S_, .i32⟩
  | 99 => ⟨S64x4x64x512, .f32⟩
  | 100 => ⟨S1x4x256x512, .f32⟩
  | 101 => ⟨S_, .i32⟩
  | 102 => ⟨S_, .i32⟩
  | 103 => ⟨S_, .i32⟩
  | 104 => ⟨S64x4x256x512, .f32⟩
  | 105 => ⟨S1x4x256x1, .f32⟩
  | 106 => ⟨S_, .i32⟩
  | 107 => ⟨S_, .i32⟩
  | 108 => ⟨S_, .i32⟩
  | 109 => ⟨S64x4x256x1, .f32⟩
  | 110 => ⟨S_, .i32⟩
  | 111 => ⟨S_, .i32⟩
  | 112 => ⟨S64x4x64x512, .f32⟩
  | 113 => ⟨S64x64x4x512, .f32⟩
  | 114 => ⟨S4096x2048, .f32⟩
  | 115 => ⟨S4096x2048, .f32⟩
  | 116 => ⟨S_, .f32⟩
  | 117 => ⟨S4x256x512, .f32⟩
  | 118 => ⟨S64x64x4x512, .f32⟩
  | 119 => ⟨S64x4x64x512, .f32⟩
  | 120 => ⟨S_, .f32⟩
  | 121 => ⟨S4x256x512, .f32⟩
  | 122 => ⟨S_, .f32⟩
  | 123 => ⟨S64x4x64x256, .f32⟩
  | 124 => ⟨S_, .f32⟩
  | 125 => ⟨S64x4x64x256, .f32⟩
  | 126 => ⟨S_, .f32⟩
  | 127 => ⟨S64x4x64x512, .f32⟩
  | _ => ⟨S4096x6144, .f32⟩

abbrev hbmTy0_1 (i : Nat) : BufTy := match i % 128 with
  | 0 => ⟨S_, .f32⟩
  | 1 => ⟨S64x4x256, .f32⟩
  | 2 => ⟨S_, .i32⟩
  | 3 => ⟨S64x4x64x512, .f32⟩
  | 4 => ⟨S64x4x256x512, .f32⟩
  | 5 => ⟨S64x4x64x256, .f32⟩
  | 6 => ⟨S64x4x256x1, .f32⟩
  | 7 => ⟨S64x4x64x512, .f32⟩
  | 8 => ⟨S64x4x64x256, .f32⟩
  | 9 => ⟨S_, .i32⟩
  | 10 => ⟨S4x256x512, .f32⟩
  | 11 => ⟨S64x4x64x256, .f32⟩
  | 12 => ⟨S64x4x64x256, .f32⟩
  | 13 => ⟨S64x4x64x512, .f32⟩
  | 14 => ⟨S64x4x256, .f32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S1x4x64x512, .f32⟩
  | 25 => ⟨S4x64x512, .f32⟩
  | 26 => ⟨S_, .i32⟩
  | 27 => ⟨S_, .i32⟩
  | 28 => ⟨S_, .i32⟩
  | 29 => ⟨S1x4x256x512, .f32⟩
  | 30 => ⟨S4x256x512, .f32⟩
  | 31 => ⟨S_, .i32⟩
  | 32 => ⟨S_, .i32⟩
  | 33 => ⟨S_, .i32⟩
  | 34 => ⟨S1x4x64x256, .f32⟩
  | 35 => ⟨S4x64x256, .f32⟩
  | 36 => ⟨S_, .i32⟩
  | 37 => ⟨S_, .i32⟩
  | 38 => ⟨S_, .i32⟩
  | 39 => ⟨S1x4x256x1, .f32⟩
  | 40 => ⟨S4x256x1, .f32⟩
  | 41 => ⟨S_, .i32⟩
  | 42 => ⟨S_, .i32⟩
  | 43 => ⟨S_, .i32⟩
  | 44 => ⟨S1x4x64x512, .f32⟩
  | 45 => ⟨S4x64x512, .f32⟩
  | 46 => ⟨S_, .i32⟩
  | 47 => ⟨S_, .i32⟩
  | 48 => ⟨S_, .i32⟩
  | 49 => ⟨S1x4x64x256, .f32⟩
  | 50 => ⟨S4x64x256, .f32⟩
  | 51 => ⟨S4x512x64, .f32⟩
  | 52 => ⟨S4x64x512, .f32⟩
  | 53 => ⟨S4x256x64, .f32⟩
  | 54 => ⟨S4x64x256, .f32⟩
  | 55 => ⟨S4x256x512, .f32⟩
  | 56 => ⟨S_, .f32⟩
  | 57 => ⟨S4x256, .f32⟩
  | 58 => ⟨S4x256x1, .f32⟩
  | 59 => ⟨S4x256x512, .f32⟩
  | 60 => ⟨S4x256x512, .f32⟩
  | 61 => ⟨S_, .f32⟩
  | 62 => ⟨S4x256, .f32⟩
  | 63 => ⟨S4x512x256, .f32⟩
  | 64 => ⟨S4x256x512, .f32⟩
  | 65 => ⟨S4x256x512, .f32⟩
  | 66 => ⟨S4x64x256, .f32⟩
  | 67 => ⟨S1x4x64x256, .f32⟩
  | 68 => ⟨S_, .i32⟩
  | 69 => ⟨S_, .i32⟩
  | 70 => ⟨S_, .i32⟩
  | 71 => ⟨S64x4x64x256, .f32⟩
  | 72 => ⟨S1x4x64x256, .f32⟩
  | 73 => ⟨S_, .i32⟩
  | 74 => ⟨S_, .i32⟩
  | 75 => ⟨S_, .i32⟩
  | 76 => ⟨S64x4x64x256, .f32⟩
  | 77 => ⟨S1x4x64x512, .f32⟩
  | 78 => ⟨S_, .i32⟩
  | 79 => ⟨S_, .i32⟩
  | 80 => ⟨S_, .i32⟩
  | 81 => ⟨S64x4x64x512, .f32⟩
  | 82 => ⟨S1x4x256, .f32⟩
  | 83 => ⟨S_, .i32⟩
  | 84 => ⟨S_, .i32⟩
  | 85 => ⟨S64x4x256, .f32⟩
  | 86 => ⟨S_, .i32⟩
  | 87 => ⟨S_, .i32⟩
  | 88 => ⟨S64x4x256, .f32⟩
  | 89 => ⟨S64x4x1x256, .f32⟩
  | 90 => ⟨S64x4x512x64, .f32⟩
  | 91 => ⟨S64x4x64x512, .f32⟩
  | 92 => ⟨S64x4x64x512, .f32⟩
  | 93 => ⟨S64x4x64x64, .f32⟩
  | 94 => ⟨S_, .f32⟩
  | 95 => ⟨S64x4x64x64, .f32⟩
  | 96 => ⟨S64x4x64x64, .f32⟩
  | 97 => ⟨S64x4x64x256, .f32⟩
  | 98 => ⟨S64x4x64x256, .f32⟩
  | 99 => ⟨S64x4x64x256, .f32⟩
  | 100 => ⟨S64x4x64x256, .f32⟩
  | 101 => ⟨S64x4x64x256, .f32⟩
  | 102 => ⟨S64x4x64x256, .f32⟩
  | 103 => ⟨S_, .f32⟩
  | 104 => ⟨S64x4x256, .f32⟩
  | 105 => ⟨S64x4x1x256, .f32⟩
  | 106 => ⟨S64x4x64x256, .f32⟩
  | 107 => ⟨S64x4x1x256, .f32⟩
  | 108 => ⟨S64x4x64x256, .f32⟩
  | 109 => ⟨S64x4x64x256, .f32⟩
  | 110 => ⟨S64x4x64x256, .f32⟩
  | 111 => ⟨S64x4x64x256, .f32⟩
  | 112 => ⟨S64x4x64x256, .f32⟩
  | 113 => ⟨S64x4x64x256, .f32⟩
  | 114 => ⟨S64x4x64x256, .f32⟩
  | 115 => ⟨S64x4x64x256, .f32⟩
  | 116 => ⟨S64x4x64x256, .f32⟩
  | 117 => ⟨S64x4x64x256, .f32⟩
  | 118 => ⟨S_, .f32⟩
  | 119 => ⟨S64x4x64x256, .f32⟩
  | 120 => ⟨S64x4x64x256, .f32⟩
  | 121 => ⟨S64x64x4x256, .f32⟩
  | 122 => ⟨S4096x1024, .f32⟩
  | 123 => ⟨S64x64x4x512, .f32⟩
  | 124 => ⟨S4096x2048, .f32⟩
  | 125 => ⟨S64x64x4x256, .f32⟩
  | 126 => ⟨S4096x1024, .f32⟩
  | 127 => ⟨S_, .f32⟩
  | _ => ⟨S4096x6144, .f32⟩

abbrev hbmTy0_2 (i : Nat) : BufTy := match i % 128 with
  | 0 => ⟨S64x4x64x256, .f32⟩
  | 1 => ⟨S64x4x64x256, .f32⟩
  | 2 => ⟨S64x64x4x256, .f32⟩
  | 3 => ⟨S4096x1024, .f32⟩
  | 4 => ⟨S4096x1024, .bf16⟩
  | 5 => ⟨S4096x1024, .bf16⟩
  | 6 => ⟨S4096x2048, .bf16⟩
  | _ => ⟨S4096x6144, .f32⟩

abbrev hbmTy (i : Nat) : BufTy := match i / 128 with
  | 0 => hbmTy0_0 i
  | 1 => hbmTy0_1 i
  | 2 => hbmTy0_2 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c : Ref sig .tc := ⟨.hbm, 28, rfl⟩
abbrev main_v24 : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_0 : Ref sig .tc := ⟨.hbm, 36, rfl⟩
abbrev main_call0_v5 : Ref sig .tc := ⟨.hbm, 37, rfl⟩
abbrev main_v25 : Ref sig .tc := ⟨.hbm, 38, rfl⟩
abbrev main_v26 : Ref sig .tc := ⟨.hbm, 39, rfl⟩
abbrev main_cst_0 : Ref sig .tc := ⟨.hbm, 40, rfl⟩
abbrev main_call1_v0 : Ref sig .tc := ⟨.hbm, 41, rfl⟩
abbrev main_v27_1 : Ref sig .tc := ⟨.hbm, 42, rfl⟩
abbrev main_call1_v2 : Ref sig .tc := ⟨.hbm, 43, rfl⟩
abbrev main_v27_0 : Ref sig .tc := ⟨.hbm, 44, rfl⟩
abbrev main_call1_cst : Ref sig .tc := ⟨.hbm, 45, rfl⟩
abbrev main_v27_2 : Ref sig .tc := ⟨.hbm, 46, rfl⟩
abbrev main_v28 : Ref sig .tc := ⟨.hbm, 47, rfl⟩
abbrev main_cst_1 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_2 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_c_5 : Ref sig .tc := ⟨.hbm, 58, rfl⟩
abbrev main_v35_0 : Ref sig .tc := ⟨.hbm, 59, rfl⟩
abbrev main_v35_1 : Ref sig .tc := ⟨.hbm, 60, rfl⟩
abbrev main_v35_2 : Ref sig .tc := ⟨.hbm, 61, rfl⟩
abbrev main_v35_3 : Ref sig .tc := ⟨.hbm, 62, rfl⟩
abbrev main_v35_4 : Ref sig .tc := ⟨.hbm, 63, rfl⟩
abbrev main_v35_5 : Ref sig .tc := ⟨.hbm, 64, rfl⟩
abbrev main_v35_6 : Ref sig .tc := ⟨.hbm, 65, rfl⟩
abbrev main_v35_7 : Ref sig .tc := ⟨.hbm, 66, rfl⟩
abbrev main_v35_8 : Ref sig .tc := ⟨.hbm, 67, rfl⟩
abbrev main_while0c_c_24 : Ref sig .tc := ⟨.hbm, 68, rfl⟩
abbrev main_while0c_v91 : Ref sig .tc := ⟨.hbm, 69, rfl⟩
abbrev main_while0b_call2_c : Ref sig .tc := ⟨.hbm, 70, rfl⟩
abbrev main_while0b_call2_c_0 : Ref sig .tc := ⟨.hbm, 71, rfl⟩
abbrev main_while0b_call2_c_1 : Ref sig .tc := ⟨.hbm, 72, rfl⟩
abbrev main_while0b_call2_v0 : Ref sig .tc := ⟨.hbm, 73, rfl⟩
abbrev main_while0b_v91 : Ref sig .tc := ⟨.hbm, 74, rfl⟩
abbrev main_while0b_call3_c : Ref sig .tc := ⟨.hbm, 75, rfl⟩
abbrev main_while0b_call3_c_0 : Ref sig .tc := ⟨.hbm, 76, rfl⟩
abbrev main_while0b_call3_c_1 : Ref sig .tc := ⟨.hbm, 77, rfl⟩
abbrev main_while0b_call3_v0 : Ref sig .tc := ⟨.hbm, 78, rfl⟩
abbrev main_while0b_v92 : Ref sig .tc := ⟨.hbm, 79, rfl⟩
abbrev main_while0b_call4_c : Ref sig .tc := ⟨.hbm, 80, rfl⟩
abbrev main_while0b_call4_c_0 : Ref sig .tc := ⟨.hbm, 81, rfl⟩
abbrev main_while0b_call4_c_1 : Ref sig .tc := ⟨.hbm, 82, rfl⟩
abbrev main_while0b_call4_v0 : Ref sig .tc := ⟨.hbm, 83, rfl⟩
abbrev main_while0b_v93 : Ref sig .tc := ⟨.hbm, 84, rfl⟩
abbrev main_while0b_call5_c : Ref sig .tc := ⟨.hbm, 85, rfl⟩
abbrev main_while0b_call5_c_0 : Ref sig .tc := ⟨.hbm, 86, rfl⟩
abbrev main_while0b_call5_v0 : Ref sig .tc := ⟨.hbm, 87, rfl⟩
abbrev main_while0b_v94 : Ref sig .tc := ⟨.hbm, 88, rfl⟩
abbrev main_while0b_v95 : Ref sig .tc := ⟨.hbm, 89, rfl⟩
abbrev main_while0b_v96 : Ref sig .tc := ⟨.hbm, 90, rfl⟩
abbrev main_while0b_v97 : Ref sig .tc := ⟨.hbm, 91, rfl⟩
abbrev main_while0b_v98 : Ref sig .tc := ⟨.hbm, 92, rfl⟩
abbrev main_while0b_v99 : Ref sig .tc := ⟨.hbm, 93, rfl⟩
abbrev main_while0b_v100 : Ref sig .tc := ⟨.hbm, 94, rfl⟩
abbrev main_while0b_call6_v0 : Ref sig .tc := ⟨.hbm, 95, rfl⟩
abbrev main_while0b_call6_c : Ref sig .tc := ⟨.hbm, 96, rfl⟩
abbrev main_while0b_call6_c_0 : Ref sig .tc := ⟨.hbm, 97, rfl⟩
abbrev main_while0b_call6_c_1 : Ref sig .tc := ⟨.hbm, 98, rfl⟩
abbrev main_while0b_v101 : Ref sig .tc := ⟨.hbm, 99, rfl⟩
abbrev main_while0b_call7_v0 : Ref sig .tc := ⟨.hbm, 100, rfl⟩
abbrev main_while0b_call7_c : Ref sig .tc := ⟨.hbm, 101, rfl⟩
abbrev main_while0b_call7_c_0 : Ref sig .tc := ⟨.hbm, 102, rfl⟩
abbrev main_while0b_call7_c_1 : Ref sig .tc := ⟨.hbm, 103, rfl⟩
abbrev main_while0b_v102 : Ref sig .tc := ⟨.hbm, 104, rfl⟩
abbrev main_while0b_call8_v0 : Ref sig .tc := ⟨.hbm, 105, rfl⟩
abbrev main_while0b_call8_c : Ref sig .tc := ⟨.hbm, 106, rfl⟩
abbrev main_while0b_call8_c_0 : Ref sig .tc := ⟨.hbm, 107, rfl⟩
abbrev main_while0b_call8_c_1 : Ref sig .tc := ⟨.hbm, 108, rfl⟩
abbrev main_while0b_v103 : Ref sig .tc := ⟨.hbm, 109, rfl⟩
abbrev main_while0b_c_24 : Ref sig .tc := ⟨.hbm, 110, rfl⟩
abbrev main_while0b_v104 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_cst_6 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_cst_7 : Ref sig .tc := ⟨.hbm, 120, rfl⟩
abbrev main_v43 : Ref sig .tc := ⟨.hbm, 121, rfl⟩
abbrev main_cst_8 : Ref sig .tc := ⟨.hbm, 122, rfl⟩
abbrev main_v44 : Ref sig .tc := ⟨.hbm, 123, rfl⟩
abbrev main_cst_9 : Ref sig .tc := ⟨.hbm, 124, rfl⟩
abbrev main_v45 : Ref sig .tc := ⟨.hbm, 125, rfl⟩
abbrev main_cst_10 : Ref sig .tc := ⟨.hbm, 126, rfl⟩
abbrev main_v46 : Ref sig .tc := ⟨.hbm, 127, rfl⟩
abbrev main_cst_11 : Ref sig .tc := ⟨.hbm, 128, rfl⟩
abbrev main_v47 : Ref sig .tc := ⟨.hbm, 129, rfl⟩
abbrev main_c_12 : Ref sig .tc := ⟨.hbm, 130, rfl⟩
abbrev main_v48_0 : Ref sig .tc := ⟨.hbm, 131, rfl⟩
abbrev main_v48_1 : Ref sig .tc := ⟨.hbm, 132, rfl⟩
abbrev main_v48_2 : Ref sig .tc := ⟨.hbm, 133, rfl⟩
abbrev main_v48_3 : Ref sig .tc := ⟨.hbm, 134, rfl⟩
abbrev main_v48_4 : Ref sig .tc := ⟨.hbm, 135, rfl⟩
abbrev main_v48_5 : Ref sig .tc := ⟨.hbm, 136, rfl⟩
abbrev main_v48_6 : Ref sig .tc := ⟨.hbm, 137, rfl⟩
abbrev main_v48_7 : Ref sig .tc := ⟨.hbm, 138, rfl⟩
abbrev main_v48_8 : Ref sig .tc := ⟨.hbm, 139, rfl⟩
abbrev main_v48_9 : Ref sig .tc := ⟨.hbm, 140, rfl⟩
abbrev main_v48_10 : Ref sig .tc := ⟨.hbm, 141, rfl⟩
abbrev main_v48_11 : Ref sig .tc := ⟨.hbm, 142, rfl⟩
abbrev main_while1c_c_27 : Ref sig .tc := ⟨.hbm, 143, rfl⟩
abbrev main_while1c_v91 : Ref sig .tc := ⟨.hbm, 144, rfl⟩
abbrev main_while1b_c_27 : Ref sig .tc := ⟨.hbm, 145, rfl⟩
abbrev main_while1b_v91 : Ref sig .tc := ⟨.hbm, 146, rfl⟩
abbrev main_while1b_c_28 : Ref sig .tc := ⟨.hbm, 147, rfl⟩
abbrev main_while1b_v92 : Ref sig .tc := ⟨.hbm, 148, rfl⟩
abbrev main_while1b_call9_c : Ref sig .tc := ⟨.hbm, 149, rfl⟩
abbrev main_while1b_call9_c_0 : Ref sig .tc := ⟨.hbm, 150, rfl⟩
abbrev main_while1b_call9_c_1 : Ref sig .tc := ⟨.hbm, 151, rfl⟩
abbrev main_while1b_call9_v0 : Ref sig .tc := ⟨.hbm, 152, rfl⟩
abbrev main_while1b_v93 : Ref sig .tc := ⟨.hbm, 153, rfl⟩
abbrev main_while1b_call10_c : Ref sig .tc := ⟨.hbm, 154, rfl⟩
abbrev main_while1b_call10_c_0 : Ref sig .tc := ⟨.hbm, 155, rfl⟩
abbrev main_while1b_call10_c_1 : Ref sig .tc := ⟨.hbm, 156, rfl⟩
abbrev main_while1b_call10_v0 : Ref sig .tc := ⟨.hbm, 157, rfl⟩
abbrev main_while1b_v94 : Ref sig .tc := ⟨.hbm, 158, rfl⟩
abbrev main_while1b_call11_c : Ref sig .tc := ⟨.hbm, 159, rfl⟩
abbrev main_while1b_call11_c_0 : Ref sig .tc := ⟨.hbm, 160, rfl⟩
abbrev main_while1b_call11_c_1 : Ref sig .tc := ⟨.hbm, 161, rfl⟩
abbrev main_while1b_call11_v0 : Ref sig .tc := ⟨.hbm, 162, rfl⟩
abbrev main_while1b_v95 : Ref sig .tc := ⟨.hbm, 163, rfl⟩
abbrev main_while1b_call12_c : Ref sig .tc := ⟨.hbm, 164, rfl⟩
abbrev main_while1b_call12_c_0 : Ref sig .tc := ⟨.hbm, 165, rfl⟩
abbrev main_while1b_call12_c_1 : Ref sig .tc := ⟨.hbm, 166, rfl⟩
abbrev main_while1b_call12_v0 : Ref sig .tc := ⟨.hbm, 167, rfl⟩
abbrev main_while1b_v96 : Ref sig .tc := ⟨.hbm, 168, rfl⟩
abbrev main_while1b_call13_c : Ref sig .tc := ⟨.hbm, 169, rfl⟩
abbrev main_while1b_call13_c_0 : Ref sig .tc := ⟨.hbm, 170, rfl⟩
abbrev main_while1b_call13_c_1 : Ref sig .tc := ⟨.hbm, 171, rfl⟩
abbrev main_while1b_call13_v0 : Ref sig .tc := ⟨.hbm, 172, rfl⟩
abbrev main_while1b_v97 : Ref sig .tc := ⟨.hbm, 173, rfl⟩
abbrev main_while1b_call14_c : Ref sig .tc := ⟨.hbm, 174, rfl⟩
abbrev main_while1b_call14_c_0 : Ref sig .tc := ⟨.hbm, 175, rfl⟩
abbrev main_while1b_call14_c_1 : Ref sig .tc := ⟨.hbm, 176, rfl⟩
abbrev main_while1b_call14_v0 : Ref sig .tc := ⟨.hbm, 177, rfl⟩
abbrev main_while1b_v98 : Ref sig .tc := ⟨.hbm, 178, rfl⟩
abbrev main_while1b_v99 : Ref sig .tc := ⟨.hbm, 179, rfl⟩
abbrev main_while1b_v100 : Ref sig .tc := ⟨.hbm, 180, rfl⟩
abbrev main_while1b_v101 : Ref sig .tc := ⟨.hbm, 181, rfl⟩
abbrev main_while1b_v102 : Ref sig .tc := ⟨.hbm, 182, rfl⟩
abbrev main_while1b_v103 : Ref sig .tc := ⟨.hbm, 183, rfl⟩
abbrev main_while1b_cst_29 : Ref sig .tc := ⟨.hbm, 184, rfl⟩
abbrev main_while1b_v104 : Ref sig .tc := ⟨.hbm, 185, rfl⟩
abbrev main_while1b_v105 : Ref sig .tc := ⟨.hbm, 186, rfl⟩
abbrev main_while1b_v106 : Ref sig .tc := ⟨.hbm, 187, rfl⟩
abbrev main_while1b_v107 : Ref sig .tc := ⟨.hbm, 188, rfl⟩
abbrev main_while1b_cst_30 : Ref sig .tc := ⟨.hbm, 189, rfl⟩
abbrev main_while1b_v108 : Ref sig .tc := ⟨.hbm, 190, rfl⟩
abbrev main_while1b_v109 : Ref sig .tc := ⟨.hbm, 191, rfl⟩
abbrev main_while1b_v110 : Ref sig .tc := ⟨.hbm, 192, rfl⟩
abbrev main_while1b_v111 : Ref sig .tc := ⟨.hbm, 193, rfl⟩
abbrev main_while1b_v112 : Ref sig .tc := ⟨.hbm, 194, rfl⟩
abbrev main_while1b_call15_v0 : Ref sig .tc := ⟨.hbm, 195, rfl⟩
abbrev main_while1b_call15_c : Ref sig .tc := ⟨.hbm, 196, rfl⟩
abbrev main_while1b_call15_c_0 : Ref sig .tc := ⟨.hbm, 197, rfl⟩
abbrev main_while1b_call15_c_1 : Ref sig .tc := ⟨.hbm, 198, rfl⟩
abbrev main_while1b_v113 : Ref sig .tc := ⟨.hbm, 199, rfl⟩
abbrev main_while1b_call16_v0 : Ref sig .tc := ⟨.hbm, 200, rfl⟩
abbrev main_while1b_call16_c : Ref sig .tc := ⟨.hbm, 201, rfl⟩
abbrev main_while1b_call16_c_0 : Ref sig .tc := ⟨.hbm, 202, rfl⟩
abbrev main_while1b_call16_c_1 : Ref sig .tc := ⟨.hbm, 203, rfl⟩
abbrev main_while1b_v114 : Ref sig .tc := ⟨.hbm, 204, rfl⟩
abbrev main_while1b_call17_v0 : Ref sig .tc := ⟨.hbm, 205, rfl⟩
abbrev main_while1b_call17_c : Ref sig .tc := ⟨.hbm, 206, rfl⟩
abbrev main_while1b_call17_c_0 : Ref sig .tc := ⟨.hbm, 207, rfl⟩
abbrev main_while1b_call17_c_1 : Ref sig .tc := ⟨.hbm, 208, rfl⟩
abbrev main_while1b_v115 : Ref sig .tc := ⟨.hbm, 209, rfl⟩
abbrev main_while1b_call18_v0 : Ref sig .tc := ⟨.hbm, 210, rfl⟩
abbrev main_while1b_call18_c : Ref sig .tc := ⟨.hbm, 211, rfl⟩
abbrev main_while1b_call18_c_0 : Ref sig .tc := ⟨.hbm, 212, rfl⟩
abbrev main_while1b_v116 : Ref sig .tc := ⟨.hbm, 213, rfl⟩
abbrev main_while1b_c_31 : Ref sig .tc := ⟨.hbm, 214, rfl⟩
abbrev main_while1b_v117 : Ref sig .tc := ⟨.hbm, 215, rfl⟩
abbrev main_v49 : Ref sig .tc := ⟨.hbm, 216, rfl⟩
abbrev main_v50 : Ref sig .tc := ⟨.hbm, 217, rfl⟩
abbrev main_v51 : Ref sig .tc := ⟨.hbm, 218, rfl⟩
abbrev main_v52 : Ref sig .tc := ⟨.hbm, 219, rfl⟩
abbrev main_v53 : Ref sig .tc := ⟨.hbm, 220, rfl⟩
abbrev main_v54 : Ref sig .tc := ⟨.hbm, 221, rfl⟩
abbrev main_call19_cst : Ref sig .tc := ⟨.hbm, 222, rfl⟩
abbrev main_call19_v0 : Ref sig .tc := ⟨.hbm, 223, rfl⟩
abbrev main_v55 : Ref sig .tc := ⟨.hbm, 224, rfl⟩
abbrev main_v56 : Ref sig .tc := ⟨.hbm, 225, rfl⟩
abbrev main_v57 : Ref sig .tc := ⟨.hbm, 226, rfl⟩
abbrev main_v58 : Ref sig .tc := ⟨.hbm, 227, rfl⟩
abbrev main_v59 : Ref sig .tc := ⟨.hbm, 228, rfl⟩
abbrev main_v60 : Ref sig .tc := ⟨.hbm, 229, rfl⟩
abbrev main_v61 : Ref sig .tc := ⟨.hbm, 230, rfl⟩
abbrev main_cst_13 : Ref sig .tc := ⟨.hbm, 231, rfl⟩
abbrev main_v62 : Ref sig .tc := ⟨.hbm, 232, rfl⟩
abbrev main_v63 : Ref sig .tc := ⟨.hbm, 233, rfl⟩
abbrev main_v64 : Ref sig .tc := ⟨.hbm, 234, rfl⟩
abbrev main_v65 : Ref sig .tc := ⟨.hbm, 235, rfl⟩
abbrev main_v66 : Ref sig .tc := ⟨.hbm, 236, rfl⟩
abbrev main_v67 : Ref sig .tc := ⟨.hbm, 237, rfl⟩
abbrev main_v68 : Ref sig .tc := ⟨.hbm, 238, rfl⟩
abbrev main_v69 : Ref sig .tc := ⟨.hbm, 239, rfl⟩
abbrev main_v70 : Ref sig .tc := ⟨.hbm, 240, rfl⟩
abbrev main_v71 : Ref sig .tc := ⟨.hbm, 241, rfl⟩
abbrev main_v72 : Ref sig .tc := ⟨.hbm, 242, rfl⟩
abbrev main_v73 : Ref sig .tc := ⟨.hbm, 243, rfl⟩
abbrev main_v74 : Ref sig .tc := ⟨.hbm, 244, rfl⟩
abbrev main_v75 : Ref sig .tc := ⟨.hbm, 245, rfl⟩
abbrev main_cst_14 : Ref sig .tc := ⟨.hbm, 246, rfl⟩
abbrev main_v76 : Ref sig .tc := ⟨.hbm, 247, rfl⟩
abbrev main_v77 : Ref sig .tc := ⟨.hbm, 248, rfl⟩
abbrev main_v78 : Ref sig .tc := ⟨.hbm, 249, rfl⟩
abbrev main_v79 : Ref sig .tc := ⟨.hbm, 250, rfl⟩
abbrev main_v80 : Ref sig .tc := ⟨.hbm, 251, rfl⟩
abbrev main_v81 : Ref sig .tc := ⟨.hbm, 252, rfl⟩
abbrev main_v82 : Ref sig .tc := ⟨.hbm, 253, rfl⟩
abbrev main_v83 : Ref sig .tc := ⟨.hbm, 254, rfl⟩
abbrev main_cst_15 : Ref sig .tc := ⟨.hbm, 255, rfl⟩
abbrev main_v84 : Ref sig .tc := ⟨.hbm, 256, rfl⟩
abbrev main_v85 : Ref sig .tc := ⟨.hbm, 257, rfl⟩
abbrev main_v86 : Ref sig .tc := ⟨.hbm, 258, rfl⟩
abbrev main_v87 : Ref sig .tc := ⟨.hbm, 259, rfl⟩
abbrev main_v88 : Ref sig .tc := ⟨.hbm, 260, rfl⟩
abbrev main_v89 : Ref sig .tc := ⟨.hbm, 261, rfl⟩
abbrev main_v90 : Ref sig .tc := ⟨.hbm, 262, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== GlaProj.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaProjRefIdeal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GlaProjDx.lean ====
abbrev S4096x6144 : Shape := ⟨2, ![4096, 6144]⟩
abbrev S2048x6144 : Shape := ⟨2, ![2048, 6144]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaProjDxRefIdeal.lean ====
abbrev S4096x6144 : Shape := ⟨2, ![4096, 6144]⟩
abbrev S2048x6144 : Shape := ⟨2, ![2048, 6144]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S_, .f32⟩
  | .hbm, ⟨3, _⟩ => ⟨S4096x2048, .f32⟩
  | .hbm, ⟨4, _⟩ => ⟨S2048x6144, .f32⟩
  | .hbm, ⟨5, _⟩ => ⟨S4096x6144, .f32⟩
  | .hbm, ⟨6, _⟩ => ⟨S4096x6144, .f32⟩
  | .hbm, ⟨7, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GlaProjDw.lean ====
abbrev S4096x2048 : Shape := ⟨2, ![4096, 2048]⟩
abbrev S4096x6144 : Shape := ⟨2, ![4096, 6144]⟩
abbrev S2048x6144 : Shape := ⟨2, ![2048, 6144]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaProjDwRefIdeal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S4096x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateProj.lean ====
abbrev S4096x2048 : Shape := ⟨2, ![4096, 2048]⟩
abbrev S2048x128 : Shape := ⟨2, ![2048, 128]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x128, .bf16⟩
  | .hbm, ⟨2, _⟩ => ⟨S4096x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .bf16⟩
  | .local _ .vmem, ⟨4, _⟩ => ⟨S1024x128, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateProjRefIdeal.lean ====
abbrev S4096x2048 : Shape := ⟨2, ![4096, 2048]⟩
abbrev S2048x128 : Shape := ⟨2, ![2048, 128]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x128, .bf16⟩
  | .hbm, ⟨2, _⟩ => ⟨S4096x2048, .f32⟩
  | .hbm, ⟨3, _⟩ => ⟨S2048x128, .f32⟩
  | .hbm, ⟨4, _⟩ => ⟨S4096x128, .f32⟩
  | .hbm, ⟨5, _⟩ => ⟨S4096x128, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateProjDx.lean ====
abbrev S4096x128 : Shape := ⟨2, ![4096, 128]⟩
abbrev S2048x128 : Shape := ⟨2, ![2048, 128]⟩
abbrev S4096x2048 : Shape := ⟨2, ![4096, 2048]⟩
abbrev S1024x128 : Shape := ⟨2, ![1024, 128]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .bf16⟩
  | .hbm, ⟨1, _⟩ => ⟨S2048x128, .bf16⟩
  | .hbm, ⟨2, _⟩ => ⟨S4096x2048, .f32⟩
  | .hbm, ⟨3, _⟩ => ⟨S4096x2048, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateProjDxRefIdeal.lean ====
abbrev S4096x128 : Shape := ⟨2, ![4096, 128]⟩
abbrev S2048x128 : Shape := ⟨2, ![2048, 128]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S2048x128, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S2048x128, .f32⟩
  | .hbm, ⟨6, _⟩ => ⟨S4096x128, .f32⟩
  | .hbm, ⟨7, _⟩ => ⟨S4096x128, .f32⟩
  | .hbm, ⟨8, _⟩ => ⟨S4096x2048, .f32⟩
  | .hbm, ⟨9, _⟩ => ⟨S4096x2048, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== GateProjDw.lean ====
abbrev S4096x2048 : Shape := ⟨2, ![4096, 2048]⟩
abbrev S4096x128 : Shape := ⟨2, ![4096, 128]⟩
abbrev S2048x128 : Shape := ⟨2, ![2048, 128]⟩
abbrev S2048x1024 : Shape := ⟨2, ![2048, 1024]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S2048x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateProjDwRefIdeal.lean ====
abbrev S4096x2048 : Shape := ⟨2, ![4096, 2048]⟩
abbrev S4096x128 : Shape := ⟨2, ![4096, 128]⟩
abbrev S_ : Shape := ⟨0, ![]⟩
abbrev S2048x128 : Shape := ⟨2, ![2048, 128]⟩
abbrev S128x2048 : Shape := ⟨2, ![128, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S_, .f32⟩
  | .hbm, ⟨3, _⟩ => ⟨S2048x128, .f32⟩
  | .hbm, ⟨4, _⟩ => ⟨S4096x2048, .f32⟩
  | .hbm, ⟨5, _⟩ => ⟨S4096x128, .f32⟩
  | .hbm, ⟨6, _⟩ => ⟨S4096x128, .f32⟩
  | .hbm, ⟨7, _⟩ => ⟨S128x2048, .f32⟩
  | .hbm, ⟨8, _⟩ => ⟨S2048x128, .f32⟩
  | .hbm, ⟨9, _⟩ => ⟨S2048x128, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixOut.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixOutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixOutDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KvProj.lean ====
abbrev S4096x2048 : Shape := ⟨2, ![4096, 2048]⟩
abbrev S4x2048x1024 : Shape := ⟨3, ![4, 2048, 1024]⟩
abbrev S4096x4096 : Shape := ⟨2, ![4096, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, c0_i32_12.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvProjRefIdeal.lean ====
abbrev S4096x2048 : Shape := ⟨2, ![4096, 2048]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4096x2048, .f32⟩
  | .hbm, ⟨3, _⟩ => ⟨S4x2048x1024, .f32⟩
  | .hbm, ⟨4, _⟩ => ⟨S2048x4x1024, .f32⟩
  | .hbm, ⟨5, _⟩ => ⟨S2048x4096, .f32⟩
  | .hbm, ⟨6, _⟩ => ⟨S4096x4096, .f32⟩
  | .hbm, ⟨7, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KvProjDx.lean ====
abbrev S4096x4096 : Shape := ⟨2, ![4096, 4096]⟩
abbrev S4x2048x1024 : Shape := ⟨3, ![4, 2048, 1024]⟩
abbrev S4096x2048 : Shape := ⟨2, ![4096, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4x2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvProjDxRefIdeal.lean ====
abbrev S4096x4096 : Shape := ⟨2, ![4096, 4096]⟩
abbrev S4x2048x1024 : Shape := ⟨3, ![4, 2048, 1024]⟩
abbrev S_ : Shape := ⟨0, ![]⟩
abbrev S4096x2048 : Shape := ⟨2, ![4096, 2048]⟩
abbrev S2048x4x1024 : Shape := ⟨3, ![2048, 4, 1024]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x2048x1024, .bf16⟩
  | .hbm, ⟨2, _⟩ => ⟨S_, .f32⟩
  | .hbm, ⟨3, _⟩ => ⟨S4096x2048, .f32⟩
  | .hbm, ⟨4, _⟩ => ⟨S4x2048x1024, .f32⟩
  | .hbm, ⟨5, _⟩ => ⟨S2048x4x1024, .f32⟩
  | .hbm, ⟨6, _⟩ => ⟨S2048x4096, .f32⟩
  | .hbm, ⟨7, _⟩ => ⟨S4096x4096, .f32⟩
  | .hbm, ⟨8, _⟩ => ⟨S4096x4096, .f32⟩
  | .hbm, ⟨9, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvProjDw.lean ====
abbrev S4096x2048 : Shape := ⟨2, ![4096, 2048]⟩
abbrev S4096x4096 : Shape := ⟨2, ![4096, 4096]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvProjDwRefIdeal.lean ====
abbrev S4096x2048 : Shape := ⟨2, ![4096, 2048]⟩
abbrev S4096x4096 : Shape := ⟨2, ![4096, 4096]⟩
abbrev S_ : Shape := ⟨0, ![]⟩
abbrev S4x2048x1024 : Shape := ⟨3, ![4, 2048, 1024]⟩
abbrev S2048x4x1024 : Shape := ⟨3, ![2048, 4, 1024]⟩
abbrev S2048x4096 : Shape := ⟨2, ![2048, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S4x2048x1024, .f32⟩
  | .hbm, ⟨4, _⟩ => ⟨S4096x2048, .f32⟩
  | .hbm, ⟨5, _⟩ => ⟨S2048x4x1024, .f32⟩
  | .hbm, ⟨6, _⟩ => ⟨S2048x4096, .f32⟩
  | .hbm, ⟨7, _⟩ => ⟨S4096x4096, .f32⟩
  | .hbm, ⟨8, _⟩ => ⟨S4096x4096, .f32⟩
  | .hbm, ⟨9, _⟩ => ⟨S4096x2048, .f32⟩
  | .hbm, ⟨10, _⟩ => ⟨S2048x4096, .f32⟩
  | .hbm, ⟨11, _⟩ => ⟨S2048x4x1024, .f32⟩
  | .hbm, ⟨12, _⟩ => ⟨S4x2048x1024, .f32⟩
  | .hbm, ⟨13, _⟩ => ⟨S4x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== QProj.lean ====
abbrev S4096x2048 : Shape := ⟨2, ![4096, 2048]⟩
abbrev S4x2048x1536 : Shape := ⟨3, ![4, 2048, 1536]⟩
abbrev S4096x6144 : Shape := ⟨2, ![4096, 6144]⟩
abbrev S1024x2048 : Shape := ⟨2, ![1024, 2048]⟩
abbrev S1x2048x1536 : Shape := ⟨3, ![1, 2048, 1536]⟩
abbrev S1024x1536 : Shape := ⟨2, ![1024, 1536]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x1536, .bf16⟩
  | .local _ .vmem, ⟨5, _⟩ => ⟨S1024x1536, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, c0_i32_12.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QProjRefIdeal.lean ====
abbrev S4096x2048 : Shape := ⟨2, ![4096, 2048]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S4096x6144 : Shape := ⟨2, ![4096, 6144]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x2048, .f32⟩
  | .hbm, ⟨3, _⟩ => ⟨S4x2048x1536, .f32⟩
  | .hbm, ⟨4, _⟩ => ⟨S2048x4x1536, .f32⟩
  | .hbm, ⟨5, _⟩ => ⟨S2048x6144, .f32⟩
  | .hbm, ⟨6, _⟩ => ⟨S4096x6144, .f32⟩
  | .hbm, ⟨7, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== QProjDx.lean ====
abbrev S4096x6144 : Shape := ⟨2, ![4096, 6144]⟩
abbrev S4x2048x1536 : Shape := ⟨3, ![4, 2048, 1536]⟩
abbrev S4096x2048 : Shape := ⟨2, ![4096, 2048]⟩
abbrev S1024x1536 : Shape := ⟨2, ![1024, 1536]⟩
abbrev S1x1024x1536 : Shape := ⟨3, ![1, 1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S4x2048x1536, .bf16⟩
  | .hbm, ⟨2, _⟩ => ⟨S4096x2048, .f32⟩
  | .local _ .vmem, ⟨0, _⟩ => ⟨S1024x1536, .bf16⟩
  | .local _ .vmem, ⟨1, _⟩ => ⟨S1024x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QProjDxRefIdeal.lean ====
abbrev S4096x6144 : Shape := ⟨2, ![4096, 6144]⟩
abbrev S4x2048x1536 : Shape := ⟨3, ![4, 2048, 1536]⟩
abbrev S_ : Shape := ⟨0, ![]⟩
abbrev S4096x2048 : Shape := ⟨2, ![4096, 2048]⟩
abbrev S2048x4x1536 : Shape := ⟨3, ![2048, 4, 1536]⟩
abbrev S2048x6144 : Shape := ⟨2, ![2048, 6144]⟩

abbrev nBuf : Space → Nat
  | .hbm => 10
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4x2048x1536, .bf16⟩
  | .hbm, ⟨2, _⟩ => ⟨S_, .f32⟩
  | .hbm, ⟨3, _⟩ => ⟨S4096x2048, .f32⟩
  | .hbm, ⟨4, _⟩ => ⟨S4x2048x1536, .f32⟩
  | .hbm, ⟨5, _⟩ => ⟨S2048x4x1536, .f32⟩
  | .hbm, ⟨6, _⟩ => ⟨S2048x6144, .f32⟩
  | .hbm, ⟨7, _⟩ => ⟨S4096x6144, .f32⟩
  | .hbm, ⟨8, _⟩ => ⟨S4096x6144, .f32⟩
  | .hbm, ⟨9, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QProjDw.lean ====
abbrev S4096x2048 : Shape := ⟨2, ![4096, 2048]⟩
abbrev S4096x6144 : Shape := ⟨2, ![4096, 6144]⟩
abbrev S4x2048x1536 : Shape := ⟨3, ![4, 2048, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4x2048x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QProjDwRefIdeal.lean ====
abbrev S4096x2048 : Shape := ⟨2, ![4096, 2048]⟩
abbrev S4096x6144 : Shape := ⟨2, ![4096, 6144]⟩
abbrev S_ : Shape := ⟨0, ![]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S6144x2048 : Shape := ⟨2, ![6144, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S_, .f32⟩
  | .hbm, ⟨3, _⟩ => ⟨S4x2048x1536, .f32⟩
  | .hbm, ⟨4, _⟩ => ⟨S4096x2048, .f32⟩
  | .hbm, ⟨5, _⟩ => ⟨S2048x4x1536, .f32⟩
  | .hbm, ⟨6, _⟩ => ⟨S2048x6144, .f32⟩
  | .hbm, ⟨7, _⟩ => ⟨S4096x6144, .f32⟩
  | .hbm, ⟨8, _⟩ => ⟨S4096x6144, .f32⟩
  | .hbm, ⟨9, _⟩ => ⟨S6144x2048, .f32⟩
  | .hbm, ⟨10, _⟩ => ⟨S2048x6144, .f32⟩
  | .hbm, ⟨11, _⟩ => ⟨S2048x4x1536, .f32⟩
  | .hbm, ⟨12, _⟩ => ⟨S4x2048x1536, .f32⟩
  | .hbm, ⟨13, _⟩ => ⟨S4x2048x1536, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Up.lean ====
abbrev S4096x2048 : Shape := ⟨2, ![4096, 2048]⟩
abbrev S4x2048x2816 : Shape := ⟨3, ![4, 2048, 2816]⟩
abbrev S4096x11264 : Shape := ⟨2, ![4096, 11264]⟩
abbrev S1024x2048 : Shape := ⟨2, ![1024, 2048]⟩
abbrev S1x2048x2816 : Shape := ⟨3, ![1, 2048, 2816]⟩
abbrev S1024x2816 : Shape := ⟨2, ![1024, 2816]⟩
abbrev S2048x2816 : Shape := ⟨2, ![2048, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4096x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S1024x2816, .bf16⟩
  | .local _ .vmem, ⟨5, _⟩ => ⟨S1024x2816, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, c0_i32_12.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x2048 : Shape := ⟨2, ![4096, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4096x11264 : Shape := ⟨2, ![4096, 11264]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4096x2048, .f32⟩
  | .hbm, ⟨3, _⟩ => ⟨S4x2048x2816, .f32⟩
  | .hbm, ⟨4, _⟩ => ⟨S2048x4x2816, .f32⟩
  | .hbm, ⟨5, _⟩ => ⟨S2048x11264, .f32⟩
  | .hbm, ⟨6, _⟩ => ⟨S4096x11264, .f32⟩
  | .hbm, ⟨7, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== UpDx.lean ====
abbrev S4096x11264 : Shape := ⟨2, ![4096, 11264]⟩
abbrev S4x2048x2816 : Shape := ⟨3, ![4, 2048, 2816]⟩
abbrev S4096x2048 : Shape := ⟨2, ![4096, 2048]⟩
abbrev S1024x2816 : Shape := ⟨2, ![1024, 2816]⟩
abbrev S1x1024x2816 : Shape := ⟨3, ![1, 1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S4x2048x2816, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x11264 : Shape := ⟨2, ![4096, 11264]⟩
abbrev S4x2048x2816 : Shape := ⟨3, ![4, 2048, 2816]⟩
abbrev S_ : Shape := ⟨0, ![]⟩
abbrev S4096x2048 : Shape := ⟨2, ![4096, 2048]⟩
abbrev S2048x4x2816 : Shape := ⟨3, ![2048, 4, 2816]⟩
abbrev S2048x11264 : Shape := ⟨2, ![2048, 11264]⟩

abbrev nBuf : Space → Nat
  | .hbm => 10
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4x2048x2816, .bf16⟩
  | .hbm, ⟨2, _⟩ => ⟨S_, .f32⟩
  | .hbm, ⟨3, _⟩ => ⟨S4096x2048, .f32⟩
  | .hbm, ⟨4, _⟩ => ⟨S4x2048x2816, .f32⟩
  | .hbm, ⟨5, _⟩ => ⟨S2048x4x2816, .f32⟩
  | .hbm, ⟨6, _⟩ => ⟨S2048x11264, .f32⟩
  | .hbm, ⟨7, _⟩ => ⟨S4096x11264, .f32⟩
  | .hbm, ⟨8, _⟩ => ⟨S4096x11264, .f32⟩
  | .hbm, ⟨9, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDw.lean ====
abbrev S4096x2048 : Shape := ⟨2, ![4096, 2048]⟩
abbrev S4096x11264 : Shape := ⟨2, ![4096, 11264]⟩
abbrev S4x2048x2816 : Shape := ⟨3, ![4, 2048, 2816]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x2048 : Shape := ⟨2, ![4096, 2048]⟩
abbrev S4096x11264 : Shape := ⟨2, ![4096, 11264]⟩
abbrev S_ : Shape := ⟨0, ![]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S11264x2048 : Shape := ⟨2, ![11264, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .f32⟩
  | .hbm, ⟨3, _⟩ => ⟨S4x2048x2816, .f32⟩
  | .hbm, ⟨4, _⟩ => ⟨S4096x2048, .f32⟩
  | .hbm, ⟨5, _⟩ => ⟨S2048x4x2816, .f32⟩
  | .hbm, ⟨6, _⟩ => ⟨S2048x11264, .f32⟩
  | .hbm, ⟨7, _⟩ => ⟨S4096x11264, .f32⟩
  | .hbm, ⟨8, _⟩ => ⟨S4096x11264, .f32⟩
  | .hbm, ⟨9, _⟩ => ⟨S11264x2048, .f32⟩
  | .hbm, ⟨10, _⟩ => ⟨S2048x11264, .f32⟩
  | .hbm, ⟨11, _⟩ => ⟨S2048x4x2816, .f32⟩
  | .hbm, ⟨12, _⟩ => ⟨S4x2048x2816, .f32⟩
  | .hbm, ⟨13, _⟩ => ⟨S4x2048x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDx.lean ====
abbrev S4096x2048 : Shape := ⟨2, ![4096, 2048]⟩
abbrev S4x1408x2048 : Shape := ⟨3, ![4, 1408, 2048]⟩
abbrev S4096x5632 : Shape := ⟨2, ![4096, 5632]⟩
abbrev S1024x2048 : Shape := ⟨2, ![1024, 2048]⟩
abbrev S1x1408x2048 : Shape := ⟨3, ![1, 1408, 2048]⟩
abbrev S1024x1408 : Shape := ⟨2, ![1024, 1408]⟩
abbrev S1408x2048 : Shape := ⟨2, ![1408, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4x1408x2048, .bf16⟩
  | .hbm, ⟨2, _⟩ => ⟨S4096x5632, .bf16⟩
  | .local _ .vmem, ⟨0, _⟩ => ⟨S1024x2048, .f32⟩
  | .local _ .vmem, ⟨1, _⟩ => ⟨S1024x2048, .f32⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .bf16⟩
  | .local _ .vmem, ⟨5, _⟩ => ⟨S1024x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, v27.toNat, c0_i32_12.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x2048 : Shape := ⟨2, ![4096, 2048]⟩
abbrev S4x1408x2048 : Shape := ⟨3, ![4, 1408, 2048]⟩
abbrev S_ : Shape := ⟨0, ![]⟩
abbrev S4096x5632 : Shape := ⟨2, ![4096, 5632]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x1408x2048, .bf16⟩
  | .hbm, ⟨2, _⟩ => ⟨S_, .f32⟩
  | .hbm, ⟨3, _⟩ => ⟨S4096x5632, .f32⟩
  | .hbm, ⟨4, _⟩ => ⟨S4x1408x2048, .f32⟩
  | .hbm, ⟨5, _⟩ => ⟨S5632x2048, .f32⟩
  | .hbm, ⟨6, _⟩ => ⟨S4096x2048, .f32⟩
  | .hbm, ⟨7, _⟩ => ⟨S4096x5632, .f32⟩
  | .hbm, ⟨8, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S4096x5632 : Shape := ⟨2, ![4096, 5632]⟩
abbrev S4096x2048 : Shape := ⟨2, ![4096, 2048]⟩
abbrev S4x1408x2048 : Shape := ⟨3, ![4, 1408, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S4x1408x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x5632 : Shape := ⟨2, ![4096, 5632]⟩
abbrev S4096x2048 : Shape := ⟨2, ![4096, 2048]⟩
abbrev S_ : Shape := ⟨0, ![]⟩
abbrev S4x1408x2048 : Shape := ⟨3, ![4, 1408, 2048]⟩
abbrev S5632x2048 : Shape := ⟨2, ![5632, 2048]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S_, .f32⟩
  | .hbm, ⟨3, _⟩ => ⟨S4x1408x2048, .f32⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S4x1408x2048, .f32⟩
  | .hbm, ⟨10, _⟩ => ⟨S4x1408x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Norm.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormPair.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .bf16⟩
  | .hbm, ⟨4, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormPairRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | .hbm, ⟨19, _⟩ => ⟨S4096x2048, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== NormDx.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormDxRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Glu.lean ====
abbrev S4096x11264 : Shape := ⟨2, ![4096, 11264]⟩
abbrev S8x5632 : Shape := ⟨2, ![8, 5632]⟩
abbrev S1x5632 : Shape := ⟨2, ![1, 5632]⟩
abbrev S4096x5632 : Shape := ⟨2, ![4096, 5632]⟩
abbrev S512x1408 : Shape := ⟨2, ![512, 1408]⟩
abbrev S16x1408 : Shape := ⟨2, ![16, 1408]⟩
abbrev S8x1408 : Shape := ⟨2, ![8, 1408]⟩
abbrev S1x1408 : Shape := ⟨2, ![1, 1408]⟩

abbrev nBuf : Space → Nat
  | .hbm => 4
  | .vmem => 12
  | .smem => 0
  | _ => 0

abbrev bufTy : (tb : Table) → Fin (tcTables nBuf tb) → BufTy
  | .hbm, ⟨0, _⟩ => ⟨S4096x11264, .bf16⟩
  | .hbm, ⟨1, _⟩ => ⟨S8x5632, .f32⟩
  | .hbm, ⟨2, _⟩ => ⟨S1x5632, .f32⟩
  | .hbm, ⟨3, _⟩ => ⟨S4096x5632, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S16x1408, .bf16⟩
  | .local _ .vmem, ⟨5, _⟩ => ⟨S16x1408, .bf16⟩
  | .local _ .vmem, ⟨6, _⟩ => ⟨S8x1408, .f32⟩
  | .local _ .vmem, ⟨7, _⟩ => ⟨S8x1408, .f32⟩
  | .local _ .vmem, ⟨8, _⟩ => ⟨S1x1408, .f32⟩
  | .local _ .vmem, ⟨9, _⟩ => ⟨S1x1408, .f32⟩
  | .local _ .vmem, ⟨10, _⟩ => ⟨S512x1408, .bf16⟩
  | .local _ .vmem, ⟨11, _⟩ => ⟨S512x1408, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluRefIdeal.lean ====
abbrev S4096x11264 : Shape := ⟨2, ![4096, 11264]⟩
abbrev S8x5632 : Shape := ⟨2, ![8, 5632]⟩
abbrev S1x5632 : Shape := ⟨2, ![1, 5632]⟩
abbrev S4096x5632 : Shape := ⟨2, ![4096, 5632]⟩
abbrev S3x5632 : Shape := ⟨2, ![3, 5632]⟩
abbrev S_ : Shape := ⟨0, ![]⟩
abbrev S2x5632 : Shape := ⟨2, ![2, 5632]⟩
abbrev S4098x5632 : Shape := ⟨2, ![4098, 5632]⟩
abbrev S5632 : Shape := ⟨1, ![5632]⟩

abbrev nBuf : Space → Nat
  | .hbm => 45
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S8x5632, .f32⟩
  | .hbm, ⟨2, _⟩ => ⟨S1x5632, .f32⟩
  | .hbm, ⟨3, _⟩ => ⟨S4096x11264, .f32⟩
  | .hbm, ⟨4, _⟩ => ⟨S4096x5632, .f32⟩
  | .hbm, ⟨5, _⟩ => ⟨S4096x5632, .f32⟩
  | .hbm, ⟨6, _⟩ => ⟨S3x5632, .f32⟩
  | .hbm, ⟨7, _⟩ => ⟨S_, .f32⟩
  | .hbm, ⟨8, _⟩ => ⟨S2x5632, .f32⟩
  | .hbm, ⟨9, _⟩ => ⟨S4098x5632, .f32⟩
  | .hbm, ⟨10, _⟩ => ⟨S1x5632, .f32⟩
  | .hbm, ⟨11, _⟩ => ⟨S5632, .f32⟩
  | .hbm, ⟨12, _⟩ => ⟨S4096x5632, .f32⟩
  | .hbm, ⟨13, _⟩ => ⟨S1x5632, .f32⟩
  | .hbm, ⟨14, _⟩ => ⟨S4096x5632, .f32⟩
  | .hbm, ⟨15, _⟩ => ⟨S4096x5632, .f32⟩
  | .hbm, ⟨16, _⟩ => ⟨S1x5632, .f32⟩
  | .hbm, ⟨17, _⟩ => ⟨S5632, .f32⟩
  | .hbm, ⟨18, _⟩ => ⟨S4096x5632, .f32⟩
  | .hbm, ⟨19, _⟩ => ⟨S1x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S1x5632, .f32⟩
  | .hbm, ⟨24, _⟩ => ⟨S5632, .f32⟩
  | .hbm, ⟨25, _⟩ => ⟨S4096x5632, .f32⟩
  | .hbm, ⟨26, _⟩ => ⟨S1x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S5632, .f32⟩
  | .hbm, ⟨31, _⟩ => ⟨S1x5632, .f32⟩
  | .hbm, ⟨32, _⟩ => ⟨S4096x5632, .f32⟩
  | .hbm, ⟨33, _⟩ => ⟨S4096x5632, .f32⟩
  | .hbm, ⟨34, _⟩ => ⟨S_, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S_, .f32⟩
  | .hbm, ⟨39, _⟩ => ⟨S4096x5632, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S4096x5632, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_0 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== ConvDx.lean ====
abbrev S4096x11264 : Shape := ⟨2, ![4096, 11264]⟩
abbrev S4096x5632 : Shape := ⟨2, ![4096, 5632]⟩
abbrev S8x5632 : Shape := ⟨2, ![8, 5632]⟩
abbrev S256x5632 : Shape := ⟨2, ![256, 5632]⟩
abbrev S16x5632 : Shape := ⟨2, ![16, 5632]⟩
abbrev S1x5632 : Shape := ⟨2, ![1, 5632]⟩

abbrev nBuf : Space → Nat
  | .hbm => 4
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S4096x5632, .bf16⟩
  | .hbm, ⟨2, _⟩ => ⟨S8x5632, .f32⟩
  | .hbm, ⟨3, _⟩ => ⟨S4096x11264, .bf16⟩
  | .local _ .vmem, ⟨0, _⟩ => ⟨S256x5632, .bf16⟩
  | .local _ .vmem, ⟨1, _⟩ => ⟨S256x5632, .bf16⟩
  | .local _ .vmem, ⟨2, _⟩ => ⟨S16x5632, .bf16⟩
  | .local _ .vmem, ⟨3, _⟩ => ⟨S16x5632, .bf16⟩
  | .local _ .vmem, ⟨4, _⟩ => ⟨S8x5632, .f32⟩
  | .local _ .vmem, ⟨5, _⟩ => ⟨S256x5632, .bf16⟩
  | .local _ .vmem, ⟨6, _⟩ => ⟨S256x5632, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvDxRefIdeal.lean ====
abbrev S4096x11264 : Shape := ⟨2, ![4096, 11264]⟩
abbrev S4096x5632 : Shape := ⟨2, ![4096, 5632]⟩
abbrev S8x5632 : Shape := ⟨2, ![8, 5632]⟩
abbrev S_ : Shape := ⟨0, ![]⟩
abbrev S3x5632 : Shape := ⟨2, ![3, 5632]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩

abbrev nBuf : Space → Nat
  | .hbm => 51
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x5632, .bf16⟩
  | .hbm, ⟨2, _⟩ => ⟨S8x5632, .f32⟩
  | .hbm, ⟨3, _⟩ => ⟨S_, .f32⟩
  | .hbm, ⟨4, _⟩ => ⟨S4096x5632, .f32⟩
  | .hbm, ⟨5, _⟩ => ⟨S3x5632, .f32⟩
  | .hbm, ⟨6, _⟩ => ⟨S_, .f32⟩
  | .hbm, ⟨7, _⟩ => ⟨S2x5632, .f32⟩
  | .hbm, ⟨8, _⟩ => ⟨S4098x5632, .f32⟩
  | .hbm, ⟨9, _⟩ => ⟨S_, .f32⟩
  | .hbm, ⟨10, _⟩ => ⟨S2x5632, .f32⟩
  | .hbm, ⟨11, _⟩ => ⟨S1x5632, .f32⟩
  | .hbm, ⟨12, _⟩ => ⟨S5632, .f32⟩
  | .hbm, ⟨13, _⟩ => ⟨S4096x5632, .f32⟩
  | .hbm, ⟨14, _⟩ => ⟨S1x5632, .f32⟩
  | .hbm, ⟨15, _⟩ => ⟨S4096x5632, .f32⟩
  | .hbm, ⟨16, _⟩ => ⟨S4096x5632, .f32⟩
  | .hbm, ⟨17, _⟩ => ⟨S1x5632, .f32⟩
  | .hbm, ⟨18, _⟩ => ⟨S5632, .f32⟩
  | .hbm, ⟨19, _⟩ => ⟨S4096x5632, .f32⟩
  | .hbm, ⟨20, _⟩ => ⟨S1x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S1x5632, .f32⟩
  | .hbm, ⟨25, _⟩ => ⟨S5632, .f32⟩
  | .hbm, ⟨26, _⟩ => ⟨S4096x5632, .f32⟩
  | .hbm, ⟨27, _⟩ => ⟨S1x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S_, .f32⟩
  | .hbm, ⟨35, _⟩ => ⟨S4098x5632, .f32⟩
  | .hbm, ⟨36, _⟩ => ⟨S4096x5632, .f32⟩
  | .hbm, ⟨37, _⟩ => ⟨S4096x5632, .f32⟩
  | .hbm, ⟨38, _⟩ => ⟨S_, .f32⟩
  | .hbm, ⟨39, _⟩ => ⟨S4098x5632, .f32⟩
  | .hbm, ⟨40, _⟩ => ⟨S4098x5632, .f32⟩
  | .hbm, ⟨41, _⟩ => ⟨S4096x5632, .f32⟩
  | .hbm, ⟨42, _⟩ => ⟨S4096x5632, .f32⟩
  | .hbm, ⟨43, _⟩ => ⟨S_, .f32⟩
  | .hbm, ⟨44, _⟩ => ⟨S4098x5632, .f32⟩
  | .hbm, ⟨45, _⟩ => ⟨S4098x5632, .f32⟩
  | .hbm, ⟨46, _⟩ => ⟨S2x5632, .f32⟩
  | .hbm, ⟨47, _⟩ => ⟨S4096x5632, .f32⟩
  | .hbm, ⟨48, _⟩ => ⟨S4096x5632, .bf16⟩
  | .hbm, ⟨49, _⟩ => ⟨S4096x5632, .bf16⟩
  | .hbm, ⟨50, _⟩ => ⟨S4096x11264, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== AdamKv.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamKvIdeal.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamKvRefIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQ.lean ====
abbrev S2048x1536 : Shape := ⟨2, ![2048, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQIdeal.lean ====
abbrev S2048x1536 : Shape := ⟨2, ![2048, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQRefIdeal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2048x1540 : Shape := ⟨2, ![2048, 1540]⟩
abbrev S2048x1664 : Shape := ⟨2, ![2048, 1664]⟩
abbrev S256x1540 : Shape := ⟨2, ![256, 1540]⟩
abbrev S256x1664 : Shape := ⟨2, ![256, 1664]⟩

abbrev nBuf : Space → Nat
  | .hbm => 8
  | .vmem => 16
  | .smem => 0
  | _ => 0

abbrev bufTy : (tb : Table) → Fin (tcTables nBuf tb) → BufTy
  | .hbm, ⟨0, _⟩ => ⟨S2048x1540, .f32⟩
  | .hbm, ⟨1, _⟩ => ⟨S2048x1664, .f32⟩
  | .hbm, ⟨2, _⟩ => ⟨S2048x1540, .f32⟩
  | .hbm, ⟨3, _⟩ => ⟨S2048x1540, .f32⟩
  | .hbm, ⟨4, _⟩ => ⟨S2048x1540, .f32⟩
  | .hbm, ⟨5, _⟩ => ⟨S2048x1540, .f32⟩
  | .hbm, ⟨6, _⟩ => ⟨S2048x1540, .f32⟩
  | .hbm, ⟨7, _⟩ => ⟨S2048x1540, .f32⟩
  | .local _ .vmem, ⟨0, _⟩ => ⟨S256x1540, .f32⟩
  | .local _ .vmem, ⟨1, _⟩ => ⟨S256x1540, .f32⟩
  | .local _ .vmem, ⟨2, _⟩ => ⟨S256x1664, .f32⟩
  | .local _ .vmem, ⟨3, _⟩ => ⟨S256x1664, .f32⟩
  | .local _ .vmem, ⟨4, _⟩ => ⟨S256x1540, .f32⟩
  | .local _ .vmem, ⟨5, _⟩ => ⟨S256x1540, .f32⟩
  | .local _ .vmem, ⟨6, _⟩ => ⟨S256x1540, .f32⟩
  | .local _ .vmem, ⟨7, _⟩ => ⟨S256x1540, .f32⟩
  | .local _ .vmem, ⟨8, _⟩ => ⟨S256x1540, .f32⟩
  | .local _ .vmem, ⟨9, _⟩ => ⟨S256x1540, .f32⟩
  | .local _ .vmem, ⟨10, _⟩ => ⟨S256x1540, .f32⟩
  | .local _ .vmem, ⟨11, _⟩ => ⟨S256x1540, .f32⟩
  | .local _ .vmem, ⟨12, _⟩ => ⟨S256x1540, .f32⟩
  | .local _ .vmem, ⟨13, _⟩ => ⟨S256x1540, .f32⟩
  | .local _ .vmem, ⟨14, _⟩ => ⟨S256x1540, .f32⟩
  | .local _ .vmem, ⟨15, _⟩ => ⟨S256x1540, .f32⟩
  | _, _ => ⟨S2048x1540, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1540 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1540 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1540 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1540 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1540 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1540 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1540 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S2048x1540 : Shape := ⟨2, ![2048, 1540]⟩
abbrev S2048x1664 : Shape := ⟨2, ![2048, 1664]⟩
abbrev S256x1540 : Shape := ⟨2, ![256, 1540]⟩
abbrev S256x1664 : Shape := ⟨2, ![256, 1664]⟩

abbrev nBuf : Space → Nat
  | .hbm => 8
  | .vmem => 16
  | .smem => 0
  | _ => 0

abbrev bufTy : (tb : Table) → Fin (tcTables nBuf tb) → BufTy
  | .hbm, ⟨0, _⟩ => ⟨S2048x1540, .f32⟩
  | .hbm, ⟨1, _⟩ => ⟨S2048x1664, .f32⟩
  | .hbm, ⟨2, _⟩ => ⟨S2048x1540, .f32⟩
  | .hbm, ⟨3, _⟩ => ⟨S2048x1540, .f32⟩
  | .hbm, ⟨4, _⟩ => ⟨S2048x1540, .f32⟩
  | .hbm, ⟨5, _⟩ => ⟨S2048x1540, .f32⟩
  | .hbm, ⟨6, _⟩ => ⟨S2048x1540, .f32⟩
  | .hbm, ⟨7, _⟩ => ⟨S2048x1540, .f32⟩
  | .local _ .vmem, ⟨0, _⟩ => ⟨S256x1540, .f32⟩
  | .local _ .vmem, ⟨1, _⟩ => ⟨S256x1540, .f32⟩
  | .local _ .vmem, ⟨2, _⟩ => ⟨S256x1664, .f32⟩
  | .local _ .vmem, ⟨3, _⟩ => ⟨S256x1664, .f32⟩
  | .local _ .vmem, ⟨4, _⟩ => ⟨S256x1540, .f32⟩
  | .local _ .vmem, ⟨5, _⟩ => ⟨S256x1540, .f32⟩
  | .local _ .vmem, ⟨6, _⟩ => ⟨S256x1540, .f32⟩
  | .local _ .vmem, ⟨7, _⟩ => ⟨S256x1540, .f32⟩
  | .local _ .vmem, ⟨8, _⟩ => ⟨S256x1540, .f32⟩
  | .local _ .vmem, ⟨9, _⟩ => ⟨S256x1540, .f32⟩
  | .local _ .vmem, ⟨10, _⟩ => ⟨S256x1540, .f32⟩
  | .local _ .vmem, ⟨11, _⟩ => ⟨S256x1540, .f32⟩
  | .local _ .vmem, ⟨12, _⟩ => ⟨S256x1540, .f32⟩
  | .local _ .vmem, ⟨13, _⟩ => ⟨S256x1540, .f32⟩
  | .local _ .vmem, ⟨14, _⟩ => ⟨S256x1540, .f32⟩
  | .local _ .vmem, ⟨15, _⟩ => ⟨S256x1540, .f32⟩
  | _, _ => ⟨S2048x1540, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1540 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1540 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1540 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1540 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1540 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1540 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1540 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S2048x1540 : Shape := ⟨2, ![2048, 1540]⟩
abbrev S2048x1664 : Shape := ⟨2, ![2048, 1664]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x1540, .f32⟩
  | .hbm, ⟨1, _⟩ => ⟨S2048x1664, .f32⟩
  | .hbm, ⟨2, _⟩ => ⟨S2048x1540, .f32⟩
  | .hbm, ⟨3, _⟩ => ⟨S2048x1540, .f32⟩
  | .hbm, ⟨4, _⟩ => ⟨S2048x1540, .f32⟩
  | .hbm, ⟨5, _⟩ => ⟨S_, .f32⟩
  | .hbm, ⟨6, _⟩ => ⟨S2048x1540, .f32⟩
  | .hbm, ⟨7, _⟩ => ⟨S2048x1540, .f32⟩
  | .hbm, ⟨8, _⟩ => ⟨S_, .f32⟩
  | .hbm, ⟨9, _⟩ => ⟨S2048x1540, .f32⟩
  | .hbm, ⟨10, _⟩ => ⟨S2048x1540, .f32⟩
  | .hbm, ⟨11, _⟩ => ⟨S2048x1540, .f32⟩
  | .hbm, ⟨12, _⟩ => ⟨S_, .f32⟩
  | .hbm, ⟨13, _⟩ => ⟨S2048x1540, .f32⟩
  | .hbm, ⟨14, _⟩ => ⟨S2048x1540, .f32⟩
  | .hbm, ⟨15, _⟩ => ⟨S2048x1540, .f32⟩
  | .hbm, ⟨16, _⟩ => ⟨S_, .f32⟩
  | .hbm, ⟨17, _⟩ => ⟨S2048x1540, .f32⟩
  | .hbm, ⟨18, _⟩ => ⟨S2048x1540, .f32⟩
  | .hbm, ⟨19, _⟩ => ⟨S2048x1540, .f32⟩
  | .hbm, ⟨20, _⟩ => ⟨S_, .f32⟩
  | .hbm, ⟨21, _⟩ => ⟨S2048x1540, .f32⟩
  | .hbm, ⟨22, _⟩ => ⟨S2048x1540, .f32⟩
  | .hbm, ⟨23, _⟩ => ⟨S_, .f32⟩
  | .hbm, ⟨24, _⟩ => ⟨S2048x1540, .f32⟩
  | .hbm, ⟨25, _⟩ => ⟨S2048x1540, .f32⟩
  | .hbm, ⟨26, _⟩ => ⟨S2048x1540, .f32⟩
  | .hbm, ⟨27, _⟩ => ⟨S_, .f32⟩
  | .hbm, ⟨28, _⟩ => ⟨S2048x1540, .f32⟩
  | .hbm, ⟨29, _⟩ => ⟨S2048x1540, .f32⟩
  | .hbm, ⟨30, _⟩ => ⟨S2048x1540, .f32⟩
  | .hbm, ⟨31, _⟩ => ⟨S_, .f32⟩
  | .hbm, ⟨32, _⟩ => ⟨S2048x1540, .f32⟩
  | .hbm, ⟨33, _⟩ => ⟨S2048x1540, .f32⟩
  | .hbm, ⟨34, _⟩ => ⟨S2048x1540, .f32⟩
  | .hbm, ⟨35, _⟩ => ⟨S_, .f32⟩
  | .hbm, ⟨36, _⟩ => ⟨S2048x1540, .f32⟩
  | .hbm, ⟨37, _⟩ => ⟨S2048x1540, .f32⟩
  | _, _ => ⟨S2048x1540, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamSmall.lean ====
abbrev S304x128 : Shape := ⟨2, ![304, 128]⟩
abbrev S16x128 : Shape := ⟨2, ![16, 128]⟩

abbrev nBuf : Space → Nat
  | .hbm => 7
  | .vmem => 14
  | .smem => 0
  | _ => 0

abbrev bufTy : (tb : Table) → Fin (tcTables nBuf tb) → BufTy
  | .hbm, ⟨0, _⟩ => ⟨S304x128, .f32⟩
  | .hbm, ⟨1, _⟩ => ⟨S304x128, .f32⟩
  | .hbm, ⟨2, _⟩ => ⟨S304x128, .f32⟩
  | .hbm, ⟨3, _⟩ => ⟨S304x128, .f32⟩
  | .hbm, ⟨4, _⟩ => ⟨S304x128, .f32⟩
  | .hbm, ⟨5, _⟩ => ⟨S304x128, .f32⟩
  | .hbm, ⟨6, _⟩ => ⟨S304x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | _, _ => ⟨S304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallIdeal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== AdamSmallRefIdeal.lean ====
abbrev S304x128 : Shape := ⟨2, ![304, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S304x128, .f32⟩
  | .hbm, ⟨1, _⟩ => ⟨S304x128, .f32⟩
  | .hbm, ⟨2, _⟩ => ⟨S304x128, .f32⟩
  | .hbm, ⟨3, _⟩ => ⟨S304x128, .f32⟩
  | .hbm, ⟨4, _⟩ => ⟨S_, .f32⟩
  | .hbm, ⟨5, _⟩ => ⟨S304x128, .f32⟩
  | .hbm, ⟨6, _⟩ => ⟨S304x128, .f32⟩
  | .hbm, ⟨7, _⟩ => ⟨S_, .f32⟩
  | .hbm, ⟨8, _⟩ => ⟨S304x128, .f32⟩
  | .hbm, ⟨9, _⟩ => ⟨S304x128, .f32⟩
  | .hbm, ⟨10, _⟩ => ⟨S304x128, .f32⟩
  | .hbm, ⟨11, _⟩ => ⟨S_, .f32⟩
  | .hbm, ⟨12, _⟩ => ⟨S304x128, .f32⟩
  | .hbm, ⟨13, _⟩ => ⟨S304x128, .f32⟩
  | .hbm, ⟨14, _⟩ => ⟨S304x128, .f32⟩
  | .hbm, ⟨15, _⟩ => ⟨S_, .f32⟩
  | .hbm, ⟨16, _⟩ => ⟨S304x128, .f32⟩
  | .hbm, ⟨17, _⟩ => ⟨S304x128, .f32⟩
  | .hbm, ⟨18, _⟩ => ⟨S304x128, .f32⟩
  | .hbm, ⟨19, _⟩ => ⟨S_, .f32⟩
  | .hbm, ⟨20, _⟩ => ⟨S304x128, .f32⟩
  | .hbm, ⟨21, _⟩ => ⟨S304x128, .f32⟩
  | .hbm, ⟨22, _⟩ => ⟨S_, .f32⟩
  | .hbm, ⟨23, _⟩ => ⟨S304x128, .f32⟩
  | .hbm, ⟨24, _⟩ => ⟨S304x128, .f32⟩
  | .hbm, ⟨25, _⟩ => ⟨S304x128, .f32⟩
  | .hbm, ⟨26, _⟩ => ⟨S_, .f32⟩
  | .hbm, ⟨27, _⟩ => ⟨S304x128, .f32⟩
  | .hbm, ⟨28, _⟩ => ⟨S304x128, .f32⟩
  | .hbm, ⟨29, _⟩ => ⟨S304x128, .f32⟩
  | .hbm, ⟨30, _⟩ => ⟨S_, .f32⟩
  | .hbm, ⟨31, _⟩ => ⟨S304x128, .f32⟩
  | .hbm, ⟨32, _⟩ => ⟨S304x128, .f32⟩
  | .hbm, ⟨33, _⟩ => ⟨S304x128, .f32⟩
  | .hbm, ⟨34, _⟩ => ⟨S_, .f32⟩
  | .hbm, ⟨35, _⟩ => ⟨S304x128, .f32⟩
  | .hbm, ⟨36, _⟩ => ⟨S304x128, .f32⟩
  | _, _ => ⟨S304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S2x2048x2816 : Shape := ⟨3, ![2, 2048, 2816]⟩
abbrev S2048x2816 : Shape := ⟨2, ![2048, 2816]⟩
abbrev S1x128x2816 : Shape := ⟨3, ![1, 128, 2816]⟩
abbrev S128x2816 : Shape := ⟨2, ![128, 2816]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x2816, .f32⟩
  | .hbm, ⟨1, _⟩ => ⟨S2048x2816, .f32⟩
  | .hbm, ⟨2, _⟩ => ⟨S2048x2816, .f32⟩
  | .hbm, ⟨3, _⟩ => ⟨S2x2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S2x2048x2816, .f32⟩
  | .hbm, ⟨8, _⟩ => ⟨S2x2048x2816, .f32⟩
  | .local _ .vmem, ⟨0, _⟩ => ⟨S1x128x2816, .f32⟩
  | .local _ .vmem, ⟨1, _⟩ => ⟨S1x128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S1x128x2816, .f32⟩
  | .local _ .vmem, ⟨7, _⟩ => ⟨S1x128x2816, .f32⟩
  | .local _ .vmem, ⟨8, _⟩ => ⟨S1x128x2816, .f32⟩
  | .local _ .vmem, ⟨9, _⟩ => ⟨S1x128x2816, .f32⟩
  | .local _ .vmem, ⟨10, _⟩ => ⟨S1x128x2816, .f32⟩
  | .local _ .vmem, ⟨11, _⟩ => ⟨S1x128x2816, .f32⟩
  | .local _ .vmem, ⟨12, _⟩ => ⟨S1x128x2816, .f32⟩
  | .local _ .vmem, ⟨13, _⟩ => ⟨S1x128x2816, .f32⟩
  | .local _ .vmem, ⟨14, _⟩ => ⟨S1x128x2816, .f32⟩
  | .local _ .vmem, ⟨15, _⟩ => ⟨S1x128x2816, .f32⟩
  | .local _ .vmem, ⟨16, _⟩ => ⟨S1x128x2816, .f32⟩
  | .local _ .vmem, ⟨17, _⟩ => ⟨S1x128x2816, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpIdeal.lean ====
abbrev S2x2048x2816 : Shape := ⟨3, ![2, 2048, 2816]⟩
abbrev S2048x2816 : Shape := ⟨2, ![2048, 2816]⟩
abbrev S1x128x2816 : Shape := ⟨3, ![1, 128, 2816]⟩
abbrev S128x2816 : Shape := ⟨2, ![128, 2816]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x2816, .f32⟩
  | .hbm, ⟨1, _⟩ => ⟨S2048x2816, .f32⟩
  | .hbm, ⟨2, _⟩ => ⟨S2048x2816, .f32⟩
  | .hbm, ⟨3, _⟩ => ⟨S2x2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S2x2048x2816, .f32⟩
  | .hbm, ⟨8, _⟩ => ⟨S2x2048x2816, .f32⟩
  | .local _ .vmem, ⟨0, _⟩ => ⟨S1x128x2816, .f32⟩
  | .local _ .vmem, ⟨1, _⟩ => ⟨S1x128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S1x128x2816, .f32⟩
  | .local _ .vmem, ⟨7, _⟩ => ⟨S1x128x2816, .f32⟩
  | .local _ .vmem, ⟨8, _⟩ => ⟨S1x128x2816, .f32⟩
  | .local _ .vmem, ⟨9, _⟩ => ⟨S1x128x2816, .f32⟩
  | .local _ .vmem, ⟨10, _⟩ => ⟨S1x128x2816, .f32⟩
  | .local _ .vmem, ⟨11, _⟩ => ⟨S1x128x2816, .f32⟩
  | .local _ .vmem, ⟨12, _⟩ => ⟨S1x128x2816, .f32⟩
  | .local _ .vmem, ⟨13, _⟩ => ⟨S1x128x2816, .f32⟩
  | .local _ .vmem, ⟨14, _⟩ => ⟨S1x128x2816, .f32⟩
  | .local _ .vmem, ⟨15, _⟩ => ⟨S1x128x2816, .f32⟩
  | .local _ .vmem, ⟨16, _⟩ => ⟨S1x128x2816, .f32⟩
  | .local _ .vmem, ⟨17, _⟩ => ⟨S1x128x2816, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpRefIdeal.lean ====
abbrev S2x2048x2816 : Shape := ⟨3, ![2, 2048, 2816]⟩
abbrev S2048x2816 : Shape := ⟨2, ![2048, 2816]⟩
abbrev S1x2048x2816 : Shape := ⟨3, ![1, 2048, 2816]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2048x2816, .f32⟩
  | .hbm, ⟨2, _⟩ => ⟨S2048x2816, .f32⟩
  | .hbm, ⟨3, _⟩ => ⟨S2x2048x2816, .f32⟩
  | .hbm, ⟨4, _⟩ => ⟨S2x2048x2816, .f32⟩
  | .hbm, ⟨5, _⟩ => ⟨S1x2048x2816, .f32⟩
  | .hbm, ⟨6, _⟩ => ⟨S1x2048x2816, .f32⟩
  | .hbm, ⟨7, _⟩ => ⟨S2x2048x2816, .f32⟩
  | .hbm, ⟨8, _⟩ => ⟨S_, .f32⟩
  | .hbm, ⟨9, _⟩ => ⟨S2x2048x2816, .f32⟩
  | .hbm, ⟨10, _⟩ => ⟨S2x2048x2816, .f32⟩
  | .hbm, ⟨11, _⟩ => ⟨S_, .f32⟩
  | .hbm, ⟨12, _⟩ => ⟨S2x2048x2816, .f32⟩
  | .hbm, ⟨13, _⟩ => ⟨S2x2048x2816, .f32⟩
  | .hbm, ⟨14, _⟩ => ⟨S2x2048x2816, .f32⟩
  | .hbm, ⟨15, _⟩ => ⟨S_, .f32⟩
  | .hbm, ⟨16, _⟩ => ⟨S2x2048x2816, .f32⟩
  | .hbm, ⟨17, _⟩ => ⟨S2x2048x2816, .f32⟩
  | .hbm, ⟨18, _⟩ => ⟨S2x2048x2816, .f32⟩
  | .hbm, ⟨19, _⟩ => ⟨S_, .f32⟩
  | .hbm, ⟨20, _⟩ => ⟨S2x2048x2816, .f32⟩
  | .hbm, ⟨21, _⟩ => ⟨S2x2048x2816, .f32⟩
  | .hbm, ⟨22, _⟩ => ⟨S2x2048x2816, .f32⟩
  | .hbm, ⟨23, _⟩ => ⟨S_, .f32⟩
  | .hbm, ⟨24, _⟩ => ⟨S2x2048x2816, .f32⟩
  | .hbm, ⟨25, _⟩ => ⟨S2x2048x2816, .f32⟩
  | .hbm, ⟨26, _⟩ => ⟨S_, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S_, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S_, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S_, .f32⟩
  | .hbm, ⟨39, _⟩ => ⟨S2x2048x2816, .f32⟩
  | .hbm, ⟨40, _⟩ => ⟨S2x2048x2816, .f32⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamDown.lean ====
abbrev S2x1408x2048 : Shape := ⟨3, ![2, 1408, 2048]⟩
abbrev S1408x2048 : Shape := ⟨2, ![1408, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x1408x2048, .f32⟩
  | .hbm, ⟨1, _⟩ => ⟨S1408x2048, .f32⟩
  | .hbm, ⟨2, _⟩ => ⟨S1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .local _ .vmem, ⟨0, _⟩ => ⟨S1x128x2048, .f32⟩
  | .local _ .vmem, ⟨1, _⟩ => ⟨S1x128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c10_i32 : BitVec 32 := 10#32
  let v1 : BitVec 32 := Scalar.select v0 arg1 c10_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownIdeal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== AdamDownRefIdeal.lean ====
abbrev S2x1408x2048 : Shape := ⟨3, ![2, 1408, 2048]⟩
abbrev S1408x2048 : Shape := ⟨2, ![1408, 2048]⟩
abbrev S1x1408x2048 : Shape := ⟨3, ![1, 1408, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1408x2048, .f32⟩
  | .hbm, ⟨1, _⟩ => ⟨S1408x2048, .f32⟩
  | .hbm, ⟨2, _⟩ => ⟨S1408x2048, .f32⟩
  | .hbm, ⟨3, _⟩ => ⟨S2x1408x2048, .f32⟩
  | .hbm, ⟨4, _⟩ => ⟨S2x1408x2048, .f32⟩
  | .hbm, ⟨5, _⟩ => ⟨S1x1408x2048, .f32⟩
  | .hbm, ⟨6, _⟩ => ⟨S1x1408x2048, .f32⟩
  | .hbm, ⟨7, _⟩ => ⟨S2x1408x2048, .f32⟩
  | .hbm, ⟨8, _⟩ => ⟨S_, .f32⟩
  | .hbm, ⟨9, _⟩ => ⟨S2x1408x2048, .f32⟩
  | .hbm, ⟨10, _⟩ => ⟨S2x1408x2048, .f32⟩
  | .hbm, ⟨11, _⟩ => ⟨S_, .f32⟩
  | .hbm, ⟨12, _⟩ => ⟨S2x1408x2048, .f32⟩
  | .hbm, ⟨13, _⟩ => ⟨S2x1408x2048, .f32⟩
  | .hbm, ⟨14, _⟩ => ⟨S2x1408x2048, .f32⟩
  | .hbm, ⟨15, _⟩ => ⟨S_, .f32⟩
  | .hbm, ⟨16, _⟩ => ⟨S2x1408x2048, .f32⟩
  | .hbm, ⟨17, _⟩ => ⟨S2x1408x2048, .f32⟩
  | .hbm, ⟨18, _⟩ => ⟨S2x1408x2048, .f32⟩
  | .hbm, ⟨19, _⟩ => ⟨S_, .f32⟩
  | .hbm, ⟨20, _⟩ => ⟨S2x1408x2048, .f32⟩
  | .hbm, ⟨21, _⟩ => ⟨S2x1408x2048, .f32⟩
  | .hbm, ⟨22, _⟩ => ⟨S2x1408x2048, .f32⟩
  | .hbm, ⟨23, _⟩ => ⟨S_, .f32⟩
  | .hbm, ⟨24, _⟩ => ⟨S2x1408x2048, .f32⟩
  | .hbm, ⟨25, _⟩ => ⟨S2x1408x2048, .f32⟩
  | .hbm, ⟨26, _⟩ => ⟨S_, .f32⟩
  | .hbm, ⟨27, _⟩ => ⟨S2x1408x2048, .f32⟩
  | .hbm, ⟨28, _⟩ => ⟨S2x1408x2048, .f32⟩
  | .hbm, ⟨29, _⟩ => ⟨S2x1408x2048, .f32⟩
  | .hbm, ⟨30, _⟩ => ⟨S_, .f32⟩
  | .hbm, ⟨31, _⟩ => ⟨S2x1408x2048, .f32⟩
  | .hbm, ⟨32, _⟩ => ⟨S2x1408x2048, .f32⟩
  | .hbm, ⟨33, _⟩ => ⟨S2x1408x2048, .f32⟩
  | .hbm, ⟨34, _⟩ => ⟨S_, .f32⟩
  | .hbm, ⟨35, _⟩ => ⟨S2x1408x2048, .f32⟩
  | .hbm, ⟨36, _⟩ => ⟨S2x1408x2048, .f32⟩
  | .hbm, ⟨37, _⟩ => ⟨S2x1408x2048, .f32⟩
  | .hbm, ⟨38, _⟩ => ⟨S_, .f32⟩
  | .hbm, ⟨39, _⟩ => ⟨S2x1408x2048, .f32⟩
  | .hbm, ⟨40, _⟩ => ⟨S2x1408x2048, .f32⟩
  | _, _ => ⟨S2x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.FwdRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A staged input holds its block at every grid point, for any proof data that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- A staged input holds its block at every grid point, for any proof data that leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- A staged input holds its block at every grid point, for any proof data that leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- A staged input holds its block at every grid point, for any proof data that leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The body resets its carried state: the second grid coordinate is zero. -/
abbrev cond0_0 (i : grid0.Coords) : Prop := (Scalar.cmpi .ne (Scalar.extui (Scalar.cmpi .eq (BitVec.ofNat 32 (i 1).val) 0#32)) 0#32) = 1#1

/-- The reset happens at the points that are multiples of eight. -/
theorem hcond0_0 : ∀ t : Fin cfg0.N, cond0_0 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- One staging buffer of an output window, through which its contents are stated. -/
abbrev VO0_4 : View sig .tc .vmem S512x512 .f32 := (Memref.whole cc0_stg4_0 : Memref sig .tc .vmem S512x512 .f32).view

/-- One staging buffer of an output window, through which its contents are stated. -/
abbrev VO0_5 : View sig .tc .vmem S1x8x512x256 .f32 := (Memref.whole cc0_stg5_0 : Memref sig .tc .vmem S1x8x512x256 .f32).view

/-- The staging memref a window uses at point `t`. -/
abbrev ms0_0 (t : Fin cfg0.N) : Memref sig .tc .vmem S512x256 .f32 := win0_0.stage (cfg0.slots t 0)

/-- That memref is a whole buffer. -/
abbrev hs0_0 (t : Fin cfg0.N) : (ms0_0 t).IsWhole := hstage0_0 ((cfg0.slots t 0).cast nbuf0_0)

/-- The staging memref a window uses at point `t`. -/
abbrev ms0_1 (t : Fin cfg0.N) : Memref sig .tc .vmem S512x256 .f32 := win0_1.stage (cfg0.slots t 1)

/-- That memref is a whole buffer. -/
abbrev hs0_1 (t : Fin cfg0.N) : (ms0_1 t).IsWhole := hstage0_1 ((cfg0.slots t 1).cast nbuf0_1)

/-- The staging memref a window uses at point `t`. -/
abbrev ms0_2 (t : Fin cfg0.N) : Memref sig .tc .vmem S512x512 .f32 := win0_2.stage (cfg0.slots t 2)

/-- That memref is a whole buffer. -/
abbrev hs0_2 (t : Fin cfg0.N) : (ms0_2 t).IsWhole := hstage0_2 ((cfg0.slots t 2).cast nbuf0_2)

/-- The staging memref a window uses at point `t`. -/
abbrev ms0_3 (t : Fin cfg0.N) : Memref sig .tc .vmem S512x256 .f32 := win0_3.stage (cfg0.slots t 3)

/-- That memref is a whole buffer. -/
abbrev hs0_3 (t : Fin cfg0.N) : (ms0_3 t).IsWhole := hstage0_3 ((cfg0.slots t 3).cast nbuf0_3)

/-- The staging memref a window uses at point `t`. -/
abbrev ms0_4 (t : Fin cfg0.N) : Memref sig .tc .vmem S512x512 .f32 := win0_4.stage (cfg0.slots t 4)

/-- That memref is a whole buffer. -/
abbrev hs0_4 (t : Fin cfg0.N) : (ms0_4 t).IsWhole := hstage0_4 ((cfg0.slots t 4).cast nbuf0_4)

/-- The staging memref a window uses at point `t`. -/
abbrev ms0_5 (t : Fin cfg0.N) : Memref sig .tc .vmem S1x8x512x256 .f32 := win0_5.stage (cfg0.slots t 5)

/-- That memref is a whole buffer. -/
abbrev hs0_5 (t : Fin cfg0.N) : (ms0_5 t).IsWhole := hstage0_5 ((cfg0.slots t 5).cast nbuf0_5)

/-- The carried scratch buffer. -/
abbrev scM0_0 : Memref sig .tc .vmem S512x256 .f32 := Memref.whole cc0_scratch0

/-- The carried scratch buffer as a view. -/
abbrev VS0_0 : View sig .tc .vmem S512x256 .f32 := scM0_0.view

/-- What the call carries unopened: the other scoped buffers at some contents and the generator register. -/
def other (c : Dev nD) : sProp 𝕄 :=
  iprop(Pipeline.scopedRestBut (Ix := Unit) (Name := ℕ) (U := UR sig nD τ) (Lvl := ℕ) (Val := Elt F) spec0 c [cc0_scratch0] ∗ ∃ r, prngReg c r)

/-- The invariant around the region with the scratch buffer owned at some contents. -/
theorem PhiA0_eq (c : Dev nD) :
    (Pipeline.ΦA spec0 c : sProp 𝕄)
      = iprop(iprop((∃ d, owns (c : Thread nD τ) scM0_0 fullShare d)) ∗ other c) := by
  unfold Pipeline.ΦA other
  rw [Pipeline.scopedRest_split_of_list spec0 c [cc0_scratch0] (by decide) (by decide)]
  simp only [scM0_0, owns_whole]
  exact BI.Entails.antisymm BI.sep_assoc BI.sep_assoc'

end Cert.KernelIdeal.Fwd

end
-- ==== Proof.FwdRunA.lean ====
module

public import proofs.«01_k».proof.Proof.FwdRuns

@[expose] public section

set_option maxRecDepth 16384

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x256 .f32) (harg5 : arg5.IsWhole) (arg6 : Memref sig .tc .vmem S512x512 .f32) (harg6 : arg6.IsWhole) (arg7 : Memref sig .tc .vmem S1x8x512x256 .f32) (harg7 : arg7.IsWhole) (arg8 : Memref sig .tc .vmem S512x256 .f32) (harg8 : arg8.IsWhole)

set_option maxHeartbeats 1000000 in
/-- The forward body at a point that resets its carried state: it runs, and the pieces it stores are found by the run. -/
noncomputable def kernelRun0_A (hc0 : cond0_0 i)
    (x0 : Vec F S512x256 .f32) (x1 : Vec F S512x256 .f32) (x2 : Vec F S512x512 .f32) (x3 : Vec F S512x256 .f32) :
    Σ' (L4 : List (View.Piece (Elt F) S512x512 .f32)), Σ' (L5 : List (View.Piece (Elt F) S1x8x512x256 .f32)), { LS0 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_gla_fwd i arg2 harg2 arg3 harg3 arg4 harg4 arg5 harg5 arg6 harg6 arg7 harg7 arg8 harg8) K } := by
  refine ⟨?_, ?_, ?_, fun E K => ?run⟩
  case run =>
    simp only [cc0_gla_fwd_eq_skeleton]; unfold cc0_gla_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.Fwd

end
-- ==== Proof.FwdRunB.lean ====
module

public import proofs.«01_k».proof.Proof.FwdRunA

@[expose] public section

set_option maxRecDepth 16384

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x256 .f32) (harg5 : arg5.IsWhole) (arg6 : Memref sig .tc .vmem S512x512 .f32) (harg6 : arg6.IsWhole) (arg7 : Memref sig .tc .vmem S1x8x512x256 .f32) (harg7 : arg7.IsWhole) (arg8 : Memref sig .tc .vmem S512x256 .f32) (harg8 : arg8.IsWhole)

set_option maxHeartbeats 1000000 in
/-- The forward body at a point that keeps its carried state `xs0`: it runs, and the pieces it stores are found by the run. -/
noncomputable def kernelRun0_B (hc0 : ¬cond0_0 i)
    (x0 : Vec F S512x256 .f32) (x1 : Vec F S512x256 .f32) (x2 : Vec F S512x512 .f32) (x3 : Vec F S512x256 .f32) (xs0 : Vec F S512x256 .f32) :
    Σ' (L4 : List (View.Piece (Elt F) S512x512 .f32)), Σ' (L5 : List (View.Piece (Elt F) S1x8x512x256 .f32)), { LS0 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_gla_fwd i arg2 harg2 arg3 harg3 arg4 harg4 arg5 harg5 arg6 harg6 arg7 harg7 arg8 harg8) K } := by
  refine ⟨?_, ?_, ?_, fun E K => ?run⟩
  case run =>
    simp only [cc0_gla_fwd_eq_skeleton]; unfold cc0_gla_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.Fwd

end
-- ==== Proof.FwdBody.lean ====
module

public import proofs.«01_k».proof.Proof.FwdRunB
public import Idealize.ShloMosaic.Lib.Claim

@[expose] public section

set_option maxRecDepth 16384

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x256 .f32) (harg5 : arg5.IsWhole) (arg6 : Memref sig .tc .vmem S512x512 .f32) (harg6 : arg6.IsWhole) (arg7 : Memref sig .tc .vmem S1x8x512x256 .f32) (harg7 : arg7.IsWhole) (arg8 : Memref sig .tc .vmem S512x256 .f32) (harg8 : arg8.IsWhole)

/-- The pieces stored into this buffer cover it. -/
theorem cover0_A_4 (hc0 : cond0_0 i)
    (x0 : Vec F S512x256 .f32) (x1 : Vec F S512x256 .f32) (x2 : Vec F S512x512 .f32) (x3 : Vec F S512x256 .f32) (y : S512x512.Idx) :
    ∃ pc ∈ (kernelRun0_A c i arg2 harg2 arg3 harg3 arg4 harg4 arg5 harg5 arg6 harg6 arg7 harg7 arg8 harg8 hc0 x0 x1 x2 x3).1, y ∈ pc.1.set :=
  View.cover_of_tiledL (kernelRun0_A c i arg2 harg2 arg3 harg3 arg4 harg4 arg5 harg5 arg6 harg6 arg7 harg7 arg8 harg8 hc0 x0 x1 x2 x3).1 S64x512.size (by sl_kernel_rfl) y

/-- What those pieces leave in the buffer. -/
def out0_A_4 (hc0 : cond0_0 i)
    (x0 : Vec F S512x256 .f32) (x1 : Vec F S512x256 .f32) (x2 : Vec F S512x512 .f32) (x3 : Vec F S512x256 .f32) : Vec F S512x512 .f32 :=
  VO0_4.read (Elt F) (VO0_4.writes (Elt F) VO0_4.junk (kernelRun0_A c i arg2 harg2 arg3 harg3 arg4 harg4 arg5 harg5 arg6 harg6 arg7 harg7 arg8 harg8 hc0 x0 x1 x2 x3).1)

/-- The pieces stored into this buffer cover it. -/
theorem cover0_A_5 (hc0 : cond0_0 i)
    (x0 : Vec F S512x256 .f32) (x1 : Vec F S512x256 .f32) (x2 : Vec F S512x512 .f32) (x3 : Vec F S512x256 .f32) (y : S1x8x512x256.Idx) :
    ∃ pc ∈ (kernelRun0_A c i arg2 harg2 arg3 harg3 arg4 harg4 arg5 harg5 arg6 harg6 arg7 harg7 arg8 harg8 hc0 x0 x1 x2 x3).2.1, y ∈ pc.1.set :=
  View.cover_of_tiledL (kernelRun0_A c i arg2 harg2 arg3 harg3 arg4 harg4 arg5 harg5 arg6 harg6 arg7 harg7 arg8 harg8 hc0 x0 x1 x2 x3).2.1 S1x1x512x256.size (by sl_kernel_rfl) y

/-- What those pieces leave in the buffer. -/
def out0_A_5 (hc0 : cond0_0 i)
    (x0 : Vec F S512x256 .f32) (x1 : Vec F S512x256 .f32) (x2 : Vec F S512x512 .f32) (x3 : Vec F S512x256 .f32) : Vec F S1x8x512x256 .f32 :=
  VO0_5.read (Elt F) (VO0_5.writes (Elt F) VO0_5.junk (kernelRun0_A c i arg2 harg2 arg3 harg3 arg4 harg4 arg5 harg5 arg6 harg6 arg7 harg7 arg8 harg8 hc0 x0 x1 x2 x3).2.1)

/-- The pieces stored into this buffer cover it. -/
theorem scover0_A_0 (hc0 : cond0_0 i)
    (x0 : Vec F S512x256 .f32) (x1 : Vec F S512x256 .f32) (x2 : Vec F S512x512 .f32) (x3 : Vec F S512x256 .f32) (y : S512x256.Idx) :
    ∃ pc ∈ (kernelRun0_A c i arg2 harg2 arg3 harg3 arg4 harg4 arg5 harg5 arg6 harg6 arg7 harg7 arg8 harg8 hc0 x0 x1 x2 x3).2.2.1, y ∈ pc.1.set :=
  View.cover_of_tiledL (kernelRun0_A c i arg2 harg2 arg3 harg3 arg4 harg4 arg5 harg5 arg6 harg6 arg7 harg7 arg8 harg8 hc0 x0 x1 x2 x3).2.2.1 S512x256.size (by sl_kernel_rfl) y

/-- What those pieces leave in the buffer. -/
def sout0_A_0 (hc0 : cond0_0 i)
    (x0 : Vec F S512x256 .f32) (x1 : Vec F S512x256 .f32) (x2 : Vec F S512x512 .f32) (x3 : Vec F S512x256 .f32) : Vec F S512x256 .f32 :=
  VS0_0.read (Elt F) (VS0_0.writes (Elt F) VS0_0.junk (kernelRun0_A c i arg2 harg2 arg3 harg3 arg4 harg4 arg5 harg5 arg6 harg6 arg7 harg7 arg8 harg8 hc0 x0 x1 x2 x3).2.2.1)

/-- The pieces stored into this buffer cover it. -/
theorem cover0_B_4 (hc0 : ¬cond0_0 i)
    (x0 : Vec F S512x256 .f32) (x1 : Vec F S512x256 .f32) (x2 : Vec F S512x512 .f32) (x3 : Vec F S512x256 .f32) (xs0 : Vec F S512x256 .f32) (y : S512x512.Idx) :
    ∃ pc ∈ (kernelRun0_B c i arg2 harg2 arg3 harg3 arg4 harg4 arg5 harg5 arg6 harg6 arg7 harg7 arg8 harg8 hc0 x0 x1 x2 x3 xs0).1, y ∈ pc.1.set :=
  View.cover_of_tiledL (kernelRun0_B c i arg2 harg2 arg3 harg3 arg4 harg4 arg5 harg5 arg6 harg6 arg7 harg7 arg8 harg8 hc0 x0 x1 x2 x3 xs0).1 S64x512.size (by sl_kernel_rfl) y

/-- What those pieces leave in the buffer. -/
def out0_B_4 (hc0 : ¬cond0_0 i)
    (x0 : Vec F S512x256 .f32) (x1 : Vec F S512x256 .f32) (x2 : Vec F S512x512 .f32) (x3 : Vec F S512x256 .f32) (xs0 : Vec F S512x256 .f32) : Vec F S512x512 .f32 :=
  VO0_4.read (Elt F) (VO0_4.writes (Elt F) VO0_4.junk (kernelRun0_B c i arg2 harg2 arg3 harg3 arg4 harg4 arg5 harg5 arg6 harg6 arg7 harg7 arg8 harg8 hc0 x0 x1 x2 x3 xs0).1)

/-- The pieces stored into this buffer cover it. -/
theorem cover0_B_5 (hc0 : ¬cond0_0 i)
    (x0 : Vec F S512x256 .f32) (x1 : Vec F S512x256 .f32) (x2 : Vec F S512x512 .f32) (x3 : Vec F S512x256 .f32) (xs0 : Vec F S512x256 .f32) (y : S1x8x512x256.Idx) :
    ∃ pc ∈ (kernelRun0_B c i arg2 harg2 arg3 harg3 arg4 harg4 arg5 harg5 arg6 harg6 arg7 harg7 arg8 harg8 hc0 x0 x1 x2 x3 xs0).2.1, y ∈ pc.1.set :=
  View.cover_of_tiledL (kernelRun0_B c i arg2 harg2 arg3 harg3 arg4 harg4 arg5 harg5 arg6 harg6 arg7 harg7 arg8 harg8 hc0 x0 x1 x2 x3 xs0).2.1 S1x1x512x256.size (by sl_kernel_rfl) y

/-- What those pieces leave in the buffer. -/
def out0_B_5 (hc0 : ¬cond0_0 i)
    (x0 : Vec F S512x256 .f32) (x1 : Vec F S512x256 .f32) (x2 : Vec F S512x512 .f32) (x3 : Vec F S512x256 .f32) (xs0 : Vec F S512x256 .f32) : Vec F S1x8x512x256 .f32 :=
  VO0_5.read (Elt F) (VO0_5.writes (Elt F) VO0_5.junk (kernelRun0_B c i arg2 harg2 arg3 harg3 arg4 harg4 arg5 harg5 arg6 harg6 arg7 harg7 arg8 harg8 hc0 x0 x1 x2 x3 xs0).2.1)

/-- The pieces stored into this buffer cover it. -/
theorem scover0_B_0 (hc0 : ¬cond0_0 i)
    (x0 : Vec F S512x256 .f32) (x1 : Vec F S512x256 .f32) (x2 : Vec F S512x512 .f32) (x3 : Vec F S512x256 .f32) (xs0 : Vec F S512x256 .f32) (y : S512x256.Idx) :
    ∃ pc ∈ (kernelRun0_B c i arg2 harg2 arg3 harg3 arg4 harg4 arg5 harg5 arg6 harg6 arg7 harg7 arg8 harg8 hc0 x0 x1 x2 x3 xs0).2.2.1, y ∈ pc.1.set :=
  View.cover_of_tiledL (kernelRun0_B c i arg2 harg2 arg3 harg3 arg4 harg4 arg5 harg5 arg6 harg6 arg7 harg7 arg8 harg8 hc0 x0 x1 x2 x3 xs0).2.2.1 S512x256.size (by sl_kernel_rfl) y

/-- What those pieces leave in the buffer. -/
def sout0_B_0 (hc0 : ¬cond0_0 i)
    (x0 : Vec F S512x256 .f32) (x1 : Vec F S512x256 .f32) (x2 : Vec F S512x512 .f32) (x3 : Vec F S512x256 .f32) (xs0 : Vec F S512x256 .f32) : Vec F S512x256 .f32 :=
  VS0_0.read (Elt F) (VS0_0.writes (Elt F) VS0_0.junk (kernelRun0_B c i arg2 harg2 arg3 harg3 arg4 harg4 arg5 harg5 arg6 harg6 arg7 harg7 arg8 harg8 hc0 x0 x1 x2 x3 xs0).2.2.1)

/-- What the output blocks and the carried state hold after the body at point `n`. -/
def outsAt0 (c : Dev nD) : (n : ℕ) → n < cfg0.N → Vec F S512x512 .f32 × Vec F S1x8x512x256 .f32 × Vec F S512x256 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩))
  | n + 1, hn =>
    if h0 : (n + 1) % 8 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2)

/-- The same at one kind of point. -/
theorem outsAt0_A (c : Dev nD) (t : Fin cfg0.N) (h0 : t.val % 8 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk V c 0 t) (iblk V c 1 t) (iblk V c 2 t) (iblk V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk V c 0 t) (iblk V c 1 t) (iblk V c 2 t) (iblk V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk V c 0 t) (iblk V c 1 t) (iblk V c 2 t) (iblk V c 3 t)) := by
  obtain ⟨n, hn⟩ := t
  cases n with
  | zero => exact rfl
  | succ n => exact (dif_pos h0).trans rfl

/-- The same at one kind of point. -/
theorem outsAt0_B (c : Dev nD) (t : Fin cfg0.N) (h0 : ¬t.val % 8 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk V c 0 t) (iblk V c 1 t) (iblk V c 2 t) (iblk V c 3 t) (outsAt0 V c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk V c 0 t) (iblk V c 1 t) (iblk V c 2 t) (iblk V c 3 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk V c 0 t) (iblk V c 1 t) (iblk V c 2 t) (iblk V c 3 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The invariant between points: the carried state at what the last point left. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2)) ∗ other c)

/-- The invariant, restated. -/
theorem PhiS_zero (c : Dev nD) (n : ℕ) (h : n ≤ cfg0.N) (hz : n = 0) : PhiS V c n h = Pipeline.ΦA spec0 c := by
  subst hz; rfl

/-- The invariant, restated. -/
theorem PhiS_succ (c : Dev nD) (n : ℕ) (hn : n < cfg0.N) :
    PhiS V c (n + 1) hn = iprop(iprop(owns (c : Thread nD τ) scM0_0 fullShare ((outsAt0 V c n hn).2.2)) ∗ other c) := rfl

/-- The invariant, restated. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2)) ∗ other c) := by
  cases n with
  | zero => exact absurd rfl hz
  | succ n => rfl

/-- The proof data of the forward call. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 V c t.val t.isLt).1
    | ⟨5, _⟩ => (outsAt0 V c t.val t.isLt).2.1
  Φ t := PhiS V c t.val (Nat.le_of_lt_succ t.isLt)
  q w := Pipeline.shareOf spec0 w
  owed _ := 0
  recorded _ := Set.univ

/-- The arrays are the contents the call is entered with. -/
theorem A_eq (c : Dev nD) (w : Fin cfg0.W) : (dat V c).A w = V c (Pipeline.arrRef spec0 w) := by
  dsimp only [dat]

/-- The invariant, restated. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves in this window at a grid point. -/
theorem after0_0 (c : Dev nD) (t : Fin cfg0.N) : (dat V c).after 0 t = iblk V c 0 t := by dsimp only [dat]

/-- What the body leaves in this window at a grid point. -/
theorem after0_1 (c : Dev nD) (t : Fin cfg0.N) : (dat V c).after 1 t = iblk V c 1 t := by dsimp only [dat]

/-- What the body leaves in this window at a grid point. -/
theorem after0_2 (c : Dev nD) (t : Fin cfg0.N) : (dat V c).after 2 t = iblk V c 2 t := by dsimp only [dat]

/-- What the body leaves in this window at a grid point. -/
theorem after0_3 (c : Dev nD) (t : Fin cfg0.N) : (dat V c).after 3 t = iblk V c 3 t := by dsimp only [dat]

/-- What the body leaves in this window at a grid point. -/
theorem after0_4 (c : Dev nD) (t : Fin cfg0.N) : (dat V c).after 4 t = (outsAt0 V c t.val t.isLt).1 := by dsimp only [dat]

/-- What the body leaves in this window at a grid point. -/
theorem after0_5 (c : Dev nD) (t : Fin cfg0.N) : (dat V c).after 5 t = (outsAt0 V c t.val t.isLt).2.1 := by dsimp only [dat]

/-- A staged input holds its block when the body starts. -/
theorem before0_0 (c : Dev nD) (t : Fin cfg0.N) (d) : (dat V c).before 0 t d = iblk V c 0 t :=
  before0_0_of V (dat V c) (A_eq V c 0) (after0_0 V c) t d

/-- A staged input holds its block when the body starts. -/
theorem before0_1 (c : Dev nD) (t : Fin cfg0.N) (d) : (dat V c).before 1 t d = iblk V c 1 t :=
  before0_1_of V (dat V c) (A_eq V c 1) (after0_1 V c) t d

/-- A staged input holds its block when the body starts. -/
theorem before0_2 (c : Dev nD) (t : Fin cfg0.N) (d) : (dat V c).before 2 t d = iblk V c 2 t :=
  before0_2_of V (dat V c) (A_eq V c 2) (after0_2 V c) t d

/-- A staged input holds its block when the body starts. -/
theorem before0_3 (c : Dev nD) (t : Fin cfg0.N) (d) : (dat V c).before 3 t d = iblk V c 3 t :=
  before0_3_of V (dat V c) (A_eq V c 3) (after0_3 V c) t d

/-- What the body is given at point `t`. -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d)))

/-- What the body gives back at point `t`. -/
def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t))

set_option maxHeartbeats 3200000 in
/-- The body, run at any point from what it is given, gives back what it owes. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat V c).owesAt () t.succ = (dat V c).owesAt () t.castSucc from rfl,
    after0_0, after0_1, after0_2, after0_3, after0_4, after0_5]
  rw [show (dat V c).Φ t.succ = PhiS V c (t.val + 1) t.isLt from rfl, PhiS_succ]
  have hN : t.val < 32 := lt_of_lt_of_eq t.isLt (show cfg0.N = 32 from N_0)
  by_cases h0 : t.val % 8 = 0
  · by_cases hz : t.val = 0
    · rw [PhiS_castSucc V c t, PhiS_zero V c _ _ hz, PhiA0_eq]
      rw [outsAt0_A V c t h0]
      unfold out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk V c 0 t) (iblk V c 1 t) (iblk V c 2 t) (iblk V c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
    · rw [PhiS_castSucc V c t, PhiS_pos V c _ _ hz]
      rw [outsAt0_A V c t h0]
      unfold out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk V c 0 t) (iblk V c 1 t) (iblk V c 2 t) (iblk V c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
  · by_cases hz : t.val = 0
    · exfalso; have hN : t.val < 32 := lt_of_lt_of_eq t.isLt (show cfg0.N = 32 from N_0); omega
    · rw [PhiS_castSucc V c t, PhiS_pos V c _ _ hz]
      rw [outsAt0_B V c t h0]
      unfold out0_B_4 out0_B_5 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (iblk V c 0 t) (iblk V c 1 t) (iblk V c 2 t) (iblk V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _ _ _)

/-- The body the pipeline calls at a point. -/
theorem defs₀_row (t : Fin cfg0.N) :
    defs₀ (F := F) .tc cfg0.body (cfg0.bodyArgs t (cfg0.slots t)) = bodyAt0 t := by
  unfold defs₀; rw [Defs.onTc_tc]

/-- The obligation of the pipeline, at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- The launch gives the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- The invariant, restated. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The invariant after the last point gives the scratch back. -/
theorem hout (c : Dev nD) : (dat V c).Φ (Fin.last cfg0.N) ⊢ Pipeline.ΦA spec0 c :=
  Phi_out V c _ (by rw [Fin.val_last]; have : cfg0.N = 32 := N_0; omega)

end Cert.KernelIdeal.Fwd

end
-- ==== Proof.BwdRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A staged input holds its block at every grid point, for any proof data that leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- A staged input holds its block at every grid point, for any proof data that leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- A staged input holds its block at every grid point, for any proof data that leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- A staged input holds its block at every grid point, for any proof data that leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- A staged input holds its block at every grid point, for any proof data that leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- A staged input holds its block at every grid point, for any proof data that leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The body resets its carried state: the second grid coordinate is zero. -/
abbrev cond1_0 (i : grid1.Coords) : Prop := (Scalar.cmpi .ne (Scalar.extui (Scalar.cmpi .eq (BitVec.ofNat 32 (i 1).val) 0#32)) 0#32) = 1#1

/-- The reset happens at the points that are multiples of eight. -/
theorem hcond1_0 : ∀ t : Fin cfg1.N, cond1_0 (grid1.coords t) ↔ t.val % 8 = 0 :=
  (fun t => by
    have ht : t.val < 32 := Nat.lt_of_lt_of_eq t.isLt N_1
    have e0 : (grid1.coords t 0).val = t.val / 8 % 4 := Pipeline.Grid.coords_val t 0 (by decide) rfl
    have e1 : (grid1.coords t 1).val = t.val / 1 % 8 := Pipeline.Grid.coords_val t 1 (by decide) rfl
    simp only [cond1_0, e0, e1]
    word_cmp
   : ∀ t : Fin grid1.N, cond1_0 (grid1.coords t) ↔ t.val % 8 = 0)

/-- One staging buffer of an output window, through which its contents are stated. -/
abbrev VO1_6 : View sig .tc .vmem S512x256 .bf16 := (Memref.whole cc1_stg6_0 : Memref sig .tc .vmem S512x256 .bf16).view

/-- One staging buffer of an output window, through which its contents are stated. -/
abbrev VO1_7 : View sig .tc .vmem S512x256 .bf16 := (Memref.whole cc1_stg7_0 : Memref sig .tc .vmem S512x256 .bf16).view

/-- One staging buffer of an output window, through which its contents are stated. -/
abbrev VO1_8 : View sig .tc .vmem S512x512 .bf16 := (Memref.whole cc1_stg8_0 : Memref sig .tc .vmem S512x512 .bf16).view

/-- One staging buffer of an output window, through which its contents are stated. -/
abbrev VO1_9 : View sig .tc .vmem S512x256 .f32 := (Memref.whole cc1_stg9_0 : Memref sig .tc .vmem S512x256 .f32).view

/-- The staging memref a window uses at point `t`. -/
abbrev ms1_0 (t : Fin cfg1.N) : Memref sig .tc .vmem S512x256 .f32 := win1_0.stage (cfg1.slots t 0)

/-- That memref is a whole buffer. -/
abbrev hs1_0 (t : Fin cfg1.N) : (ms1_0 t).IsWhole := hstage1_0 ((cfg1.slots t 0).cast nbuf1_0)

/-- The staging memref a window uses at point `t`. -/
abbrev ms1_1 (t : Fin cfg1.N) : Memref sig .tc .vmem S512x256 .f32 := win1_1.stage (cfg1.slots t 1)

/-- That memref is a whole buffer. -/
abbrev hs1_1 (t : Fin cfg1.N) : (ms1_1 t).IsWhole := hstage1_1 ((cfg1.slots t 1).cast nbuf1_1)

/-- The staging memref a window uses at point `t`. -/
abbrev ms1_2 (t : Fin cfg1.N) : Memref sig .tc .vmem S512x512 .f32 := win1_2.stage (cfg1.slots t 2)

/-- That memref is a whole buffer. -/
abbrev hs1_2 (t : Fin cfg1.N) : (ms1_2 t).IsWhole := hstage1_2 ((cfg1.slots t 2).cast nbuf1_2)

/-- The staging memref a window uses at point `t`. -/
abbrev ms1_3 (t : Fin cfg1.N) : Memref sig .tc .vmem S512x256 .f32 := win1_3.stage (cfg1.slots t 3)

/-- That memref is a whole buffer. -/
abbrev hs1_3 (t : Fin cfg1.N) : (ms1_3 t).IsWhole := hstage1_3 ((cfg1.slots t 3).cast nbuf1_3)

/-- The staging memref a window uses at point `t`. -/
abbrev ms1_4 (t : Fin cfg1.N) : Memref sig .tc .vmem S1x8x512x256 .f32 := win1_4.stage (cfg1.slots t 4)

/-- That memref is a whole buffer. -/
abbrev hs1_4 (t : Fin cfg1.N) : (ms1_4 t).IsWhole := hstage1_4 ((cfg1.slots t 4).cast nbuf1_4)

/-- The staging memref a window uses at point `t`. -/
abbrev ms1_5 (t : Fin cfg1.N) : Memref sig .tc .vmem S512x512 .bf16 := win1_5.stage (cfg1.slots t 5)

/-- That memref is a whole buffer. -/
abbrev hs1_5 (t : Fin cfg1.N) : (ms1_5 t).IsWhole := hstage1_5 ((cfg1.slots t 5).cast nbuf1_5)

/-- The staging memref a window uses at point `t`. -/
abbrev ms1_6 (t : Fin cfg1.N) : Memref sig .tc .vmem S512x256 .bf16 := win1_6.stage (cfg1.slots t 6)

/-- That memref is a whole buffer. -/
abbrev hs1_6 (t : Fin cfg1.N) : (ms1_6 t).IsWhole := hstage1_6 ((cfg1.slots t 6).cast nbuf1_6)

/-- The staging memref a window uses at point `t`. -/
abbrev ms1_7 (t : Fin cfg1.N) : Memref sig .tc .vmem S512x256 .bf16 := win1_7.stage (cfg1.slots t 7)

/-- That memref is a whole buffer. -/
abbrev hs1_7 (t : Fin cfg1.N) : (ms1_7 t).IsWhole := hstage1_7 ((cfg1.slots t 7).cast nbuf1_7)

/-- The staging memref a window uses at point `t`. -/
abbrev ms1_8 (t : Fin cfg1.N) : Memref sig .tc .vmem S512x512 .bf16 := win1_8.stage (cfg1.slots t 8)

/-- That memref is a whole buffer. -/
abbrev hs1_8 (t : Fin cfg1.N) : (ms1_8 t).IsWhole := hstage1_8 ((cfg1.slots t 8).cast nbuf1_8)

/-- The staging memref a window uses at point `t`. -/
abbrev ms1_9 (t : Fin cfg1.N) : Memref sig .tc .vmem S512x256 .f32 := win1_9.stage (cfg1.slots t 9)

/-- That memref is a whole buffer. -/
abbrev hs1_9 (t : Fin cfg1.N) : (ms1_9 t).IsWhole := hstage1_9 ((cfg1.slots t 9).cast nbuf1_9)

/-- The carried scratch buffer. -/
abbrev scM1_0 : Memref sig .tc .vmem S512x256 .f32 := Memref.whole cc1_scratch0

/-- The carried scratch buffer as a view. -/
abbrev VS1_0 : View sig .tc .vmem S512x256 .f32 := scM1_0.view

/-- What the call carries unopened: the other scoped buffers at some contents and the generator register. -/
def other (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The invariant around the region with the scratch buffer owned at some contents. -/
theorem PhiA1_eq (c : Dev nD) :
    (Pipeline.ΦA spec1 c : sProp 𝕄)
      = iprop(iprop((∃ d, owns (c : Thread nD τ) scM1_0 fullShare d)) ∗ other c) := by
  unfold Pipeline.ΦA other
  rw [Pipeline.scopedRest_split_of_list spec1 c [cc1_scratch0] (by decide) (by decide)]
  simp only [scM1_0, owns_whole]
  exact BI.Entails.antisymm BI.sep_assoc BI.sep_assoc'

end Cert.KernelIdeal.Bwd

end
-- ==== Proof.BwdRunA.lean ====
module

public import proofs.«01_k».proof.Proof.BwdRuns

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x256 .f32) (harg5 : arg5.IsWhole) (arg6 : Memref sig .tc .vmem S1x8x512x256 .f32) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x512 .bf16) (harg10 : arg10.IsWhole) (arg11 : Memref sig .tc .vmem S512x256 .f32) (harg11 : arg11.IsWhole) (arg12 : Memref sig .tc .vmem S512x256 .f32) (harg12 : arg12.IsWhole)

set_option maxHeartbeats 1000000 in
/-- The backward body at a point that resets its carried state: it runs, and the pieces it stores are found by the run. -/
noncomputable def kernelRun1_A (hc0 : cond1_0 i)
    (x0 : Vec F S512x256 .f32) (x1 : Vec F S512x256 .f32) (x2 : Vec F S512x512 .f32) (x3 : Vec F S512x256 .f32) (x4 : Vec F S1x8x512x256 .f32) (x5 : Vec F S512x512 .bf16) :
    Σ' (L6 : List (View.Piece (Elt F) S512x256 .bf16)), Σ' (L7 : List (View.Piece (Elt F) S512x256 .bf16)), Σ' (L8 : List (View.Piece (Elt F) S512x512 .bf16)), Σ' (L9 : List (View.Piece (Elt F) S512x256 .f32)), { LS0 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc1_gla_bwd i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1_gla_bwd_eq_skeleton]; unfold cc1_gla_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexists _; iexact HS0

end Cert.KernelIdeal.Bwd

end
-- ==== Proof.BwdRunB.lean ====
module

public import proofs.«01_k».proof.Proof.BwdRunA

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x256 .f32) (harg5 : arg5.IsWhole) (arg6 : Memref sig .tc .vmem S1x8x512x256 .f32) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x512 .bf16) (harg10 : arg10.IsWhole) (arg11 : Memref sig .tc .vmem S512x256 .f32) (harg11 : arg11.IsWhole) (arg12 : Memref sig .tc .vmem S512x256 .f32) (harg12 : arg12.IsWhole)

set_option maxHeartbeats 1000000 in
/-- The backward body at a point that keeps its carried state `xs0`: it runs, and the pieces it stores are found by the run. -/
noncomputable def kernelRun1_B (hc0 : ¬cond1_0 i)
    (x0 : Vec F S512x256 .f32) (x1 : Vec F S512x256 .f32) (x2 : Vec F S512x512 .f32) (x3 : Vec F S512x256 .f32) (x4 : Vec F S1x8x512x256 .f32) (x5 : Vec F S512x512 .bf16) (xs0 : Vec F S512x256 .f32) :
    Σ' (L6 : List (View.Piece (Elt F) S512x256 .bf16)), Σ' (L7 : List (View.Piece (Elt F) S512x256 .bf16)), Σ' (L8 : List (View.Piece (Elt F) S512x512 .bf16)), Σ' (L9 : List (View.Piece (Elt F) S512x256 .f32)), { LS0 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc1_gla_bwd i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1_gla_bwd_eq_skeleton]; unfold cc1_gla_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexists _; iexact HS0

end Cert.KernelIdeal.Bwd

end
-- ==== Proof.BwdBody.lean ====
module

public import proofs.«01_k».proof.Proof.BwdRunB
public import Idealize.ShloMosaic.Lib.Claim

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x256 .f32) (harg5 : arg5.IsWhole) (arg6 : Memref sig .tc .vmem S1x8x512x256 .f32) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x512 .bf16) (harg10 : arg10.IsWhole) (arg11 : Memref sig .tc .vmem S512x256 .f32) (harg11 : arg11.IsWhole) (arg12 : Memref sig .tc .vmem S512x256 .f32) (harg12 : arg12.IsWhole)

/-- The pieces stored into this buffer cover it. -/
theorem cover1_A_6 (hc0 : cond1_0 i)
    (x0 : Vec F S512x256 .f32) (x1 : Vec F S512x256 .f32) (x2 : Vec F S512x512 .f32) (x3 : Vec F S512x256 .f32) (x4 : Vec F S1x8x512x256 .f32) (x5 : Vec F S512x512 .bf16) (y : S512x256.Idx) :
    ∃ pc ∈ (kernelRun1_A c i arg2 harg2 arg3 harg3 arg4 harg4 arg5 harg5 arg6 harg6 arg7 harg7 arg8 harg8 arg9 harg9 arg10 harg10 arg11 harg11 arg12 harg12 hc0 x0 x1 x2 x3 x4 x5).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 x0 x1 x2 x3 x4 x5).1 S64x256.size (by sl_kernel_rfl) y

/-- What those pieces leave in the buffer. -/
def out1_A_6 (hc0 : cond1_0 i)
    (x0 : Vec F S512x256 .f32) (x1 : Vec F S512x256 .f32) (x2 : Vec F S512x512 .f32) (x3 : Vec F S512x256 .f32) (x4 : Vec F S1x8x512x256 .f32) (x5 : Vec F S512x512 .bf16) : Vec F S512x256 .bf16 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 arg12 harg12 hc0 x0 x1 x2 x3 x4 x5).1)

/-- The pieces stored into this buffer cover it. -/
theorem cover1_A_7 (hc0 : cond1_0 i)
    (x0 : Vec F S512x256 .f32) (x1 : Vec F S512x256 .f32) (x2 : Vec F S512x512 .f32) (x3 : Vec F S512x256 .f32) (x4 : Vec F S1x8x512x256 .f32) (x5 : Vec F S512x512 .bf16) (y : S512x256.Idx) :
    ∃ pc ∈ (kernelRun1_A c i arg2 harg2 arg3 harg3 arg4 harg4 arg5 harg5 arg6 harg6 arg7 harg7 arg8 harg8 arg9 harg9 arg10 harg10 arg11 harg11 arg12 harg12 hc0 x0 x1 x2 x3 x4 x5).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 x0 x1 x2 x3 x4 x5).2.1 S64x256.size (by sl_kernel_rfl) y

/-- What those pieces leave in the buffer. -/
def out1_A_7 (hc0 : cond1_0 i)
    (x0 : Vec F S512x256 .f32) (x1 : Vec F S512x256 .f32) (x2 : Vec F S512x512 .f32) (x3 : Vec F S512x256 .f32) (x4 : Vec F S1x8x512x256 .f32) (x5 : Vec F S512x512 .bf16) : Vec F S512x256 .bf16 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 arg12 harg12 hc0 x0 x1 x2 x3 x4 x5).2.1)

/-- The pieces stored into this buffer cover it. -/
theorem cover1_A_8 (hc0 : cond1_0 i)
    (x0 : Vec F S512x256 .f32) (x1 : Vec F S512x256 .f32) (x2 : Vec F S512x512 .f32) (x3 : Vec F S512x256 .f32) (x4 : Vec F S1x8x512x256 .f32) (x5 : Vec F S512x512 .bf16) (y : S512x512.Idx) :
    ∃ pc ∈ (kernelRun1_A c i arg2 harg2 arg3 harg3 arg4 harg4 arg5 harg5 arg6 harg6 arg7 harg7 arg8 harg8 arg9 harg9 arg10 harg10 arg11 harg11 arg12 harg12 hc0 x0 x1 x2 x3 x4 x5).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 x0 x1 x2 x3 x4 x5).2.2.1 S64x512.size (by sl_kernel_rfl) y

/-- What those pieces leave in the buffer. -/
def out1_A_8 (hc0 : cond1_0 i)
    (x0 : Vec F S512x256 .f32) (x1 : Vec F S512x256 .f32) (x2 : Vec F S512x512 .f32) (x3 : Vec F S512x256 .f32) (x4 : Vec F S1x8x512x256 .f32) (x5 : Vec F S512x512 .bf16) : Vec F S512x512 .bf16 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 arg12 harg12 hc0 x0 x1 x2 x3 x4 x5).2.2.1)

/-- The pieces stored into this buffer cover it. -/
theorem cover1_A_9 (hc0 : cond1_0 i)
    (x0 : Vec F S512x256 .f32) (x1 : Vec F S512x256 .f32) (x2 : Vec F S512x512 .f32) (x3 : Vec F S512x256 .f32) (x4 : Vec F S1x8x512x256 .f32) (x5 : Vec F S512x512 .bf16) (y : S512x256.Idx) :
    ∃ pc ∈ (kernelRun1_A c i arg2 harg2 arg3 harg3 arg4 harg4 arg5 harg5 arg6 harg6 arg7 harg7 arg8 harg8 arg9 harg9 arg10 harg10 arg11 harg11 arg12 harg12 hc0 x0 x1 x2 x3 x4 x5).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 x0 x1 x2 x3 x4 x5).2.2.2.1 S64x256.size (by sl_kernel_rfl) y

/-- What those pieces leave in the buffer. -/
def out1_A_9 (hc0 : cond1_0 i)
    (x0 : Vec F S512x256 .f32) (x1 : Vec F S512x256 .f32) (x2 : Vec F S512x512 .f32) (x3 : Vec F S512x256 .f32) (x4 : Vec F S1x8x512x256 .f32) (x5 : Vec F S512x512 .bf16) : Vec F S512x256 .f32 :=
  VO1_9.read (Elt F) (VO1_9.writes (Elt F) VO1_9.junk (kernelRun1_A c i arg2 harg2 arg3 harg3 arg4 harg4 arg5 harg5 arg6 harg6 arg7 harg7 arg8 harg8 arg9 harg9 arg10 harg10 arg11 harg11 arg12 harg12 hc0 x0 x1 x2 x3 x4 x5).2.2.2.1)

/-- The pieces stored into this buffer cover it. -/
theorem scover1_A_0 (hc0 : cond1_0 i)
    (x0 : Vec F S512x256 .f32) (x1 : Vec F S512x256 .f32) (x2 : Vec F S512x512 .f32) (x3 : Vec F S512x256 .f32) (x4 : Vec F S1x8x512x256 .f32) (x5 : Vec F S512x512 .bf16) (y : S512x256.Idx) :
    ∃ pc ∈ (kernelRun1_A c i arg2 harg2 arg3 harg3 arg4 harg4 arg5 harg5 arg6 harg6 arg7 harg7 arg8 harg8 arg9 harg9 arg10 harg10 arg11 harg11 arg12 harg12 hc0 x0 x1 x2 x3 x4 x5).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 x0 x1 x2 x3 x4 x5).2.2.2.2.1 S512x256.size (by sl_kernel_rfl) y

/-- What those pieces leave in the buffer. -/
def sout1_A_0 (hc0 : cond1_0 i)
    (x0 : Vec F S512x256 .f32) (x1 : Vec F S512x256 .f32) (x2 : Vec F S512x512 .f32) (x3 : Vec F S512x256 .f32) (x4 : Vec F S1x8x512x256 .f32) (x5 : Vec F S512x512 .bf16) : Vec F S512x256 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 x0 x1 x2 x3 x4 x5).2.2.2.2.1)

/-- The pieces stored into this buffer cover it. -/
theorem cover1_B_6 (hc0 : ¬cond1_0 i)
    (x0 : Vec F S512x256 .f32) (x1 : Vec F S512x256 .f32) (x2 : Vec F S512x512 .f32) (x3 : Vec F S512x256 .f32) (x4 : Vec F S1x8x512x256 .f32) (x5 : Vec F S512x512 .bf16) (xs0 : Vec F S512x256 .f32) (y : S512x256.Idx) :
    ∃ pc ∈ (kernelRun1_B c i arg2 harg2 arg3 harg3 arg4 harg4 arg5 harg5 arg6 harg6 arg7 harg7 arg8 harg8 arg9 harg9 arg10 harg10 arg11 harg11 arg12 harg12 hc0 x0 x1 x2 x3 x4 x5 xs0).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 x0 x1 x2 x3 x4 x5 xs0).1 S64x256.size (by sl_kernel_rfl) y

/-- What those pieces leave in the buffer. -/
def out1_B_6 (hc0 : ¬cond1_0 i)
    (x0 : Vec F S512x256 .f32) (x1 : Vec F S512x256 .f32) (x2 : Vec F S512x512 .f32) (x3 : Vec F S512x256 .f32) (x4 : Vec F S1x8x512x256 .f32) (x5 : Vec F S512x512 .bf16) (xs0 : Vec F S512x256 .f32) : Vec F S512x256 .bf16 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 arg12 harg12 hc0 x0 x1 x2 x3 x4 x5 xs0).1)

/-- The pieces stored into this buffer cover it. -/
theorem cover1_B_7 (hc0 : ¬cond1_0 i)
    (x0 : Vec F S512x256 .f32) (x1 : Vec F S512x256 .f32) (x2 : Vec F S512x512 .f32) (x3 : Vec F S512x256 .f32) (x4 : Vec F S1x8x512x256 .f32) (x5 : Vec F S512x512 .bf16) (xs0 : Vec F S512x256 .f32) (y : S512x256.Idx) :
    ∃ pc ∈ (kernelRun1_B c i arg2 harg2 arg3 harg3 arg4 harg4 arg5 harg5 arg6 harg6 arg7 harg7 arg8 harg8 arg9 harg9 arg10 harg10 arg11 harg11 arg12 harg12 hc0 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 x0 x1 x2 x3 x4 x5 xs0).2.1 S64x256.size (by sl_kernel_rfl) y

/-- What those pieces leave in the buffer. -/
def out1_B_7 (hc0 : ¬cond1_0 i)
    (x0 : Vec F S512x256 .f32) (x1 : Vec F S512x256 .f32) (x2 : Vec F S512x512 .f32) (x3 : Vec F S512x256 .f32) (x4 : Vec F S1x8x512x256 .f32) (x5 : Vec F S512x512 .bf16) (xs0 : Vec F S512x256 .f32) : Vec F S512x256 .bf16 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 arg12 harg12 hc0 x0 x1 x2 x3 x4 x5 xs0).2.1)

/-- The pieces stored into this buffer cover it. -/
theorem cover1_B_8 (hc0 : ¬cond1_0 i)
    (x0 : Vec F S512x256 .f32) (x1 : Vec F S512x256 .f32) (x2 : Vec F S512x512 .f32) (x3 : Vec F S512x256 .f32) (x4 : Vec F S1x8x512x256 .f32) (x5 : Vec F S512x512 .bf16) (xs0 : Vec F S512x256 .f32) (y : S512x512.Idx) :
    ∃ pc ∈ (kernelRun1_B c i arg2 harg2 arg3 harg3 arg4 harg4 arg5 harg5 arg6 harg6 arg7 harg7 arg8 harg8 arg9 harg9 arg10 harg10 arg11 harg11 arg12 harg12 hc0 x0 x1 x2 x3 x4 x5 xs0).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 x0 x1 x2 x3 x4 x5 xs0).2.2.1 S64x512.size (by sl_kernel_rfl) y

/-- What those pieces leave in the buffer. -/
def out1_B_8 (hc0 : ¬cond1_0 i)
    (x0 : Vec F S512x256 .f32) (x1 : Vec F S512x256 .f32) (x2 : Vec F S512x512 .f32) (x3 : Vec F S512x256 .f32) (x4 : Vec F S1x8x512x256 .f32) (x5 : Vec F S512x512 .bf16) (xs0 : Vec F S512x256 .f32) : Vec F S512x512 .bf16 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 arg12 harg12 hc0 x0 x1 x2 x3 x4 x5 xs0).2.2.1)

/-- The pieces stored into this buffer cover it. -/
theorem cover1_B_9 (hc0 : ¬cond1_0 i)
    (x0 : Vec F S512x256 .f32) (x1 : Vec F S512x256 .f32) (x2 : Vec F S512x512 .f32) (x3 : Vec F S512x256 .f32) (x4 : Vec F S1x8x512x256 .f32) (x5 : Vec F S512x512 .bf16) (xs0 : Vec F S512x256 .f32) (y : S512x256.Idx) :
    ∃ pc ∈ (kernelRun1_B c i arg2 harg2 arg3 harg3 arg4 harg4 arg5 harg5 arg6 harg6 arg7 harg7 arg8 harg8 arg9 harg9 arg10 harg10 arg11 harg11 arg12 harg12 hc0 x0 x1 x2 x3 x4 x5 xs0).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 x0 x1 x2 x3 x4 x5 xs0).2.2.2.1 S64x256.size (by sl_kernel_rfl) y

/-- What those pieces leave in the buffer. -/
def out1_B_9 (hc0 : ¬cond1_0 i)
    (x0 : Vec F S512x256 .f32) (x1 : Vec F S512x256 .f32) (x2 : Vec F S512x512 .f32) (x3 : Vec F S512x256 .f32) (x4 : Vec F S1x8x512x256 .f32) (x5 : Vec F S512x512 .bf16) (xs0 : Vec F S512x256 .f32) : Vec F S512x256 .f32 :=
  VO1_9.read (Elt F) (VO1_9.writes (Elt F) VO1_9.junk (kernelRun1_B c i arg2 harg2 arg3 harg3 arg4 harg4 arg5 harg5 arg6 harg6 arg7 harg7 arg8 harg8 arg9 harg9 arg10 harg10 arg11 harg11 arg12 harg12 hc0 x0 x1 x2 x3 x4 x5 xs0).2.2.2.1)

/-- The pieces stored into this buffer cover it. -/
theorem scover1_B_0 (hc0 : ¬cond1_0 i)
    (x0 : Vec F S512x256 .f32) (x1 : Vec F S512x256 .f32) (x2 : Vec F S512x512 .f32) (x3 : Vec F S512x256 .f32) (x4 : Vec F S1x8x512x256 .f32) (x5 : Vec F S512x512 .bf16) (xs0 : Vec F S512x256 .f32) (y : S512x256.Idx) :
    ∃ pc ∈ (kernelRun1_B c i arg2 harg2 arg3 harg3 arg4 harg4 arg5 harg5 arg6 harg6 arg7 harg7 arg8 harg8 arg9 harg9 arg10 harg10 arg11 harg11 arg12 harg12 hc0 x0 x1 x2 x3 x4 x5 xs0).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 x0 x1 x2 x3 x4 x5 xs0).2.2.2.2.1 S512x256.size (by sl_kernel_rfl) y

/-- What those pieces leave in the buffer. -/
def sout1_B_0 (hc0 : ¬cond1_0 i)
    (x0 : Vec F S512x256 .f32) (x1 : Vec F S512x256 .f32) (x2 : Vec F S512x512 .f32) (x3 : Vec F S512x256 .f32) (x4 : Vec F S1x8x512x256 .f32) (x5 : Vec F S512x512 .bf16) (xs0 : Vec F S512x256 .f32) : Vec F S512x256 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 hc0 x0 x1 x2 x3 x4 x5 xs0).2.2.2.2.1)

/-- What the output blocks and the carried state hold after the body at point `n`. -/
def outsAt1 (c : Dev nD) : (n : ℕ) → n < cfg1.N → Vec F S512x256 .bf16 × Vec F S512x256 .bf16 × Vec F S512x512 .bf16 × Vec F S512x256 .f32 × Vec F S512x256 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 8 = 0 then
      (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt1 c n (Nat.lt_of_succ_lt hn)).2.2.2.2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt1 c n (Nat.lt_of_succ_lt hn)).2.2.2.2, out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt1 c n (Nat.lt_of_succ_lt hn)).2.2.2.2, out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt1 c n (Nat.lt_of_succ_lt hn)).2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt1 c n (Nat.lt_of_succ_lt hn)).2.2.2.2)

/-- The same at one kind of point. -/
theorem outsAt1_A (c : Dev nD) (t : Fin cfg1.N) (h0 : t.val % 8 = 0) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (iblk V c 0 t) (iblk V c 1 t) (iblk V c 2 t) (iblk V c 3 t) (iblk V c 4 t) (iblk V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (iblk V c 0 t) (iblk V c 1 t) (iblk V c 2 t) (iblk V c 3 t) (iblk V c 4 t) (iblk V c 5 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (iblk V c 0 t) (iblk V c 1 t) (iblk V c 2 t) (iblk V c 3 t) (iblk V c 4 t) (iblk V c 5 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (iblk V c 0 t) (iblk V c 1 t) (iblk V c 2 t) (iblk V c 3 t) (iblk V c 4 t) (iblk V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans rfl

/-- The same at one kind of point. -/
theorem outsAt1_B (c : Dev nD) (t : Fin cfg1.N) (h0 : ¬t.val % 8 = 0) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (iblk V c 0 t) (iblk V c 1 t) (iblk V c 2 t) (iblk V c 3 t) (iblk V c 4 t) (iblk V c 5 t) (outsAt1 V c (t.val - 1) (Nat.lt_of_le_of_lt (Nat.sub_le _ _) t.isLt)).2.2.2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (iblk V c 0 t) (iblk V c 1 t) (iblk V c 2 t) (iblk V c 3 t) (iblk V c 4 t) (iblk V c 5 t) (outsAt1 V c (t.val - 1) (Nat.lt_of_le_of_lt (Nat.sub_le _ _) t.isLt)).2.2.2.2, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (iblk V c 0 t) (iblk V c 1 t) (iblk V c 2 t) (iblk V c 3 t) (iblk V c 4 t) (iblk V c 5 t) (outsAt1 V c (t.val - 1) (Nat.lt_of_le_of_lt (Nat.sub_le _ _) t.isLt)).2.2.2.2, out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (iblk V c 0 t) (iblk V c 1 t) (iblk V c 2 t) (iblk V c 3 t) (iblk V c 4 t) (iblk V c 5 t) (outsAt1 V c (t.val - 1) (Nat.lt_of_le_of_lt (Nat.sub_le _ _) t.isLt)).2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (iblk V c 0 t) (iblk V c 1 t) (iblk V c 2 t) (iblk V c 3 t) (iblk V c 4 t) (iblk V c 5 t) (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The invariant between points: the carried state at what the last point left. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.2.2.2)) ∗ other c)

/-- The invariant, restated. -/
theorem PhiS_zero (c : Dev nD) (n : ℕ) (h : n ≤ cfg1.N) (hz : n = 0) : PhiS V c n h = Pipeline.ΦA spec1 c := by
  subst hz; rfl

/-- The invariant, restated. -/
theorem PhiS_succ (c : Dev nD) (n : ℕ) (hn : n < cfg1.N) :
    PhiS V c (n + 1) hn = iprop(iprop(owns (c : Thread nD τ) scM1_0 fullShare ((outsAt1 V c n hn).2.2.2.2)) ∗ other c) := rfl

/-- The invariant, restated. -/
theorem PhiS_pos (c : Dev nD) (n : ℕ) (h : n ≤ cfg1.N) (hz : n ≠ 0) :
    PhiS V c n h = iprop(iprop(owns (c : Thread nD τ) scM1_0 fullShare ((outsAt1 V c (n - 1) (by omega)).2.2.2.2)) ∗ other c) := by
  cases n with
  | zero => exact absurd rfl hz
  | succ n => rfl

/-- The proof data of the backward call. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt1 V c t.val t.isLt).1
    | ⟨7, _⟩ => (outsAt1 V c t.val t.isLt).2.1
    | ⟨8, _⟩ => (outsAt1 V c t.val t.isLt).2.2.1
    | ⟨9, _⟩ => (outsAt1 V c t.val t.isLt).2.2.2.1
  Φ t := PhiS V c t.val (Nat.le_of_lt_succ t.isLt)
  q w := Pipeline.shareOf spec1 w
  owed _ := 0
  recorded _ := Set.univ

/-- The arrays are the contents the call is entered with. -/
theorem A_eq (c : Dev nD) (w : Fin cfg1.W) : (dat V c).A w = V c (Pipeline.arrRef spec1 w) := by
  dsimp only [dat]

/-- The invariant, restated. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves in this window at a grid point. -/
theorem after1_0 (c : Dev nD) (t : Fin cfg1.N) : (dat V c).after 0 t = iblk V c 0 t := by dsimp only [dat]

/-- What the body leaves in this window at a grid point. -/
theorem after1_1 (c : Dev nD) (t : Fin cfg1.N) : (dat V c).after 1 t = iblk V c 1 t := by dsimp only [dat]

/-- What the body leaves in this window at a grid point. -/
theorem after1_2 (c : Dev nD) (t : Fin cfg1.N) : (dat V c).after 2 t = iblk V c 2 t := by dsimp only [dat]

/-- What the body leaves in this window at a grid point. -/
theorem after1_3 (c : Dev nD) (t : Fin cfg1.N) : (dat V c).after 3 t = iblk V c 3 t := by dsimp only [dat]

/-- What the body leaves in this window at a grid point. -/
theorem after1_4 (c : Dev nD) (t : Fin cfg1.N) : (dat V c).after 4 t = iblk V c 4 t := by dsimp only [dat]

/-- What the body leaves in this window at a grid point. -/
theorem after1_5 (c : Dev nD) (t : Fin cfg1.N) : (dat V c).after 5 t = iblk V c 5 t := by dsimp only [dat]

/-- What the body leaves in this window at a grid point. -/
theorem after1_6 (c : Dev nD) (t : Fin cfg1.N) : (dat V c).after 6 t = (outsAt1 V c t.val t.isLt).1 := by dsimp only [dat]

/-- What the body leaves in this window at a grid point. -/
theorem after1_7 (c : Dev nD) (t : Fin cfg1.N) : (dat V c).after 7 t = (outsAt1 V c t.val t.isLt).2.1 := by dsimp only [dat]

/-- What the body leaves in this window at a grid point. -/
theorem after1_8 (c : Dev nD) (t : Fin cfg1.N) : (dat V c).after 8 t = (outsAt1 V c t.val t.isLt).2.2.1 := by dsimp only [dat]

/-- What the body leaves in this window at a grid point. -/
theorem after1_9 (c : Dev nD) (t : Fin cfg1.N) : (dat V c).after 9 t = (outsAt1 V c t.val t.isLt).2.2.2.1 := by dsimp only [dat]

/-- A staged input holds its block when the body starts. -/
theorem before1_0 (c : Dev nD) (t : Fin cfg1.N) (d) : (dat V c).before 0 t d = iblk V c 0 t :=
  before1_0_of V (dat V c) (A_eq V c 0) (after1_0 V c) t d

/-- A staged input holds its block when the body starts. -/
theorem before1_1 (c : Dev nD) (t : Fin cfg1.N) (d) : (dat V c).before 1 t d = iblk V c 1 t :=
  before1_1_of V (dat V c) (A_eq V c 1) (after1_1 V c) t d

/-- A staged input holds its block when the body starts. -/
theorem before1_2 (c : Dev nD) (t : Fin cfg1.N) (d) : (dat V c).before 2 t d = iblk V c 2 t :=
  before1_2_of V (dat V c) (A_eq V c 2) (after1_2 V c) t d

/-- A staged input holds its block when the body starts. -/
theorem before1_3 (c : Dev nD) (t : Fin cfg1.N) (d) : (dat V c).before 3 t d = iblk V c 3 t :=
  before1_3_of V (dat V c) (A_eq V c 3) (after1_3 V c) t d

/-- A staged input holds its block when the body starts. -/
theorem before1_4 (c : Dev nD) (t : Fin cfg1.N) (d) : (dat V c).before 4 t d = iblk V c 4 t :=
  before1_4_of V (dat V c) (A_eq V c 4) (after1_4 V c) t d

/-- A staged input holds its block when the body starts. -/
theorem before1_5 (c : Dev nD) (t : Fin cfg1.N) (d) : (dat V c).before 5 t d = iblk V c 5 t :=
  before1_5_of V (dat V c) (A_eq V c 5) (after1_5 V c) t d

/-- What the body is given at point `t`. -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d))
    ∗ (∃ d, owns (c : Thread nD τ) (ms1_8 t) fullShare ((dat V c).before 8 t d))
    ∗ (∃ d, owns (c : Thread nD τ) (ms1_9 t) fullShare ((dat V c).before 9 t d)))

/-- What the body gives back at point `t`. -/
def bodyPost (c : Dev nD) (t : Fin cfg1.N) : sProp 𝕄 :=
  iprop((dat V c).Φ t.succ ∗ (dat V c).owesAt () t.succ
    ∗ owns (c : Thread nD τ) (ms1_0 t) fullShare ((dat V c).after 0 t)
    ∗ owns (c : Thread nD τ) (ms1_1 t) fullShare ((dat V c).after 1 t)
    ∗ owns (c : Thread nD τ) (ms1_2 t) fullShare ((dat V c).after 2 t)
    ∗ owns (c : Thread nD τ) (ms1_3 t) fullShare ((dat V c).after 3 t)
    ∗ owns (c : Thread nD τ) (ms1_4 t) fullShare ((dat V c).after 4 t)
    ∗ owns (c : Thread nD τ) (ms1_5 t) fullShare ((dat V c).after 5 t)
    ∗ owns (c : Thread nD τ) (ms1_6 t) fullShare ((dat V c).after 6 t)
    ∗ owns (c : Thread nD τ) (ms1_7 t) fullShare ((dat V c).after 7 t)
    ∗ owns (c : Thread nD τ) (ms1_8 t) fullShare ((dat V c).after 8 t)
    ∗ owns (c : Thread nD τ) (ms1_9 t) fullShare ((dat V c).after 9 t))

set_option maxHeartbeats 6400000 in
/-- The body, run at any point from what it is given, gives back what it owes. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5]
  rw [show (dat V c).owesAt () t.succ = (dat V c).owesAt () t.castSucc from rfl,
    after1_0, after1_1, after1_2, after1_3, after1_4, after1_5, after1_6, after1_7, after1_8, after1_9]
  rw [show (dat V c).Φ t.succ = PhiS V c (t.val + 1) t.isLt from rfl, PhiS_succ]
  have hN : t.val < 32 := lt_of_lt_of_eq t.isLt (show cfg1.N = 32 from N_1)
  by_cases h0 : t.val % 8 = 0
  · by_cases hz : t.val = 0
    · rw [PhiS_castSucc V c t, PhiS_zero V c _ _ hz, PhiA1_eq]
      rw [outsAt1_A V c t h0]
      unfold out1_A_6 out1_A_7 out1_A_8 out1_A_9 sout1_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_A c (grid1.coords t) _ _ _ _ _ _ _ _ _ _ _ _ _ _ _ _ _ _ _ _ _ _ ((hcond1_0 t).mpr h0) (iblk V c 0 t) (iblk V c 1 t) (iblk V c 2 t) (iblk V c 3 t) (iblk V c 4 t) (iblk V c 5 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [HS0]; · iexact HS0
      iintro ⟨H0, H1, H2, H3, H4, H5, ⟨%e6, H6⟩, ⟨%e7, H7⟩, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_A_7 c _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover1_A_8 c _ _ _ _ _ _ _ _ _ _ _ _ _ _ _ _ _ _ _ _ _ _ _ _ _ _ _ _ _ _)
      unfold owns; iexists _; isplitr
      swap; · iexact H9
      ipureintro; exact View.read_writes_of_cover _ _ _ _ _ (cover1_A_9 c _ _ _ _ _ _ _ _ _ _ _ _ _ _ _ _ _ _ _ _ _ _ _ _ _ _ _ _ _ _)
    · rw [PhiS_castSucc V c t, PhiS_pos V c _ _ hz]
      rw [outsAt1_A V c t h0]
      unfold out1_A_6 out1_A_7 out1_A_8 out1_A_9 sout1_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_A c (grid1.coords t) _ _ _ _ _ _ _ _ _ _ _ _ _ _ _ _ _ _ _ _ _ _ ((hcond1_0 t).mpr h0) (iblk V c 0 t) (iblk V c 1 t) (iblk V c 2 t) (iblk V c 3 t) (iblk V c 4 t) (iblk V c 5 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [HS0]; · iexists _; iexact HS0
      iintro ⟨H0, H1, H2, H3, H4, H5, ⟨%e6, H6⟩, ⟨%e7, H7⟩, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_A_7 c _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover1_A_8 c _ _ _ _ _ _ _ _ _ _ _ _ _ _ _ _ _ _ _ _ _ _ _ _ _ _ _ _ _ _)
      unfold owns; iexists _; isplitr
      swap; · iexact H9
      ipureintro; exact View.read_writes_of_cover _ _ _ _ _ (cover1_A_9 c _ _ _ _ _ _ _ _ _ _ _ _ _ _ _ _ _ _ _ _ _ _ _ _ _ _ _ _ _ _)
  · by_cases hz : t.val = 0
    · exfalso; have hN : t.val < 32 := lt_of_lt_of_eq t.isLt (show cfg1.N = 32 from N_1); omega
    · rw [PhiS_castSucc V c t, PhiS_pos V c _ _ hz]
      rw [outsAt1_B V c t h0]
      unfold out1_B_6 out1_B_7 out1_B_8 out1_B_9 sout1_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_B c (grid1.coords t) _ _ _ _ _ _ _ _ _ _ _ _ _ _ _ _ _ _ _ _ _ _ (fun h => h0 ((hcond1_0 t).mp h)) (iblk V c 0 t) (iblk V c 1 t) (iblk V c 2 t) (iblk V c 3 t) (iblk V c 4 t) (iblk V c 5 t) _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [HS0]; · iexact HS0
      iintro ⟨H0, H1, H2, H3, H4, H5, ⟨%e6, H6⟩, ⟨%e7, H7⟩, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_B_7 c _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover1_B_8 c _ _ _ _ _ _ _ _ _ _ _ _ _ _ _ _ _ _ _ _ _ _ _ _ _ _ _ _ _ _ _)
      unfold owns; iexists _; isplitr
      swap; · iexact H9
      ipureintro; exact View.read_writes_of_cover _ _ _ _ _ (cover1_B_9 c _ _ _ _ _ _ _ _ _ _ _ _ _ _ _ _ _ _ _ _ _ _ _ _ _ _ _ _ _ _ _)

/-- The body the pipeline calls at a point. -/
theorem defs₀_row (t : Fin cfg1.N) :
    defs₀ (F := F) .tc cfg1.body (cfg1.bodyArgs t (cfg1.slots t)) = bodyAt1 t := by
  unfold defs₀; rw [Defs.onTc_tc]

/-- The obligation of the pipeline, at every point. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

/-- The launch gives the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- The invariant, restated. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨HS0, Hg⟩
  isplitl [HS0]
  · iexists _; iexact HS0
  iexact Hg

/-- The invariant after the last point gives the scratch back. -/
theorem hout (c : Dev nD) : (dat V c).Φ (Fin.last cfg1.N) ⊢ Pipeline.ΦA spec1 c :=
  Phi_out V c _ (by rw [Fin.val_last]; have : cfg1.N = 32 := N_1; omega)

end Cert.KernelIdeal.Bwd

end
-- ==== Proof.Run.lean ====
module

public import proofs.«01_k».proof.Proof.FwdBody
public import proofs.«01_k».proof.Proof.BwdBody
public import proofs.«01_k».proof.Proof.Gen.KernelIdeal.Regions
public import Idealize.ShloMosaic.Lib.Pipeline.FrameTail
public import Idealize.ShloMosaic.Lib.Pipeline.FrameSuffix
public import Idealize.ShloMosaic.Lib.Pipeline.RegionsLoop

@[expose] public section

noncomputable section

namespace Cert.KernelIdeal.Gla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers as a valuation, read at its TensorCore references. -/
abbrev tcRead (V : Dev nD → Valuation τ sig (Elt F)) (c : Dev nD) (b : Ref sig .tc) : Buf (Elt F) ((c : Thread nD τ).loc b) :=
  V c (Proc.devRef .tc b)

/-- The contents at launch. -/
def W0 (c : Dev nD) : Valuation τ sig (Elt F) := fun b => m (c, b)

/-- The contents once the forward call has written its outputs and the saved states. -/
def W1 (c : Dev nD) : Valuation τ sig (Elt F) :=
  Pipeline.withArrays spec0 c (W0 m c) (fun w => (Fwd.dat (tcRead (W0 m)) c).arrAt w cfg0.N)

/-- The contents once the backward call has written the gradients. -/
def W2 (c : Dev nD) : Valuation τ sig (Elt F) :=
  Pipeline.withArrays spec1 c (W1 m c) (fun w => (Bwd.dat (tcRead (W1 m)) c).arrAt w cfg1.N)

/-- The proof data of the two calls, each entered with what the one before left. -/
def pdats : (p : Fin 2) → (c : Dev nD) → Dat τ (Elt F) Unit ℕ (UR sig nD τ) ℕ (cfgs p) c
  | ⟨0, _⟩ => fun c => Fwd.dat (tcRead (W0 m)) c
  | ⟨1, _⟩ => fun c => Bwd.dat (tcRead (W1 m)) c

/-- What rides beside the buffers between the calls: the generator register and the core owing nothing. -/
def idle (c : Dev nD) : sProp 𝕄 :=
  iprop((∃ r, prngReg c r) ∗ ∃ W, owes (c : Thread nD τ) (0 : CellTallies nD τ sig Unit) W)

/-- The thread state between the calls: every unscoped buffer at a valuation, and the idle rest. -/
def between (V : Dev nD → Valuation τ sig (Elt F)) (c : Dev nD) : sProp 𝕄 :=
  iprop(StableHlo.held (c : Thread nD τ) (Pipeline.ucRefs τ sig) (V c) ∗ idle c)

/-- No level is assigned to any semaphore. -/
abbrev noLev : GSem nD τ sig → Finset Unit := fun _ => ∅
abbrev noLv : GSem nD τ sig → Unit → ℕ := fun _ _ => 0

/-- A call as a segment of the program, when its input windows may stage one array several times: entered with the
    buffers at `V`, left with the call's arrays at what its proof data computes and every other buffer untouched. -/
def call (dd : (p : Fin 2) → (c : Dev nD) → Dat τ (Elt F) Unit ℕ (UR sig nD τ) ℕ (cfgs p) c)
    (p : Fin 2) (kit : Pipeline.LaunchFacts₀ (nD := nD) (τ := τ) cfgs p)
    (V : Dev nD → Valuation τ sig (Elt F))
    (hA : ∀ c w, (dd p c).A w = V c (Proc.devRef .tc (Pipeline.arrRef (cfgs p).spec w)))
    (hq : ∀ c w, ((cfgs p).spec w).isOut = false → (dd p c).q w = Pipeline.shareOf (cfgs p).spec w)
    (howed : ∀ c t, (dd p c).owed t = 0) (hrec : ∀ c t, (dd p c).recorded t = Set.univ)
    (hbody : ∀ c, Pipeline.BodyObligationLoose (dd p c) (defs₀ (F := F)) Variants.none () Set.univ)
    (hin : ∀ c, Pipeline.ΦA (cfgs p).spec c ⊢ (dd p c).Φ 0)
    (hout : ∀ c, (dd p c).Φ (Fin.last (cfgs p).N) ⊢ Pipeline.ΦA (cfgs p).spec c) :
    RegionSeg (pcfgs (F := F)) adm dd () defs₀ Variants.none noLev noLv p where
  win := kit.win
  block_pos := kit.block_pos
  stage_whole := kit.stage_whole
  K := PEmpty
  osem := fun k => k.elim
  ho := Pipeline.OwnSemFacts.none _
  hbody := hbody
  hwaits := Pipeline.hwaits_of_owed_zero (pcfgs (F := F)) adm dd () noLev noLv p howed
  pre := between V
  post := between fun c => Pipeline.withArrays (cfgs p).spec c (V c) (fun w => (dd p c).arrAt w (cfgs p).N)
  X := fun c => iprop(∃ r, prngReg c r)
  Y := fun c => iprop(∃ r, prngReg c r)
  Z := fun c => Pipeline.unscopedRest (cfgs p).spec c (tcRead V c)
  hentry := fun c => by
    have hs := Pipeline.arrays_of_unscopedBufs_shared (p := p) (pcfgs (F := F)) adm dd kit.win kit.sharedIn kit.arr_whole c (hq c)
      (tcRead V c) (fun w => hA c w)
    rw [Pipeline.ownSems0_none]
    unfold between idle
    rw [← Pipeline.unscopedBufs_held (Ix := Unit) (Name := ℕ) (U := UR sig nD τ) (Lvl := ℕ) c (V c)]
    iintro ⟨⟨Hu, Hp, HO⟩, -, -⟩
    ihave H := hs $$ Hu
    icases H with ⟨Ha, Hr⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin Pipeline.Dat.bound
      rw [howed c 0, hrec c 0]
      icases HO with ⟨%W, HO⟩
      iexists W
      isplitr; · ipureintro; simp
      iexact HO
    isplitl [Hp]; · iexact Hp
    iexact Hr
  hin := fun c => (show _ ⊢ Pipeline.ΦA (cfgs p).spec c from by
    unfold Pipeline.ΦA
    iintro ⟨Hp, -, Hr⟩
    isplitl [Hr] <;> iassumption).trans (hin c)
  hout := fun c => (hout c).trans (by
    rw [Pipeline.ownSems0_none]; unfold Pipeline.ΦA
    iintro ⟨Hr, Hp⟩
    isplitl [Hp]; · iexact Hp
    isplitr; · iempintro
    iexact Hr)
  hexit := fun c => by
    have hj := Pipeline.unscopedBufs_of_arrays_shared (p := p) (pcfgs (F := F)) adm (Ix := Unit) (Name := ℕ) (U := UR sig nD τ) (Lvl := ℕ)
      kit.win kit.sharedIn kit.arr_whole c dd (hq c) (tcRead V c)
      (fun b => Pipeline.withArrays (cfgs p).spec c (V c) (fun w => (dd p c).arrAt w (cfgs p).N) (Proc.devRef .tc b))
      ((dd p c).arrAt · (cfgs p).N)
      (fun w => ((dd p c).withArrays_arrAt kit.sharedIn (V c) (hA c) w).symm)
      (fun b hb => Pipeline.withArrays_of_ne _ c (V c) _ b fun w h => hb (h ▸ Finset.mem_image.mpr ⟨w, Finset.mem_univ _, rfl⟩))
    unfold between idle
    rw [← Pipeline.unscopedBufs_held (Ix := Unit) (Name := ℕ) (U := UR sig nD τ) (Lvl := ℕ) c
      (Pipeline.withArrays (cfgs p).spec c (V c) (fun w => (dd p c).arrAt w (cfgs p).N))]
    iintro ⟨Ha, HO, Hp, Hr⟩
    imodintro
    isplitl [Ha Hr]
    · iapply hj; isplitl [Ha] <;> iassumption
    isplitl [Hp]; · iexact Hp
    unfold Pipeline.Dat.owesAt Pipeline.owesWithin
    rw [howed c (Fin.last _)]
    icases HO with ⟨%W, -, HO⟩; iexists W; iexact HO

/-- The forward call as a segment. -/
def seg0 : RegionSeg (pcfgs (F := F)) adm (pdats m) () defs₀ Variants.none noLev noLv 0 :=
  call (pdats m) 0 launch₀0 (W0 m) (fun c w => Fwd.A_eq (tcRead (W0 m)) c w) (fun _ _ _ => rfl) (fun _ _ => rfl) (fun _ _ => rfl)
    (fun c => (Fwd.body_obligation (tcRead (W0 m)) c).loose) (fun c => Fwd.hin (tcRead (W0 m)) c) (fun c => Fwd.hout (tcRead (W0 m)) c)

/-- The backward call as a segment. -/
def seg1 : RegionSeg (pcfgs (F := F)) adm (pdats m) () defs₀ Variants.none noLev noLv 1 :=
  call (pdats m) 1 launch₀1 (W1 m) (fun c w => Bwd.A_eq (tcRead (W1 m)) c w) (fun _ _ _ => rfl) (fun _ _ => rfl) (fun _ _ => rfl)
    (fun c => (Bwd.body_obligation (tcRead (W1 m)) c).loose) (fun c => Bwd.hin (tcRead (W1 m)) c) (fun c => Bwd.hout (tcRead (W1 m)) c)

set_option backward.isDefEq.respectTransparency.types false in
/-- THE RUN. Every execution of the two calls ends with every unscoped buffer at `W2` and every counter at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = W2 m c b) ∧ r.2.sem = fun _ => 0) := by
  refine Pipeline.θ_run_regions_kit_dev_sems (pcfgs (F := F)) adm (pdats m) () cellOf_inj emb₁ defs₀ Variants.none noLev noLv m ρ main
    (fun _ => [.region (seg0 m), .region (seg1 m)])
    (fun c Q => by
      rewrite [main_chain c, Seg.run_eq_chain]
      exact .rfl)
    (fun c => by simp only [Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := between (W0 m)) (Tₙ := fun c => StableHlo.held (c : Thread nD τ) (Pipeline.ucRefs τ sig) (W2 m c))
    (hch := fun c => ⟨.rfl, .rfl, ?_⟩)
    (hinit := Pipeline.initEach noLev noLv fun c => ?_)
    (QY := fun c s => ∀ b ∈ Pipeline.ucRefs τ sig, s.mem ((c : Thread nD τ).1, b) = W2 m c b)
    (hfin := fun c s' => ?_)
    (hQ := fun _ h hz => ⟨h, funext fun g => hz g (.inr (regions_no_unscoped g.2))⟩)
  · iintro Hu; imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · show between (W2 m) c ⊢ _
    unfold between idle
    iintro ⟨Hh, -, HO⟩
    isplitl [Hh] <;> iassumption
  · rw [show unscopedBufs c (fun b => m ((c.tc : Thread nD τ).loc b)) = StableHlo.held (c.tc : Thread nD τ) (Pipeline.ucRefs τ sig) (W0 m c)
        from Pipeline.unscopedBufs_held (Ix := Unit) (Name := ℕ) (U := UR sig nD τ) (Lvl := ℕ) c (W0 m c)]
    unfold between idle
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (W2 m c) s') $$ [Hh HSI]
    · isplitl [Hh] <;> iassumption
    imodintro; iexact Hr

/-- A buffer that is no window's array of either call ends as launched; so does a staged input. -/
theorem W2_in1 (c : Dev nD) (w : Fin cfg1.W) (hw : (cfg1.win w).isOut = false) :
    W2 m c (Proc.devRef .tc (Pipeline.arrRef spec1 w)) = W1 m c (Proc.devRef .tc (Pipeline.arrRef spec1 w)) :=
  ((Bwd.dat (tcRead (W1 m)) c).withArrays_arrAt launch₀1.sharedIn (W1 m c) (Bwd.A_eq (tcRead (W1 m)) c) w).trans
    (((Bwd.dat (tcRead (W1 m)) c).arrAt_in w hw _).trans (Bwd.A_eq (tcRead (W1 m)) c w))

/-- An input of the forward call is as launched when the backward call starts. -/
theorem W1_in0 (c : Dev nD) (w : Fin cfg0.W) (hw : (cfg0.win w).isOut = false) :
    W1 m c (Proc.devRef .tc (Pipeline.arrRef spec0 w)) = W0 m c (Proc.devRef .tc (Pipeline.arrRef spec0 w)) :=
  ((Fwd.dat (tcRead (W0 m)) c).withArrays_arrAt launch₀0.sharedIn (W0 m c) (Fwd.A_eq (tcRead (W0 m)) c) w).trans
    (((Fwd.dat (tcRead (W0 m)) c).arrAt_in w hw _).trans (Fwd.A_eq (tcRead (W0 m)) c w))

/-- The incoming gradient is no array of the forward call. -/
theorem W1_do (c : Dev nD) : W1 m c (Proc.devRef .tc main_arg2) = m ((c : Thread nD τ).loc main_arg2) :=
  Pipeline.withArrays_of_ne spec0 c (W0 m c) _ main_arg2 (by decide)

/-- THE FRAME: every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c _ (Pipeline.devRef_mem_ucRefs (b := main_arg0) (by decide))).trans ((W2_in1 m c 0 rfl).trans (W1_in0 m c 0 rfl)),
     (h.1 c _ (Pipeline.devRef_mem_ucRefs (b := main_arg1) (by decide))).trans ((W2_in1 m c 3 rfl).trans (W1_in0 m c 3 rfl)),
     (h.1 c _ (Pipeline.devRef_mem_ucRefs (b := main_arg2) (by decide))).trans ((W2_in1 m c 5 rfl).trans (W1_do m c))⟩, h.2⟩) (run m ρ)

end Cert.KernelIdeal.Gla

end
-- ==== Proof.Chunk.lean ====
module

public import proofs.«01_k».proof.Proof.Gen.KernelIdeal.Skeleton
public import Idealize.ShloMosaic.Lib.ValueIdxCore
public import Idealize.ShloMosaic.Lib.WholeRead
public import Idealize.ShloMosaic.Lib.Writes

@[expose] public section

set_option maxRecDepth 16384

/-!
  What both calls compute of ONE chunk of 64 tokens of one head, as functions of the chunk's tiles: `cm` the cumulative
  gates, `q`, `k`, `v` the projections, `dO` the cotangent of the output, `st` the state the chunk starts from, `ds` the
  cotangent of the state it ends in.
-/

noncomputable section

namespace Cert.KernelIdeal.Gla

open Cert.KernelIdeal Cert.KernelIdeal.Gen
open Idealize.ShloMosaic Idealize.ShloMosaic.ValueIdx

variable {F : FTy → Type} [FloatOps F]

/-- The state after the chunk: the state before it, decayed, plus the products of the values and the decayed keys. -/
def stepS (cm k : FVec F S64x256 .f32) (v : FVec F S64x512 .f32) (st : FVec F S512x256 .f32) : FVec F S512x256 .f32 :=
  k0_pay13 (k0_pay6 cm) (k0_pay7 v) (k0_pay9 cm k) st

/-- The state's cotangent before the chunk, from the one after it. -/
def stepD (cm q : FVec F S64x256 .f32) (dO : FVec F S64x512 .bf16) (ds : FVec F S512x256 .f32) : FVec F S512x256 .f32 :=
  k1_pay24 (k1_pay8 cm) dO (k1_pay13 cm q) ds

/-- The chunk's rows of the queries' gradient. -/
def chunkQ (cm k : FVec F S64x256 .f32) (v : FVec F S64x512 .f32) (dO : FVec F S64x512 .bf16) (st : FVec F S1x1x512x256 .f32) :
    FVec F S64x256 .bf16 :=
  k1_pay25 k1_pay3 (k1_pay5 cm) dO (k1_pay14 cm k) (k1_pay16 st) (k1_pay18 v dO) (Scalar.ofBits .f32 0x00000000#32)

/-- The chunk's rows of the keys' gradient. -/
def chunkK (cm q : FVec F S64x256 .f32) (v : FVec F S64x512 .f32) (dO : FVec F S64x512 .bf16) (ds : FVec F S512x256 .f32) :
    FVec F S64x256 .bf16 :=
  k1_pay26 k1_pay3 (k1_pay6 cm) (k1_pay7 cm) (k1_pay9 v) (k1_pay13 cm q) (k1_pay17 ds) (k1_pay18 v dO) (Scalar.ofBits .f32 0x00000000#32)

/-- The chunk's rows of the values' gradient. -/
def chunkV (cm q k : FVec F S64x256 .f32) (dO : FVec F S64x512 .bf16) (ds : FVec F S512x256 .f32) : FVec F S64x512 .bf16 :=
  k1_pay27 k1_pay3 dO (k1_pay13 cm q) (k1_pay14 cm k) (k1_pay15 cm k) (k1_pay17 ds)

/-- The chunk's rows of the cumulative gates' gradient. -/
def chunkC (cm q k : FVec F S64x256 .f32) (v : FVec F S64x512 .f32) (dO : FVec F S64x512 .bf16) (st : FVec F S1x1x512x256 .f32)
    (ds : FVec F S512x256 .f32) : FVec F S64x256 .f32 :=
  k1_pay28 (iota .tc S64x256 32 [0] iota_S64x256_d0_w32) (k1_pay8 cm) (k1_pay10 cm q) (k1_pay11 cm k) (k1_pay12 cm k)
    (k1_pay20 k1_pay3 dO (k1_pay14 cm k) (k1_pay16 st) (k1_pay18 v dO) (Scalar.ofBits .f32 0x00000000#32))
    (k1_pay21 k1_pay3 (k1_pay13 cm q) (k1_pay18 v dO) (Scalar.ofBits .f32 0x00000000#32))
    (k1_pay22 (k1_pay9 v) (k1_pay17 ds)) (k1_pay23 (k1_pay16 st) ds)

/-! ### Tiles of a block of eight chunks -/

/-- Chunk `i`'s rows of a block of 512 rows. -/
def rows {α : Type} {n : ℕ} (x : (⟨2, ![512, n]⟩ : Shape).Idx → α) (i : ℕ) : (⟨2, ![64, n]⟩ : Shape).Idx → α :=
  fun y => x (ix2 ⟨(64 * i + (y 0).val) % 512, Nat.mod_lt _ (by decide)⟩ (y 1))

/-- Chunk `i`'s state of a block of eight states. -/
def slab {α : Type} (x : S1x8x512x256.Idx → α) (i : ℕ) : S1x1x512x256.Idx → α :=
  fun y => x (ix4 (y 0) ⟨i % 8, Nat.mod_lt _ (by decide)⟩ (y 2) (y 3))

/-- A block of 512 rows put together from its eight chunks. -/
def ofChunks {α : Type} {n : ℕ} (f : ℕ → (⟨2, ![64, n]⟩ : Shape).Idx → α) : (⟨2, ![512, n]⟩ : Shape).Idx → α :=
  fun y => f ((y 0).val / 64) (ix2 ⟨(y 0).val % 64, Nat.mod_lt _ (by decide)⟩ (y 1))

/-- The states of a block of eight chunks, from the state `xs` it starts from. -/
def chainS (x1 : FVec F S512x256 .f32) (x2 : FVec F S512x512 .f32) (x3 xs : FVec F S512x256 .f32) : ℕ → FVec F S512x256 .f32
  | 0 => xs
  | i + 1 => stepS (rows x3 i) (rows x1 i) (rows x2 i) (chainS x1 x2 x3 xs i)

/-- The states' cotangents of a block of eight chunks, last chunk first, from the one `xs` it starts from. -/
def chainD (x0 x3 : FVec F S512x256 .f32) (x5 : FVec F S512x512 .bf16) (xs : FVec F S512x256 .f32) : ℕ → FVec F S512x256 .f32
  | 0 => xs
  | j + 1 => stepD (rows x3 (7 - j)) (rows x0 (7 - j)) (rows x5 (7 - j)) (chainD x0 x3 x5 xs j)

/-! ### Loads and stores of one chunk's tile -/

variable {κ : Kind} {sp : Space} {e : EltTy} {Val : EltTy → Type} {nr : ℕ}

/-- A load of 64 rows from row `64 i` of a block of 512 rows reads chunk `i`'s rows. -/
theorem readAt_rows {m : Memref sig κ sp (⟨2, ![512, nr]⟩ : Shape) e} (h : m.IsWhole) (x : (⟨2, ![512, nr]⟩ : Shape).Idx → Val e)
    (o i : ℕ) (ho : o = 64 * i) (hi : i < 8)
    (inb : ∀ a, (![o, 0] : Fin 2 → ℕ) a + (![64, nr] : Fin 2 → ℕ) a ≤ (⟨2, ![512, nr]⟩ : Shape).size a) :
    View.readAt Val m.view (Rect.unit (s := ⟨2, ![512, nr]⟩) ![o, 0] ![64, nr] inb).toLoadRect (h.unread x) = rows x i := by
  subst ho
  funext y
  rw [h.readAt_unread]
  unfold rows
  congr 1
  have h0 : (y 0).val < 64 := (y 0).isLt
  funext a
  match a with
  | ⟨0, _⟩ => exact Fin.ext (by
      show 64 * i + 1 * (y 0).val = (64 * i + (y 0).val) % 512
      omega)
  | ⟨1, _⟩ => exact Fin.ext (by
      show 0 + 1 * (y 1).val = (y 1).val
      omega)

/-- A load of one of a block's eight states. -/
theorem readAt_slab {m : Memref sig κ sp S1x8x512x256 e} (h : m.IsWhole) (x : S1x8x512x256.Idx → Val e) (i : ℕ) (hi : i < 8)
    (inb : ∀ a, (![0, i, 0, 0] : Fin 4 → ℕ) a + (![1, 1, 512, 256] : Fin 4 → ℕ) a ≤ S1x8x512x256.size a) :
    View.readAt Val m.view (Rect.unit (s := S1x8x512x256) ![0, i, 0, 0] ![1, 1, 512, 256] inb).toLoadRect (h.unread x) = slab x i := by
  funext y
  rw [h.readAt_unread]
  unfold slab
  congr 1
  have h1 : (y 1).val < 1 := (y 1).isLt
  funext a
  match a with
  | ⟨0, _⟩ => exact Fin.ext (by show 0 + 1 * (y 0).val = (y 0).val; omega)
  | ⟨1, _⟩ => exact Fin.ext (by show i + 1 * (y 1).val = i % 8; omega)
  | ⟨2, _⟩ => exact Fin.ext (by show 0 + 1 * (y 2).val = (y 2).val; omega)
  | ⟨3, _⟩ => exact Fin.ext (by show 0 + 1 * (y 3).val = (y 3).val; omega)

/-- A load of a whole block reads it. -/
theorem readAt_all {m : Memref sig κ sp S512x256 e} (h : m.IsWhole) (x : S512x256.Idx → Val e)
    (inb : ∀ a, (![0, 0] : Fin 2 → ℕ) a + (![512, 256] : Fin 2 → ℕ) a ≤ S512x256.size a) :
    View.readAt Val m.view (Rect.unit (s := S512x256) ![0, 0] ![512, 256] inb).toLoadRect (h.unread x) = x := by
  funext y
  rw [h.readAt_unread]
  congr 1
  funext a
  match a with
  | ⟨0, _⟩ => exact Fin.ext (by show 0 + 1 * (y 0).val = (y 0).val; omega)
  | ⟨1, _⟩ => exact Fin.ext (by show 0 + 1 * (y 1).val = (y 1).val; omega)

/-- Where chunk `i`'s tile lies, a block put together from chunks holds it. -/
theorem ofChunks_emb {α : Type} (f : ℕ → (⟨2, ![64, nr]⟩ : Shape).Idx → α) (o i : ℕ) (ho : o = 64 * i)
    (inb : ∀ a, (![o, 0] : Fin 2 → ℕ) a + (![64, nr] : Fin 2 → ℕ) a ≤ (⟨2, ![512, nr]⟩ : Shape).size a)
    (x : (Rect.unit (s := ⟨2, ![512, nr]⟩) ![o, 0] ![64, nr] inb).shape.Idx) :
    ofChunks f ((Rect.unit (s := ⟨2, ![512, nr]⟩) ![o, 0] ![64, nr] inb).emb x) = f i x := by
  subst ho
  unfold ofChunks
  have h0 : (x 0).val < 64 := (x 0).isLt
  have e0 : (((Rect.unit (s := ⟨2, ![512, nr]⟩) ![64 * i, 0] ![64, nr] inb).emb x) 0).val = 64 * i + 1 * (x 0).val := rfl
  have e1 : (((Rect.unit (s := ⟨2, ![512, nr]⟩) ![64 * i, 0] ![64, nr] inb).emb x) 1).val = 0 + 1 * (x 1).val := rfl
  have hd : (64 * i + 1 * (x 0).val) / 64 = i := by omega
  have hm : (64 * i + 1 * (x 0).val) % 64 = (x 0).val := by omega
  refine congr (congrArg f (by rw [e0, hd])) ?_
  funext a
  match a with
  | ⟨0, _⟩ => exact Fin.ext (by show (((Rect.unit (s := ⟨2, ![512, nr]⟩) ![64 * i, 0] ![64, nr] inb).emb x) 0).val % 64 = (x 0).val; rw [e0, hm])
  | ⟨1, _⟩ => exact Fin.ext (by show (((Rect.unit (s := ⟨2, ![512, nr]⟩) ![64 * i, 0] ![64, nr] inb).emb x) 1).val = (x 1).val; rw [e1]; omega)

end Cert.KernelIdeal.Gla

end
-- ==== Proof.FwdChunks.lean ====
module

public import proofs.«01_k».proof.Proof.FwdBody
public import proofs.«01_k».proof.Proof.Chunk
public import Idealize.ShloMosaic.Lib.Pointwise

@[expose] public section

set_option maxRecDepth 16384

/-!
  The forward call's body at one grid point, as values: the state it carries and the states it stores are the chain of
  the point's eight chunks, from zero where the point resets (`A`), from the carried state elsewhere (`B`).
-/

noncomputable section

namespace Cert.KernelIdeal.Fwd

open Cert.KernelIdeal Cert.KernelIdeal.Gen Cert.KernelIdeal.Gla
open Idealize.ShloMosaic Idealize.ShloMosaic.TcCoe Idealize.ShloMosaic.Tactic

variable {F : FTy → Type} [FloatOps F]

variable (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x256 .f32) (harg5 : arg5.IsWhole) (arg6 : Memref sig .tc .vmem S512x512 .f32) (harg6 : arg6.IsWhole) (arg7 : Memref sig .tc .vmem S1x8x512x256 .f32) (harg7 : arg7.IsWhole) (arg8 : Memref sig .tc .vmem S512x256 .f32) (harg8 : arg8.IsWhole)

/-- A state stored as slab `i` of a block of eight, read back at its place. -/
theorem slab_emb (f : ℕ → FVec F S512x256 .f32) (i : ℕ) (hi : i < 8)
    (inb : ∀ a, (![0, i, 0, 0] : Fin 4 → ℕ) a + (![1, 1, 512, 256] : Fin 4 → ℕ) a ≤ S1x8x512x256.size a)
    (w : FVec F S512x256 .f32) (hw : w = f i) (x : (Rect.unit (s := S1x8x512x256) ![0, i, 0, 0] ![1, 1, 512, 256] inb).shape.Idx) :
    k0_pay10 w x = f (((Rect.unit (s := S1x8x512x256) ![0, i, 0, 0] ![1, 1, 512, 256] inb).emb x) 1).val
      (ValueIdx.ix2 (((Rect.unit (s := S1x8x512x256) ![0, i, 0, 0] ![1, 1, 512, 256] inb).emb x) 2)
        (((Rect.unit (s := S1x8x512x256) ![0, i, 0, 0] ![1, 1, 512, 256] inb).emb x) 3)) := by
  subst hw
  have h1 : (x 1).val < 1 := (x 1).isLt
  have e1 : (((Rect.unit (s := S1x8x512x256) ![0, i, 0, 0] ![1, 1, 512, 256] inb).emb x) 1).val = i := by
    show i + 1 * (x 1).val = i
    omega
  have e2 : ValueIdx.ix2 (((Rect.unit (s := S1x8x512x256) ![0, i, 0, 0] ![1, 1, 512, 256] inb).emb x) 2)
      (((Rect.unit (s := S1x8x512x256) ![0, i, 0, 0] ![1, 1, 512, 256] inb).emb x) 3) = (ValueIdx.ix2 (x 2) (x 3) : S512x256.Idx) := by
    funext a
    match a with
    | ⟨0, _⟩ => exact Fin.ext (by show 0 + 1 * (x 2).val = (x 2).val; omega)
    | ⟨1, _⟩ => exact Fin.ext (by show 0 + 1 * (x 3).val = (x 3).val; omega)
  refine Eq.trans ?_ (congr (congrArg f e1.symm) e2.symm)
  unfold k0_pay10
  refine (shapeCast_apply _ _ x (ValueIdx.ix2 (x 2) (x 3)) ?_)
  rw [Shape.rowMajor_val_two, Shape.rowMajor_val_four]
  have h0 : (x 0).val < 1 := (x 0).isLt
  show (x 2).val * 256 + (x 3).val = (((x 0).val * 1 + (x 1).val) * 512 + (x 2).val) * 256 + (x 3).val
  omega

/-- The first state read at a point that resets is the one stored: zero. -/
theorem carry_A_0 : kernelRun0_A.sl.v30 (F := F) c arg8 = k0_pay4 :=
  View.readCov_cons_toLoadRect _ _ _ _

/-- The state read for chunk 1 is the chain's. -/
theorem carry_A_1 (x1 : Vec F S512x256 .f32) (x2 : Vec F S512x512 .f32) (x3 : Vec F S512x256 .f32) :
    kernelRun0_A.sl.v72 c arg3 harg3 arg4 harg4 arg5 harg5 arg8 x1 x2 x3 = chainS x1 x2 x3 (k0_pay4 (F := F)) 1 := by
  refine (View.readCov_cons_toLoadRect _ _ _ _).trans ?_
  show _ = stepS (rows x3 0) (rows x1 0) (rows x2 0) (chainS x1 x2 x3 (k0_pay4 (F := F)) 0)
  show _ = stepS (rows x3 0) (rows x1 0) (rows x2 0) (k0_pay4 (F := F))
  rw [← carry_A_0 c arg8]
  rw [← readAt_rows harg5 x3 0 0 rfl (by decide) inb_S512x256_S64x256_0_0,
    ← readAt_rows harg3 x1 0 0 rfl (by decide) inb_S512x256_S64x256_0_0,
    ← readAt_rows harg4 x2 0 0 rfl (by decide) inb_S512x512_S64x512_0_0]
  rfl

/-- The state read for chunk 2 is the chain's. -/
theorem carry_A_2 (x1 : Vec F S512x256 .f32) (x2 : Vec F S512x512 .f32) (x3 : Vec F S512x256 .f32) :
    kernelRun0_A.sl.v114 c arg3 harg3 arg4 harg4 arg5 harg5 arg8 x1 x2 x3 = chainS x1 x2 x3 (k0_pay4 (F := F)) 2 := by
  refine (View.readCov_cons_toLoadRect _ _ _ _).trans ?_
  show _ = stepS (rows x3 1) (rows x1 1) (rows x2 1) (chainS x1 x2 x3 (k0_pay4 (F := F)) 1)
  rw [← carry_A_1 c arg3 harg3 arg4 harg4 arg5 harg5 arg8 x1 x2 x3]
  rw [← readAt_rows harg5 x3 64 1 rfl (by decide) inb_S512x256_S64x256_64_0,
    ← readAt_rows harg3 x1 64 1 rfl (by decide) inb_S512x256_S64x256_64_0,
    ← readAt_rows harg4 x2 64 1 rfl (by decide) inb_S512x512_S64x512_64_0]
  rfl

/-- The state read for chunk 3 is the chain's. -/
theorem carry_A_3 (x1 : Vec F S512x256 .f32) (x2 : Vec F S512x512 .f32) (x3 : Vec F S512x256 .f32) :
    kernelRun0_A.sl.v156 c arg3 harg3 arg4 harg4 arg5 harg5 arg8 x1 x2 x3 = chainS x1 x2 x3 (k0_pay4 (F := F)) 3 := by
  refine (View.readCov_cons_toLoadRect _ _ _ _).trans ?_
  show _ = stepS (rows x3 2) (rows x1 2) (rows x2 2) (chainS x1 x2 x3 (k0_pay4 (F := F)) 2)
  rw [← carry_A_2 c arg3 harg3 arg4 harg4 arg5 harg5 arg8 x1 x2 x3]
  rw [← readAt_rows harg5 x3 128 2 rfl (by decide) inb_S512x256_S64x256_128_0,
    ← readAt_rows harg3 x1 128 2 rfl (by decide) inb_S512x256_S64x256_128_0,
    ← readAt_rows harg4 x2 128 2 rfl (by decide) inb_S512x512_S64x512_128_0]
  rfl

/-- The state read for chunk 4 is the chain's. -/
theorem carry_A_4 (x1 : Vec F S512x256 .f32) (x2 : Vec F S512x512 .f32) (x3 : Vec F S512x256 .f32) :
    kernelRun0_A.sl.v198 c arg3 harg3 arg4 harg4 arg5 harg5 arg8 x1 x2 x3 = chainS x1 x2 x3 (k0_pay4 (F := F)) 4 := by
  refine (View.readCov_cons_toLoadRect _ _ _ _).trans ?_
  show _ = stepS (rows x3 3) (rows x1 3) (rows x2 3) (chainS x1 x2 x3 (k0_pay4 (F := F)) 3)
  rw [← carry_A_3 c arg3 harg3 arg4 harg4 arg5 harg5 arg8 x1 x2 x3]
  rw [← readAt_rows harg5 x3 192 3 rfl (by decide) inb_S512x256_S64x256_192_0,
    ← readAt_rows harg3 x1 192 3 rfl (by decide) inb_S512x256_S64x256_192_0,
    ← readAt_rows harg4 x2 192 3 rfl (by decide) inb_S512x512_S64x512_192_0]
  rfl

/-- The state read for chunk 5 is the chain's. -/
theorem carry_A_5 (x1 : Vec F S512x256 .f32) (x2 : Vec F S512x512 .f32) (x3 : Vec F S512x256 .f32) :
    kernelRun0_A.sl.v240 c arg3 harg3 arg4 harg4 arg5 harg5 arg8 x1 x2 x3 = chainS x1 x2 x3 (k0_pay4 (F := F)) 5 := by
  refine (View.readCov_cons_toLoadRect _ _ _ _).trans ?_
  show _ = stepS (rows x3 4) (rows x1 4) (rows x2 4) (chainS x1 x2 x3 (k0_pay4 (F := F)) 4)
  rw [← carry_A_4 c arg3 harg3 arg4 harg4 arg5 harg5 arg8 x1 x2 x3]
  rw [← readAt_rows harg5 x3 256 4 rfl (by decide) inb_S512x256_S64x256_256_0,
    ← readAt_rows harg3 x1 256 4 rfl (by decide) inb_S512x256_S64x256_256_0,
    ← readAt_rows harg4 x2 256 4 rfl (by decide) inb_S512x512_S64x512_256_0]
  rfl

/-- The state read for chunk 6 is the chain's. -/
theorem carry_A_6 (x1 : Vec F S512x256 .f32) (x2 : Vec F S512x512 .f32) (x3 : Vec F S512x256 .f32) :
    kernelRun0_A.sl.v282 c arg3 harg3 arg4 harg4 arg5 harg5 arg8 x1 x2 x3 = chainS x1 x2 x3 (k0_pay4 (F := F)) 6 := by
  refine (View.readCov_cons_toLoadRect _ _ _ _).trans ?_
  show _ = stepS (rows x3 5) (rows x1 5) (rows x2 5) (chainS x1 x2 x3 (k0_pay4 (F := F)) 5)
  rw [← carry_A_5 c arg3 harg3 arg4 harg4 arg5 harg5 arg8 x1 x2 x3]
  rw [← readAt_rows harg5 x3 320 5 rfl (by decide) inb_S512x256_S64x256_320_0,
    ← readAt_rows harg3 x1 320 5 rfl (by decide) inb_S512x256_S64x256_320_0,
    ← readAt_rows harg4 x2 320 5 rfl (by decide) inb_S512x512_S64x512_320_0]
  rfl

/-- The state read for chunk 7 is the chain's. -/
theorem carry_A_7 (x1 : Vec F S512x256 .f32) (x2 : Vec F S512x512 .f32) (x3 : Vec F S512x256 .f32) :
    kernelRun0_A.sl.v324 c arg3 harg3 arg4 harg4 arg5 harg5 arg8 x1 x2 x3 = chainS x1 x2 x3 (k0_pay4 (F := F)) 7 := by
  refine (View.readCov_cons_toLoadRect _ _ _ _).trans ?_
  show _ = stepS (rows x3 6) (rows x1 6) (rows x2 6) (chainS x1 x2 x3 (k0_pay4 (F := F)) 6)
  rw [← carry_A_6 c arg3 harg3 arg4 harg4 arg5 harg5 arg8 x1 x2 x3]
  rw [← readAt_rows harg5 x3 384 6 rfl (by decide) inb_S512x256_S64x256_384_0,
    ← readAt_rows harg3 x1 384 6 rfl (by decide) inb_S512x256_S64x256_384_0,
    ← readAt_rows harg4 x2 384 6 rfl (by decide) inb_S512x512_S64x512_384_0]
  rfl

/-- The state carried out of a point: the chain's after eight chunks. -/
theorem last_A (hc0 : cond0_0 i) (x0 : Vec F S512x256 .f32) (x1 : Vec F S512x256 .f32) (x2 : Vec F S512x512 .f32) (x3 : Vec F S512x256 .f32) :
    sout0_A_0 c i arg2 harg2 arg3 harg3 arg4 harg4 arg5 harg5 arg6 harg6 arg7 harg7 arg8 harg8 hc0 x0 x1 x2 x3 = chainS x1 x2 x3 (k0_pay4 (F := F)) 8 := by
  unfold sout0_A_0 kernelRun0_A
  dsimp only
  funext y
  refine (View.read_writes_cons_hit_of_coords _ _ _ _ _ y y ?_).trans ?_
  · intro a
    match a with
    | ⟨0, _⟩ => show (y 0).val = 0 + 1 * (y 0).val; omega
    | ⟨1, _⟩ => show (y 1).val = 0 + 1 * (y 1).val; omega
  · refine congrFun ?_ y
    show _ = stepS (rows x3 7) (rows x1 7) (rows x2 7) (chainS x1 x2 x3 (k0_pay4 (F := F)) 7)
    rw [← carry_A_7 c arg3 harg3 arg4 harg4 arg5 harg5 arg8 x1 x2 x3]
    rw [← readAt_rows harg5 x3 448 7 rfl (by decide) inb_S512x256_S64x256_448_0,
      ← readAt_rows harg3 x1 448 7 rfl (by decide) inb_S512x256_S64x256_448_0,
      ← readAt_rows harg4 x2 448 7 rfl (by decide) inb_S512x512_S64x512_448_0]
    rfl

/-- The states stored at a point: the chain's before each of its chunks. -/
theorem states_A (hc0 : cond0_0 i) (x0 : Vec F S512x256 .f32) (x1 : Vec F S512x256 .f32) (x2 : Vec F S512x512 .f32) (x3 : Vec F S512x256 .f32) :
    out0_A_5 c i arg2 harg2 arg3 harg3 arg4 harg4 arg5 harg5 arg6 harg6 arg7 harg7 arg8 harg8 hc0 x0 x1 x2 x3 = fun y => chainS x1 x2 x3 (k0_pay4 (F := F)) (y 1).val (ValueIdx.ix2 (y 2) (y 3)) := by
  unfold out0_A_5
  funext y
  refine View.read_writes_apply_of_pieces _ _ (fun y => chainS x1 x2 x3 (k0_pay4 (F := F)) (y 1).val (ValueIdx.ix2 (y 2) (y 3))) _ ?_ y
    (cover0_A_5 c i arg2 harg2 arg3 harg3 arg4 harg4 arg5 harg5 arg6 harg6 arg7 harg7 arg8 harg8 hc0 x0 x1 x2 x3 y)
  unfold kernelRun0_A
  dsimp only
  simp only [List.forall_mem_cons, List.not_mem_nil, false_imp_iff, implies_true, and_true]
  refine ⟨?_, ?_, ?_, ?_, ?_, ?_, ?_, ?_⟩
  · exact fun x => slab_emb (chainS x1 x2 x3 (k0_pay4 (F := F))) 7 (by decide) inb_S1x8x512x256_S1x1x512x256_0_7_0_0 _ (carry_A_7 c arg3 harg3 arg4 harg4 arg5 harg5 arg8 x1 x2 x3) x
  · exact fun x => slab_emb (chainS x1 x2 x3 (k0_pay4 (F := F))) 6 (by decide) inb_S1x8x512x256_S1x1x512x256_0_6_0_0 _ (carry_A_6 c arg3 harg3 arg4 harg4 arg5 harg5 arg8 x1 x2 x3) x
  · exact fun x => slab_emb (chainS x1 x2 x3 (k0_pay4 (F := F))) 5 (by decide) inb_S1x8x512x256_S1x1x512x256_0_5_0_0 _ (carry_A_5 c arg3 harg3 arg4 harg4 arg5 harg5 arg8 x1 x2 x3) x
  · exact fun x => slab_emb (chainS x1 x2 x3 (k0_pay4 (F := F))) 4 (by decide) inb_S1x8x512x256_S1x1x512x256_0_4_0_0 _ (carry_A_4 c arg3 harg3 arg4 harg4 arg5 harg5 arg8 x1 x2 x3) x
  · exact fun x => slab_emb (chainS x1 x2 x3 (k0_pay4 (F := F))) 3 (by decide) inb_S1x8x512x256_S1x1x512x256_0_3_0_0 _ (carry_A_3 c arg3 harg3 arg4 harg4 arg5 harg5 arg8 x1 x2 x3) x
  · exact fun x => slab_emb (chainS x1 x2 x3 (k0_pay4 (F := F))) 2 (by decide) inb_S1x8x512x256_S1x1x512x256_0_2_0_0 _ (carry_A_2 c arg3 harg3 arg4 harg4 arg5 harg5 arg8 x1 x2 x3) x
  · exact fun x => slab_emb (chainS x1 x2 x3 (k0_pay4 (F := F))) 1 (by decide) inb_S1x8x512x256_S1x1x512x256_0_1_0_0 _ (carry_A_1 c arg3 harg3 arg4 harg4 arg5 harg5 arg8 x1 x2 x3) x
  · exact fun x => slab_emb (chainS x1 x2 x3 (k0_pay4 (F := F))) 0 (by decide) inb_S1x8x512x256_S1x1x512x256_0_0_0_0 _ (carry_A_0 c arg8) x

/-- The state read for chunk 1 is the chain's. -/
theorem carry_B_1 (x1 : Vec F S512x256 .f32) (x2 : Vec F S512x512 .f32) (x3 : Vec F S512x256 .f32) (xs0 : Vec F S512x256 .f32) :
    kernelRun0_B.sl.v72 c arg3 harg3 arg4 harg4 arg5 harg5 arg8 harg8 x1 x2 x3 xs0 = chainS x1 x2 x3 xs0 1 := by
  refine (View.readCov_cons_toLoadRect _ _ _ _).trans ?_
  show _ = stepS (rows x3 0) (rows x1 0) (rows x2 0) (chainS x1 x2 x3 xs0 0)
  show _ = stepS (rows x3 0) (rows x1 0) (rows x2 0) xs0
  refine Eq.trans ?_ (congrArg (stepS (rows x3 0) (rows x1 0) (rows x2 0)) (readAt_all harg8 xs0 inb_S512x256_S512x256_0_0))
  rw [← readAt_rows harg5 x3 0 0 rfl (by decide) inb_S512x256_S64x256_0_0,
    ← readAt_rows harg3 x1 0 0 rfl (by decide) inb_S512x256_S64x256_0_0,
    ← readAt_rows harg4 x2 0 0 rfl (by decide) inb_S512x512_S64x512_0_0]
  rfl

/-- The state read for chunk 2 is the chain's. -/
theorem carry_B_2 (x1 : Vec F S512x256 .f32) (x2 : Vec F S512x512 .f32) (x3 : Vec F S512x256 .f32) (xs0 : Vec F S512x256 .f32) :
    kernelRun0_B.sl.v114 c arg3 harg3 arg4 harg4 arg5 harg5 arg8 harg8 x1 x2 x3 xs0 = chainS x1 x2 x3 xs0 2 := by
  refine (View.readCov_cons_toLoadRect _ _ _ _).trans ?_
  show _ = stepS (rows x3 1) (rows x1 1) (rows x2 1) (chainS x1 x2 x3 xs0 1)
  rw [← carry_B_1 c arg3 harg3 arg4 harg4 arg5 harg5 arg8 harg8 x1 x2 x3 xs0]
  rw [← readAt_rows harg5 x3 64 1 rfl (by decide) inb_S512x256_S64x256_64_0,
    ← readAt_rows harg3 x1 64 1 rfl (by decide) inb_S512x256_S64x256_64_0,
    ← readAt_rows harg4 x2 64 1 rfl (by decide) inb_S512x512_S64x512_64_0]
  rfl

/-- The state read for chunk 3 is the chain's. -/
theorem carry_B_3 (x1 : Vec F S512x256 .f32) (x2 : Vec F S512x512 .f32) (x3 : Vec F S512x256 .f32) (xs0 : Vec F S512x256 .f32) :
    kernelRun0_B.sl.v156 c arg3 harg3 arg4 harg4 arg5 harg5 arg8 harg8 x1 x2 x3 xs0 = chainS x1 x2 x3 xs0 3 := by
  refine (View.readCov_cons_toLoadRect _ _ _ _).trans ?_
  show _ = stepS (rows x3 2) (rows x1 2) (rows x2 2) (chainS x1 x2 x3 xs0 2)
  rw [← carry_B_2 c arg3 harg3 arg4 harg4 arg5 harg5 arg8 harg8 x1 x2 x3 xs0]
  rw [← readAt_rows harg5 x3 128 2 rfl (by decide) inb_S512x256_S64x256_128_0,
    ← readAt_rows harg3 x1 128 2 rfl (by decide) inb_S512x256_S64x256_128_0,
    ← readAt_rows harg4 x2 128 2 rfl (by decide) inb_S512x512_S64x512_128_0]
  rfl

/-- The state read for chunk 4 is the chain's. -/
theorem carry_B_4 (x1 : Vec F S512x256 .f32) (x2 : Vec F S512x512 .f32) (x3 : Vec F S512x256 .f32) (xs0 : Vec F S512x256 .f32) :
    kernelRun0_B.sl.v198 c arg3 harg3 arg4 harg4 arg5 harg5 arg8 harg8 x1 x2 x3 xs0 = chainS x1 x2 x3 xs0 4 := by
  refine (View.readCov_cons_toLoadRect _ _ _ _).trans ?_
  show _ = stepS (rows x3 3) (rows x1 3) (rows x2 3) (chainS x1 x2 x3 xs0 3)
  rw [← carry_B_3 c arg3 harg3 arg4 harg4 arg5 harg5 arg8 harg8 x1 x2 x3 xs0]
  rw [← readAt_rows harg5 x3 192 3 rfl (by decide) inb_S512x256_S64x256_192_0,
    ← readAt_rows harg3 x1 192 3 rfl (by decide) inb_S512x256_S64x256_192_0,
    ← readAt_rows harg4 x2 192 3 rfl (by decide) inb_S512x512_S64x512_192_0]
  rfl

/-- The state read for chunk 5 is the chain's. -/
theorem carry_B_5 (x1 : Vec F S512x256 .f32) (x2 : Vec F S512x512 .f32) (x3 : Vec F S512x256 .f32) (xs0 : Vec F S512x256 .f32) :
    kernelRun0_B.sl.v240 c arg3 harg3 arg4 harg4 arg5 harg5 arg8 harg8 x1 x2 x3 xs0 = chainS x1 x2 x3 xs0 5 := by
  refine (View.readCov_cons_toLoadRect _ _ _ _).trans ?_
  show _ = stepS (rows x3 4) (rows x1 4) (rows x2 4) (chainS x1 x2 x3 xs0 4)
  rw [← carry_B_4 c arg3 harg3 arg4 harg4 arg5 harg5 arg8 harg8 x1 x2 x3 xs0]
  rw [← readAt_rows harg5 x3 256 4 rfl (by decide) inb_S512x256_S64x256_256_0,
    ← readAt_rows harg3 x1 256 4 rfl (by decide) inb_S512x256_S64x256_256_0,
    ← readAt_rows harg4 x2 256 4 rfl (by decide) inb_S512x512_S64x512_256_0]
  rfl

/-- The state read for chunk 6 is the chain's. -/
theorem carry_B_6 (x1 : Vec F S512x256 .f32) (x2 : Vec F S512x512 .f32) (x3 : Vec F S512x256 .f32) (xs0 : Vec F S512x256 .f32) :
    kernelRun0_B.sl.v282 c arg3 harg3 arg4 harg4 arg5 harg5 arg8 harg8 x1 x2 x3 xs0 = chainS x1 x2 x3 xs0 6 := by
  refine (View.readCov_cons_toLoadRect _ _ _ _).trans ?_
  show _ = stepS (rows x3 5) (rows x1 5) (rows x2 5) (chainS x1 x2 x3 xs0 5)
  rw [← carry_B_5 c arg3 harg3 arg4 harg4 arg5 harg5 arg8 harg8 x1 x2 x3 xs0]
  rw [← readAt_rows harg5 x3 320 5 rfl (by decide) inb_S512x256_S64x256_320_0,
    ← readAt_rows harg3 x1 320 5 rfl (by decide) inb_S512x256_S64x256_320_0,
    ← readAt_rows harg4 x2 320 5 rfl (by decide) inb_S512x512_S64x512_320_0]
  rfl

/-- The state read for chunk 7 is the chain's. -/
theorem carry_B_7 (x1 : Vec F S512x256 .f32) (x2 : Vec F S512x512 .f32) (x3 : Vec F S512x256 .f32) (xs0 : Vec F S512x256 .f32) :
    kernelRun0_B.sl.v324 c arg3 harg3 arg4 harg4 arg5 harg5 arg8 harg8 x1 x2 x3 xs0 = chainS x1 x2 x3 xs0 7 := by
  refine (View.readCov_cons_toLoadRect _ _ _ _).trans ?_
  show _ = stepS (rows x3 6) (rows x1 6) (rows x2 6) (chainS x1 x2 x3 xs0 6)
  rw [← carry_B_6 c arg3 harg3 arg4 harg4 arg5 harg5 arg8 harg8 x1 x2 x3 xs0]
  rw [← readAt_rows harg5 x3 384 6 rfl (by decide) inb_S512x256_S64x256_384_0,
    ← readAt_rows harg3 x1 384 6 rfl (by decide) inb_S512x256_S64x256_384_0,
    ← readAt_rows harg4 x2 384 6 rfl (by decide) inb_S512x512_S64x512_384_0]
  rfl

/-- The state carried out of a point: the chain's after eight chunks. -/
theorem last_B (hc0 : ¬cond0_0 i) (x0 : Vec F S512x256 .f32) (x1 : Vec F S512x256 .f32) (x2 : Vec F S512x512 .f32) (x3 : Vec F S512x256 .f32) (xs0 : Vec F S512x256 .f32) :
    sout0_B_0 c i arg2 harg2 arg3 harg3 arg4 harg4 arg5 harg5 arg6 harg6 arg7 harg7 arg8 harg8 hc0 x0 x1 x2 x3 xs0 = chainS x1 x2 x3 xs0 8 := by
  unfold sout0_B_0 kernelRun0_B
  dsimp only
  funext y
  refine (View.read_writes_cons_hit_of_coords _ _ _ _ _ y y ?_).trans ?_
  · intro a
    match a with
    | ⟨0, _⟩ => show (y 0).val = 0 + 1 * (y 0).val; omega
    | ⟨1, _⟩ => show (y 1).val = 0 + 1 * (y 1).val; omega
  · refine congrFun ?_ y
    show _ = stepS (rows x3 7) (rows x1 7) (rows x2 7) (chainS x1 x2 x3 xs0 7)
    rw [← carry_B_7 c arg3 harg3 arg4 harg4 arg5 harg5 arg8 harg8 x1 x2 x3 xs0]
    rw [← readAt_rows harg5 x3 448 7 rfl (by decide) inb_S512x256_S64x256_448_0,
      ← readAt_rows harg3 x1 448 7 rfl (by decide) inb_S512x256_S64x256_448_0,
      ← readAt_rows harg4 x2 448 7 rfl (by decide) inb_S512x512_S64x512_448_0]
    rfl

/-- The states stored at a point: the chain's before each of its chunks. -/
theorem states_B (hc0 : ¬cond0_0 i) (x0 : Vec F S512x256 .f32) (x1 : Vec F S512x256 .f32) (x2 : Vec F S512x512 .f32) (x3 : Vec F S512x256 .f32) (xs0 : Vec F S512x256 .f32) :
    out0_B_5 c i arg2 harg2 arg3 harg3 arg4 harg4 arg5 harg5 arg6 harg6 arg7 harg7 arg8 harg8 hc0 x0 x1 x2 x3 xs0 = fun y => chainS x1 x2 x3 xs0 (y 1).val (ValueIdx.ix2 (y 2) (y 3)) := by
  unfold out0_B_5
  funext y
  refine View.read_writes_apply_of_pieces _ _ (fun y => chainS x1 x2 x3 xs0 (y 1).val (ValueIdx.ix2 (y 2) (y 3))) _ ?_ y
    (cover0_B_5 c i arg2 harg2 arg3 harg3 arg4 harg4 arg5 harg5 arg6 harg6 arg7 harg7 arg8 harg8 hc0 x0 x1 x2 x3 xs0 y)
  unfold kernelRun0_B
  dsimp only
  simp only [List.forall_mem_cons, List.not_mem_nil, false_imp_iff, implies_true, and_true]
  refine ⟨?_, ?_, ?_, ?_, ?_, ?_, ?_, ?_⟩
  · exact fun x => slab_emb (chainS x1 x2 x3 xs0) 7 (by decide) inb_S1x8x512x256_S1x1x512x256_0_7_0_0 _ (carry_B_7 c arg3 harg3 arg4 harg4 arg5 harg5 arg8 harg8 x1 x2 x3 xs0) x
  · exact fun x => slab_emb (chainS x1 x2 x3 xs0) 6 (by decide) inb_S1x8x512x256_S1x1x512x256_0_6_0_0 _ (carry_B_6 c arg3 harg3 arg4 harg4 arg5 harg5 arg8 harg8 x1 x2 x3 xs0) x
  · exact fun x => slab_emb (chainS x1 x2 x3 xs0) 5 (by decide) inb_S1x8x512x256_S1x1x512x256_0_5_0_0 _ (carry_B_5 c arg3 harg3 arg4 harg4 arg5 harg5 arg8 harg8 x1 x2 x3 xs0) x
  · exact fun x => slab_emb (chainS x1 x2 x3 xs0) 4 (by decide) inb_S1x8x512x256_S1x1x512x256_0_4_0_0 _ (carry_B_4 c arg3 harg3 arg4 harg4 arg5 harg5 arg8 harg8 x1 x2 x3 xs0) x
  · exact fun x => slab_emb (chainS x1 x2 x3 xs0) 3 (by decide) inb_S1x8x512x256_S1x1x512x256_0_3_0_0 _ (carry_B_3 c arg3 harg3 arg4 harg4 arg5 harg5 arg8 harg8 x1 x2 x3 xs0) x
  · exact fun x => slab_emb (chainS x1 x2 x3 xs0) 2 (by decide) inb_S1x8x512x256_S1x1x512x256_0_2_0_0 _ (carry_B_2 c arg3 harg3 arg4 harg4 arg5 harg5 arg8 harg8 x1 x2 x3 xs0) x
  · exact fun x => slab_emb (chainS x1 x2 x3 xs0) 1 (by decide) inb_S1x8x512x256_S1x1x512x256_0_1_0_0 _ (carry_B_1 c arg3 harg3 arg4 harg4 arg5 harg5 arg8 harg8 x1 x2 x3 xs0) x
  · exact fun x => slab_emb (chainS x1 x2 x3 xs0) 0 (by decide) inb_S1x8x512x256_S1x1x512x256_0_0_0_0 _ (readAt_all harg8 xs0 inb_S512x256_S512x256_0_0) x

end Cert.KernelIdeal.Fwd

end
-- ==== Proof.Spec.lean ====
module

public import Idealize.ShloMosaic.PureOps.Ideal.Laws
public import Idealize.ShloMosaic.Lib.Pointwise

@[expose] public section

/-!
  The gradients of chunked gated linear attention as plain sums of extended reals. A chunk is 64 tokens of one head,
  read off its tiles at a token `t`, a key coordinate `a` and a value coordinate `b`: `cm t a` the cumulative gates,
  `q t a`, `k t a`, `v t b` the projections, `dO t b` the cotangent of the output, `S b a` the state that the chunk
  starts from, `D b a` the cotangent of the state that it ends in.
-/

noncomputable section

namespace Cert.GlaSpec

open Idealize.ShloMosaic
open scoped BigOperators

/-- A tile of one chunk, a state. -/
abbrev Tile (n : ℕ) := Fin 64 → Fin n → EReal
abbrev State := Fin 512 → Fin 256 → EReal

variable (cm q k : Tile 256) (v dO : Tile 512) (S D : State)

/-- The queries' scale, one over the square root of the key dimension. -/
abbrev scale : EReal := Ideal.ofBits .f32 0x3D800000#32

/-- A score counts where its key is not later than its query. -/
def causal (t s : Fin 64) (x : EReal) : EReal := if s ≤ t then x else 0

/-- Queries and keys decayed: to the chunk's start, from it, and to its end. -/
def qd : Tile 256 := fun t a => q t a * scale * Ideal.exp (cm t a)
def ki : Tile 256 := fun t a => k t a * Ideal.exp (-(cm t a))
def ke : Tile 256 := fun t a => k t a * Ideal.exp (cm 63 a - cm t a)

/-- The state after a chunk. -/
def nextS : State := fun b a => S b a * Ideal.exp (cm 63 a) + ∑ t, v t b * ke cm k t a

/-- The state's cotangent before a chunk. -/
def prevD : State := fun b a => D b a * Ideal.exp (cm 63 a) + ∑ t, dO t b * qd cm q t a

/-- The scores and their cotangent. -/
def pm (t s : Fin 64) : EReal := causal t s (∑ a, qd cm q t a * ki cm k s a)
def am (t s : Fin 64) : EReal := causal t s (∑ b, dO t b * v s b)

/-- The cotangents of the decayed queries and keys. -/
def dqd : Tile 256 := fun t a => (∑ s, am v dO t s * ki cm k s a) + ∑ b, dO t b * S b a
def dki : Tile 256 := fun s a => ∑ t, am v dO t s * qd cm q t a
def dke : Tile 256 := fun t a => ∑ b, v t b * D b a

/-- The gradients of one chunk's queries, keys, values and cumulative gates. -/
def gradQ : Tile 256 := fun t a => dqd cm k v dO S t a * scale * Ideal.exp (cm t a)
def gradK : Tile 256 := fun t a => dki cm q v dO t a * Ideal.exp (-(cm t a)) + dke v D t a * Ideal.exp (cm 63 a - cm t a)
def gradV : Tile 512 := fun t b => (∑ s, pm cm q k s t * dO s b) + ∑ a, ke cm k t a * D b a
def gradC0 : Tile 256 := fun t a => dqd cm k v dO S t a * qd cm q t a - dki cm q v dO t a * ki cm k t a - dke v D t a * ke cm k t a
def gradLast (a : Fin 256) : EReal := (∑ t, dke v D t a * ke cm k t a) + (∑ b, D b a * S b a) * Ideal.exp (cm 63 a)
def gradC : Tile 256 := fun t a => if t = 63 then gradC0 cm q k v dO S D t a + gradLast cm k v S D a else gradC0 cm q k v dO S D t a

/-! ### The whole arrays -/

variable (P : (⟨2, ![4096, 6144]⟩ : Shape).Idx → EReal) (C : (⟨2, ![4096, 1024]⟩ : Shape).Idx → EReal)
  (G : (⟨2, ![4096, 2048]⟩ : Shape).Idx → EReal)

/-- Columns `o …` of chunk `n`'s rows of an array. -/
def tile {w : ℕ} (hw : 0 < w) (n : ℕ) (X : (⟨2, ![4096, w]⟩ : Shape).Idx → EReal) (o m : ℕ) : Tile m :=
  fun t a => X (ix2 ⟨(64 * n + t.val) % 4096, Nat.mod_lt _ (by decide)⟩ ⟨(o + a.val) % w, Nat.mod_lt _ hw⟩)

/-- The tiles of head `h`, chunk `n`. -/
abbrev qT (h n : ℕ) : Tile 256 := tile (by decide) n P (256 * h) 256
abbrev kT (h n : ℕ) : Tile 256 := tile (by decide) n P (1024 + 256 * h) 256
abbrev vT (h n : ℕ) : Tile 512 := tile (by decide) n P (2048 + 512 * h) 512
abbrev cT (h n : ℕ) : Tile 256 := tile (by decide) n C (256 * h) 256
abbrev gT (h n : ℕ) : Tile 512 := tile (by decide) n G (512 * h) 512

/-- The state of head `h` before chunk `n`: zero before the first. -/
def stS (h : ℕ) : ℕ → State
  | 0 => fun _ _ => 0
  | n + 1 => nextS (cT C h n) (kT P h n) (vT P h n) (stS h n)

/-- The cotangent of the state of head `h` after all but the last `j` chunks: zero after the last. -/
def stD (h : ℕ) : ℕ → State
  | 0 => fun _ _ => 0
  | j + 1 => prevD (cT C h (63 - j)) (qT P h (63 - j)) (gT G h (63 - j)) (stD h j)

/-- The gradients of the whole arrays, at row `r` and column `x`. -/
def dQ : (⟨2, ![4096, 1024]⟩ : Shape).Idx → EReal := fun y =>
  let h := (y 1).val / 256; let n := (y 0).val / 64
  gradQ (cT C h n) (kT P h n) (vT P h n) (gT G h n) (stS P C h n)
    ⟨(y 0).val % 64, Nat.mod_lt _ (by decide)⟩ ⟨(y 1).val % 256, Nat.mod_lt _ (by decide)⟩
def dK : (⟨2, ![4096, 1024]⟩ : Shape).Idx → EReal := fun y =>
  let h := (y 1).val / 256; let n := (y 0).val / 64
  gradK (cT C h n) (qT P h n) (vT P h n) (gT G h n) (stD P C G h (63 - n))
    ⟨(y 0).val % 64, Nat.mod_lt _ (by decide)⟩ ⟨(y 1).val % 256, Nat.mod_lt _ (by decide)⟩
def dV : (⟨2, ![4096, 2048]⟩ : Shape).Idx → EReal := fun y =>
  let h := (y 1).val / 512; let n := (y 0).val / 64
  gradV (cT C h n) (qT P h n) (kT P h n) (gT G h n) (stD P C G h (63 - n))
    ⟨(y 0).val % 64, Nat.mod_lt _ (by decide)⟩ ⟨(y 1).val % 512, Nat.mod_lt _ (by decide)⟩
def dC : (⟨2, ![4096, 1024]⟩ : Shape).Idx → EReal := fun y =>
  let h := (y 1).val / 256; let n := (y 0).val / 64
  gradC (cT C h n) (qT P h n) (kT P h n) (vT P h n) (gT G h n) (stS P C h n) (stD P C G h (63 - n))
    ⟨(y 0).val % 64, Nat.mod_lt _ (by decide)⟩ ⟨(y 1).val % 256, Nat.mod_lt _ (by decide)⟩

/-! ### The gradients at a row and a column given by chunk and head -/

theorem dQ_at (y : (⟨2, ![4096, 1024]⟩ : Shape).Idx) (h n : ℕ) (t : Fin 64) (a : Fin 256) (h0 : (y 0).val = 64 * n + t.val)
    (h1 : (y 1).val = 256 * h + a.val) :
    dQ P C G y = gradQ (cT C h n) (kT P h n) (vT P h n) (gT G h n) (stS P C h n) t a := by
  have e1 : (y 1).val / 256 = h := by omega
  have e2 : (y 0).val / 64 = n := by omega
  have e3 : (⟨(y 0).val % 64, Nat.mod_lt _ (by decide)⟩ : Fin 64) = t := Fin.ext (by show (y 0).val % 64 = t.val; omega)
  have e4 : (⟨(y 1).val % 256, Nat.mod_lt _ (by decide)⟩ : Fin 256) = a := Fin.ext (by show (y 1).val % 256 = a.val; omega)
  unfold dQ
  simp only [e1, e2, e3, e4]

theorem dK_at (y : (⟨2, ![4096, 1024]⟩ : Shape).Idx) (h n : ℕ) (t : Fin 64) (a : Fin 256) (h0 : (y 0).val = 64 * n + t.val)
    (h1 : (y 1).val = 256 * h + a.val) :
    dK P C G y = gradK (cT C h n) (qT P h n) (vT P h n) (gT G h n) (stD P C G h (63 - n)) t a := by
  have e1 : (y 1).val / 256 = h := by omega
  have e2 : (y 0).val / 64 = n := by omega
  have e3 : (⟨(y 0).val % 64, Nat.mod_lt _ (by decide)⟩ : Fin 64) = t := Fin.ext (by show (y 0).val % 64 = t.val; omega)
  have e4 : (⟨(y 1).val % 256, Nat.mod_lt _ (by decide)⟩ : Fin 256) = a := Fin.ext (by show (y 1).val % 256 = a.val; omega)
  unfold dK
  simp only [e1, e2, e3, e4]

theorem dV_at (y : (⟨2, ![4096, 2048]⟩ : Shape).Idx) (h n : ℕ) (t : Fin 64) (a : Fin 512) (h0 : (y 0).val = 64 * n + t.val)
    (h1 : (y 1).val = 512 * h + a.val) :
    dV P C G y = gradV (cT C h n) (qT P h n) (kT P h n) (gT G h n) (stD P C G h (63 - n)) t a := by
  have e1 : (y 1).val / 512 = h := by omega
  have e2 : (y 0).val / 64 = n := by omega
  have e3 : (⟨(y 0).val % 64, Nat.mod_lt _ (by decide)⟩ : Fin 64) = t := Fin.ext (by show (y 0).val % 64 = t.val; omega)
  have e4 : (⟨(y 1).val % 512, Nat.mod_lt _ (by decide)⟩ : Fin 512) = a := Fin.ext (by show (y 1).val % 512 = a.val; omega)
  unfold dV
  simp only [e1, e2, e3, e4]

theorem dC_at (y : (⟨2, ![4096, 1024]⟩ : Shape).Idx) (h n : ℕ) (t : Fin 64) (a : Fin 256) (h0 : (y 0).val = 64 * n + t.val)
    (h1 : (y 1).val = 256 * h + a.val) :
    dC P C G y = gradC (cT C h n) (qT P h n) (kT P h n) (vT P h n) (gT G h n) (stS P C h n) (stD P C G h (63 - n)) t a := by
  have e1 : (y 1).val / 256 = h := by omega
  have e2 : (y 0).val / 64 = n := by omega
  have e3 : (⟨(y 0).val % 64, Nat.mod_lt _ (by decide)⟩ : Fin 64) = t := Fin.ext (by show (y 0).val % 64 = t.val; omega)
  have e4 : (⟨(y 1).val % 256, Nat.mod_lt _ (by decide)⟩ : Fin 256) = a := Fin.ext (by show (y 1).val % 256 = a.val; omega)
  unfold dC
  simp only [e1, e2, e3, e4]

/-- A product with a score that does not count is zero. -/
theorem causal_mul (t s : Fin 64) (x y : EReal) : causal t s x * y = causal t s (x * y) := by
  unfold causal; split
  · rfl
  · exact zero_mul y

/-- The condition of a score's select, as words. -/
theorem select_causal (t s : Fin 64) (x : EReal) :
    Scalar.select (IntOp.cmpi .sge (BitVec.ofNat 32 t.val) (BitVec.ofNat 32 s.val)) x 0 = causal t s x := by
  have h : ∀ t s : Fin 64, IntOp.cmpi .sge (BitVec.ofNat 32 t.val) (BitVec.ofNat 32 s.val) = if s ≤ t then 1#1 else 0#1 := by
    decide +kernel
  rw [h]
  unfold causal
  by_cases hs : s ≤ t
  · rw [if_pos hs, if_pos hs]; rfl
  · rw [if_neg hs, if_neg hs]; rfl

/-- The condition of the last row's select, as words. -/
theorem select_last (t : Fin 64) (x y : EReal) :
    Scalar.select (IntOp.cmpi .eq (BitVec.ofNat 32 t.val) 63#32) x y = if t = 63 then x else y := by
  have h : ∀ t : Fin 64, IntOp.cmpi .eq (BitVec.ofNat 32 t.val) 63#32 = if t = 63 then 1#1 else 0#1 := by
    decide +kernel
  rw [h]
  by_cases hs : t = 63
  · rw [if_pos hs, if_pos hs]; rfl
  · rw [if_neg hs, if_neg hs]; rfl

end Cert.GlaSpec

end
-- ==== Proof.ChunkIdeal.lean ====
module

public import proofs.«01_k».proof.Proof.Chunk
public import proofs.«01_k».proof.Proof.Spec

@[expose] public section

set_option maxRecDepth 16384

/-!
  One chunk's computations of both calls, read at an element in extended reals, are the specification's of the chunk's tiles.
-/

noncomputable section

namespace Cert.KernelIdeal.Gla

open Cert.KernelIdeal Cert.KernelIdeal.Gen
open Idealize.ShloMosaic
open Cert.GlaSpec (Tile State)
open scoped BigOperators

/-- A tile, and a state, by coordinates. -/
abbrev tl {n : ℕ} (x : (⟨2, ![64, n]⟩ : Shape).Idx → EReal) : Tile n := fun t a => x (ix2 t a)
abbrev sl (x : S512x256.Idx → EReal) : State := fun b a => x (ix2 b a)
abbrev sl4 (x : S1x1x512x256.Idx → EReal) : State := fun b a => x (ix4 0 0 b a)

variable (cm q k : FVec Ideal S64x256 .f32) (v : FVec Ideal S64x512 .f32) (dO : FVec Ideal S64x512 .bf16)
  (st4 : FVec Ideal S1x1x512x256 .f32) (st ds : FVec Ideal S512x256 .f32)

theorem stepS_apply (a : Fin 512) (b : Fin 256) :
    stepS cm k v st (ix2 a b) = GlaSpec.nextS (tl cm) (tl k) (tl v) (sl st) a b := by
  unfold stepS
  unfold_payloads
  pointwise
  rfl

theorem stepD_apply (a : Fin 512) (b : Fin 256) :
    stepD cm q dO ds (ix2 a b) = GlaSpec.prevD (tl cm) (tl q) (tl dO) (sl ds) a b := by
  unfold stepD
  unfold_payloads
  pointwise
  rfl

theorem chunkQ_apply (t : Fin 64) (a : Fin 256) :
    chunkQ cm k v dO st4 (ix2 t a) = GlaSpec.gradQ (tl cm) (tl k) (tl v) (tl dO) (sl4 st4) t a := by
  unfold chunkQ
  unfold_payloads
  pointwise
  simp only [GlaSpec.select_causal, GlaSpec.select_last, zero_sub, GlaSpec.gradQ, GlaSpec.gradK, GlaSpec.gradV, GlaSpec.gradC, GlaSpec.gradC0,
    GlaSpec.gradLast, GlaSpec.dqd, GlaSpec.dki, GlaSpec.dke, GlaSpec.am, GlaSpec.pm, GlaSpec.qd, GlaSpec.ki, GlaSpec.ke, GlaSpec.causal_mul]

theorem chunkK_apply (t : Fin 64) (a : Fin 256) :
    chunkK cm q v dO ds (ix2 t a) = GlaSpec.gradK (tl cm) (tl q) (tl v) (tl dO) (sl ds) t a := by
  unfold chunkK
  unfold_payloads
  pointwise
  simp only [GlaSpec.select_causal, GlaSpec.select_last, zero_sub, GlaSpec.gradQ, GlaSpec.gradK, GlaSpec.gradV, GlaSpec.gradC, GlaSpec.gradC0,
    GlaSpec.gradLast, GlaSpec.dqd, GlaSpec.dki, GlaSpec.dke, GlaSpec.am, GlaSpec.pm, GlaSpec.qd, GlaSpec.ki, GlaSpec.ke, GlaSpec.causal_mul]

theorem chunkV_apply (t : Fin 64) (b : Fin 512) :
    chunkV cm q k dO ds (ix2 t b) = GlaSpec.gradV (tl cm) (tl q) (tl k) (tl dO) (sl ds) t b := by
  unfold chunkV
  unfold_payloads
  pointwise
  simp only [GlaSpec.select_causal, GlaSpec.select_last, zero_sub, GlaSpec.gradQ, GlaSpec.gradK, GlaSpec.gradV, GlaSpec.gradC, GlaSpec.gradC0,
    GlaSpec.gradLast, GlaSpec.dqd, GlaSpec.dki, GlaSpec.dke, GlaSpec.am, GlaSpec.pm, GlaSpec.qd, GlaSpec.ki, GlaSpec.ke, GlaSpec.causal_mul]

theorem chunkC_apply (t : Fin 64) (a : Fin 256) :
    chunkC cm q k v dO st4 ds (ix2 t a) = GlaSpec.gradC (tl cm) (tl q) (tl k) (tl v) (tl dO) (sl4 st4) (sl ds) t a := by
  unfold chunkC
  unfold_payloads
  pointwise
  simp only [GlaSpec.select_causal, GlaSpec.select_last, zero_sub, GlaSpec.gradQ, GlaSpec.gradK, GlaSpec.gradV, GlaSpec.gradC, GlaSpec.gradC0,
    GlaSpec.gradLast, GlaSpec.dqd, GlaSpec.dki, GlaSpec.dke, GlaSpec.am, GlaSpec.pm, GlaSpec.qd, GlaSpec.ki, GlaSpec.ke, GlaSpec.causal_mul]

end Cert.KernelIdeal.Gla

end
-- ==== Proof.FwdValue.lean ====
module

public import proofs.«01_k».proof.Proof.FwdChunks
public import proofs.«01_k».proof.Proof.ChunkIdeal
public import Idealize.ShloMosaic.Lib.Pipeline.ValueKit

@[expose] public section

set_option maxRecDepth 16384

/-!
  The states the forward call saves, as plain sums: block `8·h + b` of the grid handles chunks `8·b … 8·b + 7` of head
  `h`, and the state it saves for a chunk is the one the chunk starts from.
-/

noncomputable section

namespace Cert.KernelIdeal.Fwd

open Cert.KernelIdeal Cert.KernelIdeal.Gen Cert.KernelIdeal.Gla
open Idealize.ShloMosaic Idealize.ShloMosaic.TcCoe
open Idealize.ShloMosaic.Pipeline (Dat)
open Cert.GlaSpec (Tile State)

variable (V : (c : Dev nD) → (b : Ref sig .tc) → Buf (Elt Ideal) ((c : Thread nD τ).loc b))

/-- The projections and the cumulative gates the call finds. -/
abbrev pIn (c : Dev nD) : S4096x6144.Idx → EReal := V c main_arg0
abbrev cIn (c : Dev nD) : S4096x1024.Idx → EReal := V c main_arg1

theorem idx0_1 : ∀ t : Fin cfg0.N, win0_1.index t = ![t.val % 8, t.val / 8 + 4] :=
  (by decide +kernel : ∀ t : Fin grid0.N, win0_1.index t = ![t.val % 8, t.val / 8 + 4])
theorem idx0_2 : ∀ t : Fin cfg0.N, win0_2.index t = ![t.val % 8, t.val / 8 + 4] :=
  (by decide +kernel : ∀ t : Fin grid0.N, win0_2.index t = ![t.val % 8, t.val / 8 + 4])
theorem idx0_3 : ∀ t : Fin cfg0.N, win0_3.index t = ![t.val % 8, t.val / 8] :=
  (by decide +kernel : ∀ t : Fin grid0.N, win0_3.index t = ![t.val % 8, t.val / 8])
theorem idx0_5 : ∀ t : Fin cfg0.N, win0_5.index t = ![t.val / 8, t.val % 8, 0, 0] :=
  (by decide +kernel : ∀ t : Fin grid0.N, win0_5.index t = ![t.val / 8, t.val % 8, 0, 0])

/-- Chunk `i`'s keys of a point's block. -/
theorem tile_k (c : Dev nD) (t : Fin cfg0.N) (i : ℕ) (hi : i < 8) :
    tl (rows (iblk V c 1 t) i) = GlaSpec.kT (pIn V c) (t.val / 8) (8 * (t.val % 8) + i) := by
  have ht : t.val < 32 := lt_of_lt_of_eq t.isLt (by decide)
  funext s a
  unfold rows GlaSpec.kT GlaSpec.tile
  blk_simp [iblk]
  refine congrArg (V c main_arg0) ?_
  blk_ext [idx0_1]
  show (t.val / 8 + 4) * 256 + a.val = (1024 + 256 * (t.val / 8) + a.val) % 6144
  omega

/-- Chunk `i`'s values of a point's block. -/
theorem tile_v (c : Dev nD) (t : Fin cfg0.N) (i : ℕ) (hi : i < 8) :
    tl (rows (iblk V c 2 t) i) = GlaSpec.vT (pIn V c) (t.val / 8) (8 * (t.val % 8) + i) := by
  have ht : t.val < 32 := lt_of_lt_of_eq t.isLt (by decide)
  funext s a
  unfold rows GlaSpec.vT GlaSpec.tile
  blk_simp [iblk]
  refine congrArg (V c main_arg0) ?_
  blk_ext [idx0_2]
  show (t.val / 8 + 4) * 512 + a.val = (2048 + 512 * (t.val / 8) + a.val) % 6144
  omega

/-- Chunk `i`'s cumulative gates of a point's block. -/
theorem tile_c (c : Dev nD) (t : Fin cfg0.N) (i : ℕ) (hi : i < 8) :
    tl (rows (iblk V c 3 t) i) = GlaSpec.cT (cIn V c) (t.val / 8) (8 * (t.val % 8) + i) := by
  have ht : t.val < 32 := lt_of_lt_of_eq t.isLt (by decide)
  funext s a
  unfold rows GlaSpec.cT GlaSpec.tile
  blk_simp [iblk]
  refine congrArg (V c main_arg1) ?_
  blk_ext [idx0_3]
  show t.val / 8 * 256 + a.val = (256 * (t.val / 8) + a.val) % 1024
  omega

/-- The chain of a point's chunks is the recurrence of the states, from where it starts. -/
theorem chain_eq (c : Dev nD) (t : Fin cfg0.N) (xs : FVec Ideal S512x256 .f32)
    (hx : sl xs = GlaSpec.stS (pIn V c) (cIn V c) (t.val / 8) (8 * (t.val % 8))) :
    ∀ i : ℕ, i ≤ 8 → sl (chainS (iblk V c 1 t) (iblk V c 2 t) (iblk V c 3 t) xs i)
      = GlaSpec.stS (pIn V c) (cIn V c) (t.val / 8) (8 * (t.val % 8) + i)
  | 0, _ => hx
  | i + 1, hi => by
    funext b a
    refine (stepS_apply _ _ _ _ b a).trans ?_
    rw [tile_c V c t i (by omega), tile_k V c t i (by omega), tile_v V c t i (by omega), chain_eq c t xs hx i (by omega)]
    rfl

/-- The zero state. -/
theorem zero_state : sl (k0_pay4 (F := Ideal)) = fun _ _ => 0 := by
  funext b a
  unfold k0_pay4
  pointwise

/-- The state a point leaves: the one before the first chunk of the next point. -/
theorem carried (c : Dev nD) : ∀ (n : ℕ) (hn : n < cfg0.N),
    sl (outsAt0 V c n hn).2.2 = GlaSpec.stS (pIn V c) (cIn V c) (n / 8) (8 * (n % 8) + 8) := by
  intro n
  induction n with
  | zero =>
    intro hn
    refine (congrArg (fun z => sl z.2.2) (outsAt0_A V c ⟨0, hn⟩ rfl)).trans ?_
    dsimp only
    rw [last_A]
    exact chain_eq V c ⟨0, hn⟩ _ zero_state 8 (le_refl _)
  | succ n ih =>
    intro hn
    by_cases h0 : (n + 1) % 8 = 0
    · refine (congrArg (fun z => sl z.2.2) (outsAt0_A V c ⟨n + 1, hn⟩ h0)).trans ?_
      dsimp only
      rw [last_A]
      refine chain_eq V c ⟨n + 1, hn⟩ _ (zero_state.trans ?_) 8 (le_refl _)
      show _ = GlaSpec.stS (pIn V c) (cIn V c) ((n + 1) / 8) (8 * ((n + 1) % 8))
      rw [h0]; rfl
    · refine (congrArg (fun z => sl z.2.2) (outsAt0_B V c ⟨n + 1, hn⟩ h0)).trans ?_
      dsimp only
      rw [last_B]
      refine chain_eq V c ⟨n + 1, hn⟩ _ ((ih _).trans ?_) 8 (le_refl _)
      show GlaSpec.stS (pIn V c) (cIn V c) (n / 8) (8 * (n % 8) + 8) = GlaSpec.stS (pIn V c) (cIn V c) ((n + 1) / 8) (8 * ((n + 1) % 8))
      rw [show n / 8 = (n + 1) / 8 by omega, show 8 * (n % 8) + 8 = 8 * ((n + 1) % 8) by omega]

/-- The states a point stores. -/
theorem stored (c : Dev nD) (t : Fin cfg0.N) (y : S1x8x512x256.Idx) :
    (outsAt0 V c t.val t.isLt).2.1 y = GlaSpec.stS (pIn V c) (cIn V c) (t.val / 8) (8 * (t.val % 8) + (y 1).val) (y 2) (y 3) := by
  have hy : (y 1).val < 8 := (y 1).isLt
  by_cases h0 : t.val % 8 = 0
  · rw [outsAt0_A V c t h0]
    dsimp only
    rw [states_A]
    refine congrFun (congrFun (chain_eq V c t _ (zero_state.trans ?_) (y 1).val (by omega)) (y 2)) (y 3)
    rw [h0]; rfl
  · rw [outsAt0_B V c t h0]
    dsimp only
    rw [states_B]
    refine congrFun (congrFun (chain_eq V c t _ ((carried V c _ _).trans ?_) (y 1).val (by omega)) (y 2)) (y 3)
    rw [show (t.val - 1) / 8 = t.val / 8 by omega, show 8 * ((t.val - 1) % 8) + 8 = 8 * (t.val % 8) by omega]

/-- THE SAVED STATES: before each chunk of each head. -/
theorem states (c : Dev nD) : (dat V c).arrAt 5 cfg0.N
    = fun y : S4x64x512x256.Idx => GlaSpec.stS (pIn V c) (cIn V c) (y 0).val (y 1).val (y 2) (y 3) := by
  refine (dat V c).arrAt_eq_of_covers 5 _ (by decide +kernel) fun t hf y => ?_
  have ht : t.val < 32 := lt_of_lt_of_eq t.isLt (by decide)
  have hy0 : (y 0).val < 1 := (y 0).isLt
  have hy1 : (y 1).val < 8 := (y 1).isLt
  show (dat V c).after 5 t y = GlaSpec.stS (pIn V c) (cIn V c) (((cfg0.win 5).blk t).view.emb y 0).val
    (((cfg0.win 5).blk t).view.emb y 1).val (((cfg0.win 5).blk t).view.emb y 2) (((cfg0.win 5).blk t).view.emb y 3)
  refine ((congrFun (after0_5 V c t) y).trans (stored V c t y)).trans ?_
  have e0 : (((cfg0.win 5).blk t).view.emb y 0).val = t.val / 8 := by blk_simp [idx0_5] <;> omega
  have e1 : (((cfg0.win 5).blk t).view.emb y 1).val = 8 * (t.val % 8) + (y 1).val := by blk_simp [idx0_5] <;> omega
  have e2 : ((cfg0.win 5).blk t).view.emb y 2 = y 2 := Fin.ext (by blk_simp [idx0_5] <;> omega)
  have e3 : ((cfg0.win 5).blk t).view.emb y 3 = y 3 := Fin.ext (by blk_simp [idx0_5] <;> omega)
  exact congr (congr (congr (congrArg (GlaSpec.stS (pIn V c) (cIn V c)) e0.symm) e1.symm) e2.symm) e3.symm

end Cert.KernelIdeal.Fwd

end
-- ==== Proof.BwdChunks.lean ====
module

public import proofs.«01_k».proof.Proof.BwdBody
public import proofs.«01_k».proof.Proof.Chunk

@[expose] public section

set_option maxRecDepth 16384

/-!
  The backward call's body at one grid point, as values: the four gradients' rows are those of the point's eight chunks,
  and the state's cotangent it carries is the chain of these chunks, last first, from zero where the point resets (`A`),
  from the carried one elsewhere (`B`).
-/

noncomputable section

namespace Cert.KernelIdeal.Bwd

open Cert.KernelIdeal Cert.KernelIdeal.Gen Cert.KernelIdeal.Gla
open Idealize.ShloMosaic Idealize.ShloMosaic.TcCoe Idealize.ShloMosaic.Tactic

variable {F : FTy → Type} [FloatOps F]

variable (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x256 .f32) (harg5 : arg5.IsWhole) (arg6 : Memref sig .tc .vmem S1x8x512x256 .f32) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x512 .bf16) (harg10 : arg10.IsWhole) (arg11 : Memref sig .tc .vmem S512x256 .f32) (harg11 : arg11.IsWhole) (arg12 : Memref sig .tc .vmem S512x256 .f32) (harg12 : arg12.IsWhole)

/-- The first cotangent read at a point that resets is the one stored: zero. -/
theorem carry_A_0 : kernelRun1_A.sl.v32 (F := F) c arg12 = k1_pay2 :=
  View.readCov_cons_toLoadRect _ _ _ _

/-- The state's cotangent read for chunk 6 is the chain's. -/
theorem carry_A_1 (x0 : Vec F S512x256 .f32) (x3 : Vec F S512x256 .f32) (x5 : Vec F S512x512 .bf16) :
    kernelRun1_A.sl.v113 c arg2 harg2 arg5 harg5 arg7 harg7 arg12 x0 x3 x5 = chainD x0 x3 x5 (k1_pay2 (F := F)) 1 := by
  refine (View.readCov_cons_toLoadRect _ _ _ _).trans ?_
  show _ = stepD (rows x3 7) (rows x0 7) (rows x5 7) (chainD x0 x3 x5 (k1_pay2 (F := F)) 0)
  refine Eq.trans ?_ (congrArg (stepD (rows x3 7) (rows x0 7) (rows x5 7)) (carry_A_0 c arg12))
  rw [← readAt_rows harg5 x3 448 7 rfl (by decide) inb_S512x256_S64x256_448_0, ← readAt_rows harg2 x0 448 7 rfl (by decide) inb_S512x256_S64x256_448_0,
    ← readAt_rows harg7 x5 448 7 rfl (by decide) inb_S512x512_S64x512_448_0]
  rfl

/-- The state's cotangent read for chunk 5 is the chain's. -/
theorem carry_A_2 (x0 : Vec F S512x256 .f32) (x3 : Vec F S512x256 .f32) (x5 : Vec F S512x512 .bf16) :
    kernelRun1_A.sl.v194 c arg2 harg2 arg5 harg5 arg7 harg7 arg12 x0 x3 x5 = chainD x0 x3 x5 (k1_pay2 (F := F)) 2 := by
  refine (View.readCov_cons_toLoadRect _ _ _ _).trans ?_
  show _ = stepD (rows x3 6) (rows x0 6) (rows x5 6) (chainD x0 x3 x5 (k1_pay2 (F := F)) 1)
  refine Eq.trans ?_ (congrArg (stepD (rows x3 6) (rows x0 6) (rows x5 6)) (carry_A_1 c arg2 harg2 arg5 harg5 arg7 harg7 arg12 x0 x3 x5))
  rw [← readAt_rows harg5 x3 384 6 rfl (by decide) inb_S512x256_S64x256_384_0, ← readAt_rows harg2 x0 384 6 rfl (by decide) inb_S512x256_S64x256_384_0,
    ← readAt_rows harg7 x5 384 6 rfl (by decide) inb_S512x512_S64x512_384_0]
  rfl

/-- The state's cotangent read for chunk 4 is the chain's. -/
theorem carry_A_3 (x0 : Vec F S512x256 .f32) (x3 : Vec F S512x256 .f32) (x5 : Vec F S512x512 .bf16) :
    kernelRun1_A.sl.v275 c arg2 harg2 arg5 harg5 arg7 harg7 arg12 x0 x3 x5 = chainD x0 x3 x5 (k1_pay2 (F := F)) 3 := by
  refine (View.readCov_cons_toLoadRect _ _ _ _).trans ?_
  show _ = stepD (rows x3 5) (rows x0 5) (rows x5 5) (chainD x0 x3 x5 (k1_pay2 (F := F)) 2)
  refine Eq.trans ?_ (congrArg (stepD (rows x3 5) (rows x0 5) (rows x5 5)) (carry_A_2 c arg2 harg2 arg5 harg5 arg7 harg7 arg12 x0 x3 x5))
  rw [← readAt_rows harg5 x3 320 5 rfl (by decide) inb_S512x256_S64x256_320_0, ← readAt_rows harg2 x0 320 5 rfl (by decide) inb_S512x256_S64x256_320_0,
    ← readAt_rows harg7 x5 320 5 rfl (by decide) inb_S512x512_S64x512_320_0]
  rfl

/-- The state's cotangent read for chunk 3 is the chain's. -/
theorem carry_A_4 (x0 : Vec F S512x256 .f32) (x3 : Vec F S512x256 .f32) (x5 : Vec F S512x512 .bf16) :
    kernelRun1_A.sl.v356 c arg2 harg2 arg5 harg5 arg7 harg7 arg12 x0 x3 x5 = chainD x0 x3 x5 (k1_pay2 (F := F)) 4 := by
  refine (View.readCov_cons_toLoadRect _ _ _ _).trans ?_
  show _ = stepD (rows x3 4) (rows x0 4) (rows x5 4) (chainD x0 x3 x5 (k1_pay2 (F := F)) 3)
  refine Eq.trans ?_ (congrArg (stepD (rows x3 4) (rows x0 4) (rows x5 4)) (carry_A_3 c arg2 harg2 arg5 harg5 arg7 harg7 arg12 x0 x3 x5))
  rw [← readAt_rows harg5 x3 256 4 rfl (by decide) inb_S512x256_S64x256_256_0, ← readAt_rows harg2 x0 256 4 rfl (by decide) inb_S512x256_S64x256_256_0,
    ← readAt_rows harg7 x5 256 4 rfl (by decide) inb_S512x512_S64x512_256_0]
  rfl

/-- The state's cotangent read for chunk 2 is the chain's. -/
theorem carry_A_5 (x0 : Vec F S512x256 .f32) (x3 : Vec F S512x256 .f32) (x5 : Vec F S512x512 .bf16) :
    kernelRun1_A.sl.v437 c arg2 harg2 arg5 harg5 arg7 harg7 arg12 x0 x3 x5 = chainD x0 x3 x5 (k1_pay2 (F := F)) 5 := by
  refine (View.readCov_cons_toLoadRect _ _ _ _).trans ?_
  show _ = stepD (rows x3 3) (rows x0 3) (rows x5 3) (chainD x0 x3 x5 (k1_pay2 (F := F)) 4)
  refine Eq.trans ?_ (congrArg (stepD (rows x3 3) (rows x0 3) (rows x5 3)) (carry_A_4 c arg2 harg2 arg5 harg5 arg7 harg7 arg12 x0 x3 x5))
  rw [← readAt_rows harg5 x3 192 3 rfl (by decide) inb_S512x256_S64x256_192_0, ← readAt_rows harg2 x0 192 3 rfl (by decide) inb_S512x256_S64x256_192_0,
    ← readAt_rows harg7 x5 192 3 rfl (by decide) inb_S512x512_S64x512_192_0]
  rfl

/-- The state's cotangent read for chunk 1 is the chain's. -/
theorem carry_A_6 (x0 : Vec F S512x256 .f32) (x3 : Vec F S512x256 .f32) (x5 : Vec F S512x512 .bf16) :
    kernelRun1_A.sl.v518 c arg2 harg2 arg5 harg5 arg7 harg7 arg12 x0 x3 x5 = chainD x0 x3 x5 (k1_pay2 (F := F)) 6 := by
  refine (View.readCov_cons_toLoadRect _ _ _ _).trans ?_
  show _ = stepD (rows x3 2) (rows x0 2) (rows x5 2) (chainD x0 x3 x5 (k1_pay2 (F := F)) 5)
  refine Eq.trans ?_ (congrArg (stepD (rows x3 2) (rows x0 2) (rows x5 2)) (carry_A_5 c arg2 harg2 arg5 harg5 arg7 harg7 arg12 x0 x3 x5))
  rw [← readAt_rows harg5 x3 128 2 rfl (by decide) inb_S512x256_S64x256_128_0, ← readAt_rows harg2 x0 128 2 rfl (by decide) inb_S512x256_S64x256_128_0,
    ← readAt_rows harg7 x5 128 2 rfl (by decide) inb_S512x512_S64x512_128_0]
  rfl

/-- The state's cotangent read for chunk 0 is the chain's. -/
theorem carry_A_7 (x0 : Vec F S512x256 .f32) (x3 : Vec F S512x256 .f32) (x5 : Vec F S512x512 .bf16) :
    kernelRun1_A.sl.v599 c arg2 harg2 arg5 harg5 arg7 harg7 arg12 x0 x3 x5 = chainD x0 x3 x5 (k1_pay2 (F := F)) 7 := by
  refine (View.readCov_cons_toLoadRect _ _ _ _).trans ?_
  show _ = stepD (rows x3 1) (rows x0 1) (rows x5 1) (chainD x0 x3 x5 (k1_pay2 (F := F)) 6)
  refine Eq.trans ?_ (congrArg (stepD (rows x3 1) (rows x0 1) (rows x5 1)) (carry_A_6 c arg2 harg2 arg5 harg5 arg7 harg7 arg12 x0 x3 x5))
  rw [← readAt_rows harg5 x3 64 1 rfl (by decide) inb_S512x256_S64x256_64_0, ← readAt_rows harg2 x0 64 1 rfl (by decide) inb_S512x256_S64x256_64_0,
    ← readAt_rows harg7 x5 64 1 rfl (by decide) inb_S512x512_S64x512_64_0]
  rfl

/-- The cotangent carried out of a point: the chain's after eight chunks. -/
theorem last_A (hc0 : cond1_0 i) (x0 : Vec F S512x256 .f32) (x1 : Vec F S512x256 .f32) (x2 : Vec F S512x512 .f32) (x3 : Vec F S512x256 .f32) (x4 : Vec F S1x8x512x256 .f32) (x5 : Vec F S512x512 .bf16) :
    sout1_A_0 c i arg2 harg2 arg3 harg3 arg4 harg4 arg5 harg5 arg6 harg6 arg7 harg7 arg8 harg8 arg9 harg9 arg10 harg10 arg11 harg11 arg12 harg12 hc0 x0 x1 x2 x3 x4 x5 = chainD x0 x3 x5 (k1_pay2 (F := F)) 8 := by
  unfold sout1_A_0 kernelRun1_A
  dsimp only
  funext y
  refine (View.read_writes_cons_hit_of_coords _ _ _ _ _ y y ?_).trans ?_
  · intro a
    match a with
    | ⟨0, _⟩ => show (y 0).val = 0 + 1 * (y 0).val; omega
    | ⟨1, _⟩ => show (y 1).val = 0 + 1 * (y 1).val; omega
  · refine congrFun ?_ y
    show _ = stepD (rows x3 0) (rows x0 0) (rows x5 0) (chainD x0 x3 x5 (k1_pay2 (F := F)) 7)
    refine Eq.trans ?_ (congrArg (stepD (rows x3 0) (rows x0 0) (rows x5 0)) (carry_A_7 c arg2 harg2 arg5 harg5 arg7 harg7 arg12 x0 x3 x5))
    rw [← readAt_rows harg5 x3 0 0 rfl (by decide) inb_S512x256_S64x256_0_0, ← readAt_rows harg2 x0 0 0 rfl (by decide) inb_S512x256_S64x256_0_0, ← readAt_rows harg7 x5 0 0 rfl (by decide) inb_S512x512_S64x512_0_0]
    rfl

/-- The rows of the queries' gradient stored at a point, chunk by chunk. -/
theorem out_dQ_A (hc0 : cond1_0 i) (x0 : Vec F S512x256 .f32) (x1 : Vec F S512x256 .f32) (x2 : Vec F S512x512 .f32) (x3 : Vec F S512x256 .f32) (x4 : Vec F S1x8x512x256 .f32) (x5 : Vec F S512x512 .bf16) :
    out1_A_6 c i arg2 harg2 arg3 harg3 arg4 harg4 arg5 harg5 arg6 harg6 arg7 harg7 arg8 harg8 arg9 harg9 arg10 harg10 arg11 harg11 arg12 harg12 hc0 x0 x1 x2 x3 x4 x5 =
      ofChunks (fun i => chunkQ (rows x3 i) (rows x1 i) (rows x2 i) (rows x5 i) (slab x4 i)) := by
  unfold out1_A_6
  funext y
  refine View.read_writes_apply_of_pieces _ _ (ofChunks (fun i => chunkQ (rows x3 i) (rows x1 i) (rows x2 i) (rows x5 i) (slab x4 i))) _ ?_ y
    (cover1_A_6 c i arg2 harg2 arg3 harg3 arg4 harg4 arg5 harg5 arg6 harg6 arg7 harg7 arg8 harg8 arg9 harg9 arg10 harg10 arg11 harg11 arg12 harg12 hc0 x0 x1 x2 x3 x4 x5 y)
  unfold kernelRun1_A
  dsimp only
  simp only [List.forall_mem_cons, List.not_mem_nil, false_imp_iff, implies_true, and_true]
  refine ⟨?_, ?_, ?_, ?_, ?_, ?_, ?_, ?_⟩
  · intro x
    refine (congrFun ?_ x).trans (ofChunks_emb (fun i => chunkQ (rows x3 i) (rows x1 i) (rows x2 i) (rows x5 i) (slab x4 i)) 0 0 rfl inb_S512x256_S64x256_0_0 x).symm
    show _ = chunkQ (rows x3 0) (rows x1 0) (rows x2 0) (rows x5 0) (slab x4 0)
    rw [← readAt_rows harg5 x3 0 0 rfl (by decide) inb_S512x256_S64x256_0_0,
      ← readAt_rows harg3 x1 0 0 rfl (by decide) inb_S512x256_S64x256_0_0,
      ← readAt_rows harg4 x2 0 0 rfl (by decide) inb_S512x512_S64x512_0_0,
      ← readAt_rows harg7 x5 0 0 rfl (by decide) inb_S512x512_S64x512_0_0,
      ← readAt_slab harg6 x4 0 (by decide) inb_S1x8x512x256_S1x1x512x256_0_0_0_0]
    rfl
  · intro x
    refine (congrFun ?_ x).trans (ofChunks_emb (fun i => chunkQ (rows x3 i) (rows x1 i) (rows x2 i) (rows x5 i) (slab x4 i)) 64 1 rfl inb_S512x256_S64x256_64_0 x).symm
    show _ = chunkQ (rows x3 1) (rows x1 1) (rows x2 1) (rows x5 1) (slab x4 1)
    rw [← readAt_rows harg5 x3 64 1 rfl (by decide) inb_S512x256_S64x256_64_0,
      ← readAt_rows harg3 x1 64 1 rfl (by decide) inb_S512x256_S64x256_64_0,
      ← readAt_rows harg4 x2 64 1 rfl (by decide) inb_S512x512_S64x512_64_0,
      ← readAt_rows harg7 x5 64 1 rfl (by decide) inb_S512x512_S64x512_64_0,
      ← readAt_slab harg6 x4 1 (by decide) inb_S1x8x512x256_S1x1x512x256_0_1_0_0]
    rfl
  · intro x
    refine (congrFun ?_ x).trans (ofChunks_emb (fun i => chunkQ (rows x3 i) (rows x1 i) (rows x2 i) (rows x5 i) (slab x4 i)) 128 2 rfl inb_S512x256_S64x256_128_0 x).symm
    show _ = chunkQ (rows x3 2) (rows x1 2) (rows x2 2) (rows x5 2) (slab x4 2)
    rw [← readAt_rows harg5 x3 128 2 rfl (by decide) inb_S512x256_S64x256_128_0,
      ← readAt_rows harg3 x1 128 2 rfl (by decide) inb_S512x256_S64x256_128_0,
      ← readAt_rows harg4 x2 128 2 rfl (by decide) inb_S512x512_S64x512_128_0,
      ← readAt_rows harg7 x5 128 2 rfl (by decide) inb_S512x512_S64x512_128_0,
      ← readAt_slab harg6 x4 2 (by decide) inb_S1x8x512x256_S1x1x512x256_0_2_0_0]
    rfl
  · intro x
    refine (congrFun ?_ x).trans (ofChunks_emb (fun i => chunkQ (rows x3 i) (rows x1 i) (rows x2 i) (rows x5 i) (slab x4 i)) 192 3 rfl inb_S512x256_S64x256_192_0 x).symm
    show _ = chunkQ (rows x3 3) (rows x1 3) (rows x2 3) (rows x5 3) (slab x4 3)
    rw [← readAt_rows harg5 x3 192 3 rfl (by decide) inb_S512x256_S64x256_192_0,
      ← readAt_rows harg3 x1 192 3 rfl (by decide) inb_S512x256_S64x256_192_0,
      ← readAt_rows harg4 x2 192 3 rfl (by decide) inb_S512x512_S64x512_192_0,
      ← readAt_rows harg7 x5 192 3 rfl (by decide) inb_S512x512_S64x512_192_0,
      ← readAt_slab harg6 x4 3 (by decide) inb_S1x8x512x256_S1x1x512x256_0_3_0_0]
    rfl
  · intro x
    refine (congrFun ?_ x).trans (ofChunks_emb (fun i => chunkQ (rows x3 i) (rows x1 i) (rows x2 i) (rows x5 i) (slab x4 i)) 256 4 rfl inb_S512x256_S64x256_256_0 x).symm
    show _ = chunkQ (rows x3 4) (rows x1 4) (rows x2 4) (rows x5 4) (slab x4 4)
    rw [← readAt_rows harg5 x3 256 4 rfl (by decide) inb_S512x256_S64x256_256_0,
      ← readAt_rows harg3 x1 256 4 rfl (by decide) inb_S512x256_S64x256_256_0,
      ← readAt_rows harg4 x2 256 4 rfl (by decide) inb_S512x512_S64x512_256_0,
      ← readAt_rows harg7 x5 256 4 rfl (by decide) inb_S512x512_S64x512_256_0,
      ← readAt_slab harg6 x4 4 (by decide) inb_S1x8x512x256_S1x1x512x256_0_4_0_0]
    rfl
  · intro x
    refine (congrFun ?_ x).trans (ofChunks_emb (fun i => chunkQ (rows x3 i) (rows x1 i) (rows x2 i) (rows x5 i) (slab x4 i)) 320 5 rfl inb_S512x256_S64x256_320_0 x).symm
    show _ = chunkQ (rows x3 5) (rows x1 5) (rows x2 5) (rows x5 5) (slab x4 5)
    rw [← readAt_rows harg5 x3 320 5 rfl (by decide) inb_S512x256_S64x256_320_0,
      ← readAt_rows harg3 x1 320 5 rfl (by decide) inb_S512x256_S64x256_320_0,
      ← readAt_rows harg4 x2 320 5 rfl (by decide) inb_S512x512_S64x512_320_0,
      ← readAt_rows harg7 x5 320 5 rfl (by decide) inb_S512x512_S64x512_320_0,
      ← readAt_slab harg6 x4 5 (by decide) inb_S1x8x512x256_S1x1x512x256_0_5_0_0]
    rfl
  · intro x
    refine (congrFun ?_ x).trans (ofChunks_emb (fun i => chunkQ (rows x3 i) (rows x1 i) (rows x2 i) (rows x5 i) (slab x4 i)) 384 6 rfl inb_S512x256_S64x256_384_0 x).symm
    show _ = chunkQ (rows x3 6) (rows x1 6) (rows x2 6) (rows x5 6) (slab x4 6)
    rw [← readAt_rows harg5 x3 384 6 rfl (by decide) inb_S512x256_S64x256_384_0,
      ← readAt_rows harg3 x1 384 6 rfl (by decide) inb_S512x256_S64x256_384_0,
      ← readAt_rows harg4 x2 384 6 rfl (by decide) inb_S512x512_S64x512_384_0,
      ← readAt_rows harg7 x5 384 6 rfl (by decide) inb_S512x512_S64x512_384_0,
      ← readAt_slab harg6 x4 6 (by decide) inb_S1x8x512x256_S1x1x512x256_0_6_0_0]
    rfl
  · intro x
    refine (congrFun ?_ x).trans (ofChunks_emb (fun i => chunkQ (rows x3 i) (rows x1 i) (rows x2 i) (rows x5 i) (slab x4 i)) 448 7 rfl inb_S512x256_S64x256_448_0 x).symm
    show _ = chunkQ (rows x3 7) (rows x1 7) (rows x2 7) (rows x5 7) (slab x4 7)
    rw [← readAt_rows harg5 x3 448 7 rfl (by decide) inb_S512x256_S64x256_448_0,
      ← readAt_rows harg3 x1 448 7 rfl (by decide) inb_S512x256_S64x256_448_0,
      ← readAt_rows harg4 x2 448 7 rfl (by decide) inb_S512x512_S64x512_448_0,
      ← readAt_rows harg7 x5 448 7 rfl (by decide) inb_S512x512_S64x512_448_0,
      ← readAt_slab harg6 x4 7 (by decide) inb_S1x8x512x256_S1x1x512x256_0_7_0_0]
    rfl

/-- The rows of the keys' gradient stored at a point, chunk by chunk. -/
theorem out_dK_A (hc0 : cond1_0 i) (x0 : Vec F S512x256 .f32) (x1 : Vec F S512x256 .f32) (x2 : Vec F S512x512 .f32) (x3 : Vec F S512x256 .f32) (x4 : Vec F S1x8x512x256 .f32) (x5 : Vec F S512x512 .bf16) :
    out1_A_7 c i arg2 harg2 arg3 harg3 arg4 harg4 arg5 harg5 arg6 harg6 arg7 harg7 arg8 harg8 arg9 harg9 arg10 harg10 arg11 harg11 arg12 harg12 hc0 x0 x1 x2 x3 x4 x5 =
      ofChunks (fun i => chunkK (rows x3 i) (rows x0 i) (rows x2 i) (rows x5 i) (chainD x0 x3 x5 (k1_pay2 (F := F)) (7 - i))) := by
  unfold out1_A_7
  funext y
  refine View.read_writes_apply_of_pieces _ _ (ofChunks (fun i => chunkK (rows x3 i) (rows x0 i) (rows x2 i) (rows x5 i) (chainD x0 x3 x5 (k1_pay2 (F := F)) (7 - i)))) _ ?_ y
    (cover1_A_7 c i arg2 harg2 arg3 harg3 arg4 harg4 arg5 harg5 arg6 harg6 arg7 harg7 arg8 harg8 arg9 harg9 arg10 harg10 arg11 harg11 arg12 harg12 hc0 x0 x1 x2 x3 x4 x5 y)
  unfold kernelRun1_A
  dsimp only
  simp only [List.forall_mem_cons, List.not_mem_nil, false_imp_iff, implies_true, and_true]
  refine ⟨?_, ?_, ?_, ?_, ?_, ?_, ?_, ?_⟩
  · intro x
    refine (congrFun ?_ x).trans (ofChunks_emb (fun i => chunkK (rows x3 i) (rows x0 i) (rows x2 i) (rows x5 i) (chainD x0 x3 x5 (k1_pay2 (F := F)) (7 - i))) 0 0 rfl inb_S512x256_S64x256_0_0 x).symm
    show _ = chunkK (rows x3 0) (rows x0 0) (rows x2 0) (rows x5 0) (chainD x0 x3 x5 (k1_pay2 (F := F)) 7)
    refine Eq.trans ?_ (congrArg (chunkK (rows x3 0) (rows x0 0) (rows x2 0) (rows x5 0)) (carry_A_7 c arg2 harg2 arg5 harg5 arg7 harg7 arg12 x0 x3 x5))
    rw [← readAt_rows harg5 x3 0 0 rfl (by decide) inb_S512x256_S64x256_0_0,
      ← readAt_rows harg2 x0 0 0 rfl (by decide) inb_S512x256_S64x256_0_0,
      ← readAt_rows harg4 x2 0 0 rfl (by decide) inb_S512x512_S64x512_0_0,
      ← readAt_rows harg7 x5 0 0 rfl (by decide) inb_S512x512_S64x512_0_0]
    rfl
  · intro x
    refine (congrFun ?_ x).trans (ofChunks_emb (fun i => chunkK (rows x3 i) (rows x0 i) (rows x2 i) (rows x5 i) (chainD x0 x3 x5 (k1_pay2 (F := F)) (7 - i))) 64 1 rfl inb_S512x256_S64x256_64_0 x).symm
    show _ = chunkK (rows x3 1) (rows x0 1) (rows x2 1) (rows x5 1) (chainD x0 x3 x5 (k1_pay2 (F := F)) 6)
    refine Eq.trans ?_ (congrArg (chunkK (rows x3 1) (rows x0 1) (rows x2 1) (rows x5 1)) (carry_A_6 c arg2 harg2 arg5 harg5 arg7 harg7 arg12 x0 x3 x5))
    rw [← readAt_rows harg5 x3 64 1 rfl (by decide) inb_S512x256_S64x256_64_0,
      ← readAt_rows harg2 x0 64 1 rfl (by decide) inb_S512x256_S64x256_64_0,
      ← readAt_rows harg4 x2 64 1 rfl (by decide) inb_S512x512_S64x512_64_0,
      ← readAt_rows harg7 x5 64 1 rfl (by decide) inb_S512x512_S64x512_64_0]
    rfl
  · intro x
    refine (congrFun ?_ x).trans (ofChunks_emb (fun i => chunkK (rows x3 i) (rows x0 i) (rows x2 i) (rows x5 i) (chainD x0 x3 x5 (k1_pay2 (F := F)) (7 - i))) 128 2 rfl inb_S512x256_S64x256_128_0 x).symm
    show _ = chunkK (rows x3 2) (rows x0 2) (rows x2 2) (rows x5 2) (chainD x0 x3 x5 (k1_pay2 (F := F)) 5)
    refine Eq.trans ?_ (congrArg (chunkK (rows x3 2) (rows x0 2) (rows x2 2) (rows x5 2)) (carry_A_5 c arg2 harg2 arg5 harg5 arg7 harg7 arg12 x0 x3 x5))
    rw [← readAt_rows harg5 x3 128 2 rfl (by decide) inb_S512x256_S64x256_128_0,
      ← readAt_rows harg2 x0 128 2 rfl (by decide) inb_S512x256_S64x256_128_0,
      ← readAt_rows harg4 x2 128 2 rfl (by decide) inb_S512x512_S64x512_128_0,
      ← readAt_rows harg7 x5 128 2 rfl (by decide) inb_S512x512_S64x512_128_0]
    rfl
  · intro x
    refine (congrFun ?_ x).trans (ofChunks_emb (fun i => chunkK (rows x3 i) (rows x0 i) (rows x2 i) (rows x5 i) (chainD x0 x3 x5 (k1_pay2 (F := F)) (7 - i))) 192 3 rfl inb_S512x256_S64x256_192_0 x).symm
    show _ = chunkK (rows x3 3) (rows x0 3) (rows x2 3) (rows x5 3) (chainD x0 x3 x5 (k1_pay2 (F := F)) 4)
    refine Eq.trans ?_ (congrArg (chunkK (rows x3 3) (rows x0 3) (rows x2 3) (rows x5 3)) (carry_A_4 c arg2 harg2 arg5 harg5 arg7 harg7 arg12 x0 x3 x5))
    rw [← readAt_rows harg5 x3 192 3 rfl (by decide) inb_S512x256_S64x256_192_0,
      ← readAt_rows harg2 x0 192 3 rfl (by decide) inb_S512x256_S64x256_192_0,
      ← readAt_rows harg4 x2 192 3 rfl (by decide) inb_S512x512_S64x512_192_0,
      ← readAt_rows harg7 x5 192 3 rfl (by decide) inb_S512x512_S64x512_192_0]
    rfl
  · intro x
    refine (congrFun ?_ x).trans (ofChunks_emb (fun i => chunkK (rows x3 i) (rows x0 i) (rows x2 i) (rows x5 i) (chainD x0 x3 x5 (k1_pay2 (F := F)) (7 - i))) 256 4 rfl inb_S512x256_S64x256_256_0 x).symm
    show _ = chunkK (rows x3 4) (rows x0 4) (rows x2 4) (rows x5 4) (chainD x0 x3 x5 (k1_pay2 (F := F)) 3)
    refine Eq.trans ?_ (congrArg (chunkK (rows x3 4) (rows x0 4) (rows x2 4) (rows x5 4)) (carry_A_3 c arg2 harg2 arg5 harg5 arg7 harg7 arg12 x0 x3 x5))
    rw [← readAt_rows harg5 x3 256 4 rfl (by decide) inb_S512x256_S64x256_256_0,
      ← readAt_rows harg2 x0 256 4 rfl (by decide) inb_S512x256_S64x256_256_0,
      ← readAt_rows harg4 x2 256 4 rfl (by decide) inb_S512x512_S64x512_256_0,
      ← readAt_rows harg7 x5 256 4 rfl (by decide) inb_S512x512_S64x512_256_0]
    rfl
  · intro x
    refine (congrFun ?_ x).trans (ofChunks_emb (fun i => chunkK (rows x3 i) (rows x0 i) (rows x2 i) (rows x5 i) (chainD x0 x3 x5 (k1_pay2 (F := F)) (7 - i))) 320 5 rfl inb_S512x256_S64x256_320_0 x).symm
    show _ = chunkK (rows x3 5) (rows x0 5) (rows x2 5) (rows x5 5) (chainD x0 x3 x5 (k1_pay2 (F := F)) 2)
    refine Eq.trans ?_ (congrArg (chunkK (rows x3 5) (rows x0 5) (rows x2 5) (rows x5 5)) (carry_A_2 c arg2 harg2 arg5 harg5 arg7 harg7 arg12 x0 x3 x5))
    rw [← readAt_rows harg5 x3 320 5 rfl (by decide) inb_S512x256_S64x256_320_0,
      ← readAt_rows harg2 x0 320 5 rfl (by decide) inb_S512x256_S64x256_320_0,
      ← readAt_rows harg4 x2 320 5 rfl (by decide) inb_S512x512_S64x512_320_0,
      ← readAt_rows harg7 x5 320 5 rfl (by decide) inb_S512x512_S64x512_320_0]
    rfl
  · intro x
    refine (congrFun ?_ x).trans (ofChunks_emb (fun i => chunkK (rows x3 i) (rows x0 i) (rows x2 i) (rows x5 i) (chainD x0 x3 x5 (k1_pay2 (F := F)) (7 - i))) 384 6 rfl inb_S512x256_S64x256_384_0 x).symm
    show _ = chunkK (rows x3 6) (rows x0 6) (rows x2 6) (rows x5 6) (chainD x0 x3 x5 (k1_pay2 (F := F)) 1)
    refine Eq.trans ?_ (congrArg (chunkK (rows x3 6) (rows x0 6) (rows x2 6) (rows x5 6)) (carry_A_1 c arg2 harg2 arg5 harg5 arg7 harg7 arg12 x0 x3 x5))
    rw [← readAt_rows harg5 x3 384 6 rfl (by decide) inb_S512x256_S64x256_384_0,
      ← readAt_rows harg2 x0 384 6 rfl (by decide) inb_S512x256_S64x256_384_0,
      ← readAt_rows harg4 x2 384 6 rfl (by decide) inb_S512x512_S64x512_384_0,
      ← readAt_rows harg7 x5 384 6 rfl (by decide) inb_S512x512_S64x512_384_0]
    rfl
  · intro x
    refine (congrFun ?_ x).trans (ofChunks_emb (fun i => chunkK (rows x3 i) (rows x0 i) (rows x2 i) (rows x5 i) (chainD x0 x3 x5 (k1_pay2 (F := F)) (7 - i))) 448 7 rfl inb_S512x256_S64x256_448_0 x).symm
    show _ = chunkK (rows x3 7) (rows x0 7) (rows x2 7) (rows x5 7) (chainD x0 x3 x5 (k1_pay2 (F := F)) 0)
    refine Eq.trans ?_ (congrArg (chunkK (rows x3 7) (rows x0 7) (rows x2 7) (rows x5 7)) (carry_A_0 c arg12))
    rw [← readAt_rows harg5 x3 448 7 rfl (by decide) inb_S512x256_S64x256_448_0,
      ← readAt_rows harg2 x0 448 7 rfl (by decide) inb_S512x256_S64x256_448_0,
      ← readAt_rows harg4 x2 448 7 rfl (by decide) inb_S512x512_S64x512_448_0,
      ← readAt_rows harg7 x5 448 7 rfl (by decide) inb_S512x512_S64x512_448_0]
    rfl

/-- The rows of the values' gradient stored at a point, chunk by chunk. -/
theorem out_dV_A (hc0 : cond1_0 i) (x0 : Vec F S512x256 .f32) (x1 : Vec F S512x256 .f32) (x2 : Vec F S512x512 .f32) (x3 : Vec F S512x256 .f32) (x4 : Vec F S1x8x512x256 .f32) (x5 : Vec F S512x512 .bf16) :
    out1_A_8 c i arg2 harg2 arg3 harg3 arg4 harg4 arg5 harg5 arg6 harg6 arg7 harg7 arg8 harg8 arg9 harg9 arg10 harg10 arg11 harg11 arg12 harg12 hc0 x0 x1 x2 x3 x4 x5 =
      ofChunks (fun i => chunkV (rows x3 i) (rows x0 i) (rows x1 i) (rows x5 i) (chainD x0 x3 x5 (k1_pay2 (F := F)) (7 - i))) := by
  unfold out1_A_8
  funext y
  refine View.read_writes_apply_of_pieces _ _ (ofChunks (fun i => chunkV (rows x3 i) (rows x0 i) (rows x1 i) (rows x5 i) (chainD x0 x3 x5 (k1_pay2 (F := F)) (7 - i)))) _ ?_ y
    (cover1_A_8 c i arg2 harg2 arg3 harg3 arg4 harg4 arg5 harg5 arg6 harg6 arg7 harg7 arg8 harg8 arg9 harg9 arg10 harg10 arg11 harg11 arg12 harg12 hc0 x0 x1 x2 x3 x4 x5 y)
  unfold kernelRun1_A
  dsimp only
  simp only [List.forall_mem_cons, List.not_mem_nil, false_imp_iff, implies_true, and_true]
  refine ⟨?_, ?_, ?_, ?_, ?_, ?_, ?_, ?_⟩
  · intro x
    refine (congrFun ?_ x).trans (ofChunks_emb (fun i => chunkV (rows x3 i) (rows x0 i) (rows x1 i) (rows x5 i) (chainD x0 x3 x5 (k1_pay2 (F := F)) (7 - i))) 0 0 rfl inb_S512x512_S64x512_0_0 x).symm
    show _ = chunkV (rows x3 0) (rows x0 0) (rows x1 0) (rows x5 0) (chainD x0 x3 x5 (k1_pay2 (F := F)) 7)
    refine Eq.trans ?_ (congrArg (chunkV (rows x3 0) (rows x0 0) (rows x1 0) (rows x5 0)) (carry_A_7 c arg2 harg2 arg5 harg5 arg7 harg7 arg12 x0 x3 x5))
    rw [← readAt_rows harg5 x3 0 0 rfl (by decide) inb_S512x256_S64x256_0_0,
      ← readAt_rows harg2 x0 0 0 rfl (by decide) inb_S512x256_S64x256_0_0,
      ← readAt_rows harg3 x1 0 0 rfl (by decide) inb_S512x256_S64x256_0_0,
      ← readAt_rows harg7 x5 0 0 rfl (by decide) inb_S512x512_S64x512_0_0]
    rfl
  · intro x
    refine (congrFun ?_ x).trans (ofChunks_emb (fun i => chunkV (rows x3 i) (rows x0 i) (rows x1 i) (rows x5 i) (chainD x0 x3 x5 (k1_pay2 (F := F)) (7 - i))) 64 1 rfl inb_S512x512_S64x512_64_0 x).symm
    show _ = chunkV (rows x3 1) (rows x0 1) (rows x1 1) (rows x5 1) (chainD x0 x3 x5 (k1_pay2 (F := F)) 6)
    refine Eq.trans ?_ (congrArg (chunkV (rows x3 1) (rows x0 1) (rows x1 1) (rows x5 1)) (carry_A_6 c arg2 harg2 arg5 harg5 arg7 harg7 arg12 x0 x3 x5))
    rw [← readAt_rows harg5 x3 64 1 rfl (by decide) inb_S512x256_S64x256_64_0,
      ← readAt_rows harg2 x0 64 1 rfl (by decide) inb_S512x256_S64x256_64_0,
      ← readAt_rows harg3 x1 64 1 rfl (by decide) inb_S512x256_S64x256_64_0,
      ← readAt_rows harg7 x5 64 1 rfl (by decide) inb_S512x512_S64x512_64_0]
    rfl
  · intro x
    refine (congrFun ?_ x).trans (ofChunks_emb (fun i => chunkV (rows x3 i) (rows x0 i) (rows x1 i) (rows x5 i) (chainD x0 x3 x5 (k1_pay2 (F := F)) (7 - i))) 128 2 rfl inb_S512x512_S64x512_128_0 x).symm
    show _ = chunkV (rows x3 2) (rows x0 2) (rows x1 2) (rows x5 2) (chainD x0 x3 x5 (k1_pay2 (F := F)) 5)
    refine Eq.trans ?_ (congrArg (chunkV (rows x3 2) (rows x0 2) (rows x1 2) (rows x5 2)) (carry_A_5 c arg2 harg2 arg5 harg5 arg7 harg7 arg12 x0 x3 x5))
    rw [← readAt_rows harg5 x3 128 2 rfl (by decide) inb_S512x256_S64x256_128_0,
      ← readAt_rows harg2 x0 128 2 rfl (by decide) inb_S512x256_S64x256_128_0,
      ← readAt_rows harg3 x1 128 2 rfl (by decide) inb_S512x256_S64x256_128_0,
      ← readAt_rows harg7 x5 128 2 rfl (by decide) inb_S512x512_S64x512_128_0]
    rfl
  · intro x
    refine (congrFun ?_ x).trans (ofChunks_emb (fun i => chunkV (rows x3 i) (rows x0 i) (rows x1 i) (rows x5 i) (chainD x0 x3 x5 (k1_pay2 (F := F)) (7 - i))) 192 3 rfl inb_S512x512_S64x512_192_0 x).symm
    show _ = chunkV (rows x3 3) (rows x0 3) (rows x1 3) (rows x5 3) (chainD x0 x3 x5 (k1_pay2 (F := F)) 4)
    refine Eq.trans ?_ (congrArg (chunkV (rows x3 3) (rows x0 3) (rows x1 3) (rows x5 3)) (carry_A_4 c arg2 harg2 arg5 harg5 arg7 harg7 arg12 x0 x3 x5))
    rw [← readAt_rows harg5 x3 192 3 rfl (by decide) inb_S512x256_S64x256_192_0,
      ← readAt_rows harg2 x0 192 3 rfl (by decide) inb_S512x256_S64x256_192_0,
      ← readAt_rows harg3 x1 192 3 rfl (by decide) inb_S512x256_S64x256_192_0,
      ← readAt_rows harg7 x5 192 3 rfl (by decide) inb_S512x512_S64x512_192_0]
    rfl
  · intro x
    refine (congrFun ?_ x).trans (ofChunks_emb (fun i => chunkV (rows x3 i) (rows x0 i) (rows x1 i) (rows x5 i) (chainD x0 x3 x5 (k1_pay2 (F := F)) (7 - i))) 256 4 rfl inb_S512x512_S64x512_256_0 x).symm
    show _ = chunkV (rows x3 4) (rows x0 4) (rows x1 4) (rows x5 4) (chainD x0 x3 x5 (k1_pay2 (F := F)) 3)
    refine Eq.trans ?_ (congrArg (chunkV (rows x3 4) (rows x0 4) (rows x1 4) (rows x5 4)) (carry_A_3 c arg2 harg2 arg5 harg5 arg7 harg7 arg12 x0 x3 x5))
    rw [← readAt_rows harg5 x3 256 4 rfl (by decide) inb_S512x256_S64x256_256_0,
      ← readAt_rows harg2 x0 256 4 rfl (by decide) inb_S512x256_S64x256_256_0,
      ← readAt_rows harg3 x1 256 4 rfl (by decide) inb_S512x256_S64x256_256_0,
      ← readAt_rows harg7 x5 256 4 rfl (by decide) inb_S512x512_S64x512_256_0]
    rfl
  · intro x
    refine (congrFun ?_ x).trans (ofChunks_emb (fun i => chunkV (rows x3 i) (rows x0 i) (rows x1 i) (rows x5 i) (chainD x0 x3 x5 (k1_pay2 (F := F)) (7 - i))) 320 5 rfl inb_S512x512_S64x512_320_0 x).symm
    show _ = chunkV (rows x3 5) (rows x0 5) (rows x1 5) (rows x5 5) (chainD x0 x3 x5 (k1_pay2 (F := F)) 2)
    refine Eq.trans ?_ (congrArg (chunkV (rows x3 5) (rows x0 5) (rows x1 5) (rows x5 5)) (carry_A_2 c arg2 harg2 arg5 harg5 arg7 harg7 arg12 x0 x3 x5))
    rw [← readAt_rows harg5 x3 320 5 rfl (by decide) inb_S512x256_S64x256_320_0,
      ← readAt_rows harg2 x0 320 5 rfl (by decide) inb_S512x256_S64x256_320_0,
      ← readAt_rows harg3 x1 320 5 rfl (by decide) inb_S512x256_S64x256_320_0,
      ← readAt_rows harg7 x5 320 5 rfl (by decide) inb_S512x512_S64x512_320_0]
    rfl
  · intro x
    refine (congrFun ?_ x).trans (ofChunks_emb (fun i => chunkV (rows x3 i) (rows x0 i) (rows x1 i) (rows x5 i) (chainD x0 x3 x5 (k1_pay2 (F := F)) (7 - i))) 384 6 rfl inb_S512x512_S64x512_384_0 x).symm
    show _ = chunkV (rows x3 6) (rows x0 6) (rows x1 6) (rows x5 6) (chainD x0 x3 x5 (k1_pay2 (F := F)) 1)
    refine Eq.trans ?_ (congrArg (chunkV (rows x3 6) (rows x0 6) (rows x1 6) (rows x5 6)) (carry_A_1 c arg2 harg2 arg5 harg5 arg7 harg7 arg12 x0 x3 x5))
    rw [← readAt_rows harg5 x3 384 6 rfl (by decide) inb_S512x256_S64x256_384_0,
      ← readAt_rows harg2 x0 384 6 rfl (by decide) inb_S512x256_S64x256_384_0,
      ← readAt_rows harg3 x1 384 6 rfl (by decide) inb_S512x256_S64x256_384_0,
      ← readAt_rows harg7 x5 384 6 rfl (by decide) inb_S512x512_S64x512_384_0]
    rfl
  · intro x
    refine (congrFun ?_ x).trans (ofChunks_emb (fun i => chunkV (rows x3 i) (rows x0 i) (rows x1 i) (rows x5 i) (chainD x0 x3 x5 (k1_pay2 (F := F)) (7 - i))) 448 7 rfl inb_S512x512_S64x512_448_0 x).symm
    show _ = chunkV (rows x3 7) (rows x0 7) (rows x1 7) (rows x5 7) (chainD x0 x3 x5 (k1_pay2 (F := F)) 0)
    refine Eq.trans ?_ (congrArg (chunkV (rows x3 7) (rows x0 7) (rows x1 7) (rows x5 7)) (carry_A_0 c arg12))
    rw [← readAt_rows harg5 x3 448 7 rfl (by decide) inb_S512x256_S64x256_448_0,
      ← readAt_rows harg2 x0 448 7 rfl (by decide) inb_S512x256_S64x256_448_0,
      ← readAt_rows harg3 x1 448 7 rfl (by decide) inb_S512x256_S64x256_448_0,
      ← readAt_rows harg7 x5 448 7 rfl (by decide) inb_S512x512_S64x512_448_0]
    rfl

/-- The rows of the cumulative gates' gradient stored at a point, chunk by chunk. -/
theorem out_dC_A (hc0 : cond1_0 i) (x0 : Vec F S512x256 .f32) (x1 : Vec F S512x256 .f32) (x2 : Vec F S512x512 .f32) (x3 : Vec F S512x256 .f32) (x4 : Vec F S1x8x512x256 .f32) (x5 : Vec F S512x512 .bf16) :
    out1_A_9 c i arg2 harg2 arg3 harg3 arg4 harg4 arg5 harg5 arg6 harg6 arg7 harg7 arg8 harg8 arg9 harg9 arg10 harg10 arg11 harg11 arg12 harg12 hc0 x0 x1 x2 x3 x4 x5 =
      ofChunks (fun i => chunkC (rows x3 i) (rows x0 i) (rows x1 i) (rows x2 i) (rows x5 i) (slab x4 i) (chainD x0 x3 x5 (k1_pay2 (F := F)) (7 - i))) := by
  unfold out1_A_9
  funext y
  refine View.read_writes_apply_of_pieces _ _ (ofChunks (fun i => chunkC (rows x3 i) (rows x0 i) (rows x1 i) (rows x2 i) (rows x5 i) (slab x4 i) (chainD x0 x3 x5 (k1_pay2 (F := F)) (7 - i)))) _ ?_ y
    (cover1_A_9 c i arg2 harg2 arg3 harg3 arg4 harg4 arg5 harg5 arg6 harg6 arg7 harg7 arg8 harg8 arg9 harg9 arg10 harg10 arg11 harg11 arg12 harg12 hc0 x0 x1 x2 x3 x4 x5 y)
  unfold kernelRun1_A
  dsimp only
  simp only [List.forall_mem_cons, List.not_mem_nil, false_imp_iff, implies_true, and_true]
  refine ⟨?_, ?_, ?_, ?_, ?_, ?_, ?_, ?_⟩
  · intro x
    refine (congrFun ?_ x).trans (ofChunks_emb (fun i => chunkC (rows x3 i) (rows x0 i) (rows x1 i) (rows x2 i) (rows x5 i) (slab x4 i) (chainD x0 x3 x5 (k1_pay2 (F := F)) (7 - i))) 0 0 rfl inb_S512x256_S64x256_0_0 x).symm
    show _ = chunkC (rows x3 0) (rows x0 0) (rows x1 0) (rows x2 0) (rows x5 0) (slab x4 0) (chainD x0 x3 x5 (k1_pay2 (F := F)) 7)
    refine Eq.trans ?_ (congrArg (chunkC (rows x3 0) (rows x0 0) (rows x1 0) (rows x2 0) (rows x5 0) (slab x4 0)) (carry_A_7 c arg2 harg2 arg5 harg5 arg7 harg7 arg12 x0 x3 x5))
    rw [← readAt_rows harg5 x3 0 0 rfl (by decide) inb_S512x256_S64x256_0_0,
      ← readAt_rows harg2 x0 0 0 rfl (by decide) inb_S512x256_S64x256_0_0,
      ← readAt_rows harg3 x1 0 0 rfl (by decide) inb_S512x256_S64x256_0_0,
      ← readAt_rows harg4 x2 0 0 rfl (by decide) inb_S512x512_S64x512_0_0,
      ← readAt_rows harg7 x5 0 0 rfl (by decide) inb_S512x512_S64x512_0_0,
      ← readAt_slab harg6 x4 0 (by decide) inb_S1x8x512x256_S1x1x512x256_0_0_0_0]
    rfl
  · intro x
    refine (congrFun ?_ x).trans (ofChunks_emb (fun i => chunkC (rows x3 i) (rows x0 i) (rows x1 i) (rows x2 i) (rows x5 i) (slab x4 i) (chainD x0 x3 x5 (k1_pay2 (F := F)) (7 - i))) 64 1 rfl inb_S512x256_S64x256_64_0 x).symm
    show _ = chunkC (rows x3 1) (rows x0 1) (rows x1 1) (rows x2 1) (rows x5 1) (slab x4 1) (chainD x0 x3 x5 (k1_pay2 (F := F)) 6)
    refine Eq.trans ?_ (congrArg (chunkC (rows x3 1) (rows x0 1) (rows x1 1) (rows x2 1) (rows x5 1) (slab x4 1)) (carry_A_6 c arg2 harg2 arg5 harg5 arg7 harg7 arg12 x0 x3 x5))
    rw [← readAt_rows harg5 x3 64 1 rfl (by decide) inb_S512x256_S64x256_64_0,
      ← readAt_rows harg2 x0 64 1 rfl (by decide) inb_S512x256_S64x256_64_0,
      ← readAt_rows harg3 x1 64 1 rfl (by decide) inb_S512x256_S64x256_64_0,
      ← readAt_rows harg4 x2 64 1 rfl (by decide) inb_S512x512_S64x512_64_0,
      ← readAt_rows harg7 x5 64 1 rfl (by decide) inb_S512x512_S64x512_64_0,
      ← readAt_slab harg6 x4 1 (by decide) inb_S1x8x512x256_S1x1x512x256_0_1_0_0]
    rfl
  · intro x
    refine (congrFun ?_ x).trans (ofChunks_emb (fun i => chunkC (rows x3 i) (rows x0 i) (rows x1 i) (rows x2 i) (rows x5 i) (slab x4 i) (chainD x0 x3 x5 (k1_pay2 (F := F)) (7 - i))) 128 2 rfl inb_S512x256_S64x256_128_0 x).symm
    show _ = chunkC (rows x3 2) (rows x0 2) (rows x1 2) (rows x2 2) (rows x5 2) (slab x4 2) (chainD x0 x3 x5 (k1_pay2 (F := F)) 5)
    refine Eq.trans ?_ (congrArg (chunkC (rows x3 2) (rows x0 2) (rows x1 2) (rows x2 2) (rows x5 2) (slab x4 2)) (carry_A_5 c arg2 harg2 arg5 harg5 arg7 harg7 arg12 x0 x3 x5))
    rw [← readAt_rows harg5 x3 128 2 rfl (by decide) inb_S512x256_S64x256_128_0,
      ← readAt_rows harg2 x0 128 2 rfl (by decide) inb_S512x256_S64x256_128_0,
      ← readAt_rows harg3 x1 128 2 rfl (by decide) inb_S512x256_S64x256_128_0,
      ← readAt_rows harg4 x2 128 2 rfl (by decide) inb_S512x512_S64x512_128_0,
      ← readAt_rows harg7 x5 128 2 rfl (by decide) inb_S512x512_S64x512_128_0,
      ← readAt_slab harg6 x4 2 (by decide) inb_S1x8x512x256_S1x1x512x256_0_2_0_0]
    rfl
  · intro x
    refine (congrFun ?_ x).trans (ofChunks_emb (fun i => chunkC (rows x3 i) (rows x0 i) (rows x1 i) (rows x2 i) (rows x5 i) (slab x4 i) (chainD x0 x3 x5 (k1_pay2 (F := F)) (7 - i))) 192 3 rfl inb_S512x256_S64x256_192_0 x).symm
    show _ = chunkC (rows x3 3) (rows x0 3) (rows x1 3) (rows x2 3) (rows x5 3) (slab x4 3) (chainD x0 x3 x5 (k1_pay2 (F := F)) 4)
    refine Eq.trans ?_ (congrArg (chunkC (rows x3 3) (rows x0 3) (rows x1 3) (rows x2 3) (rows x5 3) (slab x4 3)) (carry_A_4 c arg2 harg2 arg5 harg5 arg7 harg7 arg12 x0 x3 x5))
    rw [← readAt_rows harg5 x3 192 3 rfl (by decide) inb_S512x256_S64x256_192_0,
      ← readAt_rows harg2 x0 192 3 rfl (by decide) inb_S512x256_S64x256_192_0,
      ← readAt_rows harg3 x1 192 3 rfl (by decide) inb_S512x256_S64x256_192_0,
      ← readAt_rows harg4 x2 192 3 rfl (by decide) inb_S512x512_S64x512_192_0,
      ← readAt_rows harg7 x5 192 3 rfl (by decide) inb_S512x512_S64x512_192_0,
      ← readAt_slab harg6 x4 3 (by decide) inb_S1x8x512x256_S1x1x512x256_0_3_0_0]
    rfl
  · intro x
    refine (congrFun ?_ x).trans (ofChunks_emb (fun i => chunkC (rows x3 i) (rows x0 i) (rows x1 i) (rows x2 i) (rows x5 i) (slab x4 i) (chainD x0 x3 x5 (k1_pay2 (F := F)) (7 - i))) 256 4 rfl inb_S512x256_S64x256_256_0 x).symm
    show _ = chunkC (rows x3 4) (rows x0 4) (rows x1 4) (rows x2 4) (rows x5 4) (slab x4 4) (chainD x0 x3 x5 (k1_pay2 (F := F)) 3)
    refine Eq.trans ?_ (congrArg (chunkC (rows x3 4) (rows x0 4) (rows x1 4) (rows x2 4) (rows x5 4) (slab x4 4)) (carry_A_3 c arg2 harg2 arg5 harg5 arg7 harg7 arg12 x0 x3 x5))
    rw [← readAt_rows harg5 x3 256 4 rfl (by decide) inb_S512x256_S64x256_256_0,
      ← readAt_rows harg2 x0 256 4 rfl (by decide) inb_S512x256_S64x256_256_0,
      ← readAt_rows harg3 x1 256 4 rfl (by decide) inb_S512x256_S64x256_256_0,
      ← readAt_rows harg4 x2 256 4 rfl (by decide) inb_S512x512_S64x512_256_0,
      ← readAt_rows harg7 x5 256 4 rfl (by decide) inb_S512x512_S64x512_256_0,
      ← readAt_slab harg6 x4 4 (by decide) inb_S1x8x512x256_S1x1x512x256_0_4_0_0]
    rfl
  · intro x
    refine (congrFun ?_ x).trans (ofChunks_emb (fun i => chunkC (rows x3 i) (rows x0 i) (rows x1 i) (rows x2 i) (rows x5 i) (slab x4 i) (chainD x0 x3 x5 (k1_pay2 (F := F)) (7 - i))) 320 5 rfl inb_S512x256_S64x256_320_0 x).symm
    show _ = chunkC (rows x3 5) (rows x0 5) (rows x1 5) (rows x2 5) (rows x5 5) (slab x4 5) (chainD x0 x3 x5 (k1_pay2 (F := F)) 2)
    refine Eq.trans ?_ (congrArg (chunkC (rows x3 5) (rows x0 5) (rows x1 5) (rows x2 5) (rows x5 5) (slab x4 5)) (carry_A_2 c arg2 harg2 arg5 harg5 arg7 harg7 arg12 x0 x3 x5))
    rw [← readAt_rows harg5 x3 320 5 rfl (by decide) inb_S512x256_S64x256_320_0,
      ← readAt_rows harg2 x0 320 5 rfl (by decide) inb_S512x256_S64x256_320_0,
      ← readAt_rows harg3 x1 320 5 rfl (by decide) inb_S512x256_S64x256_320_0,
      ← readAt_rows harg4 x2 320 5 rfl (by decide) inb_S512x512_S64x512_320_0,
      ← readAt_rows harg7 x5 320 5 rfl (by decide) inb_S512x512_S64x512_320_0,
      ← readAt_slab harg6 x4 5 (by decide) inb_S1x8x512x256_S1x1x512x256_0_5_0_0]
    rfl
  · intro x
    refine (congrFun ?_ x).trans (ofChunks_emb (fun i => chunkC (rows x3 i) (rows x0 i) (rows x1 i) (rows x2 i) (rows x5 i) (slab x4 i) (chainD x0 x3 x5 (k1_pay2 (F := F)) (7 - i))) 384 6 rfl inb_S512x256_S64x256_384_0 x).symm
    show _ = chunkC (rows x3 6) (rows x0 6) (rows x1 6) (rows x2 6) (rows x5 6) (slab x4 6) (chainD x0 x3 x5 (k1_pay2 (F := F)) 1)
    refine Eq.trans ?_ (congrArg (chunkC (rows x3 6) (rows x0 6) (rows x1 6) (rows x2 6) (rows x5 6) (slab x4 6)) (carry_A_1 c arg2 harg2 arg5 harg5 arg7 harg7 arg12 x0 x3 x5))
    rw [← readAt_rows harg5 x3 384 6 rfl (by decide) inb_S512x256_S64x256_384_0,
      ← readAt_rows harg2 x0 384 6 rfl (by decide) inb_S512x256_S64x256_384_0,
      ← readAt_rows harg3 x1 384 6 rfl (by decide) inb_S512x256_S64x256_384_0,
      ← readAt_rows harg4 x2 384 6 rfl (by decide) inb_S512x512_S64x512_384_0,
      ← readAt_rows harg7 x5 384 6 rfl (by decide) inb_S512x512_S64x512_384_0,
      ← readAt_slab harg6 x4 6 (by decide) inb_S1x8x512x256_S1x1x512x256_0_6_0_0]
    rfl
  · intro x
    refine (congrFun ?_ x).trans (ofChunks_emb (fun i => chunkC (rows x3 i) (rows x0 i) (rows x1 i) (rows x2 i) (rows x5 i) (slab x4 i) (chainD x0 x3 x5 (k1_pay2 (F := F)) (7 - i))) 448 7 rfl inb_S512x256_S64x256_448_0 x).symm
    show _ = chunkC (rows x3 7) (rows x0 7) (rows x1 7) (rows x2 7) (rows x5 7) (slab x4 7) (chainD x0 x3 x5 (k1_pay2 (F := F)) 0)
    refine Eq.trans ?_ (congrArg (chunkC (rows x3 7) (rows x0 7) (rows x1 7) (rows x2 7) (rows x5 7) (slab x4 7)) (carry_A_0 c arg12))
    rw [← readAt_rows harg5 x3 448 7 rfl (by decide) inb_S512x256_S64x256_448_0,
      ← readAt_rows harg2 x0 448 7 rfl (by decide) inb_S512x256_S64x256_448_0,
      ← readAt_rows harg3 x1 448 7 rfl (by decide) inb_S512x256_S64x256_448_0,
      ← readAt_rows harg4 x2 448 7 rfl (by decide) inb_S512x512_S64x512_448_0,
      ← readAt_rows harg7 x5 448 7 rfl (by decide) inb_S512x512_S64x512_448_0,
      ← readAt_slab harg6 x4 7 (by decide) inb_S1x8x512x256_S1x1x512x256_0_7_0_0]
    rfl

/-- The state's cotangent read for chunk 6 is the chain's. -/
theorem carry_B_1 (x0 : Vec F S512x256 .f32) (x3 : Vec F S512x256 .f32) (x5 : Vec F S512x512 .bf16) (xs0 : Vec F S512x256 .f32) :
    kernelRun1_B.sl.v113 c arg2 harg2 arg5 harg5 arg7 harg7 arg12 harg12 x0 x3 x5 xs0 = chainD x0 x3 x5 xs0 1 := by
  refine (View.readCov_cons_toLoadRect _ _ _ _).trans ?_
  show _ = stepD (rows x3 7) (rows x0 7) (rows x5 7) (chainD x0 x3 x5 xs0 0)
  refine Eq.trans ?_ (congrArg (stepD (rows x3 7) (rows x0 7) (rows x5 7)) (readAt_all harg12 xs0 inb_S512x256_S512x256_0_0))
  rw [← readAt_rows harg5 x3 448 7 rfl (by decide) inb_S512x256_S64x256_448_0, ← readAt_rows harg2 x0 448 7 rfl (by decide) inb_S512x256_S64x256_448_0,
    ← readAt_rows harg7 x5 448 7 rfl (by decide) inb_S512x512_S64x512_448_0]
  rfl

/-- The state's cotangent read for chunk 5 is the chain's. -/
theorem carry_B_2 (x0 : Vec F S512x256 .f32) (x3 : Vec F S512x256 .f32) (x5 : Vec F S512x512 .bf16) (xs0 : Vec F S512x256 .f32) :
    kernelRun1_B.sl.v194 c arg2 harg2 arg5 harg5 arg7 harg7 arg12 harg12 x0 x3 x5 xs0 = chainD x0 x3 x5 xs0 2 := by
  refine (View.readCov_cons_toLoadRect _ _ _ _).trans ?_
  show _ = stepD (rows x3 6) (rows x0 6) (rows x5 6) (chainD x0 x3 x5 xs0 1)
  refine Eq.trans ?_ (congrArg (stepD (rows x3 6) (rows x0 6) (rows x5 6)) (carry_B_1 c arg2 harg2 arg5 harg5 arg7 harg7 arg12 harg12 x0 x3 x5 xs0))
  rw [← readAt_rows harg5 x3 384 6 rfl (by decide) inb_S512x256_S64x256_384_0, ← readAt_rows harg2 x0 384 6 rfl (by decide) inb_S512x256_S64x256_384_0,
    ← readAt_rows harg7 x5 384 6 rfl (by decide) inb_S512x512_S64x512_384_0]
  rfl

/-- The state's cotangent read for chunk 4 is the chain's. -/
theorem carry_B_3 (x0 : Vec F S512x256 .f32) (x3 : Vec F S512x256 .f32) (x5 : Vec F S512x512 .bf16) (xs0 : Vec F S512x256 .f32) :
    kernelRun1_B.sl.v275 c arg2 harg2 arg5 harg5 arg7 harg7 arg12 harg12 x0 x3 x5 xs0 = chainD x0 x3 x5 xs0 3 := by
  refine (View.readCov_cons_toLoadRect _ _ _ _).trans ?_
  show _ = stepD (rows x3 5) (rows x0 5) (rows x5 5) (chainD x0 x3 x5 xs0 2)
  refine Eq.trans ?_ (congrArg (stepD (rows x3 5) (rows x0 5) (rows x5 5)) (carry_B_2 c arg2 harg2 arg5 harg5 arg7 harg7 arg12 harg12 x0 x3 x5 xs0))
  rw [← readAt_rows harg5 x3 320 5 rfl (by decide) inb_S512x256_S64x256_320_0, ← readAt_rows harg2 x0 320 5 rfl (by decide) inb_S512x256_S64x256_320_0,
    ← readAt_rows harg7 x5 320 5 rfl (by decide) inb_S512x512_S64x512_320_0]
  rfl

/-- The state's cotangent read for chunk 3 is the chain's. -/
theorem carry_B_4 (x0 : Vec F S512x256 .f32) (x3 : Vec F S512x256 .f32) (x5 : Vec F S512x512 .bf16) (xs0 : Vec F S512x256 .f32) :
    kernelRun1_B.sl.v356 c arg2 harg2 arg5 harg5 arg7 harg7 arg12 harg12 x0 x3 x5 xs0 = chainD x0 x3 x5 xs0 4 := by
  refine (View.readCov_cons_toLoadRect _ _ _ _).trans ?_
  show _ = stepD (rows x3 4) (rows x0 4) (rows x5 4) (chainD x0 x3 x5 xs0 3)
  refine Eq.trans ?_ (congrArg (stepD (rows x3 4) (rows x0 4) (rows x5 4)) (carry_B_3 c arg2 harg2 arg5 harg5 arg7 harg7 arg12 harg12 x0 x3 x5 xs0))
  rw [← readAt_rows harg5 x3 256 4 rfl (by decide) inb_S512x256_S64x256_256_0, ← readAt_rows harg2 x0 256 4 rfl (by decide) inb_S512x256_S64x256_256_0,
    ← readAt_rows harg7 x5 256 4 rfl (by decide) inb_S512x512_S64x512_256_0]
  rfl

/-- The state's cotangent read for chunk 2 is the chain's. -/
theorem carry_B_5 (x0 : Vec F S512x256 .f32) (x3 : Vec F S512x256 .f32) (x5 : Vec F S512x512 .bf16) (xs0 : Vec F S512x256 .f32) :
    kernelRun1_B.sl.v437 c arg2 harg2 arg5 harg5 arg7 harg7 arg12 harg12 x0 x3 x5 xs0 = chainD x0 x3 x5 xs0 5 := by
  refine (View.readCov_cons_toLoadRect _ _ _ _).trans ?_
  show _ = stepD (rows x3 3) (rows x0 3) (rows x5 3) (chainD x0 x3 x5 xs0 4)
  refine Eq.trans ?_ (congrArg (stepD (rows x3 3) (rows x0 3) (rows x5 3)) (carry_B_4 c arg2 harg2 arg5 harg5 arg7 harg7 arg12 harg12 x0 x3 x5 xs0))
  rw [← readAt_rows harg5 x3 192 3 rfl (by decide) inb_S512x256_S64x256_192_0, ← readAt_rows harg2 x0 192 3 rfl (by decide) inb_S512x256_S64x256_192_0,
    ← readAt_rows harg7 x5 192 3 rfl (by decide) inb_S512x512_S64x512_192_0]
  rfl

/-- The state's cotangent read for chunk 1 is the chain's. -/
theorem carry_B_6 (x0 : Vec F S512x256 .f32) (x3 : Vec F S512x256 .f32) (x5 : Vec F S512x512 .bf16) (xs0 : Vec F S512x256 .f32) :
    kernelRun1_B.sl.v518 c arg2 harg2 arg5 harg5 arg7 harg7 arg12 harg12 x0 x3 x5 xs0 = chainD x0 x3 x5 xs0 6 := by
  refine (View.readCov_cons_toLoadRect _ _ _ _).trans ?_
  show _ = stepD (rows x3 2) (rows x0 2) (rows x5 2) (chainD x0 x3 x5 xs0 5)
  refine Eq.trans ?_ (congrArg (stepD (rows x3 2) (rows x0 2) (rows x5 2)) (carry_B_5 c arg2 harg2 arg5 harg5 arg7 harg7 arg12 harg12 x0 x3 x5 xs0))
  rw [← readAt_rows harg5 x3 128 2 rfl (by decide) inb_S512x256_S64x256_128_0, ← readAt_rows harg2 x0 128 2 rfl (by decide) inb_S512x256_S64x256_128_0,
    ← readAt_rows harg7 x5 128 2 rfl (by decide) inb_S512x512_S64x512_128_0]
  rfl

/-- The state's cotangent read for chunk 0 is the chain's. -/
theorem carry_B_7 (x0 : Vec F S512x256 .f32) (x3 : Vec F S512x256 .f32) (x5 : Vec F S512x512 .bf16) (xs0 : Vec F S512x256 .f32) :
    kernelRun1_B.sl.v599 c arg2 harg2 arg5 harg5 arg7 harg7 arg12 harg12 x0 x3 x5 xs0 = chainD x0 x3 x5 xs0 7 := by
  refine (View.readCov_cons_toLoadRect _ _ _ _).trans ?_
  show _ = stepD (rows x3 1) (rows x0 1) (rows x5 1) (chainD x0 x3 x5 xs0 6)
  refine Eq.trans ?_ (congrArg (stepD (rows x3 1) (rows x0 1) (rows x5 1)) (carry_B_6 c arg2 harg2 arg5 harg5 arg7 harg7 arg12 harg12 x0 x3 x5 xs0))
  rw [← readAt_rows harg5 x3 64 1 rfl (by decide) inb_S512x256_S64x256_64_0, ← readAt_rows harg2 x0 64 1 rfl (by decide) inb_S512x256_S64x256_64_0,
    ← readAt_rows harg7 x5 64 1 rfl (by decide) inb_S512x512_S64x512_64_0]
  rfl

/-- The cotangent carried out of a point: the chain's after eight chunks. -/
theorem last_B (hc0 : ¬cond1_0 i) (x0 : Vec F S512x256 .f32) (x1 : Vec F S512x256 .f32) (x2 : Vec F S512x512 .f32) (x3 : Vec F S512x256 .f32) (x4 : Vec F S1x8x512x256 .f32) (x5 : Vec F S512x512 .bf16) (xs0 : Vec F S512x256 .f32) :
    sout1_B_0 c i arg2 harg2 arg3 harg3 arg4 harg4 arg5 harg5 arg6 harg6 arg7 harg7 arg8 harg8 arg9 harg9 arg10 harg10 arg11 harg11 arg12 harg12 hc0 x0 x1 x2 x3 x4 x5 xs0 = chainD x0 x3 x5 xs0 8 := by
  unfold sout1_B_0 kernelRun1_B
  dsimp only
  funext y
  refine (View.read_writes_cons_hit_of_coords _ _ _ _ _ y y ?_).trans ?_
  · intro a
    match a with
    | ⟨0, _⟩ => show (y 0).val = 0 + 1 * (y 0).val; omega
    | ⟨1, _⟩ => show (y 1).val = 0 + 1 * (y 1).val; omega
  · refine congrFun ?_ y
    show _ = stepD (rows x3 0) (rows x0 0) (rows x5 0) (chainD x0 x3 x5 xs0 7)
    refine Eq.trans ?_ (congrArg (stepD (rows x3 0) (rows x0 0) (rows x5 0)) (carry_B_7 c arg2 harg2 arg5 harg5 arg7 harg7 arg12 harg12 x0 x3 x5 xs0))
    rw [← readAt_rows harg5 x3 0 0 rfl (by decide) inb_S512x256_S64x256_0_0, ← readAt_rows harg2 x0 0 0 rfl (by decide) inb_S512x256_S64x256_0_0, ← readAt_rows harg7 x5 0 0 rfl (by decide) inb_S512x512_S64x512_0_0]
    rfl

/-- The rows of the queries' gradient stored at a point, chunk by chunk. -/
theorem out_dQ_B (hc0 : ¬cond1_0 i) (x0 : Vec F S512x256 .f32) (x1 : Vec F S512x256 .f32) (x2 : Vec F S512x512 .f32) (x3 : Vec F S512x256 .f32) (x4 : Vec F S1x8x512x256 .f32) (x5 : Vec F S512x512 .bf16) (xs0 : Vec F S512x256 .f32) :
    out1_B_6 c i arg2 harg2 arg3 harg3 arg4 harg4 arg5 harg5 arg6 harg6 arg7 harg7 arg8 harg8 arg9 harg9 arg10 harg10 arg11 harg11 arg12 harg12 hc0 x0 x1 x2 x3 x4 x5 xs0 =
      ofChunks (fun i => chunkQ (rows x3 i) (rows x1 i) (rows x2 i) (rows x5 i) (slab x4 i)) := by
  unfold out1_B_6
  funext y
  refine View.read_writes_apply_of_pieces _ _ (ofChunks (fun i => chunkQ (rows x3 i) (rows x1 i) (rows x2 i) (rows x5 i) (slab x4 i))) _ ?_ y
    (cover1_B_6 c i arg2 harg2 arg3 harg3 arg4 harg4 arg5 harg5 arg6 harg6 arg7 harg7 arg8 harg8 arg9 harg9 arg10 harg10 arg11 harg11 arg12 harg12 hc0 x0 x1 x2 x3 x4 x5 xs0 y)
  unfold kernelRun1_B
  dsimp only
  simp only [List.forall_mem_cons, List.not_mem_nil, false_imp_iff, implies_true, and_true]
  refine ⟨?_, ?_, ?_, ?_, ?_, ?_, ?_, ?_⟩
  · intro x
    refine (congrFun ?_ x).trans (ofChunks_emb (fun i => chunkQ (rows x3 i) (rows x1 i) (rows x2 i) (rows x5 i) (slab x4 i)) 0 0 rfl inb_S512x256_S64x256_0_0 x).symm
    show _ = chunkQ (rows x3 0) (rows x1 0) (rows x2 0) (rows x5 0) (slab x4 0)
    rw [← readAt_rows harg5 x3 0 0 rfl (by decide) inb_S512x256_S64x256_0_0,
      ← readAt_rows harg3 x1 0 0 rfl (by decide) inb_S512x256_S64x256_0_0,
      ← readAt_rows harg4 x2 0 0 rfl (by decide) inb_S512x512_S64x512_0_0,
      ← readAt_rows harg7 x5 0 0 rfl (by decide) inb_S512x512_S64x512_0_0,
      ← readAt_slab harg6 x4 0 (by decide) inb_S1x8x512x256_S1x1x512x256_0_0_0_0]
    rfl
  · intro x
    refine (congrFun ?_ x).trans (ofChunks_emb (fun i => chunkQ (rows x3 i) (rows x1 i) (rows x2 i) (rows x5 i) (slab x4 i)) 64 1 rfl inb_S512x256_S64x256_64_0 x).symm
    show _ = chunkQ (rows x3 1) (rows x1 1) (rows x2 1) (rows x5 1) (slab x4 1)
    rw [← readAt_rows harg5 x3 64 1 rfl (by decide) inb_S512x256_S64x256_64_0,
      ← readAt_rows harg3 x1 64 1 rfl (by decide) inb_S512x256_S64x256_64_0,
      ← readAt_rows harg4 x2 64 1 rfl (by decide) inb_S512x512_S64x512_64_0,
      ← readAt_rows harg7 x5 64 1 rfl (by decide) inb_S512x512_S64x512_64_0,
      ← readAt_slab harg6 x4 1 (by decide) inb_S1x8x512x256_S1x1x512x256_0_1_0_0]
    rfl
  · intro x
    refine (congrFun ?_ x).trans (ofChunks_emb (fun i => chunkQ (rows x3 i) (rows x1 i) (rows x2 i) (rows x5 i) (slab x4 i)) 128 2 rfl inb_S512x256_S64x256_128_0 x).symm
    show _ = chunkQ (rows x3 2) (rows x1 2) (rows x2 2) (rows x5 2) (slab x4 2)
    rw [← readAt_rows harg5 x3 128 2 rfl (by decide) inb_S512x256_S64x256_128_0,
      ← readAt_rows harg3 x1 128 2 rfl (by decide) inb_S512x256_S64x256_128_0,
      ← readAt_rows harg4 x2 128 2 rfl (by decide) inb_S512x512_S64x512_128_0,
      ← readAt_rows harg7 x5 128 2 rfl (by decide) inb_S512x512_S64x512_128_0,
      ← readAt_slab harg6 x4 2 (by decide) inb_S1x8x512x256_S1x1x512x256_0_2_0_0]
    rfl
  · intro x
    refine (congrFun ?_ x).trans (ofChunks_emb (fun i => chunkQ (rows x3 i) (rows x1 i) (rows x2 i) (rows x5 i) (slab x4 i)) 192 3 rfl inb_S512x256_S64x256_192_0 x).symm
    show _ = chunkQ (rows x3 3) (rows x1 3) (rows x2 3) (rows x5 3) (slab x4 3)
    rw [← readAt_rows harg5 x3 192 3 rfl (by decide) inb_S512x256_S64x256_192_0,
      ← readAt_rows harg3 x1 192 3 rfl (by decide) inb_S512x256_S64x256_192_0,
      ← readAt_rows harg4 x2 192 3 rfl (by decide) inb_S512x512_S64x512_192_0,
      ← readAt_rows harg7 x5 192 3 rfl (by decide) inb_S512x512_S64x512_192_0,
      ← readAt_slab harg6 x4 3 (by decide) inb_S1x8x512x256_S1x1x512x256_0_3_0_0]
    rfl
  · intro x
    refine (congrFun ?_ x).trans (ofChunks_emb (fun i => chunkQ (rows x3 i) (rows x1 i) (rows x2 i) (rows x5 i) (slab x4 i)) 256 4 rfl inb_S512x256_S64x256_256_0 x).symm
    show _ = chunkQ (rows x3 4) (rows x1 4) (rows x2 4) (rows x5 4) (slab x4 4)
    rw [← readAt_rows harg5 x3 256 4 rfl (by decide) inb_S512x256_S64x256_256_0,
      ← readAt_rows harg3 x1 256 4 rfl (by decide) inb_S512x256_S64x256_256_0,
      ← readAt_rows harg4 x2 256 4 rfl (by decide) inb_S512x512_S64x512_256_0,
      ← readAt_rows harg7 x5 256 4 rfl (by decide) inb_S512x512_S64x512_256_0,
      ← readAt_slab harg6 x4 4 (by decide) inb_S1x8x512x256_S1x1x512x256_0_4_0_0]
    rfl
  · intro x
    refine (congrFun ?_ x).trans (ofChunks_emb (fun i => chunkQ (rows x3 i) (rows x1 i) (rows x2 i) (rows x5 i) (slab x4 i)) 320 5 rfl inb_S512x256_S64x256_320_0 x).symm
    show _ = chunkQ (rows x3 5) (rows x1 5) (rows x2 5) (rows x5 5) (slab x4 5)
    rw [← readAt_rows harg5 x3 320 5 rfl (by decide) inb_S512x256_S64x256_320_0,
      ← readAt_rows harg3 x1 320 5 rfl (by decide) inb_S512x256_S64x256_320_0,
      ← readAt_rows harg4 x2 320 5 rfl (by decide) inb_S512x512_S64x512_320_0,
      ← readAt_rows harg7 x5 320 5 rfl (by decide) inb_S512x512_S64x512_320_0,
      ← readAt_slab harg6 x4 5 (by decide) inb_S1x8x512x256_S1x1x512x256_0_5_0_0]
    rfl
  · intro x
    refine (congrFun ?_ x).trans (ofChunks_emb (fun i => chunkQ (rows x3 i) (rows x1 i) (rows x2 i) (rows x5 i) (slab x4 i)) 384 6 rfl inb_S512x256_S64x256_384_0 x).symm
    show _ = chunkQ (rows x3 6) (rows x1 6) (rows x2 6) (rows x5 6) (slab x4 6)
    rw [← readAt_rows harg5 x3 384 6 rfl (by decide) inb_S512x256_S64x256_384_0,
      ← readAt_rows harg3 x1 384 6 rfl (by decide) inb_S512x256_S64x256_384_0,
      ← readAt_rows harg4 x2 384 6 rfl (by decide) inb_S512x512_S64x512_384_0,
      ← readAt_rows harg7 x5 384 6 rfl (by decide) inb_S512x512_S64x512_384_0,
      ← readAt_slab harg6 x4 6 (by decide) inb_S1x8x512x256_S1x1x512x256_0_6_0_0]
    rfl
  · intro x
    refine (congrFun ?_ x).trans (ofChunks_emb (fun i => chunkQ (rows x3 i) (rows x1 i) (rows x2 i) (rows x5 i) (slab x4 i)) 448 7 rfl inb_S512x256_S64x256_448_0 x).symm
    show _ = chunkQ (rows x3 7) (rows x1 7) (rows x2 7) (rows x5 7) (slab x4 7)
    rw [← readAt_rows harg5 x3 448 7 rfl (by decide) inb_S512x256_S64x256_448_0,
      ← readAt_rows harg3 x1 448 7 rfl (by decide) inb_S512x256_S64x256_448_0,
      ← readAt_rows harg4 x2 448 7 rfl (by decide) inb_S512x512_S64x512_448_0,
      ← readAt_rows harg7 x5 448 7 rfl (by decide) inb_S512x512_S64x512_448_0,
      ← readAt_slab harg6 x4 7 (by decide) inb_S1x8x512x256_S1x1x512x256_0_7_0_0]
    rfl

/-- The rows of the keys' gradient stored at a point, chunk by chunk. -/
theorem out_dK_B (hc0 : ¬cond1_0 i) (x0 : Vec F S512x256 .f32) (x1 : Vec F S512x256 .f32) (x2 : Vec F S512x512 .f32) (x3 : Vec F S512x256 .f32) (x4 : Vec F S1x8x512x256 .f32) (x5 : Vec F S512x512 .bf16) (xs0 : Vec F S512x256 .f32) :
    out1_B_7 c i arg2 harg2 arg3 harg3 arg4 harg4 arg5 harg5 arg6 harg6 arg7 harg7 arg8 harg8 arg9 harg9 arg10 harg10 arg11 harg11 arg12 harg12 hc0 x0 x1 x2 x3 x4 x5 xs0 =
      ofChunks (fun i => chunkK (rows x3 i) (rows x0 i) (rows x2 i) (rows x5 i) (chainD x0 x3 x5 xs0 (7 - i))) := by
  unfold out1_B_7
  funext y
  refine View.read_writes_apply_of_pieces _ _ (ofChunks (fun i => chunkK (rows x3 i) (rows x0 i) (rows x2 i) (rows x5 i) (chainD x0 x3 x5 xs0 (7 - i)))) _ ?_ y
    (cover1_B_7 c i arg2 harg2 arg3 harg3 arg4 harg4 arg5 harg5 arg6 harg6 arg7 harg7 arg8 harg8 arg9 harg9 arg10 harg10 arg11 harg11 arg12 harg12 hc0 x0 x1 x2 x3 x4 x5 xs0 y)
  unfold kernelRun1_B
  dsimp only
  simp only [List.forall_mem_cons, List.not_mem_nil, false_imp_iff, implies_true, and_true]
  refine ⟨?_, ?_, ?_, ?_, ?_, ?_, ?_, ?_⟩
  · intro x
    refine (congrFun ?_ x).trans (ofChunks_emb (fun i => chunkK (rows x3 i) (rows x0 i) (rows x2 i) (rows x5 i) (chainD x0 x3 x5 xs0 (7 - i))) 0 0 rfl inb_S512x256_S64x256_0_0 x).symm
    show _ = chunkK (rows x3 0) (rows x0 0) (rows x2 0) (rows x5 0) (chainD x0 x3 x5 xs0 7)
    refine Eq.trans ?_ (congrArg (chunkK (rows x3 0) (rows x0 0) (rows x2 0) (rows x5 0)) (carry_B_7 c arg2 harg2 arg5 harg5 arg7 harg7 arg12 harg12 x0 x3 x5 xs0))
    rw [← readAt_rows harg5 x3 0 0 rfl (by decide) inb_S512x256_S64x256_0_0,
      ← readAt_rows harg2 x0 0 0 rfl (by decide) inb_S512x256_S64x256_0_0,
      ← readAt_rows harg4 x2 0 0 rfl (by decide) inb_S512x512_S64x512_0_0,
      ← readAt_rows harg7 x5 0 0 rfl (by decide) inb_S512x512_S64x512_0_0]
    rfl
  · intro x
    refine (congrFun ?_ x).trans (ofChunks_emb (fun i => chunkK (rows x3 i) (rows x0 i) (rows x2 i) (rows x5 i) (chainD x0 x3 x5 xs0 (7 - i))) 64 1 rfl inb_S512x256_S64x256_64_0 x).symm
    show _ = chunkK (rows x3 1) (rows x0 1) (rows x2 1) (rows x5 1) (chainD x0 x3 x5 xs0 6)
    refine Eq.trans ?_ (congrArg (chunkK (rows x3 1) (rows x0 1) (rows x2 1) (rows x5 1)) (carry_B_6 c arg2 harg2 arg5 harg5 arg7 harg7 arg12 harg12 x0 x3 x5 xs0))
    rw [← readAt_rows harg5 x3 64 1 rfl (by decide) inb_S512x256_S64x256_64_0,
      ← readAt_rows harg2 x0 64 1 rfl (by decide) inb_S512x256_S64x256_64_0,
      ← readAt_rows harg4 x2 64 1 rfl (by decide) inb_S512x512_S64x512_64_0,
      ← readAt_rows harg7 x5 64 1 rfl (by decide) inb_S512x512_S64x512_64_0]
    rfl
  · intro x
    refine (congrFun ?_ x).trans (ofChunks_emb (fun i => chunkK (rows x3 i) (rows x0 i) (rows x2 i) (rows x5 i) (chainD x0 x3 x5 xs0 (7 - i))) 128 2 rfl inb_S512x256_S64x256_128_0 x).symm
    show _ = chunkK (rows x3 2) (rows x0 2) (rows x2 2) (rows x5 2) (chainD x0 x3 x5 xs0 5)
    refine Eq.trans ?_ (congrArg (chunkK (rows x3 2) (rows x0 2) (rows x2 2) (rows x5 2)) (carry_B_5 c arg2 harg2 arg5 harg5 arg7 harg7 arg12 harg12 x0 x3 x5 xs0))
    rw [← readAt_rows harg5 x3 128 2 rfl (by decide) inb_S512x256_S64x256_128_0,
      ← readAt_rows harg2 x0 128 2 rfl (by decide) inb_S512x256_S64x256_128_0,
      ← readAt_rows harg4 x2 128 2 rfl (by decide) inb_S512x512_S64x512_128_0,
      ← readAt_rows harg7 x5 128 2 rfl (by decide) inb_S512x512_S64x512_128_0]
    rfl
  · intro x
    refine (congrFun ?_ x).trans (ofChunks_emb (fun i => chunkK (rows x3 i) (rows x0 i) (rows x2 i) (rows x5 i) (chainD x0 x3 x5 xs0 (7 - i))) 192 3 rfl inb_S512x256_S64x256_192_0 x).symm
    show _ = chunkK (rows x3 3) (rows x0 3) (rows x2 3) (rows x5 3) (chainD x0 x3 x5 xs0 4)
    refine Eq.trans ?_ (congrArg (chunkK (rows x3 3) (rows x0 3) (rows x2 3) (rows x5 3)) (carry_B_4 c arg2 harg2 arg5 harg5 arg7 harg7 arg12 harg12 x0 x3 x5 xs0))
    rw [← readAt_rows harg5 x3 192 3 rfl (by decide) inb_S512x256_S64x256_192_0,
      ← readAt_rows harg2 x0 192 3 rfl (by decide) inb_S512x256_S64x256_192_0,
      ← readAt_rows harg4 x2 192 3 rfl (by decide) inb_S512x512_S64x512_192_0,
      ← readAt_rows harg7 x5 192 3 rfl (by decide) inb_S512x512_S64x512_192_0]
    rfl
  · intro x
    refine (congrFun ?_ x).trans (ofChunks_emb (fun i => chunkK (rows x3 i) (rows x0 i) (rows x2 i) (rows x5 i) (chainD x0 x3 x5 xs0 (7 - i))) 256 4 rfl inb_S512x256_S64x256_256_0 x).symm
    show _ = chunkK (rows x3 4) (rows x0 4) (rows x2 4) (rows x5 4) (chainD x0 x3 x5 xs0 3)
    refine Eq.trans ?_ (congrArg (chunkK (rows x3 4) (rows x0 4) (rows x2 4) (rows x5 4)) (carry_B_3 c arg2 harg2 arg5 harg5 arg7 harg7 arg12 harg12 x0 x3 x5 xs0))
    rw [← readAt_rows harg5 x3 256 4 rfl (by decide) inb_S512x256_S64x256_256_0,
      ← readAt_rows harg2 x0 256 4 rfl (by decide) inb_S512x256_S64x256_256_0,
      ← readAt_rows harg4 x2 256 4 rfl (by decide) inb_S512x512_S64x512_256_0,
      ← readAt_rows harg7 x5 256 4 rfl (by decide) inb_S512x512_S64x512_256_0]
    rfl
  · intro x
    refine (congrFun ?_ x).trans (ofChunks_emb (fun i => chunkK (rows x3 i) (rows x0 i) (rows x2 i) (rows x5 i) (chainD x0 x3 x5 xs0 (7 - i))) 320 5 rfl inb_S512x256_S64x256_320_0 x).symm
    show _ = chunkK (rows x3 5) (rows x0 5) (rows x2 5) (rows x5 5) (chainD x0 x3 x5 xs0 2)
    refine Eq.trans ?_ (congrArg (chunkK (rows x3 5) (rows x0 5) (rows x2 5) (rows x5 5)) (carry_B_2 c arg2 harg2 arg5 harg5 arg7 harg7 arg12 harg12 x0 x3 x5 xs0))
    rw [← readAt_rows harg5 x3 320 5 rfl (by decide) inb_S512x256_S64x256_320_0,
      ← readAt_rows harg2 x0 320 5 rfl (by decide) inb_S512x256_S64x256_320_0,
      ← readAt_rows harg4 x2 320 5 rfl (by decide) inb_S512x512_S64x512_320_0,
      ← readAt_rows harg7 x5 320 5 rfl (by decide) inb_S512x512_S64x512_320_0]
    rfl
  · intro x
    refine (congrFun ?_ x).trans (ofChunks_emb (fun i => chunkK (rows x3 i) (rows x0 i) (rows x2 i) (rows x5 i) (chainD x0 x3 x5 xs0 (7 - i))) 384 6 rfl inb_S512x256_S64x256_384_0 x).symm
    show _ = chunkK (rows x3 6) (rows x0 6) (rows x2 6) (rows x5 6) (chainD x0 x3 x5 xs0 1)
    refine Eq.trans ?_ (congrArg (chunkK (rows x3 6) (rows x0 6) (rows x2 6) (rows x5 6)) (carry_B_1 c arg2 harg2 arg5 harg5 arg7 harg7 arg12 harg12 x0 x3 x5 xs0))
    rw [← readAt_rows harg5 x3 384 6 rfl (by decide) inb_S512x256_S64x256_384_0,
      ← readAt_rows harg2 x0 384 6 rfl (by decide) inb_S512x256_S64x256_384_0,
      ← readAt_rows harg4 x2 384 6 rfl (by decide) inb_S512x512_S64x512_384_0,
      ← readAt_rows harg7 x5 384 6 rfl (by decide) inb_S512x512_S64x512_384_0]
    rfl
  · intro x
    refine (congrFun ?_ x).trans (ofChunks_emb (fun i => chunkK (rows x3 i) (rows x0 i) (rows x2 i) (rows x5 i) (chainD x0 x3 x5 xs0 (7 - i))) 448 7 rfl inb_S512x256_S64x256_448_0 x).symm
    show _ = chunkK (rows x3 7) (rows x0 7) (rows x2 7) (rows x5 7) (chainD x0 x3 x5 xs0 0)
    refine Eq.trans ?_ (congrArg (chunkK (rows x3 7) (rows x0 7) (rows x2 7) (rows x5 7)) (readAt_all harg12 xs0 inb_S512x256_S512x256_0_0))
    rw [← readAt_rows harg5 x3 448 7 rfl (by decide) inb_S512x256_S64x256_448_0,
      ← readAt_rows harg2 x0 448 7 rfl (by decide) inb_S512x256_S64x256_448_0,
      ← readAt_rows harg4 x2 448 7 rfl (by decide) inb_S512x512_S64x512_448_0,
      ← readAt_rows harg7 x5 448 7 rfl (by decide) inb_S512x512_S64x512_448_0]
    rfl

/-- The rows of the values' gradient stored at a point, chunk by chunk. -/
theorem out_dV_B (hc0 : ¬cond1_0 i) (x0 : Vec F S512x256 .f32) (x1 : Vec F S512x256 .f32) (x2 : Vec F S512x512 .f32) (x3 : Vec F S512x256 .f32) (x4 : Vec F S1x8x512x256 .f32) (x5 : Vec F S512x512 .bf16) (xs0 : Vec F S512x256 .f32) :
    out1_B_8 c i arg2 harg2 arg3 harg3 arg4 harg4 arg5 harg5 arg6 harg6 arg7 harg7 arg8 harg8 arg9 harg9 arg10 harg10 arg11 harg11 arg12 harg12 hc0 x0 x1 x2 x3 x4 x5 xs0 =
      ofChunks (fun i => chunkV (rows x3 i) (rows x0 i) (rows x1 i) (rows x5 i) (chainD x0 x3 x5 xs0 (7 - i))) := by
  unfold out1_B_8
  funext y
  refine View.read_writes_apply_of_pieces _ _ (ofChunks (fun i => chunkV (rows x3 i) (rows x0 i) (rows x1 i) (rows x5 i) (chainD x0 x3 x5 xs0 (7 - i)))) _ ?_ y
    (cover1_B_8 c i arg2 harg2 arg3 harg3 arg4 harg4 arg5 harg5 arg6 harg6 arg7 harg7 arg8 harg8 arg9 harg9 arg10 harg10 arg11 harg11 arg12 harg12 hc0 x0 x1 x2 x3 x4 x5 xs0 y)
  unfold kernelRun1_B
  dsimp only
  simp only [List.forall_mem_cons, List.not_mem_nil, false_imp_iff, implies_true, and_true]
  refine ⟨?_, ?_, ?_, ?_, ?_, ?_, ?_, ?_⟩
  · intro x
    refine (congrFun ?_ x).trans (ofChunks_emb (fun i => chunkV (rows x3 i) (rows x0 i) (rows x1 i) (rows x5 i) (chainD x0 x3 x5 xs0 (7 - i))) 0 0 rfl inb_S512x512_S64x512_0_0 x).symm
    show _ = chunkV (rows x3 0) (rows x0 0) (rows x1 0) (rows x5 0) (chainD x0 x3 x5 xs0 7)
    refine Eq.trans ?_ (congrArg (chunkV (rows x3 0) (rows x0 0) (rows x1 0) (rows x5 0)) (carry_B_7 c arg2 harg2 arg5 harg5 arg7 harg7 arg12 harg12 x0 x3 x5 xs0))
    rw [← readAt_rows harg5 x3 0 0 rfl (by decide) inb_S512x256_S64x256_0_0,
      ← readAt_rows harg2 x0 0 0 rfl (by decide) inb_S512x256_S64x256_0_0,
      ← readAt_rows harg3 x1 0 0 rfl (by decide) inb_S512x256_S64x256_0_0,
      ← readAt_rows harg7 x5 0 0 rfl (by decide) inb_S512x512_S64x512_0_0]
    rfl
  · intro x
    refine (congrFun ?_ x).trans (ofChunks_emb (fun i => chunkV (rows x3 i) (rows x0 i) (rows x1 i) (rows x5 i) (chainD x0 x3 x5 xs0 (7 - i))) 64 1 rfl inb_S512x512_S64x512_64_0 x).symm
    show _ = chunkV (rows x3 1) (rows x0 1) (rows x1 1) (rows x5 1) (chainD x0 x3 x5 xs0 6)
    refine Eq.trans ?_ (congrArg (chunkV (rows x3 1) (rows x0 1) (rows x1 1) (rows x5 1)) (carry_B_6 c arg2 harg2 arg5 harg5 arg7 harg7 arg12 harg12 x0 x3 x5 xs0))
    rw [← readAt_rows harg5 x3 64 1 rfl (by decide) inb_S512x256_S64x256_64_0,
      ← readAt_rows harg2 x0 64 1 rfl (by decide) inb_S512x256_S64x256_64_0,
      ← readAt_rows harg3 x1 64 1 rfl (by decide) inb_S512x256_S64x256_64_0,
      ← readAt_rows harg7 x5 64 1 rfl (by decide) inb_S512x512_S64x512_64_0]
    rfl
  · intro x
    refine (congrFun ?_ x).trans (ofChunks_emb (fun i => chunkV (rows x3 i) (rows x0 i) (rows x1 i) (rows x5 i) (chainD x0 x3 x5 xs0 (7 - i))) 128 2 rfl inb_S512x512_S64x512_128_0 x).symm
    show _ = chunkV (rows x3 2) (rows x0 2) (rows x1 2) (rows x5 2) (chainD x0 x3 x5 xs0 5)
    refine Eq.trans ?_ (congrArg (chunkV (rows x3 2) (rows x0 2) (rows x1 2) (rows x5 2)) (carry_B_5 c arg2 harg2 arg5 harg5 arg7 harg7 arg12 harg12 x0 x3 x5 xs0))
    rw [← readAt_rows harg5 x3 128 2 rfl (by decide) inb_S512x256_S64x256_128_0,
      ← readAt_rows harg2 x0 128 2 rfl (by decide) inb_S512x256_S64x256_128_0,
      ← readAt_rows harg3 x1 128 2 rfl (by decide) inb_S512x256_S64x256_128_0,
      ← readAt_rows harg7 x5 128 2 rfl (by decide) inb_S512x512_S64x512_128_0]
    rfl
  · intro x
    refine (congrFun ?_ x).trans (ofChunks_emb (fun i => chunkV (rows x3 i) (rows x0 i) (rows x1 i) (rows x5 i) (chainD x0 x3 x5 xs0 (7 - i))) 192 3 rfl inb_S512x512_S64x512_192_0 x).symm
    show _ = chunkV (rows x3 3) (rows x0 3) (rows x1 3) (rows x5 3) (chainD x0 x3 x5 xs0 4)
    refine Eq.trans ?_ (congrArg (chunkV (rows x3 3) (rows x0 3) (rows x1 3) (rows x5 3)) (carry_B_4 c arg2 harg2 arg5 harg5 arg7 harg7 arg12 harg12 x0 x3 x5 xs0))
    rw [← readAt_rows harg5 x3 192 3 rfl (by decide) inb_S512x256_S64x256_192_0,
      ← readAt_rows harg2 x0 192 3 rfl (by decide) inb_S512x256_S64x256_192_0,
      ← readAt_rows harg3 x1 192 3 rfl (by decide) inb_S512x256_S64x256_192_0,
      ← readAt_rows harg7 x5 192 3 rfl (by decide) inb_S512x512_S64x512_192_0]
    rfl
  · intro x
    refine (congrFun ?_ x).trans (ofChunks_emb (fun i => chunkV (rows x3 i) (rows x0 i) (rows x1 i) (rows x5 i) (chainD x0 x3 x5 xs0 (7 - i))) 256 4 rfl inb_S512x512_S64x512_256_0 x).symm
    show _ = chunkV (rows x3 4) (rows x0 4) (rows x1 4) (rows x5 4) (chainD x0 x3 x5 xs0 3)
    refine Eq.trans ?_ (congrArg (chunkV (rows x3 4) (rows x0 4) (rows x1 4) (rows x5 4)) (carry_B_3 c arg2 harg2 arg5 harg5 arg7 harg7 arg12 harg12 x0 x3 x5 xs0))
    rw [← readAt_rows harg5 x3 256 4 rfl (by decide) inb_S512x256_S64x256_256_0,
      ← readAt_rows harg2 x0 256 4 rfl (by decide) inb_S512x256_S64x256_256_0,
      ← readAt_rows harg3 x1 256 4 rfl (by decide) inb_S512x256_S64x256_256_0,
      ← readAt_rows harg7 x5 256 4 rfl (by decide) inb_S512x512_S64x512_256_0]
    rfl
  · intro x
    refine (congrFun ?_ x).trans (ofChunks_emb (fun i => chunkV (rows x3 i) (rows x0 i) (rows x1 i) (rows x5 i) (chainD x0 x3 x5 xs0 (7 - i))) 320 5 rfl inb_S512x512_S64x512_320_0 x).symm
    show _ = chunkV (rows x3 5) (rows x0 5) (rows x1 5) (rows x5 5) (chainD x0 x3 x5 xs0 2)
    refine Eq.trans ?_ (congrArg (chunkV (rows x3 5) (rows x0 5) (rows x1 5) (rows x5 5)) (carry_B_2 c arg2 harg2 arg5 harg5 arg7 harg7 arg12 harg12 x0 x3 x5 xs0))
    rw [← readAt_rows harg5 x3 320 5 rfl (by decide) inb_S512x256_S64x256_320_0,
      ← readAt_rows harg2 x0 320 5 rfl (by decide) inb_S512x256_S64x256_320_0,
      ← readAt_rows harg3 x1 320 5 rfl (by decide) inb_S512x256_S64x256_320_0,
      ← readAt_rows harg7 x5 320 5 rfl (by decide) inb_S512x512_S64x512_320_0]
    rfl
  · intro x
    refine (congrFun ?_ x).trans (ofChunks_emb (fun i => chunkV (rows x3 i) (rows x0 i) (rows x1 i) (rows x5 i) (chainD x0 x3 x5 xs0 (7 - i))) 384 6 rfl inb_S512x512_S64x512_384_0 x).symm
    show _ = chunkV (rows x3 6) (rows x0 6) (rows x1 6) (rows x5 6) (chainD x0 x3 x5 xs0 1)
    refine Eq.trans ?_ (congrArg (chunkV (rows x3 6) (rows x0 6) (rows x1 6) (rows x5 6)) (carry_B_1 c arg2 harg2 arg5 harg5 arg7 harg7 arg12 harg12 x0 x3 x5 xs0))
    rw [← readAt_rows harg5 x3 384 6 rfl (by decide) inb_S512x256_S64x256_384_0,
      ← readAt_rows harg2 x0 384 6 rfl (by decide) inb_S512x256_S64x256_384_0,
      ← readAt_rows harg3 x1 384 6 rfl (by decide) inb_S512x256_S64x256_384_0,
      ← readAt_rows harg7 x5 384 6 rfl (by decide) inb_S512x512_S64x512_384_0]
    rfl
  · intro x
    refine (congrFun ?_ x).trans (ofChunks_emb (fun i => chunkV (rows x3 i) (rows x0 i) (rows x1 i) (rows x5 i) (chainD x0 x3 x5 xs0 (7 - i))) 448 7 rfl inb_S512x512_S64x512_448_0 x).symm
    show _ = chunkV (rows x3 7) (rows x0 7) (rows x1 7) (rows x5 7) (chainD x0 x3 x5 xs0 0)
    refine Eq.trans ?_ (congrArg (chunkV (rows x3 7) (rows x0 7) (rows x1 7) (rows x5 7)) (readAt_all harg12 xs0 inb_S512x256_S512x256_0_0))
    rw [← readAt_rows harg5 x3 448 7 rfl (by decide) inb_S512x256_S64x256_448_0,
      ← readAt_rows harg2 x0 448 7 rfl (by decide) inb_S512x256_S64x256_448_0,
      ← readAt_rows harg3 x1 448 7 rfl (by decide) inb_S512x256_S64x256_448_0,
      ← readAt_rows harg7 x5 448 7 rfl (by decide) inb_S512x512_S64x512_448_0]
    rfl

/-- The rows of the cumulative gates' gradient stored at a point, chunk by chunk. -/
theorem out_dC_B (hc0 : ¬cond1_0 i) (x0 : Vec F S512x256 .f32) (x1 : Vec F S512x256 .f32) (x2 : Vec F S512x512 .f32) (x3 : Vec F S512x256 .f32) (x4 : Vec F S1x8x512x256 .f32) (x5 : Vec F S512x512 .bf16) (xs0 : Vec F S512x256 .f32) :
    out1_B_9 c i arg2 harg2 arg3 harg3 arg4 harg4 arg5 harg5 arg6 harg6 arg7 harg7 arg8 harg8 arg9 harg9 arg10 harg10 arg11 harg11 arg12 harg12 hc0 x0 x1 x2 x3 x4 x5 xs0 =
      ofChunks (fun i => chunkC (rows x3 i) (rows x0 i) (rows x1 i) (rows x2 i) (rows x5 i) (slab x4 i) (chainD x0 x3 x5 xs0 (7 - i))) := by
  unfold out1_B_9
  funext y
  refine View.read_writes_apply_of_pieces _ _ (ofChunks (fun i => chunkC (rows x3 i) (rows x0 i) (rows x1 i) (rows x2 i) (rows x5 i) (slab x4 i) (chainD x0 x3 x5 xs0 (7 - i)))) _ ?_ y
    (cover1_B_9 c i arg2 harg2 arg3 harg3 arg4 harg4 arg5 harg5 arg6 harg6 arg7 harg7 arg8 harg8 arg9 harg9 arg10 harg10 arg11 harg11 arg12 harg12 hc0 x0 x1 x2 x3 x4 x5 xs0 y)
  unfold kernelRun1_B
  dsimp only
  simp only [List.forall_mem_cons, List.not_mem_nil, false_imp_iff, implies_true, and_true]
  refine ⟨?_, ?_, ?_, ?_, ?_, ?_, ?_, ?_⟩
  · intro x
    refine (congrFun ?_ x).trans (ofChunks_emb (fun i => chunkC (rows x3 i) (rows x0 i) (rows x1 i) (rows x2 i) (rows x5 i) (slab x4 i) (chainD x0 x3 x5 xs0 (7 - i))) 0 0 rfl inb_S512x256_S64x256_0_0 x).symm
    show _ = chunkC (rows x3 0) (rows x0 0) (rows x1 0) (rows x2 0) (rows x5 0) (slab x4 0) (chainD x0 x3 x5 xs0 7)
    refine Eq.trans ?_ (congrArg (chunkC (rows x3 0) (rows x0 0) (rows x1 0) (rows x2 0) (rows x5 0) (slab x4 0)) (carry_B_7 c arg2 harg2 arg5 harg5 arg7 harg7 arg12 harg12 x0 x3 x5 xs0))
    rw [← readAt_rows harg5 x3 0 0 rfl (by decide) inb_S512x256_S64x256_0_0,
      ← readAt_rows harg2 x0 0 0 rfl (by decide) inb_S512x256_S64x256_0_0,
      ← readAt_rows harg3 x1 0 0 rfl (by decide) inb_S512x256_S64x256_0_0,
      ← readAt_rows harg4 x2 0 0 rfl (by decide) inb_S512x512_S64x512_0_0,
      ← readAt_rows harg7 x5 0 0 rfl (by decide) inb_S512x512_S64x512_0_0,
      ← readAt_slab harg6 x4 0 (by decide) inb_S1x8x512x256_S1x1x512x256_0_0_0_0]
    rfl
  · intro x
    refine (congrFun ?_ x).trans (ofChunks_emb (fun i => chunkC (rows x3 i) (rows x0 i) (rows x1 i) (rows x2 i) (rows x5 i) (slab x4 i) (chainD x0 x3 x5 xs0 (7 - i))) 64 1 rfl inb_S512x256_S64x256_64_0 x).symm
    show _ = chunkC (rows x3 1) (rows x0 1) (rows x1 1) (rows x2 1) (rows x5 1) (slab x4 1) (chainD x0 x3 x5 xs0 6)
    refine Eq.trans ?_ (congrArg (chunkC (rows x3 1) (rows x0 1) (rows x1 1) (rows x2 1) (rows x5 1) (slab x4 1)) (carry_B_6 c arg2 harg2 arg5 harg5 arg7 harg7 arg12 harg12 x0 x3 x5 xs0))
    rw [← readAt_rows harg5 x3 64 1 rfl (by decide) inb_S512x256_S64x256_64_0,
      ← readAt_rows harg2 x0 64 1 rfl (by decide) inb_S512x256_S64x256_64_0,
      ← readAt_rows harg3 x1 64 1 rfl (by decide) inb_S512x256_S64x256_64_0,
      ← readAt_rows harg4 x2 64 1 rfl (by decide) inb_S512x512_S64x512_64_0,
      ← readAt_rows harg7 x5 64 1 rfl (by decide) inb_S512x512_S64x512_64_0,
      ← readAt_slab harg6 x4 1 (by decide) inb_S1x8x512x256_S1x1x512x256_0_1_0_0]
    rfl
  · intro x
    refine (congrFun ?_ x).trans (ofChunks_emb (fun i => chunkC (rows x3 i) (rows x0 i) (rows x1 i) (rows x2 i) (rows x5 i) (slab x4 i) (chainD x0 x3 x5 xs0 (7 - i))) 128 2 rfl inb_S512x256_S64x256_128_0 x).symm
    show _ = chunkC (rows x3 2) (rows x0 2) (rows x1 2) (rows x2 2) (rows x5 2) (slab x4 2) (chainD x0 x3 x5 xs0 5)
    refine Eq.trans ?_ (congrArg (chunkC (rows x3 2) (rows x0 2) (rows x1 2) (rows x2 2) (rows x5 2) (slab x4 2)) (carry_B_5 c arg2 harg2 arg5 harg5 arg7 harg7 arg12 harg12 x0 x3 x5 xs0))
    rw [← readAt_rows harg5 x3 128 2 rfl (by decide) inb_S512x256_S64x256_128_0,
      ← readAt_rows harg2 x0 128 2 rfl (by decide) inb_S512x256_S64x256_128_0,
      ← readAt_rows harg3 x1 128 2 rfl (by decide) inb_S512x256_S64x256_128_0,
      ← readAt_rows harg4 x2 128 2 rfl (by decide) inb_S512x512_S64x512_128_0,
      ← readAt_rows harg7 x5 128 2 rfl (by decide) inb_S512x512_S64x512_128_0,
      ← readAt_slab harg6 x4 2 (by decide) inb_S1x8x512x256_S1x1x512x256_0_2_0_0]
    rfl
  · intro x
    refine (congrFun ?_ x).trans (ofChunks_emb (fun i => chunkC (rows x3 i) (rows x0 i) (rows x1 i) (rows x2 i) (rows x5 i) (slab x4 i) (chainD x0 x3 x5 xs0 (7 - i))) 192 3 rfl inb_S512x256_S64x256_192_0 x).symm
    show _ = chunkC (rows x3 3) (rows x0 3) (rows x1 3) (rows x2 3) (rows x5 3) (slab x4 3) (chainD x0 x3 x5 xs0 4)
    refine Eq.trans ?_ (congrArg (chunkC (rows x3 3) (rows x0 3) (rows x1 3) (rows x2 3) (rows x5 3) (slab x4 3)) (carry_B_4 c arg2 harg2 arg5 harg5 arg7 harg7 arg12 harg12 x0 x3 x5 xs0))
    rw [← readAt_rows harg5 x3 192 3 rfl (by decide) inb_S512x256_S64x256_192_0,
      ← readAt_rows harg2 x0 192 3 rfl (by decide) inb_S512x256_S64x256_192_0,
      ← readAt_rows harg3 x1 192 3 rfl (by decide) inb_S512x256_S64x256_192_0,
      ← readAt_rows harg4 x2 192 3 rfl (by decide) inb_S512x512_S64x512_192_0,
      ← readAt_rows harg7 x5 192 3 rfl (by decide) inb_S512x512_S64x512_192_0,
      ← readAt_slab harg6 x4 3 (by decide) inb_S1x8x512x256_S1x1x512x256_0_3_0_0]
    rfl
  · intro x
    refine (congrFun ?_ x).trans (ofChunks_emb (fun i => chunkC (rows x3 i) (rows x0 i) (rows x1 i) (rows x2 i) (rows x5 i) (slab x4 i) (chainD x0 x3 x5 xs0 (7 - i))) 256 4 rfl inb_S512x256_S64x256_256_0 x).symm
    show _ = chunkC (rows x3 4) (rows x0 4) (rows x1 4) (rows x2 4) (rows x5 4) (slab x4 4) (chainD x0 x3 x5 xs0 3)
    refine Eq.trans ?_ (congrArg (chunkC (rows x3 4) (rows x0 4) (rows x1 4) (rows x2 4) (rows x5 4) (slab x4 4)) (carry_B_3 c arg2 harg2 arg5 harg5 arg7 harg7 arg12 harg12 x0 x3 x5 xs0))
    rw [← readAt_rows harg5 x3 256 4 rfl (by decide) inb_S512x256_S64x256_256_0,
      ← readAt_rows harg2 x0 256 4 rfl (by decide) inb_S512x256_S64x256_256_0,
      ← readAt_rows harg3 x1 256 4 rfl (by decide) inb_S512x256_S64x256_256_0,
      ← readAt_rows harg4 x2 256 4 rfl (by decide) inb_S512x512_S64x512_256_0,
      ← readAt_rows harg7 x5 256 4 rfl (by decide) inb_S512x512_S64x512_256_0,
      ← readAt_slab harg6 x4 4 (by decide) inb_S1x8x512x256_S1x1x512x256_0_4_0_0]
    rfl
  · intro x
    refine (congrFun ?_ x).trans (ofChunks_emb (fun i => chunkC (rows x3 i) (rows x0 i) (rows x1 i) (rows x2 i) (rows x5 i) (slab x4 i) (chainD x0 x3 x5 xs0 (7 - i))) 320 5 rfl inb_S512x256_S64x256_320_0 x).symm
    show _ = chunkC (rows x3 5) (rows x0 5) (rows x1 5) (rows x2 5) (rows x5 5) (slab x4 5) (chainD x0 x3 x5 xs0 2)
    refine Eq.trans ?_ (congrArg (chunkC (rows x3 5) (rows x0 5) (rows x1 5) (rows x2 5) (rows x5 5) (slab x4 5)) (carry_B_2 c arg2 harg2 arg5 harg5 arg7 harg7 arg12 harg12 x0 x3 x5 xs0))
    rw [← readAt_rows harg5 x3 320 5 rfl (by decide) inb_S512x256_S64x256_320_0,
      ← readAt_rows harg2 x0 320 5 rfl (by decide) inb_S512x256_S64x256_320_0,
      ← readAt_rows harg3 x1 320 5 rfl (by decide) inb_S512x256_S64x256_320_0,
      ← readAt_rows harg4 x2 320 5 rfl (by decide) inb_S512x512_S64x512_320_0,
      ← readAt_rows harg7 x5 320 5 rfl (by decide) inb_S512x512_S64x512_320_0,
      ← readAt_slab harg6 x4 5 (by decide) inb_S1x8x512x256_S1x1x512x256_0_5_0_0]
    rfl
  · intro x
    refine (congrFun ?_ x).trans (ofChunks_emb (fun i => chunkC (rows x3 i) (rows x0 i) (rows x1 i) (rows x2 i) (rows x5 i) (slab x4 i) (chainD x0 x3 x5 xs0 (7 - i))) 384 6 rfl inb_S512x256_S64x256_384_0 x).symm
    show _ = chunkC (rows x3 6) (rows x0 6) (rows x1 6) (rows x2 6) (rows x5 6) (slab x4 6) (chainD x0 x3 x5 xs0 1)
    refine Eq.trans ?_ (congrArg (chunkC (rows x3 6) (rows x0 6) (rows x1 6) (rows x2 6) (rows x5 6) (slab x4 6)) (carry_B_1 c arg2 harg2 arg5 harg5 arg7 harg7 arg12 harg12 x0 x3 x5 xs0))
    rw [← readAt_rows harg5 x3 384 6 rfl (by decide) inb_S512x256_S64x256_384_0,
      ← readAt_rows harg2 x0 384 6 rfl (by decide) inb_S512x256_S64x256_384_0,
      ← readAt_rows harg3 x1 384 6 rfl (by decide) inb_S512x256_S64x256_384_0,
      ← readAt_rows harg4 x2 384 6 rfl (by decide) inb_S512x512_S64x512_384_0,
      ← readAt_rows harg7 x5 384 6 rfl (by decide) inb_S512x512_S64x512_384_0,
      ← readAt_slab harg6 x4 6 (by decide) inb_S1x8x512x256_S1x1x512x256_0_6_0_0]
    rfl
  · intro x
    refine (congrFun ?_ x).trans (ofChunks_emb (fun i => chunkC (rows x3 i) (rows x0 i) (rows x1 i) (rows x2 i) (rows x5 i) (slab x4 i) (chainD x0 x3 x5 xs0 (7 - i))) 448 7 rfl inb_S512x256_S64x256_448_0 x).symm
    show _ = chunkC (rows x3 7) (rows x0 7) (rows x1 7) (rows x2 7) (rows x5 7) (slab x4 7) (chainD x0 x3 x5 xs0 0)
    refine Eq.trans ?_ (congrArg (chunkC (rows x3 7) (rows x0 7) (rows x1 7) (rows x2 7) (rows x5 7) (slab x4 7)) (readAt_all harg12 xs0 inb_S512x256_S512x256_0_0))
    rw [← readAt_rows harg5 x3 448 7 rfl (by decide) inb_S512x256_S64x256_448_0,
      ← readAt_rows harg2 x0 448 7 rfl (by decide) inb_S512x256_S64x256_448_0,
      ← readAt_rows harg3 x1 448 7 rfl (by decide) inb_S512x256_S64x256_448_0,
      ← readAt_rows harg4 x2 448 7 rfl (by decide) inb_S512x512_S64x512_448_0,
      ← readAt_rows harg7 x5 448 7 rfl (by decide) inb_S512x512_S64x512_448_0,
      ← readAt_slab harg6 x4 7 (by decide) inb_S1x8x512x256_S1x1x512x256_0_7_0_0]
    rfl

end Cert.KernelIdeal.Bwd

end
-- ==== Proof.BwdValue.lean ====
module

public import proofs.«01_k».proof.Proof.BwdChunks
public import proofs.«01_k».proof.Proof.ChunkIdeal
public import Idealize.ShloMosaic.Lib.Pipeline.ValueKit

@[expose] public section

set_option maxRecDepth 16384

/-!
  The gradients the backward call writes, as plain sums: point `8·h + j` of the grid handles chunks `8·(7 - j) …` of head
  `h`, last chunk first, so that the cotangent it carries is the one of the recurrence over the chunks from the end.
-/

noncomputable section

namespace Cert.KernelIdeal.Bwd

open Cert.KernelIdeal Cert.KernelIdeal.Gen Cert.KernelIdeal.Gla
open Idealize.ShloMosaic Idealize.ShloMosaic.TcCoe
open Idealize.ShloMosaic.Pipeline (Dat)
open Cert.GlaSpec (Tile State)

variable (V : (c : Dev nD) → (b : Ref sig .tc) → Buf (Elt Ideal) ((c : Thread nD τ).loc b))

/-- The projections, the cumulative gates and the incoming gradient the call finds. -/
abbrev pIn (c : Dev nD) : S4096x6144.Idx → EReal := V c main_arg0
abbrev cIn (c : Dev nD) : S4096x1024.Idx → EReal := V c main_arg1
abbrev gIn (c : Dev nD) : S4096x2048.Idx → EReal := V c main_arg2

/-- The states the call finds are those each chunk starts from. -/
def Saved (c : Dev nD) : Prop :=
  V c main_v0_1 = fun y : S4x64x512x256.Idx => GlaSpec.stS (pIn V c) (cIn V c) (y 0).val (y 1).val (y 2) (y 3)

theorem idx1_0 : ∀ t : Fin cfg1.N, win1_0.index t = ![7 - t.val % 8, t.val / 8] :=
  (by decide +kernel : ∀ t : Fin grid1.N, win1_0.index t = ![7 - t.val % 8, t.val / 8])

theorem idx1_1 : ∀ t : Fin cfg1.N, win1_1.index t = ![7 - t.val % 8, t.val / 8 + 4] :=
  (by decide +kernel : ∀ t : Fin grid1.N, win1_1.index t = ![7 - t.val % 8, t.val / 8 + 4])

theorem idx1_2 : ∀ t : Fin cfg1.N, win1_2.index t = ![7 - t.val % 8, t.val / 8 + 4] :=
  (by decide +kernel : ∀ t : Fin grid1.N, win1_2.index t = ![7 - t.val % 8, t.val / 8 + 4])

theorem idx1_3 : ∀ t : Fin cfg1.N, win1_3.index t = ![7 - t.val % 8, t.val / 8] :=
  (by decide +kernel : ∀ t : Fin grid1.N, win1_3.index t = ![7 - t.val % 8, t.val / 8])

theorem idx1_5 : ∀ t : Fin cfg1.N, win1_5.index t = ![7 - t.val % 8, t.val / 8] :=
  (by decide +kernel : ∀ t : Fin grid1.N, win1_5.index t = ![7 - t.val % 8, t.val / 8])

theorem idx1_6 : ∀ t : Fin cfg1.N, win1_6.index t = ![7 - t.val % 8, t.val / 8] :=
  (by decide +kernel : ∀ t : Fin grid1.N, win1_6.index t = ![7 - t.val % 8, t.val / 8])

theorem idx1_7 : ∀ t : Fin cfg1.N, win1_7.index t = ![7 - t.val % 8, t.val / 8] :=
  (by decide +kernel : ∀ t : Fin grid1.N, win1_7.index t = ![7 - t.val % 8, t.val / 8])

theorem idx1_8 : ∀ t : Fin cfg1.N, win1_8.index t = ![7 - t.val % 8, t.val / 8] :=
  (by decide +kernel : ∀ t : Fin grid1.N, win1_8.index t = ![7 - t.val % 8, t.val / 8])

theorem idx1_9 : ∀ t : Fin cfg1.N, win1_9.index t = ![7 - t.val % 8, t.val / 8] :=
  (by decide +kernel : ∀ t : Fin grid1.N, win1_9.index t = ![7 - t.val % 8, t.val / 8])

theorem idx1_4 : ∀ t : Fin cfg1.N, win1_4.index t = ![t.val / 8, 7 - t.val % 8, 0, 0] :=
  (by decide +kernel : ∀ t : Fin grid1.N, win1_4.index t = ![t.val / 8, 7 - t.val % 8, 0, 0])

/-- Chunk `i`'s queries of a point's block. -/
theorem tile_q (c : Dev nD) (t : Fin cfg1.N) (i : ℕ) (hi : i < 8) :
    tl (rows (iblk V c 0 t) i) = GlaSpec.qT (pIn V c) (t.val / 8) (8 * (7 - t.val % 8) + i) := by
  have ht : t.val < 32 := lt_of_lt_of_eq t.isLt (by decide)
  funext s a
  unfold rows GlaSpec.qT GlaSpec.tile
  blk_simp [iblk]
  refine congrArg (V c main_arg0) ?_
  blk_ext [idx1_0]
  show t.val / 8 * 256 + a.val = (256 * (t.val / 8) + a.val) % 6144
  omega

/-- Chunk `i`'s keys of a point's block. -/
theorem tile_k (c : Dev nD) (t : Fin cfg1.N) (i : ℕ) (hi : i < 8) :
    tl (rows (iblk V c 1 t) i) = GlaSpec.kT (pIn V c) (t.val / 8) (8 * (7 - t.val % 8) + i) := by
  have ht : t.val < 32 := lt_of_lt_of_eq t.isLt (by decide)
  funext s a
  unfold rows GlaSpec.kT GlaSpec.tile
  blk_simp [iblk]
  refine congrArg (V c main_arg0) ?_
  blk_ext [idx1_1]
  show (t.val / 8 + 4) * 256 + a.val = (1024 + 256 * (t.val / 8) + a.val) % 6144
  omega

/-- Chunk `i`'s values of a point's block. -/
theorem tile_v (c : Dev nD) (t : Fin cfg1.N) (i : ℕ) (hi : i < 8) :
    tl (rows (iblk V c 2 t) i) = GlaSpec.vT (pIn V c) (t.val / 8) (8 * (7 - t.val % 8) + i) := by
  have ht : t.val < 32 := lt_of_lt_of_eq t.isLt (by decide)
  funext s a
  unfold rows GlaSpec.vT GlaSpec.tile
  blk_simp [iblk]
  refine congrArg (V c main_arg0) ?_
  blk_ext [idx1_2]
  show (t.val / 8 + 4) * 512 + a.val = (2048 + 512 * (t.val / 8) + a.val) % 6144
  omega

/-- Chunk `i`'s cumulative gates of a point's block. -/
theorem tile_c (c : Dev nD) (t : Fin cfg1.N) (i : ℕ) (hi : i < 8) :
    tl (rows (iblk V c 3 t) i) = GlaSpec.cT (cIn V c) (t.val / 8) (8 * (7 - t.val % 8) + i) := by
  have ht : t.val < 32 := lt_of_lt_of_eq t.isLt (by decide)
  funext s a
  unfold rows GlaSpec.cT GlaSpec.tile
  blk_simp [iblk]
  refine congrArg (V c main_arg1) ?_
  blk_ext [idx1_3]
  show t.val / 8 * 256 + a.val = (256 * (t.val / 8) + a.val) % 1024
  omega

/-- Chunk `i`'s rows of the incoming gradient of a point's block. -/
theorem tile_g (c : Dev nD) (t : Fin cfg1.N) (i : ℕ) (hi : i < 8) :
    tl (rows (iblk V c 5 t) i) = GlaSpec.gT (gIn V c) (t.val / 8) (8 * (7 - t.val % 8) + i) := by
  have ht : t.val < 32 := lt_of_lt_of_eq t.isLt (by decide)
  funext s a
  unfold rows GlaSpec.gT GlaSpec.tile
  blk_simp [iblk]
  refine congrArg (V c main_arg2) ?_
  blk_ext [idx1_5]
  show t.val / 8 * 512 + a.val = (512 * (t.val / 8) + a.val) % 2048
  omega

/-- The state chunk `i` of a point's block starts from. -/
theorem tile_s (c : Dev nD) (hS : Saved V c) (t : Fin cfg1.N) (i : ℕ) (hi : i < 8) :
    sl4 (slab (iblk V c 4 t) i) = GlaSpec.stS (pIn V c) (cIn V c) (t.val / 8) (8 * (7 - t.val % 8) + i) := by
  have ht : t.val < 32 := lt_of_lt_of_eq t.isLt (by decide)
  funext b a
  unfold slab
  show V c main_v0_1 (((cfg1.win 4).blk t).view.emb (ValueIdx.ix4 0 ⟨i % 8, _⟩ b a)) = _
  rw [hS]
  have e0 : (((cfg1.win 4).blk t).view.emb (ValueIdx.ix4 0 ⟨i % 8, Nat.mod_lt _ (by decide)⟩ b a) 0).val = t.val / 8 := by
    blk_simp [idx1_4] <;> omega
  have e1 : (((cfg1.win 4).blk t).view.emb (ValueIdx.ix4 0 ⟨i % 8, Nat.mod_lt _ (by decide)⟩ b a) 1).val = (8 * (7 - t.val % 8) + i) := by
    blk_simp [idx1_4]
    show (7 - t.val % 8) * 8 + i % 8 = _
    omega
  have e2 : ((cfg1.win 4).blk t).view.emb (ValueIdx.ix4 0 ⟨i % 8, Nat.mod_lt _ (by decide)⟩ b a) 2 = b := Fin.ext (by
    blk_simp [idx1_4]
    rfl)
  have e3 : ((cfg1.win 4).blk t).view.emb (ValueIdx.ix4 0 ⟨i % 8, Nat.mod_lt _ (by decide)⟩ b a) 3 = a := Fin.ext (by
    blk_simp [idx1_4]
    rfl)
  exact congr (congr (congr (congrArg (GlaSpec.stS (pIn V c) (cIn V c)) e0) e1) e2) e3

/-- The chain of a point's chunks, last first, is the recurrence of the cotangents, from where it starts. -/
theorem chain_eq (c : Dev nD) (t : Fin cfg1.N) (xs : FVec Ideal S512x256 .f32)
    (hx : sl xs = GlaSpec.stD (pIn V c) (cIn V c) (gIn V c) (t.val / 8) (8 * (t.val % 8))) :
    ∀ j : ℕ, j ≤ 8 → sl (chainD (iblk V c 0 t) (iblk V c 3 t) (iblk V c 5 t) xs j)
      = GlaSpec.stD (pIn V c) (cIn V c) (gIn V c) (t.val / 8) (8 * (t.val % 8) + j)
  | 0, _ => hx
  | j + 1, hj => by
    funext b a
    refine (stepD_apply _ _ _ _ b a).trans ?_
    rw [tile_c V c t (7 - j) (by omega), tile_q V c t (7 - j) (by omega), tile_g V c t (7 - j) (by omega),
      chain_eq c t xs hx j (by omega), show 8 * (7 - t.val % 8) + (7 - j) = 63 - (8 * (t.val % 8) + j) by omega]
    rfl

/-- The zero cotangent. -/
theorem zero_state : sl (k1_pay2 (F := Ideal)) = fun _ _ => 0 := by
  funext b a
  unfold k1_pay2
  pointwise

/-- The cotangent a point leaves: the one the next point's last chunk starts from. -/
theorem carried (c : Dev nD) : ∀ (n : ℕ) (hn : n < cfg1.N),
    sl (outsAt1 V c n hn).2.2.2.2 = GlaSpec.stD (pIn V c) (cIn V c) (gIn V c) (n / 8) (8 * (n % 8) + 8) := by
  intro n
  induction n with
  | zero =>
    intro hn
    refine (congrArg (fun z => sl z.2.2.2.2) (outsAt1_A V c ⟨0, hn⟩ rfl)).trans ?_
    dsimp only
    rw [last_A]
    exact chain_eq V c ⟨0, hn⟩ _ zero_state 8 (le_refl _)
  | succ n ih =>
    intro hn
    by_cases h0 : (n + 1) % 8 = 0
    · refine (congrArg (fun z => sl z.2.2.2.2) (outsAt1_A V c ⟨n + 1, hn⟩ h0)).trans ?_
      dsimp only
      rw [last_A]
      refine chain_eq V c ⟨n + 1, hn⟩ _ (zero_state.trans ?_) 8 (le_refl _)
      show _ = GlaSpec.stD (pIn V c) (cIn V c) (gIn V c) ((n + 1) / 8) (8 * ((n + 1) % 8))
      rw [h0]; rfl
    · refine (congrArg (fun z => sl z.2.2.2.2) (outsAt1_B V c ⟨n + 1, hn⟩ h0)).trans ?_
      dsimp only
      rw [last_B]
      refine chain_eq V c ⟨n + 1, hn⟩ _ ((ih _).trans ?_) 8 (le_refl _)
      show GlaSpec.stD (pIn V c) (cIn V c) (gIn V c) (n / 8) (8 * (n % 8) + 8)
        = GlaSpec.stD (pIn V c) (cIn V c) (gIn V c) ((n + 1) / 8) (8 * ((n + 1) % 8))
      rw [show n / 8 = (n + 1) / 8 by omega, show 8 * (n % 8) + 8 = 8 * ((n + 1) % 8) by omega]

/-- The queries' gradient a point writes. -/
theorem stored_dQ (c : Dev nD) (hS : Saved V c) (t : Fin cfg1.N) (y : S512x256.Idx) :
    (outsAt1 V c t.val t.isLt).1 y = GlaSpec.gradQ (GlaSpec.cT (cIn V c) (t.val / 8) (8 * (7 - t.val % 8) + (y 0).val / 64)) (GlaSpec.kT (pIn V c) (t.val / 8) (8 * (7 - t.val % 8) + (y 0).val / 64)) (GlaSpec.vT (pIn V c) (t.val / 8) (8 * (7 - t.val % 8) + (y 0).val / 64)) (GlaSpec.gT (gIn V c) (t.val / 8) (8 * (7 - t.val % 8) + (y 0).val / 64)) (GlaSpec.stS (pIn V c) (cIn V c) (t.val / 8) (8 * (7 - t.val % 8) + (y 0).val / 64)) ⟨(y 0).val % 64, Nat.mod_lt _ (by decide)⟩ (y 1) := by
  have hy : (y 0).val < 512 := (y 0).isLt
  by_cases h0 : t.val % 8 = 0
  · rw [outsAt1_A V c t h0]
    dsimp only
    rw [out_dQ_A]
    unfold ofChunks
    refine (chunkQ_apply _ _ _ _ _ ⟨(y 0).val % 64, Nat.mod_lt _ (by decide)⟩ (y 1)).trans ?_
    rw [tile_c V c t ((y 0).val / 64) (by omega), tile_k V c t ((y 0).val / 64) (by omega), tile_v V c t ((y 0).val / 64) (by omega), tile_g V c t ((y 0).val / 64) (by omega), tile_s V c hS t ((y 0).val / 64) (by omega)]
  · rw [outsAt1_B V c t h0]
    dsimp only
    rw [out_dQ_B]
    unfold ofChunks
    refine (chunkQ_apply _ _ _ _ _ ⟨(y 0).val % 64, Nat.mod_lt _ (by decide)⟩ (y 1)).trans ?_
    rw [tile_c V c t ((y 0).val / 64) (by omega), tile_k V c t ((y 0).val / 64) (by omega), tile_v V c t ((y 0).val / 64) (by omega), tile_g V c t ((y 0).val / 64) (by omega), tile_s V c hS t ((y 0).val / 64) (by omega)]

/-- THE QUERIES' GRADIENT. -/
theorem final_dQ (c : Dev nD) (hS : Saved V c) : (dat V c).arrAt 6 cfg1.N = GlaSpec.dQ (pIn V c) (cIn V c) (gIn V c) := by
  refine (dat V c).arrAt_eq_of_covers 6 _ (by decide +kernel) fun t hf y => ?_
  have ht : t.val < 32 := lt_of_lt_of_eq t.isLt (by decide)
  have hy0 : (y 0).val < 512 := (y 0).isLt
  have hy1 : (y 1).val < 256 := (y 1).isLt
  show (dat V c).after 6 t y = _
  refine ((congrFun (after1_6 V c t) y).trans (stored_dQ V c hS t y)).trans ?_
  refine (GlaSpec.dQ_at (pIn V c) (cIn V c) (gIn V c) (((cfg1.win 6).blk t).view.emb y) (t.val / 8) (8 * (7 - t.val % 8) + (y 0).val / 64)
    ⟨(y 0).val % 64, Nat.mod_lt _ (by decide)⟩ (y 1) ?_ ?_).symm
  · blk_simp [idx1_6]
    show (7 - t.val % 8) * 512 + (y 0).val = 64 * (8 * (7 - t.val % 8) + (y 0).val / 64) + (y 0).val % 64
    omega
  · blk_simp [idx1_6]
    show t.val / 8 * 256 + (y 1).val = 256 * (t.val / 8) + (y 1).val
    omega

/-- The keys' gradient a point writes. -/
theorem stored_dK (c : Dev nD) (t : Fin cfg1.N) (y : S512x256.Idx) :
    (outsAt1 V c t.val t.isLt).2.1 y = GlaSpec.gradK (GlaSpec.cT (cIn V c) (t.val / 8) (8 * (7 - t.val % 8) + (y 0).val / 64)) (GlaSpec.qT (pIn V c) (t.val / 8) (8 * (7 - t.val % 8) + (y 0).val / 64)) (GlaSpec.vT (pIn V c) (t.val / 8) (8 * (7 - t.val % 8) + (y 0).val / 64)) (GlaSpec.gT (gIn V c) (t.val / 8) (8 * (7 - t.val % 8) + (y 0).val / 64)) (GlaSpec.stD (pIn V c) (cIn V c) (gIn V c) (t.val / 8) (63 - (8 * (7 - t.val % 8) + (y 0).val / 64))) ⟨(y 0).val % 64, Nat.mod_lt _ (by decide)⟩ (y 1) := by
  have hy : (y 0).val < 512 := (y 0).isLt
  have hd : 8 * (t.val % 8) + (7 - (y 0).val / 64) = 63 - (8 * (7 - t.val % 8) + (y 0).val / 64) := by omega
  by_cases h0 : t.val % 8 = 0
  · rw [outsAt1_A V c t h0]
    dsimp only
    rw [out_dK_A]
    unfold ofChunks
    refine (chunkK_apply _ _ _ _ _ ⟨(y 0).val % 64, Nat.mod_lt _ (by decide)⟩ (y 1)).trans ?_
    rw [tile_c V c t ((y 0).val / 64) (by omega), tile_q V c t ((y 0).val / 64) (by omega), tile_v V c t ((y 0).val / 64) (by omega), tile_g V c t ((y 0).val / 64) (by omega),
      chain_eq V c t _ (zero_state.trans (by rw [h0]; rfl)) (7 - (y 0).val / 64) (by omega), hd]
  · rw [outsAt1_B V c t h0]
    dsimp only
    rw [out_dK_B]
    unfold ofChunks
    refine (chunkK_apply _ _ _ _ _ ⟨(y 0).val % 64, Nat.mod_lt _ (by decide)⟩ (y 1)).trans ?_
    rw [tile_c V c t ((y 0).val / 64) (by omega), tile_q V c t ((y 0).val / 64) (by omega), tile_v V c t ((y 0).val / 64) (by omega), tile_g V c t ((y 0).val / 64) (by omega),
      chain_eq V c t _ ((carried V c _ _).trans (by rw [show (t.val - 1) / 8 = t.val / 8 by omega, show 8 * ((t.val - 1) % 8) + 8 = 8 * (t.val % 8) by omega])) (7 - (y 0).val / 64) (by omega), hd]

/-- THE KEYS' GRADIENT. -/
theorem final_dK (c : Dev nD) : (dat V c).arrAt 7 cfg1.N = GlaSpec.dK (pIn V c) (cIn V c) (gIn V c) := by
  refine (dat V c).arrAt_eq_of_covers 7 _ (by decide +kernel) fun t hf y => ?_
  have ht : t.val < 32 := lt_of_lt_of_eq t.isLt (by decide)
  have hy0 : (y 0).val < 512 := (y 0).isLt
  have hy1 : (y 1).val < 256 := (y 1).isLt
  show (dat V c).after 7 t y = _
  refine ((congrFun (after1_7 V c t) y).trans (stored_dK V c t y)).trans ?_
  refine (GlaSpec.dK_at (pIn V c) (cIn V c) (gIn V c) (((cfg1.win 7).blk t).view.emb y) (t.val / 8) (8 * (7 - t.val % 8) + (y 0).val / 64)
    ⟨(y 0).val % 64, Nat.mod_lt _ (by decide)⟩ (y 1) ?_ ?_).symm
  · blk_simp [idx1_7]
    show (7 - t.val % 8) * 512 + (y 0).val = 64 * (8 * (7 - t.val % 8) + (y 0).val / 64) + (y 0).val % 64
    omega
  · blk_simp [idx1_7]
    show t.val / 8 * 256 + (y 1).val = 256 * (t.val / 8) + (y 1).val
    omega

/-- The values' gradient a point writes. -/
theorem stored_dV (c : Dev nD) (t : Fin cfg1.N) (y : S512x512.Idx) :
    (outsAt1 V c t.val t.isLt).2.2.1 y = GlaSpec.gradV (GlaSpec.cT (cIn V c) (t.val / 8) (8 * (7 - t.val % 8) + (y 0).val / 64)) (GlaSpec.qT (pIn V c) (t.val / 8) (8 * (7 - t.val % 8) + (y 0).val / 64)) (GlaSpec.kT (pIn V c) (t.val / 8) (8 * (7 - t.val % 8) + (y 0).val / 64)) (GlaSpec.gT (gIn V c) (t.val / 8) (8 * (7 - t.val % 8) + (y 0).val / 64)) (GlaSpec.stD (pIn V c) (cIn V c) (gIn V c) (t.val / 8) (63 - (8 * (7 - t.val % 8) + (y 0).val / 64))) ⟨(y 0).val % 64, Nat.mod_lt _ (by decide)⟩ (y 1) := by
  have hy : (y 0).val < 512 := (y 0).isLt
  have hd : 8 * (t.val % 8) + (7 - (y 0).val / 64) = 63 - (8 * (7 - t.val % 8) + (y 0).val / 64) := by omega
  by_cases h0 : t.val % 8 = 0
  · rw [outsAt1_A V c t h0]
    dsimp only
    rw [out_dV_A]
    unfold ofChunks
    refine (chunkV_apply _ _ _ _ _ ⟨(y 0).val % 64, Nat.mod_lt _ (by decide)⟩ (y 1)).trans ?_
    rw [tile_c V c t ((y 0).val / 64) (by omega), tile_q V c t ((y 0).val / 64) (by omega), tile_k V c t ((y 0).val / 64) (by omega), tile_g V c t ((y 0).val / 64) (by omega),
      chain_eq V c t _ (zero_state.trans (by rw [h0]; rfl)) (7 - (y 0).val / 64) (by omega), hd]
  · rw [outsAt1_B V c t h0]
    dsimp only
    rw [out_dV_B]
    unfold ofChunks
    refine (chunkV_apply _ _ _ _ _ ⟨(y 0).val % 64, Nat.mod_lt _ (by decide)⟩ (y 1)).trans ?_
    rw [tile_c V c t ((y 0).val / 64) (by omega), tile_q V c t ((y 0).val / 64) (by omega), tile_k V c t ((y 0).val / 64) (by omega), tile_g V c t ((y 0).val / 64) (by omega),
      chain_eq V c t _ ((carried V c _ _).trans (by rw [show (t.val - 1) / 8 = t.val / 8 by omega, show 8 * ((t.val - 1) % 8) + 8 = 8 * (t.val % 8) by omega])) (7 - (y 0).val / 64) (by omega), hd]

/-- THE VALUES' GRADIENT. -/
theorem final_dV (c : Dev nD) : (dat V c).arrAt 8 cfg1.N = GlaSpec.dV (pIn V c) (cIn V c) (gIn V c) := by
  refine (dat V c).arrAt_eq_of_covers 8 _ (by decide +kernel) fun t hf y => ?_
  have ht : t.val < 32 := lt_of_lt_of_eq t.isLt (by decide)
  have hy0 : (y 0).val < 512 := (y 0).isLt
  have hy1 : (y 1).val < 512 := (y 1).isLt
  show (dat V c).after 8 t y = _
  refine ((congrFun (after1_8 V c t) y).trans (stored_dV V c t y)).trans ?_
  refine (GlaSpec.dV_at (pIn V c) (cIn V c) (gIn V c) (((cfg1.win 8).blk t).view.emb y) (t.val / 8) (8 * (7 - t.val % 8) + (y 0).val / 64)
    ⟨(y 0).val % 64, Nat.mod_lt _ (by decide)⟩ (y 1) ?_ ?_).symm
  · blk_simp [idx1_8]
    show (7 - t.val % 8) * 512 + (y 0).val = 64 * (8 * (7 - t.val % 8) + (y 0).val / 64) + (y 0).val % 64
    omega
  · blk_simp [idx1_8]
    show t.val / 8 * 512 + (y 1).val = 512 * (t.val / 8) + (y 1).val
    omega

/-- The cumulative gates' gradient a point writes. -/
theorem stored_dC (c : Dev nD) (hS : Saved V c) (t : Fin cfg1.N) (y : S512x256.Idx) :
    (outsAt1 V c t.val t.isLt).2.2.2.1 y = GlaSpec.gradC (GlaSpec.cT (cIn V c) (t.val / 8) (8 * (7 - t.val % 8) + (y 0).val / 64)) (GlaSpec.qT (pIn V c) (t.val / 8) (8 * (7 - t.val % 8) + (y 0).val / 64)) (GlaSpec.kT (pIn V c) (t.val / 8) (8 * (7 - t.val % 8) + (y 0).val / 64)) (GlaSpec.vT (pIn V c) (t.val / 8) (8 * (7 - t.val % 8) + (y 0).val / 64)) (GlaSpec.gT (gIn V c) (t.val / 8) (8 * (7 - t.val % 8) + (y 0).val / 64)) (GlaSpec.stS (pIn V c) (cIn V c) (t.val / 8) (8 * (7 - t.val % 8) + (y 0).val / 64)) (GlaSpec.stD (pIn V c) (cIn V c) (gIn V c) (t.val / 8) (63 - (8 * (7 - t.val % 8) + (y 0).val / 64))) ⟨(y 0).val % 64, Nat.mod_lt _ (by decide)⟩ (y 1) := by
  have hy : (y 0).val < 512 := (y 0).isLt
  have hd : 8 * (t.val % 8) + (7 - (y 0).val / 64) = 63 - (8 * (7 - t.val % 8) + (y 0).val / 64) := by omega
  by_cases h0 : t.val % 8 = 0
  · rw [outsAt1_A V c t h0]
    dsimp only
    rw [out_dC_A]
    unfold ofChunks
    refine (chunkC_apply _ _ _ _ _ _ _ ⟨(y 0).val % 64, Nat.mod_lt _ (by decide)⟩ (y 1)).trans ?_
    rw [tile_c V c t ((y 0).val / 64) (by omega), tile_q V c t ((y 0).val / 64) (by omega), tile_k V c t ((y 0).val / 64) (by omega), tile_v V c t ((y 0).val / 64) (by omega), tile_g V c t ((y 0).val / 64) (by omega), tile_s V c hS t ((y 0).val / 64) (by omega),
      chain_eq V c t _ (zero_state.trans (by rw [h0]; rfl)) (7 - (y 0).val / 64) (by omega), hd]
  · rw [outsAt1_B V c t h0]
    dsimp only
    rw [out_dC_B]
    unfold ofChunks
    refine (chunkC_apply _ _ _ _ _ _ _ ⟨(y 0).val % 64, Nat.mod_lt _ (by decide)⟩ (y 1)).trans ?_
    rw [tile_c V c t ((y 0).val / 64) (by omega), tile_q V c t ((y 0).val / 64) (by omega), tile_k V c t ((y 0).val / 64) (by omega), tile_v V c t ((y 0).val / 64) (by omega), tile_g V c t ((y 0).val / 64) (by omega), tile_s V c hS t ((y 0).val / 64) (by omega),
      chain_eq V c t _ ((carried V c _ _).trans (by rw [show (t.val - 1) / 8 = t.val / 8 by omega, show 8 * ((t.val - 1) % 8) + 8 = 8 * (t.val % 8) by omega])) (7 - (y 0).val / 64) (by omega), hd]

/-- THE CUMULATIVE GATES' GRADIENT. -/
theorem final_dC (c : Dev nD) (hS : Saved V c) : (dat V c).arrAt 9 cfg1.N = GlaSpec.dC (pIn V c) (cIn V c) (gIn V c) := by
  refine (dat V c).arrAt_eq_of_covers 9 _ (by decide +kernel) fun t hf y => ?_
  have ht : t.val < 32 := lt_of_lt_of_eq t.isLt (by decide)
  have hy0 : (y 0).val < 512 := (y 0).isLt
  have hy1 : (y 1).val < 256 := (y 1).isLt
  show (dat V c).after 9 t y = _
  refine ((congrFun (after1_9 V c t) y).trans (stored_dC V c hS t y)).trans ?_
  refine (GlaSpec.dC_at (pIn V c) (cIn V c) (gIn V c) (((cfg1.win 9).blk t).view.emb y) (t.val / 8) (8 * (7 - t.val % 8) + (y 0).val / 64)
    ⟨(y 0).val % 64, Nat.mod_lt _ (by decide)⟩ (y 1) ?_ ?_).symm
  · blk_simp [idx1_9]
    show (7 - t.val % 8) * 512 + (y 0).val = 64 * (8 * (7 - t.val % 8) + (y 0).val / 64) + (y 0).val % 64
    omega
  · blk_simp [idx1_9]
    show t.val / 8 * 256 + (y 1).val = 256 * (t.val / 8) + (y 1).val
    omega

end Cert.KernelIdeal.Bwd

end
-- ==== Proof.KerValue.lean ====
module

public import proofs.«01_k».proof.Proof.Run
public import proofs.«01_k».proof.Proof.FwdValue
public import proofs.«01_k».proof.Proof.BwdValue

@[expose] public section

/-!
  What the two calls leave in the program's four results: the gradients of the specification, of the arguments.
-/

noncomputable section

namespace Cert.KernelIdeal.Gla

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

/-- The three arguments, as arrays of extended reals. -/
abbrev argP (c : Dev nD) : S4096x6144.Idx → EReal := m ((c.tc : Thread nD τ).loc main_arg0)
abbrev argC (c : Dev nD) : S4096x1024.Idx → EReal := m ((c.tc : Thread nD τ).loc main_arg1)
abbrev argG (c : Dev nD) : S4096x2048.Idx → EReal := m ((c.tc : Thread nD τ).loc main_arg2)

/-- The backward call finds the arguments as launched. -/
theorem W1_p (c : Dev nD) : tcRead (W1 m) c main_arg0 = argP m c := W1_in0 m c 0 rfl
theorem W1_c (c : Dev nD) : tcRead (W1 m) c main_arg1 = argC m c := W1_in0 m c 3 rfl
theorem W1_g (c : Dev nD) : tcRead (W1 m) c main_arg2 = argG m c := W1_do m c

/-- It finds the states that the forward call saved. -/
theorem W1_saved (c : Dev nD) : Bwd.Saved (tcRead (W1 m)) c := by
  unfold Bwd.Saved Bwd.pIn Bwd.cIn
  rw [W1_p, W1_c]
  exact ((Fwd.dat (tcRead (W0 m)) c).withArrays_arrAt launch₀0.sharedIn (W0 m c) (Fwd.A_eq (tcRead (W0 m)) c) 5).trans
    (Fwd.states (tcRead (W0 m)) c)

/-- A result of the backward call, after it. -/
theorem W2_out (c : Dev nD) (w : Fin cfg1.W) :
    W2 m c (Proc.devRef .tc (Pipeline.arrRef spec1 w)) = (Bwd.dat (tcRead (W1 m)) c).arrAt w cfg1.N :=
  (Bwd.dat (tcRead (W1 m)) c).withArrays_arrAt launch₀1.sharedIn (W1 m c) (Bwd.A_eq (tcRead (W1 m)) c) w

theorem W2_dQ (c : Dev nD) : W2 m c (Proc.devRef .tc main_v1_0) = GlaSpec.dQ (argP m c) (argC m c) (argG m c) := by
  refine (W2_out m c 6).trans ((Bwd.final_dQ (tcRead (W1 m)) c (W1_saved m c)).trans ?_)
  unfold Bwd.pIn Bwd.cIn Bwd.gIn
  rw [W1_p, W1_c, W1_g]

theorem W2_dK (c : Dev nD) : W2 m c (Proc.devRef .tc main_v1_1) = GlaSpec.dK (argP m c) (argC m c) (argG m c) := by
  refine (W2_out m c 7).trans ((Bwd.final_dK (tcRead (W1 m)) c).trans ?_)
  unfold Bwd.pIn Bwd.cIn Bwd.gIn
  rw [W1_p, W1_c, W1_g]

theorem W2_dV (c : Dev nD) : W2 m c (Proc.devRef .tc main_v1_2) = GlaSpec.dV (argP m c) (argC m c) (argG m c) := by
  refine (W2_out m c 8).trans ((Bwd.final_dV (tcRead (W1 m)) c).trans ?_)
  unfold Bwd.pIn Bwd.cIn Bwd.gIn
  rw [W1_p, W1_c, W1_g]

theorem W2_dC (c : Dev nD) : W2 m c (Proc.devRef .tc main_v1_3) = GlaSpec.dC (argP m c) (argC m c) (argG m c) := by
  refine (W2_out m c 9).trans ((Bwd.final_dC (tcRead (W1 m)) c (W1_saved m c)).trans ?_)
  unfold Bwd.pIn Bwd.cIn Bwd.gIn
  rw [W1_p, W1_c, W1_g]

/-- THE KERNEL'S VALUES: every execution of the idealized program ends with the four gradients of the specification, the
    arguments as launched and every counter at zero. -/
theorem run_values : θ_run defs (onTc (τ := τ) (main (F := Ideal))) ⟨m, fun _ => 0, ρ⟩ (fun r => ∀ c : Dev nD,
      r.2.mem ((c.tc : Thread nD τ).loc main_v1_0) = GlaSpec.dQ (argP m c) (argC m c) (argG m c)
      ∧ r.2.mem ((c.tc : Thread nD τ).loc main_v1_1) = GlaSpec.dK (argP m c) (argC m c) (argG m c)
      ∧ r.2.mem ((c.tc : Thread nD τ).loc main_v1_2) = GlaSpec.dV (argP m c) (argC m c) (argG m c)
      ∧ r.2.mem ((c.tc : Thread nD τ).loc main_v1_3) = GlaSpec.dC (argP m c) (argC m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h.1 c _ (Pipeline.devRef_mem_ucRefs (b := main_v1_0) (by decide))).trans (W2_dQ m c),
     (h.1 c _ (Pipeline.devRef_mem_ucRefs (b := main_v1_1) (by decide))).trans (W2_dK m c),
     (h.1 c _ (Pipeline.devRef_mem_ucRefs (b := main_v1_2) (by decide))).trans (W2_dV m c),
     (h.1 c _ (Pipeline.devRef_mem_ucRefs (b := main_v1_3) (by decide))).trans (W2_dC m c),
     (h.1 c _ (Pipeline.devRef_mem_ucRefs (b := main_arg0) (by decide))).trans ((W2_in1 m c 0 rfl).trans (W1_in0 m c 0 rfl)),
     (h.1 c _ (Pipeline.devRef_mem_ucRefs (b := main_arg1) (by decide))).trans ((W2_in1 m c 3 rfl).trans (W1_in0 m c 3 rfl)),
     (h.1 c _ (Pipeline.devRef_mem_ucRefs (b := main_arg2) (by decide))).trans ((W2_in1 m c 5 rfl).trans (W1_do m c))⟩) (run m ρ)

end Cert.KernelIdeal.Gla

end
-- ==== Proof.RefOps.lean ====
module

public import proofs.«01_k».proof.Proof.Gen.ReferenceIdeal
public import Idealize.ShloMosaic.Lib.Pipeline.Kit
public import Idealize.ShloMosaic.Lib.Pipeline.Regions
public import Idealize.ShloMosaic.Lib.Pipeline.RegionsLoop
public import Idealize.ShloMosaic.Lib.StableHlo.RunLoop

@[expose] public section

set_option maxRecDepth 1580

noncomputable section

namespace Cert.ReferenceIdeal.Gla

open Cert.ReferenceIdeal Cert.ReferenceIdeal.Gen
open Idealize.ShloMosaic Idealize.ShloMosaic.TcCoe
open Idealize.ShloMosaic.StableHlo (TRef unary_bufs_sub unary nullary_bufs_sub binary_bufs_sub binary tcRefs forall_writes_sub_of_map nullary reshape_bufs_sub unaryIndexed_bufs_sub binaryIndexed_bufs_sub ternary_bufs_sub chain_seq_cons chainK_seq_cons seq)
open Idealize.SL Idealize.SL.RA Idealize.SL.BI
open scoped Idealize.SL.BI
open Idealize.SL.BI.BIBase Idealize.SL.Sem

variable {F : FTy → Type} [FloatOps F]

/-- The arrays of a shape and an element type. -/
abbrev Arr (F : FTy → Type) (s : Shape) (e : EltTy) : Type := (⟨s, e⟩ : BufTy).Contents (Elt F)

/-- Operations of @main, in order. -/
abbrev main_part0_ops0 : List (HloOp τ sig (Elt F)) :=
  [ unary main_arg0 main_v0 ((extractStridedSlice S4096x1024 ![0, 0] · slices_S4096x6144_S4096x1024_0_0) : Arr F S4096x6144 .f32 → Arr F S4096x1024 .f32),
    unary main_arg0 main_v1 ((extractStridedSlice S4096x1024 ![0, 1024] · slices_S4096x6144_S4096x1024_0_1024) : Arr F S4096x6144 .f32 → Arr F S4096x1024 .f32),
    unary main_arg0 main_v2 ((extractStridedSlice S4096x2048 ![0, 2048] · slices_S4096x6144_S4096x2048_0_2048) : Arr F S4096x6144 .f32 → Arr F S4096x2048 .f32),
    unary main_arg0 main_v3 ((extractStridedSlice S4096x2048 ![0, 4096] · slices_S4096x6144_S4096x2048_0_4096) : Arr F S4096x6144 .f32 → Arr F S4096x2048 .f32),
    StableHlo.reshape main_v0 main_v4 (rfl : (.f32 : EltTy) = .f32) shapeCasts_S4096x1024_S64x64x4x256,
    unary main_v4 main_v5 ((transpose S64x4x64x256 [0, 2, 1, 3] · transposes_S64x64x4x256_S64x4x64x256_0_2_1_3) : Arr F S64x64x4x256 .f32 → Arr F S64x4x64x256 .f32),
    nullary main_cst (constant S_ .f32 0x3D800000#32),
    unary main_cst main_v6 (broadcastInDim S64x4x64x256 ![] bcast_S_S64x4x64x256 : Arr F S_ .f32 → Arr F S64x4x64x256 .f32),
    binary main_v5 main_v6 main_v7 (mulf : Arr F S64x4x64x256 .f32 → Arr F S64x4x64x256 .f32 → Arr F S64x4x64x256 .f32),
    StableHlo.reshape main_v1 main_v8 (rfl : (.f32 : EltTy) = .f32) shapeCasts_S4096x1024_S64x64x4x256,
    unary main_v8 main_v9 ((transpose S64x4x64x256 [0, 2, 1, 3] · transposes_S64x64x4x256_S64x4x64x256_0_2_1_3) : Arr F S64x64x4x256 .f32 → Arr F S64x4x64x256 .f32),
    StableHlo.reshape main_v2 main_v10 (rfl : (.f32 : EltTy) = .f32) shapeCasts_S4096x2048_S64x64x4x512,
    unary main_v10 main_v11 ((transpose S64x4x64x512 [0, 2, 1, 3] · transposes_S64x64x4x512_S64x4x64x512_0_2_1_3) : Arr F S64x64x4x512 .f32 → Arr F S64x4x64x512 .f32),
    StableHlo.reshape main_arg1 main_v12 (rfl : (.f32 : EltTy) = .f32) shapeCasts_S4096x1024_S64x64x4x256,
    unary main_v12 main_v13 ((transpose S64x4x64x256 [0, 2, 1, 3] · transposes_S64x64x4x256_S64x4x64x256_0_2_1_3) : Arr F S64x64x4x256 .f32 → Arr F S64x4x64x256 .f32),
    unary main_v13 main_v14 ((extractStridedSlice S64x4x1x256 ![0, 0, 63, 0] · slices_S64x4x64x256_S64x4x1x256_0_0_63_0) : Arr F S64x4x64x256 .f32 → Arr F S64x4x1x256 .f32),
    unary main_v13 main_v15 (Host.exp : Arr F S64x4x64x256 .f32 → Arr F S64x4x64x256 .f32),
    binary main_v7 main_v15 main_v16 (mulf : Arr F S64x4x64x256 .f32 → Arr F S64x4x64x256 .f32 → Arr F S64x4x64x256 .f32),
    unary main_v13 main_v17 (Host.negf : Arr F S64x4x64x256 .f32 → Arr F S64x4x64x256 .f32),
    unary main_v17 main_v18 (Host.exp : Arr F S64x4x64x256 .f32 → Arr F S64x4x64x256 .f32),
    binary main_v9 main_v18 main_v19 (mulf : Arr F S64x4x64x256 .f32 → Arr F S64x4x64x256 .f32 → Arr F S64x4x64x256 .f32),
    unary main_v14 main_v20 (broadcastInDim S64x4x64x256 ![0, 1, 2, 3] bcast_S64x4x1x256_S64x4x64x256_0_1_2_3 : Arr F S64x4x1x256 .f32 → Arr F S64x4x64x256 .f32),
    binary main_v20 main_v13 main_v21 (subf : Arr F S64x4x64x256 .f32 → Arr F S64x4x64x256 .f32 → Arr F S64x4x64x256 .f32),
    unary main_v21 main_v22 (Host.exp : Arr F S64x4x64x256 .f32 → Arr F S64x4x64x256 .f32),
    binary main_v9 main_v22 main_v23 (mulf : Arr F S64x4x64x256 .f32 → Arr F S64x4x64x256 .f32 → Arr F S64x4x64x256 .f32),
    nullary main_c (constantI S_ 1 1#1),
    unary main_c main_v24 (broadcastInDim S64x64 ![] bcast_S_S64x64 : Arr F S_ .i1 → Arr F S64x64 .i1) ]
theorem main_part0_ops0_sub : (main_part0_ops0 : List (HloOp τ sig (Elt F))).Forall fun op => op.bufs ⊆ tcRefs τ sig :=
  ⟨unary_bufs_sub .., unary_bufs_sub .., unary_bufs_sub .., unary_bufs_sub .., reshape_bufs_sub .., unary_bufs_sub .., nullary_bufs_sub .., unary_bufs_sub .., binary_bufs_sub .., reshape_bufs_sub .., unary_bufs_sub .., reshape_bufs_sub .., unary_bufs_sub .., reshape_bufs_sub .., unary_bufs_sub .., unary_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub ..⟩
/-- The references it writes. -/
abbrev main_part0_ops0_W : List (Ref sig .tc) := [main_v0, main_v1, main_v2, main_v3, main_v4, main_v5, main_cst, main_v6, main_v7, main_v8, main_v9, main_v10, main_v11, main_v12, main_v13, main_v14, main_v15, main_v16, main_v17, main_v18, main_v19, main_v20, main_v21, main_v22, main_v23, main_c, main_v24]
theorem main_part0_ops0_writes : (main_part0_ops0 : List (HloOp τ sig (Elt F))).Forall fun op => op.writes ⊆ (main_part0_ops0_W.map (Proc.devRef (τ := τ) .tc)).toFinset :=
  forall_writes_sub_of_map rfl

/-- Operations of @main, in order. -/
abbrev main_part0_ops1 : List (HloOp τ sig (Elt F)) :=
  [ TRef.nullary (.of main_call0_v0 : TRef sig ⟨S64x64, .i32⟩) (iotaInDim S64x64 32 0),
    TRef.nullary (.of main_call0_c : TRef sig ⟨S_, .i32⟩) (constantI S_ 32 0#32),
    TRef.unary (.of main_call0_c : TRef sig ⟨S_, .i32⟩) (.of main_call0_v1 : TRef sig ⟨S64x64, .i32⟩) (broadcastInDim S64x64 ![] bcast_S_S64x64),
    TRef.binary (.of main_call0_v0 : TRef sig ⟨S64x64, .i32⟩) (.of main_call0_v1 : TRef sig ⟨S64x64, .i32⟩) (.of main_call0_v2 : TRef sig ⟨S64x64, .i32⟩) addi,
    TRef.nullary (.of main_call0_v3 : TRef sig ⟨S64x64, .i32⟩) (iotaInDim S64x64 32 1),
    TRef.binary (.of main_call0_v2 : TRef sig ⟨S64x64, .i32⟩) (.of main_call0_v3 : TRef sig ⟨S64x64, .i32⟩) (.of main_call0_v4 : TRef sig ⟨S64x64, .i1⟩) (cmpi .sge),
    TRef.nullary (.of main_call0_c_0 : TRef sig ⟨S_, .i1⟩) (constantI S_ 1 0#1),
    TRef.unary (.of main_call0_c_0 : TRef sig ⟨S_, .i1⟩) (.of main_call0_v5 : TRef sig ⟨S64x64, .i1⟩) (broadcastInDim S64x64 ![] bcast_S_S64x64),
    TRef.ternary (.of main_call0_v4 : TRef sig ⟨S64x64, .i1⟩) (.of main_v24 : TRef sig ⟨S64x64, .i1⟩) (.of main_call0_v5 : TRef sig ⟨S64x64, .i1⟩) (.of main_v25 : TRef sig ⟨S64x64, .i1⟩) select ]
theorem main_part0_ops1_sub : (main_part0_ops1 : List (HloOp τ sig (Elt F))).Forall fun op => op.bufs ⊆ tcRefs τ sig :=
  ⟨nullary_bufs_sub .., nullary_bufs_sub .., unary_bufs_sub .., binary_bufs_sub .., nullary_bufs_sub .., binary_bufs_sub .., nullary_bufs_sub .., unary_bufs_sub .., ternary_bufs_sub ..⟩
/-- The references it writes. -/
abbrev main_part0_ops1_W : List (Ref sig .tc) := [main_call0_v0, main_call0_c, main_call0_v1, main_call0_v2, main_call0_v3, main_call0_v4, main_call0_c_0, main_call0_v5, main_v25]
theorem main_part0_ops1_writes : (main_part0_ops1 : List (HloOp τ sig (Elt F))).Forall fun op => op.writes ⊆ (main_part0_ops1_W.map (Proc.devRef (τ := τ) .tc)).toFinset :=
  forall_writes_sub_of_map rfl

/-- Operations of @main, in order. -/
abbrev main_part0_ops2 : List (HloOp τ sig (Elt F)) :=
  [ binary main_v16 main_v19 main_v26 ((fun l r => Host.dotGeneral dot_S64x4x64x256_S64x4x64x256_S64x4x64x64_3_3_2_2_01_01 none l r) : Arr F S64x4x64x256 .f32 → Arr F S64x4x64x256 .f32 → Arr F S64x4x64x64 .f32),
    nullary main_cst_0 (constant S_ .f32 0x00000000#32) ]
theorem main_part0_ops2_sub : (main_part0_ops2 : List (HloOp τ sig (Elt F))).Forall fun op => op.bufs ⊆ tcRefs τ sig :=
  ⟨binary_bufs_sub .., nullary_bufs_sub ..⟩
/-- The references it writes. -/
abbrev main_part0_ops2_W : List (Ref sig .tc) := [main_v26, main_cst_0]
theorem main_part0_ops2_writes : (main_part0_ops2 : List (HloOp τ sig (Elt F))).Forall fun op => op.writes ⊆ (main_part0_ops2_W.map (Proc.devRef (τ := τ) .tc)).toFinset :=
  forall_writes_sub_of_map rfl

/-- Operations of @main, in order. -/
abbrev main_part0_ops3 : List (HloOp τ sig (Elt F)) :=
  [ TRef.unary (.of main_cst_0 : TRef sig ⟨S_, .f32⟩) (.of main_call1_v0 : TRef sig ⟨S_, .f32⟩) id,
    TRef.unary (.of main_v25 : TRef sig ⟨S64x64, .i1⟩) (.of main_v27_1 : TRef sig ⟨S64x4x64x64, .i1⟩) (broadcastInDim S64x4x64x64 ![2, 3] bcast_S64x64_S64x4x64x64_2_3),
    TRef.unary (.of main_call1_v0 : TRef sig ⟨S_, .f32⟩) (.of main_call1_v2 : TRef sig ⟨S64x4x64x64, .f32⟩) (broadcastInDim S64x4x64x64 ![] bcast_S_S64x4x64x64),
    TRef.ternary (.of main_v27_1 : TRef sig ⟨S64x4x64x64, .i1⟩) (.of main_v26 : TRef sig ⟨S64x4x64x64, .f32⟩) (.of main_call1_v2 : TRef sig ⟨S64x4x64x64, .f32⟩) (.of main_v27_0 : TRef sig ⟨S64x4x64x64, .f32⟩) select,
    TRef.nullary (.of main_call1_cst : TRef sig ⟨S_, .f32⟩) (constant S_ .f32 0x00000000#32),
    TRef.unary (.of main_call1_cst : TRef sig ⟨S_, .f32⟩) (.of main_v27_2 : TRef sig ⟨S64x4x64x64, .f32⟩) (broadcastInDim S64x4x64x64 ![] bcast_S_S64x4x64x64) ]
theorem main_part0_ops3_sub : (main_part0_ops3 : List (HloOp τ sig (Elt F))).Forall fun op => op.bufs ⊆ tcRefs τ sig :=
  ⟨unary_bufs_sub .., unary_bufs_sub .., unary_bufs_sub .., ternary_bufs_sub .., nullary_bufs_sub .., unary_bufs_sub ..⟩
/-- The references it writes. -/
abbrev main_part0_ops3_W : List (Ref sig .tc) := [main_call1_v0, main_v27_1, main_call1_v2, main_v27_0, main_call1_cst, main_v27_2]
theorem main_part0_ops3_writes : (main_part0_ops3 : List (HloOp τ sig (Elt F))).Forall fun op => op.writes ⊆ (main_part0_ops3_W.map (Proc.devRef (τ := τ) .tc)).toFinset :=
  forall_writes_sub_of_map rfl

/-- Operations of @main, in order. -/
abbrev main_part0_ops4 : List (HloOp τ sig (Elt F)) :=
  [ binary main_v27_0 main_v11 main_v28 ((fun l r => Host.dotGeneral dot_S64x4x64x64_S64x4x64x512_S64x4x64x512_3_2_2_3_01_01 none l r) : Arr F S64x4x64x64 .f32 → Arr F S64x4x64x512 .f32 → Arr F S64x4x64x512 .f32),
    nullary main_cst_1 (constant S_ .f32 0x00000000#32),
    unary main_cst_1 main_v29 (broadcastInDim S4x256x512 ![] bcast_S_S4x256x512 : Arr F S_ .f32 → Arr F S4x256x512 .f32),
    StableHlo.reshape main_v14 main_v30 (rfl : (.f32 : EltTy) = .f32) shapeCasts_S64x4x1x256_S64x4x256,
    unary main_v30 main_v31 (Host.exp : Arr F S64x4x256 .f32 → Arr F S64x4x256 .f32),
    nullary main_cst_2 (constant S_ .f32 0x00000000#32),
    unary main_cst_2 main_v32 (broadcastInDim S64x4x64x512 ![] bcast_S_S64x4x64x512 : Arr F S_ .f32 → Arr F S64x4x64x512 .f32),
    nullary main_cst_3 (constant S_ .f32 0x00000000#32),
    unary main_cst_3 main_v33 (broadcastInDim S64x4x256x512 ![] bcast_S_S64x4x256x512 : Arr F S_ .f32 → Arr F S64x4x256x512 .f32),
    nullary main_cst_4 (constant S_ .f32 0x00000000#32),
    unary main_cst_4 main_v34 (broadcastInDim S64x4x256x1 ![] bcast_S_S64x4x256x1 : Arr F S_ .f32 → Arr F S64x4x256x1 .f32),
    nullary main_c_5 (constantI S_ 32 0#32),
    unary main_v16 main_v35_0 id,
    unary main_v23 main_v35_1 id,
    unary main_v11 main_v35_2 id,
    unary main_v31 main_v35_3 id,
    unary main_c_5 main_v35_4 id,
    unary main_v29 main_v35_5 id,
    unary main_v32 main_v35_6 id,
    unary main_v33 main_v35_7 id,
    unary main_v34 main_v35_8 id ]
theorem main_part0_ops4_sub : (main_part0_ops4 : List (HloOp τ sig (Elt F))).Forall fun op => op.bufs ⊆ tcRefs τ sig :=
  ⟨binary_bufs_sub .., nullary_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub ..⟩
/-- The references it writes. -/
abbrev main_part0_ops4_W : List (Ref sig .tc) := [main_v28, main_cst_1, main_v29, main_v30, main_v31, main_cst_2, main_v32, main_cst_3, main_v33, main_cst_4, main_v34, main_c_5, main_v35_0, main_v35_1, main_v35_2, main_v35_3, main_v35_4, main_v35_5, main_v35_6, main_v35_7, main_v35_8]
theorem main_part0_ops4_writes : (main_part0_ops4 : List (HloOp τ sig (Elt F))).Forall fun op => op.writes ⊆ (main_part0_ops4_W.map (Proc.devRef (τ := τ) .tc)).toFinset :=
  forall_writes_sub_of_map rfl

/-- Operations of @main, in order. -/
abbrev main_part0_ops5 : List (HloOp τ sig (Elt F)) :=
  [ binary main_v28 main_v35_6 main_v36 (addf : Arr F S64x4x64x512 .f32 → Arr F S64x4x64x512 .f32 → Arr F S64x4x64x512 .f32),
    unary main_v36 main_v37 ((transpose S64x64x4x512 [0, 2, 1, 3] · transposes_S64x4x64x512_S64x64x4x512_0_2_1_3) : Arr F S64x4x64x512 .f32 → Arr F S64x64x4x512 .f32),
    StableHlo.reshape main_v37 main_v38 (rfl : (.f32 : EltTy) = .f32) shapeCasts_S64x64x4x512_S4096x2048,
    unary main_arg2 main_v39 ((extf .f32 · bitsLt_bf16_f32) : Arr F S4096x2048 .bf16 → Arr F S4096x2048 .f32),
    nullary main_cst_6 (constant S_ .f32 0x00000000#32),
    unary main_cst_6 main_v40 (broadcastInDim S4x256x512 ![] bcast_S_S4x256x512 : Arr F S_ .f32 → Arr F S4x256x512 .f32),
    StableHlo.reshape main_v39 main_v41 (rfl : (.f32 : EltTy) = .f32) shapeCasts_S4096x2048_S64x64x4x512 ]
theorem main_part0_ops5_sub : (main_part0_ops5 : List (HloOp τ sig (Elt F))).Forall fun op => op.bufs ⊆ tcRefs τ sig :=
  ⟨binary_bufs_sub .., unary_bufs_sub .., reshape_bufs_sub .., unary_bufs_sub .., nullary_bufs_sub .., unary_bufs_sub .., reshape_bufs_sub ..⟩
/-- The references it writes. -/
abbrev main_part0_ops5_W : List (Ref sig .tc) := [main_v36, main_v37, main_v38, main_v39, main_cst_6, main_v40, main_v41]
theorem main_part0_ops5_writes : (main_part0_ops5 : List (HloOp τ sig (Elt F))).Forall fun op => op.writes ⊆ (main_part0_ops5_W.map (Proc.devRef (τ := τ) .tc)).toFinset :=
  forall_writes_sub_of_map rfl

/-- Operations of @main, in order. -/
abbrev main_part1_ops0 : List (HloOp τ sig (Elt F)) :=
  [ unary main_v41 main_v42 ((transpose S64x4x64x512 [0, 2, 1, 3] · transposes_S64x64x4x512_S64x4x64x512_0_2_1_3) : Arr F S64x64x4x512 .f32 → Arr F S64x4x64x512 .f32),
    nullary main_cst_7 (constant S_ .f32 0x00000000#32),
    unary main_cst_7 main_v43 (broadcastInDim S4x256x512 ![] bcast_S_S4x256x512 : Arr F S_ .f32 → Arr F S4x256x512 .f32),
    nullary main_cst_8 (constant S_ .f32 0x00000000#32),
    unary main_cst_8 main_v44 (broadcastInDim S64x4x64x256 ![] bcast_S_S64x4x64x256 : Arr F S_ .f32 → Arr F S64x4x64x256 .f32),
    nullary main_cst_9 (constant S_ .f32 0x00000000#32),
    unary main_cst_9 main_v45 (broadcastInDim S64x4x64x256 ![] bcast_S_S64x4x64x256 : Arr F S_ .f32 → Arr F S64x4x64x256 .f32),
    nullary main_cst_10 (constant S_ .f32 0x00000000#32),
    unary main_cst_10 main_v46 (broadcastInDim S64x4x64x512 ![] bcast_S_S64x4x64x512 : Arr F S_ .f32 → Arr F S64x4x64x512 .f32),
    nullary main_cst_11 (constant S_ .f32 0x00000000#32),
    unary main_cst_11 main_v47 (broadcastInDim S64x4x256 ![] bcast_S_S64x4x256 : Arr F S_ .f32 → Arr F S64x4x256 .f32),
    nullary main_c_12 (constantI S_ 32 0#32),
    unary main_v42 main_v48_0 id,
    unary main_v35_7 main_v48_1 id,
    unary main_v16 main_v48_2 id,
    unary main_v35_8 main_v48_3 id,
    unary main_v11 main_v48_4 id,
    unary main_v23 main_v48_5 id,
    unary main_c_12 main_v48_6 id,
    unary main_v43 main_v48_7 id,
    unary main_v44 main_v48_8 id,
    unary main_v45 main_v48_9 id,
    unary main_v46 main_v48_10 id,
    unary main_v47 main_v48_11 id ]
theorem main_part1_ops0_sub : (main_part1_ops0 : List (HloOp τ sig (Elt F))).Forall fun op => op.bufs ⊆ tcRefs τ sig :=
  ⟨unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The references it writes. -/
abbrev main_part1_ops0_W : List (Ref sig .tc) := [main_v42, main_cst_7, main_v43, main_cst_8, main_v44, main_cst_9, main_v45, main_cst_10, main_v46, main_cst_11, main_v47, main_c_12, main_v48_0, main_v48_1, main_v48_2, main_v48_3, main_v48_4, main_v48_5, main_v48_6, main_v48_7, main_v48_8, main_v48_9, main_v48_10, main_v48_11]
theorem main_part1_ops0_writes : (main_part1_ops0 : List (HloOp τ sig (Elt F))).Forall fun op => op.writes ⊆ (main_part1_ops0_W.map (Proc.devRef (τ := τ) .tc)).toFinset :=
  forall_writes_sub_of_map rfl

/-- Operations of @main, in order. -/
abbrev main_part1_ops1 : List (HloOp τ sig (Elt F)) :=
  [ binary main_v48_11 main_v31 main_v49 (mulf : Arr F S64x4x256 .f32 → Arr F S64x4x256 .f32 → Arr F S64x4x256 .f32),
    unary main_v49 main_v50 (broadcastInDim S64x4x1x256 ![0, 1, 3] bcast_S64x4x256_S64x4x1x256_0_1_3 : Arr F S64x4x256 .f32 → Arr F S64x4x1x256 .f32),
    binary main_v42 main_v27_0 main_v51 ((fun l r => Host.dotGeneral dot_S64x4x64x512_S64x4x64x64_S64x4x512x64_2_2_3_3_01_01 none l r) : Arr F S64x4x64x512 .f32 → Arr F S64x4x64x64 .f32 → Arr F S64x4x512x64 .f32),
    unary main_v51 main_v52 ((transpose S64x4x64x512 [0, 1, 3, 2] · transposes_S64x4x512x64_S64x4x64x512_0_1_3_2) : Arr F S64x4x512x64 .f32 → Arr F S64x4x64x512 .f32),
    binary main_v48_10 main_v52 main_v53 (addf : Arr F S64x4x64x512 .f32 → Arr F S64x4x64x512 .f32 → Arr F S64x4x64x512 .f32),
    binary main_v42 main_v11 main_v54 ((fun l r => Host.dotGeneral dot_S64x4x64x512_S64x4x64x512_S64x4x64x64_3_3_2_2_01_01 none l r) : Arr F S64x4x64x512 .f32 → Arr F S64x4x64x512 .f32 → Arr F S64x4x64x64 .f32) ]
theorem main_part1_ops1_sub : (main_part1_ops1 : List (HloOp τ sig (Elt F))).Forall fun op => op.bufs ⊆ tcRefs τ sig :=
  ⟨binary_bufs_sub .., unary_bufs_sub .., binary_bufs_sub .., unary_bufs_sub .., binary_bufs_sub .., binary_bufs_sub ..⟩
/-- The references it writes. -/
abbrev main_part1_ops1_W : List (Ref sig .tc) := [main_v49, main_v50, main_v51, main_v52, main_v53, main_v54]
theorem main_part1_ops1_writes : (main_part1_ops1 : List (HloOp τ sig (Elt F))).Forall fun op => op.writes ⊆ (main_part1_ops1_W.map (Proc.devRef (τ := τ) .tc)).toFinset :=
  forall_writes_sub_of_map rfl

/-- Operations of @main, in order. -/
abbrev main_part1_ops2 : List (HloOp τ sig (Elt F)) :=
  [ TRef.nullary (.of main_call19_cst : TRef sig ⟨S_, .f32⟩) (constant S_ .f32 0x00000000#32),
    TRef.unary (.of main_call19_cst : TRef sig ⟨S_, .f32⟩) (.of main_call19_v0 : TRef sig ⟨S64x4x64x64, .f32⟩) (broadcastInDim S64x4x64x64 ![] bcast_S_S64x4x64x64),
    TRef.ternary (.of main_v27_1 : TRef sig ⟨S64x4x64x64, .i1⟩) (.of main_v54 : TRef sig ⟨S64x4x64x64, .f32⟩) (.of main_call19_v0 : TRef sig ⟨S64x4x64x64, .f32⟩) (.of main_v55 : TRef sig ⟨S64x4x64x64, .f32⟩) select ]
theorem main_part1_ops2_sub : (main_part1_ops2 : List (HloOp τ sig (Elt F))).Forall fun op => op.bufs ⊆ tcRefs τ sig :=
  ⟨nullary_bufs_sub .., unary_bufs_sub .., ternary_bufs_sub ..⟩
/-- The references it writes. -/
abbrev main_part1_ops2_W : List (Ref sig .tc) := [main_call19_cst, main_call19_v0, main_v55]
theorem main_part1_ops2_writes : (main_part1_ops2 : List (HloOp τ sig (Elt F))).Forall fun op => op.writes ⊆ (main_part1_ops2_W.map (Proc.devRef (τ := τ) .tc)).toFinset :=
  forall_writes_sub_of_map rfl

/-- Operations of @main, in order. -/
abbrev main_part1_ops3 : List (HloOp τ sig (Elt F)) :=
  [ binary main_v55 main_v16 main_v56 ((fun l r => Host.dotGeneral dot_S64x4x64x64_S64x4x64x256_S64x4x64x256_2_2_3_3_01_01 none l r) : Arr F S64x4x64x64 .f32 → Arr F S64x4x64x256 .f32 → Arr F S64x4x64x256 .f32),
    binary main_v55 main_v19 main_v57 ((fun l r => Host.dotGeneral dot_S64x4x64x64_S64x4x64x256_S64x4x64x256_3_2_2_3_01_01 none l r) : Arr F S64x4x64x64 .f32 → Arr F S64x4x64x256 .f32 → Arr F S64x4x64x256 .f32),
    binary main_v48_8 main_v57 main_v58 (addf : Arr F S64x4x64x256 .f32 → Arr F S64x4x64x256 .f32 → Arr F S64x4x64x256 .f32),
    binary main_v9 main_v48_9 main_v59 (mulf : Arr F S64x4x64x256 .f32 → Arr F S64x4x64x256 .f32 → Arr F S64x4x64x256 .f32),
    binary main_v48_9 main_v22 main_v60 (mulf : Arr F S64x4x64x256 .f32 → Arr F S64x4x64x256 .f32 → Arr F S64x4x64x256 .f32),
    binary main_v59 main_v22 main_v61 (mulf : Arr F S64x4x64x256 .f32 → Arr F S64x4x64x256 .f32 → Arr F S64x4x64x256 .f32),
    nullary main_cst_13 (constant S_ .f32 0x00000000#32),
    binary main_v61 main_cst_13 main_v62 ((fun x v => Host.reduceAdd x v reducesTo_S64x4x64x256_S64x4x256_d2 h_S_) : Arr F S64x4x64x256 .f32 → Arr F S_ .f32 → Arr F S64x4x256 .f32),
    StableHlo.reshape main_v62 main_v63 (rfl : (.f32 : EltTy) = .f32) shapeCasts_S64x4x256_S64x4x1x256,
    unary main_v61 main_v64 (Host.negf : Arr F S64x4x64x256 .f32 → Arr F S64x4x64x256 .f32),
    binary main_v50 main_v63 main_v65 (addf : Arr F S64x4x1x256 .f32 → Arr F S64x4x1x256 .f32 → Arr F S64x4x1x256 .f32),
    binary main_v9 main_v56 main_v66 (mulf : Arr F S64x4x64x256 .f32 → Arr F S64x4x64x256 .f32 → Arr F S64x4x64x256 .f32),
    binary main_v56 main_v18 main_v67 (mulf : Arr F S64x4x64x256 .f32 → Arr F S64x4x64x256 .f32 → Arr F S64x4x64x256 .f32),
    binary main_v60 main_v67 main_v68 (addf : Arr F S64x4x64x256 .f32 → Arr F S64x4x64x256 .f32 → Arr F S64x4x64x256 .f32),
    binary main_v66 main_v18 main_v69 (mulf : Arr F S64x4x64x256 .f32 → Arr F S64x4x64x256 .f32 → Arr F S64x4x64x256 .f32),
    unary main_v69 main_v70 (Host.negf : Arr F S64x4x64x256 .f32 → Arr F S64x4x64x256 .f32),
    binary main_v64 main_v70 main_v71 (addf : Arr F S64x4x64x256 .f32 → Arr F S64x4x64x256 .f32 → Arr F S64x4x64x256 .f32),
    binary main_v7 main_v58 main_v72 (mulf : Arr F S64x4x64x256 .f32 → Arr F S64x4x64x256 .f32 → Arr F S64x4x64x256 .f32),
    binary main_v58 main_v15 main_v73 (mulf : Arr F S64x4x64x256 .f32 → Arr F S64x4x64x256 .f32 → Arr F S64x4x64x256 .f32),
    binary main_v72 main_v15 main_v74 (mulf : Arr F S64x4x64x256 .f32 → Arr F S64x4x64x256 .f32 → Arr F S64x4x64x256 .f32),
    binary main_v71 main_v74 main_v75 (addf : Arr F S64x4x64x256 .f32 → Arr F S64x4x64x256 .f32 → Arr F S64x4x64x256 .f32),
    nullary main_cst_14 (constant S_ .f32 0x00000000#32),
    binary main_v65 main_cst_14 main_v76 ((fun x v => pad S64x4x64x256 ![0, 0, 63, 0] ![0, 0, 0, 0] ![0, 0, 0, 0] x v pads_S64x4x1x256_S64x4x64x256_000_000_6300_000 h_S_) : Arr F S64x4x1x256 .f32 → Arr F S_ .f32 → Arr F S64x4x64x256 .f32),
    binary main_v75 main_v76 main_v77 (addf : Arr F S64x4x64x256 .f32 → Arr F S64x4x64x256 .f32 → Arr F S64x4x64x256 .f32),
    unary main_v77 main_v78 ((transpose S64x64x4x256 [0, 2, 1, 3] · transposes_S64x4x64x256_S64x64x4x256_0_2_1_3) : Arr F S64x4x64x256 .f32 → Arr F S64x64x4x256 .f32),
    StableHlo.reshape main_v78 main_v79 (rfl : (.f32 : EltTy) = .f32) shapeCasts_S64x64x4x256_S4096x1024,
    unary main_v53 main_v80 ((transpose S64x64x4x512 [0, 2, 1, 3] · transposes_S64x4x64x512_S64x64x4x512_0_2_1_3) : Arr F S64x4x64x512 .f32 → Arr F S64x64x4x512 .f32),
    StableHlo.reshape main_v80 main_v81 (rfl : (.f32 : EltTy) = .f32) shapeCasts_S64x64x4x512_S4096x2048 ]
theorem main_part1_ops3_sub : (main_part1_ops3 : List (HloOp τ sig (Elt F))).Forall fun op => op.bufs ⊆ tcRefs τ sig :=
  ⟨binary_bufs_sub .., binary_bufs_sub .., binary_bufs_sub .., binary_bufs_sub .., binary_bufs_sub .., binary_bufs_sub .., nullary_bufs_sub .., binary_bufs_sub .., reshape_bufs_sub .., unary_bufs_sub .., binary_bufs_sub .., binary_bufs_sub .., binary_bufs_sub .., binary_bufs_sub .., binary_bufs_sub .., unary_bufs_sub .., binary_bufs_sub .., binary_bufs_sub .., binary_bufs_sub .., binary_bufs_sub .., binary_bufs_sub .., nullary_bufs_sub .., binary_bufs_sub .., binary_bufs_sub .., unary_bufs_sub .., reshape_bufs_sub .., unary_bufs_sub .., reshape_bufs_sub ..⟩
/-- The references it writes. -/
abbrev main_part1_ops3_W : List (Ref sig .tc) := [main_v56, main_v57, main_v58, main_v59, main_v60, main_v61, main_cst_13, main_v62, main_v63, main_v64, main_v65, main_v66, main_v67, main_v68, main_v69, main_v70, main_v71, main_v72, main_v73, main_v74, main_v75, main_cst_14, main_v76, main_v77, main_v78, main_v79, main_v80, main_v81]
theorem main_part1_ops3_writes : (main_part1_ops3 : List (HloOp τ sig (Elt F))).Forall fun op => op.writes ⊆ (main_part1_ops3_W.map (Proc.devRef (τ := τ) .tc)).toFinset :=
  forall_writes_sub_of_map rfl

/-- Operations of @main, in order. -/
abbrev main_part2_ops0 : List (HloOp τ sig (Elt F)) :=
  [ unary main_v68 main_v82 ((transpose S64x64x4x256 [0, 2, 1, 3] · transposes_S64x4x64x256_S64x64x4x256_0_2_1_3) : Arr F S64x4x64x256 .f32 → Arr F S64x64x4x256 .f32),
    StableHlo.reshape main_v82 main_v83 (rfl : (.f32 : EltTy) = .f32) shapeCasts_S64x64x4x256_S4096x1024,
    nullary main_cst_15 (constant S_ .f32 0x3D800000#32),
    unary main_cst_15 main_v84 (broadcastInDim S64x4x64x256 ![] bcast_S_S64x4x64x256 : Arr F S_ .f32 → Arr F S64x4x64x256 .f32),
    binary main_v73 main_v84 main_v85 (mulf : Arr F S64x4x64x256 .f32 → Arr F S64x4x64x256 .f32 → Arr F S64x4x64x256 .f32),
    unary main_v85 main_v86 ((transpose S64x64x4x256 [0, 2, 1, 3] · transposes_S64x4x64x256_S64x64x4x256_0_2_1_3) : Arr F S64x4x64x256 .f32 → Arr F S64x64x4x256 .f32),
    StableHlo.reshape main_v86 main_v87 (rfl : (.f32 : EltTy) = .f32) shapeCasts_S64x64x4x256_S4096x1024,
    unary main_v87 main_v88 ((truncf .bf16 · bitsLt_bf16_f32) : Arr F S4096x1024 .f32 → Arr F S4096x1024 .bf16),
    unary main_v83 main_v89 ((truncf .bf16 · bitsLt_bf16_f32) : Arr F S4096x1024 .f32 → Arr F S4096x1024 .bf16),
    unary main_v81 main_v90 ((truncf .bf16 · bitsLt_bf16_f32) : Arr F S4096x2048 .f32 → Arr F S4096x2048 .bf16) ]
theorem main_part2_ops0_sub : (main_part2_ops0 : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., unary_bufs_sub .., unary_bufs_sub .., unary_bufs_sub ..⟩
/-- The references it writes. -/
abbrev main_part2_ops0_W : List (Ref sig .tc) := [main_v82, main_v83, main_cst_15, main_v84, main_v85, main_v86, main_v87, main_v88, main_v89, main_v90]
theorem main_part2_ops0_writes : (main_part2_ops0 : List (HloOp τ sig (Elt F))).Forall fun op => op.writes ⊆ (main_part2_ops0_W.map (Proc.devRef (τ := τ) .tc)).toFinset :=
  forall_writes_sub_of_map rfl

/-- Operations of the forward loop's body, in order. -/
abbrev while0Ops0 : List (HloOp τ sig (Elt F)) :=
  [ TRef.nullary (.of main_while0b_call2_c : TRef sig ⟨S_, .i32⟩) (constantI S_ 32 0#32),
    TRef.nullary (.of main_while0b_call2_c_0 : TRef sig ⟨S_, .i32⟩) (constantI S_ 32 0#32),
    TRef.nullary (.of main_while0b_call2_c_1 : TRef sig ⟨S_, .i32⟩) (constantI S_ 32 0#32),
    TRef.unaryIndexed (.of main_v35_0 : TRef sig ⟨S64x4x64x256, .f32⟩) ![(.of main_v35_4 : TRef sig ⟨S_, .i32⟩), (.of main_while0b_call2_c : TRef sig ⟨S_, .i32⟩), (.of main_while0b_call2_c_0 : TRef sig ⟨S_, .i32⟩), (.of main_while0b_call2_c_1 : TRef sig ⟨S_, .i32⟩)] (.of main_while0b_call2_v0 : TRef sig ⟨S1x4x64x256, .f32⟩) (fun x i => Host.dynamicSlice S1x4x64x256 x (fun k => (i k (Shape.Idx.first h_S_)).toInt) sliceFits_S64x4x64x256_S1x4x64x256),
    TRef.reshape (.of main_while0b_call2_v0 : TRef sig ⟨S1x4x64x256, .f32⟩) (.of main_while0b_v91 : TRef sig ⟨S4x64x256, .f32⟩) (rfl : (.f32 : EltTy) = .f32) shapeCasts_S1x4x64x256_S4x64x256 ]
theorem while0Ops0_sub : (while0Ops0 : List (HloOp τ sig (Elt F))).Forall fun op => op.bufs ⊆ tcRefs τ sig :=
  ⟨nullary_bufs_sub .., nullary_bufs_sub .., nullary_bufs_sub .., unaryIndexed_bufs_sub .., reshape_bufs_sub ..⟩
/-- The references it writes. -/
abbrev while0Ops0_W : List (Ref sig .tc) := [main_while0b_call2_c, main_while0b_call2_c_0, main_while0b_call2_c_1, main_while0b_call2_v0, main_while0b_v91]
theorem while0Ops0_writes : (while0Ops0 : List (HloOp τ sig (Elt F))).Forall fun op => op.writes ⊆ (while0Ops0_W.map (Proc.devRef (τ := τ) .tc)).toFinset :=
  forall_writes_sub_of_map rfl

/-- Operations of the forward loop's body, in order. -/
abbrev while0Ops0_1 : List (HloOp τ sig (Elt F)) :=
  [ TRef.nullary (.of main_while0b_call3_c : TRef sig ⟨S_, .i32⟩) (constantI S_ 32 0#32),
    TRef.nullary (.of main_while0b_call3_c_0 : TRef sig ⟨S_, .i32⟩) (constantI S_ 32 0#32),
    TRef.nullary (.of main_while0b_call3_c_1 : TRef sig ⟨S_, .i32⟩) (constantI S_ 32 0#32),
    TRef.unaryIndexed (.of main_v35_1 : TRef sig ⟨S64x4x64x256, .f32⟩) ![(.of main_v35_4 : TRef sig ⟨S_, .i32⟩), (.of main_while0b_call3_c : TRef sig ⟨S_, .i32⟩), (.of main_while0b_call3_c_0 : TRef sig ⟨S_, .i32⟩), (.of main_while0b_call3_c_1 : TRef sig ⟨S_, .i32⟩)] (.of main_while0b_call3_v0 : TRef sig ⟨S1x4x64x256, .f32⟩) (fun x i => Host.dynamicSlice S1x4x64x256 x (fun k => (i k (Shape.Idx.first h_S_)).toInt) sliceFits_S64x4x64x256_S1x4x64x256),
    TRef.reshape (.of main_while0b_call3_v0 : TRef sig ⟨S1x4x64x256, .f32⟩) (.of main_while0b_v92 : TRef sig ⟨S4x64x256, .f32⟩) (rfl : (.f32 : EltTy) = .f32) shapeCasts_S1x4x64x256_S4x64x256 ]
theorem while0Ops0_1_sub : (while0Ops0_1 : List (HloOp τ sig (Elt F))).Forall fun op => op.bufs ⊆ tcRefs τ sig :=
  ⟨nullary_bufs_sub .., nullary_bufs_sub .., nullary_bufs_sub .., unaryIndexed_bufs_sub .., reshape_bufs_sub ..⟩
/-- The references it writes. -/
abbrev while0Ops0_1_W : List (Ref sig .tc) := [main_while0b_call3_c, main_while0b_call3_c_0, main_while0b_call3_c_1, main_while0b_call3_v0, main_while0b_v92]
theorem while0Ops0_1_writes : (while0Ops0_1 : List (HloOp τ sig (Elt F))).Forall fun op => op.writes ⊆ (while0Ops0_1_W.map (Proc.devRef (τ := τ) .tc)).toFinset :=
  forall_writes_sub_of_map rfl

/-- Operations of the forward loop's body, in order. -/
abbrev while0Ops0_2 : List (HloOp τ sig (Elt F)) :=
  [ TRef.nullary (.of main_while0b_call4_c : TRef sig ⟨S_, .i32⟩) (constantI S_ 32 0#32),
    TRef.nullary (.of main_while0b_call4_c_0 : TRef sig ⟨S_, .i32⟩) (constantI S_ 32 0#32),
    TRef.nullary (.of main_while0b_call4_c_1 : TRef sig ⟨S_, .i32⟩) (constantI S_ 32 0#32),
    TRef.unaryIndexed (.of main_v35_2 : TRef sig ⟨S64x4x64x512, .f32⟩) ![(.of main_v35_4 : TRef sig ⟨S_, .i32⟩), (.of main_while0b_call4_c : TRef sig ⟨S_, .i32⟩), (.of main_while0b_call4_c_0 : TRef sig ⟨S_, .i32⟩), (.of main_while0b_call4_c_1 : TRef sig ⟨S_, .i32⟩)] (.of main_while0b_call4_v0 : TRef sig ⟨S1x4x64x512, .f32⟩) (fun x i => Host.dynamicSlice S1x4x64x512 x (fun k => (i k (Shape.Idx.first h_S_)).toInt) sliceFits_S64x4x64x512_S1x4x64x512),
    TRef.reshape (.of main_while0b_call4_v0 : TRef sig ⟨S1x4x64x512, .f32⟩) (.of main_while0b_v93 : TRef sig ⟨S4x64x512, .f32⟩) (rfl : (.f32 : EltTy) = .f32) shapeCasts_S1x4x64x512_S4x64x512 ]
theorem while0Ops0_2_sub : (while0Ops0_2 : List (HloOp τ sig (Elt F))).Forall fun op => op.bufs ⊆ tcRefs τ sig :=
  ⟨nullary_bufs_sub .., nullary_bufs_sub .., nullary_bufs_sub .., unaryIndexed_bufs_sub .., reshape_bufs_sub ..⟩
/-- The references it writes. -/
abbrev while0Ops0_2_W : List (Ref sig .tc) := [main_while0b_call4_c, main_while0b_call4_c_0, main_while0b_call4_c_1, main_while0b_call4_v0, main_while0b_v93]
theorem while0Ops0_2_writes : (while0Ops0_2 : List (HloOp τ sig (Elt F))).Forall fun op => op.writes ⊆ (while0Ops0_2_W.map (Proc.devRef (τ := τ) .tc)).toFinset :=
  forall_writes_sub_of_map rfl

/-- Operations of the forward loop's body, in order. -/
abbrev while0Ops0_3 : List (HloOp τ sig (Elt F)) :=
  [ TRef.nullary (.of main_while0b_call5_c : TRef sig ⟨S_, .i32⟩) (constantI S_ 32 0#32),
    TRef.nullary (.of main_while0b_call5_c_0 : TRef sig ⟨S_, .i32⟩) (constantI S_ 32 0#32),
    TRef.unaryIndexed (.of main_v35_3 : TRef sig ⟨S64x4x256, .f32⟩) ![(.of main_v35_4 : TRef sig ⟨S_, .i32⟩), (.of main_while0b_call5_c : TRef sig ⟨S_, .i32⟩), (.of main_while0b_call5_c_0 : TRef sig ⟨S_, .i32⟩)] (.of main_while0b_call5_v0 : TRef sig ⟨S1x4x256, .f32⟩) (fun x i => Host.dynamicSlice S1x4x256 x (fun k => (i k (Shape.Idx.first h_S_)).toInt) sliceFits_S64x4x256_S1x4x256),
    TRef.reshape (.of main_while0b_call5_v0 : TRef sig ⟨S1x4x256, .f32⟩) (.of main_while0b_v94 : TRef sig ⟨S4x256, .f32⟩) (rfl : (.f32 : EltTy) = .f32) shapeCasts_S1x4x256_S4x256 ]
theorem while0Ops0_3_sub : (while0Ops0_3 : List (HloOp τ sig (Elt F))).Forall fun op => op.bufs ⊆ tcRefs τ sig :=
  ⟨nullary_bufs_sub .., nullary_bufs_sub .., unaryIndexed_bufs_sub .., reshape_bufs_sub ..⟩
/-- The references it writes. -/
abbrev while0Ops0_3_W : List (Ref sig .tc) := [main_while0b_call5_c, main_while0b_call5_c_0, main_while0b_call5_v0, main_while0b_v94]
theorem while0Ops0_3_writes : (while0Ops0_3 : List (HloOp τ sig (Elt F))).Forall fun op => op.writes ⊆ (while0Ops0_3_W.map (Proc.devRef (τ := τ) .tc)).toFinset :=
  forall_writes_sub_of_map rfl

/-- Operations of the forward loop's body, in order. -/
abbrev while0Ops0_4 : List (HloOp τ sig (Elt F)) :=
  [ binary main_while0b_v91 main_v35_5 main_while0b_v95 ((fun l r => Host.dotGeneral dot_S4x64x256_S4x256x512_S4x64x512_2_1_1_2_0_0 none l r) : Arr F S4x64x256 .f32 → Arr F S4x256x512 .f32 → Arr F S4x64x512 .f32),
    unary main_while0b_v94 main_while0b_v96 (broadcastInDim S4x256x1 ![0, 1] bcast_S4x256_S4x256x1_0_1 : Arr F S4x256 .f32 → Arr F S4x256x1 .f32),
    unary main_while0b_v96 main_while0b_v97 (broadcastInDim S4x256x512 ![0, 1, 2] bcast_S4x256x1_S4x256x512_0_1_2 : Arr F S4x256x1 .f32 → Arr F S4x256x512 .f32),
    binary main_v35_5 main_while0b_v97 main_while0b_v98 (mulf : Arr F S4x256x512 .f32 → Arr F S4x256x512 .f32 → Arr F S4x256x512 .f32),
    binary main_while0b_v92 main_while0b_v93 main_while0b_v99 ((fun l r => Host.dotGeneral dot_S4x64x256_S4x64x512_S4x256x512_1_1_2_2_0_0 none l r) : Arr F S4x64x256 .f32 → Arr F S4x64x512 .f32 → Arr F S4x256x512 .f32),
    binary main_while0b_v98 main_while0b_v99 main_while0b_v100 (addf : Arr F S4x256x512 .f32 → Arr F S4x256x512 .f32 → Arr F S4x256x512 .f32) ]
theorem while0Ops0_4_sub : (while0Ops0_4 : List (HloOp τ sig (Elt F))).Forall fun op => op.bufs ⊆ tcRefs τ sig :=
  ⟨binary_bufs_sub .., unary_bufs_sub .., unary_bufs_sub .., binary_bufs_sub .., binary_bufs_sub .., binary_bufs_sub ..⟩
/-- The references it writes. -/
abbrev while0Ops0_4_W : List (Ref sig .tc) := [main_while0b_v95, main_while0b_v96, main_while0b_v97, main_while0b_v98, main_while0b_v99, main_while0b_v100]
theorem while0Ops0_4_writes : (while0Ops0_4 : List (HloOp τ sig (Elt F))).Forall fun op => op.writes ⊆ (while0Ops0_4_W.map (Proc.devRef (τ := τ) .tc)).toFinset :=
  forall_writes_sub_of_map rfl

/-- Operations of the forward loop's body, in order. -/
abbrev while0Ops0_5 : List (HloOp τ sig (Elt F)) :=
  [ TRef.unary (.of main_while0b_v95 : TRef sig ⟨S4x64x512, .f32⟩) (.of main_while0b_call6_v0 : TRef sig ⟨S1x4x64x512, .f32⟩) (broadcastInDim S1x4x64x512 ![1, 2, 3] bcast_S4x64x512_S1x4x64x512_1_2_3),
    TRef.nullary (.of main_while0b_call6_c : TRef sig ⟨S_, .i32⟩) (constantI S_ 32 0#32),
    TRef.nullary (.of main_while0b_call6_c_0 : TRef sig ⟨S_, .i32⟩) (constantI S_ 32 0#32),
    TRef.nullary (.of main_while0b_call6_c_1 : TRef sig ⟨S_, .i32⟩) (constantI S_ 32 0#32),
    TRef.binaryIndexed (.of main_v35_6 : TRef sig ⟨S64x4x64x512, .f32⟩) (.of main_while0b_call6_v0 : TRef sig ⟨S1x4x64x512, .f32⟩) ![(.of main_v35_4 : TRef sig ⟨S_, .i32⟩), (.of main_while0b_call6_c : TRef sig ⟨S_, .i32⟩), (.of main_while0b_call6_c_0 : TRef sig ⟨S_, .i32⟩), (.of main_while0b_call6_c_1 : TRef sig ⟨S_, .i32⟩)] (.of main_while0b_v101 : TRef sig ⟨S64x4x64x512, .f32⟩) (fun x u i => Host.dynamicUpdateSlice x u (fun k => (i k (Shape.Idx.first h_S_)).toInt) updateFits_S64x4x64x512_S1x4x64x512) ]
theorem while0Ops0_5_sub : (while0Ops0_5 : List (HloOp τ sig (Elt F))).Forall fun op => op.bufs ⊆ tcRefs τ sig :=
  ⟨unary_bufs_sub .., nullary_bufs_sub .., nullary_bufs_sub .., nullary_bufs_sub .., binaryIndexed_bufs_sub ..⟩
/-- The references it writes. -/
abbrev while0Ops0_5_W : List (Ref sig .tc) := [main_while0b_call6_v0, main_while0b_call6_c, main_while0b_call6_c_0, main_while0b_call6_c_1, main_while0b_v101]
theorem while0Ops0_5_writes : (while0Ops0_5 : List (HloOp τ sig (Elt F))).Forall fun op => op.writes ⊆ (while0Ops0_5_W.map (Proc.devRef (τ := τ) .tc)).toFinset :=
  forall_writes_sub_of_map rfl

/-- Operations of the forward loop's body, in order. -/
abbrev while0Ops0_6 : List (HloOp τ sig (Elt F)) :=
  [ TRef.unary (.of main_v35_5 : TRef sig ⟨S4x256x512, .f32⟩) (.of main_while0b_call7_v0 : TRef sig ⟨S1x4x256x512, .f32⟩) (broadcastInDim S1x4x256x512 ![1, 2, 3] bcast_S4x256x512_S1x4x256x512_1_2_3),
    TRef.nullary (.of main_while0b_call7_c : TRef sig ⟨S_, .i32⟩) (constantI S_ 32 0#32),
    TRef.nullary (.of main_while0b_call7_c_0 : TRef sig ⟨S_, .i32⟩) (constantI S_ 32 0#32),
    TRef.nullary (.of main_while0b_call7_c_1 : TRef sig ⟨S_, .i32⟩) (constantI S_ 32 0#32),
    TRef.binaryIndexed (.of main_v35_7 : TRef sig ⟨S64x4x256x512, .f32⟩) (.of main_while0b_call7_v0 : TRef sig ⟨S1x4x256x512, .f32⟩) ![(.of main_v35_4 : TRef sig ⟨S_, .i32⟩), (.of main_while0b_call7_c : TRef sig ⟨S_, .i32⟩), (.of main_while0b_call7_c_0 : TRef sig ⟨S_, .i32⟩), (.of main_while0b_call7_c_1 : TRef sig ⟨S_, .i32⟩)] (.of main_while0b_v102 : TRef sig ⟨S64x4x256x512, .f32⟩) (fun x u i => Host.dynamicUpdateSlice x u (fun k => (i k (Shape.Idx.first h_S_)).toInt) updateFits_S64x4x256x512_S1x4x256x512) ]
theorem while0Ops0_6_sub : (while0Ops0_6 : List (HloOp τ sig (Elt F))).Forall fun op => op.bufs ⊆ tcRefs τ sig :=
  ⟨unary_bufs_sub .., nullary_bufs_sub .., nullary_bufs_sub .., nullary_bufs_sub .., binaryIndexed_bufs_sub ..⟩
/-- The references it writes. -/
abbrev while0Ops0_6_W : List (Ref sig .tc) := [main_while0b_call7_v0, main_while0b_call7_c, main_while0b_call7_c_0, main_while0b_call7_c_1, main_while0b_v102]
theorem while0Ops0_6_writes : (while0Ops0_6 : List (HloOp τ sig (Elt F))).Forall fun op => op.writes ⊆ (while0Ops0_6_W.map (Proc.devRef (τ := τ) .tc)).toFinset :=
  forall_writes_sub_of_map rfl

/-- Operations of the forward loop's body, in order. -/
abbrev while0Ops0_7 : List (HloOp τ sig (Elt F)) :=
  [ TRef.unary (.of main_while0b_v96 : TRef sig ⟨S4x256x1, .f32⟩) (.of main_while0b_call8_v0 : TRef sig ⟨S1x4x256x1, .f32⟩) (broadcastInDim S1x4x256x1 ![1, 2, 3] bcast_S4x256x1_S1x4x256x1_1_2_3),
    TRef.nullary (.of main_while0b_call8_c : TRef sig ⟨S_, .i32⟩) (constantI S_ 32 0#32),
    TRef.nullary (.of main_while0b_call8_c_0 : TRef sig ⟨S_, .i32⟩) (constantI S_ 32 0#32),
    TRef.nullary (.of main_while0b_call8_c_1 : TRef sig ⟨S_, .i32⟩) (constantI S_ 32 0#32),
    TRef.binaryIndexed (.of main_v35_8 : TRef sig ⟨S64x4x256x1, .f32⟩) (.of main_while0b_call8_v0 : TRef sig ⟨S1x4x256x1, .f32⟩) ![(.of main_v35_4 : TRef sig ⟨S_, .i32⟩), (.of main_while0b_call8_c : TRef sig ⟨S_, .i32⟩), (.of main_while0b_call8_c_0 : TRef sig ⟨S_, .i32⟩), (.of main_while0b_call8_c_1 : TRef sig ⟨S_, .i32⟩)] (.of main_while0b_v103 : TRef sig ⟨S64x4x256x1, .f32⟩) (fun x u i => Host.dynamicUpdateSlice x u (fun k => (i k (Shape.Idx.first h_S_)).toInt) updateFits_S64x4x256x1_S1x4x256x1) ]
theorem while0Ops0_7_sub : (while0Ops0_7 : List (HloOp τ sig (Elt F))).Forall fun op => op.bufs ⊆ tcRefs τ sig :=
  ⟨unary_bufs_sub .., nullary_bufs_sub .., nullary_bufs_sub .., nullary_bufs_sub .., binaryIndexed_bufs_sub ..⟩
/-- The references it writes. -/
abbrev while0Ops0_7_W : List (Ref sig .tc) := [main_while0b_call8_v0, main_while0b_call8_c, main_while0b_call8_c_0, main_while0b_call8_c_1, main_while0b_v103]
theorem while0Ops0_7_writes : (while0Ops0_7 : List (HloOp τ sig (Elt F))).Forall fun op => op.writes ⊆ (while0Ops0_7_W.map (Proc.devRef (τ := τ) .tc)).toFinset :=
  forall_writes_sub_of_map rfl

/-- Operations of the forward loop's body, in order. -/
abbrev while0Ops0_8 : List (HloOp τ sig (Elt F)) :=
  [ nullary main_while0b_c_24 (constantI S_ 32 1#32),
    binary main_v35_4 main_while0b_c_24 main_while0b_v104 (addi : Arr F S_ .i32 → Arr F S_ .i32 → Arr F S_ .i32),
    unary main_while0b_v104 main_v35_4 id,
    unary main_while0b_v100 main_v35_5 id,
    unary main_while0b_v101 main_v35_6 id,
    unary main_while0b_v102 main_v35_7 id,
    unary main_while0b_v103 main_v35_8 id ]
theorem while0Ops0_8_sub : (while0Ops0_8 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub ..⟩
/-- The references it writes. -/
abbrev while0Ops0_8_W : List (Ref sig .tc) := [main_while0b_c_24, main_while0b_v104, main_v35_4, main_v35_5, main_v35_6, main_v35_7, main_v35_8]
theorem while0Ops0_8_writes : (while0Ops0_8 : List (HloOp τ sig (Elt F))).Forall fun op => op.writes ⊆ (while0Ops0_8_W.map (Proc.devRef (τ := τ) .tc)).toFinset :=
  forall_writes_sub_of_map rfl

/-- Operations of the backward loop's body, in order. -/
abbrev while1Ops0 : List (HloOp τ sig (Elt F)) :=
  [ nullary main_while1b_c_27 (constantI S_ 32 64#32),
    binary main_while1b_c_27 main_v48_6 main_while1b_v91 (subi : Arr F S_ .i32 → Arr F S_ .i32 → Arr F S_ .i32),
    nullary main_while1b_c_28 (constantI S_ 32 1#32),
    binary main_while1b_v91 main_while1b_c_28 main_while1b_v92 (subi : Arr F S_ .i32 → Arr F S_ .i32 → Arr F S_ .i32) ]
theorem while1Ops0_sub : (while1Ops0 : List (HloOp τ sig (Elt F))).Forall fun op => op.bufs ⊆ tcRefs τ sig :=
  ⟨nullary_bufs_sub .., binary_bufs_sub .., nullary_bufs_sub .., binary_bufs_sub ..⟩
/-- The references it writes. -/
abbrev while1Ops0_W : List (Ref sig .tc) := [main_while1b_c_27, main_while1b_v91, main_while1b_c_28, main_while1b_v92]
theorem while1Ops0_writes : (while1Ops0 : List (HloOp τ sig (Elt F))).Forall fun op => op.writes ⊆ (while1Ops0_W.map (Proc.devRef (τ := τ) .tc)).toFinset :=
  forall_writes_sub_of_map rfl

/-- Operations of the backward loop's body, in order. -/
abbrev while1Ops0_1 : List (HloOp τ sig (Elt F)) :=
  [ TRef.nullary (.of main_while1b_call9_c : TRef sig ⟨S_, .i32⟩) (constantI S_ 32 0#32),
    TRef.nullary (.of main_while1b_call9_c_0 : TRef sig ⟨S_, .i32⟩) (constantI S_ 32 0#32),
    TRef.nullary (.of main_while1b_call9_c_1 : TRef sig ⟨S_, .i32⟩) (constantI S_ 32 0#32),
    TRef.unaryIndexed (.of main_v48_0 : TRef sig ⟨S64x4x64x512, .f32⟩) ![(.of main_while1b_v92 : TRef sig ⟨S_, .i32⟩), (.of main_while1b_call9_c : TRef sig ⟨S_, .i32⟩), (.of main_while1b_call9_c_0 : TRef sig ⟨S_, .i32⟩), (.of main_while1b_call9_c_1 : TRef sig ⟨S_, .i32⟩)] (.of main_while1b_call9_v0 : TRef sig ⟨S1x4x64x512, .f32⟩) (fun x i => Host.dynamicSlice S1x4x64x512 x (fun k => (i k (Shape.Idx.first h_S_)).toInt) sliceFits_S64x4x64x512_S1x4x64x512),
    TRef.reshape (.of main_while1b_call9_v0 : TRef sig ⟨S1x4x64x512, .f32⟩) (.of main_while1b_v93 : TRef sig ⟨S4x64x512, .f32⟩) (rfl : (.f32 : EltTy) = .f32) shapeCasts_S1x4x64x512_S4x64x512 ]
theorem while1Ops0_1_sub : (while1Ops0_1 : List (HloOp τ sig (Elt F))).Forall fun op => op.bufs ⊆ tcRefs τ sig :=
  ⟨nullary_bufs_sub .., nullary_bufs_sub .., nullary_bufs_sub .., unaryIndexed_bufs_sub .., reshape_bufs_sub ..⟩
/-- The references it writes. -/
abbrev while1Ops0_1_W : List (Ref sig .tc) := [main_while1b_call9_c, main_while1b_call9_c_0, main_while1b_call9_c_1, main_while1b_call9_v0, main_while1b_v93]
theorem while1Ops0_1_writes : (while1Ops0_1 : List (HloOp τ sig (Elt F))).Forall fun op => op.writes ⊆ (while1Ops0_1_W.map (Proc.devRef (τ := τ) .tc)).toFinset :=
  forall_writes_sub_of_map rfl

/-- Operations of the backward loop's body, in order. -/
abbrev while1Ops0_2 : List (HloOp τ sig (Elt F)) :=
  [ TRef.nullary (.of main_while1b_call10_c : TRef sig ⟨S_, .i32⟩) (constantI S_ 32 0#32),
    TRef.nullary (.of main_while1b_call10_c_0 : TRef sig ⟨S_, .i32⟩) (constantI S_ 32 0#32),
    TRef.nullary (.of main_while1b_call10_c_1 : TRef sig ⟨S_, .i32⟩) (constantI S_ 32 0#32),
    TRef.unaryIndexed (.of main_v48_1 : TRef sig ⟨S64x4x256x512, .f32⟩) ![(.of main_while1b_v92 : TRef sig ⟨S_, .i32⟩), (.of main_while1b_call10_c : TRef sig ⟨S_, .i32⟩), (.of main_while1b_call10_c_0 : TRef sig ⟨S_, .i32⟩), (.of main_while1b_call10_c_1 : TRef sig ⟨S_, .i32⟩)] (.of main_while1b_call10_v0 : TRef sig ⟨S1x4x256x512, .f32⟩) (fun x i => Host.dynamicSlice S1x4x256x512 x (fun k => (i k (Shape.Idx.first h_S_)).toInt) sliceFits_S64x4x256x512_S1x4x256x512),
    TRef.reshape (.of main_while1b_call10_v0 : TRef sig ⟨S1x4x256x512, .f32⟩) (.of main_while1b_v94 : TRef sig ⟨S4x256x512, .f32⟩) (rfl : (.f32 : EltTy) = .f32) shapeCasts_S1x4x256x512_S4x256x512 ]
theorem while1Ops0_2_sub : (while1Ops0_2 : List (HloOp τ sig (Elt F))).Forall fun op => op.bufs ⊆ tcRefs τ sig :=
  ⟨nullary_bufs_sub .., nullary_bufs_sub .., nullary_bufs_sub .., unaryIndexed_bufs_sub .., reshape_bufs_sub ..⟩
/-- The references it writes. -/
abbrev while1Ops0_2_W : List (Ref sig .tc) := [main_while1b_call10_c, main_while1b_call10_c_0, main_while1b_call10_c_1, main_while1b_call10_v0, main_while1b_v94]
theorem while1Ops0_2_writes : (while1Ops0_2 : List (HloOp τ sig (Elt F))).Forall fun op => op.writes ⊆ (while1Ops0_2_W.map (Proc.devRef (τ := τ) .tc)).toFinset :=
  forall_writes_sub_of_map rfl

/-- Operations of the backward loop's body, in order. -/
abbrev while1Ops0_3 : List (HloOp τ sig (Elt F)) :=
  [ TRef.nullary (.of main_while1b_call11_c : TRef sig ⟨S_, .i32⟩) (constantI S_ 32 0#32),
    TRef.nullary (.of main_while1b_call11_c_0 : TRef sig ⟨S_, .i32⟩) (constantI S_ 32 0#32),
    TRef.nullary (.of main_while1b_call11_c_1 : TRef sig ⟨S_, .i32⟩) (constantI S_ 32 0#32),
    TRef.unaryIndexed (.of main_v48_2 : TRef sig ⟨S64x4x64x256, .f32⟩) ![(.of main_while1b_v92 : TRef sig ⟨S_, .i32⟩), (.of main_while1b_call11_c : TRef sig ⟨S_, .i32⟩), (.of main_while1b_call11_c_0 : TRef sig ⟨S_, .i32⟩), (.of main_while1b_call11_c_1 : TRef sig ⟨S_, .i32⟩)] (.of main_while1b_call11_v0 : TRef sig ⟨S1x4x64x256, .f32⟩) (fun x i => Host.dynamicSlice S1x4x64x256 x (fun k => (i k (Shape.Idx.first h_S_)).toInt) sliceFits_S64x4x64x256_S1x4x64x256),
    TRef.reshape (.of main_while1b_call11_v0 : TRef sig ⟨S1x4x64x256, .f32⟩) (.of main_while1b_v95 : TRef sig ⟨S4x64x256, .f32⟩) (rfl : (.f32 : EltTy) = .f32) shapeCasts_S1x4x64x256_S4x64x256 ]
theorem while1Ops0_3_sub : (while1Ops0_3 : List (HloOp τ sig (Elt F))).Forall fun op => op.bufs ⊆ tcRefs τ sig :=
  ⟨nullary_bufs_sub .., nullary_bufs_sub .., nullary_bufs_sub .., unaryIndexed_bufs_sub .., reshape_bufs_sub ..⟩
/-- The references it writes. -/
abbrev while1Ops0_3_W : List (Ref sig .tc) := [main_while1b_call11_c, main_while1b_call11_c_0, main_while1b_call11_c_1, main_while1b_call11_v0, main_while1b_v95]
theorem while1Ops0_3_writes : (while1Ops0_3 : List (HloOp τ sig (Elt F))).Forall fun op => op.writes ⊆ (while1Ops0_3_W.map (Proc.devRef (τ := τ) .tc)).toFinset :=
  forall_writes_sub_of_map rfl

/-- Operations of the backward loop's body, in order. -/
abbrev while1Ops0_4 : List (HloOp τ sig (Elt F)) :=
  [ TRef.nullary (.of main_while1b_call12_c : TRef sig ⟨S_, .i32⟩) (constantI S_ 32 0#32),
    TRef.nullary (.of main_while1b_call12_c_0 : TRef sig ⟨S_, .i32⟩) (constantI S_ 32 0#32),
    TRef.nullary (.of main_while1b_call12_c_1 : TRef sig ⟨S_, .i32⟩) (constantI S_ 32 0#32),
    TRef.unaryIndexed (.of main_v48_3 : TRef sig ⟨S64x4x256x1, .f32⟩) ![(.of main_while1b_v92 : TRef sig ⟨S_, .i32⟩), (.of main_while1b_call12_c : TRef sig ⟨S_, .i32⟩), (.of main_while1b_call12_c_0 : TRef sig ⟨S_, .i32⟩), (.of main_while1b_call12_c_1 : TRef sig ⟨S_, .i32⟩)] (.of main_while1b_call12_v0 : TRef sig ⟨S1x4x256x1, .f32⟩) (fun x i => Host.dynamicSlice S1x4x256x1 x (fun k => (i k (Shape.Idx.first h_S_)).toInt) sliceFits_S64x4x256x1_S1x4x256x1),
    TRef.reshape (.of main_while1b_call12_v0 : TRef sig ⟨S1x4x256x1, .f32⟩) (.of main_while1b_v96 : TRef sig ⟨S4x256x1, .f32⟩) (rfl : (.f32 : EltTy) = .f32) shapeCasts_S1x4x256x1_S4x256x1 ]
theorem while1Ops0_4_sub : (while1Ops0_4 : List (HloOp τ sig (Elt F))).Forall fun op => op.bufs ⊆ tcRefs τ sig :=
  ⟨nullary_bufs_sub .., nullary_bufs_sub .., nullary_bufs_sub .., unaryIndexed_bufs_sub .., reshape_bufs_sub ..⟩
/-- The references it writes. -/
abbrev while1Ops0_4_W : List (Ref sig .tc) := [main_while1b_call12_c, main_while1b_call12_c_0, main_while1b_call12_c_1, main_while1b_call12_v0, main_while1b_v96]
theorem while1Ops0_4_writes : (while1Ops0_4 : List (HloOp τ sig (Elt F))).Forall fun op => op.writes ⊆ (while1Ops0_4_W.map (Proc.devRef (τ := τ) .tc)).toFinset :=
  forall_writes_sub_of_map rfl

/-- Operations of the backward loop's body, in order. -/
abbrev while1Ops0_5 : List (HloOp τ sig (Elt F)) :=
  [ TRef.nullary (.of main_while1b_call13_c : TRef sig ⟨S_, .i32⟩) (constantI S_ 32 0#32),
    TRef.nullary (.of main_while1b_call13_c_0 : TRef sig ⟨S_, .i32⟩) (constantI S_ 32 0#32),
    TRef.nullary (.of main_while1b_call13_c_1 : TRef sig ⟨S_, .i32⟩) (constantI S_ 32 0#32),
    TRef.unaryIndexed (.of main_v48_4 : TRef sig ⟨S64x4x64x512, .f32⟩) ![(.of main_while1b_v92 : TRef sig ⟨S_, .i32⟩), (.of main_while1b_call13_c : TRef sig ⟨S_, .i32⟩), (.of main_while1b_call13_c_0 : TRef sig ⟨S_, .i32⟩), (.of main_while1b_call13_c_1 : TRef sig ⟨S_, .i32⟩)] (.of main_while1b_call13_v0 : TRef sig ⟨S1x4x64x512, .f32⟩) (fun x i => Host.dynamicSlice S1x4x64x512 x (fun k => (i k (Shape.Idx.first h_S_)).toInt) sliceFits_S64x4x64x512_S1x4x64x512),
    TRef.reshape (.of main_while1b_call13_v0 : TRef sig ⟨S1x4x64x512, .f32⟩) (.of main_while1b_v97 : TRef sig ⟨S4x64x512, .f32⟩) (rfl : (.f32 : EltTy) = .f32) shapeCasts_S1x4x64x512_S4x64x512 ]
theorem while1Ops0_5_sub : (while1Ops0_5 : List (HloOp τ sig (Elt F))).Forall fun op => op.bufs ⊆ tcRefs τ sig :=
  ⟨nullary_bufs_sub .., nullary_bufs_sub .., nullary_bufs_sub .., unaryIndexed_bufs_sub .., reshape_bufs_sub ..⟩
/-- The references it writes. -/
abbrev while1Ops0_5_W : List (Ref sig .tc) := [main_while1b_call13_c, main_while1b_call13_c_0, main_while1b_call13_c_1, main_while1b_call13_v0, main_while1b_v97]
theorem while1Ops0_5_writes : (while1Ops0_5 : List (HloOp τ sig (Elt F))).Forall fun op => op.writes ⊆ (while1Ops0_5_W.map (Proc.devRef (τ := τ) .tc)).toFinset :=
  forall_writes_sub_of_map rfl

/-- Operations of the backward loop's body, in order. -/
abbrev while1Ops0_6 : List (HloOp τ sig (Elt F)) :=
  [ TRef.nullary (.of main_while1b_call14_c : TRef sig ⟨S_, .i32⟩) (constantI S_ 32 0#32),
    TRef.nullary (.of main_while1b_call14_c_0 : TRef sig ⟨S_, .i32⟩) (constantI S_ 32 0#32),
    TRef.nullary (.of main_while1b_call14_c_1 : TRef sig ⟨S_, .i32⟩) (constantI S_ 32 0#32),
    TRef.unaryIndexed (.of main_v48_5 : TRef sig ⟨S64x4x64x256, .f32⟩) ![(.of main_while1b_v92 : TRef sig ⟨S_, .i32⟩), (.of main_while1b_call14_c : TRef sig ⟨S_, .i32⟩), (.of main_while1b_call14_c_0 : TRef sig ⟨S_, .i32⟩), (.of main_while1b_call14_c_1 : TRef sig ⟨S_, .i32⟩)] (.of main_while1b_call14_v0 : TRef sig ⟨S1x4x64x256, .f32⟩) (fun x i => Host.dynamicSlice S1x4x64x256 x (fun k => (i k (Shape.Idx.first h_S_)).toInt) sliceFits_S64x4x64x256_S1x4x64x256),
    TRef.reshape (.of main_while1b_call14_v0 : TRef sig ⟨S1x4x64x256, .f32⟩) (.of main_while1b_v98 : TRef sig ⟨S4x64x256, .f32⟩) (rfl : (.f32 : EltTy) = .f32) shapeCasts_S1x4x64x256_S4x64x256 ]
theorem while1Ops0_6_sub : (while1Ops0_6 : List (HloOp τ sig (Elt F))).Forall fun op => op.bufs ⊆ tcRefs τ sig :=
  ⟨nullary_bufs_sub .., nullary_bufs_sub .., nullary_bufs_sub .., unaryIndexed_bufs_sub .., reshape_bufs_sub ..⟩
/-- The references it writes. -/
abbrev while1Ops0_6_W : List (Ref sig .tc) := [main_while1b_call14_c, main_while1b_call14_c_0, main_while1b_call14_c_1, main_while1b_call14_v0, main_while1b_v98]
theorem while1Ops0_6_writes : (while1Ops0_6 : List (HloOp τ sig (Elt F))).Forall fun op => op.writes ⊆ (while1Ops0_6_W.map (Proc.devRef (τ := τ) .tc)).toFinset :=
  forall_writes_sub_of_map rfl

/-- Operations of the backward loop's body, in order. -/
abbrev while1Ops0_7 : List (HloOp τ sig (Elt F)) :=
  [ binary main_v48_7 main_while1b_v98 main_while1b_v99 ((fun l r => Host.dotGeneral dot_S4x256x512_S4x64x256_S4x512x64_1_2_2_1_0_0 none l r) : Arr F S4x256x512 .f32 → Arr F S4x64x256 .f32 → Arr F S4x512x64 .f32),
    unary main_while1b_v99 main_while1b_v100 ((transpose S4x64x512 [0, 2, 1] · transposes_S4x512x64_S4x64x512_0_2_1) : Arr F S4x512x64 .f32 → Arr F S4x64x512 .f32),
    binary main_v48_7 main_while1b_v97 main_while1b_v101 ((fun l r => Host.dotGeneral dot_S4x256x512_S4x64x512_S4x256x64_2_2_1_1_0_0 none l r) : Arr F S4x256x512 .f32 → Arr F S4x64x512 .f32 → Arr F S4x256x64 .f32),
    unary main_while1b_v101 main_while1b_v102 ((transpose S4x64x256 [0, 2, 1] · transposes_S4x256x64_S4x64x256_0_2_1) : Arr F S4x256x64 .f32 → Arr F S4x64x256 .f32),
    binary main_while1b_v94 main_v48_7 main_while1b_v103 (mulf : Arr F S4x256x512 .f32 → Arr F S4x256x512 .f32 → Arr F S4x256x512 .f32),
    nullary main_while1b_cst_29 (constant S_ .f32 0x00000000#32),
    binary main_while1b_v103 main_while1b_cst_29 main_while1b_v104 ((fun x v => Host.reduceAdd x v reducesTo_S4x256x512_S4x256_d2 h_S_) : Arr F S4x256x512 .f32 → Arr F S_ .f32 → Arr F S4x256 .f32),
    StableHlo.reshape main_while1b_v104 main_while1b_v105 (rfl : (.f32 : EltTy) = .f32) shapeCasts_S4x256_S4x256x1,
    unary main_while1b_v96 main_while1b_v106 (broadcastInDim S4x256x512 ![0, 1, 2] bcast_S4x256x1_S4x256x512_0_1_2 : Arr F S4x256x1 .f32 → Arr F S4x256x512 .f32),
    binary main_v48_7 main_while1b_v106 main_while1b_v107 (mulf : Arr F S4x256x512 .f32 → Arr F S4x256x512 .f32 → Arr F S4x256x512 .f32),
    nullary main_while1b_cst_30 (constant S_ .f32 0x00000000#32),
    binary main_while1b_v105 main_while1b_cst_30 main_while1b_v108 ((fun x v => Host.reduceAdd x v reducesTo_S4x256x1_S4x256_d2 h_S_) : Arr F S4x256x1 .f32 → Arr F S_ .f32 → Arr F S4x256 .f32),
    binary main_while1b_v93 main_while1b_v95 main_while1b_v109 ((fun l r => Host.dotGeneral dot_S4x64x512_S4x64x256_S4x512x256_1_1_2_2_0_0 none l r) : Arr F S4x64x512 .f32 → Arr F S4x64x256 .f32 → Arr F S4x512x256 .f32),
    unary main_while1b_v109 main_while1b_v110 ((transpose S4x256x512 [0, 2, 1] · transposes_S4x512x256_S4x256x512_0_2_1) : Arr F S4x512x256 .f32 → Arr F S4x256x512 .f32),
    binary main_while1b_v107 main_while1b_v110 main_while1b_v111 (addf : Arr F S4x256x512 .f32 → Arr F S4x256x512 .f32 → Arr F S4x256x512 .f32),
    binary main_while1b_v93 main_while1b_v94 main_while1b_v112 ((fun l r => Host.dotGeneral dot_S4x64x512_S4x256x512_S4x64x256_2_2_1_1_0_0 none l r) : Arr F S4x64x512 .f32 → Arr F S4x256x512 .f32 → Arr F S4x64x256 .f32) ]
theorem while1Ops0_7_sub : (while1Ops0_7 : List (HloOp τ sig (Elt F))).Forall fun op => op.bufs ⊆ tcRefs τ sig :=
  ⟨binary_bufs_sub .., unary_bufs_sub .., binary_bufs_sub .., unary_bufs_sub .., binary_bufs_sub .., nullary_bufs_sub .., binary_bufs_sub .., reshape_bufs_sub .., unary_bufs_sub .., binary_bufs_sub .., nullary_bufs_sub .., binary_bufs_sub .., binary_bufs_sub .., unary_bufs_sub .., binary_bufs_sub .., binary_bufs_sub ..⟩
/-- The references it writes. -/
abbrev while1Ops0_7_W : List (Ref sig .tc) := [main_while1b_v99, main_while1b_v100, main_while1b_v101, main_while1b_v102, main_while1b_v103, main_while1b_cst_29, main_while1b_v104, main_while1b_v105, main_while1b_v106, main_while1b_v107, main_while1b_cst_30, main_while1b_v108, main_while1b_v109, main_while1b_v110, main_while1b_v111, main_while1b_v112]
theorem while1Ops0_7_writes : (while1Ops0_7 : List (HloOp τ sig (Elt F))).Forall fun op => op.writes ⊆ (while1Ops0_7_W.map (Proc.devRef (τ := τ) .tc)).toFinset :=
  forall_writes_sub_of_map rfl

/-- Operations of the backward loop's body, in order. -/
abbrev while1Ops0_8 : List (HloOp τ sig (Elt F)) :=
  [ TRef.unary (.of main_while1b_v112 : TRef sig ⟨S4x64x256, .f32⟩) (.of main_while1b_call15_v0 : TRef sig ⟨S1x4x64x256, .f32⟩) (broadcastInDim S1x4x64x256 ![1, 2, 3] bcast_S4x64x256_S1x4x64x256_1_2_3),
    TRef.nullary (.of main_while1b_call15_c : TRef sig ⟨S_, .i32⟩) (constantI S_ 32 0#32),
    TRef.nullary (.of main_while1b_call15_c_0 : TRef sig ⟨S_, .i32⟩) (constantI S_ 32 0#32),
    TRef.nullary (.of main_while1b_call15_c_1 : TRef sig ⟨S_, .i32⟩) (constantI S_ 32 0#32),
    TRef.binaryIndexed (.of main_v48_8 : TRef sig ⟨S64x4x64x256, .f32⟩) (.of main_while1b_call15_v0 : TRef sig ⟨S1x4x64x256, .f32⟩) ![(.of main_while1b_v92 : TRef sig ⟨S_, .i32⟩), (.of main_while1b_call15_c : TRef sig ⟨S_, .i32⟩), (.of main_while1b_call15_c_0 : TRef sig ⟨S_, .i32⟩), (.of main_while1b_call15_c_1 : TRef sig ⟨S_, .i32⟩)] (.of main_while1b_v113 : TRef sig ⟨S64x4x64x256, .f32⟩) (fun x u i => Host.dynamicUpdateSlice x u (fun k => (i k (Shape.Idx.first h_S_)).toInt) updateFits_S64x4x64x256_S1x4x64x256) ]
theorem while1Ops0_8_sub : (while1Ops0_8 : List (HloOp τ sig (Elt F))).Forall fun op => op.bufs ⊆ tcRefs τ sig :=
  ⟨unary_bufs_sub .., nullary_bufs_sub .., nullary_bufs_sub .., nullary_bufs_sub .., binaryIndexed_bufs_sub ..⟩
/-- The references it writes. -/
abbrev while1Ops0_8_W : List (Ref sig .tc) := [main_while1b_call15_v0, main_while1b_call15_c, main_while1b_call15_c_0, main_while1b_call15_c_1, main_while1b_v113]
theorem while1Ops0_8_writes : (while1Ops0_8 : List (HloOp τ sig (Elt F))).Forall fun op => op.writes ⊆ (while1Ops0_8_W.map (Proc.devRef (τ := τ) .tc)).toFinset :=
  forall_writes_sub_of_map rfl

/-- Operations of the backward loop's body, in order. -/
abbrev while1Ops0_9 : List (HloOp τ sig (Elt F)) :=
  [ TRef.unary (.of main_while1b_v102 : TRef sig ⟨S4x64x256, .f32⟩) (.of main_while1b_call16_v0 : TRef sig ⟨S1x4x64x256, .f32⟩) (broadcastInDim S1x4x64x256 ![1, 2, 3] bcast_S4x64x256_S1x4x64x256_1_2_3),
    TRef.nullary (.of main_while1b_call16_c : TRef sig ⟨S_, .i32⟩) (constantI S_ 32 0#32),
    TRef.nullary (.of main_while1b_call16_c_0 : TRef sig ⟨S_, .i32⟩) (constantI S_ 32 0#32),
    TRef.nullary (.of main_while1b_call16_c_1 : TRef sig ⟨S_, .i32⟩) (constantI S_ 32 0#32),
    TRef.binaryIndexed (.of main_v48_9 : TRef sig ⟨S64x4x64x256, .f32⟩) (.of main_while1b_call16_v0 : TRef sig ⟨S1x4x64x256, .f32⟩) ![(.of main_while1b_v92 : TRef sig ⟨S_, .i32⟩), (.of main_while1b_call16_c : TRef sig ⟨S_, .i32⟩), (.of main_while1b_call16_c_0 : TRef sig ⟨S_, .i32⟩), (.of main_while1b_call16_c_1 : TRef sig ⟨S_, .i32⟩)] (.of main_while1b_v114 : TRef sig ⟨S64x4x64x256, .f32⟩) (fun x u i => Host.dynamicUpdateSlice x u (fun k => (i k (Shape.Idx.first h_S_)).toInt) updateFits_S64x4x64x256_S1x4x64x256) ]
theorem while1Ops0_9_sub : (while1Ops0_9 : List (HloOp τ sig (Elt F))).Forall fun op => op.bufs ⊆ tcRefs τ sig :=
  ⟨unary_bufs_sub .., nullary_bufs_sub .., nullary_bufs_sub .., nullary_bufs_sub .., binaryIndexed_bufs_sub ..⟩
/-- The references it writes. -/
abbrev while1Ops0_9_W : List (Ref sig .tc) := [main_while1b_call16_v0, main_while1b_call16_c, main_while1b_call16_c_0, main_while1b_call16_c_1, main_while1b_v114]
theorem while1Ops0_9_writes : (while1Ops0_9 : List (HloOp τ sig (Elt F))).Forall fun op => op.writes ⊆ (while1Ops0_9_W.map (Proc.devRef (τ := τ) .tc)).toFinset :=
  forall_writes_sub_of_map rfl

/-- Operations of the backward loop's body, in order. -/
abbrev while1Ops0_10 : List (HloOp τ sig (Elt F)) :=
  [ TRef.unary (.of main_while1b_v100 : TRef sig ⟨S4x64x512, .f32⟩) (.of main_while1b_call17_v0 : TRef sig ⟨S1x4x64x512, .f32⟩) (broadcastInDim S1x4x64x512 ![1, 2, 3] bcast_S4x64x512_S1x4x64x512_1_2_3),
    TRef.nullary (.of main_while1b_call17_c : TRef sig ⟨S_, .i32⟩) (constantI S_ 32 0#32),
    TRef.nullary (.of main_while1b_call17_c_0 : TRef sig ⟨S_, .i32⟩) (constantI S_ 32 0#32),
    TRef.nullary (.of main_while1b_call17_c_1 : TRef sig ⟨S_, .i32⟩) (constantI S_ 32 0#32),
    TRef.binaryIndexed (.of main_v48_10 : TRef sig ⟨S64x4x64x512, .f32⟩) (.of main_while1b_call17_v0 : TRef sig ⟨S1x4x64x512, .f32⟩) ![(.of main_while1b_v92 : TRef sig ⟨S_, .i32⟩), (.of main_while1b_call17_c : TRef sig ⟨S_, .i32⟩), (.of main_while1b_call17_c_0 : TRef sig ⟨S_, .i32⟩), (.of main_while1b_call17_c_1 : TRef sig ⟨S_, .i32⟩)] (.of main_while1b_v115 : TRef sig ⟨S64x4x64x512, .f32⟩) (fun x u i => Host.dynamicUpdateSlice x u (fun k => (i k (Shape.Idx.first h_S_)).toInt) updateFits_S64x4x64x512_S1x4x64x512) ]
theorem while1Ops0_10_sub : (while1Ops0_10 : List (HloOp τ sig (Elt F))).Forall fun op => op.bufs ⊆ tcRefs τ sig :=
  ⟨unary_bufs_sub .., nullary_bufs_sub .., nullary_bufs_sub .., nullary_bufs_sub .., binaryIndexed_bufs_sub ..⟩
/-- The references it writes. -/
abbrev while1Ops0_10_W : List (Ref sig .tc) := [main_while1b_call17_v0, main_while1b_call17_c, main_while1b_call17_c_0, main_while1b_call17_c_1, main_while1b_v115]
theorem while1Ops0_10_writes : (while1Ops0_10 : List (HloOp τ sig (Elt F))).Forall fun op => op.writes ⊆ (while1Ops0_10_W.map (Proc.devRef (τ := τ) .tc)).toFinset :=
  forall_writes_sub_of_map rfl

/-- Operations of the backward loop's body, in order. -/
abbrev while1Ops0_11 : List (HloOp τ sig (Elt F)) :=
  [ TRef.unary (.of main_while1b_v108 : TRef sig ⟨S4x256, .f32⟩) (.of main_while1b_call18_v0 : TRef sig ⟨S1x4x256, .f32⟩) (broadcastInDim S1x4x256 ![1, 2] bcast_S4x256_S1x4x256_1_2),
    TRef.nullary (.of main_while1b_call18_c : TRef sig ⟨S_, .i32⟩) (constantI S_ 32 0#32),
    TRef.nullary (.of main_while1b_call18_c_0 : TRef sig ⟨S_, .i32⟩) (constantI S_ 32 0#32),
    TRef.binaryIndexed (.of main_v48_11 : TRef sig ⟨S64x4x256, .f32⟩) (.of main_while1b_call18_v0 : TRef sig ⟨S1x4x256, .f32⟩) ![(.of main_while1b_v92 : TRef sig ⟨S_, .i32⟩), (.of main_while1b_call18_c : TRef sig ⟨S_, .i32⟩), (.of main_while1b_call18_c_0 : TRef sig ⟨S_, .i32⟩)] (.of main_while1b_v116 : TRef sig ⟨S64x4x256, .f32⟩) (fun x u i => Host.dynamicUpdateSlice x u (fun k => (i k (Shape.Idx.first h_S_)).toInt) updateFits_S64x4x256_S1x4x256) ]
theorem while1Ops0_11_sub : (while1Ops0_11 : List (HloOp τ sig (Elt F))).Forall fun op => op.bufs ⊆ tcRefs τ sig :=
  ⟨unary_bufs_sub .., nullary_bufs_sub .., nullary_bufs_sub .., binaryIndexed_bufs_sub ..⟩
/-- The references it writes. -/
abbrev while1Ops0_11_W : List (Ref sig .tc) := [main_while1b_call18_v0, main_while1b_call18_c, main_while1b_call18_c_0, main_while1b_v116]
theorem while1Ops0_11_writes : (while1Ops0_11 : List (HloOp τ sig (Elt F))).Forall fun op => op.writes ⊆ (while1Ops0_11_W.map (Proc.devRef (τ := τ) .tc)).toFinset :=
  forall_writes_sub_of_map rfl

/-- Operations of the backward loop's body, in order. -/
abbrev while1Ops0_12 : List (HloOp τ sig (Elt F)) :=
  [ nullary main_while1b_c_31 (constantI S_ 32 1#32),
    binary main_v48_6 main_while1b_c_31 main_while1b_v117 (addi : Arr F S_ .i32 → Arr F S_ .i32 → Arr F S_ .i32),
    unary main_while1b_v117 main_v48_6 id,
    unary main_while1b_v111 main_v48_7 id,
    unary main_while1b_v113 main_v48_8 id,
    unary main_while1b_v114 main_v48_9 id,
    unary main_while1b_v115 main_v48_10 id,
    unary main_while1b_v116 main_v48_11 id ]
theorem while1Ops0_12_sub : (while1Ops0_12 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub ..⟩
/-- The references it writes. -/
abbrev while1Ops0_12_W : List (Ref sig .tc) := [main_while1b_c_31, main_while1b_v117, main_v48_6, main_v48_7, main_v48_8, main_v48_9, main_v48_10, main_v48_11]
theorem while1Ops0_12_writes : (while1Ops0_12 : List (HloOp τ sig (Elt F))).Forall fun op => op.writes ⊆ (while1Ops0_12_W.map (Proc.devRef (τ := τ) .tc)).toFinset :=
  forall_writes_sub_of_map rfl

/-- The first window of @main as the chain of its stretches and the first loop. -/
theorem main_part0_chain (c : Dev nD) : main_part0 (F := F) c = (Pipeline.chainK
  [ seq main_part0_ops0,
    seq main_part0_ops1,
    seq main_part0_ops2,
    seq main_part0_ops3,
    seq main_part0_ops4,
    HostLoop.enter 0 ]
  (seq main_part0_ops5) : Prog (TpuEff nD τ sig (Elt F) (HostLoop.Sig (Pipeline.Sig Λ₀ (Fin 0) fun p => (pcfgs (F := F) p).Adm) 2) .tc) PUnit) := by
  rewrite [chainK_seq_cons, Pipeline.chainK_cons, chainK_seq_cons, Pipeline.chainK_cons, chainK_seq_cons, Pipeline.chainK_cons]
  chain_rfl

/-- The second window of @main. -/
theorem main_part1_chain (c : Dev nD) : main_part1 (F := F) c = (Pipeline.chainK
  [ seq main_part1_ops0,
    HostLoop.enter 1,
    seq main_part1_ops1,
    seq main_part1_ops2 ]
  (seq main_part1_ops3) : Prog (TpuEff nD τ sig (Elt F) (HostLoop.Sig (Pipeline.Sig Λ₀ (Fin 0) fun p => (pcfgs (F := F) p).Adm) 2) .tc) PUnit) := by
  rewrite [chainK_seq_cons, Pipeline.chainK_cons, chainK_seq_cons, Pipeline.chainK_cons]
  chain_rfl

/-- The last window of @main. -/
theorem main_part2_chain (c : Dev nD) : main_part2 (F := F) c = (Pipeline.chain
  [ seq main_part2_ops0 ] : Prog (TpuEff nD τ sig (Elt F) (HostLoop.Sig (Pipeline.Sig Λ₀ (Fin 0) fun p => (pcfgs (F := F) p).Adm) 2) .tc) PUnit) := by
  rewrite [chain_seq_cons]
  chain_rfl

/-- @main as the chain of its stretches and its two loops. -/
theorem main_chain (c : Dev nD) : main (F := F) c = (Pipeline.chain
  [ seq main_part0_ops0,
    seq main_part0_ops1,
    seq main_part0_ops2,
    seq main_part0_ops3,
    seq main_part0_ops4,
    HostLoop.enter 0,
    seq main_part0_ops5,
    seq main_part1_ops0,
    HostLoop.enter 1,
    seq main_part1_ops1,
    seq main_part1_ops2,
    seq main_part1_ops3,
    seq main_part2_ops0 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- The forward loop's body as the chain of its stretches. -/
theorem while0_body_chain : main_while0_body (F := F) = (Pipeline.chain
  [ seq while0Ops0,
    seq while0Ops0_1,
    seq while0Ops0_2,
    seq while0Ops0_3,
    seq while0Ops0_4,
    seq while0Ops0_5,
    seq while0Ops0_6,
    seq while0Ops0_7,
    seq while0Ops0_8 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, chain_seq_cons, Pipeline.chain_cons, Pipeline.chain_cons, Pipeline.chain_cons, chain_seq_cons]
  chain_rfl

/-- The backward loop's body as the chain of its stretches. -/
theorem while1_body_chain : main_while1_body (F := F) = (Pipeline.chain
  [ seq while1Ops0,
    seq while1Ops0_1,
    seq while1Ops0_2,
    seq while1Ops0_3,
    seq while1Ops0_4,
    seq while1Ops0_5,
    seq while1Ops0_6,
    seq while1Ops0_7,
    seq while1Ops0_8,
    seq while1Ops0_9,
    seq while1Ops0_10,
    seq while1Ops0_11,
    seq while1Ops0_12 ] : Prog (TpuEff nD τ sig (Elt F) (HostLoop.Sig (Pipeline.Sig Λ₀ (Fin 0) fun p => (pcfgs (F := F) p).Adm) 2) .tc) PUnit) := by
  rewrite [chain_seq_cons, Pipeline.chain_cons, Pipeline.chain_cons, Pipeline.chain_cons, Pipeline.chain_cons, Pipeline.chain_cons, Pipeline.chain_cons, chain_seq_cons, Pipeline.chain_cons, Pipeline.chain_cons, Pipeline.chain_cons, Pipeline.chain_cons, chain_seq_cons]
  chain_rfl

end Cert.ReferenceIdeal.Gla

end
-- ==== Proof.RefRun.lean ====
module

public import proofs.«01_k».proof.Proof.RefOps
public import Idealize.ShloMosaic.Lib.Pipeline.RegionsLoop
public import Idealize.ShloMosaic.Lib.StableHlo.RunLoop
public import Idealize.ShloMosaic.Lib.Scf.ExitTest
public import Idealize.ShloMosaic.Lib.Scf.Counter

@[expose] public section

noncomputable section

namespace Cert.ReferenceIdeal.Gla

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

local notation "𝕄" => MT nD τ sig Unit (Elt F) ℕ (Option PUnit) ℕ

/-- The program launches no kernel: nothing to admit, no ticket, no level. -/
abbrev noAdm : (p : Fin 0) → (pcfgs (F := F) p).Adm := fun p => p.elim0
abbrev noTk : Fin 0 → Pipeline.Ticket (Ix := Unit) (Name := ℕ) (U := Option PUnit) (Lvl := ℕ) (nD := nD) (τ := τ) (pcfgs (F := F)) noAdm := fun j => j.elim0
abbrev noLev : GSem nD τ sig → Finset Unit := fun _ => ∅
abbrev noLv : GSem nD τ sig → Unit → ℕ := fun _ _ => 0

/-! ## The stretches before, between and after the loops, and the loops' own -/

abbrev pre : List (List (HloOp τ sig (Elt F))) := [main_part0_ops0, main_part0_ops1, main_part0_ops2, main_part0_ops3, main_part0_ops4]
abbrev between : List (List (HloOp τ sig (Elt F))) := [main_part0_ops5, main_part1_ops0]
abbrev post : List (List (HloOp τ sig (Elt F))) := [main_part1_ops1, main_part1_ops2, main_part1_ops3, main_part2_ops0]
abbrev test0 : List (HloOp τ sig (Elt F)) :=
  [ StableHlo.nullary main_while0c_c_24 (constantI S_ 32 64#32),
    StableHlo.binary main_v35_4 main_while0c_c_24 main_while0c_v91 (cmpi .slt : (⟨S_, .i32⟩ : BufTy).Contents (Elt F) → (⟨S_, .i32⟩ : BufTy).Contents (Elt F) → (⟨S_, .i1⟩ : BufTy).Contents (Elt F)) ]
abbrev test1 : List (HloOp τ sig (Elt F)) :=
  [ StableHlo.nullary main_while1c_c_27 (constantI S_ 32 64#32),
    StableHlo.binary main_v48_6 main_while1c_c_27 main_while1c_v91 (cmpi .slt : (⟨S_, .i32⟩ : BufTy).Contents (Elt F) → (⟨S_, .i32⟩ : BufTy).Contents (Elt F) → (⟨S_, .i1⟩ : BufTy).Contents (Elt F)) ]
abbrev body0 : List (List (HloOp τ sig (Elt F))) :=
  [while0Ops0, while0Ops0_1, while0Ops0_2, while0Ops0_3, while0Ops0_4, while0Ops0_5, while0Ops0_6, while0Ops0_7, while0Ops0_8]
abbrev body1 : List (List (HloOp τ sig (Elt F))) :=
  [while1Ops0, while1Ops0_1, while1Ops0_2, while1Ops0_3, while1Ops0_4, while1Ops0_5, while1Ops0_6, while1Ops0_7, while1Ops0_8,
   while1Ops0_9, while1Ops0_10, while1Ops0_11, while1Ops0_12]

theorem pre_plain : Plain (pre (F := F)) :=
  .cons main_part0_ops0_sub (.cons main_part0_ops1_sub (.cons main_part0_ops2_sub (.cons main_part0_ops3_sub (.cons main_part0_ops4_sub .nil))))
theorem between_plain : Plain (between (F := F)) := .cons main_part0_ops5_sub (.cons main_part1_ops0_sub .nil)
theorem post_plain : Plain (post (F := F)) :=
  .cons main_part1_ops1_sub (.cons main_part1_ops2_sub (.cons main_part1_ops3_sub (.cons main_part2_ops0_sub .nil)))
theorem body0_plain : Plain (body0 (F := F)) :=
  .cons while0Ops0_sub (.cons while0Ops0_1_sub (.cons while0Ops0_2_sub (.cons while0Ops0_3_sub (.cons while0Ops0_4_sub
    (.cons while0Ops0_5_sub (.cons while0Ops0_6_sub (.cons while0Ops0_7_sub (.cons while0Ops0_8_sub .nil))))))))
theorem body1_plain : Plain (body1 (F := F)) :=
  .cons while1Ops0_sub (.cons while1Ops0_1_sub (.cons while1Ops0_2_sub (.cons while1Ops0_3_sub (.cons while1Ops0_4_sub
    (.cons while1Ops0_5_sub (.cons while1Ops0_6_sub (.cons while1Ops0_7_sub (.cons while1Ops0_8_sub (.cons while1Ops0_9_sub
    (.cons while1Ops0_10_sub (.cons while1Ops0_11_sub (.cons while1Ops0_12_sub .nil))))))))))))

/-! ## References a list of stretches leaves alone -/

/-- A list of stretches keeps a reference that none of them writes. -/
theorem afterL_keep {W : List (List (Ref sig .tc))} {r : Ref sig .tc} (hr : ∀ w ∈ W, r ∉ w) :
    ∀ {items : List (List (HloOp τ sig (Elt F)))} (_ : List.Forall₂ (fun (ops : List (HloOp τ sig (Elt F))) w =>
        ops.Forall fun op => op.writes ⊆ (w.map (Proc.devRef (τ := τ) .tc)).toFinset) items W) (V : Valuation τ sig (Elt F)),
      afterL items V (Proc.devRef .tc r) = V (Proc.devRef .tc r) := by
  intro items h
  induction h with
  | nil => intro V; rfl
  | cons h₁ _ ih =>
    intro V
    rw [afterL_cons, ih (fun w hw => hr w (List.mem_cons_of_mem _ hw)), after_of_writes_sub _ _ h₁ (hr _ List.mem_cons_self)]

abbrev pre_W : List (List (Ref sig .tc)) := [main_part0_ops0_W, main_part0_ops1_W, main_part0_ops2_W, main_part0_ops3_W, main_part0_ops4_W]
theorem pre_writes : List.Forall₂ (fun (ops : List (HloOp τ sig (Elt F))) w =>
    ops.Forall fun op => op.writes ⊆ (w.map (Proc.devRef (τ := τ) .tc)).toFinset) pre pre_W :=
  .cons main_part0_ops0_writes (.cons main_part0_ops1_writes (.cons main_part0_ops2_writes (.cons main_part0_ops3_writes (.cons main_part0_ops4_writes .nil))))
abbrev between_W : List (List (Ref sig .tc)) := [main_part0_ops5_W, main_part1_ops0_W]
theorem between_writes : List.Forall₂ (fun (ops : List (HloOp τ sig (Elt F))) w =>
    ops.Forall fun op => op.writes ⊆ (w.map (Proc.devRef (τ := τ) .tc)).toFinset) between between_W :=
  .cons main_part0_ops5_writes (.cons main_part1_ops0_writes .nil)
abbrev post_W : List (List (Ref sig .tc)) := [main_part1_ops1_W, main_part1_ops2_W, main_part1_ops3_W, main_part2_ops0_W]
theorem post_writes : List.Forall₂ (fun (ops : List (HloOp τ sig (Elt F))) w =>
    ops.Forall fun op => op.writes ⊆ (w.map (Proc.devRef (τ := τ) .tc)).toFinset) post post_W :=
  .cons main_part1_ops1_writes (.cons main_part1_ops2_writes (.cons main_part1_ops3_writes (.cons main_part2_ops0_writes .nil)))
abbrev body0_W : List (List (Ref sig .tc)) :=
  [while0Ops0_W, while0Ops0_1_W, while0Ops0_2_W, while0Ops0_3_W, while0Ops0_4_W, while0Ops0_5_W, while0Ops0_6_W, while0Ops0_7_W, while0Ops0_8_W]
theorem body0_writes : List.Forall₂ (fun (ops : List (HloOp τ sig (Elt F))) w =>
    ops.Forall fun op => op.writes ⊆ (w.map (Proc.devRef (τ := τ) .tc)).toFinset) body0 body0_W :=
  .cons while0Ops0_writes (.cons while0Ops0_1_writes (.cons while0Ops0_2_writes (.cons while0Ops0_3_writes (.cons while0Ops0_4_writes
    (.cons while0Ops0_5_writes (.cons while0Ops0_6_writes (.cons while0Ops0_7_writes (.cons while0Ops0_8_writes .nil))))))))
abbrev body1_W : List (List (Ref sig .tc)) :=
  [while1Ops0_W, while1Ops0_1_W, while1Ops0_2_W, while1Ops0_3_W, while1Ops0_4_W, while1Ops0_5_W, while1Ops0_6_W, while1Ops0_7_W, while1Ops0_8_W,
   while1Ops0_9_W, while1Ops0_10_W, while1Ops0_11_W, while1Ops0_12_W]
theorem body1_writes : List.Forall₂ (fun (ops : List (HloOp τ sig (Elt F))) w =>
    ops.Forall fun op => op.writes ⊆ (w.map (Proc.devRef (τ := τ) .tc)).toFinset) body1 body1_W :=
  .cons while1Ops0_writes (.cons while1Ops0_1_writes (.cons while1Ops0_2_writes (.cons while1Ops0_3_writes (.cons while1Ops0_4_writes
    (.cons while1Ops0_5_writes (.cons while1Ops0_6_writes (.cons while1Ops0_7_writes (.cons while1Ops0_8_writes (.cons while1Ops0_9_writes
    (.cons while1Ops0_10_writes (.cons while1Ops0_11_writes (.cons while1Ops0_12_writes .nil))))))))))))
theorem test0_writes : (test0 : List (HloOp τ sig (Elt F))).Forall fun op => op.writes ⊆ (([main_while0c_c_24, main_while0c_v91] : List (Ref sig .tc)).map (Proc.devRef (τ := τ) .tc)).toFinset :=
  StableHlo.forall_writes_sub_of_map rfl
theorem test1_writes : (test1 : List (HloOp τ sig (Elt F))).Forall fun op => op.writes ⊆ (([main_while1c_c_27, main_while1c_v91] : List (Ref sig .tc)).map (Proc.devRef (τ := τ) .tc)).toFinset :=
  StableHlo.forall_writes_sub_of_map rfl

/-- A loop's trips keep a reference that neither its test nor its body writes. -/
theorem trips_keep {test : List (HloOp τ sig (Elt F))} {body : List (List (HloOp τ sig (Elt F)))} {Wt : List (Ref sig .tc)} {Wb : List (List (Ref sig .tc))}
    (ht : test.Forall fun op => op.writes ⊆ (Wt.map (Proc.devRef (τ := τ) .tc)).toFinset)
    (hb : List.Forall₂ (fun (ops : List (HloOp τ sig (Elt F))) w => ops.Forall fun op => op.writes ⊆ (w.map (Proc.devRef (τ := τ) .tc)).toFinset) body Wb)
    {r : Ref sig .tc} (hrt : r ∉ Wt) (hrb : ∀ w ∈ Wb, r ∉ w) (W₀ : Dev nD → Valuation τ sig (Elt F)) (c : Dev nD) :
    ∀ k, atTrip test body W₀ k c (Proc.devRef .tc r) = W₀ c (Proc.devRef .tc r)
  | 0 => rfl
  | k + 1 => by
    rw [atTrip_succ, afterL_keep hrb hb, after_of_writes_sub _ _ ht hrt]
    exact trips_keep ht hb hrt hrb W₀ c k

variable (m : (ℓ : Loc nD τ sig) → Buf (Elt F) ℓ) (ρ : Dev nD → PrngReg)

/-! ## The contents at each boundary -/

/-- The contents when the forward loop is entered, when it is left, when the backward loop is entered, when it is left, at the end. -/
def E0 (c : Dev nD) : Valuation τ sig (Elt F) := afterL pre (launchContents m c)
def X0 (c : Dev nD) : Valuation τ sig (Elt F) := after test0 (atTrip test0 body0 (E0 m) 64 c)
def E1 (c : Dev nD) : Valuation τ sig (Elt F) := afterL between (X0 m c)
def X1 (c : Dev nD) : Valuation τ sig (Elt F) := after test1 (atTrip test1 body1 (E1 m) 64 c)
def Z (c : Dev nD) : Valuation τ sig (Elt F) := afterL post (X1 m c)

/-- A reference that nothing writes ends as launched. -/
theorem Z_keep (c : Dev nD) (r : Ref sig .tc) (h0 : ∀ w ∈ pre_W, r ∉ w) (h1 : ∀ w ∈ body0_W, r ∉ w) (h2 : ∀ w ∈ between_W, r ∉ w)
    (h3 : ∀ w ∈ body1_W, r ∉ w) (h4 : ∀ w ∈ post_W, r ∉ w) (h5 : r ∉ [main_while0c_c_24, main_while0c_v91]) (h6 : r ∉ [main_while1c_c_27, main_while1c_v91]) :
    Z m c (Proc.devRef .tc r) = m ((c : Thread nD τ).loc r) := by
  unfold Z X1
  rw [afterL_keep h4 post_writes, after_of_writes_sub _ _ test1_writes h6, trips_keep test1_writes body1_writes h6 h3]
  unfold E1 X0
  rw [afterL_keep h2 between_writes, after_of_writes_sub _ _ test0_writes h5, trips_keep test0_writes body0_writes h5 h1]
  unfold E0
  rw [afterL_keep h0 pre_writes]

/-! ## The trip counters -/

theorem ctr0_entry (c : Dev nD) : E0 m c (Proc.devRef .tc main_v35_4) = fun _ => (0#32 : BitVec 32) := by
  unfold E0
  simp only [afterL_cons, afterL_nil]
  after_results
  rfl

theorem ctr0_step (X : Valuation τ sig (Elt F)) :
    after while0Ops0_8 X (Proc.devRef .tc main_v35_4) = addi (X (Proc.devRef .tc main_v35_4)) (constantI S_ 32 1#32) := by
  after_results
  rfl

/-- Before the `k`-th test of the forward loop its counter is `k`. -/
theorem ctr0 (c : Dev nD) : ∀ k, atTrip test0 body0 (E0 m) k c (Proc.devRef .tc main_v35_4) = fun _ => Scf.iv 0#32 1#32 k
  | 0 => by rw [atTrip_zero, ctr0_entry, Scf.iv_zero]
  | k + 1 => by
    rw [atTrip_succ]
    simp only [afterL_cons, afterL_nil]
    rw [ctr0_step, after_of_writes_sub _ _ while0Ops0_7_writes (by decide), after_of_writes_sub _ _ while0Ops0_6_writes (by decide),
      after_of_writes_sub _ _ while0Ops0_5_writes (by decide), after_of_writes_sub _ _ while0Ops0_4_writes (by decide),
      after_of_writes_sub _ _ while0Ops0_3_writes (by decide), after_of_writes_sub _ _ while0Ops0_2_writes (by decide),
      after_of_writes_sub _ _ while0Ops0_1_writes (by decide), after_of_writes_sub _ _ while0Ops0_writes (by decide),
      after_of_writes_sub _ _ test0_writes (by decide), ctr0 c k, Scf.iv_succ]
    rfl

theorem ctr1_entry (c : Dev nD) : E1 m c (Proc.devRef .tc main_v48_6) = fun _ => (0#32 : BitVec 32) := by
  unfold E1
  simp only [afterL_cons, afterL_nil]
  after_results
  rfl

theorem ctr1_step (X : Valuation τ sig (Elt F)) :
    after while1Ops0_12 X (Proc.devRef .tc main_v48_6) = addi (X (Proc.devRef .tc main_v48_6)) (constantI S_ 32 1#32) := by
  after_results
  rfl

/-- Before the `k`-th test of the backward loop its counter is `k`. -/
theorem ctr1 (c : Dev nD) : ∀ k, atTrip test1 body1 (E1 m) k c (Proc.devRef .tc main_v48_6) = fun _ => Scf.iv 0#32 1#32 k
  | 0 => by rw [atTrip_zero, ctr1_entry, Scf.iv_zero]
  | k + 1 => by
    rw [atTrip_succ]
    simp only [afterL_cons, afterL_nil]
    rw [ctr1_step, after_of_writes_sub _ _ while1Ops0_11_writes (by decide), after_of_writes_sub _ _ while1Ops0_10_writes (by decide),
      after_of_writes_sub _ _ while1Ops0_9_writes (by decide), after_of_writes_sub _ _ while1Ops0_8_writes (by decide),
      after_of_writes_sub _ _ while1Ops0_7_writes (by decide), after_of_writes_sub _ _ while1Ops0_6_writes (by decide),
      after_of_writes_sub _ _ while1Ops0_5_writes (by decide), after_of_writes_sub _ _ while1Ops0_4_writes (by decide),
      after_of_writes_sub _ _ while1Ops0_3_writes (by decide), after_of_writes_sub _ _ while1Ops0_2_writes (by decide),
      after_of_writes_sub _ _ while1Ops0_1_writes (by decide), after_of_writes_sub _ _ while1Ops0_writes (by decide),
      after_of_writes_sub _ _ test1_writes (by decide), ctr1 c k, Scf.iv_succ]
    rfl

/-! ## The tests -/

/-- The core owing nothing, which rides along every segment. -/
abbrev idle (c : Dev nD) : sProp 𝕄 := iprop(∃ W, owes (c : Thread nD τ) (0 : CellTallies nD τ sig Unit) W)

set_option backward.isDefEq.respectTransparency.types false in
/-- The forward loop's test answers 1 exactly on its first 64 runs. -/
theorem test0_spec : LoopCond (pcfgs (F := F)) defs₀ Variants.none loops idle (main_while0_cond (F := F)) test0 body0 (E0 m) 64 := by
  intro k hk c bd
  have hctr := ctr0 m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atTrip test0 body0 (E0 m) k c) main_v35_4 HostLoop.idx0)
        (HloOp.result _ (atTrip test0 body0 (E0 m) k c) main_while0c_c_24 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitl [Hh]; · rw [after_cons, after_cons, after_nil]; iexact Hh
  iexact HR

set_option backward.isDefEq.respectTransparency.types false in
/-- The backward loop's test likewise. -/
theorem test1_spec : LoopCond (pcfgs (F := F)) defs₀ Variants.none loops idle (main_while1_cond (F := F)) test1 body1 (E1 m) 64 := by
  intro k hk c bd
  have hctr := ctr1 m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atTrip test1 body1 (E1 m) k c) main_v48_6 HostLoop.idx0)
        (HloOp.result _ (atTrip test1 body1 (E1 m) k c) main_while1c_c_27 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitl [Hh]; · rw [after_cons, after_cons, after_nil]; iexact Hh
  iexact HR

/-! ## The run -/

abbrev KSeg : Type 1 := Pipeline.CSeg (pcfgs (F := F)) noAdm defs₀ Variants.none noLev noLv loops noTk

/-- The two loops as segments. -/
def loop0 : KSeg (F := F) :=
  loopSeg _ _ _ _ _ _ _ _ 0 main_while0_cond main_while0_body rfl test0 body0 body0_plain (by rw [while0_body_chain]; rfl) 64 (E0 m) idle (test0_spec m)
def loop1 : KSeg (F := F) :=
  loopSeg _ _ _ _ _ _ _ _ 1 main_while1_cond main_while1_body rfl test1 body1 body1_plain (by rw [while1_body_chain]; rfl) 64 (E1 m) idle (test1_spec m)

/-- @main's segments: stretches, the forward loop, stretches, the backward loop, stretches. -/
def segs : List (KSeg (F := F)) :=
  segsOf _ _ _ _ _ _ _ _ idle pre pre_plain (launchContents m)
    ++ (loop0 m :: (segsOf _ _ _ _ _ _ _ _ idle between between_plain (X0 m)
      ++ (loop1 m :: segsOf _ _ _ _ _ _ _ _ idle post post_plain (X1 m))))

theorem segs_prog : (segs m).map Pipeline.CSeg.prog
    = (pre.map fun ops => (seq ops : Prog _ PUnit)) ++ (HostLoop.enter 0 :: ((between.map fun ops => (seq ops : Prog _ PUnit))
      ++ (HostLoop.enter 1 :: post.map fun ops => (seq ops : Prog _ PUnit)))) := by
  unfold segs
  rw [List.map_append, List.map_cons, List.map_append, List.map_cons, segsOf_prog, segsOf_prog, segsOf_prog]
  rfl

theorem segs_chains : Pipeline.CSeg.Chains (fun c => iprop(held (c : Thread nD τ) (ucRefs τ sig) (launchContents m c) ∗ idle c)) (segs m)
    (fun c => iprop(held (c : Thread nD τ) (ucRefs τ sig) (Z m c) ∗ idle c)) := by
  unfold segs
  exact Pipeline.CSeg.Chains.append (segsOf_chains _ _ _ _ _ _ _ _ idle pre pre_plain _)
    ⟨fun _ => .rfl, Pipeline.CSeg.Chains.append (segsOf_chains _ _ _ _ _ _ _ _ idle between between_plain _)
      ⟨fun _ => .rfl, segsOf_chains _ _ _ _ _ _ _ _ idle post post_plain _⟩⟩

/-- THE RUN. Every execution ends with every unscoped buffer at `Z` and every counter at zero. -/
theorem run : θ_run defs (onTc (τ := τ) (main (F := F))) ⟨m, fun _ => 0, ρ⟩ (fun r =>
    (∀ c : Dev nD, ∀ b ∈ ucRefs τ sig, r.2.mem ((c : Thread nD τ).1, b) = Z m c b) ∧ r.2.sem = fun _ => 0) := by
  refine Pipeline.θ_run_regions_loop_kit_dev_sems (Ix := Unit) (Name := ℕ) (U := Option PUnit) (Lvl := ℕ) (J := Fin 0) (P := Fin 0) (Val := Elt F)
    pcfgs noAdm (fun k => k.1.elim0) defs₀ Variants.none noLev noLv loops noTk m ρ main (fun _ => segs m)
    (fun c Q => ?_)
    (fun c => Pipeline.CSeg.pairwise_disjoint_of_T_empty _ fun s _ => Finset.eq_empty_of_isEmpty s.T)
    (O₀ := 0) (hL := fun _ _ => rfl) (G := fun _ => iprop(emp)) (u₀ := 1)
    (hu₀ := ?_)
    (T₀ := fun c => iprop(held (c : Thread nD τ) (ucRefs τ sig) (launchContents m c) ∗ idle c))
    (Tₙ := fun c => iprop(held (c : Thread nD τ) (ucRefs τ sig) (Z m c)))
    (hch := fun c => ?_)
    (hinit := Pipeline.initEach noLev noLv fun c => ?_)
    (QY := fun c s => ∀ b ∈ ucRefs τ sig, s.mem ((c : Thread nD τ).1, b) = Z m c b)
    (hfin := fun c s' => ?_)
    (hQ := fun _ h hz => ⟨h, funext fun g => hz g (.inr ?_)⟩)
  · rw [main_chain c]
    unfold Pipeline.CSeg.runL
    rw [segs_prog]
    simp only [List.map_cons, List.map_nil, List.cons_append, List.nil_append]
    exact .rfl
  · iintro -
    imodintro
    isplitl []
    · rw [Finset.univ_eq_empty, BI.bigSep_empty]; iempintro
    · iapply (show (BI.emp : sProp 𝕄) ⊢ bigSep Finset.univ (fun _ : Dev nD => (BI.emp : sProp 𝕄)) from by rw [BI.bigSep_emp_const])
      iempintro
  · exact Pipeline.CSeg.Chains.onCore (segs_chains m) c
  · rw [show unscopedBufs c (fun b => m ((c.tc : Thread nD τ).loc b)) = held (c : Thread nD τ) (ucRefs τ sig) (launchContents m c)
        from Pipeline.unscopedBufs_held c (launchContents m c)]
    iintro ⟨⟨Hh, -, HO, -, -, -⟩, -⟩
    imodintro
    isplitl [Hh]; · iexact Hh
    iexists ∅; iexact HO
  · unfold held
    iintro ⟨Hh, HSI⟩
    ihave Hr := (pointsTo_read_all (ucRefs τ sig) (fun b => ((c : Thread nD τ).1, b)) (Z m c) s') $$ [Hh HSI]
    · isplitl [Hh] <;> iassumption
    imodintro; iexact Hr
  · exact (by decide : ∀ s : SemLoc sig, s.isScoped .tc = true) g.2

/-- THE FRAME: every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c _ (devRef_mem_ucRefs main_arg0 rfl)).trans (Z_keep m c main_arg0 (by decide) (by decide) (by decide) (by decide) (by decide) (by decide) (by decide)),
     (h.1 c _ (devRef_mem_ucRefs main_arg1 rfl)).trans (Z_keep m c main_arg1 (by decide) (by decide) (by decide) (by decide) (by decide) (by decide) (by decide)),
     (h.1 c _ (devRef_mem_ucRefs main_arg2 rfl)).trans (Z_keep m c main_arg2 (by decide) (by decide) (by decide) (by decide) (by decide) (by decide) (by decide))⟩, h.2⟩) (run m ρ)

end Cert.ReferenceIdeal.Gla

end
-- ==== Proof.RefPre.lean ====
module

public import proofs.«01_k».proof.Proof.RefRun
public import proofs.«01_k».proof.Proof.Spec
public import Idealize.ShloMosaic.Lib.Pointwise

@[expose] public section

/-!
  What the reference computes before its forward loop: the tiles of every head and chunk, the decayed queries and
  keys, the masked scores. An array of the reference is indexed by chunk, head, token and coordinate.
-/

noncomputable section

namespace Cert.ReferenceIdeal.Gla

open Cert.ReferenceIdeal Cert.ReferenceIdeal.Gen
open Idealize.ShloMosaic Idealize.ShloMosaic.TcCoe
open Idealize.SL.Sem
open Idealize.ShloMosaic.StableHlo

/-! ## The arrays by chunk, head, token and coordinate -/

/-- An array of rank four from its tiles. -/
abbrev byTile {n : ℕ} (T : ℕ → ℕ → GlaSpec.Tile n) : (⟨4, ![64, 4, 64, n]⟩ : Shape).Idx → EReal :=
  fun i => T (i 1).val (i 0).val (i 2) (i 3)

section Args
variable (P : (⟨2, ![4096, 6144]⟩ : Shape).Idx → EReal) (C : (⟨2, ![4096, 1024]⟩ : Shape).Idx → EReal)

theorem at_c (h n : ℕ) (t : Fin 64) (a : Fin 256) {r x : ℕ} (hr : r < 4096) (hx : x < 1024) (e0 : r = n * 64 + t.val) (e1 : x = h * 256 + a.val) :
    C (ix2 ⟨r, hr⟩ ⟨x, hx⟩) = GlaSpec.cT C h n t a := by
  refine congrArg C (congr (congrArg ix2 (Fin.ext ?_)) (Fin.ext ?_))
  · show r = (64 * n + t.val) % 4096; omega
  · show x = (256 * h + a.val) % 1024; omega

theorem at_q (h n : ℕ) (t : Fin 64) (a : Fin 256) {r x : ℕ} (hr : r < 4096) (hx : x < 6144) (e0 : r = n * 64 + t.val) (e1 : x = h * 256 + a.val) :
    P (ix2 ⟨r, hr⟩ ⟨x, hx⟩) = GlaSpec.qT P h n t a := by
  refine congrArg P (congr (congrArg ix2 (Fin.ext ?_)) (Fin.ext ?_))
  · show r = (64 * n + t.val) % 4096; omega
  · show x = (256 * h + a.val) % 6144; omega

theorem at_k (h n : ℕ) (t : Fin 64) (a : Fin 256) {r x : ℕ} (hr : r < 4096) (hx : x < 6144) (e0 : r = n * 64 + t.val) (e1 : x = 1024 + (h * 256 + a.val)) :
    P (ix2 ⟨r, hr⟩ ⟨x, hx⟩) = GlaSpec.kT P h n t a := by
  refine congrArg P (congr (congrArg ix2 (Fin.ext ?_)) (Fin.ext ?_))
  · show r = (64 * n + t.val) % 4096; omega
  · show x = (1024 + 256 * h + a.val) % 6144; omega

theorem at_v (h n : ℕ) (t : Fin 64) (a : Fin 512) {r x : ℕ} (hr : r < 4096) (hx : x < 6144) (e0 : r = n * 64 + t.val) (e1 : x = 2048 + (h * 512 + a.val)) :
    P (ix2 ⟨r, hr⟩ ⟨x, hx⟩) = GlaSpec.vT P h n t a := by
  refine congrArg P (congr (congrArg ix2 (Fin.ext ?_)) (Fin.ext ?_))
  · show r = (64 * n + t.val) % 4096; omega
  · show x = (2048 + 512 * h + a.val) % 6144; omega

end Args

theorem at_g (G : (⟨2, ![4096, 2048]⟩ : Shape).Idx → EReal) (h n : ℕ) (t : Fin 64) (a : Fin 512) {r x : ℕ} (hr : r < 4096) (hx : x < 2048)
    (e0 : r = n * 64 + t.val) (e1 : x = h * 512 + a.val) : G (ix2 ⟨r, hr⟩ ⟨x, hx⟩) = GlaSpec.gT G h n t a := by
  refine congrArg G (congr (congrArg ix2 (Fin.ext ?_)) (Fin.ext ?_))
  · show r = (64 * n + t.val) % 4096; omega
  · show x = (512 * h + a.val) % 2048; omega

variable (m : (ℓ : Loc nD τ sig) → Buf (Elt Ideal) ℓ) (c : Dev nD)

/-- The three arguments, as arrays of extended reals. -/
abbrev argP (c : Dev nD) : S4096x6144.Idx → EReal := m ((c.tc : Thread nD τ).loc main_arg0)
abbrev argC (c : Dev nD) : S4096x1024.Idx → EReal := m ((c.tc : Thread nD τ).loc main_arg1)
abbrev argG (c : Dev nD) : S4096x2048.Idx → EReal := m ((c.tc : Thread nD τ).loc main_arg2)

/-- Their tiles, by head and chunk. -/
abbrev Q : ℕ → ℕ → GlaSpec.Tile 256 := fun h n => GlaSpec.qT (argP m c) h n
abbrev K : ℕ → ℕ → GlaSpec.Tile 256 := fun h n => GlaSpec.kT (argP m c) h n
abbrev Vv : ℕ → ℕ → GlaSpec.Tile 512 := fun h n => GlaSpec.vT (argP m c) h n
abbrev Cm : ℕ → ℕ → GlaSpec.Tile 256 := fun h n => GlaSpec.cT (argC m c) h n
abbrev Do : ℕ → ℕ → GlaSpec.Tile 512 := fun h n => GlaSpec.gT (argG m c) h n

/-! ## The first stretch -/

/-- What the first stretch leaves in a reference that the next four do not write. -/
theorem E0_first (r : Ref sig .tc) (h : ∀ w ∈ [main_part0_ops1_W, main_part0_ops2_W, main_part0_ops3_W, main_part0_ops4_W], r ∉ w) :
    E0 m c (Proc.devRef .tc r) = after main_part0_ops0 (launchContents m c) (Proc.devRef .tc r) := by
  unfold E0
  rw [afterL_cons]
  exact afterL_keep h (.cons main_part0_ops1_writes (.cons main_part0_ops2_writes (.cons main_part0_ops3_writes (.cons main_part0_ops4_writes .nil)))) _

theorem E0_v7 : E0 m c (Proc.devRef .tc main_v7) = byTile fun h n t a => Q m c h n t a * GlaSpec.scale := by
  rw [E0_first m c main_v7 (by decide)]
  after_results
  funext i
  pointwise
  exact congrArg (· * GlaSpec.scale) (at_q (argP m c) _ _ (i 2) (i 3) _ _ rfl rfl)

theorem E0_v9 : E0 m c (Proc.devRef .tc main_v9) = byTile (K m c) := by
  rw [E0_first m c main_v9 (by decide)]
  after_results
  funext i
  pointwise
  exact at_k (argP m c) _ _ (i 2) (i 3) _ _ rfl rfl

theorem E0_v11 : E0 m c (Proc.devRef .tc main_v11) = byTile (Vv m c) := by
  rw [E0_first m c main_v11 (by decide)]
  after_results
  funext i
  pointwise
  exact at_v (argP m c) _ _ (i 2) (i 3) _ _ rfl rfl

theorem E0_v15 : E0 m c (Proc.devRef .tc main_v15) = byTile fun h n t a => Ideal.exp (Cm m c h n t a) := by
  rw [E0_first m c main_v15 (by decide)]
  after_results
  funext i
  pointwise
  exact congrArg Ideal.exp (at_c (argC m c) _ _ (i 2) (i 3) _ _ rfl rfl)

theorem E0_v16 : E0 m c (Proc.devRef .tc main_v16) = byTile fun h n => GlaSpec.qd (Cm m c h n) (Q m c h n) := by
  rw [E0_first m c main_v16 (by decide)]
  after_results
  funext i
  pointwise
  exact congr (congrArg HMul.hMul (congrArg (· * GlaSpec.scale) (at_q (argP m c) _ _ (i 2) (i 3) _ _ rfl rfl)))
    (congrArg Ideal.exp (at_c (argC m c) _ _ (i 2) (i 3) _ _ rfl rfl))

theorem E0_v18 : E0 m c (Proc.devRef .tc main_v18) = byTile fun h n t a => Ideal.exp (-(Cm m c h n t a)) := by
  rw [E0_first m c main_v18 (by decide)]
  after_results
  funext i
  pointwise
  exact congrArg (fun x => Ideal.exp (-x)) (at_c (argC m c) _ _ (i 2) (i 3) _ _ rfl rfl)

theorem E0_v19 : E0 m c (Proc.devRef .tc main_v19) = byTile fun h n => GlaSpec.ki (Cm m c h n) (K m c h n) := by
  rw [E0_first m c main_v19 (by decide)]
  after_results
  funext i
  pointwise
  exact congr (congrArg HMul.hMul (at_k (argP m c) _ _ (i 2) (i 3) _ _ rfl rfl))
    (congrArg (fun x => Ideal.exp (-x)) (at_c (argC m c) _ _ (i 2) (i 3) _ _ rfl rfl))

theorem E0_v22 : E0 m c (Proc.devRef .tc main_v22) = byTile fun h n t a => Ideal.exp (Cm m c h n 63 a - Cm m c h n t a) := by
  rw [E0_first m c main_v22 (by decide)]
  after_results
  funext i
  pointwise
  exact congrArg Ideal.exp (congr (congrArg HSub.hSub (at_c (argC m c) _ _ 63 (i 3) _ _ rfl rfl)) (at_c (argC m c) _ _ (i 2) (i 3) _ _ rfl rfl))

theorem E0_v23 : E0 m c (Proc.devRef .tc main_v23) = byTile fun h n => GlaSpec.ke (Cm m c h n) (K m c h n) := by
  rw [E0_first m c main_v23 (by decide)]
  after_results
  funext i
  pointwise
  exact congr (congrArg HMul.hMul (at_k (argP m c) _ _ (i 2) (i 3) _ _ rfl rfl))
    (congrArg Ideal.exp (congr (congrArg HSub.hSub (at_c (argC m c) _ _ 63 (i 3) _ _ rfl rfl)) (at_c (argC m c) _ _ (i 2) (i 3) _ _ rfl rfl)))

/-- The decay of a whole chunk. -/
theorem E0_v31 : E0 m c (Proc.devRef .tc main_v31) = fun i : S64x4x256.Idx => Ideal.exp (Cm m c (i 1).val (i 0).val 63 (i 2)) := by
  unfold E0
  simp only [afterL_cons, afterL_nil]
  after_results
  funext i
  pointwise
  exact congrArg Ideal.exp (at_c (argC m c) _ _ 63 (i 2) _ _ rfl rfl)

/-! ## The scores -/

/-- The mask at every score. -/
def maskAll : S64x4x64x64.Idx → BitVec 1 := fun i => if i 3 ≤ i 2 then 1#1 else 0#1

theorem maskAll_select (i : S64x4x64x64.Idx) (x : EReal) : Scalar.select (maskAll i) x 0 = GlaSpec.causal (i 2) (i 3) x := by
  unfold maskAll GlaSpec.causal
  by_cases h : i 3 ≤ i 2
  · rw [if_pos h]; exact (if_pos h).symm
  · rw [if_neg h]; exact (if_neg h).symm

/-- The second stretch computes the mask of a score, the later ones spread it over heads and chunks. -/
theorem ops1_v25 (W : Valuation τ sig (Elt Ideal)) : after main_part0_ops1 W (Proc.devRef .tc main_v25)
    = select (cmpi .sge (addi (iotaInDim S64x64 32 0) (broadcastInDim S64x64 ![] bcast_S_S64x64 (constantI S_ 32 0#32))) (iotaInDim S64x64 32 1))
        (W (Proc.devRef .tc main_v24)) (broadcastInDim S64x64 ![] bcast_S_S64x64 (constantI S_ 1 0#1)) := by
  after_results
  rfl
theorem ops0_v24 (W : Valuation τ sig (Elt Ideal)) : after main_part0_ops0 W (Proc.devRef .tc main_v24)
    = broadcastInDim S64x64 ![] bcast_S_S64x64 (constantI S_ 1 1#1) := by
  after_results
theorem ops3_v27_1 (W : Valuation τ sig (Elt Ideal)) : after main_part0_ops3 W (Proc.devRef .tc main_v27_1)
    = broadcastInDim S64x4x64x64 ![2, 3] bcast_S64x64_S64x4x64x64_2_3 (W (Proc.devRef .tc main_v25)) := by
  after_results
  rfl
theorem ops3_v27_0 (W : Valuation τ sig (Elt Ideal)) : after main_part0_ops3 W (Proc.devRef .tc main_v27_0)
    = select (broadcastInDim S64x4x64x64 ![2, 3] bcast_S64x64_S64x4x64x64_2_3 (W (Proc.devRef .tc main_v25))) (W (Proc.devRef .tc main_v26))
        (broadcastInDim S64x4x64x64 ![] bcast_S_S64x4x64x64 (W (Proc.devRef .tc main_cst_0))) := by
  after_results
  rfl
theorem ops2_v26 (W : Valuation τ sig (Elt Ideal)) : after main_part0_ops2 W (Proc.devRef .tc main_v26)
    = Host.dotGeneral (F := Ideal) (φ₁ := .f32) (φ₂ := .f32) dot_S64x4x64x256_S64x4x64x256_S64x4x64x64_3_3_2_2_01_01 none (W (Proc.devRef .tc main_v16)) (W (Proc.devRef .tc main_v19)) := by
  after_results
theorem ops2_cst (W : Valuation τ sig (Elt Ideal)) : after main_part0_ops2 W (Proc.devRef .tc main_cst_0) = constant (F := Ideal) S_ .f32 0x00000000#32 := by
  after_results

/-- The mask's words. -/
theorem maskWord (t s : Fin 64) : Scalar.select (IntOp.cmpi .sge (IntOp.addi (BitVec.ofNat 32 t.val) 0#32) (BitVec.ofNat 32 s.val)) 1#1 0#1
    = if s ≤ t then 1#1 else 0#1 := by
  revert t s; decide +kernel

theorem mask_spread : broadcastInDim S64x4x64x64 ![2, 3] bcast_S64x64_S64x4x64x64_2_3
    (select (cmpi .sge (addi (iotaInDim S64x64 32 0) (broadcastInDim S64x64 ![] bcast_S_S64x64 (constantI S_ 32 0#32))) (iotaInDim S64x64 32 1))
      (broadcastInDim S64x64 ![] bcast_S_S64x64 (constantI S_ 1 1#1)) (broadcastInDim S64x64 ![] bcast_S_S64x64 (constantI S_ 1 0#1))) = maskAll := by
  funext i
  pointwise
  exact maskWord (i 2) (i 3)

theorem E0_v27_1 : E0 m c (Proc.devRef .tc main_v27_1) = maskAll := by
  unfold E0
  simp only [afterL_cons, afterL_nil]
  rw [after_of_writes_sub _ _ main_part0_ops4_writes (by decide), ops3_v27_1, after_of_writes_sub _ _ main_part0_ops2_writes (by decide),
    ops1_v25, ops0_v24]
  exact mask_spread

theorem E0_v27_0 : E0 m c (Proc.devRef .tc main_v27_0) = fun i : S64x4x64x64.Idx =>
    GlaSpec.pm (Cm m c (i 1).val (i 0).val) (Q m c (i 1).val (i 0).val) (K m c (i 1).val (i 0).val) (i 2) (i 3) := by
  have h16 := (E0_first m c main_v16 (by decide)).symm.trans (E0_v16 m c)
  have h19 := (E0_first m c main_v19 (by decide)).symm.trans (E0_v19 m c)
  unfold E0
  simp only [afterL_cons, afterL_nil]
  rw [after_of_writes_sub _ _ main_part0_ops4_writes (by decide), ops3_v27_0, after_of_writes_sub _ _ main_part0_ops2_writes (by decide),
    ops2_v26, ops2_cst, ops1_v25, ops0_v24, mask_spread, after_of_writes_sub _ _ main_part0_ops1_writes (by decide),
    after_of_writes_sub _ _ main_part0_ops1_writes (by decide), h16, h19]
  funext i
  pointwise
  exact maskAll_select i _

/-! ## What the forward loop starts from -/

/-- The last stretch copies the loop's operands. -/
theorem ops4_copies (W : Valuation τ sig (Elt Ideal)) :
    after main_part0_ops4 W (Proc.devRef .tc main_v35_0) = W (Proc.devRef .tc main_v16)
    ∧ after main_part0_ops4 W (Proc.devRef .tc main_v35_1) = W (Proc.devRef .tc main_v23)
    ∧ after main_part0_ops4 W (Proc.devRef .tc main_v35_2) = W (Proc.devRef .tc main_v11)
    ∧ after main_part0_ops4 W (Proc.devRef .tc main_v35_3) = after main_part0_ops4 W (Proc.devRef .tc main_v31)
    ∧ after main_part0_ops4 W (Proc.devRef .tc main_v35_5) = fun _ : S4x256x512.Idx => (0 : EReal) := by
  refine ⟨?_, ?_, ?_, ?_, ?_⟩
  · after_results; rfl
  · after_results; rfl
  · after_results; rfl
  · after_results; rfl
  · after_results
    funext i
    show broadcastInDim S4x256x512 ![] bcast_S_S4x256x512 (constant (F := Ideal) S_ .f32 0x00000000#32) i = 0
    pointwise

/-- The contents before the last stretch. -/
def B0 (c : Dev nD) : Valuation τ sig (Elt Ideal) := afterL [main_part0_ops0, main_part0_ops1, main_part0_ops2, main_part0_ops3] (launchContents m c)
theorem E0_last : E0 m c = after main_part0_ops4 (B0 m c) := rfl
theorem B0_keep (r : Ref sig .tc) (h : r ∉ main_part0_ops4_W) : B0 m c (Proc.devRef .tc r) = E0 m c (Proc.devRef .tc r) :=
  (after_of_writes_sub _ _ main_part0_ops4_writes h).symm

theorem E0_v35_0 : E0 m c (Proc.devRef .tc main_v35_0) = byTile fun h n => GlaSpec.qd (Cm m c h n) (Q m c h n) :=
  (ops4_copies (B0 m c)).1.trans ((B0_keep m c main_v16 (by decide)).trans (E0_v16 m c))
theorem E0_v35_1 : E0 m c (Proc.devRef .tc main_v35_1) = byTile fun h n => GlaSpec.ke (Cm m c h n) (K m c h n) :=
  (ops4_copies (B0 m c)).2.1.trans ((B0_keep m c main_v23 (by decide)).trans (E0_v23 m c))
theorem E0_v35_2 : E0 m c (Proc.devRef .tc main_v35_2) = byTile (Vv m c) :=
  (ops4_copies (B0 m c)).2.2.1.trans ((B0_keep m c main_v11 (by decide)).trans (E0_v11 m c))
theorem E0_v35_3 : E0 m c (Proc.devRef .tc main_v35_3) = fun i : S64x4x256.Idx => Ideal.exp (Cm m c (i 1).val (i 0).val 63 (i 2)) :=
  (ops4_copies (B0 m c)).2.2.2.1.trans (E0_v31 m c)
theorem E0_v35_5 : E0 m c (Proc.devRef .tc main_v35_5) = fun _ : S4x256x512.Idx => (0 : EReal) := (ops4_copies (B0 m c)).2.2.2.2

end Cert.ReferenceIdeal.Gla
end
-- ==== Proof.RefSlice.lean ====
module

public import Idealize.ShloMosaic.Lib.Pipeline.Value
public import Idealize.ShloMosaic.Lib.DynamicIndex
public import Idealize.ShloMosaic.Lib.Pointwise

@[expose] public section

/-!
  One row of a stacked array, read and replaced: a slice of size one along the first axis, at a start that is in range.
-/

noncomputable section

namespace Cert.RefSlice

open Idealize.ShloMosaic

variable {α : Type} {N n1 n2 n3 : ℕ}

/-- Row `k` of a stack of rank-three arrays. -/
theorem row3 (X : (⟨4, ![N, n1, n2, n3]⟩ : Shape).Idx → α) (start : Fin 4 → Int) (k : ℕ) (hk : k < N)
    (h : (⟨4, ![N, n1, n2, n3]⟩ : Shape).Slices (fun _ => 0) ⟨4, ![1, n1, n2, n3]⟩)
    (hc : (⟨4, ![1, n1, n2, n3]⟩ : Shape).ShapeCasts ⟨3, ![n1, n2, n3]⟩)
    (h0 : start 0 = k) (h1 : start 1 = 0) (h2 : start 2 = 0) (h3 : start 3 = 0) :
    shapeCast ⟨3, ![n1, n2, n3]⟩ (Host.dynamicSlice ⟨4, ![1, n1, n2, n3]⟩ X start h) hc
      = fun i => X (ix4 ⟨k, hk⟩ (i 0) (i 1) (i 2)) := by
  have hsl : (⟨4, ![N, n1, n2, n3]⟩ : Shape).Slices ![k, 0, 0, 0] ⟨4, ![1, n1, n2, n3]⟩ := by
    refine ⟨rfl, fun a => ?_⟩
    fin_cases a
    · show k + 1 ≤ N; omega
    · show 0 + n1 ≤ n1; omega
    · show 0 + n2 ≤ n2; omega
    · show 0 + n3 ≤ n3; omega
  have hcl : ∀ a : Fin 4, (min (max (start a) 0) ((((⟨4, ![N, n1, n2, n3]⟩ : Shape).size a) - ((⟨4, ![1, n1, n2, n3]⟩ : Shape).size (a.cast h.1.symm)) : ℕ) : Int)).toNat
      = (![k, 0, 0, 0] : Fin 4 → ℕ) a := by
    intro a
    fin_cases a
    · show (min (max (start 0) 0) (((N - 1 : ℕ)) : Int)).toNat = k; omega
    · show (min (max (start 1) 0) (((n1 - n1 : ℕ)) : Int)).toNat = 0; omega
    · show (min (max (start 2) 0) (((n2 - n2 : ℕ)) : Int)).toNat = 0; omega
    · show (min (max (start 3) 0) (((n3 - n3 : ℕ)) : Int)).toNat = 0; omega
  funext i
  rw [Host.dynamicSlice_eq_extractStridedSlice_of_clamp _ X start h ![k, 0, 0, 0] hcl hsl,
    Idealize.ShloMosaic.shapeCast_apply _ hc i (ix4 0 (i 0) (i 1) (i 2))
    (by rw [Shape.rowMajor_val_four, Shape.rowMajor_val_three]
        show ((0 * n1 + (i 0).val) * n2 + (i 1).val) * n3 + (i 2).val = ((i 0).val * n2 + (i 1).val) * n3 + (i 2).val
        rw [Nat.zero_mul, Nat.zero_add])]
  refine congrArg X (funext fun a => Fin.ext ?_)
  fin_cases a
  · show k + 0 = k; rfl
  · show 0 + (i 0).val = (i 0).val; omega
  · show 0 + (i 1).val = (i 1).val; omega
  · show 0 + (i 2).val = (i 2).val; omega

/-- A stack of rank-three arrays with row `k` replaced. -/
theorem setRow3 (X : (⟨4, ![N, n1, n2, n3]⟩ : Shape).Idx → α) (u : (⟨3, ![n1, n2, n3]⟩ : Shape).Idx → α) (start : Fin 4 → Int)
    (k : ℕ) (hk : k < N) (h : (⟨4, ![N, n1, n2, n3]⟩ : Shape).Slices (fun _ => 0) ⟨4, ![1, n1, n2, n3]⟩)
    (hb : (⟨3, ![n1, n2, n3]⟩ : Shape).BroadcastsInDim ⟨4, ![1, n1, n2, n3]⟩ ![1, 2, 3])
    (h0 : start 0 = k) (h1 : start 1 = 0) (h2 : start 2 = 0) (h3 : start 3 = 0) :
    Host.dynamicUpdateSlice X (broadcastInDim ⟨4, ![1, n1, n2, n3]⟩ ![1, 2, 3] hb u) start h
      = fun i => if (i 0).val = k then u (ix3 (i 1) (i 2) (i 3)) else X i := by
  have hsl : (⟨4, ![N, n1, n2, n3]⟩ : Shape).Slices ![k, 0, 0, 0] ⟨4, ![1, n1, n2, n3]⟩ := by
    refine ⟨rfl, fun a => ?_⟩
    fin_cases a
    · show k + 1 ≤ N; omega
    · show 0 + n1 ≤ n1; omega
    · show 0 + n2 ≤ n2; omega
    · show 0 + n3 ≤ n3; omega
  have hcl : ∀ a : Fin 4, (min (max (start a) 0) ((((⟨4, ![N, n1, n2, n3]⟩ : Shape).size a) - ((⟨4, ![1, n1, n2, n3]⟩ : Shape).size (a.cast h.1.symm)) : ℕ) : Int)).toNat
      = (![k, 0, 0, 0] : Fin 4 → ℕ) a := by
    intro a
    fin_cases a
    · show (min (max (start 0) 0) (((N - 1 : ℕ)) : Int)).toNat = k; omega
    · show (min (max (start 1) 0) (((n1 - n1 : ℕ)) : Int)).toNat = 0; omega
    · show (min (max (start 2) 0) (((n2 - n2 : ℕ)) : Int)).toNat = 0; omega
    · show (min (max (start 3) 0) (((n3 - n3 : ℕ)) : Int)).toNat = 0; omega
  funext i
  rw [Host.dynamicUpdateSlice_eq_updateSlice X _ start h ![k, 0, 0, 0] hcl hsl]
  unfold updateSlice
  by_cases hi : (i 0).val = k
  · rw [if_pos hi, dif_pos]
    · refine broadcastInDim_apply _ hb u _ (ix3 (i 1) (i 2) (i 3)) fun a => ?_
      fin_cases a
      · show (i 1).val = if n1 = 1 then 0 else (i 1).val - 0; have hl : (i 1).val < n1 := (i 1).isLt; split <;> omega
      · show (i 2).val = if n2 = 1 then 0 else (i 2).val - 0; have hl : (i 2).val < n2 := (i 2).isLt; split <;> omega
      · show (i 3).val = if n3 = 1 then 0 else (i 3).val - 0; have hl : (i 3).val < n3 := (i 3).isLt; split <;> omega
    · intro a
      fin_cases a
      · show k ≤ (i 0).val ∧ (i 0).val < k + 1; omega
      · show 0 ≤ (i 1).val ∧ (i 1).val < 0 + n1; have hl : (i 1).val < n1 := (i 1).isLt; omega
      · show 0 ≤ (i 2).val ∧ (i 2).val < 0 + n2; have hl : (i 2).val < n2 := (i 2).isLt; omega
      · show 0 ≤ (i 3).val ∧ (i 3).val < 0 + n3; have hl : (i 3).val < n3 := (i 3).isLt; omega
  · rw [if_neg hi, dif_neg]
    intro hall
    have h1 : k ≤ (i 0).val ∧ (i 0).val < k + 1 := hall 0
    omega

/-- Row `k` of a stack of matrices. -/
theorem row2 (X : (⟨3, ![N, n1, n2]⟩ : Shape).Idx → α) (start : Fin 3 → Int) (k : ℕ) (hk : k < N)
    (h : (⟨3, ![N, n1, n2]⟩ : Shape).Slices (fun _ => 0) ⟨3, ![1, n1, n2]⟩)
    (hc : (⟨3, ![1, n1, n2]⟩ : Shape).ShapeCasts ⟨2, ![n1, n2]⟩)
    (h0 : start 0 = k) (h1 : start 1 = 0) (h2 : start 2 = 0) :
    shapeCast ⟨2, ![n1, n2]⟩ (Host.dynamicSlice ⟨3, ![1, n1, n2]⟩ X start h) hc
      = fun i => X (ix3 ⟨k, hk⟩ (i 0) (i 1)) := by
  have hsl : (⟨3, ![N, n1, n2]⟩ : Shape).Slices ![k, 0, 0] ⟨3, ![1, n1, n2]⟩ := by
    refine ⟨rfl, fun a => ?_⟩
    fin_cases a
    · show k + 1 ≤ N; omega
    · show 0 + n1 ≤ n1; omega
    · show 0 + n2 ≤ n2; omega
  have hcl : ∀ a : Fin 3, (min (max (start a) 0) ((((⟨3, ![N, n1, n2]⟩ : Shape).size a) - ((⟨3, ![1, n1, n2]⟩ : Shape).size (a.cast h.1.symm)) : ℕ) : Int)).toNat
      = (![k, 0, 0] : Fin 3 → ℕ) a := by
    intro a
    fin_cases a
    · show (min (max (start 0) 0) (((N - 1 : ℕ)) : Int)).toNat = k; omega
    · show (min (max (start 1) 0) (((n1 - n1 : ℕ)) : Int)).toNat = 0; omega
    · show (min (max (start 2) 0) (((n2 - n2 : ℕ)) : Int)).toNat = 0; omega
  funext i
  rw [Host.dynamicSlice_eq_extractStridedSlice_of_clamp _ X start h ![k, 0, 0] hcl hsl,
    Idealize.ShloMosaic.shapeCast_apply _ hc i (ix3 0 (i 0) (i 1))
    (by rw [Shape.rowMajor_val_three, Shape.rowMajor_val_two]
        show (0 * n1 + (i 0).val) * n2 + (i 1).val = (i 0).val * n2 + (i 1).val
        rw [Nat.zero_mul, Nat.zero_add])]
  refine congrArg X (funext fun a => Fin.ext ?_)
  fin_cases a
  · show k + 0 = k; rfl
  · show 0 + (i 0).val = (i 0).val; omega
  · show 0 + (i 1).val = (i 1).val; omega

/-- A stack of matrices with row `k` replaced. -/
theorem setRow2 (X : (⟨3, ![N, n1, n2]⟩ : Shape).Idx → α) (u : (⟨2, ![n1, n2]⟩ : Shape).Idx → α) (start : Fin 3 → Int)
    (k : ℕ) (hk : k < N) (h : (⟨3, ![N, n1, n2]⟩ : Shape).Slices (fun _ => 0) ⟨3, ![1, n1, n2]⟩)
    (hb : (⟨2, ![n1, n2]⟩ : Shape).BroadcastsInDim ⟨3, ![1, n1, n2]⟩ ![1, 2])
    (h0 : start 0 = k) (h1 : start 1 = 0) (h2 : start 2 = 0) :
    Host.dynamicUpdateSlice X (broadcastInDim ⟨3, ![1, n1, n2]⟩ ![1, 2] hb u) start h
      = fun i => if (i 0).val = k then u (ix2 (i 1) (i 2)) else X i := by
  have hsl : (⟨3, ![N, n1, n2]⟩ : Shape).Slices ![k, 0, 0] ⟨3, ![1, n1, n2]⟩ := by
    refine ⟨rfl, fun a => ?_⟩
    fin_cases a
    · show k + 1 ≤ N; omega
    · show 0 + n1 ≤ n1; omega
    · show 0 + n2 ≤ n2; omega
  have hcl : ∀ a : Fin 3, (min (max (start a) 0) ((((⟨3, ![N, n1, n2]⟩ : Shape).size a) - ((⟨3, ![1, n1, n2]⟩ : Shape).size (a.cast h.1.symm)) : ℕ) : Int)).toNat
      = (![k, 0, 0] : Fin 3 → ℕ) a := by
    intro a
    fin_cases a
    · show (min (max (start 0) 0) (((N - 1 : ℕ)) : Int)).toNat = k; omega
    · show (min (max (start 1) 0) (((n1 - n1 : ℕ)) : Int)).toNat = 0; omega
    · show (min (max (start 2) 0) (((n2 - n2 : ℕ)) : Int)).toNat = 0; omega
  funext i
  rw [Host.dynamicUpdateSlice_eq_updateSlice X _ start h ![k, 0, 0] hcl hsl]
  unfold updateSlice
  by_cases hi : (i 0).val = k
  · rw [if_pos hi, dif_pos]
    · refine broadcastInDim_apply _ hb u _ (ix2 (i 1) (i 2)) fun a => ?_
      fin_cases a
      · show (i 1).val = if n1 = 1 then 0 else (i 1).val - 0; have hl : (i 1).val < n1 := (i 1).isLt; split <;> omega
      · show (i 2).val = if n2 = 1 then 0 else (i 2).val - 0; have hl : (i 2).val < n2 := (i 2).isLt; split <;> omega
    · intro a
      fin_cases a
      · show k ≤ (i 0).val ∧ (i 0).val < k + 1; omega
      · show 0 ≤ (i 1).val ∧ (i 1).val < 0 + n1; have hl : (i 1).val < n1 := (i 1).isLt; omega
      · show 0 ≤ (i 2).val ∧ (i 2).val < 0 + n2; have hl : (i 2).val < n2 := (i 2).isLt; omega
  · rw [if_neg hi, dif_neg]
    intro hall
    have h1 : k ≤ (i 0).val ∧ (i 0).val < k + 1 := hall 0
    omega

end Cert.RefSlice

end
-- ==== Proof.RefRows.lean ====
module

public import proofs.«01_k».proof.Proof.RefPre
public import proofs.«01_k».proof.Proof.RefSlice

@[expose] public section

/-!
  The stretches of the two loops' bodies that read, or replace, one chunk's part of an array: at the chunk that the
  loop's counter names.
-/

noncomputable section

namespace Cert.ReferenceIdeal.Gla

open Cert.ReferenceIdeal Cert.ReferenceIdeal.Gen
open Idealize.ShloMosaic Idealize.ShloMosaic.TcCoe
open Idealize.SL.Sem
open Idealize.ShloMosaic.StableHlo

/-- A chunk's number read off its word. -/
theorem toInt_chunk (k : ℕ) (hk : k < 64) : (BitVec.ofNat 32 k).toInt = (k : Int) := toInt_ofNat_of_lt (by omega)

variable (W : Valuation τ sig (Elt Ideal)) (k : ℕ) (hk : k < 64)
include hk

theorem while0Ops0_1_row (hc : W (Proc.devRef .tc main_v35_4) = fun _ => BitVec.ofNat 32 k) : after while0Ops0_1 W (Proc.devRef .tc main_while0b_v92)
    = fun i : S4x64x256.Idx => (W (Proc.devRef .tc main_v35_1) : S64x4x64x256.Idx → EReal) (ix4 ⟨k, hk⟩ (i 0) (i 1) (i 2)) := by
  after_results
  refine RefSlice.row3 (N := 64) (n1 := 4) (n2 := 64) (n3 := 256) (W (Proc.devRef .tc main_v35_1)) _ k hk sliceFits_S64x4x64x256_S1x4x64x256 shapeCasts_S1x4x64x256_S4x64x256 ?_ ?_ ?_ ?_
  · show BitVec.toInt (n := 32) (HloOp.result (Val := Elt Ideal) _ _ (Proc.devRef .tc main_v35_4) (Shape.Idx.first h_S_)) = _
    (repeat first | rw [nullary_result] | rw [nullary_result_ne _ _ _ _ (by decide)])
    rw [hc]; exact toInt_chunk k hk
  · show BitVec.toInt (n := 32) (HloOp.result (Val := Elt Ideal) _ _ (Proc.devRef .tc main_while0b_call3_c) (Shape.Idx.first h_S_)) = _
    (repeat first | rw [nullary_result] | rw [nullary_result_ne _ _ _ _ (by decide)])
    rfl
  · show BitVec.toInt (n := 32) (HloOp.result (Val := Elt Ideal) _ _ (Proc.devRef .tc main_while0b_call3_c_0) (Shape.Idx.first h_S_)) = _
    (repeat first | rw [nullary_result] | rw [nullary_result_ne _ _ _ _ (by decide)])
    rfl
  · show BitVec.toInt (n := 32) (HloOp.result (Val := Elt Ideal) _ _ (Proc.devRef .tc main_while0b_call3_c_1) (Shape.Idx.first h_S_)) = _
    (repeat first | rw [nullary_result] | rw [nullary_result_ne _ _ _ _ (by decide)])
    rfl

theorem while0Ops0_2_row (hc : W (Proc.devRef .tc main_v35_4) = fun _ => BitVec.ofNat 32 k) : after while0Ops0_2 W (Proc.devRef .tc main_while0b_v93)
    = fun i : S4x64x512.Idx => (W (Proc.devRef .tc main_v35_2) : S64x4x64x512.Idx → EReal) (ix4 ⟨k, hk⟩ (i 0) (i 1) (i 2)) := by
  after_results
  refine RefSlice.row3 (N := 64) (n1 := 4) (n2 := 64) (n3 := 512) (W (Proc.devRef .tc main_v35_2)) _ k hk sliceFits_S64x4x64x512_S1x4x64x512 shapeCasts_S1x4x64x512_S4x64x512 ?_ ?_ ?_ ?_
  · show BitVec.toInt (n := 32) (HloOp.result (Val := Elt Ideal) _ _ (Proc.devRef .tc main_v35_4) (Shape.Idx.first h_S_)) = _
    (repeat first | rw [nullary_result] | rw [nullary_result_ne _ _ _ _ (by decide)])
    rw [hc]; exact toInt_chunk k hk
  · show BitVec.toInt (n := 32) (HloOp.result (Val := Elt Ideal) _ _ (Proc.devRef .tc main_while0b_call4_c) (Shape.Idx.first h_S_)) = _
    (repeat first | rw [nullary_result] | rw [nullary_result_ne _ _ _ _ (by decide)])
    rfl
  · show BitVec.toInt (n := 32) (HloOp.result (Val := Elt Ideal) _ _ (Proc.devRef .tc main_while0b_call4_c_0) (Shape.Idx.first h_S_)) = _
    (repeat first | rw [nullary_result] | rw [nullary_result_ne _ _ _ _ (by decide)])
    rfl
  · show BitVec.toInt (n := 32) (HloOp.result (Val := Elt Ideal) _ _ (Proc.devRef .tc main_while0b_call4_c_1) (Shape.Idx.first h_S_)) = _
    (repeat first | rw [nullary_result] | rw [nullary_result_ne _ _ _ _ (by decide)])
    rfl

theorem while0Ops0_3_row (hc : W (Proc.devRef .tc main_v35_4) = fun _ => BitVec.ofNat 32 k) : after while0Ops0_3 W (Proc.devRef .tc main_while0b_v94)
    = fun i : S4x256.Idx => (W (Proc.devRef .tc main_v35_3) : S64x4x256.Idx → EReal) (ix3 ⟨k, hk⟩ (i 0) (i 1)) := by
  after_results
  refine RefSlice.row2 (N := 64) (n1 := 4) (n2 := 256) (W (Proc.devRef .tc main_v35_3)) _ k hk sliceFits_S64x4x256_S1x4x256 shapeCasts_S1x4x256_S4x256 ?_ ?_ ?_
  · show BitVec.toInt (n := 32) (HloOp.result (Val := Elt Ideal) _ _ (Proc.devRef .tc main_v35_4) (Shape.Idx.first h_S_)) = _
    (repeat first | rw [nullary_result] | rw [nullary_result_ne _ _ _ _ (by decide)])
    rw [hc]; exact toInt_chunk k hk
  · show BitVec.toInt (n := 32) (HloOp.result (Val := Elt Ideal) _ _ (Proc.devRef .tc main_while0b_call5_c) (Shape.Idx.first h_S_)) = _
    (repeat first | rw [nullary_result] | rw [nullary_result_ne _ _ _ _ (by decide)])
    rfl
  · show BitVec.toInt (n := 32) (HloOp.result (Val := Elt Ideal) _ _ (Proc.devRef .tc main_while0b_call5_c_0) (Shape.Idx.first h_S_)) = _
    (repeat first | rw [nullary_result] | rw [nullary_result_ne _ _ _ _ (by decide)])
    rfl

theorem while0Ops0_6_set (hc : W (Proc.devRef .tc main_v35_4) = fun _ => BitVec.ofNat 32 k) : after while0Ops0_6 W (Proc.devRef .tc main_while0b_v102)
    = fun i : S64x4x256x512.Idx => if (i 0).val = k then (W (Proc.devRef .tc main_v35_5) : S4x256x512.Idx → EReal) (ix3 (i 1) (i 2) (i 3))
        else (W (Proc.devRef .tc main_v35_7) : S64x4x256x512.Idx → EReal) i := by
  after_results
  refine RefSlice.setRow3 (N := 64) (n1 := 4) (n2 := 256) (n3 := 512) (W (Proc.devRef .tc main_v35_7)) (W (Proc.devRef .tc main_v35_5)) _ k hk updateFits_S64x4x256x512_S1x4x256x512 bcast_S4x256x512_S1x4x256x512_1_2_3 ?_ ?_ ?_ ?_
  · show BitVec.toInt (n := 32) (HloOp.result (Val := Elt Ideal) _ _ (Proc.devRef .tc main_v35_4) (Shape.Idx.first h_S_)) = _
    (repeat first | rw [nullary_result] | rw [nullary_result_ne _ _ _ _ (by decide)] | rw [unary_result_ne _ _ _ _ _ _ (by decide)])
    rw [hc]; exact toInt_chunk k hk
  · show BitVec.toInt (n := 32) (HloOp.result (Val := Elt Ideal) _ _ (Proc.devRef .tc main_while0b_call7_c) (Shape.Idx.first h_S_)) = _
    (repeat first | rw [nullary_result] | rw [nullary_result_ne _ _ _ _ (by decide)] | rw [unary_result_ne _ _ _ _ _ _ (by decide)])
    rfl
  · show BitVec.toInt (n := 32) (HloOp.result (Val := Elt Ideal) _ _ (Proc.devRef .tc main_while0b_call7_c_0) (Shape.Idx.first h_S_)) = _
    (repeat first | rw [nullary_result] | rw [nullary_result_ne _ _ _ _ (by decide)] | rw [unary_result_ne _ _ _ _ _ _ (by decide)])
    rfl
  · show BitVec.toInt (n := 32) (HloOp.result (Val := Elt Ideal) _ _ (Proc.devRef .tc main_while0b_call7_c_1) (Shape.Idx.first h_S_)) = _
    (repeat first | rw [nullary_result] | rw [nullary_result_ne _ _ _ _ (by decide)] | rw [unary_result_ne _ _ _ _ _ _ (by decide)])
    rfl

theorem while0Ops0_7_set (hc : W (Proc.devRef .tc main_v35_4) = fun _ => BitVec.ofNat 32 k) : after while0Ops0_7 W (Proc.devRef .tc main_while0b_v103)
    = fun i : S64x4x256x1.Idx => if (i 0).val = k then (W (Proc.devRef .tc main_while0b_v96) : S4x256x1.Idx → EReal) (ix3 (i 1) (i 2) (i 3))
        else (W (Proc.devRef .tc main_v35_8) : S64x4x256x1.Idx → EReal) i := by
  after_results
  refine RefSlice.setRow3 (N := 64) (n1 := 4) (n2 := 256) (n3 := 1) (W (Proc.devRef .tc main_v35_8)) (W (Proc.devRef .tc main_while0b_v96)) _ k hk updateFits_S64x4x256x1_S1x4x256x1 bcast_S4x256x1_S1x4x256x1_1_2_3 ?_ ?_ ?_ ?_
  · show BitVec.toInt (n := 32) (HloOp.result (Val := Elt Ideal) _ _ (Proc.devRef .tc main_v35_4) (Shape.Idx.first h_S_)) = _
    (repeat first | rw [nullary_result] | rw [nullary_result_ne _ _ _ _ (by decide)] | rw [unary_result_ne _ _ _ _ _ _ (by decide)])
    rw [hc]; exact toInt_chunk k hk
  · show BitVec.toInt (n := 32) (HloOp.result (Val := Elt Ideal) _ _ (Proc.devRef .tc main_while0b_call8_c) (Shape.Idx.first h_S_)) = _
    (repeat first | rw [nullary_result] | rw [nullary_result_ne _ _ _ _ (by decide)] | rw [unary_result_ne _ _ _ _ _ _ (by decide)])
    rfl
  · show BitVec.toInt (n := 32) (HloOp.result (Val := Elt Ideal) _ _ (Proc.devRef .tc main_while0b_call8_c_0) (Shape.Idx.first h_S_)) = _
    (repeat first | rw [nullary_result] | rw [nullary_result_ne _ _ _ _ (by decide)] | rw [unary_result_ne _ _ _ _ _ _ (by decide)])
    rfl
  · show BitVec.toInt (n := 32) (HloOp.result (Val := Elt Ideal) _ _ (Proc.devRef .tc main_while0b_call8_c_1) (Shape.Idx.first h_S_)) = _
    (repeat first | rw [nullary_result] | rw [nullary_result_ne _ _ _ _ (by decide)] | rw [unary_result_ne _ _ _ _ _ _ (by decide)])
    rfl

theorem while1Ops0_1_row (hc : W (Proc.devRef .tc main_while1b_v92) = fun _ => BitVec.ofNat 32 k) : after while1Ops0_1 W (Proc.devRef .tc main_while1b_v93)
    = fun i : S4x64x512.Idx => (W (Proc.devRef .tc main_v48_0) : S64x4x64x512.Idx → EReal) (ix4 ⟨k, hk⟩ (i 0) (i 1) (i 2)) := by
  after_results
  refine RefSlice.row3 (N := 64) (n1 := 4) (n2 := 64) (n3 := 512) (W (Proc.devRef .tc main_v48_0)) _ k hk sliceFits_S64x4x64x512_S1x4x64x512 shapeCasts_S1x4x64x512_S4x64x512 ?_ ?_ ?_ ?_
  · show BitVec.toInt (n := 32) (HloOp.result (Val := Elt Ideal) _ _ (Proc.devRef .tc main_while1b_v92) (Shape.Idx.first h_S_)) = _
    (repeat first | rw [nullary_result] | rw [nullary_result_ne _ _ _ _ (by decide)])
    rw [hc]; exact toInt_chunk k hk
  · show BitVec.toInt (n := 32) (HloOp.result (Val := Elt Ideal) _ _ (Proc.devRef .tc main_while1b_call9_c) (Shape.Idx.first h_S_)) = _
    (repeat first | rw [nullary_result] | rw [nullary_result_ne _ _ _ _ (by decide)])
    rfl
  · show BitVec.toInt (n := 32) (HloOp.result (Val := Elt Ideal) _ _ (Proc.devRef .tc main_while1b_call9_c_0) (Shape.Idx.first h_S_)) = _
    (repeat first | rw [nullary_result] | rw [nullary_result_ne _ _ _ _ (by decide)])
    rfl
  · show BitVec.toInt (n := 32) (HloOp.result (Val := Elt Ideal) _ _ (Proc.devRef .tc main_while1b_call9_c_1) (Shape.Idx.first h_S_)) = _
    (repeat first | rw [nullary_result] | rw [nullary_result_ne _ _ _ _ (by decide)])
    rfl

theorem while1Ops0_2_row (hc : W (Proc.devRef .tc main_while1b_v92) = fun _ => BitVec.ofNat 32 k) : after while1Ops0_2 W (Proc.devRef .tc main_while1b_v94)
    = fun i : S4x256x512.Idx => (W (Proc.devRef .tc main_v48_1) : S64x4x256x512.Idx → EReal) (ix4 ⟨k, hk⟩ (i 0) (i 1) (i 2)) := by
  after_results
  refine RefSlice.row3 (N := 64) (n1 := 4) (n2 := 256) (n3 := 512) (W (Proc.devRef .tc main_v48_1)) _ k hk sliceFits_S64x4x256x512_S1x4x256x512 shapeCasts_S1x4x256x512_S4x256x512 ?_ ?_ ?_ ?_
  · show BitVec.toInt (n := 32) (HloOp.result (Val := Elt Ideal) _ _ (Proc.devRef .tc main_while1b_v92) (Shape.Idx.first h_S_)) = _
    (repeat first | rw [nullary_result] | rw [nullary_result_ne _ _ _ _ (by decide)])
    rw [hc]; exact toInt_chunk k hk
  · show BitVec.toInt (n := 32) (HloOp.result (Val := Elt Ideal) _ _ (Proc.devRef .tc main_while1b_call10_c) (Shape.Idx.first h_S_)) = _
    (repeat first | rw [nullary_result] | rw [nullary_result_ne _ _ _ _ (by decide)])
    rfl
  · show BitVec.toInt (n := 32) (HloOp.result (Val := Elt Ideal) _ _ (Proc.devRef .tc main_while1b_call10_c_0) (Shape.Idx.first h_S_)) = _
    (repeat first | rw [nullary_result] | rw [nullary_result_ne _ _ _ _ (by decide)])
    rfl
  · show BitVec.toInt (n := 32) (HloOp.result (Val := Elt Ideal) _ _ (Proc.devRef .tc main_while1b_call10_c_1) (Shape.Idx.first h_S_)) = _
    (repeat first | rw [nullary_result] | rw [nullary_result_ne _ _ _ _ (by decide)])
    rfl

theorem while1Ops0_3_row (hc : W (Proc.devRef .tc main_while1b_v92) = fun _ => BitVec.ofNat 32 k) : after while1Ops0_3 W (Proc.devRef .tc main_while1b_v95)
    = fun i : S4x64x256.Idx => (W (Proc.devRef .tc main_v48_2) : S64x4x64x256.Idx → EReal) (ix4 ⟨k, hk⟩ (i 0) (i 1) (i 2)) := by
  after_results
  refine RefSlice.row3 (N := 64) (n1 := 4) (n2 := 64) (n3 := 256) (W (Proc.devRef .tc main_v48_2)) _ k hk sliceFits_S64x4x64x256_S1x4x64x256 shapeCasts_S1x4x64x256_S4x64x256 ?_ ?_ ?_ ?_
  · show BitVec.toInt (n := 32) (HloOp.result (Val := Elt Ideal) _ _ (Proc.devRef .tc main_while1b_v92) (Shape.Idx.first h_S_)) = _
    (repeat first | rw [nullary_result] | rw [nullary_result_ne _ _ _ _ (by decide)])
    rw [hc]; exact toInt_chunk k hk
  · show BitVec.toInt (n := 32) (HloOp.result (Val := Elt Ideal) _ _ (Proc.devRef .tc main_while1b_call11_c) (Shape.Idx.first h_S_)) = _
    (repeat first | rw [nullary_result] | rw [nullary_result_ne _ _ _ _ (by decide)])
    rfl
  · show BitVec.toInt (n := 32) (HloOp.result (Val := Elt Ideal) _ _ (Proc.devRef .tc main_while1b_call11_c_0) (Shape.Idx.first h_S_)) = _
    (repeat first | rw [nullary_result] | rw [nullary_result_ne _ _ _ _ (by decide)])
    rfl
  · show BitVec.toInt (n := 32) (HloOp.result (Val := Elt Ideal) _ _ (Proc.devRef .tc main_while1b_call11_c_1) (Shape.Idx.first h_S_)) = _
    (repeat first | rw [nullary_result] | rw [nullary_result_ne _ _ _ _ (by decide)])
    rfl

theorem while1Ops0_4_row (hc : W (Proc.devRef .tc main_while1b_v92) = fun _ => BitVec.ofNat 32 k) : after while1Ops0_4 W (Proc.devRef .tc main_while1b_v96)
    = fun i : S4x256x1.Idx => (W (Proc.devRef .tc main_v48_3) : S64x4x256x1.Idx → EReal) (ix4 ⟨k, hk⟩ (i 0) (i 1) (i 2)) := by
  after_results
  refine RefSlice.row3 (N := 64) (n1 := 4) (n2 := 256) (n3 := 1) (W (Proc.devRef .tc main_v48_3)) _ k hk sliceFits_S64x4x256x1_S1x4x256x1 shapeCasts_S1x4x256x1_S4x256x1 ?_ ?_ ?_ ?_
  · show BitVec.toInt (n := 32) (HloOp.result (Val := Elt Ideal) _ _ (Proc.devRef .tc main_while1b_v92) (Shape.Idx.first h_S_)) = _
    (repeat first | rw [nullary_result] | rw [nullary_result_ne _ _ _ _ (by decide)])
    rw [hc]; exact toInt_chunk k hk
  · show BitVec.toInt (n := 32) (HloOp.result (Val := Elt Ideal) _ _ (Proc.devRef .tc main_while1b_call12_c) (Shape.Idx.first h_S_)) = _
    (repeat first | rw [nullary_result] | rw [nullary_result_ne _ _ _ _ (by decide)])
    rfl
  · show BitVec.toInt (n := 32) (HloOp.result (Val := Elt Ideal) _ _ (Proc.devRef .tc main_while1b_call12_c_0) (Shape.Idx.first h_S_)) = _
    (repeat first | rw [nullary_result] | rw [nullary_result_ne _ _ _ _ (by decide)])
    rfl
  · show BitVec.toInt (n := 32) (HloOp.result (Val := Elt Ideal) _ _ (Proc.devRef .tc main_while1b_call12_c_1) (Shape.Idx.first h_S_)) = _
    (repeat first | rw [nullary_result] | rw [nullary_result_ne _ _ _ _ (by decide)])
    rfl

theorem while1Ops0_5_row (hc : W (Proc.devRef .tc main_while1b_v92) = fun _ => BitVec.ofNat 32 k) : after while1Ops0_5 W (Proc.devRef .tc main_while1b_v97)
    = fun i : S4x64x512.Idx => (W (Proc.devRef .tc main_v48_4) : S64x4x64x512.Idx → EReal) (ix4 ⟨k, hk⟩ (i 0) (i 1) (i 2)) := by
  after_results
  refine RefSlice.row3 (N := 64) (n1 := 4) (n2 := 64) (n3 := 512) (W (Proc.devRef .tc main_v48_4)) _ k hk sliceFits_S64x4x64x512_S1x4x64x512 shapeCasts_S1x4x64x512_S4x64x512 ?_ ?_ ?_ ?_
  · show BitVec.toInt (n := 32) (HloOp.result (Val := Elt Ideal) _ _ (Proc.devRef .tc main_while1b_v92) (Shape.Idx.first h_S_)) = _
    (repeat first | rw [nullary_result] | rw [nullary_result_ne _ _ _ _ (by decide)])
    rw [hc]; exact toInt_chunk k hk
  · show BitVec.toInt (n := 32) (HloOp.result (Val := Elt Ideal) _ _ (Proc.devRef .tc main_while1b_call13_c) (Shape.Idx.first h_S_)) = _
    (repeat first | rw [nullary_result] | rw [nullary_result_ne _ _ _ _ (by decide)])
    rfl
  · show BitVec.toInt (n := 32) (HloOp.result (Val := Elt Ideal) _ _ (Proc.devRef .tc main_while1b_call13_c_0) (Shape.Idx.first h_S_)) = _
    (repeat first | rw [nullary_result] | rw [nullary_result_ne _ _ _ _ (by decide)])
    rfl
  · show BitVec.toInt (n := 32) (HloOp.result (Val := Elt Ideal) _ _ (Proc.devRef .tc main_while1b_call13_c_1) (Shape.Idx.first h_S_)) = _
    (repeat first | rw [nullary_result] | rw [nullary_result_ne _ _ _ _ (by decide)])
    rfl

theorem while1Ops0_6_row (hc : W (Proc.devRef .tc main_while1b_v92) = fun _ => BitVec.ofNat 32 k) : after while1Ops0_6 W (Proc.devRef .tc main_while1b_v98)
    = fun i : S4x64x256.Idx => (W (Proc.devRef .tc main_v48_5) : S64x4x64x256.Idx → EReal) (ix4 ⟨k, hk⟩ (i 0) (i 1) (i 2)) := by
  after_results
  refine RefSlice.row3 (N := 64) (n1 := 4) (n2 := 64) (n3 := 256) (W (Proc.devRef .tc main_v48_5)) _ k hk sliceFits_S64x4x64x256_S1x4x64x256 shapeCasts_S1x4x64x256_S4x64x256 ?_ ?_ ?_ ?_
  · show BitVec.toInt (n := 32) (HloOp.result (Val := Elt Ideal) _ _ (Proc.devRef .tc main_while1b_v92) (Shape.Idx.first h_S_)) = _
    (repeat first | rw [nullary_result] | rw [nullary_result_ne _ _ _ _ (by decide)])
    rw [hc]; exact toInt_chunk k hk
  · show BitVec.toInt (n := 32) (HloOp.result (Val := Elt Ideal) _ _ (Proc.devRef .tc main_while1b_call14_c) (Shape.Idx.first h_S_)) = _
    (repeat first | rw [nullary_result] | rw [nullary_result_ne _ _ _ _ (by decide)])
    rfl
  · show BitVec.toInt (n := 32) (HloOp.result (Val := Elt Ideal) _ _ (Proc.devRef .tc main_while1b_call14_c_0) (Shape.Idx.first h_S_)) = _
    (repeat first | rw [nullary_result] | rw [nullary_result_ne _ _ _ _ (by decide)])
    rfl
  · show BitVec.toInt (n := 32) (HloOp.result (Val := Elt Ideal) _ _ (Proc.devRef .tc main_while1b_call14_c_1) (Shape.Idx.first h_S_)) = _
    (repeat first | rw [nullary_result] | rw [nullary_result_ne _ _ _ _ (by decide)])
    rfl

theorem while1Ops0_8_set (hc : W (Proc.devRef .tc main_while1b_v92) = fun _ => BitVec.ofNat 32 k) : after while1Ops0_8 W (Proc.devRef .tc main_while1b_v113)
    = fun i : S64x4x64x256.Idx => if (i 0).val = k then (W (Proc.devRef .tc main_while1b_v112) : S4x64x256.Idx → EReal) (ix3 (i 1) (i 2) (i 3))
        else (W (Proc.devRef .tc main_v48_8) : S64x4x64x256.Idx → EReal) i := by
  after_results
  refine RefSlice.setRow3 (N := 64) (n1 := 4) (n2 := 64) (n3 := 256) (W (Proc.devRef .tc main_v48_8)) (W (Proc.devRef .tc main_while1b_v112)) _ k hk updateFits_S64x4x64x256_S1x4x64x256 bcast_S4x64x256_S1x4x64x256_1_2_3 ?_ ?_ ?_ ?_
  · show BitVec.toInt (n := 32) (HloOp.result (Val := Elt Ideal) _ _ (Proc.devRef .tc main_while1b_v92) (Shape.Idx.first h_S_)) = _
    (repeat first | rw [nullary_result] | rw [nullary_result_ne _ _ _ _ (by decide)] | rw [unary_result_ne _ _ _ _ _ _ (by decide)])
    rw [hc]; exact toInt_chunk k hk
  · show BitVec.toInt (n := 32) (HloOp.result (Val := Elt Ideal) _ _ (Proc.devRef .tc main_while1b_call15_c) (Shape.Idx.first h_S_)) = _
    (repeat first | rw [nullary_result] | rw [nullary_result_ne _ _ _ _ (by decide)] | rw [unary_result_ne _ _ _ _ _ _ (by decide)])
    rfl
  · show BitVec.toInt (n := 32) (HloOp.result (Val := Elt Ideal) _ _ (Proc.devRef .tc main_while1b_call15_c_0) (Shape.Idx.first h_S_)) = _
    (repeat first | rw [nullary_result] | rw [nullary_result_ne _ _ _ _ (by decide)] | rw [unary_result_ne _ _ _ _ _ _ (by decide)])
    rfl
  · show BitVec.toInt (n := 32) (HloOp.result (Val := Elt Ideal) _ _ (Proc.devRef .tc main_while1b_call15_c_1) (Shape.Idx.first h_S_)) = _
    (repeat first | rw [nullary_result] | rw [nullary_result_ne _ _ _ _ (by decide)] | rw [unary_result_ne _ _ _ _ _ _ (by decide)])
    rfl

theorem while1Ops0_9_set (hc : W (Proc.devRef .tc main_while1b_v92) = fun _ => BitVec.ofNat 32 k) : after while1Ops0_9 W (Proc.devRef .tc main_while1b_v114)
    = fun i : S64x4x64x256.Idx => if (i 0).val = k then (W (Proc.devRef .tc main_while1b_v102) : S4x64x256.Idx → EReal) (ix3 (i 1) (i 2) (i 3))
        else (W (Proc.devRef .tc main_v48_9) : S64x4x64x256.Idx → EReal) i := by
  after_results
  refine RefSlice.setRow3 (N := 64) (n1 := 4) (n2 := 64) (n3 := 256) (W (Proc.devRef .tc main_v48_9)) (W (Proc.devRef .tc main_while1b_v102)) _ k hk updateFits_S64x4x64x256_S1x4x64x256 bcast_S4x64x256_S1x4x64x256_1_2_3 ?_ ?_ ?_ ?_
  · show BitVec.toInt (n := 32) (HloOp.result (Val := Elt Ideal) _ _ (Proc.devRef .tc main_while1b_v92) (Shape.Idx.first h_S_)) = _
    (repeat first | rw [nullary_result] | rw [nullary_result_ne _ _ _ _ (by decide)] | rw [unary_result_ne _ _ _ _ _ _ (by decide)])
    rw [hc]; exact toInt_chunk k hk
  · show BitVec.toInt (n := 32) (HloOp.result (Val := Elt Ideal) _ _ (Proc.devRef .tc main_while1b_call16_c) (Shape.Idx.first h_S_)) = _
    (repeat first | rw [nullary_result] | rw [nullary_result_ne _ _ _ _ (by decide)] | rw [unary_result_ne _ _ _ _ _ _ (by decide)])
    rfl
  · show BitVec.toInt (n := 32) (HloOp.result (Val := Elt Ideal) _ _ (Proc.devRef .tc main_while1b_call16_c_0) (Shape.Idx.first h_S_)) = _
    (repeat first | rw [nullary_result] | rw [nullary_result_ne _ _ _ _ (by decide)] | rw [unary_result_ne _ _ _ _ _ _ (by decide)])
    rfl
  · show BitVec.toInt (n := 32) (HloOp.result (Val := Elt Ideal) _ _ (Proc.devRef .tc main_while1b_call16_c_1) (Shape.Idx.first h_S_)) = _
    (repeat first | rw [nullary_result] | rw [nullary_result_ne _ _ _ _ (by decide)] | rw [unary_result_ne _ _ _ _ _ _ (by decide)])
    rfl

theorem while1Ops0_10_set (hc : W (Proc.devRef .tc main_while1b_v92) = fun _ => BitVec.ofNat 32 k) : after while1Ops0_10 W (Proc.devRef .tc main_while1b_v115)
    = fun i : S64x4x64x512.Idx => if (i 0).val = k then (W (Proc.devRef .tc main_while1b_v100) : S4x64x512.Idx → EReal) (ix3 (i 1) (i 2) (i 3))
        else (W (Proc.devRef .tc main_v48_10) : S64x4x64x512.Idx → EReal) i := by
  after_results
  refine RefSlice.setRow3 (N := 64) (n1 := 4) (n2 := 64) (n3 := 512) (W (Proc.devRef .tc main_v48_10)) (W (Proc.devRef .tc main_while1b_v100)) _ k hk updateFits_S64x4x64x512_S1x4x64x512 bcast_S4x64x512_S1x4x64x512_1_2_3 ?_ ?_ ?_ ?_
  · show BitVec.toInt (n := 32) (HloOp.result (Val := Elt Ideal) _ _ (Proc.devRef .tc main_while1b_v92) (Shape.Idx.first h_S_)) = _
    (repeat first | rw [nullary_result] | rw [nullary_result_ne _ _ _ _ (by decide)] | rw [unary_result_ne _ _ _ _ _ _ (by decide)])
    rw [hc]; exact toInt_chunk k hk
  · show BitVec.toInt (n := 32) (HloOp.result (Val := Elt Ideal) _ _ (Proc.devRef .tc main_while1b_call17_c) (Shape.Idx.first h_S_)) = _
    (repeat first | rw [nullary_result] | rw [nullary_result_ne _ _ _ _ (by decide)] | rw [unary_result_ne _ _ _ _ _ _ (by decide)])
    rfl
  · show BitVec.toInt (n := 32) (HloOp.result (Val := Elt Ideal) _ _ (Proc.devRef .tc main_while1b_call17_c_0) (Shape.Idx.first h_S_)) = _
    (repeat first | rw [nullary_result] | rw [nullary_result_ne _ _ _ _ (by decide)] | rw [unary_result_ne _ _ _ _ _ _ (by decide)])
    rfl
  · show BitVec.toInt (n := 32) (HloOp.result (Val := Elt Ideal) _ _ (Proc.devRef .tc main_while1b_call17_c_1) (Shape.Idx.first h_S_)) = _
    (repeat first | rw [nullary_result] | rw [nullary_result_ne _ _ _ _ (by decide)] | rw [unary_result_ne _ _ _ _ _ _ (by decide)])
    rfl

theorem while1Ops0_11_set (hc : W (Proc.devRef .tc main_while1b_v92) = fun _ => BitVec.ofNat 32 k) : after while1Ops0_11 W (Proc.devRef .tc main_while1b_v116)
    = fun i : S64x4x256.Idx => if (i 0).val = k then (W (Proc.devRef .tc main_while1b_v108) : S4x256.Idx → EReal) (ix2 (i 1) (i 2))
        else (W (Proc.devRef .tc main_v48_11) : S64x4x256.Idx → EReal) i := by
  after_results
  refine RefSlice.setRow2 (N := 64) (n1 := 4) (n2 := 256) (W (Proc.devRef .tc main_v48_11)) (W (Proc.devRef .tc main_while1b_v108)) _ k hk updateFits_S64x4x256_S1x4x256 bcast_S4x256_S1x4x256_1_2 ?_ ?_ ?_
  · show BitVec.toInt (n := 32) (HloOp.result (Val := Elt Ideal) _ _ (Proc.devRef .tc main_while1b_v92) (Shape.Idx.first h_S_)) = _
    (repeat first | rw [nullary_result] | rw [nullary_result_ne _ _ _ _ (by decide)] | rw [unary_result_ne _ _ _ _ _ _ (by decide)])
    rw [hc]; exact toInt_chunk k hk
  · show BitVec.toInt (n := 32) (HloOp.result (Val := Elt Ideal) _ _ (Proc.devRef .tc main_while1b_call18_c) (Shape.Idx.first h_S_)) = _
    (repeat first | rw [nullary_result] | rw [nullary_result_ne _ _ _ _ (by decide)] | rw [unary_result_ne _ _ _ _ _ _ (by decide)])
    rfl
  · show BitVec.toInt (n := 32) (HloOp.result (Val := Elt Ideal) _ _ (Proc.devRef .tc main_while1b_call18_c_0) (Shape.Idx.first h_S_)) = _
    (repeat first | rw [nullary_result] | rw [nullary_result_ne _ _ _ _ (by decide)] | rw [unary_result_ne _ _ _ _ _ _ (by decide)])
    rfl

end Cert.ReferenceIdeal.Gla

end
-- ==== Proof.RefFwd.lean ====
module

public import proofs.«01_k».proof.Proof.RefRows

@[expose] public section

/-!
  The reference's forward loop: trip `k` saves the states that chunk `k` starts from, one per head, and carries the
  next ones.
-/

noncomputable section

namespace Cert.ReferenceIdeal.Gla

open Cert.ReferenceIdeal Cert.ReferenceIdeal.Gen
open Idealize.ShloMosaic Idealize.ShloMosaic.TcCoe
open Idealize.SL.Sem
open Idealize.ShloMosaic.StableHlo

theorem iv_word (k : ℕ) : Scf.iv 0#32 1#32 k = BitVec.ofNat 32 k := by
  simp [Scf.iv]

/-! ## The arithmetic of one trip -/

section Trip
variable (W : Valuation τ sig (Elt Ideal))

theorem while0Ops0_4_v96 : after while0Ops0_4 W (Proc.devRef .tc main_while0b_v96)
    = broadcastInDim S4x256x1 ![0, 1] bcast_S4x256_S4x256x1_0_1 (W (Proc.devRef .tc main_while0b_v94)) := by
  after_results

theorem while0Ops0_4_v100 : after while0Ops0_4 W (Proc.devRef .tc main_while0b_v100)
    = addf (F := Ideal) (φ := .f32) (mulf (F := Ideal) (φ := .f32) (W (Proc.devRef .tc main_v35_5))
        (broadcastInDim S4x256x512 ![0, 1, 2] bcast_S4x256x1_S4x256x512_0_1_2
          (broadcastInDim S4x256x1 ![0, 1] bcast_S4x256_S4x256x1_0_1 (W (Proc.devRef .tc main_while0b_v94)))))
        (Host.dotGeneral (F := Ideal) (φ₁ := .f32) (φ₂ := .f32) dot_S4x64x256_S4x64x512_S4x256x512_1_1_2_2_0_0 none
          (W (Proc.devRef .tc main_while0b_v92)) (W (Proc.devRef .tc main_while0b_v93))) := by
  after_results

theorem while0Ops0_8_copies : after while0Ops0_8 W (Proc.devRef .tc main_v35_5) = W (Proc.devRef .tc main_while0b_v100)
    ∧ after while0Ops0_8 W (Proc.devRef .tc main_v35_7) = W (Proc.devRef .tc main_while0b_v102)
    ∧ after while0Ops0_8 W (Proc.devRef .tc main_v35_8) = W (Proc.devRef .tc main_while0b_v103) := by
  refine ⟨?_, ?_, ?_⟩ <;> (after_results; rfl)

/-- What a trip reads: its counter at `k`, the decayed keys, the values, the chunks' decays, the states `T`. -/
structure FwdReads (k : ℕ) (Cm K : ℕ → ℕ → GlaSpec.Tile 256) (Vv : ℕ → ℕ → GlaSpec.Tile 512) (T : ℕ → GlaSpec.State) : Prop where
  ctr : W (Proc.devRef .tc main_v35_4) = fun _ => BitVec.ofNat 32 k
  ke : W (Proc.devRef .tc main_v35_1) = byTile fun h n => GlaSpec.ke (Cm h n) (K h n)
  v : W (Proc.devRef .tc main_v35_2) = byTile Vv
  dec : W (Proc.devRef .tc main_v35_3) = fun i : S64x4x256.Idx => Ideal.exp (Cm (i 1).val (i 0).val 63 (i 2))
  st : W (Proc.devRef .tc main_v35_5) = fun i : S4x256x512.Idx => T (i 0).val (i 2) (i 1)

variable {W} {k : ℕ} {Cm K : ℕ → ℕ → GlaSpec.Tile 256} {Vv : ℕ → ℕ → GlaSpec.Tile 512} {T : ℕ → GlaSpec.State}

/-- The decay that trip `k` uses. -/
theorem fwd_dec (hk : k < 64) (H : FwdReads W k Cm K Vv T) :
    after while0Ops0_3 (after while0Ops0_2 (after while0Ops0_1 (after while0Ops0 W))) (Proc.devRef .tc main_while0b_v94)
      = fun i : S4x256.Idx => Ideal.exp (Cm (i 0).val k 63 (i 1)) := by
  rw [while0Ops0_3_row _ k hk (by
      rw [after_of_writes_sub _ _ while0Ops0_2_writes (by decide), after_of_writes_sub _ _ while0Ops0_1_writes (by decide),
        after_of_writes_sub _ _ while0Ops0_writes (by decide)]; exact H.ctr),
    after_of_writes_sub _ _ while0Ops0_2_writes (by decide), after_of_writes_sub _ _ while0Ops0_1_writes (by decide),
    after_of_writes_sub _ _ while0Ops0_writes (by decide), H.dec]
  rfl

/-- The states after trip `k`. -/
theorem fwd_state (hk : k < 64) (H : FwdReads W k Cm K Vv T) : afterL body0 W (Proc.devRef .tc main_v35_5)
    = fun i : S4x256x512.Idx => GlaSpec.nextS (Cm (i 0).val k) (K (i 0).val k) (Vv (i 0).val k) (T (i 0).val) (i 2) (i 1) := by
  simp only [afterL_cons, afterL_nil]
  rw [(while0Ops0_8_copies _).1, after_of_writes_sub _ _ while0Ops0_7_writes (by decide), after_of_writes_sub _ _ while0Ops0_6_writes (by decide),
    after_of_writes_sub _ _ while0Ops0_5_writes (by decide), while0Ops0_4_v100, fwd_dec hk H]
  have hS : after while0Ops0_3 (after while0Ops0_2 (after while0Ops0_1 (after while0Ops0 W))) (Proc.devRef .tc main_v35_5)
      = fun i : S4x256x512.Idx => T (i 0).val (i 2) (i 1) := by
    rw [after_of_writes_sub _ _ while0Ops0_3_writes (by decide), after_of_writes_sub _ _ while0Ops0_2_writes (by decide),
      after_of_writes_sub _ _ while0Ops0_1_writes (by decide), after_of_writes_sub _ _ while0Ops0_writes (by decide)]
    exact H.st
  have hK : after while0Ops0_3 (after while0Ops0_2 (after while0Ops0_1 (after while0Ops0 W))) (Proc.devRef .tc main_while0b_v92)
      = fun i : S4x64x256.Idx => GlaSpec.ke (Cm (i 0).val k) (K (i 0).val k) (i 1) (i 2) := by
    rw [after_of_writes_sub _ _ while0Ops0_3_writes (by decide), after_of_writes_sub _ _ while0Ops0_2_writes (by decide),
      while0Ops0_1_row _ k hk (by rw [after_of_writes_sub _ _ while0Ops0_writes (by decide)]; exact H.ctr),
      after_of_writes_sub _ _ while0Ops0_writes (by decide), H.ke]
    rfl
  have hV : after while0Ops0_3 (after while0Ops0_2 (after while0Ops0_1 (after while0Ops0 W))) (Proc.devRef .tc main_while0b_v93)
      = fun i : S4x64x512.Idx => Vv (i 0).val k (i 1) (i 2) := by
    rw [after_of_writes_sub _ _ while0Ops0_3_writes (by decide),
      while0Ops0_2_row _ k hk (by
        rw [after_of_writes_sub _ _ while0Ops0_1_writes (by decide), after_of_writes_sub _ _ while0Ops0_writes (by decide)]; exact H.ctr),
      after_of_writes_sub _ _ while0Ops0_1_writes (by decide), after_of_writes_sub _ _ while0Ops0_writes (by decide), H.v]
    rfl
  rw [hS, hK, hV]
  funext i
  pointwise
  refine congrArg (_ + ·) (Finset.sum_congr rfl fun t _ => mul_comm _ _)

/-- Trip `k` saves the states that it starts from. -/
theorem fwd_saved (hk : k < 64) (H : FwdReads W k Cm K Vv T) : afterL body0 W (Proc.devRef .tc main_v35_7)
    = fun i : S64x4x256x512.Idx => if (i 0).val = k then T (i 1).val (i 3) (i 2) else (W (Proc.devRef .tc main_v35_7) : S64x4x256x512.Idx → EReal) i := by
  have keep : ∀ r : Ref sig .tc, (∀ w ∈ [while0Ops0_W, while0Ops0_1_W, while0Ops0_2_W, while0Ops0_3_W, while0Ops0_4_W, while0Ops0_5_W], r ∉ w) →
      after while0Ops0_5 (after while0Ops0_4 (after while0Ops0_3 (after while0Ops0_2 (after while0Ops0_1 (after while0Ops0 W))))) (Proc.devRef .tc r)
        = W (Proc.devRef .tc r) := fun r hr =>
    afterL_keep hr (.cons while0Ops0_writes (.cons while0Ops0_1_writes (.cons while0Ops0_2_writes (.cons while0Ops0_3_writes
      (.cons while0Ops0_4_writes (.cons while0Ops0_5_writes .nil)))))) W
  simp only [afterL_cons, afterL_nil]
  rw [(while0Ops0_8_copies _).2.1, after_of_writes_sub _ _ while0Ops0_7_writes (by decide),
    while0Ops0_6_set _ k hk ((keep main_v35_4 (by decide)).trans H.ctr), keep main_v35_5 (by decide), keep main_v35_7 (by decide), H.st]
  rfl

/-- Trip `k` saves its decays. -/
theorem fwd_savedDec (hk : k < 64) (H : FwdReads W k Cm K Vv T) : afterL body0 W (Proc.devRef .tc main_v35_8)
    = fun i : S64x4x256x1.Idx => if (i 0).val = k then Ideal.exp (Cm (i 1).val k 63 (i 2)) else (W (Proc.devRef .tc main_v35_8) : S64x4x256x1.Idx → EReal) i := by
  have keep : ∀ r : Ref sig .tc, (∀ w ∈ [while0Ops0_W, while0Ops0_1_W, while0Ops0_2_W, while0Ops0_3_W, while0Ops0_4_W, while0Ops0_5_W, while0Ops0_6_W], r ∉ w) →
      after while0Ops0_6 (after while0Ops0_5 (after while0Ops0_4 (after while0Ops0_3 (after while0Ops0_2 (after while0Ops0_1 (after while0Ops0 W)))))) (Proc.devRef .tc r)
        = W (Proc.devRef .tc r) := fun r hr =>
    afterL_keep hr (.cons while0Ops0_writes (.cons while0Ops0_1_writes (.cons while0Ops0_2_writes (.cons while0Ops0_3_writes
      (.cons while0Ops0_4_writes (.cons while0Ops0_5_writes (.cons while0Ops0_6_writes .nil))))))) W
  simp only [afterL_cons, afterL_nil]
  rw [(while0Ops0_8_copies _).2.2, while0Ops0_7_set _ k hk ((keep main_v35_4 (by decide)).trans H.ctr), keep main_v35_8 (by decide),
    after_of_writes_sub _ _ while0Ops0_6_writes (by decide), after_of_writes_sub _ _ while0Ops0_5_writes (by decide), while0Ops0_4_v96, fwd_dec hk H]
  funext i
  refine congrArg (fun x => if (i 0).val = k then x else (W (Proc.devRef .tc main_v35_8) : S64x4x256x1.Idx → EReal) i) ?_
  pointwise

end Trip

/-! ## The trips -/

variable (m : (ℓ : Loc nD τ sig) → Buf (Elt Ideal) ℓ) (c : Dev nD)

/-- The contents that trip `k`'s body finds. -/
def F0 (k : ℕ) : Valuation τ sig (Elt Ideal) := after test0 (atTrip test0 body0 (E0 m) k c)

theorem F0_test (k : ℕ) (r : Ref sig .tc) (h : r ∉ [main_while0c_c_24, main_while0c_v91]) :
    F0 m c k (Proc.devRef .tc r) = atTrip test0 body0 (E0 m) k c (Proc.devRef .tc r) := after_of_writes_sub _ _ test0_writes h

theorem F0_keep (k : ℕ) (r : Ref sig .tc) (h : r ∉ [main_while0c_c_24, main_while0c_v91]) (hb : ∀ w ∈ body0_W, r ∉ w) :
    F0 m c k (Proc.devRef .tc r) = E0 m c (Proc.devRef .tc r) :=
  (F0_test m c k r h).trans (trips_keep test0_writes body0_writes h hb _ _ k)

theorem F0_succ (k : ℕ) (r : Ref sig .tc) (h : r ∉ [main_while0c_c_24, main_while0c_v91]) :
    F0 m c (k + 1) (Proc.devRef .tc r) = afterL body0 (F0 m c k) (Proc.devRef .tc r) := by
  rw [F0_test m c (k + 1) r h, atTrip_succ]; rfl

/-- Trip `k` finds the states before chunk `k`. -/
theorem F0_reads : ∀ k, k ≤ 64 → FwdReads (F0 m c k) k (Cm m c) (K m c) (Vv m c) fun h => GlaSpec.stS (argP m c) (argC m c) h k
  | 0, _ =>
    { ctr := (F0_test m c 0 main_v35_4 (by decide)).trans ((ctr0 m c 0).trans (by rw [iv_word]))
      ke := (F0_keep m c 0 main_v35_1 (by decide) (by decide)).trans (E0_v35_1 m c)
      v := (F0_keep m c 0 main_v35_2 (by decide) (by decide)).trans (E0_v35_2 m c)
      dec := (F0_keep m c 0 main_v35_3 (by decide) (by decide)).trans (E0_v35_3 m c)
      st := (F0_test m c 0 main_v35_5 (by decide)).trans (E0_v35_5 m c) }
  | k + 1, hk =>
    { ctr := (F0_test m c (k + 1) main_v35_4 (by decide)).trans ((ctr0 m c (k + 1)).trans (by rw [iv_word]))
      ke := (F0_keep m c (k + 1) main_v35_1 (by decide) (by decide)).trans (E0_v35_1 m c)
      v := (F0_keep m c (k + 1) main_v35_2 (by decide) (by decide)).trans (E0_v35_2 m c)
      dec := (F0_keep m c (k + 1) main_v35_3 (by decide) (by decide)).trans (E0_v35_3 m c)
      st := (F0_succ m c k main_v35_5 (by decide)).trans (fwd_state (by omega) (F0_reads k (by omega))) }

/-- After `k` trips the first `k` chunks' states and decays are saved. -/
theorem F0_saved : ∀ k, k ≤ 64 → ∀ i : S64x4x256x512.Idx, (i 0).val < k →
    (F0 m c k (Proc.devRef .tc main_v35_7) : S64x4x256x512.Idx → EReal) i = GlaSpec.stS (argP m c) (argC m c) (i 1).val (i 0).val (i 3) (i 2)
  | 0, _, i, hi => absurd hi (Nat.not_lt_zero _)
  | k + 1, hk, i, hi => by
    refine (congrFun ((F0_succ m c k main_v35_7 (by decide)).trans (fwd_saved (by omega) (F0_reads m c k (by omega)))) i).trans ?_
    by_cases h : (i 0).val = k
    · exact (if_pos h).trans (by rw [h])
    · exact (if_neg h).trans (F0_saved k (by omega) i (by omega))

theorem F0_savedDec : ∀ k, k ≤ 64 → ∀ i : S64x4x256x1.Idx, (i 0).val < k →
    (F0 m c k (Proc.devRef .tc main_v35_8) : S64x4x256x1.Idx → EReal) i = Ideal.exp (Cm m c (i 1).val (i 0).val 63 (i 2))
  | 0, _, i, hi => absurd hi (Nat.not_lt_zero _)
  | k + 1, hk, i, hi => by
    refine (congrFun ((F0_succ m c k main_v35_8 (by decide)).trans (fwd_savedDec (by omega) (F0_reads m c k (by omega)))) i).trans ?_
    by_cases h : (i 0).val = k
    · exact (if_pos h).trans (by rw [h])
    · exact (if_neg h).trans (F0_savedDec k (by omega) i (by omega))

/-- After the loop every chunk's states and decays are saved. -/
theorem X0_saved : X0 m c (Proc.devRef .tc main_v35_7)
    = fun i : S64x4x256x512.Idx => GlaSpec.stS (argP m c) (argC m c) (i 1).val (i 0).val (i 3) (i 2) :=
  funext fun i => F0_saved m c 64 le_rfl i (i 0).isLt
theorem X0_savedDec : X0 m c (Proc.devRef .tc main_v35_8) = fun i : S64x4x256x1.Idx => Ideal.exp (Cm m c (i 1).val (i 0).val 63 (i 2)) :=
  funext fun i => F0_savedDec m c 64 le_rfl i (i 0).isLt

/-- The loop leaves what it does not write. -/
theorem X0_keep (r : Ref sig .tc) (h : r ∉ [main_while0c_c_24, main_while0c_v91]) (hb : ∀ w ∈ body0_W, r ∉ w) :
    X0 m c (Proc.devRef .tc r) = E0 m c (Proc.devRef .tc r) := F0_keep m c 64 r h hb

end Cert.ReferenceIdeal.Gla

end
-- ==== Proof.RefBwd.lean ====
module

public import proofs.«01_k».proof.Proof.RefFwd

@[expose] public section

/-!
  The reference's backward loop: trip `k` takes chunk `63 - k`. From the cotangents of the states that the chunk ends
  in it computes the parts of the gradients that pass through the states, and carries the cotangents of the states that
  the chunk starts from.
-/

noncomputable section

namespace Cert.ReferenceIdeal.Gla

open Cert.ReferenceIdeal Cert.ReferenceIdeal.Gen
open Idealize.ShloMosaic Idealize.ShloMosaic.TcCoe
open Idealize.SL.Sem
open Idealize.ShloMosaic.StableHlo

/-! ## What the loop starts from -/

section Between
variable (m : (ℓ : Loc nD τ sig) → Buf (Elt Ideal) ℓ) (c : Dev nD)

/-- The contents before the copies of the loop's operands. -/
def B1 (c : Dev nD) : Valuation τ sig (Elt Ideal) := after main_part0_ops5 (X0 m c)

theorem E1_eq : E1 m c = after main_part1_ops0 (B1 m c) := rfl

theorem B1_v41 (W : Valuation τ sig (Elt Ideal)) : after main_part0_ops5 W (Proc.devRef .tc main_v41)
    = shapeCast S64x64x4x512 (W (Proc.devRef .tc main_arg2) : S4096x2048.Idx → EReal) shapeCasts_S4096x2048_S64x64x4x512 := by
  after_results
  rfl

theorem part1_v42 (W : Valuation τ sig (Elt Ideal)) : after main_part1_ops0 W (Proc.devRef .tc main_v42)
    = transpose S64x4x64x512 [0, 2, 1, 3] (W (Proc.devRef .tc main_v41) : S64x64x4x512.Idx → EReal) transposes_S64x64x4x512_S64x4x64x512_0_2_1_3 := by
  after_results

/-- The copies. -/
theorem part1_copies (W : Valuation τ sig (Elt Ideal)) :
    after main_part1_ops0 W (Proc.devRef .tc main_v48_0) = after main_part1_ops0 W (Proc.devRef .tc main_v42)
    ∧ after main_part1_ops0 W (Proc.devRef .tc main_v48_1) = W (Proc.devRef .tc main_v35_7)
    ∧ after main_part1_ops0 W (Proc.devRef .tc main_v48_2) = W (Proc.devRef .tc main_v16)
    ∧ after main_part1_ops0 W (Proc.devRef .tc main_v48_3) = W (Proc.devRef .tc main_v35_8)
    ∧ after main_part1_ops0 W (Proc.devRef .tc main_v48_4) = W (Proc.devRef .tc main_v11)
    ∧ after main_part1_ops0 W (Proc.devRef .tc main_v48_5) = W (Proc.devRef .tc main_v23)
    ∧ after main_part1_ops0 W (Proc.devRef .tc main_v48_7) = fun _ : S4x256x512.Idx => (0 : EReal) := by
  refine ⟨?_, ?_, ?_, ?_, ?_, ?_, ?_⟩
  · after_results; rfl
  · after_results; rfl
  · after_results; rfl
  · after_results; rfl
  · after_results; rfl
  · after_results; rfl
  · after_results
    funext i
    show broadcastInDim S4x256x512 ![] bcast_S_S4x256x512 (constant (F := Ideal) S_ .f32 0x00000000#32) i = 0
    pointwise

theorem B1_keep (r : Ref sig .tc) (h : r ∉ main_part0_ops5_W) : B1 m c (Proc.devRef .tc r) = X0 m c (Proc.devRef .tc r) :=
  after_of_writes_sub _ _ main_part0_ops5_writes h

theorem E0_arg2 : E0 m c (Proc.devRef .tc main_arg2) = argG m c := by
  unfold E0
  rw [afterL_keep (r := main_arg2) (by decide) pre_writes]

theorem E1_v42 : E1 m c (Proc.devRef .tc main_v42) = byTile (Do m c) := by
  rw [E1_eq, part1_v42]
  unfold B1
  rw [B1_v41, X0_keep m c main_arg2 (by decide) (by decide), E0_arg2]
  funext i
  pointwise
  exact at_g (argG m c) _ _ (i 2) (i 3) _ _ rfl rfl

theorem E1_v48_0 : E1 m c (Proc.devRef .tc main_v48_0) = byTile (Do m c) := (part1_copies (B1 m c)).1.trans (E1_v42 m c)
theorem E1_v48_1 : E1 m c (Proc.devRef .tc main_v48_1)
    = fun i : S64x4x256x512.Idx => GlaSpec.stS (argP m c) (argC m c) (i 1).val (i 0).val (i 3) (i 2) :=
  (part1_copies (B1 m c)).2.1.trans ((B1_keep m c main_v35_7 (by decide)).trans (X0_saved m c))
theorem E1_v48_2 : E1 m c (Proc.devRef .tc main_v48_2) = byTile fun h n => GlaSpec.qd (Cm m c h n) (Q m c h n) :=
  (part1_copies (B1 m c)).2.2.1.trans ((B1_keep m c main_v16 (by decide)).trans ((X0_keep m c main_v16 (by decide) (by decide)).trans (E0_v16 m c)))
theorem E1_v48_3 : E1 m c (Proc.devRef .tc main_v48_3) = fun i : S64x4x256x1.Idx => Ideal.exp (Cm m c (i 1).val (i 0).val 63 (i 2)) :=
  (part1_copies (B1 m c)).2.2.2.1.trans ((B1_keep m c main_v35_8 (by decide)).trans (X0_savedDec m c))
theorem E1_v48_4 : E1 m c (Proc.devRef .tc main_v48_4) = byTile (Vv m c) :=
  (part1_copies (B1 m c)).2.2.2.2.1.trans ((B1_keep m c main_v11 (by decide)).trans ((X0_keep m c main_v11 (by decide) (by decide)).trans (E0_v11 m c)))
theorem E1_v48_5 : E1 m c (Proc.devRef .tc main_v48_5) = byTile fun h n => GlaSpec.ke (Cm m c h n) (K m c h n) :=
  (part1_copies (B1 m c)).2.2.2.2.2.1.trans ((B1_keep m c main_v23 (by decide)).trans ((X0_keep m c main_v23 (by decide) (by decide)).trans (E0_v23 m c)))
theorem E1_v48_7 : E1 m c (Proc.devRef .tc main_v48_7) = fun _ : S4x256x512.Idx => (0 : EReal) := (part1_copies (B1 m c)).2.2.2.2.2.2

/-- What the two stretches between the loops do not write stands. -/
theorem E1_keep (r : Ref sig .tc) (h : ∀ w ∈ between_W, r ∉ w) : E1 m c (Proc.devRef .tc r) = X0 m c (Proc.devRef .tc r) := by
  unfold E1
  rw [afterL_keep h between_writes]

end Between

/-! ## The arithmetic of one trip -/

section Trip
variable (W : Valuation τ sig (Elt Ideal))

theorem while1Ops0_v92 (k : ℕ) (hk : k < 64) (hc : W (Proc.devRef .tc main_v48_6) = fun _ => BitVec.ofNat 32 k) :
    after while1Ops0 W (Proc.devRef .tc main_while1b_v92) = fun _ => BitVec.ofNat 32 (63 - k) := by
  have h : ∀ k : Fin 64, (64#32 - BitVec.ofNat 32 k.val) - 1#32 = BitVec.ofNat 32 (63 - k.val) := by decide +kernel
  after_results
  rw [hc]
  funext i
  exact h ⟨k, hk⟩

theorem while1Ops0_7_v100 : after while1Ops0_7 W (Proc.devRef .tc main_while1b_v100)
    = transpose S4x64x512 [0, 2, 1] (Host.dotGeneral (F := Ideal) (φ₁ := .f32) (φ₂ := .f32) dot_S4x256x512_S4x64x256_S4x512x64_1_2_2_1_0_0 none (W (Proc.devRef .tc main_v48_7)) (W (Proc.devRef .tc main_while1b_v98)))
        transposes_S4x512x64_S4x64x512_0_2_1 := by
  after_results
theorem while1Ops0_7_v102 : after while1Ops0_7 W (Proc.devRef .tc main_while1b_v102)
    = transpose S4x64x256 [0, 2, 1] (Host.dotGeneral (F := Ideal) (φ₁ := .f32) (φ₂ := .f32) dot_S4x256x512_S4x64x512_S4x256x64_2_2_1_1_0_0 none (W (Proc.devRef .tc main_v48_7)) (W (Proc.devRef .tc main_while1b_v97)))
        transposes_S4x256x64_S4x64x256_0_2_1 := by
  after_results
theorem while1Ops0_7_v108 : after while1Ops0_7 W (Proc.devRef .tc main_while1b_v108)
    = Host.reduceAdd (F := Ideal) (φ := .f32) (shapeCast S4x256x1
        (Host.reduceAdd (F := Ideal) (φ := .f32) (mulf (F := Ideal) (φ := .f32) (W (Proc.devRef .tc main_while1b_v94)) (W (Proc.devRef .tc main_v48_7)))
          (constant S_ .f32 0x00000000#32) reducesTo_S4x256x512_S4x256_d2 h_S_) shapeCasts_S4x256_S4x256x1)
        (constant S_ .f32 0x00000000#32) reducesTo_S4x256x1_S4x256_d2 h_S_ := by
  after_results
  rfl
theorem while1Ops0_7_v111 : after while1Ops0_7 W (Proc.devRef .tc main_while1b_v111)
    = addf (F := Ideal) (φ := .f32) (mulf (F := Ideal) (φ := .f32) (W (Proc.devRef .tc main_v48_7))
        (broadcastInDim S4x256x512 ![0, 1, 2] bcast_S4x256x1_S4x256x512_0_1_2 (W (Proc.devRef .tc main_while1b_v96))))
        (transpose S4x256x512 [0, 2, 1] (Host.dotGeneral (F := Ideal) (φ₁ := .f32) (φ₂ := .f32) dot_S4x64x512_S4x64x256_S4x512x256_1_1_2_2_0_0 none (W (Proc.devRef .tc main_while1b_v93)) (W (Proc.devRef .tc main_while1b_v95)))
          transposes_S4x512x256_S4x256x512_0_2_1) := by
  after_results
theorem while1Ops0_7_v112 : after while1Ops0_7 W (Proc.devRef .tc main_while1b_v112)
    = Host.dotGeneral (F := Ideal) (φ₁ := .f32) (φ₂ := .f32) dot_S4x64x512_S4x256x512_S4x64x256_2_2_1_1_0_0 none (W (Proc.devRef .tc main_while1b_v93)) (W (Proc.devRef .tc main_while1b_v94)) := by
  after_results

theorem while1Ops0_12_copies : after while1Ops0_12 W (Proc.devRef .tc main_v48_7) = W (Proc.devRef .tc main_while1b_v111)
    ∧ after while1Ops0_12 W (Proc.devRef .tc main_v48_8) = W (Proc.devRef .tc main_while1b_v113)
    ∧ after while1Ops0_12 W (Proc.devRef .tc main_v48_9) = W (Proc.devRef .tc main_while1b_v114)
    ∧ after while1Ops0_12 W (Proc.devRef .tc main_v48_10) = W (Proc.devRef .tc main_while1b_v115)
    ∧ after while1Ops0_12 W (Proc.devRef .tc main_v48_11) = W (Proc.devRef .tc main_while1b_v116) := by
  refine ⟨?_, ?_, ?_, ?_, ?_⟩ <;> (after_results; rfl)

/-- What a trip reads: its counter, the tiles, the saved states `S` and decays, the cotangents `D` of the states. -/
structure BwdReads (k : ℕ) (Cm Q K : ℕ → ℕ → GlaSpec.Tile 256) (Vv Do : ℕ → ℕ → GlaSpec.Tile 512) (S : ℕ → ℕ → GlaSpec.State)
    (D : ℕ → GlaSpec.State) : Prop where
  ctr : W (Proc.devRef .tc main_v48_6) = fun _ => BitVec.ofNat 32 k
  dO : W (Proc.devRef .tc main_v48_0) = byTile Do
  st : W (Proc.devRef .tc main_v48_1) = fun i : S64x4x256x512.Idx => S (i 1).val (i 0).val (i 3) (i 2)
  qd : W (Proc.devRef .tc main_v48_2) = byTile fun h n => GlaSpec.qd (Cm h n) (Q h n)
  dec : W (Proc.devRef .tc main_v48_3) = fun i : S64x4x256x1.Idx => Ideal.exp (Cm (i 1).val (i 0).val 63 (i 2))
  v : W (Proc.devRef .tc main_v48_4) = byTile Vv
  ke : W (Proc.devRef .tc main_v48_5) = byTile fun h n => GlaSpec.ke (Cm h n) (K h n)
  dS : W (Proc.devRef .tc main_v48_7) = fun i : S4x256x512.Idx => D (i 0).val (i 2) (i 1)

variable {W} {k : ℕ} {Cm Q K : ℕ → ℕ → GlaSpec.Tile 256} {Vv Do : ℕ → ℕ → GlaSpec.Tile 512} {S : ℕ → ℕ → GlaSpec.State} {D : ℕ → GlaSpec.State}

/-- The contents when the trip has read its operands. -/
def bwdRead (W : Valuation τ sig (Elt Ideal)) : Valuation τ sig (Elt Ideal) :=
  after while1Ops0_6 (after while1Ops0_5 (after while1Ops0_4 (after while1Ops0_3 (after while1Ops0_2 (after while1Ops0_1 (after while1Ops0 W))))))

/-- The chunk that the trip takes stands in the counter of the reads. -/
theorem bwd_ctr1 (hk : k < 64) (H : BwdReads W k Cm Q K Vv Do S D) : after while1Ops0 W (Proc.devRef .tc main_while1b_v92) = fun _ => BitVec.ofNat 32 (63 - k) := while1Ops0_v92 W k hk H.ctr
theorem bwd_ctr2 (hk : k < 64) (H : BwdReads W k Cm Q K Vv Do S D) : after while1Ops0_1 (after while1Ops0 W) (Proc.devRef .tc main_while1b_v92) = fun _ => BitVec.ofNat 32 (63 - k) := by
  rw [after_of_writes_sub _ _ while1Ops0_1_writes (by decide)]
  exact while1Ops0_v92 W k hk H.ctr
theorem bwd_ctr3 (hk : k < 64) (H : BwdReads W k Cm Q K Vv Do S D) : after while1Ops0_2 (after while1Ops0_1 (after while1Ops0 W)) (Proc.devRef .tc main_while1b_v92) = fun _ => BitVec.ofNat 32 (63 - k) := by
  rw [after_of_writes_sub _ _ while1Ops0_2_writes (by decide), after_of_writes_sub _ _ while1Ops0_1_writes (by decide)]
  exact while1Ops0_v92 W k hk H.ctr
theorem bwd_ctr4 (hk : k < 64) (H : BwdReads W k Cm Q K Vv Do S D) : after while1Ops0_3 (after while1Ops0_2 (after while1Ops0_1 (after while1Ops0 W))) (Proc.devRef .tc main_while1b_v92) = fun _ => BitVec.ofNat 32 (63 - k) := by
  rw [after_of_writes_sub _ _ while1Ops0_3_writes (by decide), after_of_writes_sub _ _ while1Ops0_2_writes (by decide), after_of_writes_sub _ _ while1Ops0_1_writes (by decide)]
  exact while1Ops0_v92 W k hk H.ctr
theorem bwd_ctr5 (hk : k < 64) (H : BwdReads W k Cm Q K Vv Do S D) : after while1Ops0_4 (after while1Ops0_3 (after while1Ops0_2 (after while1Ops0_1 (after while1Ops0 W)))) (Proc.devRef .tc main_while1b_v92) = fun _ => BitVec.ofNat 32 (63 - k) := by
  rw [after_of_writes_sub _ _ while1Ops0_4_writes (by decide), after_of_writes_sub _ _ while1Ops0_3_writes (by decide), after_of_writes_sub _ _ while1Ops0_2_writes (by decide), after_of_writes_sub _ _ while1Ops0_1_writes (by decide)]
  exact while1Ops0_v92 W k hk H.ctr
theorem bwd_ctr6 (hk : k < 64) (H : BwdReads W k Cm Q K Vv Do S D) : after while1Ops0_5 (after while1Ops0_4 (after while1Ops0_3 (after while1Ops0_2 (after while1Ops0_1 (after while1Ops0 W))))) (Proc.devRef .tc main_while1b_v92) = fun _ => BitVec.ofNat 32 (63 - k) := by
  rw [after_of_writes_sub _ _ while1Ops0_5_writes (by decide), after_of_writes_sub _ _ while1Ops0_4_writes (by decide), after_of_writes_sub _ _ while1Ops0_3_writes (by decide), after_of_writes_sub _ _ while1Ops0_2_writes (by decide), after_of_writes_sub _ _ while1Ops0_1_writes (by decide)]
  exact while1Ops0_v92 W k hk H.ctr
theorem bwd_ctr7 (hk : k < 64) (H : BwdReads W k Cm Q K Vv Do S D) : (bwdRead W) (Proc.devRef .tc main_while1b_v92) = fun _ => BitVec.ofNat 32 (63 - k) := by
  unfold bwdRead
  rw [after_of_writes_sub _ _ while1Ops0_6_writes (by decide), after_of_writes_sub _ _ while1Ops0_5_writes (by decide), after_of_writes_sub _ _ while1Ops0_4_writes (by decide), after_of_writes_sub _ _ while1Ops0_3_writes (by decide), after_of_writes_sub _ _ while1Ops0_2_writes (by decide), after_of_writes_sub _ _ while1Ops0_1_writes (by decide)]
  exact while1Ops0_v92 W k hk H.ctr
theorem bwd_ctr8 (hk : k < 64) (H : BwdReads W k Cm Q K Vv Do S D) : after while1Ops0_7 (bwdRead W) (Proc.devRef .tc main_while1b_v92) = fun _ => BitVec.ofNat 32 (63 - k) := by
  unfold bwdRead
  rw [after_of_writes_sub _ _ while1Ops0_7_writes (by decide), after_of_writes_sub _ _ while1Ops0_6_writes (by decide), after_of_writes_sub _ _ while1Ops0_5_writes (by decide), after_of_writes_sub _ _ while1Ops0_4_writes (by decide), after_of_writes_sub _ _ while1Ops0_3_writes (by decide), after_of_writes_sub _ _ while1Ops0_2_writes (by decide), after_of_writes_sub _ _ while1Ops0_1_writes (by decide)]
  exact while1Ops0_v92 W k hk H.ctr
theorem bwd_ctr9 (hk : k < 64) (H : BwdReads W k Cm Q K Vv Do S D) : after while1Ops0_8 (after while1Ops0_7 (bwdRead W)) (Proc.devRef .tc main_while1b_v92) = fun _ => BitVec.ofNat 32 (63 - k) := by
  unfold bwdRead
  rw [after_of_writes_sub _ _ while1Ops0_8_writes (by decide), after_of_writes_sub _ _ while1Ops0_7_writes (by decide), after_of_writes_sub _ _ while1Ops0_6_writes (by decide), after_of_writes_sub _ _ while1Ops0_5_writes (by decide), after_of_writes_sub _ _ while1Ops0_4_writes (by decide), after_of_writes_sub _ _ while1Ops0_3_writes (by decide), after_of_writes_sub _ _ while1Ops0_2_writes (by decide), after_of_writes_sub _ _ while1Ops0_1_writes (by decide)]
  exact while1Ops0_v92 W k hk H.ctr
theorem bwd_ctr10 (hk : k < 64) (H : BwdReads W k Cm Q K Vv Do S D) : after while1Ops0_9 (after while1Ops0_8 (after while1Ops0_7 (bwdRead W))) (Proc.devRef .tc main_while1b_v92) = fun _ => BitVec.ofNat 32 (63 - k) := by
  unfold bwdRead
  rw [after_of_writes_sub _ _ while1Ops0_9_writes (by decide), after_of_writes_sub _ _ while1Ops0_8_writes (by decide), after_of_writes_sub _ _ while1Ops0_7_writes (by decide), after_of_writes_sub _ _ while1Ops0_6_writes (by decide), after_of_writes_sub _ _ while1Ops0_5_writes (by decide), after_of_writes_sub _ _ while1Ops0_4_writes (by decide), after_of_writes_sub _ _ while1Ops0_3_writes (by decide), after_of_writes_sub _ _ while1Ops0_2_writes (by decide), after_of_writes_sub _ _ while1Ops0_1_writes (by decide)]
  exact while1Ops0_v92 W k hk H.ctr
theorem bwd_ctr11 (hk : k < 64) (H : BwdReads W k Cm Q K Vv Do S D) : after while1Ops0_10 (after while1Ops0_9 (after while1Ops0_8 (after while1Ops0_7 (bwdRead W)))) (Proc.devRef .tc main_while1b_v92) = fun _ => BitVec.ofNat 32 (63 - k) := by
  unfold bwdRead
  rw [after_of_writes_sub _ _ while1Ops0_10_writes (by decide), after_of_writes_sub _ _ while1Ops0_9_writes (by decide), after_of_writes_sub _ _ while1Ops0_8_writes (by decide), after_of_writes_sub _ _ while1Ops0_7_writes (by decide), after_of_writes_sub _ _ while1Ops0_6_writes (by decide), after_of_writes_sub _ _ while1Ops0_5_writes (by decide), after_of_writes_sub _ _ while1Ops0_4_writes (by decide), after_of_writes_sub _ _ while1Ops0_3_writes (by decide), after_of_writes_sub _ _ while1Ops0_2_writes (by decide), after_of_writes_sub _ _ while1Ops0_1_writes (by decide)]
  exact while1Ops0_v92 W k hk H.ctr

theorem bwd_dO (hk : k < 64) (H : BwdReads W k Cm Q K Vv Do S D) : bwdRead W (Proc.devRef .tc main_while1b_v93)
    = fun i : S4x64x512.Idx => Do (i 0).val (63 - k) (i 1) (i 2) := by
  unfold bwdRead
  rw [after_of_writes_sub _ _ while1Ops0_6_writes (by decide), after_of_writes_sub _ _ while1Ops0_5_writes (by decide), after_of_writes_sub _ _ while1Ops0_4_writes (by decide), after_of_writes_sub _ _ while1Ops0_3_writes (by decide), after_of_writes_sub _ _ while1Ops0_2_writes (by decide), while1Ops0_1_row _ (63 - k) (by omega) (bwd_ctr1 hk H),
    after_of_writes_sub _ _ while1Ops0_writes (by decide), H.dO]
  rfl
theorem bwd_st (hk : k < 64) (H : BwdReads W k Cm Q K Vv Do S D) : bwdRead W (Proc.devRef .tc main_while1b_v94)
    = fun i : S4x256x512.Idx => S (i 0).val (63 - k) (i 2) (i 1) := by
  unfold bwdRead
  rw [after_of_writes_sub _ _ while1Ops0_6_writes (by decide), after_of_writes_sub _ _ while1Ops0_5_writes (by decide), after_of_writes_sub _ _ while1Ops0_4_writes (by decide), after_of_writes_sub _ _ while1Ops0_3_writes (by decide), while1Ops0_2_row _ (63 - k) (by omega) (bwd_ctr2 hk H),
    after_of_writes_sub _ _ while1Ops0_1_writes (by decide), after_of_writes_sub _ _ while1Ops0_writes (by decide), H.st]
  rfl
theorem bwd_qd (hk : k < 64) (H : BwdReads W k Cm Q K Vv Do S D) : bwdRead W (Proc.devRef .tc main_while1b_v95)
    = fun i : S4x64x256.Idx => GlaSpec.qd (Cm (i 0).val (63 - k)) (Q (i 0).val (63 - k)) (i 1) (i 2) := by
  unfold bwdRead
  rw [after_of_writes_sub _ _ while1Ops0_6_writes (by decide), after_of_writes_sub _ _ while1Ops0_5_writes (by decide), after_of_writes_sub _ _ while1Ops0_4_writes (by decide), while1Ops0_3_row _ (63 - k) (by omega) (bwd_ctr3 hk H),
    after_of_writes_sub _ _ while1Ops0_2_writes (by decide), after_of_writes_sub _ _ while1Ops0_1_writes (by decide), after_of_writes_sub _ _ while1Ops0_writes (by decide), H.qd]
  rfl
theorem bwd_dec (hk : k < 64) (H : BwdReads W k Cm Q K Vv Do S D) : bwdRead W (Proc.devRef .tc main_while1b_v96)
    = fun i : S4x256x1.Idx => Ideal.exp (Cm (i 0).val (63 - k) 63 (i 1)) := by
  unfold bwdRead
  rw [after_of_writes_sub _ _ while1Ops0_6_writes (by decide), after_of_writes_sub _ _ while1Ops0_5_writes (by decide), while1Ops0_4_row _ (63 - k) (by omega) (bwd_ctr4 hk H),
    after_of_writes_sub _ _ while1Ops0_3_writes (by decide), after_of_writes_sub _ _ while1Ops0_2_writes (by decide), after_of_writes_sub _ _ while1Ops0_1_writes (by decide), after_of_writes_sub _ _ while1Ops0_writes (by decide), H.dec]
  rfl
theorem bwd_v (hk : k < 64) (H : BwdReads W k Cm Q K Vv Do S D) : bwdRead W (Proc.devRef .tc main_while1b_v97)
    = fun i : S4x64x512.Idx => Vv (i 0).val (63 - k) (i 1) (i 2) := by
  unfold bwdRead
  rw [after_of_writes_sub _ _ while1Ops0_6_writes (by decide), while1Ops0_5_row _ (63 - k) (by omega) (bwd_ctr5 hk H),
    after_of_writes_sub _ _ while1Ops0_4_writes (by decide), after_of_writes_sub _ _ while1Ops0_3_writes (by decide), after_of_writes_sub _ _ while1Ops0_2_writes (by decide), after_of_writes_sub _ _ while1Ops0_1_writes (by decide), after_of_writes_sub _ _ while1Ops0_writes (by decide), H.v]
  rfl
theorem bwd_ke (hk : k < 64) (H : BwdReads W k Cm Q K Vv Do S D) : bwdRead W (Proc.devRef .tc main_while1b_v98)
    = fun i : S4x64x256.Idx => GlaSpec.ke (Cm (i 0).val (63 - k)) (K (i 0).val (63 - k)) (i 1) (i 2) := by
  unfold bwdRead
  rw [while1Ops0_6_row _ (63 - k) (by omega) (bwd_ctr6 hk H),
    after_of_writes_sub _ _ while1Ops0_5_writes (by decide), after_of_writes_sub _ _ while1Ops0_4_writes (by decide), after_of_writes_sub _ _ while1Ops0_3_writes (by decide), after_of_writes_sub _ _ while1Ops0_2_writes (by decide), after_of_writes_sub _ _ while1Ops0_1_writes (by decide), after_of_writes_sub _ _ while1Ops0_writes (by decide), H.ke]
  rfl
theorem bwd_dS (H : BwdReads W k Cm Q K Vv Do S D) : bwdRead W (Proc.devRef .tc main_v48_7) = fun i : S4x256x512.Idx => D (i 0).val (i 2) (i 1) := by
  unfold bwdRead
  rw [after_of_writes_sub _ _ while1Ops0_6_writes (by decide), after_of_writes_sub _ _ while1Ops0_5_writes (by decide), after_of_writes_sub _ _ while1Ops0_4_writes (by decide), after_of_writes_sub _ _ while1Ops0_3_writes (by decide), after_of_writes_sub _ _ while1Ops0_2_writes (by decide), after_of_writes_sub _ _ while1Ops0_1_writes (by decide), after_of_writes_sub _ _ while1Ops0_writes (by decide)]
  exact H.dS

/-- The cotangents of the states before the chunk. -/
theorem bwd_state (hk : k < 64) (H : BwdReads W k Cm Q K Vv Do S D) : afterL body1 W (Proc.devRef .tc main_v48_7)
    = fun i : S4x256x512.Idx => GlaSpec.prevD (Cm (i 0).val (63 - k)) (Q (i 0).val (63 - k)) (Do (i 0).val (63 - k)) (D (i 0).val) (i 2) (i 1) := by
  show after while1Ops0_12 (after while1Ops0_11 (after while1Ops0_10 (after while1Ops0_9 (after while1Ops0_8 (after while1Ops0_7 (bwdRead W)))))) (Proc.devRef .tc main_v48_7) = _
  rw [(while1Ops0_12_copies _).1, after_of_writes_sub _ _ while1Ops0_11_writes (by decide), after_of_writes_sub _ _ while1Ops0_10_writes (by decide), after_of_writes_sub _ _ while1Ops0_9_writes (by decide), after_of_writes_sub _ _ while1Ops0_8_writes (by decide), while1Ops0_7_v111, bwd_dS H, bwd_dec hk H, bwd_dO hk H, bwd_qd hk H]
  funext i
  pointwise
  rfl

theorem bwd_v112 (hk : k < 64) (H : BwdReads W k Cm Q K Vv Do S D) : after while1Ops0_7 (bwdRead W) (Proc.devRef .tc main_while1b_v112)
    = fun i : S4x64x256.Idx => ∑ b, Do (i 0).val (63 - k) (i 1) b * S (i 0).val (63 - k) b (i 2) := by
  rw [while1Ops0_7_v112, bwd_dO hk H, bwd_st hk H]
  funext i
  pointwise

/-- Trip `k` sets its chunk's part of through the states that the chunk starts from: the decayed queries' cotangent. -/
theorem bwd_set8 (hk : k < 64) (H : BwdReads W k Cm Q K Vv Do S D) : afterL body1 W (Proc.devRef .tc main_v48_8)
    = fun i : S64x4x64x256.Idx => if (i 0).val = 63 - k then ∑ b, Do (i 1).val (63 - k) (i 2) b * S (i 1).val (63 - k) b (i 3)
        else (W (Proc.devRef .tc main_v48_8) : S64x4x64x256.Idx → EReal) i := by
  have hin : after while1Ops0_7 (bwdRead W) (Proc.devRef .tc main_while1b_v112) = fun i : S4x64x256.Idx => ∑ b, Do (i 0).val (63 - k) (i 1) b * S (i 0).val (63 - k) b (i 2) := by

    exact bwd_v112 hk H
  have hold : after while1Ops0_7 (bwdRead W) (Proc.devRef .tc main_v48_8) = W (Proc.devRef .tc main_v48_8) := by
    unfold bwdRead
    rw [after_of_writes_sub _ _ while1Ops0_7_writes (by decide), after_of_writes_sub _ _ while1Ops0_6_writes (by decide), after_of_writes_sub _ _ while1Ops0_5_writes (by decide), after_of_writes_sub _ _ while1Ops0_4_writes (by decide), after_of_writes_sub _ _ while1Ops0_3_writes (by decide), after_of_writes_sub _ _ while1Ops0_2_writes (by decide), after_of_writes_sub _ _ while1Ops0_1_writes (by decide), after_of_writes_sub _ _ while1Ops0_writes (by decide)]
  show after while1Ops0_12 (after while1Ops0_11 (after while1Ops0_10 (after while1Ops0_9 (after while1Ops0_8 (after while1Ops0_7 (bwdRead W)))))) (Proc.devRef .tc main_v48_8) = _
  rw [(while1Ops0_12_copies _).2.1, after_of_writes_sub _ _ while1Ops0_11_writes (by decide), after_of_writes_sub _ _ while1Ops0_10_writes (by decide), after_of_writes_sub _ _ while1Ops0_9_writes (by decide), while1Ops0_8_set _ (63 - k) (by omega) (bwd_ctr8 hk H), hin, hold]
  rfl

theorem bwd_v102 (hk : k < 64) (H : BwdReads W k Cm Q K Vv Do S D) : after while1Ops0_7 (bwdRead W) (Proc.devRef .tc main_while1b_v102)
    = fun i : S4x64x256.Idx => GlaSpec.dke (Vv (i 0).val (63 - k)) (D (i 0).val) (i 1) (i 2) := by
  rw [while1Ops0_7_v102, bwd_dS H, bwd_v hk H]
  funext i
  pointwise
  exact Finset.sum_congr rfl fun b _ => mul_comm _ _
/-- Trip `k` sets its chunk's part of the decayed keys' cotangent. -/
theorem bwd_set9 (hk : k < 64) (H : BwdReads W k Cm Q K Vv Do S D) : afterL body1 W (Proc.devRef .tc main_v48_9)
    = fun i : S64x4x64x256.Idx => if (i 0).val = 63 - k then GlaSpec.dke (Vv (i 1).val (63 - k)) (D (i 1).val) (i 2) (i 3)
        else (W (Proc.devRef .tc main_v48_9) : S64x4x64x256.Idx → EReal) i := by
  have hin : after while1Ops0_8 (after while1Ops0_7 (bwdRead W)) (Proc.devRef .tc main_while1b_v102) = fun i : S4x64x256.Idx => GlaSpec.dke (Vv (i 0).val (63 - k)) (D (i 0).val) (i 1) (i 2) := by
    rw [after_of_writes_sub _ _ while1Ops0_8_writes (by decide)]
    exact bwd_v102 hk H
  have hold : after while1Ops0_8 (after while1Ops0_7 (bwdRead W)) (Proc.devRef .tc main_v48_9) = W (Proc.devRef .tc main_v48_9) := by
    unfold bwdRead
    rw [after_of_writes_sub _ _ while1Ops0_8_writes (by decide), after_of_writes_sub _ _ while1Ops0_7_writes (by decide), after_of_writes_sub _ _ while1Ops0_6_writes (by decide), after_of_writes_sub _ _ while1Ops0_5_writes (by decide), after_of_writes_sub _ _ while1Ops0_4_writes (by decide), after_of_writes_sub _ _ while1Ops0_3_writes (by decide), after_of_writes_sub _ _ while1Ops0_2_writes (by decide), after_of_writes_sub _ _ while1Ops0_1_writes (by decide), after_of_writes_sub _ _ while1Ops0_writes (by decide)]
  show after while1Ops0_12 (after while1Ops0_11 (after while1Ops0_10 (after while1Ops0_9 (after while1Ops0_8 (after while1Ops0_7 (bwdRead W)))))) (Proc.devRef .tc main_v48_9) = _
  rw [(while1Ops0_12_copies _).2.2.1, after_of_writes_sub _ _ while1Ops0_11_writes (by decide), after_of_writes_sub _ _ while1Ops0_10_writes (by decide), while1Ops0_9_set _ (63 - k) (by omega) (bwd_ctr9 hk H), hin, hold]
  rfl

theorem bwd_v100 (hk : k < 64) (H : BwdReads W k Cm Q K Vv Do S D) : after while1Ops0_7 (bwdRead W) (Proc.devRef .tc main_while1b_v100)
    = fun i : S4x64x512.Idx => ∑ a, GlaSpec.ke (Cm (i 0).val (63 - k)) (K (i 0).val (63 - k)) (i 1) a * D (i 0).val (i 2) a := by
  rw [while1Ops0_7_v100, bwd_dS H, bwd_ke hk H]
  funext i
  pointwise
  exact Finset.sum_congr rfl fun b _ => mul_comm _ _
/-- Trip `k` sets its chunk's part of the values' cotangent. -/
theorem bwd_set10 (hk : k < 64) (H : BwdReads W k Cm Q K Vv Do S D) : afterL body1 W (Proc.devRef .tc main_v48_10)
    = fun i : S64x4x64x512.Idx => if (i 0).val = 63 - k then ∑ a, GlaSpec.ke (Cm (i 1).val (63 - k)) (K (i 1).val (63 - k)) (i 2) a * D (i 1).val (i 3) a
        else (W (Proc.devRef .tc main_v48_10) : S64x4x64x512.Idx → EReal) i := by
  have hin : after while1Ops0_9 (after while1Ops0_8 (after while1Ops0_7 (bwdRead W))) (Proc.devRef .tc main_while1b_v100) = fun i : S4x64x512.Idx => ∑ a, GlaSpec.ke (Cm (i 0).val (63 - k)) (K (i 0).val (63 - k)) (i 1) a * D (i 0).val (i 2) a := by
    rw [after_of_writes_sub _ _ while1Ops0_9_writes (by decide), after_of_writes_sub _ _ while1Ops0_8_writes (by decide)]
    exact bwd_v100 hk H
  have hold : after while1Ops0_9 (after while1Ops0_8 (after while1Ops0_7 (bwdRead W))) (Proc.devRef .tc main_v48_10) = W (Proc.devRef .tc main_v48_10) := by
    unfold bwdRead
    rw [after_of_writes_sub _ _ while1Ops0_9_writes (by decide), after_of_writes_sub _ _ while1Ops0_8_writes (by decide), after_of_writes_sub _ _ while1Ops0_7_writes (by decide), after_of_writes_sub _ _ while1Ops0_6_writes (by decide), after_of_writes_sub _ _ while1Ops0_5_writes (by decide), after_of_writes_sub _ _ while1Ops0_4_writes (by decide), after_of_writes_sub _ _ while1Ops0_3_writes (by decide), after_of_writes_sub _ _ while1Ops0_2_writes (by decide), after_of_writes_sub _ _ while1Ops0_1_writes (by decide), after_of_writes_sub _ _ while1Ops0_writes (by decide)]
  show after while1Ops0_12 (after while1Ops0_11 (after while1Ops0_10 (after while1Ops0_9 (after while1Ops0_8 (after while1Ops0_7 (bwdRead W)))))) (Proc.devRef .tc main_v48_10) = _
  rw [(while1Ops0_12_copies _).2.2.2.1, after_of_writes_sub _ _ while1Ops0_11_writes (by decide), while1Ops0_10_set _ (63 - k) (by omega) (bwd_ctr10 hk H), hin, hold]
  rfl

theorem bwd_v108 (hk : k < 64) (H : BwdReads W k Cm Q K Vv Do S D) : after while1Ops0_7 (bwdRead W) (Proc.devRef .tc main_while1b_v108)
    = fun i : S4x256.Idx => ∑ b, D (i 0).val b (i 1) * S (i 0).val (63 - k) b (i 1) := by
  rw [while1Ops0_7_v108, bwd_st hk H, bwd_dS H]
  funext i
  pointwise
  exact (Fin.sum_univ_one _).trans (Finset.sum_congr rfl fun b _ => mul_comm _ _)
/-- Trip `k` sets its chunk's part of the chunk's decays' cotangent. -/
theorem bwd_set11 (hk : k < 64) (H : BwdReads W k Cm Q K Vv Do S D) : afterL body1 W (Proc.devRef .tc main_v48_11)
    = fun i : S64x4x256.Idx => if (i 0).val = 63 - k then ∑ b, D (i 1).val b (i 2) * S (i 1).val (63 - k) b (i 2)
        else (W (Proc.devRef .tc main_v48_11) : S64x4x256.Idx → EReal) i := by
  have hin : after while1Ops0_10 (after while1Ops0_9 (after while1Ops0_8 (after while1Ops0_7 (bwdRead W)))) (Proc.devRef .tc main_while1b_v108) = fun i : S4x256.Idx => ∑ b, D (i 0).val b (i 1) * S (i 0).val (63 - k) b (i 1) := by
    rw [after_of_writes_sub _ _ while1Ops0_10_writes (by decide), after_of_writes_sub _ _ while1Ops0_9_writes (by decide), after_of_writes_sub _ _ while1Ops0_8_writes (by decide)]
    exact bwd_v108 hk H
  have hold : after while1Ops0_10 (after while1Ops0_9 (after while1Ops0_8 (after while1Ops0_7 (bwdRead W)))) (Proc.devRef .tc main_v48_11) = W (Proc.devRef .tc main_v48_11) := by
    unfold bwdRead
    rw [after_of_writes_sub _ _ while1Ops0_10_writes (by decide), after_of_writes_sub _ _ while1Ops0_9_writes (by decide), after_of_writes_sub _ _ while1Ops0_8_writes (by decide), after_of_writes_sub _ _ while1Ops0_7_writes (by decide), after_of_writes_sub _ _ while1Ops0_6_writes (by decide), after_of_writes_sub _ _ while1Ops0_5_writes (by decide), after_of_writes_sub _ _ while1Ops0_4_writes (by decide), after_of_writes_sub _ _ while1Ops0_3_writes (by decide), after_of_writes_sub _ _ while1Ops0_2_writes (by decide), after_of_writes_sub _ _ while1Ops0_1_writes (by decide), after_of_writes_sub _ _ while1Ops0_writes (by decide)]
  show after while1Ops0_12 (after while1Ops0_11 (after while1Ops0_10 (after while1Ops0_9 (after while1Ops0_8 (after while1Ops0_7 (bwdRead W)))))) (Proc.devRef .tc main_v48_11) = _
  rw [(while1Ops0_12_copies _).2.2.2.2, while1Ops0_11_set _ (63 - k) (by omega) (bwd_ctr11 hk H), hin, hold]
  rfl

end Trip

/-! ## The trips -/

variable (m : (ℓ : Loc nD τ sig) → Buf (Elt Ideal) ℓ) (c : Dev nD)

/-- The contents that trip `k`'s body finds. -/
def F1 (k : ℕ) : Valuation τ sig (Elt Ideal) := after test1 (atTrip test1 body1 (E1 m) k c)

theorem F1_test (k : ℕ) (r : Ref sig .tc) (h : r ∉ [main_while1c_c_27, main_while1c_v91]) :
    F1 m c k (Proc.devRef .tc r) = atTrip test1 body1 (E1 m) k c (Proc.devRef .tc r) := after_of_writes_sub _ _ test1_writes h

theorem F1_keep (k : ℕ) (r : Ref sig .tc) (h : r ∉ [main_while1c_c_27, main_while1c_v91]) (hb : ∀ w ∈ body1_W, r ∉ w) :
    F1 m c k (Proc.devRef .tc r) = E1 m c (Proc.devRef .tc r) :=
  (F1_test m c k r h).trans (trips_keep test1_writes body1_writes h hb _ _ k)

theorem F1_succ (k : ℕ) (r : Ref sig .tc) (h : r ∉ [main_while1c_c_27, main_while1c_v91]) :
    F1 m c (k + 1) (Proc.devRef .tc r) = afterL body1 (F1 m c k) (Proc.devRef .tc r) := by
  rw [F1_test m c (k + 1) r h, atTrip_succ]; rfl

/-- The states before a chunk, the cotangents of the states after the last `k` chunks are taken. -/
abbrev St : ℕ → ℕ → GlaSpec.State := fun h n => GlaSpec.stS (argP m c) (argC m c) h n
abbrev Dt : ℕ → ℕ → GlaSpec.State := fun h k => GlaSpec.stD (argP m c) (argC m c) (argG m c) h k

/-- Trip `k` finds the cotangents of the states after chunk `63 - k`. -/
theorem F1_reads : ∀ k, k ≤ 64 → BwdReads (F1 m c k) k (Cm m c) (Q m c) (K m c) (Vv m c) (Do m c) (St m c) fun h => Dt m c h k
  | 0, _ =>
    { ctr := (F1_test m c 0 main_v48_6 (by decide)).trans ((ctr1 m c 0).trans (by rw [iv_word]))
      dO := (F1_keep m c 0 main_v48_0 (by decide) (by decide)).trans (E1_v48_0 m c)
      st := (F1_keep m c 0 main_v48_1 (by decide) (by decide)).trans (E1_v48_1 m c)
      qd := (F1_keep m c 0 main_v48_2 (by decide) (by decide)).trans (E1_v48_2 m c)
      dec := (F1_keep m c 0 main_v48_3 (by decide) (by decide)).trans (E1_v48_3 m c)
      v := (F1_keep m c 0 main_v48_4 (by decide) (by decide)).trans (E1_v48_4 m c)
      ke := (F1_keep m c 0 main_v48_5 (by decide) (by decide)).trans (E1_v48_5 m c)
      dS := (F1_test m c 0 main_v48_7 (by decide)).trans (E1_v48_7 m c) }
  | k + 1, hk =>
    { ctr := (F1_test m c (k + 1) main_v48_6 (by decide)).trans ((ctr1 m c (k + 1)).trans (by rw [iv_word]))
      dO := (F1_keep m c (k + 1) main_v48_0 (by decide) (by decide)).trans (E1_v48_0 m c)
      st := (F1_keep m c (k + 1) main_v48_1 (by decide) (by decide)).trans (E1_v48_1 m c)
      qd := (F1_keep m c (k + 1) main_v48_2 (by decide) (by decide)).trans (E1_v48_2 m c)
      dec := (F1_keep m c (k + 1) main_v48_3 (by decide) (by decide)).trans (E1_v48_3 m c)
      v := (F1_keep m c (k + 1) main_v48_4 (by decide) (by decide)).trans (E1_v48_4 m c)
      ke := (F1_keep m c (k + 1) main_v48_5 (by decide) (by decide)).trans (E1_v48_5 m c)
      dS := (F1_succ m c k main_v48_7 (by decide)).trans (bwd_state (by omega) (F1_reads k (by omega))) }

/-- After `k` trips the last `k` chunks' parts stand. -/
theorem F1_out8 : ∀ k, k ≤ 64 → ∀ i : S64x4x64x256.Idx, 63 - (i 0).val < k →
    (F1 m c k (Proc.devRef .tc main_v48_8) : S64x4x64x256.Idx → EReal) i = ∑ b, Do m c (i 1).val (i 0).val (i 2) b * St m c (i 1).val (i 0).val b (i 3)
  | 0, _, i, hi => absurd hi (Nat.not_lt_zero _)
  | k + 1, hk, i, hi => by
    have hi0 : (i 0).val < 64 := (i 0).isLt
    refine (congrFun ((F1_succ m c k main_v48_8 (by decide)).trans (bwd_set8 (by omega) (F1_reads m c k (by omega)))) i).trans ?_
    by_cases h : (i 0).val = 63 - k
    · exact (if_pos h).trans (by rw [h])
    · exact (if_neg h).trans (F1_out8 k (by omega) i (by omega))
/-- After the loop every chunk's part stands. -/
theorem X1_v48_8 : X1 m c (Proc.devRef .tc main_v48_8) = fun i : S64x4x64x256.Idx => ∑ b, Do m c (i 1).val (i 0).val (i 2) b * St m c (i 1).val (i 0).val b (i 3) :=
  funext fun i => F1_out8 m c 64 le_rfl i (by have hi0 : (i 0).val < 64 := (i 0).isLt; omega)

/-- After `k` trips the last `k` chunks' parts stand. -/
theorem F1_out9 : ∀ k, k ≤ 64 → ∀ i : S64x4x64x256.Idx, 63 - (i 0).val < k →
    (F1 m c k (Proc.devRef .tc main_v48_9) : S64x4x64x256.Idx → EReal) i = GlaSpec.dke (Vv m c (i 1).val (i 0).val) (Dt m c (i 1).val (63 - (i 0).val)) (i 2) (i 3)
  | 0, _, i, hi => absurd hi (Nat.not_lt_zero _)
  | k + 1, hk, i, hi => by
    have hi0 : (i 0).val < 64 := (i 0).isLt
    refine (congrFun ((F1_succ m c k main_v48_9 (by decide)).trans (bwd_set9 (by omega) (F1_reads m c k (by omega)))) i).trans ?_
    by_cases h : (i 0).val = 63 - k
    · exact (if_pos h).trans (by rw [h, show 63 - (63 - k) = k by omega])
    · exact (if_neg h).trans (F1_out9 k (by omega) i (by omega))
/-- After the loop every chunk's part stands. -/
theorem X1_v48_9 : X1 m c (Proc.devRef .tc main_v48_9) = fun i : S64x4x64x256.Idx => GlaSpec.dke (Vv m c (i 1).val (i 0).val) (Dt m c (i 1).val (63 - (i 0).val)) (i 2) (i 3) :=
  funext fun i => F1_out9 m c 64 le_rfl i (by have hi0 : (i 0).val < 64 := (i 0).isLt; omega)

/-- After `k` trips the last `k` chunks' parts stand. -/
theorem F1_out10 : ∀ k, k ≤ 64 → ∀ i : S64x4x64x512.Idx, 63 - (i 0).val < k →
    (F1 m c k (Proc.devRef .tc main_v48_10) : S64x4x64x512.Idx → EReal) i = ∑ a, GlaSpec.ke (Cm m c (i 1).val (i 0).val) (K m c (i 1).val (i 0).val) (i 2) a * Dt m c (i 1).val (63 - (i 0).val) (i 3) a
  | 0, _, i, hi => absurd hi (Nat.not_lt_zero _)
  | k + 1, hk, i, hi => by
    have hi0 : (i 0).val < 64 := (i 0).isLt
    refine (congrFun ((F1_succ m c k main_v48_10 (by decide)).trans (bwd_set10 (by omega) (F1_reads m c k (by omega)))) i).trans ?_
    by_cases h : (i 0).val = 63 - k
    · exact (if_pos h).trans (by rw [h, show 63 - (63 - k) = k by omega])
    · exact (if_neg h).trans (F1_out10 k (by omega) i (by omega))
/-- After the loop every chunk's part stands. -/
theorem X1_v48_10 : X1 m c (Proc.devRef .tc main_v48_10) = fun i : S64x4x64x512.Idx => ∑ a, GlaSpec.ke (Cm m c (i 1).val (i 0).val) (K m c (i 1).val (i 0).val) (i 2) a * Dt m c (i 1).val (63 - (i 0).val) (i 3) a :=
  funext fun i => F1_out10 m c 64 le_rfl i (by have hi0 : (i 0).val < 64 := (i 0).isLt; omega)

/-- After `k` trips the last `k` chunks' parts stand. -/
theorem F1_out11 : ∀ k, k ≤ 64 → ∀ i : S64x4x256.Idx, 63 - (i 0).val < k →
    (F1 m c k (Proc.devRef .tc main_v48_11) : S64x4x256.Idx → EReal) i = ∑ b, Dt m c (i 1).val (63 - (i 0).val) b (i 2) * St m c (i 1).val (i 0).val b (i 2)
  | 0, _, i, hi => absurd hi (Nat.not_lt_zero _)
  | k + 1, hk, i, hi => by
    have hi0 : (i 0).val < 64 := (i 0).isLt
    refine (congrFun ((F1_succ m c k main_v48_11 (by decide)).trans (bwd_set11 (by omega) (F1_reads m c k (by omega)))) i).trans ?_
    by_cases h : (i 0).val = 63 - k
    · exact (if_pos h).trans (by rw [h, show 63 - (63 - k) = k by omega])
    · exact (if_neg h).trans (F1_out11 k (by omega) i (by omega))
/-- After the loop every chunk's part stands. -/
theorem X1_v48_11 : X1 m c (Proc.devRef .tc main_v48_11) = fun i : S64x4x256.Idx => ∑ b, Dt m c (i 1).val (63 - (i 0).val) b (i 2) * St m c (i 1).val (i 0).val b (i 2) :=
  funext fun i => F1_out11 m c 64 le_rfl i (by have hi0 : (i 0).val < 64 := (i 0).isLt; omega)

/-- The loop leaves what it does not write. -/
theorem X1_keep (r : Ref sig .tc) (h : r ∉ [main_while1c_c_27, main_while1c_v91]) (hb : ∀ w ∈ body1_W, r ∉ w) :
    X1 m c (Proc.devRef .tc r) = E1 m c (Proc.devRef .tc r) := F1_keep m c 64 r h hb

end Cert.ReferenceIdeal.Gla

end
-- ==== Proof.RefPost.lean ====
module

public import proofs.«01_k».proof.Proof.RefBwd

@[expose] public section

/-!
  What the reference computes after its backward loop: the parts of the gradients that stay within a chunk are added,
  the decays' gradients go to the cumulative gates, the arrays go back to rows and columns. The four results are those
  of `GlaSpec`.
-/

noncomputable section

namespace Cert.ReferenceIdeal.Gla

open Cert.ReferenceIdeal Cert.ReferenceIdeal.Gen
open Idealize.ShloMosaic Idealize.ShloMosaic.TcCoe
open Idealize.SL.Sem
open Idealize.ShloMosaic.StableHlo

variable (m : (ℓ : Loc nD τ sig) → Buf (Elt Ideal) ℓ) (c : Dev nD)

/-! ## What the loops leave standing -/

/-- An array from before the forward loop. -/
theorem X1_E0 (r : Ref sig .tc) (h1 : r ∉ [main_while1c_c_27, main_while1c_v91]) (hb1 : ∀ w ∈ body1_W, r ∉ w) (hw : ∀ w ∈ between_W, r ∉ w)
    (h0 : r ∉ [main_while0c_c_24, main_while0c_v91]) (hb0 : ∀ w ∈ body0_W, r ∉ w) :
    X1 m c (Proc.devRef .tc r) = E0 m c (Proc.devRef .tc r) :=
  (X1_keep m c r h1 hb1).trans ((E1_keep m c r hw).trans (X0_keep m c r h0 hb0))

theorem X1_v7 : X1 m c (Proc.devRef .tc main_v7) = byTile fun h n t a => Q m c h n t a * GlaSpec.scale :=
  (X1_E0 m c _ (by decide) (by decide) (by decide) (by decide) (by decide)).trans (E0_v7 m c)
theorem X1_v9 : X1 m c (Proc.devRef .tc main_v9) = byTile (K m c) :=
  (X1_E0 m c _ (by decide) (by decide) (by decide) (by decide) (by decide)).trans (E0_v9 m c)
theorem X1_v11 : X1 m c (Proc.devRef .tc main_v11) = byTile (Vv m c) :=
  (X1_E0 m c _ (by decide) (by decide) (by decide) (by decide) (by decide)).trans (E0_v11 m c)
theorem X1_v15 : X1 m c (Proc.devRef .tc main_v15) = byTile fun h n t a => Ideal.exp (Cm m c h n t a) :=
  (X1_E0 m c _ (by decide) (by decide) (by decide) (by decide) (by decide)).trans (E0_v15 m c)
theorem X1_v16 : X1 m c (Proc.devRef .tc main_v16) = byTile fun h n => GlaSpec.qd (Cm m c h n) (Q m c h n) :=
  (X1_E0 m c _ (by decide) (by decide) (by decide) (by decide) (by decide)).trans (E0_v16 m c)
theorem X1_v18 : X1 m c (Proc.devRef .tc main_v18) = byTile fun h n t a => Ideal.exp (-(Cm m c h n t a)) :=
  (X1_E0 m c _ (by decide) (by decide) (by decide) (by decide) (by decide)).trans (E0_v18 m c)
theorem X1_v19 : X1 m c (Proc.devRef .tc main_v19) = byTile fun h n => GlaSpec.ki (Cm m c h n) (K m c h n) :=
  (X1_E0 m c _ (by decide) (by decide) (by decide) (by decide) (by decide)).trans (E0_v19 m c)
theorem X1_v22 : X1 m c (Proc.devRef .tc main_v22) = byTile fun h n t a => Ideal.exp (Cm m c h n 63 a - Cm m c h n t a) :=
  (X1_E0 m c _ (by decide) (by decide) (by decide) (by decide) (by decide)).trans (E0_v22 m c)
theorem X1_v27_0 : X1 m c (Proc.devRef .tc main_v27_0) = fun i : S64x4x64x64.Idx =>
    GlaSpec.pm (Cm m c (i 1).val (i 0).val) (Q m c (i 1).val (i 0).val) (K m c (i 1).val (i 0).val) (i 2) (i 3) :=
  (X1_E0 m c _ (by decide) (by decide) (by decide) (by decide) (by decide)).trans (E0_v27_0 m c)
theorem X1_v27_1 : X1 m c (Proc.devRef .tc main_v27_1) = maskAll :=
  (X1_E0 m c _ (by decide) (by decide) (by decide) (by decide) (by decide)).trans (E0_v27_1 m c)
theorem X1_v31 : X1 m c (Proc.devRef .tc main_v31) = fun i : S64x4x256.Idx => Ideal.exp (Cm m c (i 1).val (i 0).val 63 (i 2)) :=
  (X1_E0 m c _ (by decide) (by decide) (by decide) (by decide) (by decide)).trans (E0_v31 m c)
theorem X1_v42 : X1 m c (Proc.devRef .tc main_v42) = byTile (Do m c) :=
  (X1_keep m c _ (by decide) (by decide)).trans (E1_v42 m c)

/-! ## The values' gradient, the decays', the scores' -/

/-- The contents when the scores' cotangent is masked. -/
def B2 (c : Dev nD) : Valuation τ sig (Elt Ideal) := after main_part1_ops2 (after main_part1_ops1 (X1 m c))

theorem B2_keep (r : Ref sig .tc) (h2 : r ∉ main_part1_ops2_W) (h1 : r ∉ main_part1_ops1_W) :
    B2 m c (Proc.devRef .tc r) = X1 m c (Proc.devRef .tc r) :=
  (after_of_writes_sub _ _ main_part1_ops2_writes h2).trans (after_of_writes_sub _ _ main_part1_ops1_writes h1)

theorem B2_v53 : B2 m c (Proc.devRef .tc main_v53)
    = byTile fun h n => GlaSpec.gradV (Cm m c h n) (Q m c h n) (K m c h n) (Do m c h n) (Dt m c h (63 - n)) := by
  unfold B2
  rw [after_of_writes_sub _ _ main_part1_ops2_writes (by decide)]
  after_results
  rw [X1_v42, X1_v27_0, X1_v48_10]
  funext i
  pointwise
  refine (add_comm _ _).trans (congrArg (· + _) (Finset.sum_congr rfl fun s _ => mul_comm _ _))

theorem B2_v50 : B2 m c (Proc.devRef .tc main_v50)
    = fun i : S64x4x1x256.Idx => (∑ b, Dt m c (i 1).val (63 - (i 0).val) b (i 3) * St m c (i 1).val (i 0).val b (i 3))
        * Ideal.exp (Cm m c (i 1).val (i 0).val 63 (i 3)) := by
  unfold B2
  rw [after_of_writes_sub _ _ main_part1_ops2_writes (by decide)]
  after_results
  rw [X1_v48_11, X1_v31]
  funext i
  pointwise

theorem ops2_v55 (W : Valuation τ sig (Elt Ideal)) : after main_part1_ops2 W (Proc.devRef .tc main_v55)
    = select (W (Proc.devRef .tc main_v27_1)) (W (Proc.devRef .tc main_v54))
        (broadcastInDim S64x4x64x64 ![] bcast_S_S64x4x64x64 (constant (F := Ideal) S_ .f32 0x00000000#32)) := by
  after_results
  rfl

theorem ops1_v54 (W : Valuation τ sig (Elt Ideal)) : after main_part1_ops1 W (Proc.devRef .tc main_v54)
    = Host.dotGeneral (F := Ideal) (φ₁ := .f32) (φ₂ := .f32) dot_S64x4x64x512_S64x4x64x512_S64x4x64x64_3_3_2_2_01_01 none (W (Proc.devRef .tc main_v42)) (W (Proc.devRef .tc main_v11)) := by
  after_results

theorem B2_v55 : B2 m c (Proc.devRef .tc main_v55) = fun i : S64x4x64x64.Idx =>
    GlaSpec.am (Vv m c (i 1).val (i 0).val) (Do m c (i 1).val (i 0).val) (i 2) (i 3) := by
  unfold B2
  rw [ops2_v55, ops1_v54, after_of_writes_sub _ _ main_part1_ops1_writes (by decide), X1_v27_1, X1_v42, X1_v11]
  funext i
  pointwise
  exact maskAll_select i _

/-! ## The tiles of the four gradients -/

/-- The contents when all but the last casts are done. -/
def B3 (c : Dev nD) : Valuation τ sig (Elt Ideal) := after main_part1_ops3 (B2 m c)

theorem B2_v48_8 : B2 m c (Proc.devRef .tc main_v48_8) = fun i : S64x4x64x256.Idx => ∑ b, Do m c (i 1).val (i 0).val (i 2) b * St m c (i 1).val (i 0).val b (i 3) :=
  (B2_keep m c main_v48_8 (by decide) (by decide)).trans (X1_v48_8 m c)
theorem B2_v48_9 : B2 m c (Proc.devRef .tc main_v48_9) = byTile fun h n => GlaSpec.dke (Vv m c h n) (Dt m c h (63 - n)) :=
  (B2_keep m c main_v48_9 (by decide) (by decide)).trans (X1_v48_9 m c)

/-- The queries', but for the scale. -/
theorem B3_v73 : B3 m c (Proc.devRef .tc main_v73)
    = byTile fun h n t a => GlaSpec.dqd (Cm m c h n) (K m c h n) (Vv m c h n) (Do m c h n) (St m c h n) t a * Ideal.exp (Cm m c h n t a) := by
  unfold B3
  after_results
  rw [B2_v48_8, B2_v55, B2_keep m c main_v19 (by decide) (by decide), X1_v19, B2_keep m c main_v15 (by decide) (by decide), X1_v15]
  funext i
  pointwise
  exact congrArg (· * _) (add_comm _ _)

/-- The keys'. -/
theorem B3_v68 : B3 m c (Proc.devRef .tc main_v68)
    = byTile fun h n => GlaSpec.gradK (Cm m c h n) (Q m c h n) (Vv m c h n) (Do m c h n) (Dt m c h (63 - n)) := by
  unfold B3
  after_results
  rw [B2_v48_9, B2_v55, B2_keep m c main_v16 (by decide) (by decide), X1_v16, B2_keep m c main_v18 (by decide) (by decide), X1_v18,
    B2_keep m c main_v22 (by decide) (by decide), X1_v22]
  funext i
  pointwise
  exact add_comm _ _

/-- A decayed key times its cotangent. -/
theorem key_move (k e x : EReal) : k * e * x = e * (k * x) := by rw [mul_comm k e, mul_assoc]

/-- The reference's order of a gate's terms against the chunk's. -/
theorem gate_sum (k e x3 d x2 q A B x1 : EReal) :
    -(k * e * x3) + -(k * d * x2) + q * (A + B) * x1 = (B + A) * (q * x1) - d * (k * x2) - e * (k * x3) := by
  rw [key_move k e x3, key_move k d x2, key_move q (A + B) x1, add_comm A B, sub_eq_add_neg, sub_eq_add_neg]
  ac_rfl

/-- The cumulative gates'. -/
theorem B3_v77 : B3 m c (Proc.devRef .tc main_v77)
    = byTile fun h n => GlaSpec.gradC (Cm m c h n) (Q m c h n) (K m c h n) (Vv m c h n) (Do m c h n) (St m c h n) (Dt m c h (63 - n)) := by
  unfold B3
  after_results
  rw [B2_v48_9, B2_v48_8, B2_v50, B2_v55, B2_keep m c main_v16 (by decide) (by decide), X1_v16, B2_keep m c main_v18 (by decide) (by decide), X1_v18,
    B2_keep m c main_v22 (by decide) (by decide), X1_v22, B2_keep m c main_v19 (by decide) (by decide), X1_v19, B2_keep m c main_v15 (by decide) (by decide), X1_v15,
    B2_keep m c main_v9 (by decide) (by decide), X1_v9, B2_keep m c main_v7 (by decide) (by decide), X1_v7]
  funext i
  pointwise
  have h2 : (i 2).val < 64 := (i 2).isLt
  refine (congrArg (· + _) (gate_sum _ _ _ _ _ _ _ _ _)).trans ?_
  show _ = GlaSpec.gradC _ _ _ _ _ _ _ (i 2) (i 3)
  by_cases h : (i 2).val = 63
  · refine ((congrArg (_ + ·) (dif_pos ⟨by omega, by omega⟩)).trans ?_).trans (if_pos (Fin.ext h)).symm
    exact congrArg (_ + ·) ((add_comm _ _).trans (congrArg (· + _) (Finset.sum_congr rfl fun t _ => key_move _ _ _)))
  · refine ((congrArg (_ + ·) (dif_neg (fun h' => h (by omega)))).trans (add_zero _)).trans (if_neg (fun h' => h (congrArg Fin.val h'))).symm

/-! ## The results -/

theorem B3_v79 : B3 m c (Proc.devRef .tc main_v79)
    = shapeCast S4096x1024 (transpose S64x64x4x256 [0, 2, 1, 3] (B3 m c (Proc.devRef .tc main_v77) : S64x4x64x256.Idx → EReal) transposes_S64x4x64x256_S64x64x4x256_0_2_1_3)
        shapeCasts_S64x64x4x256_S4096x1024 := by
  unfold B3
  after_results
  rfl

theorem B3_v81 : B3 m c (Proc.devRef .tc main_v81)
    = shapeCast S4096x2048 (transpose S64x64x4x512 [0, 2, 1, 3] (B2 m c (Proc.devRef .tc main_v53) : S64x4x64x512.Idx → EReal) transposes_S64x4x64x512_S64x64x4x512_0_2_1_3)
        shapeCasts_S64x64x4x512_S4096x2048 := by
  unfold B3
  after_results
  rfl

theorem Z_eq : Z m c = after main_part2_ops0 (B3 m c) := rfl

theorem Z_dC : Z m c (Proc.devRef .tc main_v79) = GlaSpec.dC (argP m c) (argC m c) (argG m c) := by
  rw [Z_eq, after_of_writes_sub _ _ main_part2_ops0_writes (by decide), B3_v79, B3_v77]
  funext i
  pointwise
  rfl

theorem Z_dV : Z m c (Proc.devRef .tc main_v90) = GlaSpec.dV (argP m c) (argC m c) (argG m c) := by
  rw [Z_eq]
  after_results
  rw [B3_v81, B2_v53]
  funext i
  pointwise
  rfl

theorem Z_dK : Z m c (Proc.devRef .tc main_v89) = GlaSpec.dK (argP m c) (argC m c) (argG m c) := by
  rw [Z_eq]
  after_results
  rw [B3_v68]
  funext i
  pointwise
  rfl

theorem Z_dQ : Z m c (Proc.devRef .tc main_v88) = GlaSpec.dQ (argP m c) (argC m c) (argG m c) := by
  rw [Z_eq]
  after_results
  rw [B3_v73]
  funext i
  pointwise
  exact mul_right_comm _ _ _

/-- What the reference computes: its run at the extended reals ends with the four gradients in its results and the
    arguments as launched. -/
theorem run_values (ρ : Dev nD → PrngReg) : θ_run defs (onTc (τ := τ) (main (F := Ideal))) ⟨m, fun _ => 0, ρ⟩ (fun r => ∀ c : Dev nD,
      r.2.mem ((c.tc : Thread nD τ).loc main_v88) = GlaSpec.dQ (argP m c) (argC m c) (argG m c)
      ∧ r.2.mem ((c.tc : Thread nD τ).loc main_v89) = GlaSpec.dK (argP m c) (argC m c) (argG m c)
      ∧ r.2.mem ((c.tc : Thread nD τ).loc main_v90) = GlaSpec.dV (argP m c) (argC m c) (argG m c)
      ∧ r.2.mem ((c.tc : Thread nD τ).loc main_v79) = GlaSpec.dC (argP m c) (argC m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h.1 c _ (devRef_mem_ucRefs main_v88 rfl)).trans (Z_dQ m c),
     (h.1 c _ (devRef_mem_ucRefs main_v89 rfl)).trans (Z_dK m c),
     (h.1 c _ (devRef_mem_ucRefs main_v90 rfl)).trans (Z_dV m c),
     (h.1 c _ (devRef_mem_ucRefs main_v79 rfl)).trans (Z_dC m c),
     (h.1 c _ (devRef_mem_ucRefs main_arg0 rfl)).trans (Z_keep m c main_arg0 (by decide) (by decide) (by decide) (by decide) (by decide) (by decide) (by decide)),
     (h.1 c _ (devRef_mem_ucRefs main_arg1 rfl)).trans (Z_keep m c main_arg1 (by decide) (by decide) (by decide) (by decide) (by decide) (by decide) (by decide)),
     (h.1 c _ (devRef_mem_ucRefs main_arg2 rfl)).trans (Z_keep m c main_arg2 (by decide) (by decide) (by decide) (by decide) (by decide) (by decide) (by decide))⟩) (run m ρ)

end Cert.ReferenceIdeal.Gla

end
-- ==== Proof.MmGlaProj.lean ====
module

public import proofs.«01_k».proof.Defs
public import proofs.«01_k».proof.Proof.Gen.GlaProj
public import proofs.«01_k».proof.Proof.Gen.GlaProjIdeal.Value
public import proofs.«01_k».proof.Proof.Gen.GlaProjRefIdeal.Run
public import proofs.«01_k».proof.Proof.Gen.GlaProjDx
public import proofs.«01_k».proof.Proof.Gen.GlaProjDxIdeal.Value
public import proofs.«01_k».proof.Proof.Gen.GlaProjDxRefIdeal.Run
public import proofs.«01_k».proof.Proof.Gen.GlaProjDw
public import proofs.«01_k».proof.Proof.Gen.GlaProjDwIdeal.Value
public import proofs.«01_k».proof.Proof.Gen.GlaProjDwRefIdeal.Run
public import Idealize.ShloMosaic.Lib.Pipeline.ValueKit
public import Idealize.ShloMosaic.Lib.Pipeline.ReadBack
public import Idealize.ShloMosaic.Lib.Quiescent

/-! The projection into the gated linear attention: its call, and the calls of its two gradients. -/

@[expose] public section

noncomputable section

namespace Cert.GlaProjIdeal.Product

open Cert.GlaProjIdeal Cert.GlaProjIdeal.Gen Cert.GlaProjIdeal.Value Idealize.ShloMosaic Idealize.ShloMosaic.TcCoe Idealize.SL.Sem

variable (m : (ℓ : Loc nD τ sig) → Buf (Elt Ideal) ℓ)

theorem index : ∀ t : Fin cfg0.N, win0_0.index t = ![t.val / 6, 0] ∧ win0_1.index t = ![0, t.val % 6] ∧ win0_2.index t = ![t.val / 6, t.val % 6] :=
  (by decide +kernel : ∀ t : Fin grid0.N, _)

/-- The product: the call's array and the reference's are the same. -/
theorem algebraic : Cert.algebraic_GlaProjIdeal_GlaProjRefIdeal := by
  intro m g m' g' _ hag
  refine ⟨fun c => (dats m 0 c).arrAt 2 cfg0.N, run_blocks m g,
    (θ_run Cert.GlaProjRefIdeal.defs _ _).mono (fun r h c => ⟨(h c).1.trans ?_, (h c).2⟩) (Cert.GlaProjRefIdeal.Value.run m' g')⟩
  rw [(hag c).1, (hag c).2]
  symm
  refine (dats m 0 c).arrAt_eq_of_covers 2 _ (by decide +kernel) fun t hf y => ?_
  have hN : t.val < 24 := t.isLt
  blk_simp
  rw [after0_2]
  frame_out
  pointwise [k0_pay1]
  blk_point [iblk, V, index]

theorem frame : Cert.quiescent_GlaProj := fun m g _ =>
  cast (by chain_rfl) (Gen.frame (F := Bits) m g)

theorem frame_ideal : Cert.quiescent_GlaProjIdeal := fun m g _ => Gen.frame m g

theorem frame_reference : Cert.quiescent_GlaProjRefIdeal := fun m g _ =>
  (θ_run Cert.GlaProjRefIdeal.defs _ _).mono (fun r h => ⟨fun c => (h c).2, sem_eq_zero_of_no_sems (by decide) r.2⟩) (Cert.GlaProjRefIdeal.Value.run m g)

end Cert.GlaProjIdeal.Product

namespace Cert.GlaProjDxIdeal.Product

open Cert.GlaProjDxIdeal Cert.GlaProjDxIdeal.Gen Cert.GlaProjDxIdeal.Value Idealize.ShloMosaic Idealize.ShloMosaic.TcCoe Idealize.SL.Sem

variable (m : (ℓ : Loc nD τ sig) → Buf (Elt Ideal) ℓ)

theorem index : ∀ t : Fin cfg0.N, win0_0.index t = ![t.val / 6, t.val % 3] ∧ win0_1.index t = ![t.val / 3 % 2, t.val % 3]
    ∧ win0_2.index t = ![t.val / 6, t.val / 3 % 2] :=
  (by decide +kernel : ∀ t : Fin grid0.N, _)

/-- One tile's product, as a sum over the tile. -/
theorem tile_apply (x : Vec Ideal S1024x2048 .bf16) (y : Vec Ideal S1024x2048 .bf16) (j : S1024x1024.Idx) :
    k0_pay1 x y j = ∑ k : Fin 2048, x (ix2 (j 0) k) * y (ix2 (j 1) k) := by
  pointwise [k0_pay1]

/-- What the scratch holds at the end of a run of 3 points: the sum of the tiles' products. -/
theorem carried (c : Dev nD) (t : Fin cfg0.N) (h : t.val % 3 = 2) (j : S1024x1024.Idx) :
    (outsAt0 m c t.val t.isLt).2 j = ∑ s : Fin 3, k0_pay1 (iblk m c 0 ⟨3 * (t.val / 3) + s.val, Pipeline.run_point_lt_of_flush t h s⟩) (iblk m c 1 ⟨3 * (t.val / 3) + s.val, Pipeline.run_point_lt_of_flush t h s⟩) j := by
  refine (Pipeline.eq_sum_fin_of_reset_step_apply_of_flush (fun n h => (outsAt0 m c n h).2) 3 (fun _ => (0 : EReal))
    (fun t j => k0_pay1 (iblk m c 0 t) (iblk m c 1 t) j) (fun t h j => ?_) (fun t h j => ?_) t h j).trans (zero_add _)
  · show (outsAt0 m c t.val t.isLt).2 j = 0 + _
    rw [outsAt0_A m c t h (by omega) (by omega), zero_add]
    frame_out
    unfold k0_pay2
    rw [shapeCast_self]
  · show (outsAt0 m c t.val t.isLt).2 j = _
    by_cases h3 : t.val % 3 = 2
    · rw [outsAt0_C m c t h (by omega) h3]
      frame_out
      unfold k0_pay3
      rw [shapeCast_self, read_unread_whole]
      rfl
    · rw [outsAt0_B m c t h (by omega) h3]
      frame_out
      unfold k0_pay3
      rw [shapeCast_self, read_unread_whole]
      rfl

/-- The product's gradient with respect to its input: the call's array and the reference's are the same. -/
theorem algebraic : Cert.algebraic_GlaProjDxIdeal_GlaProjDxRefIdeal := by
  intro m g m' g' _ hag
  refine ⟨fun c => (dats m 0 c).arrAt 2 cfg0.N, run_blocks m g,
    (θ_run Cert.GlaProjDxRefIdeal.defs _ _).mono (fun r h c => ⟨(h c).1.trans ?_, (h c).2⟩) (Cert.GlaProjDxRefIdeal.Value.run m' g')⟩
  rw [(hag c).1, (hag c).2]
  symm
  refine (dats m 0 c).arrAt_eq_of_covers 2 _ (by decide +kernel) fun t hf y => ?_
  have hN : t.val < 24 := t.isLt
  blk_simp
  rw [after0_2]
  have h : t.val % 3 = 2 := (flush0_2 t).mp hf
  have e : (outsAt0 m c t.val t.isLt).1 y = (outsAt0 m c t.val t.isLt).2 y := by
    rw [outsAt0_C m c t (by omega) (by omega) h]
    frame_out
  refine (e.trans (carried m c t h _)).trans ?_
  simp only [tile_apply]
  pointwise
  refine Eq.trans ?_ (Fin.sum_univ_tiles 3 2048 rfl _).symm
  refine Finset.sum_congr rfl fun s _ => Finset.sum_congr rfl fun k _ => ?_
  have hs := s.isLt
  have hk := k.isLt
  blk_point [iblk, V, index]

theorem frame : Cert.quiescent_GlaProjDx := fun m g _ =>
  cast (by chain_rfl) (Gen.frame (F := Bits) m g)

theorem frame_ideal : Cert.quiescent_GlaProjDxIdeal := fun m g _ => Gen.frame m g

theorem frame_reference : Cert.quiescent_GlaProjDxRefIdeal := fun m g _ =>
  (θ_run Cert.GlaProjDxRefIdeal.defs _ _).mono (fun r h => ⟨fun c => (h c).2, sem_eq_zero_of_no_sems (by decide) r.2⟩) (Cert.GlaProjDxRefIdeal.Value.run m g)

end Cert.GlaProjDxIdeal.Product

namespace Cert.GlaProjDwIdeal.Product

open Cert.GlaProjDwIdeal Cert.GlaProjDwIdeal.Gen Cert.GlaProjDwIdeal.Value Idealize.ShloMosaic Idealize.ShloMosaic.TcCoe Idealize.SL.Sem

variable (m : (ℓ : Loc nD τ sig) → Buf (Elt Ideal) ℓ)

theorem index : ∀ t : Fin cfg0.N, win0_0.index t = ![t.val % 2, t.val / 12] ∧ win0_1.index t = ![t.val % 2, t.val / 2 % 6]
    ∧ win0_2.index t = ![t.val / 12, t.val / 2 % 6] :=
  (by decide +kernel : ∀ t : Fin grid0.N, _)

/-- One tile's product, as a sum over the tile. -/
theorem tile_apply (x : Vec Ideal S2048x1024 .bf16) (y : Vec Ideal S2048x1024 .bf16) (j : S1024x1024.Idx) :
    k0_pay1 x y j = ∑ k : Fin 2048, x (ix2 k (j 0)) * y (ix2 k (j 1)) := by
  pointwise [k0_pay1]

/-- What the scratch holds at the end of a run of 2 points: the sum of the tiles' products. -/
theorem carried (c : Dev nD) (t : Fin cfg0.N) (h : t.val % 2 = 1) (j : S1024x1024.Idx) :
    (outsAt0 m c t.val t.isLt).2 j = ∑ s : Fin 2, k0_pay1 (iblk m c 0 ⟨2 * (t.val / 2) + s.val, Pipeline.run_point_lt_of_flush t h s⟩) (iblk m c 1 ⟨2 * (t.val / 2) + s.val, Pipeline.run_point_lt_of_flush t h s⟩) j := by
  refine (Pipeline.eq_sum_fin_of_reset_step_apply_of_flush (fun n h => (outsAt0 m c n h).2) 2 (fun _ => (0 : EReal))
    (fun t j => k0_pay1 (iblk m c 0 t) (iblk m c 1 t) j) (fun t h j => ?_) (fun t h j => ?_) t h j).trans (zero_add _)
  · show (outsAt0 m c t.val t.isLt).2 j = 0 + _
    rw [outsAt0_A m c t h (by omega) (by omega), zero_add]
    frame_out
    unfold k0_pay2
    rw [shapeCast_self]
  · show (outsAt0 m c t.val t.isLt).2 j = _
    rw [outsAt0_B m c t h (by omega) (by omega)]
    frame_out
    unfold k0_pay3
    rw [shapeCast_self, read_unread_whole]
    rfl

/-- The product's gradient with respect to its weight: the call's array and the reference's are the same. -/
theorem algebraic : Cert.algebraic_GlaProjDwIdeal_GlaProjDwRefIdeal := by
  intro m g m' g' _ hag
  refine ⟨fun c => (dats m 0 c).arrAt 2 cfg0.N, run_blocks m g,
    (θ_run Cert.GlaProjDwRefIdeal.defs _ _).mono (fun r h c => ⟨(h c).1.trans ?_, (h c).2⟩) (Cert.GlaProjDwRefIdeal.Value.run m' g')⟩
  rw [(hag c).1, (hag c).2]
  symm
  refine (dats m 0 c).arrAt_eq_of_covers 2 _ (by decide +kernel) fun t hf y => ?_
  have hN : t.val < 24 := t.isLt
  blk_simp
  rw [after0_2]
  have h : t.val % 2 = 1 := (flush0_2 t).mp hf
  have e : (outsAt0 m c t.val t.isLt).1 y = (outsAt0 m c t.val t.isLt).2 y := by
    rw [outsAt0_B m c t (by omega) (by omega) h]
    frame_out
    pointwise [k0_pay4]
  refine (e.trans (carried m c t h _)).trans ?_
  simp only [tile_apply]
  pointwise
  refine Eq.trans ?_ (Fin.sum_univ_tiles 2 2048 rfl _).symm
  refine Finset.sum_congr rfl fun s _ => Finset.sum_congr rfl fun k _ => ?_
  have hs := s.isLt
  have hk := k.isLt
  rw [mul_comm]
  blk_point [iblk, V, index]

theorem frame : Cert.quiescent_GlaProjDw := fun m g _ =>
  cast (by chain_rfl) (Gen.frame (F := Bits) m g)

theorem frame_ideal : Cert.quiescent_GlaProjDwIdeal := fun m g _ => Gen.frame m g

theorem frame_reference : Cert.quiescent_GlaProjDwRefIdeal := fun m g _ =>
  (θ_run Cert.GlaProjDwRefIdeal.defs _ _).mono (fun r h => ⟨fun c => (h c).2, sem_eq_zero_of_no_sems (by decide) r.2⟩) (Cert.GlaProjDwRefIdeal.Value.run m g)

end Cert.GlaProjDwIdeal.Product

end
-- ==== Proof.MmGateProj.lean ====
module

public import proofs.«01_k».proof.Defs
public import proofs.«01_k».proof.Proof.Gen.GateProj
public import proofs.«01_k».proof.Proof.Gen.GateProjIdeal.Value
public import proofs.«01_k».proof.Proof.Gen.GateProjRefIdeal.Run
public import proofs.«01_k».proof.Proof.Gen.GateProjDx
public import proofs.«01_k».proof.Proof.Gen.GateProjDxIdeal.Value
public import proofs.«01_k».proof.Proof.Gen.GateProjDxRefIdeal.Run
public import proofs.«01_k».proof.Proof.Gen.GateProjDw
public import proofs.«01_k».proof.Proof.Gen.GateProjDwIdeal.Value
public import proofs.«01_k».proof.Proof.Gen.GateProjDwRefIdeal.Run
public import Idealize.ShloMosaic.Lib.Pipeline.ValueKit
public import Idealize.ShloMosaic.Lib.Pipeline.ReadBack
public import Idealize.ShloMosaic.Lib.Quiescent

/-! The projection into the low-rank gate: its call, and the calls of its two gradients. -/

@[expose] public section

noncomputable section

namespace Cert.GateProjIdeal.Product

open Cert.GateProjIdeal Cert.GateProjIdeal.Gen Cert.GateProjIdeal.Value Idealize.ShloMosaic Idealize.ShloMosaic.TcCoe Idealize.SL.Sem

variable (m : (ℓ : Loc nD τ sig) → Buf (Elt Ideal) ℓ)

theorem index : ∀ t : Fin cfg0.N, win0_0.index t = ![t.val, 0] ∧ win0_1.index t = ![0, 0] ∧ win0_2.index t = ![t.val, 0] :=
  (by decide +kernel : ∀ t : Fin grid0.N, _)

/-- The product: the call's array and the reference's are the same. -/
theorem algebraic : Cert.algebraic_GateProjIdeal_GateProjRefIdeal := by
  intro m g m' g' _ hag
  refine ⟨fun c => (dats m 0 c).arrAt 2 cfg0.N, run_blocks m g,
    (θ_run Cert.GateProjRefIdeal.defs _ _).mono (fun r h c => ⟨(h c).1.trans ?_, (h c).2⟩) (Cert.GateProjRefIdeal.Value.run m' g')⟩
  rw [(hag c).1, (hag c).2]
  symm
  refine (dats m 0 c).arrAt_eq_of_covers 2 _ (by decide +kernel) fun t hf y => ?_
  have hN : t.val < 4 := t.isLt
  blk_simp
  rw [after0_2]
  frame_out
  pointwise [k0_pay1]
  blk_point [iblk, V, index]

theorem frame : Cert.quiescent_GateProj := fun m g _ =>
  cast (by chain_rfl) (Gen.frame (F := Bits) m g)

theorem frame_ideal : Cert.quiescent_GateProjIdeal := fun m g _ => Gen.frame m g

theorem frame_reference : Cert.quiescent_GateProjRefIdeal := fun m g _ =>
  (θ_run Cert.GateProjRefIdeal.defs _ _).mono (fun r h => ⟨fun c => (h c).2, sem_eq_zero_of_no_sems (by decide) r.2⟩) (Cert.GateProjRefIdeal.Value.run m g)

end Cert.GateProjIdeal.Product

namespace Cert.GateProjDxIdeal.Product

open Cert.GateProjDxIdeal Cert.GateProjDxIdeal.Gen Cert.GateProjDxIdeal.Value Idealize.ShloMosaic Idealize.ShloMosaic.TcCoe Idealize.SL.Sem

variable (m : (ℓ : Loc nD τ sig) → Buf (Elt Ideal) ℓ)

theorem index : ∀ t : Fin cfg0.N, win0_0.index t = ![t.val / 2, 0] ∧ win0_1.index t = ![t.val % 2, 0]
    ∧ win0_2.index t = ![t.val / 2, t.val % 2] ∧ win0_3.index t = ![t.val / 2, t.val % 2] :=
  (by decide +kernel : ∀ t : Fin grid0.N, _)

/-- The product's gradient with respect to its input: the call's array and the reference's are the same. -/
theorem algebraic : Cert.algebraic_GateProjDxIdeal_GateProjDxRefIdeal := by
  intro m g m' g' _ hag
  refine ⟨fun c => (dats m 0 c).arrAt 3 cfg0.N, run_blocks m g,
    (θ_run Cert.GateProjDxRefIdeal.defs _ _).mono (fun r h c => ⟨(h c).1.trans ?_, (h c).2⟩) (Cert.GateProjDxRefIdeal.Value.run m' g')⟩
  rw [(hag c).1, (hag c).2.1, (hag c).2.2]
  symm
  refine (dats m 0 c).arrAt_eq_of_covers 3 _ (by decide +kernel) fun t hf y => ?_
  have hN : t.val < 8 := t.isLt
  blk_simp
  rw [after0_3]
  frame_out
  pointwise [k0_pay1]
  blk_point [iblk, V, index]

theorem frame : Cert.quiescent_GateProjDx := fun m g _ =>
  cast (by chain_rfl) (Gen.frame (F := Bits) m g)

theorem frame_ideal : Cert.quiescent_GateProjDxIdeal := fun m g _ => Gen.frame m g

theorem frame_reference : Cert.quiescent_GateProjDxRefIdeal := fun m g _ =>
  (θ_run Cert.GateProjDxRefIdeal.defs _ _).mono (fun r h => ⟨fun c => (h c).2, sem_eq_zero_of_no_sems (by decide) r.2⟩) (Cert.GateProjDxRefIdeal.Value.run m g)

end Cert.GateProjDxIdeal.Product

namespace Cert.GateProjDwIdeal.Product

open Cert.GateProjDwIdeal Cert.GateProjDwIdeal.Gen Cert.GateProjDwIdeal.Value Idealize.ShloMosaic Idealize.ShloMosaic.TcCoe Idealize.SL.Sem

variable (m : (ℓ : Loc nD τ sig) → Buf (Elt Ideal) ℓ)

theorem index : ∀ t : Fin cfg0.N, win0_0.index t = ![t.val % 2, t.val / 2] ∧ win0_1.index t = ![t.val % 2, 0] ∧ win0_2.index t = ![t.val / 2, 0] :=
  (by decide +kernel : ∀ t : Fin grid0.N, _)

/-- One tile's product, as a sum over the tile. -/
theorem tile_apply (x : Vec Ideal S2048x1024 .bf16) (y : Vec Ideal S2048x128 .bf16) (j : S1024x128.Idx) :
    k0_pay1 x y j = ∑ k : Fin 2048, x (ix2 k (j 0)) * y (ix2 k (j 1)) := by
  pointwise [k0_pay1]

/-- What the scratch holds at the end of a run of 2 points: the sum of the tiles' products. -/
theorem carried (c : Dev nD) (t : Fin cfg0.N) (h : t.val % 2 = 1) (j : S1024x128.Idx) :
    (outsAt0 m c t.val t.isLt).2 j = ∑ s : Fin 2, k0_pay1 (iblk m c 0 ⟨2 * (t.val / 2) + s.val, Pipeline.run_point_lt_of_flush t h s⟩) (iblk m c 1 ⟨2 * (t.val / 2) + s.val, Pipeline.run_point_lt_of_flush t h s⟩) j := by
  refine (Pipeline.eq_sum_fin_of_reset_step_apply_of_flush (fun n h => (outsAt0 m c n h).2) 2 (fun _ => (0 : EReal))
    (fun t j => k0_pay1 (iblk m c 0 t) (iblk m c 1 t) j) (fun t h j => ?_) (fun t h j => ?_) t h j).trans (zero_add _)
  · show (outsAt0 m c t.val t.isLt).2 j = 0 + _
    rw [outsAt0_A m c t h (by omega) (by omega), zero_add]
    frame_out
    unfold k0_pay2
    rw [shapeCast_self]
  · show (outsAt0 m c t.val t.isLt).2 j = _
    rw [outsAt0_B m c t h (by omega) (by omega)]
    frame_out
    unfold k0_pay3
    rw [shapeCast_self, read_unread_whole]
    rfl

/-- The product's gradient with respect to its weight: the call's array and the reference's are the same. -/
theorem algebraic : Cert.algebraic_GateProjDwIdeal_GateProjDwRefIdeal := by
  intro m g m' g' _ hag
  refine ⟨fun c => (dats m 0 c).arrAt 2 cfg0.N, run_blocks m g,
    (θ_run Cert.GateProjDwRefIdeal.defs _ _).mono (fun r h c => ⟨(h c).1.trans ?_, (h c).2⟩) (Cert.GateProjDwRefIdeal.Value.run m' g')⟩
  rw [(hag c).1, (hag c).2]
  symm
  refine (dats m 0 c).arrAt_eq_of_covers 2 _ (by decide +kernel) fun t hf y => ?_
  have hN : t.val < 4 := t.isLt
  blk_simp
  rw [after0_2]
  have h : t.val % 2 = 1 := (flush0_2 t).mp hf
  have e : (outsAt0 m c t.val t.isLt).1 y = (outsAt0 m c t.val t.isLt).2 y := by
    rw [outsAt0_B m c t (by omega) (by omega) h]
    frame_out
    pointwise [k0_pay4]
  refine (e.trans (carried m c t h _)).trans ?_
  simp only [tile_apply]
  pointwise
  refine Eq.trans ?_ (Fin.sum_univ_tiles 2 2048 rfl _).symm
  refine Finset.sum_congr rfl fun s _ => Finset.sum_congr rfl fun k _ => ?_
  have hs := s.isLt
  have hk := k.isLt
  rw [mul_comm]
  blk_point [iblk, V, index]

theorem frame : Cert.quiescent_GateProjDw := fun m g _ =>
  cast (by chain_rfl) (Gen.frame (F := Bits) m g)

theorem frame_ideal : Cert.quiescent_GateProjDwIdeal := fun m g _ => Gen.frame m g

theorem frame_reference : Cert.quiescent_GateProjDwRefIdeal := fun m g _ =>
  (θ_run Cert.GateProjDwRefIdeal.defs _ _).mono (fun r h => ⟨fun c => (h c).2, sem_eq_zero_of_no_sems (by decide) r.2⟩) (Cert.GateProjDwRefIdeal.Value.run m g)

end Cert.GateProjDwIdeal.Product

end
-- ==== Proof.MmMixOut.lean ====
module

public import proofs.«01_k».proof.Defs
public import proofs.«01_k».proof.Proof.Gen.MixOut
public import proofs.«01_k».proof.Proof.Gen.MixOutIdeal.Value
public import proofs.«01_k».proof.Proof.Gen.MixOutRefIdeal.Run
public import proofs.«01_k».proof.Proof.Gen.MixOutDx
public import proofs.«01_k».proof.Proof.Gen.MixOutDxIdeal.Value
public import proofs.«01_k».proof.Proof.Gen.MixOutDxRefIdeal.Run
public import proofs.«01_k».proof.Proof.Gen.MixOutDw
public import proofs.«01_k».proof.Proof.Gen.MixOutDwIdeal.Value
public import proofs.«01_k».proof.Proof.Gen.MixOutDwRefIdeal.Run
public import Idealize.ShloMosaic.Lib.Pipeline.ValueKit
public import Idealize.ShloMosaic.Lib.Pipeline.ReadBack
public import Idealize.ShloMosaic.Lib.Quiescent

/-! The mixers' output projection: its call, and the calls of its two gradients. -/

@[expose] public section

noncomputable section

namespace Cert.MixOutIdeal.Product

open Cert.MixOutIdeal Cert.MixOutIdeal.Gen Cert.MixOutIdeal.Value Idealize.ShloMosaic Idealize.ShloMosaic.TcCoe Idealize.SL.Sem

variable (m : (ℓ : Loc nD τ sig) → Buf (Elt Ideal) ℓ)

theorem index : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

/-- The product: the call's array and the reference's are the same. -/
theorem algebraic : Cert.algebraic_MixOutIdeal_MixOutRefIdeal := by
  intro m g m' g' _ hag
  refine ⟨fun c => (dats m 0 c).arrAt 3 cfg0.N, run_blocks m g,
    (θ_run Cert.MixOutRefIdeal.defs _ _).mono (fun r h c => ⟨(h c).1.trans ?_, (h c).2⟩) (Cert.MixOutRefIdeal.Value.run m' g')⟩
  rw [(hag c).1, (hag c).2.1, (hag c).2.2]
  symm
  refine (dats m 0 c).arrAt_eq_of_covers 3 _ (by decide +kernel) fun t hf y => ?_
  have hN : t.val < 8 := t.isLt
  blk_simp
  rw [after0_3]
  frame_out
  pointwise [k0_pay1]
  blk_point [iblk, V, index]

theorem frame : Cert.quiescent_MixOut := fun m g _ =>
  cast (by chain_rfl) (Gen.frame (F := Bits) m g)

theorem frame_ideal : Cert.quiescent_MixOutIdeal := fun m g _ => Gen.frame m g

theorem frame_reference : Cert.quiescent_MixOutRefIdeal := fun m g _ =>
  (θ_run Cert.MixOutRefIdeal.defs _ _).mono (fun r h => ⟨fun c => (h c).2, sem_eq_zero_of_no_sems (by decide) r.2⟩) (Cert.MixOutRefIdeal.Value.run m g)

end Cert.MixOutIdeal.Product

namespace Cert.MixOutDxIdeal.Product

open Cert.MixOutDxIdeal Cert.MixOutDxIdeal.Gen Cert.MixOutDxIdeal.Value Idealize.ShloMosaic Idealize.ShloMosaic.TcCoe Idealize.SL.Sem

variable (m : (ℓ : Loc nD τ sig) → Buf (Elt Ideal) ℓ)

theorem index : ∀ t : Fin cfg0.N, win0_0.index t = ![t.val / 2, 0] ∧ win0_1.index t = ![t.val % 2, 0] ∧ win0_2.index t = ![t.val / 2, t.val % 2] :=
  (by decide +kernel : ∀ t : Fin grid0.N, _)

/-- The product's gradient with respect to its input: the call's array and the reference's are the same. -/
theorem algebraic : Cert.algebraic_MixOutDxIdeal_MixOutDxRefIdeal := by
  intro m g m' g' _ hag
  refine ⟨fun c => (dats m 0 c).arrAt 2 cfg0.N, run_blocks m g,
    (θ_run Cert.MixOutDxRefIdeal.defs _ _).mono (fun r h c => ⟨(h c).1.trans ?_, (h c).2⟩) (Cert.MixOutDxRefIdeal.Value.run m' g')⟩
  rw [(hag c).1, (hag c).2]
  symm
  refine (dats m 0 c).arrAt_eq_of_covers 2 _ (by decide +kernel) fun t hf y => ?_
  have hN : t.val < 8 := t.isLt
  blk_simp
  rw [after0_2]
  frame_out
  pointwise [k0_pay1]
  blk_point [iblk, V, index]

theorem frame : Cert.quiescent_MixOutDx := fun m g _ =>
  cast (by chain_rfl) (Gen.frame (F := Bits) m g)

theorem frame_ideal : Cert.quiescent_MixOutDxIdeal := fun m g _ => Gen.frame m g

theorem frame_reference : Cert.quiescent_MixOutDxRefIdeal := fun m g _ =>
  (θ_run Cert.MixOutDxRefIdeal.defs _ _).mono (fun r h => ⟨fun c => (h c).2, sem_eq_zero_of_no_sems (by decide) r.2⟩) (Cert.MixOutDxRefIdeal.Value.run m g)

end Cert.MixOutDxIdeal.Product

namespace Cert.MixOutDwIdeal.Product

open Cert.MixOutDwIdeal Cert.MixOutDwIdeal.Gen Cert.MixOutDwIdeal.Value Idealize.ShloMosaic Idealize.ShloMosaic.TcCoe Idealize.SL.Sem

variable (m : (ℓ : Loc nD τ sig) → Buf (Elt Ideal) ℓ)

theorem index : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- One tile's product, as a sum over the tile. -/
theorem tile_apply (x : Vec Ideal S2048x1024 .bf16) (y : Vec Ideal S2048x1024 .f32) (j : S1024x1024.Idx) :
    k0_pay1 x y j = ∑ k : Fin 2048, x (ix2 k (j 0)) * y (ix2 k (j 1)) := by
  pointwise [k0_pay1]

/-- What the scratch holds at the end of a run of 2 points: the sum of the tiles' products. -/
theorem carried (c : Dev nD) (t : Fin cfg0.N) (h : t.val % 2 = 1) (j : S1024x1024.Idx) :
    (outsAt0 m c t.val t.isLt).2 j = ∑ s : Fin 2, k0_pay1 (iblk m c 0 ⟨2 * (t.val / 2) + s.val, Pipeline.run_point_lt_of_flush t h s⟩) (iblk m c 1 ⟨2 * (t.val / 2) + s.val, Pipeline.run_point_lt_of_flush t h s⟩) j := by
  refine (Pipeline.eq_sum_fin_of_reset_step_apply_of_flush (fun n h => (outsAt0 m c n h).2) 2 (fun _ => (0 : EReal))
    (fun t j => k0_pay1 (iblk m c 0 t) (iblk m c 1 t) j) (fun t h j => ?_) (fun t h j => ?_) t h j).trans (zero_add _)
  · show (outsAt0 m c t.val t.isLt).2 j = 0 + _
    rw [outsAt0_A m c t h (by omega) (by omega), zero_add]
    frame_out
    unfold k0_pay2
    rw [shapeCast_self]
  · show (outsAt0 m c t.val t.isLt).2 j = _
    rw [outsAt0_B m c t h (by omega) (by omega)]
    frame_out
    unfold k0_pay3
    rw [shapeCast_self, read_unread_whole]
    rfl

/-- The product's gradient with respect to its weight: the call's array and the reference's are the same. -/
theorem algebraic : Cert.algebraic_MixOutDwIdeal_MixOutDwRefIdeal := by
  intro m g m' g' _ hag
  refine ⟨fun c => (dats m 0 c).arrAt 2 cfg0.N, run_blocks m g,
    (θ_run Cert.MixOutDwRefIdeal.defs _ _).mono (fun r h c => ⟨(h c).1.trans ?_, (h c).2⟩) (Cert.MixOutDwRefIdeal.Value.run m' g')⟩
  rw [(hag c).1, (hag c).2]
  symm
  refine (dats m 0 c).arrAt_eq_of_covers 2 _ (by decide +kernel) fun t hf y => ?_
  have hN : t.val < 8 := t.isLt
  blk_simp
  rw [after0_2]
  have h : t.val % 2 = 1 := (flush0_2 t).mp hf
  have e : (outsAt0 m c t.val t.isLt).1 y = (outsAt0 m c t.val t.isLt).2 y := by
    rw [outsAt0_B m c t (by omega) (by omega) h]
    frame_out
    pointwise [k0_pay4]
  refine (e.trans (carried m c t h _)).trans ?_
  simp only [tile_apply]
  pointwise
  refine Eq.trans ?_ (Fin.sum_univ_tiles 2 2048 rfl _).symm
  refine Finset.sum_congr rfl fun s _ => Finset.sum_congr rfl fun k _ => ?_
  have hs := s.isLt
  have hk := k.isLt
  rw [mul_comm]
  blk_point [iblk, V, index]

theorem frame : Cert.quiescent_MixOutDw := fun m g _ =>
  cast (by chain_rfl) (Gen.frame (F := Bits) m g)

theorem frame_ideal : Cert.quiescent_MixOutDwIdeal := fun m g _ => Gen.frame m g

theorem frame_reference : Cert.quiescent_MixOutDwRefIdeal := fun m g _ =>
  (θ_run Cert.MixOutDwRefIdeal.defs _ _).mono (fun r h => ⟨fun c => (h c).2, sem_eq_zero_of_no_sems (by decide) r.2⟩) (Cert.MixOutDwRefIdeal.Value.run m g)

end Cert.MixOutDwIdeal.Product

end
-- ==== Proof.MmKvProj.lean ====
module

public import proofs.«01_k».proof.Defs
public import proofs.«01_k».proof.Proof.Gen.KvProj
public import proofs.«01_k».proof.Proof.Gen.KvProjIdeal.Value
public import proofs.«01_k».proof.Proof.Gen.KvProjRefIdeal.Run
public import proofs.«01_k».proof.Proof.Gen.KvProjDx
public import proofs.«01_k».proof.Proof.Gen.KvProjDxIdeal.Value
public import proofs.«01_k».proof.Proof.Gen.KvProjDxRefIdeal.Run
public import proofs.«01_k».proof.Proof.Gen.KvProjDw
public import proofs.«01_k».proof.Proof.Gen.KvProjDwIdeal.Value
public import proofs.«01_k».proof.Proof.Gen.KvProjDwRefIdeal.Run
public import Idealize.ShloMosaic.Lib.Pipeline.ValueKit
public import Idealize.ShloMosaic.Lib.Pipeline.ReadBack
public import Idealize.ShloMosaic.Lib.Quiescent

/-! The shared key and value projection: its call, and the calls of its two gradients. -/

@[expose] public section

noncomputable section

namespace Cert.KvProjIdeal.Product

open Cert.KvProjIdeal Cert.KvProjIdeal.Gen Cert.KvProjIdeal.Value Idealize.ShloMosaic Idealize.ShloMosaic.TcCoe Idealize.SL.Sem

variable (m : (ℓ : Loc nD τ sig) → Buf (Elt Ideal) ℓ)

theorem index : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The product: the call's array and the reference's are the same. -/
theorem algebraic : Cert.algebraic_KvProjIdeal_KvProjRefIdeal := by
  intro m g m' g' _ hag
  refine ⟨fun c => (dats m 0 c).arrAt 2 cfg0.N, run_blocks m g,
    (θ_run Cert.KvProjRefIdeal.defs _ _).mono (fun r h c => ⟨(h c).1.trans ?_, (h c).2⟩) (Cert.KvProjRefIdeal.Value.run m' g')⟩
  rw [(hag c).1, (hag c).2]
  symm
  refine (dats m 0 c).arrAt_eq_of_covers 2 _ (by decide +kernel) fun t hf y => ?_
  have hN : t.val < 16 := t.isLt
  blk_simp
  rw [after0_2]
  frame_out
  pointwise [k0_pay1]
  blk_point [iblk, V, index]

theorem frame : Cert.quiescent_KvProj := fun m g _ =>
  cast (by chain_rfl) (Gen.frame (F := Bits) m g)

theorem frame_ideal : Cert.quiescent_KvProjIdeal := fun m g _ => Gen.frame m g

theorem frame_reference : Cert.quiescent_KvProjRefIdeal := fun m g _ =>
  (θ_run Cert.KvProjRefIdeal.defs _ _).mono (fun r h => ⟨fun c => (h c).2, sem_eq_zero_of_no_sems (by decide) r.2⟩) (Cert.KvProjRefIdeal.Value.run m g)

end Cert.KvProjIdeal.Product

namespace Cert.KvProjDxIdeal.Product

open Cert.KvProjDxIdeal Cert.KvProjDxIdeal.Gen Cert.KvProjDxIdeal.Value Idealize.ShloMosaic Idealize.ShloMosaic.TcCoe Idealize.SL.Sem

variable (m : (ℓ : Loc nD τ sig) → Buf (Elt Ideal) ℓ)

theorem index : ∀ t : Fin cfg0.N, win0_0.index t = ![t.val / 8, t.val % 4] ∧ win0_1.index t = ![t.val % 4, t.val / 4 % 2, 0]
    ∧ win0_2.index t = ![t.val / 8, t.val / 4 % 2] :=
  (by decide +kernel : ∀ t : Fin grid0.N, _)

/-- One tile's product, as a sum over the tile. -/
theorem tile_apply (x : Vec Ideal S1024x1024 .bf16) (y : Vec Ideal S1x1024x1024 .bf16) (j : S1024x1024.Idx) :
    k0_pay1 x y j = ∑ k : Fin 1024, x (ix2 (j 0) k) * y (ix3 0 (j 1) k) := by
  pointwise [k0_pay1]

/-- What the scratch holds at the end of a run of 4 points: the sum of the tiles' products. -/
theorem carried (c : Dev nD) (t : Fin cfg0.N) (h : t.val % 4 = 3) (j : S1024x1024.Idx) :
    (outsAt0 m c t.val t.isLt).2 j = ∑ s : Fin 4, k0_pay1 (iblk m c 0 ⟨4 * (t.val / 4) + s.val, Pipeline.run_point_lt_of_flush t h s⟩) (iblk m c 1 ⟨4 * (t.val / 4) + s.val, Pipeline.run_point_lt_of_flush t h s⟩) j := by
  refine (Pipeline.eq_sum_fin_of_reset_step_apply_of_flush (fun n h => (outsAt0 m c n h).2) 4 (fun _ => (0 : EReal))
    (fun t j => k0_pay1 (iblk m c 0 t) (iblk m c 1 t) j) (fun t h j => ?_) (fun t h j => ?_) t h j).trans (zero_add _)
  · show (outsAt0 m c t.val t.isLt).2 j = 0 + _
    rw [outsAt0_A m c t h (by omega) (by omega), zero_add]
    frame_out
    unfold k0_pay2
    rw [shapeCast_self]
  · show (outsAt0 m c t.val t.isLt).2 j = _
    by_cases h3 : t.val % 4 = 3
    · rw [outsAt0_C m c t h (by omega) h3]
      frame_out
      unfold k0_pay3
      rw [shapeCast_self, read_unread_whole]
      rfl
    · rw [outsAt0_B m c t h (by omega) h3]
      frame_out
      unfold k0_pay3
      rw [shapeCast_self, read_unread_whole]
      rfl

/-- The product's gradient with respect to its input: the call's array and the reference's are the same. -/
theorem algebraic : Cert.algebraic_KvProjDxIdeal_KvProjDxRefIdeal := by
  intro m g m' g' _ hag
  refine ⟨fun c => (dats m 0 c).arrAt 2 cfg0.N, run_blocks m g,
    (θ_run Cert.KvProjDxRefIdeal.defs _ _).mono (fun r h c => ⟨(h c).1.trans ?_, (h c).2⟩) (Cert.KvProjDxRefIdeal.Value.run m' g')⟩
  rw [(hag c).1, (hag c).2]
  symm
  refine (dats m 0 c).arrAt_eq_of_covers 2 _ (by decide +kernel) fun t hf y => ?_
  have hN : t.val < 32 := t.isLt
  blk_simp
  rw [after0_2]
  have h : t.val % 4 = 3 := (flush0_2 t).mp hf
  have e : (outsAt0 m c t.val t.isLt).1 y = (outsAt0 m c t.val t.isLt).2 y := by
    rw [outsAt0_C m c t (by omega) (by omega) h]
    frame_out
  refine (e.trans (carried m c t h _)).trans ?_
  simp only [tile_apply]
  pointwise
  refine Eq.trans ?_ (Fin.sum_univ_tiles 4 1024 rfl _).symm
  refine Finset.sum_congr rfl fun s _ => Finset.sum_congr rfl fun k _ => ?_
  have hs := s.isLt
  have hk := k.isLt
  blk_point [iblk, V, index]

theorem frame : Cert.quiescent_KvProjDx := fun m g _ =>
  cast (by chain_rfl) (Gen.frame (F := Bits) m g)

theorem frame_ideal : Cert.quiescent_KvProjDxIdeal := fun m g _ => Gen.frame m g

theorem frame_reference : Cert.quiescent_KvProjDxRefIdeal := fun m g _ =>
  (θ_run Cert.KvProjDxRefIdeal.defs _ _).mono (fun r h => ⟨fun c => (h c).2, sem_eq_zero_of_no_sems (by decide) r.2⟩) (Cert.KvProjDxRefIdeal.Value.run m g)

end Cert.KvProjDxIdeal.Product

namespace Cert.KvProjDwIdeal.Product

open Cert.KvProjDwIdeal Cert.KvProjDwIdeal.Gen Cert.KvProjDwIdeal.Value Idealize.ShloMosaic Idealize.ShloMosaic.TcCoe Idealize.SL.Sem

variable (m : (ℓ : Loc nD τ sig) → Buf (Elt Ideal) ℓ)

theorem index : ∀ t : Fin cfg0.N, win0_0.index t = ![t.val % 2, t.val / 8] ∧ win0_1.index t = ![t.val % 2, t.val / 2 % 4]
    ∧ win0_2.index t = ![t.val / 2 % 4, t.val / 8, 0] :=
  (by decide +kernel : ∀ t : Fin grid0.N, _)

/-- One tile's product, as a sum over the tile. -/
theorem tile_apply (x : Vec Ideal S2048x1024 .bf16) (y : Vec Ideal S2048x1024 .bf16) (j : S1024x1024.Idx) :
    k0_pay1 x y j = ∑ k : Fin 2048, x (ix2 k (j 0)) * y (ix2 k (j 1)) := by
  pointwise [k0_pay1]

/-- What the scratch holds at the end of a run of 2 points: the sum of the tiles' products. -/
theorem carried (c : Dev nD) (t : Fin cfg0.N) (h : t.val % 2 = 1) (j : S1024x1024.Idx) :
    (outsAt0 m c t.val t.isLt).2 j = ∑ s : Fin 2, k0_pay1 (iblk m c 0 ⟨2 * (t.val / 2) + s.val, Pipeline.run_point_lt_of_flush t h s⟩) (iblk m c 1 ⟨2 * (t.val / 2) + s.val, Pipeline.run_point_lt_of_flush t h s⟩) j := by
  refine (Pipeline.eq_sum_fin_of_reset_step_apply_of_flush (fun n h => (outsAt0 m c n h).2) 2 (fun _ => (0 : EReal))
    (fun t j => k0_pay1 (iblk m c 0 t) (iblk m c 1 t) j) (fun t h j => ?_) (fun t h j => ?_) t h j).trans (zero_add _)
  · show (outsAt0 m c t.val t.isLt).2 j = 0 + _
    rw [outsAt0_A m c t h (by omega) (by omega), zero_add]
    frame_out
    unfold k0_pay2
    rw [shapeCast_self]
  · show (outsAt0 m c t.val t.isLt).2 j = _
    rw [outsAt0_B m c t h (by omega) (by omega)]
    frame_out
    unfold k0_pay3
    rw [shapeCast_self, read_unread_whole]
    rfl

/-- The product's gradient with respect to its weight: the call's array and the reference's are the same. -/
theorem algebraic : Cert.algebraic_KvProjDwIdeal_KvProjDwRefIdeal := by
  intro m g m' g' _ hag
  refine ⟨fun c => (dats m 0 c).arrAt 2 cfg0.N, run_blocks m g,
    (θ_run Cert.KvProjDwRefIdeal.defs _ _).mono (fun r h c => ⟨(h c).1.trans ?_, (h c).2⟩) (Cert.KvProjDwRefIdeal.Value.run m' g')⟩
  rw [(hag c).1, (hag c).2]
  symm
  refine (dats m 0 c).arrAt_eq_of_covers 2 _ (by decide +kernel) fun t hf y => ?_
  have hN : t.val < 16 := t.isLt
  blk_simp
  rw [after0_2]
  have h : t.val % 2 = 1 := (flush0_2 t).mp hf
  have e : (outsAt0 m c t.val t.isLt).1 y = (outsAt0 m c t.val t.isLt).2 (ix2 (y 1) (y 2)) := by
    rw [outsAt0_B m c t (by omega) (by omega) h]
    frame_out
    pointwise [k0_pay4]
  refine (e.trans (carried m c t h _)).trans ?_
  simp only [tile_apply]
  pointwise
  refine Eq.trans ?_ (Fin.sum_univ_tiles 2 2048 rfl _).symm
  refine Finset.sum_congr rfl fun s _ => Finset.sum_congr rfl fun k _ => ?_
  have hs := s.isLt
  have hk := k.isLt
  rw [mul_comm]
  blk_point [iblk, V, index]

theorem frame : Cert.quiescent_KvProjDw := fun m g _ =>
  cast (by chain_rfl) (Gen.frame (F := Bits) m g)

theorem frame_ideal : Cert.quiescent_KvProjDwIdeal := fun m g _ => Gen.frame m g

theorem frame_reference : Cert.quiescent_KvProjDwRefIdeal := fun m g _ =>
  (θ_run Cert.KvProjDwRefIdeal.defs _ _).mono (fun r h => ⟨fun c => (h c).2, sem_eq_zero_of_no_sems (by decide) r.2⟩) (Cert.KvProjDwRefIdeal.Value.run m g)

end Cert.KvProjDwIdeal.Product

end
-- ==== Proof.MmQProj.lean ====
module

public import proofs.«01_k».proof.Defs
public import proofs.«01_k».proof.Proof.Gen.QProj
public import proofs.«01_k».proof.Proof.Gen.QProjIdeal.Value
public import proofs.«01_k».proof.Proof.Gen.QProjRefIdeal.Run
public import proofs.«01_k».proof.Proof.Gen.QProjDx
public import proofs.«01_k».proof.Proof.Gen.QProjDxIdeal.Value
public import proofs.«01_k».proof.Proof.Gen.QProjDxRefIdeal.Run
public import proofs.«01_k».proof.Proof.Gen.QProjDw
public import proofs.«01_k».proof.Proof.Gen.QProjDwIdeal.Value
public import proofs.«01_k».proof.Proof.Gen.QProjDwRefIdeal.Run
public import Idealize.ShloMosaic.Lib.Pipeline.ValueKit
public import Idealize.ShloMosaic.Lib.Pipeline.ReadBack
public import Idealize.ShloMosaic.Lib.Quiescent

/-! The query projection: its call, and the calls of its two gradients. -/

@[expose] public section

noncomputable section

namespace Cert.QProjIdeal.Product

open Cert.QProjIdeal Cert.QProjIdeal.Gen Cert.QProjIdeal.Value Idealize.ShloMosaic Idealize.ShloMosaic.TcCoe Idealize.SL.Sem

variable (m : (ℓ : Loc nD τ sig) → Buf (Elt Ideal) ℓ)

theorem index : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The product: the call's array and the reference's are the same. -/
theorem algebraic : Cert.algebraic_QProjIdeal_QProjRefIdeal := by
  intro m g m' g' _ hag
  refine ⟨fun c => (dats m 0 c).arrAt 2 cfg0.N, run_blocks m g,
    (θ_run Cert.QProjRefIdeal.defs _ _).mono (fun r h c => ⟨(h c).1.trans ?_, (h c).2⟩) (Cert.QProjRefIdeal.Value.run m' g')⟩
  rw [(hag c).1, (hag c).2]
  symm
  refine (dats m 0 c).arrAt_eq_of_covers 2 _ (by decide +kernel) fun t hf y => ?_
  have hN : t.val < 16 := t.isLt
  blk_simp
  rw [after0_2]
  frame_out
  pointwise [k0_pay1]
  blk_point [iblk, V, index]

theorem frame : Cert.quiescent_QProj := fun m g _ =>
  cast (by chain_rfl) (Gen.frame (F := Bits) m g)

theorem frame_ideal : Cert.quiescent_QProjIdeal := fun m g _ => Gen.frame m g

theorem frame_reference : Cert.quiescent_QProjRefIdeal := fun m g _ =>
  (θ_run Cert.QProjRefIdeal.defs _ _).mono (fun r h => ⟨fun c => (h c).2, sem_eq_zero_of_no_sems (by decide) r.2⟩) (Cert.QProjRefIdeal.Value.run m g)

end Cert.QProjIdeal.Product

namespace Cert.QProjDxIdeal.Product

open Cert.QProjDxIdeal Cert.QProjDxIdeal.Gen Cert.QProjDxIdeal.Value Idealize.ShloMosaic Idealize.ShloMosaic.TcCoe Idealize.SL.Sem

variable (m : (ℓ : Loc nD τ sig) → Buf (Elt Ideal) ℓ)

theorem index : ∀ t : Fin cfg0.N, win0_0.index t = ![t.val / 8, t.val % 4] ∧ win0_1.index t = ![t.val % 4, t.val / 4 % 2, 0]
    ∧ win0_2.index t = ![t.val / 8, t.val / 4 % 2] :=
  (by decide +kernel : ∀ t : Fin grid0.N, _)

/-- One tile's product, as a sum over the tile. -/
theorem tile_apply (x : Vec Ideal S1024x1536 .bf16) (y : Vec Ideal S1x1024x1536 .bf16) (j : S1024x1024.Idx) :
    k0_pay1 x y j = ∑ k : Fin 1536, x (ix2 (j 0) k) * y (ix3 0 (j 1) k) := by
  pointwise [k0_pay1]

/-- What the scratch holds at the end of a run of 4 points: the sum of the tiles' products. -/
theorem carried (c : Dev nD) (t : Fin cfg0.N) (h : t.val % 4 = 3) (j : S1024x1024.Idx) :
    (outsAt0 m c t.val t.isLt).2 j = ∑ s : Fin 4, k0_pay1 (iblk m c 0 ⟨4 * (t.val / 4) + s.val, Pipeline.run_point_lt_of_flush t h s⟩) (iblk m c 1 ⟨4 * (t.val / 4) + s.val, Pipeline.run_point_lt_of_flush t h s⟩) j := by
  refine (Pipeline.eq_sum_fin_of_reset_step_apply_of_flush (fun n h => (outsAt0 m c n h).2) 4 (fun _ => (0 : EReal))
    (fun t j => k0_pay1 (iblk m c 0 t) (iblk m c 1 t) j) (fun t h j => ?_) (fun t h j => ?_) t h j).trans (zero_add _)
  · show (outsAt0 m c t.val t.isLt).2 j = 0 + _
    rw [outsAt0_A m c t h (by omega) (by omega), zero_add]
    frame_out
    unfold k0_pay2
    rw [shapeCast_self]
  · show (outsAt0 m c t.val t.isLt).2 j = _
    by_cases h3 : t.val % 4 = 3
    · rw [outsAt0_C m c t h (by omega) h3]
      frame_out
      unfold k0_pay3
      rw [shapeCast_self, read_unread_whole]
      rfl
    · rw [outsAt0_B m c t h (by omega) h3]
      frame_out
      unfold k0_pay3
      rw [shapeCast_self, read_unread_whole]
      rfl

/-- The product's gradient with respect to its input: the call's array and the reference's are the same. -/
theorem algebraic : Cert.algebraic_QProjDxIdeal_QProjDxRefIdeal := by
  intro m g m' g' _ hag
  refine ⟨fun c => (dats m 0 c).arrAt 2 cfg0.N, run_blocks m g,
    (θ_run Cert.QProjDxRefIdeal.defs _ _).mono (fun r h c => ⟨(h c).1.trans ?_, (h c).2⟩) (Cert.QProjDxRefIdeal.Value.run m' g')⟩
  rw [(hag c).1, (hag c).2]
  symm
  refine (dats m 0 c).arrAt_eq_of_covers 2 _ (by decide +kernel) fun t hf y => ?_
  have hN : t.val < 32 := t.isLt
  blk_simp
  rw [after0_2]
  have h : t.val % 4 = 3 := (flush0_2 t).mp hf
  have e : (outsAt0 m c t.val t.isLt).1 y = (outsAt0 m c t.val t.isLt).2 y := by
    rw [outsAt0_C m c t (by omega) (by omega) h]
    frame_out
  refine (e.trans (carried m c t h _)).trans ?_
  simp only [tile_apply]
  pointwise
  refine Eq.trans ?_ (Fin.sum_univ_tiles 4 1536 rfl _).symm
  refine Finset.sum_congr rfl fun s _ => Finset.sum_congr rfl fun k _ => ?_
  have hs := s.isLt
  have hk := k.isLt
  blk_point [iblk, V, index]

theorem frame : Cert.quiescent_QProjDx := fun m g _ =>
  cast (by chain_rfl) (Gen.frame (F := Bits) m g)

theorem frame_ideal : Cert.quiescent_QProjDxIdeal := fun m g _ => Gen.frame m g

theorem frame_reference : Cert.quiescent_QProjDxRefIdeal := fun m g _ =>
  (θ_run Cert.QProjDxRefIdeal.defs _ _).mono (fun r h => ⟨fun c => (h c).2, sem_eq_zero_of_no_sems (by decide) r.2⟩) (Cert.QProjDxRefIdeal.Value.run m g)

end Cert.QProjDxIdeal.Product

namespace Cert.QProjDwIdeal.Product

open Cert.QProjDwIdeal Cert.QProjDwIdeal.Gen Cert.QProjDwIdeal.Value Idealize.ShloMosaic Idealize.ShloMosaic.TcCoe Idealize.SL.Sem

variable (m : (ℓ : Loc nD τ sig) → Buf (Elt Ideal) ℓ)

theorem index : ∀ t : Fin cfg0.N, win0_0.index t = ![t.val % 2, t.val / 8] ∧ win0_1.index t = ![t.val % 2, t.val / 2 % 4]
    ∧ win0_2.index t = ![t.val / 2 % 4, t.val / 8, 0] :=
  (by decide +kernel : ∀ t : Fin grid0.N, _)

/-- One tile's product, as a sum over the tile. -/
theorem tile_apply (x : Vec Ideal S2048x1024 .bf16) (y : Vec Ideal S2048x1536 .bf16) (j : S1024x1536.Idx) :
    k0_pay1 x y j = ∑ k : Fin 2048, x (ix2 k (j 0)) * y (ix2 k (j 1)) := by
  pointwise [k0_pay1]

/-- What the scratch holds at the end of a run of 2 points: the sum of the tiles' products. -/
theorem carried (c : Dev nD) (t : Fin cfg0.N) (h : t.val % 2 = 1) (j : S1024x1536.Idx) :
    (outsAt0 m c t.val t.isLt).2 j = ∑ s : Fin 2, k0_pay1 (iblk m c 0 ⟨2 * (t.val / 2) + s.val, Pipeline.run_point_lt_of_flush t h s⟩) (iblk m c 1 ⟨2 * (t.val / 2) + s.val, Pipeline.run_point_lt_of_flush t h s⟩) j := by
  refine (Pipeline.eq_sum_fin_of_reset_step_apply_of_flush (fun n h => (outsAt0 m c n h).2) 2 (fun _ => (0 : EReal))
    (fun t j => k0_pay1 (iblk m c 0 t) (iblk m c 1 t) j) (fun t h j => ?_) (fun t h j => ?_) t h j).trans (zero_add _)
  · show (outsAt0 m c t.val t.isLt).2 j = 0 + _
    rw [outsAt0_A m c t h (by omega) (by omega), zero_add]
    frame_out
    unfold k0_pay2
    rw [shapeCast_self]
  · show (outsAt0 m c t.val t.isLt).2 j = _
    rw [outsAt0_B m c t h (by omega) (by omega)]
    frame_out
    unfold k0_pay3
    rw [shapeCast_self, read_unread_whole]
    rfl

/-- The product's gradient with respect to its weight: the call's array and the reference's are the same. -/
theorem algebraic : Cert.algebraic_QProjDwIdeal_QProjDwRefIdeal := by
  intro m g m' g' _ hag
  refine ⟨fun c => (dats m 0 c).arrAt 2 cfg0.N, run_blocks m g,
    (θ_run Cert.QProjDwRefIdeal.defs _ _).mono (fun r h c => ⟨(h c).1.trans ?_, (h c).2⟩) (Cert.QProjDwRefIdeal.Value.run m' g')⟩
  rw [(hag c).1, (hag c).2]
  symm
  refine (dats m 0 c).arrAt_eq_of_covers 2 _ (by decide +kernel) fun t hf y => ?_
  have hN : t.val < 16 := t.isLt
  blk_simp
  rw [after0_2]
  have h : t.val % 2 = 1 := (flush0_2 t).mp hf
  have e : (outsAt0 m c t.val t.isLt).1 y = (outsAt0 m c t.val t.isLt).2 (ix2 (y 1) (y 2)) := by
    rw [outsAt0_B m c t (by omega) (by omega) h]
    frame_out
    pointwise [k0_pay4]
  refine (e.trans (carried m c t h _)).trans ?_
  simp only [tile_apply]
  pointwise
  refine Eq.trans ?_ (Fin.sum_univ_tiles 2 2048 rfl _).symm
  refine Finset.sum_congr rfl fun s _ => Finset.sum_congr rfl fun k _ => ?_
  have hs := s.isLt
  have hk := k.isLt
  rw [mul_comm]
  blk_point [iblk, V, index]

theorem frame : Cert.quiescent_QProjDw := fun m g _ =>
  cast (by chain_rfl) (Gen.frame (F := Bits) m g)

theorem frame_ideal : Cert.quiescent_QProjDwIdeal := fun m g _ => Gen.frame m g

theorem frame_reference : Cert.quiescent_QProjDwRefIdeal := fun m g _ =>
  (θ_run Cert.QProjDwRefIdeal.defs _ _).mono (fun r h => ⟨fun c => (h c).2, sem_eq_zero_of_no_sems (by decide) r.2⟩) (Cert.QProjDwRefIdeal.Value.run m g)

end Cert.QProjDwIdeal.Product

end
-- ==== Proof.MmUp.lean ====
module

public import proofs.«01_k».proof.Defs
public import proofs.«01_k».proof.Proof.Gen.Up
public import proofs.«01_k».proof.Proof.Gen.UpIdeal.Value
public import proofs.«01_k».proof.Proof.Gen.UpRefIdeal.Run
public import proofs.«01_k».proof.Proof.Gen.UpDx
public import proofs.«01_k».proof.Proof.Gen.UpDxIdeal.Value
public import proofs.«01_k».proof.Proof.Gen.UpDxRefIdeal.Run
public import proofs.«01_k».proof.Proof.Gen.UpDw
public import proofs.«01_k».proof.Proof.Gen.UpDwIdeal.Value
public import proofs.«01_k».proof.Proof.Gen.UpDwRefIdeal.Run
public import Idealize.ShloMosaic.Lib.Pipeline.ValueKit
public import Idealize.ShloMosaic.Lib.Pipeline.ReadBack
public import Idealize.ShloMosaic.Lib.Quiescent

/-! The ConvGLU's first product: its call, and the calls of its two gradients. -/

@[expose] public section

noncomputable section

namespace Cert.UpIdeal.Product

open Cert.UpIdeal Cert.UpIdeal.Gen Cert.UpIdeal.Value Idealize.ShloMosaic Idealize.ShloMosaic.TcCoe Idealize.SL.Sem

variable (m : (ℓ : Loc nD τ sig) → Buf (Elt Ideal) ℓ)

theorem index : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The product: the call's array and the reference's are the same. -/
theorem algebraic : Cert.algebraic_UpIdeal_UpRefIdeal := by
  intro m g m' g' _ hag
  refine ⟨fun c => (dats m 0 c).arrAt 2 cfg0.N, run_blocks m g,
    (θ_run Cert.UpRefIdeal.defs _ _).mono (fun r h c => ⟨(h c).1.trans ?_, (h c).2⟩) (Cert.UpRefIdeal.Value.run m' g')⟩
  rw [(hag c).1, (hag c).2]
  symm
  refine (dats m 0 c).arrAt_eq_of_covers 2 _ (by decide +kernel) fun t hf y => ?_
  have hN : t.val < 16 := t.isLt
  blk_simp
  rw [after0_2]
  frame_out
  pointwise [k0_pay1]
  blk_point [iblk, V, index]

theorem frame : Cert.quiescent_Up := fun m g _ =>
  cast (by chain_rfl) (Gen.frame (F := Bits) m g)

theorem frame_ideal : Cert.quiescent_UpIdeal := fun m g _ => Gen.frame m g

theorem frame_reference : Cert.quiescent_UpRefIdeal := fun m g _ =>
  (θ_run Cert.UpRefIdeal.defs _ _).mono (fun r h => ⟨fun c => (h c).2, sem_eq_zero_of_no_sems (by decide) r.2⟩) (Cert.UpRefIdeal.Value.run m g)

end Cert.UpIdeal.Product

namespace Cert.UpDxIdeal.Product

open Cert.UpDxIdeal Cert.UpDxIdeal.Gen Cert.UpDxIdeal.Value Idealize.ShloMosaic Idealize.ShloMosaic.TcCoe Idealize.SL.Sem

variable (m : (ℓ : Loc nD τ sig) → Buf (Elt Ideal) ℓ)

theorem index : ∀ t : Fin cfg0.N, win0_0.index t = ![t.val / 8, t.val % 4] ∧ win0_1.index t = ![t.val % 4, t.val / 4 % 2, 0]
    ∧ win0_2.index t = ![t.val / 8, t.val / 4 % 2] :=
  (by decide +kernel : ∀ t : Fin grid0.N, _)

/-- One tile's product, as a sum over the tile. -/
theorem tile_apply (x : Vec Ideal S1024x2816 .bf16) (y : Vec Ideal S1x1024x2816 .bf16) (j : S1024x1024.Idx) :
    k0_pay1 x y j = ∑ k : Fin 2816, x (ix2 (j 0) k) * y (ix3 0 (j 1) k) := by
  pointwise [k0_pay1]

/-- What the scratch holds at the end of a run of 4 points: the sum of the tiles' products. -/
theorem carried (c : Dev nD) (t : Fin cfg0.N) (h : t.val % 4 = 3) (j : S1024x1024.Idx) :
    (outsAt0 m c t.val t.isLt).2 j = ∑ s : Fin 4, k0_pay1 (iblk m c 0 ⟨4 * (t.val / 4) + s.val, Pipeline.run_point_lt_of_flush t h s⟩) (iblk m c 1 ⟨4 * (t.val / 4) + s.val, Pipeline.run_point_lt_of_flush t h s⟩) j := by
  refine (Pipeline.eq_sum_fin_of_reset_step_apply_of_flush (fun n h => (outsAt0 m c n h).2) 4 (fun _ => (0 : EReal))
    (fun t j => k0_pay1 (iblk m c 0 t) (iblk m c 1 t) j) (fun t h j => ?_) (fun t h j => ?_) t h j).trans (zero_add _)
  · show (outsAt0 m c t.val t.isLt).2 j = 0 + _
    rw [outsAt0_A m c t h (by omega) (by omega), zero_add]
    frame_out
    unfold k0_pay2
    rw [shapeCast_self]
  · show (outsAt0 m c t.val t.isLt).2 j = _
    by_cases h3 : t.val % 4 = 3
    · rw [outsAt0_C m c t h (by omega) h3]
      frame_out
      unfold k0_pay3
      rw [shapeCast_self, read_unread_whole]
      rfl
    · rw [outsAt0_B m c t h (by omega) h3]
      frame_out
      unfold k0_pay3
      rw [shapeCast_self, read_unread_whole]
      rfl

/-- The product's gradient with respect to its input: the call's array and the reference's are the same. -/
theorem algebraic : Cert.algebraic_UpDxIdeal_UpDxRefIdeal := by
  intro m g m' g' _ hag
  refine ⟨fun c => (dats m 0 c).arrAt 2 cfg0.N, run_blocks m g,
    (θ_run Cert.UpDxRefIdeal.defs _ _).mono (fun r h c => ⟨(h c).1.trans ?_, (h c).2⟩) (Cert.UpDxRefIdeal.Value.run m' g')⟩
  rw [(hag c).1, (hag c).2]
  symm
  refine (dats m 0 c).arrAt_eq_of_covers 2 _ (by decide +kernel) fun t hf y => ?_
  have hN : t.val < 32 := t.isLt
  blk_simp
  rw [after0_2]
  have h : t.val % 4 = 3 := (flush0_2 t).mp hf
  have e : (outsAt0 m c t.val t.isLt).1 y = (outsAt0 m c t.val t.isLt).2 y := by
    rw [outsAt0_C m c t (by omega) (by omega) h]
    frame_out
  refine (e.trans (carried m c t h _)).trans ?_
  simp only [tile_apply]
  pointwise
  refine Eq.trans ?_ (Fin.sum_univ_tiles 4 2816 rfl _).symm
  refine Finset.sum_congr rfl fun s _ => Finset.sum_congr rfl fun k _ => ?_
  have hs := s.isLt
  have hk := k.isLt
  blk_point [iblk, V, index]

theorem frame : Cert.quiescent_UpDx := fun m g _ =>
  cast (by chain_rfl) (Gen.frame (F := Bits) m g)

theorem frame_ideal : Cert.quiescent_UpDxIdeal := fun m g _ => Gen.frame m g

theorem frame_reference : Cert.quiescent_UpDxRefIdeal := fun m g _ =>
  (θ_run Cert.UpDxRefIdeal.defs _ _).mono (fun r h => ⟨fun c => (h c).2, sem_eq_zero_of_no_sems (by decide) r.2⟩) (Cert.UpDxRefIdeal.Value.run m g)

end Cert.UpDxIdeal.Product

namespace Cert.UpDwIdeal.Product

open Cert.UpDwIdeal Cert.UpDwIdeal.Gen Cert.UpDwIdeal.Value Idealize.ShloMosaic Idealize.ShloMosaic.TcCoe Idealize.SL.Sem

variable (m : (ℓ : Loc nD τ sig) → Buf (Elt Ideal) ℓ)

theorem index : ∀ t : Fin cfg0.N, win0_0.index t = ![t.val % 2, t.val / 16] ∧ win0_1.index t = ![t.val % 2, t.val / 2 % 8]
    ∧ win0_2.index t = ![t.val / 2 % 8 / 2, t.val / 16, t.val / 2 % 8 % 2] :=
  (by decide +kernel : ∀ t : Fin grid0.N, _)

/-- One tile's product, as a sum over the tile. -/
theorem tile_apply (x : Vec Ideal S2048x1024 .bf16) (y : Vec Ideal S2048x1408 .bf16) (j : S1024x1408.Idx) :
    k0_pay1 x y j = ∑ k : Fin 2048, x (ix2 k (j 0)) * y (ix2 k (j 1)) := by
  pointwise [k0_pay1]

/-- What the scratch holds at the end of a run of 2 points: the sum of the tiles' products. -/
theorem carried (c : Dev nD) (t : Fin cfg0.N) (h : t.val % 2 = 1) (j : S1024x1408.Idx) :
    (outsAt0 m c t.val t.isLt).2 j = ∑ s : Fin 2, k0_pay1 (iblk m c 0 ⟨2 * (t.val / 2) + s.val, Pipeline.run_point_lt_of_flush t h s⟩) (iblk m c 1 ⟨2 * (t.val / 2) + s.val, Pipeline.run_point_lt_of_flush t h s⟩) j := by
  refine (Pipeline.eq_sum_fin_of_reset_step_apply_of_flush (fun n h => (outsAt0 m c n h).2) 2 (fun _ => (0 : EReal))
    (fun t j => k0_pay1 (iblk m c 0 t) (iblk m c 1 t) j) (fun t h j => ?_) (fun t h j => ?_) t h j).trans (zero_add _)
  · show (outsAt0 m c t.val t.isLt).2 j = 0 + _
    rw [outsAt0_A m c t h (by omega) (by omega), zero_add]
    frame_out
    unfold k0_pay2
    rw [shapeCast_self]
  · show (outsAt0 m c t.val t.isLt).2 j = _
    rw [outsAt0_B m c t h (by omega) (by omega)]
    frame_out
    unfold k0_pay3
    rw [shapeCast_self, read_unread_whole]
    rfl

/-- The product's gradient with respect to its weight: the call's array and the reference's are the same. -/
theorem algebraic : Cert.algebraic_UpDwIdeal_UpDwRefIdeal := by
  intro m g m' g' _ hag
  refine ⟨fun c => (dats m 0 c).arrAt 2 cfg0.N, run_blocks m g,
    (θ_run Cert.UpDwRefIdeal.defs _ _).mono (fun r h c => ⟨(h c).1.trans ?_, (h c).2⟩) (Cert.UpDwRefIdeal.Value.run m' g')⟩
  rw [(hag c).1, (hag c).2]
  symm
  refine (dats m 0 c).arrAt_eq_of_covers 2 _ (by decide +kernel) fun t hf y => ?_
  have hN : t.val < 32 := t.isLt
  blk_simp
  rw [after0_2]
  have h : t.val % 2 = 1 := (flush0_2 t).mp hf
  have e : (outsAt0 m c t.val t.isLt).1 y = (outsAt0 m c t.val t.isLt).2 (ix2 (y 1) (y 2)) := by
    rw [outsAt0_B m c t (by omega) (by omega) h]
    frame_out
    pointwise [k0_pay4]
  refine (e.trans (carried m c t h _)).trans ?_
  simp only [tile_apply]
  pointwise
  refine Eq.trans ?_ (Fin.sum_univ_tiles 2 2048 rfl _).symm
  refine Finset.sum_congr rfl fun s _ => Finset.sum_congr rfl fun k _ => ?_
  have hs := s.isLt
  have hk := k.isLt
  rw [mul_comm]
  blk_point [iblk, V, index]

theorem frame : Cert.quiescent_UpDw := fun m g _ =>
  cast (by chain_rfl) (Gen.frame (F := Bits) m g)

theorem frame_ideal : Cert.quiescent_UpDwIdeal := fun m g _ => Gen.frame m g

theorem frame_reference : Cert.quiescent_UpDwRefIdeal := fun m g _ =>
  (θ_run Cert.UpDwRefIdeal.defs _ _).mono (fun r h => ⟨fun c => (h c).2, sem_eq_zero_of_no_sems (by decide) r.2⟩) (Cert.UpDwRefIdeal.Value.run m g)

end Cert.UpDwIdeal.Product

end
-- ==== Proof.MmDown.lean ====
module

public import proofs.«01_k».proof.Defs
public import proofs.«01_k».proof.Proof.Gen.Down
public import proofs.«01_k».proof.Proof.Gen.DownIdeal.Value
public import proofs.«01_k».proof.Proof.Gen.DownRefIdeal.Run
public import proofs.«01_k».proof.Proof.Gen.DownDx
public import proofs.«01_k».proof.Proof.Gen.DownDxIdeal.Value
public import proofs.«01_k».proof.Proof.Gen.DownDxRefIdeal.Run
public import proofs.«01_k».proof.Proof.Gen.DownDw
public import proofs.«01_k».proof.Proof.Gen.DownDwIdeal.Value
public import proofs.«01_k».proof.Proof.Gen.DownDwRefIdeal.Run
public import Idealize.ShloMosaic.Lib.Pipeline.ValueKit
public import Idealize.ShloMosaic.Lib.Pipeline.ReadBack
public import Idealize.ShloMosaic.Lib.Quiescent

/-! The ConvGLU's second product: its call, and the calls of its two gradients. -/

@[expose] public section

noncomputable section

namespace Cert.DownIdeal.Product

open Cert.DownIdeal Cert.DownIdeal.Gen Cert.DownIdeal.Value Idealize.ShloMosaic Idealize.ShloMosaic.TcCoe Idealize.SL.Sem

variable (m : (ℓ : Loc nD τ sig) → Buf (Elt Ideal) ℓ)

theorem index : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] :=
  (by decide +kernel : ∀ t : Fin grid0.N, _)

/-- One tile's product, as a sum over the tile. -/
theorem tile_apply (x : Vec Ideal S1024x2816 .bf16) (y : Vec Ideal S2816x1024 .bf16) (j : S1024x1024.Idx) :
    k0_pay1 x y j = ∑ k : Fin 2816, x (ix2 (j 0) k) * y (ix2 k (j 1)) := by
  pointwise [k0_pay1]

/-- What the scratch holds at the end of a run of 2 points: the sum of the tiles' products. -/
theorem carried (c : Dev nD) (t : Fin cfg0.N) (h : t.val % 2 = 1) (j : S1024x1024.Idx) :
    (outsAt0 m c t.val t.isLt).2 j = ∑ s : Fin 2, k0_pay1 (iblk m c 0 ⟨2 * (t.val / 2) + s.val, Pipeline.run_point_lt_of_flush t h s⟩) (iblk m c 1 ⟨2 * (t.val / 2) + s.val, Pipeline.run_point_lt_of_flush t h s⟩) j := by
  refine (Pipeline.eq_sum_fin_of_reset_step_apply_of_flush (fun n h => (outsAt0 m c n h).2) 2 (fun _ => (0 : EReal))
    (fun t j => k0_pay1 (iblk m c 0 t) (iblk m c 1 t) j) (fun t h j => ?_) (fun t h j => ?_) t h j).trans (zero_add _)
  · show (outsAt0 m c t.val t.isLt).2 j = 0 + _
    rw [outsAt0_A m c t h (by omega) (by omega), zero_add]
    frame_out
    unfold k0_pay2
    rw [shapeCast_self]
  · show (outsAt0 m c t.val t.isLt).2 j = _
    rw [outsAt0_B m c t h (by omega) (by omega)]
    frame_out
    unfold k0_pay3
    rw [shapeCast_self, read_unread_whole]
    rfl

/-- The product: the call's array and the reference's are the same. -/
theorem algebraic : Cert.algebraic_DownIdeal_DownRefIdeal := by
  intro m g m' g' _ hag
  refine ⟨fun c => (dats m 0 c).arrAt 3 cfg0.N, run_blocks m g,
    (θ_run Cert.DownRefIdeal.defs _ _).mono (fun r h c => ⟨(h c).1.trans ?_, (h c).2⟩) (Cert.DownRefIdeal.Value.run m' g')⟩
  rw [(hag c).1, (hag c).2.1, (hag c).2.2]
  symm
  refine (dats m 0 c).arrAt_eq_of_covers 3 _ (by decide +kernel) fun t hf y => ?_
  have hN : t.val < 16 := t.isLt
  blk_simp
  rw [after0_3]
  have h : t.val % 2 = 1 := (flush0_3 t).mp hf
  have e : (outsAt0 m c t.val t.isLt).1 y = (outsAt0 m c t.val t.isLt).2 y + iblk m c 2 t y := by
    rw [outsAt0_B m c t (by omega) (by omega) h]
    frame_out
    pointwise [k0_pay4]
  refine (e.trans (congrArg (· + iblk m c 2 t y) (carried m c t h _))).trans ?_
  simp only [tile_apply]
  pointwise
  rw [add_comm]
  refine congrArg₂ (· + ·) ?_ (Eq.trans ?_ (Fin.sum_univ_tiles 2 2816 rfl _).symm)
  · blk_point [iblk, V, index]
  refine Finset.sum_congr rfl fun s _ => Finset.sum_congr rfl fun k _ => ?_
  have hs := s.isLt
  have hk := k.isLt
  blk_point [iblk, V, index]

theorem frame : Cert.quiescent_Down := fun m g _ =>
  cast (by chain_rfl) (Gen.frame (F := Bits) m g)

theorem frame_ideal : Cert.quiescent_DownIdeal := fun m g _ => Gen.frame m g

theorem frame_reference : Cert.quiescent_DownRefIdeal := fun m g _ =>
  (θ_run Cert.DownRefIdeal.defs _ _).mono (fun r h => ⟨fun c => (h c).2, sem_eq_zero_of_no_sems (by decide) r.2⟩) (Cert.DownRefIdeal.Value.run m g)

end Cert.DownIdeal.Product

namespace Cert.DownDxIdeal.Product

open Cert.DownDxIdeal Cert.DownDxIdeal.Gen Cert.DownDxIdeal.Value Idealize.ShloMosaic Idealize.ShloMosaic.TcCoe Idealize.SL.Sem

variable (m : (ℓ : Loc nD τ sig) → Buf (Elt Ideal) ℓ)

theorem index : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The chips' shards one under the other, read at a row: the row's shard, and its row there. -/
theorem rows_apply (x : DownDxRefIdeal.S4x1408x2048.Idx → EReal) (h : DownDxRefIdeal.S4x1408x2048.ShapeCasts DownDxRefIdeal.S5632x2048) :
    shapeCast DownDxRefIdeal.S5632x2048 x h =
      fun i => x (ix3 ⟨(i 0).val / 1408, Nat.div_lt_of_lt_mul (i 0).isLt⟩ ⟨(i 0).val % 1408, Nat.mod_lt _ (by decide)⟩ (i 1)) :=
  funext fun i => shapeCast_apply x h i _ (by
    rw [Shape.rowMajor_val_three, Shape.rowMajor_val_two]
    show ((i 0).val / 1408 * 1408 + (i 0).val % 1408) * 2048 + (i 1).val = (i 0).val * 2048 + (i 1).val
    rw [Nat.div_add_mod'])

/-- The product's gradient with respect to its input: the call's array and the reference's are the same. -/
theorem algebraic : Cert.algebraic_DownDxIdeal_DownDxRefIdeal := by
  intro m g m' g' _ hag
  refine ⟨fun c => (dats m 0 c).arrAt 2 cfg0.N, run_blocks m g,
    (θ_run Cert.DownDxRefIdeal.defs _ _).mono (fun r h c => ⟨(h c).1.trans ?_, (h c).2⟩) (Cert.DownDxRefIdeal.Value.run m' g')⟩
  rw [(hag c).1, (hag c).2]
  symm
  refine (dats m 0 c).arrAt_eq_of_covers 2 _ (by decide +kernel) fun t hf y => ?_
  have hN : t.val < 16 := t.isLt
  blk_simp
  rw [after0_2]
  frame_out
  rw [rows_apply]
  pointwise [k0_pay1]
  blk_point [iblk, V, index]

theorem frame : Cert.quiescent_DownDx := fun m g _ =>
  cast (by chain_rfl) (Gen.frame (F := Bits) m g)

theorem frame_ideal : Cert.quiescent_DownDxIdeal := fun m g _ => Gen.frame m g

theorem frame_reference : Cert.quiescent_DownDxRefIdeal := fun m g _ =>
  (θ_run Cert.DownDxRefIdeal.defs _ _).mono (fun r h => ⟨fun c => (h c).2, sem_eq_zero_of_no_sems (by decide) r.2⟩) (Cert.DownDxRefIdeal.Value.run m g)

end Cert.DownDxIdeal.Product

namespace Cert.DownDwIdeal.Product

open Cert.DownDwIdeal Cert.DownDwIdeal.Gen Cert.DownDwIdeal.Value Idealize.ShloMosaic Idealize.ShloMosaic.TcCoe Idealize.SL.Sem

variable (m : (ℓ : Loc nD τ sig) → Buf (Elt Ideal) ℓ)

theorem index : ∀ t : Fin cfg0.N, win0_0.index t = ![t.val % 2, t.val / 4] ∧ win0_1.index t = ![t.val % 2, t.val / 2 % 2]
    ∧ win0_2.index t = ![t.val / 4, 0, t.val / 2 % 2] :=
  (by decide +kernel : ∀ t : Fin grid0.N, _)

/-- One tile's product, as a sum over the tile. -/
theorem tile_apply (x : Vec Ideal S2048x1408 .bf16) (y : Vec Ideal S2048x1024 .f32) (j : S1408x1024.Idx) :
    k0_pay1 x y j = ∑ k : Fin 2048, x (ix2 k (j 0)) * y (ix2 k (j 1)) := by
  pointwise [k0_pay1]

/-- What the scratch holds at the end of a run of 2 points: the sum of the tiles' products. -/
theorem carried (c : Dev nD) (t : Fin cfg0.N) (h : t.val % 2 = 1) (j : S1408x1024.Idx) :
    (outsAt0 m c t.val t.isLt).2 j = ∑ s : Fin 2, k0_pay1 (iblk m c 0 ⟨2 * (t.val / 2) + s.val, Pipeline.run_point_lt_of_flush t h s⟩) (iblk m c 1 ⟨2 * (t.val / 2) + s.val, Pipeline.run_point_lt_of_flush t h s⟩) j := by
  refine (Pipeline.eq_sum_fin_of_reset_step_apply_of_flush (fun n h => (outsAt0 m c n h).2) 2 (fun _ => (0 : EReal))
    (fun t j => k0_pay1 (iblk m c 0 t) (iblk m c 1 t) j) (fun t h j => ?_) (fun t h j => ?_) t h j).trans (zero_add _)
  · show (outsAt0 m c t.val t.isLt).2 j = 0 + _
    rw [outsAt0_A m c t h (by omega) (by omega), zero_add]
    frame_out
    unfold k0_pay2
    rw [shapeCast_self]
  · show (outsAt0 m c t.val t.isLt).2 j = _
    rw [outsAt0_B m c t h (by omega) (by omega)]
    frame_out
    unfold k0_pay3
    rw [shapeCast_self, read_unread_whole]
    rfl

/-- The product's gradient with respect to its weight: the call's array and the reference's are the same. -/
theorem algebraic : Cert.algebraic_DownDwIdeal_DownDwRefIdeal := by
  intro m g m' g' _ hag
  refine ⟨fun c => (dats m 0 c).arrAt 2 cfg0.N, run_blocks m g,
    (θ_run Cert.DownDwRefIdeal.defs _ _).mono (fun r h c => ⟨(h c).1.trans ?_, (h c).2⟩) (Cert.DownDwRefIdeal.Value.run m' g')⟩
  rw [(hag c).1, (hag c).2]
  symm
  refine (dats m 0 c).arrAt_eq_of_covers 2 _ (by decide +kernel) fun t hf y => ?_
  have hN : t.val < 16 := t.isLt
  blk_simp
  rw [after0_2]
  have h : t.val % 2 = 1 := (flush0_2 t).mp hf
  have e : (outsAt0 m c t.val t.isLt).1 y = (outsAt0 m c t.val t.isLt).2 (ix2 (y 1) (y 2)) := by
    rw [outsAt0_B m c t (by omega) (by omega) h]
    frame_out
    pointwise [k0_pay4]
  refine (e.trans (carried m c t h _)).trans ?_
  simp only [tile_apply]
  pointwise
  refine Eq.trans ?_ (Fin.sum_univ_tiles 2 2048 rfl _).symm
  refine Finset.sum_congr rfl fun s _ => Finset.sum_congr rfl fun k _ => ?_
  have hs := s.isLt
  have hk := k.isLt
  rw [mul_comm]
  blk_point [iblk, V, index]

theorem frame : Cert.quiescent_DownDw := fun m g _ =>
  cast (by chain_rfl) (Gen.frame (F := Bits) m g)

theorem frame_ideal : Cert.quiescent_DownDwIdeal := fun m g _ => Gen.frame m g

theorem frame_reference : Cert.quiescent_DownDwRefIdeal := fun m g _ =>
  (θ_run Cert.DownDwRefIdeal.defs _ _).mono (fun r h => ⟨fun c => (h c).2, sem_eq_zero_of_no_sems (by decide) r.2⟩) (Cert.DownDwRefIdeal.Value.run m g)

end Cert.DownDwIdeal.Product

end
-- ==== Proof.Norm.lean ====
module

public import proofs.«01_k».proof.Defs
public import proofs.«01_k».proof.Proof.Gen.Norm
public import proofs.«01_k».proof.Proof.Gen.NormIdeal.Value
public import proofs.«01_k».proof.Proof.Gen.NormRefIdeal.Run
public import proofs.«01_k».proof.Proof.Gen.NormPair
public import proofs.«01_k».proof.Proof.Gen.NormPairIdeal.Value
public import proofs.«01_k».proof.Proof.Gen.NormPairRefIdeal.Run
public import Idealize.ShloMosaic.Lib.Pipeline.ValueKit
public import Idealize.ShloMosaic.Lib.Pipeline.ReadBack
public import Idealize.ShloMosaic.Lib.Quiescent

/-! The norms before a layer's mixers and before its ConvGLU. -/

@[expose] public section

noncomputable section

namespace Cert.NormIdeal.Step

open Cert.NormIdeal Cert.NormIdeal.Gen Cert.NormIdeal.Value Idealize.ShloMosaic Idealize.ShloMosaic.TcCoe Idealize.SL.Sem

variable (m : (ℓ : Loc nD τ sig) → Buf (Elt Ideal) ℓ)

theorem index0 : ∀ t : Fin cfg0.N, win0_0.index t = ![t.val, 0] :=
  (by decide +kernel : ∀ t : Fin grid0.N, _)

theorem index1 : ∀ t : Fin cfg0.N, win0_1.index t = ![0, 0] :=
  (by decide +kernel : ∀ t : Fin grid0.N, _)

theorem index2 : ∀ t : Fin cfg0.N, win0_2.index t = ![t.val, 0] :=
  (by decide +kernel : ∀ t : Fin grid0.N, _)

/-- The norm: the call's array and the reference's are the same. -/
theorem algebraic : Cert.algebraic_NormIdeal_NormRefIdeal := by
  intro m g m' g' _ hag
  refine ⟨fun c => (dats m 0 c).arrAt 2 cfg0.N, run_blocks m g,
    (θ_run Cert.NormRefIdeal.defs _ _).mono (fun r h c => ⟨((h c).1).trans ?_, (h c).2⟩) (Cert.NormRefIdeal.Value.run m' g')⟩
  rw [(hag c).1, (hag c).2]
  symm
  refine (dats m 0 c).arrAt_eq_of_covers 2 _ (by decide +kernel) fun t hf y => ?_
  have hN : t.val < 8 := t.isLt
  blk_simp
  rw [after0_2]
  frame_out
  pointwise [k0_pay1]
  blk_point [iblk, V, index0, index1, index2]

theorem frame : Cert.quiescent_Norm := fun m g _ =>
  cast (by chain_rfl) (Gen.frame (F := Bits) m g)

theorem frame_ideal : Cert.quiescent_NormIdeal := fun m g _ => Gen.frame m g

theorem frame_reference : Cert.quiescent_NormRefIdeal := fun m g _ =>
  (θ_run Cert.NormRefIdeal.defs _ _).mono (fun r h => ⟨fun c => (h c).2, sem_eq_zero_of_no_sems (by decide) r.2⟩) (Cert.NormRefIdeal.Value.run m g)

end Cert.NormIdeal.Step

namespace Cert.NormPairIdeal.Step

open Cert.NormPairIdeal Cert.NormPairIdeal.Gen Cert.NormPairIdeal.Value Idealize.ShloMosaic Idealize.ShloMosaic.TcCoe Idealize.SL.Sem

variable (m : (ℓ : Loc nD τ sig) → Buf (Elt Ideal) ℓ)

theorem index0 : ∀ t : Fin cfg0.N, win0_0.index t = ![t.val, 0] :=
  (by decide +kernel : ∀ t : Fin grid0.N, _)

theorem index1 : ∀ t : Fin cfg0.N, win0_1.index t = ![0, 0] :=
  (by decide +kernel : ∀ t : Fin grid0.N, _)

theorem index2 : ∀ t : Fin cfg0.N, win0_2.index t = ![0, 0] :=
  (by decide +kernel : ∀ t : Fin grid0.N, _)

theorem index3 : ∀ t : Fin cfg0.N, win0_3.index t = ![t.val, 0] :=
  (by decide +kernel : ∀ t : Fin grid0.N, _)

theorem index4 : ∀ t : Fin cfg0.N, win0_4.index t = ![t.val, 0] :=
  (by decide +kernel : ∀ t : Fin grid0.N, _)

/-- The pair of norms of one array: the call's arrays and the reference's are the same. -/
theorem algebraic : Cert.algebraic_NormPairIdeal_NormPairRefIdeal := by
  intro m g m' g' _ hag
  refine ⟨fun c => (dats m 0 c).arrAt 3 cfg0.N, fun c => (dats m 0 c).arrAt 4 cfg0.N, run_blocks m g,
    (θ_run Cert.NormPairRefIdeal.defs _ _).mono (fun r h c => ⟨((h c).1).trans ?_, ((h c).2.1).trans ?_, (h c).2.2⟩) (Cert.NormPairRefIdeal.Value.run m' g')⟩
  · simp only [(hag c).1, (hag c).2.1, (hag c).2.2]
    symm
    refine (dats m 0 c).arrAt_eq_of_covers 3 _ (by decide +kernel) fun t hf y => ?_
    have hN : t.val < 8 := t.isLt
    blk_simp
    rw [after0_3]
    frame_out
    pointwise [k0_pay1, k0_pay2, k0_pay3]
    blk_point [iblk, V, index0, index1, index2, index3, index4]
  · simp only [(hag c).1, (hag c).2.1, (hag c).2.2]
    symm
    refine (dats m 0 c).arrAt_eq_of_covers 4 _ (by decide +kernel) fun t hf y => ?_
    have hN : t.val < 8 := t.isLt
    blk_simp
    rw [after0_4]
    frame_out
    pointwise [k0_pay1, k0_pay2, k0_pay3]
    blk_point [iblk, V, index0, index1, index2, index3, index4]

theorem frame : Cert.quiescent_NormPair := fun m g _ =>
  cast (by chain_rfl) (Gen.frame (F := Bits) m g)

theorem frame_ideal : Cert.quiescent_NormPairIdeal := fun m g _ => Gen.frame m g

theorem frame_reference : Cert.quiescent_NormPairRefIdeal := fun m g _ =>
  (θ_run Cert.NormPairRefIdeal.defs _ _).mono (fun r h => ⟨fun c => (h c).2.2, sem_eq_zero_of_no_sems (by decide) r.2⟩) (Cert.NormPairRefIdeal.Value.run m g)

end Cert.NormPairIdeal.Step

end

end
-- ==== Proof.NormGrad.lean ====
module

public import proofs.«01_k».proof.Defs
public import proofs.«01_k».proof.Proof.Gen.NormDx
public import proofs.«01_k».proof.Proof.Gen.NormDxIdeal.Value
public import proofs.«01_k».proof.Proof.Gen.NormDxRefIdeal.Run
public import Idealize.ShloMosaic.Lib.Pipeline.ValueKit
public import Idealize.ShloMosaic.Lib.Pipeline.ReadBack
public import Idealize.ShloMosaic.Lib.Quiescent

/-! The gradient of a norm, with the residual's cotangent added. -/

@[expose] public section

noncomputable section

namespace Cert.NormGrad

open Idealize.ShloMosaic

/-- A nonnegative real factor comes out of a sum. -/
theorem sum_mul_real {n : ℕ} (f : Fin n → EReal) {r : ℝ} (h : 0 ≤ r) : ∑ i, f i * (r : EReal) = (∑ i, f i) * (r : EReal) := by
  induction n with
  | zero => simp
  | succ n ih =>
    rw [Fin.sum_univ_succ, Fin.sum_univ_succ, ih,
      EReal.right_distrib_of_nonneg_of_ne_top (by exact_mod_cast h) (EReal.coe_ne_top r)]

/-- A sum of squares is a nonnegative real, or infinite; in the first case so is no term. -/
theorem square_sum {n : ℕ} (x : Fin n → EReal) :
    (∑ i, x i * x i) = ⊤ ∨ ∃ (s : ℝ) (y : Fin n → ℝ), 0 ≤ s ∧ (∑ i, x i * x i) = (s : EReal) ∧ ∀ i, x i = (y i : EReal) := by
  have h0 : ∀ z : EReal, 0 ≤ z * z := fun z => by
    rcases le_total 0 z with h | h
    · exact mul_nonneg h h
    · rw [← neg_mul_neg]; exact mul_nonneg (EReal.neg_nonneg.2 h) (EReal.neg_nonneg.2 h)
  by_cases h : ∃ i, x i = ⊤ ∨ x i = ⊥
  · obtain ⟨i, hi⟩ := h
    refine Or.inl (top_le_iff.1 ?_)
    have : (⊤ : EReal) = x i * x i := by rcases hi with h | h <;> rw [h] <;> rfl
    rw [this]
    exact Finset.single_le_sum (f := fun i => x i * x i) (fun j _ => h0 (x j)) (Finset.mem_univ i)
  · push Not at h
    refine Or.inr ⟨∑ i, (x i).toReal * (x i).toReal, fun i => (x i).toReal, Finset.sum_nonneg fun i _ => mul_self_nonneg _, ?_,
      fun i => (EReal.coe_toReal (h i).1 (h i).2).symm⟩
    rw [show ((∑ i, (x i).toReal * (x i).toReal : ℝ) : EReal) = ∑ i, (((x i).toReal * (x i).toReal : ℝ) : EReal) from
      map_sum (⟨⟨(↑), EReal.coe_zero⟩, EReal.coe_add⟩ : ℝ →+ EReal) _ _]
    refine Finset.sum_congr rfl fun i _ => ?_
    rw [EReal.coe_mul, EReal.coe_toReal (h i).1 (h i).2]

/-- A position's part of the gradient through the norm. -/
theorem through (A d : EReal) (x ρ c : ℝ) (h : 0 ≤ ρ) :
    (ρ : EReal) * (d + -((x : EReal) * ρ * (A * ρ * (c : EReal)))) =
      d * ρ + (x : EReal) * (A * ((-(ρ * ρ * ρ * c / 2) : ℝ) : EReal)) + A * ((-(ρ * ρ * ρ * c / 2) : ℝ) : EReal) * (x : EReal) := by
  have e : (x : EReal) * ρ * (A * ρ * (c : EReal)) = A * ((x * ρ * ρ * c : ℝ) : EReal) := by
    simp only [EReal.coe_mul, mul_assoc, mul_left_comm, mul_comm]
  have e1 : (x : EReal) * (A * ((-(ρ * ρ * ρ * c / 2) : ℝ) : EReal)) = A * ((-(x * ρ * ρ * ρ * c / 2) : ℝ) : EReal) := by
    rw [mul_left_comm, ← EReal.coe_mul]; congr 2; ring
  have e2 : A * ((-(ρ * ρ * ρ * c / 2) : ℝ) : EReal) * (x : EReal) = A * ((-(x * ρ * ρ * ρ * c / 2) : ℝ) : EReal) := by
    rw [mul_assoc, ← EReal.coe_mul]; congr 2; ring
  have e3 : ∀ z : EReal, z + z = z * ((2 : ℝ) : EReal) := fun z => by
    have : ((2 : ℝ) : EReal) = 1 + 1 := by norm_cast
    rw [this, EReal.left_distrib_of_nonneg zero_le_one zero_le_one, mul_one]
  rw [e, e1, e2, add_assoc, e3, EReal.left_distrib_of_nonneg_of_ne_top (by exact_mod_cast h) (EReal.coe_ne_top ρ), mul_comm d,
    ← mul_neg, mul_left_comm, mul_assoc, ← EReal.coe_neg, ← EReal.coe_mul, mul_assoc A, ← EReal.coe_mul]
  congr 3
  ring

theorem word_width : Ideal.ofBits .f32 0x45000000#32 = ((2048 : ℝ) : EReal) := by
  simp [Ideal.ofBits, Ideal.ieee, -EReal.coe_mul]; norm_num

theorem word_eps : Ideal.ofBits .f32 0x358637BD#32 = ((8796093 / 8796093022208 : ℝ) : EReal) := by
  simp [Ideal.ofBits, Ideal.ieee, -EReal.coe_mul]; norm_num

theorem word_half : Ideal.ofBits .f32 0xBF000000#32 = ((-(1 / 2) : ℝ) : EReal) := by
  simp [Ideal.ofBits, Ideal.ieee, -EReal.coe_mul]; norm_num

/-- A row's gradient through the norm, as the kernel and as the reference write it. If an entry of the row is infinite, the
    scale is zero and so is the gradient; otherwise the scale is a positive real, and goes through every sum. -/
theorem row (x d : Fin 2048 → EReal) (k : Fin 2048) (q ρ : EReal)
    (hq : q = Ideal.div (∑ j, x j * x j) (Ideal.ofBits .f32 0x45000000#32) + Ideal.ofBits .f32 0x358637BD#32)
    (hρ : ρ = Ideal.rsqrt q) :
    ρ * (d k - x k * ρ * Ideal.div (∑ j, d j * (x j * ρ)) (Ideal.ofBits .f32 0x45000000#32)) =
      d k * ρ
        + x k * (∑ _ : Fin 1, Ideal.div ((∑ j, x j * d j) * (Ideal.ofBits .f32 0xBF000000#32 * Ideal.div ρ q))
            (Ideal.ofBits .f32 0x45000000#32))
        + (∑ _ : Fin 1, Ideal.div ((∑ j, x j * d j) * (Ideal.ofBits .f32 0xBF000000#32 * Ideal.div ρ q))
            (Ideal.ofBits .f32 0x45000000#32)) * x k := by
  rw [word_width, word_eps, Ideal.div_coe (by norm_num)] at hq
  simp only [Fin.sum_univ_one, word_width, word_half, Ideal.div_coe (y := 2048) (by norm_num)]
  rcases square_sum x with h | ⟨s, y, hs, h, hy⟩
  · rw [h, EReal.top_mul_coe_of_pos (by norm_num), EReal.top_add_coe] at hq
    subst hq
    rw [Ideal.rsqrt_top] at hρ
    subst hρ
    simp [Ideal.div]
  · have hp : 0 < s * (1 / 2048) + 8796093 / 8796093022208 := by positivity
    rw [h, ← EReal.coe_mul, ← EReal.coe_add] at hq
    generalize s * (1 / 2048) + 8796093 / 8796093022208 = p at hq hp
    subst hq
    rw [Ideal.rsqrt_coe, if_neg hp.not_gt, if_neg hp.ne'] at hρ
    have hr : 1 / p = (Real.sqrt p)⁻¹ * (Real.sqrt p)⁻¹ := by
      rw [← mul_inv, Real.mul_self_sqrt hp.le, one_div]
    have hr0 : 0 ≤ (Real.sqrt p)⁻¹ := inv_nonneg.2 (Real.sqrt_nonneg p)
    rw [Ideal.div_coe hp.ne', hr]
    generalize (Real.sqrt p)⁻¹ = r at hρ hr0
    subst hρ
    have e : (∑ j, d j * (x j * (r : EReal))) = (∑ j, x j * d j) * (r : EReal) := by
      rw [← sum_mul_real _ hr0]
      exact Finset.sum_congr rfl fun j _ => by rw [← mul_assoc, mul_comm (d j)]
    have e2 : (∑ j, x j * d j) * (((-(1 / 2) : ℝ) : EReal) * ((r : EReal) * ((r * r : ℝ) : EReal))) * ((1 / 2048 : ℝ) : EReal) =
        (∑ j, x j * d j) * ((-(r * r * r * (1 / 2048) / 2) : ℝ) : EReal) := by
      rw [mul_assoc, ← EReal.coe_mul, ← EReal.coe_mul, ← EReal.coe_mul]
      congr 2
      ring
    rw [e, e2, hy k, sub_eq_add_neg]
    exact through _ _ _ _ _ hr0

end Cert.NormGrad

namespace Cert.NormDxIdeal.Step

open Cert.NormDxIdeal Cert.NormDxIdeal.Gen Cert.NormDxIdeal.Value Idealize.ShloMosaic Idealize.ShloMosaic.TcCoe Idealize.SL.Sem

variable (m : (ℓ : Loc nD τ sig) → Buf (Elt Ideal) ℓ)

theorem index0 : ∀ t : Fin cfg0.N, win0_0.index t = ![t.val, 0] :=
  (by decide +kernel : ∀ t : Fin grid0.N, _)

theorem index1 : ∀ t : Fin cfg0.N, win0_1.index t = ![t.val, 0] :=
  (by decide +kernel : ∀ t : Fin grid0.N, _)

theorem index2 : ∀ t : Fin cfg0.N, win0_2.index t = ![0, 0] :=
  (by decide +kernel : ∀ t : Fin grid0.N, _)

theorem index3 : ∀ t : Fin cfg0.N, win0_3.index t = ![t.val, 0] :=
  (by decide +kernel : ∀ t : Fin grid0.N, _)

theorem index4 : ∀ t : Fin cfg0.N, win0_4.index t = ![t.val, 0] :=
  (by decide +kernel : ∀ t : Fin grid0.N, _)

theorem index5 : ∀ t : Fin cfg0.N, win0_5.index t = ![0, 0] :=
  (by decide +kernel : ∀ t : Fin grid0.N, _)

/-- One tile's part of the weight's gradient, as a sum over the tile's rows. -/
theorem tile_apply (x dy : Vec Ideal S256x2048 .f32) (j : S1x2048.Idx) :
    k0_pay5 x dy j = ∑ k : Fin 256, dy (ix2 k (j 1)) * (x (ix2 k (j 1)) * k0_pay2 x (ix2 k 0)) := by
  pointwise [k0_pay5, k0_pay3]

/-- What the weight's gradient holds at the last point: the sum of the tiles' parts. -/
theorem carried (c : Dev nD) (t : Fin cfg0.N) (h : t.val % 16 = 15) (j : S1x2048.Idx) :
    (outsAt0 m c t.val t.isLt).2 j = ∑ s : Fin 16, k0_pay5 (iblk m c 1 ⟨16 * (t.val / 16) + s.val, Pipeline.run_point_lt_of_flush t h s⟩) (iblk m c 0 ⟨16 * (t.val / 16) + s.val, Pipeline.run_point_lt_of_flush t h s⟩) j := by
  refine (Pipeline.eq_sum_fin_of_reset_step_apply_of_flush (fun n h => (outsAt0 m c n h).2) 16 (fun _ => (0 : EReal))
    (fun t j => k0_pay5 (iblk m c 1 t) (iblk m c 0 t) j) (fun t h j => ?_) (fun t h j => ?_) t h j).trans (zero_add _)
  · have hN : t.val < 16 := t.isLt
    show (outsAt0 m c t.val t.isLt).2 j = 0 + _
    rw [outsAt0_A m c t h (by omega), zero_add]
    frame_out
  · show (outsAt0 m c t.val t.isLt).2 j = _
    rw [outsAt0_B m c t h (by omega)]
    frame_out
    unfold k0_pay1
    rw [shapeCast_self]
    rfl

/-- The gradients: the call's arrays and the reference's are the same. -/
theorem algebraic : Cert.algebraic_NormDxIdeal_NormDxRefIdeal := by
  intro m g m' g' _ hag
  refine ⟨fun c => (dats m 0 c).arrAt 4 cfg0.N, fun c => (dats m 0 c).arrAt 5 cfg0.N, run_blocks m g,
    (θ_run Cert.NormDxRefIdeal.defs _ _).mono (fun r h c => ⟨((h c).1).trans ?_, ((h c).2.1).trans ?_, (h c).2.2⟩) (Cert.NormDxRefIdeal.Value.run m' g')⟩
  · simp only [(hag c).1, (hag c).2.1, (hag c).2.2.1, (hag c).2.2.2]
    symm
    refine (dats m 0 c).arrAt_eq_of_covers 4 _ (by decide +kernel) fun t hf y => ?_
    have hN : t.val < 16 := t.isLt
    blk_simp
    rw [after0_4]
    have e : (outsAt0 m c t.val t.isLt).1 y = k0_pay4 (iblk m c 1 t) (iblk m c 0 t) (iblk m c 2 t) (iblk m c 3 t) y := by
      by_cases h : t.val % 16 = 0
      · rw [outsAt0_A m c t h (by omega)]
        frame_out
      · rw [outsAt0_B m c t h (by omega)]
        frame_out
    rw [e]
    pointwise [k0_pay1, k0_pay2, k0_pay3, k0_pay4, k0_pay5]
    have hz := NormGrad.row (fun k => iblk m c 1 t (ix2 (y 0) k))
      (fun k => @HMul.hMul EReal EReal EReal _ (iblk m c 0 t (ix2 (y 0) k)) (iblk m c 2 t (ix2 0 k))) (y 1) _ _ rfl rfl
    refine Eq.trans ?_ ((congrArg (@HAdd.hAdd EReal EReal EReal _ (iblk m c 3 t y)) hz).trans ?_)
    · have hy : y = ix2 (y 0) (y 1) := by pointwise
      congr 3
      · exact congrArg₂ (@HMul.hMul EReal EReal EReal _) (congrArg (iblk m c 0 t) hy) rfl
      · congr 1
        exact congrArg₂ (@HMul.hMul EReal EReal EReal _) (congrArg (iblk m c 1 t) hy) rfl
    · blk_point [iblk, V, index0, index1, index2, index3, index4]
  · simp only [(hag c).1, (hag c).2.1, (hag c).2.2.1, (hag c).2.2.2]
    symm
    refine (dats m 0 c).arrAt_eq_of_covers 5 _ (by decide +kernel) fun t hf y => ?_
    have hN : t.val < 16 := t.isLt
    blk_simp
    rw [after0_5]
    have h : t.val % 16 = 15 := (flush0_5 t).mp hf
    refine (carried m c t h _).trans ?_
    simp only [tile_apply]
    pointwise [k0_pay2]
    refine Eq.trans ?_ (Fin.sum_univ_tiles 16 256 rfl _).symm
    refine Finset.sum_congr rfl fun s _ => Finset.sum_congr rfl fun k _ => ?_
    have hs := s.isLt
    have hk := k.isLt
    rw [mul_comm]
    blk_point [iblk, V, index0, index1, index5]

theorem frame : Cert.quiescent_NormDx := fun m g _ =>
  cast (by chain_rfl) (Gen.frame (F := Bits) m g)

theorem frame_ideal : Cert.quiescent_NormDxIdeal := fun m g _ => Gen.frame m g

theorem frame_reference : Cert.quiescent_NormDxRefIdeal := fun m g _ =>
  (θ_run Cert.NormDxRefIdeal.defs _ _).mono (fun r h => ⟨fun c => (h c).2.2, sem_eq_zero_of_no_sems (by decide) r.2⟩) (Cert.NormDxRefIdeal.Value.run m g)

end Cert.NormDxIdeal.Step

end

end
-- ==== Proof.ConvGrad.lean ====
module

public import proofs.«01_k».proof.Defs
public import proofs.«01_k».proof.Proof.Gen.ConvDx
public import proofs.«01_k».proof.Proof.Gen.ConvDxIdeal.Value
public import proofs.«01_k».proof.Proof.Gen.ConvDxRefIdeal.Run
public import Idealize.ShloMosaic.Lib.Pipeline.ValueKit
public import Idealize.ShloMosaic.Lib.Pipeline.ReadBack
public import Idealize.ShloMosaic.Lib.Quiescent

/-! The gradient of the ConvGLU's convolution with respect to its input, written beside the gated half's: the call's array
    holds the other half already, and the call writes its own. -/

@[expose] public section

noncomputable section

namespace Cert.ConvDxRefIdeal.Step

open Cert.ConvDxRefIdeal Cert.ConvDxRefIdeal.Gen Idealize.ShloMosaic Idealize.ShloMosaic.TcCoe Idealize.SL.Sem

/-- The first row of the weights by the cotangent, at the positions it was taken from. -/
def tap0 (D : Vec Ideal S4096x5632 .bf16) (W : Vec Ideal S8x5632 .f32) : FVec Ideal S4098x5632 .f32 :=
  pad S4098x5632 ![0, 0] ![2, 0] ![0, 0] (mulf (F := Ideal) (φ := .f32) (broadcastInDim S4096x5632 ![0, 1] bcast_S1x5632_S4096x5632_0_1 (broadcastInDim S1x5632 ![1] bcast_S5632_S1x5632_1 (shapeCast S5632 (extractStridedSlice S1x5632 ![0, 0] (extractStridedSlice S3x5632 ![0, 0] W slices_S8x5632_S3x5632_0_0) slices_S3x5632_S1x5632_0_0) shapeCasts_S1x5632_S5632))) (extf .f32 D bitsLt_bf16_f32)) (constant (F := Ideal) S_ .f32 0x00000000#32) pads_S4096x5632_S4098x5632_020_000 h_S_

/-- The second row of the weights by the cotangent, at the positions it was taken from. -/
def tap1 (D : Vec Ideal S4096x5632 .bf16) (W : Vec Ideal S8x5632 .f32) : FVec Ideal S4098x5632 .f32 :=
  pad S4098x5632 ![1, 0] ![1, 0] ![0, 0] (mulf (F := Ideal) (φ := .f32) (broadcastInDim S4096x5632 ![0, 1] bcast_S1x5632_S4096x5632_0_1 (broadcastInDim S1x5632 ![1] bcast_S5632_S1x5632_1 (shapeCast S5632 (extractStridedSlice S1x5632 ![1, 0] (extractStridedSlice S3x5632 ![0, 0] W slices_S8x5632_S3x5632_0_0) slices_S3x5632_S1x5632_1_0) shapeCasts_S1x5632_S5632))) (extf .f32 D bitsLt_bf16_f32)) (constant (F := Ideal) S_ .f32 0x00000000#32) pads_S4096x5632_S4098x5632_110_000 h_S_

/-- The third row of the weights by the cotangent, at the positions it was taken from. -/
def tap2 (D : Vec Ideal S4096x5632 .bf16) (W : Vec Ideal S8x5632 .f32) : FVec Ideal S4098x5632 .f32 :=
  pad S4098x5632 ![2, 0] ![0, 0] ![0, 0] (mulf (F := Ideal) (φ := .f32) (broadcastInDim S4096x5632 ![0, 1] bcast_S1x5632_S4096x5632_0_1 (broadcastInDim S1x5632 ![1] bcast_S5632_S1x5632_1 (shapeCast S5632 (extractStridedSlice S1x5632 ![2, 0] (extractStridedSlice S3x5632 ![0, 0] W slices_S8x5632_S3x5632_0_0) slices_S3x5632_S1x5632_2_0) shapeCasts_S1x5632_S5632))) (extf .f32 D bitsLt_bf16_f32)) (constant (F := Ideal) S_ .f32 0x00000000#32) pads_S4096x5632_S4098x5632_200_000 h_S_

/-- The reference's array: `X`'s left half, beside the gradient. -/
def joined (X : Vec Ideal S4096x11264 .bf16) (D : Vec Ideal S4096x5632 .bf16) (W : Vec Ideal S8x5632 .f32) : Vec Ideal S4096x11264 .bf16 :=
  concatenate S4096x11264 1 [⟨S4096x5632, extractStridedSlice S4096x5632 ![0, 0] X slices_S4096x11264_S4096x5632_0_0⟩,
    ⟨S4096x5632, (truncf .bf16 (extractStridedSlice S4096x5632 ![2, 0] (addf (addf (tap2 D W) (tap1 D W)) (tap0 D W)) slices_S4098x5632_S4096x5632_2_0) bitsLt_bf16_f32 : FVec Ideal S4096x5632 .bf16)⟩]
    concatenates_S4096x5632_S4096x5632_S4096x11264_d1

theorem joined_left (X : Vec Ideal S4096x11264 .bf16) (D : Vec Ideal S4096x5632 .bf16) (W : Vec Ideal S8x5632 .f32) (E : S4096x11264.Idx)
    (h1 : (E 1).val < 5632) : joined X D W E = X E := by
  pointwise [joined, tap0, tap1, tap2]
  rw [dif_pos h1]

/-- The right half: each row's products with its own row, the next and the one after, where there is one. -/
theorem joined_right (X : Vec Ideal S4096x11264 .bf16) (D : Vec Ideal S4096x5632 .bf16) (W : Vec Ideal S8x5632 .f32) (E : S4096x11264.Idx)
    (n : ℕ) (k : Fin 5632) (hn : n < 4096) (h0 : (E 0).val = n) (h1 : (E 1).val = 5632 + k.val) :
    joined X D W E = W (ix2 2 k) * D (ix2 ⟨n, hn⟩ k)
      + W (ix2 1 k) * (if h : n + 1 < 4096 then D (ix2 ⟨n + 1, h⟩ k) else 0)
      + W (ix2 0 k) * (if h : n + 2 < 4096 then D (ix2 ⟨n + 2, h⟩ k) else 0) := by
  have hk : k.val < 5632 := k.isLt
  have hE : E = ix2 ⟨n, hn⟩ ⟨5632 + k.val, by omega⟩ := by
    funext a
    match a with
    | 0 => exact Fin.ext h0
    | 1 => exact Fin.ext h1
  rw [hE]
  pointwise [joined, tap0, tap1, tap2]
  simp only [dif_pos hn, Nat.add_comm 2 n, show n + 2 - 1 = n + 1 by omega, show 1 ≤ n + 2 by omega, true_and]
  by_cases hn1 : n + 1 < 4096
  · by_cases hn2 : n + 2 < 4096
    · simp only [dif_pos hn1, dif_pos hn2]
    · simp only [dif_pos hn1, dif_neg hn2, mul_zero]
  · simp only [dif_neg hn1, dif_neg (show ¬ n + 2 < 4096 by omega), mul_zero]

end Cert.ConvDxRefIdeal.Step

namespace Cert.ConvDxIdeal.Step

open Cert.ConvDxIdeal Cert.ConvDxIdeal.Gen Cert.ConvDxIdeal.Value Idealize.ShloMosaic Idealize.ShloMosaic.TcCoe Idealize.SL.Sem

/-- A selection on the equality of two small numbers. -/
theorem select_nat {α : Type} (n k : ℕ) (hn : n < 4096) (hk : k < 4096) (a b : α) :
    Scalar.select (Scalar.cmpi .eq (BitVec.ofNat 32 n) (BitVec.ofNat 32 k)) a b = if n = k then a else b := by
  by_cases h : n = k
  · subst h
    rw [if_pos rfl]
    simp [Scalar.select, Scalar.cmpi, IntOp.cmpi]
  · rw [if_neg h]
    have e : BitVec.ofNat 32 n ≠ BitVec.ofNat 32 k := fun e => h (by
      have e := congrArg BitVec.toNat e
      rwa [BitVec.toNat_ofNat, BitVec.toNat_ofNat, Nat.mod_eq_of_lt (by omega), Nat.mod_eq_of_lt (by omega)] at e)
    have e : (BitVec.ofNat 32 n == BitVec.ofNat 32 k) = false := beq_eq_false_iff_ne.mpr e
    show (if BitVec.ofBool (BitVec.ofNat 32 n == BitVec.ofNat 32 k) = 1#1 then a else b) = b
    rw [e]
    rfl

/-- One tile of the gradient: each row's products with its own row, the next and the one after, of which the last ones come
    from the next tile, or are zero in the last tile. -/
theorem tile_apply (i : grid0.Coords) (hi : (i 0).val < 16) (h : Vec Ideal S16x5632 .bf16) (d : Vec Ideal S256x5632 .bf16) (w : Vec Ideal S8x5632 .f32)
    (y : S256x5632.Idx) :
    k0_pay1 i h d w y = w (ix2 2 (y 1)) * d y
      + w (ix2 1 (y 1)) * (if (y 0).val = 255 then (if (i 0).val = 15 then 0 else h (ix2 0 (y 1)))
          else d (ix2 ⟨((y 0).val + 1) % 256, Nat.mod_lt _ (by omega)⟩ (y 1)))
      + w (ix2 0 (y 1)) * (if (y 0).val = 255 then (if (i 0).val = 15 then 0 else h (ix2 1 (y 1)))
          else if (y 0).val = 254 then (if (i 0).val = 15 then 0 else h (ix2 0 (y 1)))
          else d (ix2 ⟨((y 0).val + 2) % 256, Nat.mod_lt _ (by omega)⟩ (y 1))) := by
  have hy : (y 0).val < 256 := (y 0).isLt
  pointwise [k0_pay1]
  have e : ∀ a b : EReal, Scalar.select (IntOp.cmpi .eq (BitVec.ofNat 32 (y 0).val) 255#32) a b = if (y 0).val = 255 then a else b :=
    select_nat (y 0).val 255 (by omega) (by omega)
  have e' : ∀ a b : EReal, Scalar.select (IntOp.cmpi .eq (BitVec.ofNat 32 (y 0).val) 254#32) a b = if (y 0).val = 254 then a else b :=
    select_nat (y 0).val 254 (by omega) (by omega)
  have f : ∀ a b : EReal, Scalar.select (Scalar.cmpi .eq (BitVec.ofNat 32 (i 0).val) 15#32) a b = if (i 0).val = 15 then a else b :=
    select_nat (i 0).val 15 (by omega) (by omega)
  simp only [e, e', f, show (y 0).val + 256 - 255 = (y 0).val + 1 by omega, show (y 0).val + 256 - 254 = (y 0).val + 2 by omega]

variable (m : (ℓ : Loc nD τ sig) → Buf (Elt Ideal) ℓ)

theorem coords0 : ∀ t : Fin cfg0.N, ((grid0.coords t 0).val : ℕ) = t.val :=
  (by decide +kernel : ∀ t : Fin grid0.N, _)

theorem index0 : ∀ t : Fin cfg0.N, win0_0.index t = ![t.val, 0] :=
  (by decide +kernel : ∀ t : Fin grid0.N, _)

/-- Before the last tile, the rows that follow a tile are the next tile's first. -/
theorem index1 : ∀ t : Fin cfg0.N, t.val < 15 → win0_1.index t = ![16 * (t.val + 1), 0] :=
  (by decide +kernel : ∀ t : Fin grid0.N, _)

theorem index2 : ∀ t : Fin cfg0.N, win0_2.index t = ![0, 0] :=
  (by decide +kernel : ∀ t : Fin grid0.N, _)

theorem index3 : ∀ t : Fin cfg0.N, win0_3.index t = ![t.val, 1] :=
  (by decide +kernel : ∀ t : Fin grid0.N, _)

/-- The gradient: the call's array and the reference's are the same. -/
theorem algebraic : Cert.algebraic_ConvDxIdeal_ConvDxRefIdeal := by
  intro m g m' g' _ hag
  refine ⟨fun c => (dats m 0 c).arrAt 3 cfg0.N, run_blocks m g,
    (θ_run Cert.ConvDxRefIdeal.defs _ _).mono (fun r h c => ⟨(h c).1.trans ?_, (h c).2⟩) (Cert.ConvDxRefIdeal.Value.run m' g')⟩
  rw [(hag c).1, (hag c).2.1, (hag c).2.2]
  clear h r
  symm
  change _ = ConvDxRefIdeal.Step.joined (m ((c.tc : Thread nD τ).loc main_arg0)) (m ((c.tc : Thread nD τ).loc main_arg1)) (m ((c.tc : Thread nD τ).loc main_arg2))
  refine (dats m 0 c).arrAt_eq_of_coversWhere_of_agree 3 _ (fun β => 1 ≤ β 1) (by decide +kernel) (fun t hf y => ?_) (fun j hj => ?_)
  · have hN : t.val < 16 := t.isLt
    have hy0 : (y 0).val < 256 := (y 0).isLt
    have hy1 : (y 1).val < 5632 := (y 1).isLt
    blk_simp
    rw [after0_3]
    unfold outsAt0
    frame_out
    have h0 : ((((View.whole main_v0).slice (win0_3.rect t)).emb y) 0 : ℕ) = 256 * t.val + (y 0).val := by
      blk_simp [index3]; omega
    have h1 : ((((View.whole main_v0).slice (win0_3.rect t)).emb y) 1 : ℕ) = 5632 + (y 1).val := by
      blk_simp [index3]
    rw [tile_apply _ (by rw [coords0]; exact hN), coords0,
      ConvDxRefIdeal.Step.joined_right _ _ _ _ (256 * t.val + (y 0).val) (y 1) (by omega) h0 h1]
    rcases Nat.lt_or_ge (y 0).val 254 with hy | hy
    · rw [if_neg (show ¬ (y 0).val = 255 by omega), if_neg (show ¬ (y 0).val = 255 by omega), if_neg (show ¬ (y 0).val = 254 by omega),
        dif_pos (show 256 * t.val + (y 0).val + 1 < 4096 by omega), dif_pos (show 256 * t.val + (y 0).val + 2 < 4096 by omega)]
      blk_point [iblk, V, index0, index2]
    rcases Nat.lt_or_ge (y 0).val 255 with hy' | hy'
    · rw [if_neg (show ¬ (y 0).val = 255 by omega), if_neg (show ¬ (y 0).val = 255 by omega), if_pos (show (y 0).val = 254 by omega),
        dif_pos (show 256 * t.val + (y 0).val + 1 < 4096 by omega)]
      by_cases ht : t.val = 15
      · rw [if_pos ht, dif_neg (show ¬ 256 * t.val + (y 0).val + 2 < 4096 by omega), mul_zero, mul_zero]
        blk_point [iblk, V, index0, index2]
      · rw [if_neg ht, dif_pos (show 256 * t.val + (y 0).val + 2 < 4096 by omega)]
        blk_point [iblk, V, index0, index1 t (by omega), index2]
    · rw [if_pos (show (y 0).val = 255 by omega), if_pos (show (y 0).val = 255 by omega)]
      by_cases ht : t.val = 15
      · rw [if_pos ht, if_pos ht, dif_neg (show ¬ 256 * t.val + (y 0).val + 1 < 4096 by omega), dif_neg (show ¬ 256 * t.val + (y 0).val + 2 < 4096 by omega)]
        blk_point [iblk, V, index0, index2]
      · rw [if_neg ht, if_neg ht, dif_pos (show 256 * t.val + (y 0).val + 1 < 4096 by omega), dif_pos (show 256 * t.val + (y 0).val + 2 < 4096 by omega)]
        blk_point [iblk, V, index0, index1 t (by omega), index2]
  · have hj1 : ((View.whole main_v0).emb j 1).val < 5632 := by
      blk_simp [Pipeline.Window.cell_apply] at hj
      show (j 1).val < 5632
      omega
    rw [ConvDxRefIdeal.Step.joined_left _ _ _ _ hj1, A_eq]
    show V m c main_v0 _ = _
    unfold V
    after_results_simp <;> rfl

theorem frame : Cert.quiescent_ConvDx := fun m g _ =>
  cast (by chain_rfl) (Gen.frame (F := Bits) m g)

theorem frame_ideal : Cert.quiescent_ConvDxIdeal := fun m g _ => Gen.frame m g

theorem frame_reference : Cert.quiescent_ConvDxRefIdeal := fun m g _ =>
  (θ_run Cert.ConvDxRefIdeal.defs _ _).mono (fun r h => ⟨fun c => (h c).2, sem_eq_zero_of_no_sems (by decide) r.2⟩) (Cert.ConvDxRefIdeal.Value.run m g)

end Cert.ConvDxIdeal.Step

end

end
-- ==== Proof.Gate.lean ====
module

public import proofs.«01_k».proof.Defs
public import proofs.«01_k».proof.Proof.Gen.Glu
public import proofs.«01_k».proof.Proof.Gen.GluIdeal.Value
public import proofs.«01_k».proof.Proof.Gen.GluRefIdeal.Run
public import proofs.«01_k».proof.Proof.ConvGrad
public import Idealize.ShloMosaic.PureOps.Ideal.Laws

/-! The ConvGLU between its two products: the causal convolution of the second half of the columns, its gelu, times the first. -/

@[expose] public section

noncomputable section

namespace Cert.GluRefIdeal.Step

open Cert.GluRefIdeal Cert.GluRefIdeal.Gen Idealize.ShloMosaic Idealize.ShloMosaic.TcCoe Idealize.SL.Sem

/-- The gate's half, below two rows of zeros. -/
def below (X : Vec Ideal S4096x11264 .bf16) : FVec Ideal S4098x5632 .f32 :=
  concatenate S4098x5632 0 [⟨S2x5632, (broadcastInDim S2x5632 ![] bcast_S_S2x5632 (constant (F := Ideal) S_ .f32 0x00000000#32) : FVec Ideal S2x5632 .f32)⟩,
    ⟨S4096x5632, extractStridedSlice S4096x5632 ![0, 5632] (extf .f32 X bitsLt_bf16_f32) slices_S4096x11264_S4096x5632_0_5632⟩] concatenates_S2x5632_S4096x5632_S4098x5632_d0

/-- A row of the weights, at every position. -/
def weight (v : FVec Ideal S1x5632 .f32) : FVec Ideal S4096x5632 .f32 :=
  broadcastInDim S4096x5632 ![0, 1] bcast_S1x5632_S4096x5632_0_1 (broadcastInDim S1x5632 ![1] bcast_S5632_S1x5632_1 (shapeCast S5632 v shapeCasts_S1x5632_S5632))

/-- The convolution. -/
def conv (X : Vec Ideal S4096x11264 .bf16) (W : Vec Ideal S8x5632 .f32) (B : Vec Ideal S1x5632 .f32) : FVec Ideal S4096x5632 .f32 :=
  let W3 : FVec Ideal S3x5632 .f32 := extractStridedSlice S3x5632 ![0, 0] W slices_S8x5632_S3x5632_0_0
  addf (addf (addf (mulf (weight (extractStridedSlice S1x5632 ![0, 0] W3 slices_S3x5632_S1x5632_0_0)) (extractStridedSlice S4096x5632 ![0, 0] (below X) slices_S4098x5632_S4096x5632_0_0))
      (mulf (weight (extractStridedSlice S1x5632 ![1, 0] W3 slices_S3x5632_S1x5632_1_0)) (extractStridedSlice S4096x5632 ![1, 0] (below X) slices_S4098x5632_S4096x5632_1_0)))
    (mulf (weight (extractStridedSlice S1x5632 ![2, 0] W3 slices_S3x5632_S1x5632_2_0)) (extractStridedSlice S4096x5632 ![2, 0] (below X) slices_S4098x5632_S4096x5632_2_0)))
  (weight B)

/-- The reference's array. -/
def gated (X : Vec Ideal S4096x11264 .bf16) (W : Vec Ideal S8x5632 .f32) (B : Vec Ideal S1x5632 .f32) : FVec Ideal S4096x5632 .bf16 :=
  truncf .bf16 (mulf (mulf (mulf (broadcastInDim S4096x5632 ![] bcast_S_S4096x5632 (constant (F := Ideal) S_ .f32 0x3F000000#32)) (conv X W B))
      (Host.erfc (mulf (Host.negf (conv X W B)) (broadcastInDim S4096x5632 ![] bcast_S_S4096x5632 (constant (F := Ideal) S_ .f32 0x3F3504F3#32)))))
    (extractStridedSlice S4096x5632 ![0, 0] (extf .f32 X bitsLt_bf16_f32) slices_S4096x11264_S4096x5632_0_0)) bitsLt_bf16_f32

theorem gated_eq (m : (ℓ : Loc nD τ sig) → Buf (Elt Ideal) ℓ) (c : Dev nD) : Value.res_out0 m c = gated (m ((c.tc : Thread nD τ).loc main_arg0)) (m ((c.tc : Thread nD τ).loc main_arg1)) (m ((c.tc : Thread nD τ).loc main_arg2)) := rfl

/-- The convolution at a position: products with its row, the one before and the one before that, where there is one. -/
theorem conv_apply (X : Vec Ideal S4096x11264 .bf16) (W : Vec Ideal S8x5632 .f32) (B : Vec Ideal S1x5632 .f32)
    (n : ℕ) (k : Fin 5632) (hn : n < 4096) :
    conv X W B (ix2 ⟨n, hn⟩ k) = W (ix2 0 k) * (if _ : n < 2 then 0 else X (ix2 ⟨n - 2, by omega⟩ ⟨5632 + k.val, by omega⟩))
      + W (ix2 1 k) * (if _ : n < 1 then 0 else X (ix2 ⟨n - 1, by omega⟩ ⟨5632 + k.val, by omega⟩))
      + W (ix2 2 k) * X (ix2 ⟨n, hn⟩ ⟨5632 + k.val, by omega⟩) + B (ix2 0 k) := by
  pointwise [conv, weight, below]
  simp only [show 1 + n < 2 ↔ n < 1 by omega, show 1 + n - 2 = n - 1 by omega]

/-- The reference's array at a position. -/
theorem gated_apply (X : Vec Ideal S4096x11264 .bf16) (W : Vec Ideal S8x5632 .f32) (B : Vec Ideal S1x5632 .f32)
    (n : ℕ) (k : Fin 5632) (hn : n < 4096) :
    gated X W B (ix2 ⟨n, hn⟩ k) = Ideal.ofBits .f32 0x3F000000#32 * conv X W B (ix2 ⟨n, hn⟩ k)
      * (1 + Ideal.erf (conv X W B (ix2 ⟨n, hn⟩ k) * Ideal.ofBits .f32 0x3F3504F3#32)) * X (ix2 ⟨n, hn⟩ ⟨k.val, by omega⟩) := by
  pointwise [gated]
  simp only [neg_mul, Ideal.erfc_neg]

end Cert.GluRefIdeal.Step

namespace Cert.GluIdeal.Step

open Cert.GluIdeal Cert.GluIdeal.Gen Cert.GluIdeal.Value Idealize.ShloMosaic Idealize.ShloMosaic.TcCoe Idealize.SL.Sem

/-- The convolution in one tile: the first two rows take their predecessors from the end of the tile before, which is zero
    before the first tile. -/
theorem tile_apply (i : grid0.Coords) (hi : (i 1).val < 8) (h : Vec Ideal S16x1408 .bf16) (g : Vec Ideal S512x1408 .bf16) (w : Vec Ideal S8x1408 .f32)
    (b : Vec Ideal S1x1408 .f32) (y : S512x1408.Idx) :
    k0_pay2 i h g w b y = w (ix2 0 (y 1)) * (if (y 0).val = 0 then (if (i 1).val = 0 then 0 else h (ix2 14 (y 1)))
          else if (y 0).val = 1 then (if (i 1).val = 0 then 0 else h (ix2 15 (y 1)))
          else g (ix2 ⟨((y 0).val + 510) % 512, Nat.mod_lt _ (by omega)⟩ (y 1)))
      + w (ix2 1 (y 1)) * (if (y 0).val = 0 then (if (i 1).val = 0 then 0 else h (ix2 15 (y 1)))
          else g (ix2 ⟨((y 0).val + 511) % 512, Nat.mod_lt _ (by omega)⟩ (y 1)))
      + w (ix2 2 (y 1)) * g y + b (ix2 0 (y 1)) := by
  have hy : (y 0).val < 512 := (y 0).isLt
  pointwise [k0_pay2]
  have e : ∀ a b : EReal, Scalar.select (IntOp.cmpi .eq (BitVec.ofNat 32 (y 0).val) 0#32) a b = if (y 0).val = 0 then a else b :=
    ConvDxIdeal.Step.select_nat (y 0).val 0 (by omega) (by omega)
  have e' : ∀ a b : EReal, Scalar.select (IntOp.cmpi .eq (BitVec.ofNat 32 (y 0).val) 1#32) a b = if (y 0).val = 1 then a else b :=
    ConvDxIdeal.Step.select_nat (y 0).val 1 (by omega) (by omega)
  have f : ∀ a b : EReal, Scalar.select (Scalar.cmpi .eq (BitVec.ofNat 32 (i 1).val) 0#32) a b = if (i 1).val = 0 then a else b :=
    ConvDxIdeal.Step.select_nat (i 1).val 0 (by omega) (by omega)
  simp only [e, e', f, show (y 0).val + 512 - 2 = (y 0).val + 510 by omega, show (y 0).val + 512 - 1 = (y 0).val + 511 by omega]

/-- One tile of the result. -/
theorem out_apply (z : FVec Ideal S512x1408 .f32) (u : Vec Ideal S512x1408 .bf16) (y : S512x1408.Idx) :
    k0_pay1 z (Scalar.ofBits .f32 0x3F000000#32) u y = Ideal.ofBits .f32 0x3F000000#32 * z y
      * (1 + Ideal.erf (z y * Ideal.ofBits .f32 0x3F3504F3#32)) * u y := by
  pointwise [k0_pay1]
  rfl

theorem coords0 : ∀ t : Fin cfg0.N, ((grid0.coords t 1).val : ℕ) = t.val % 8 :=
  (by decide +kernel : ∀ t : Fin grid0.N, _)

theorem index : ∀ t : Fin cfg0.N, win0_0.index t = ![t.val % 8, t.val / 8] ∧ win0_1.index t = ![t.val % 8, 4 + t.val / 8]
    ∧ win0_2.index t = ![32 * (t.val % 8) - 1, 4 + t.val / 8] ∧ win0_3.index t = ![0, t.val / 8] ∧ win0_4.index t = ![0, t.val / 8]
    ∧ win0_5.index t = ![t.val % 8, t.val / 8] :=
  (by decide +kernel : ∀ t : Fin grid0.N, _)

variable (m : (ℓ : Loc nD τ sig) → Buf (Elt Ideal) ℓ)

/-- The gate: the call's array and the reference's are the same. -/
theorem algebraic : Cert.algebraic_GluIdeal_GluRefIdeal := by
  intro m g m' g' _ hag
  refine ⟨fun c => (dats m 0 c).arrAt 5 cfg0.N, run_blocks m g,
    (θ_run Cert.GluRefIdeal.defs _ _).mono (fun r h c => ⟨(h c).1.trans ?_, (h c).2⟩) (Cert.GluRefIdeal.Value.run m' g')⟩
  refine (GluRefIdeal.Step.gated_eq m' c).trans ?_
  rw [(hag c).1, (hag c).2.1, (hag c).2.2]
  clear h r
  symm
  refine (dats m 0 c).arrAt_eq_of_covers 5 _ (by decide +kernel) (fun t hf y => ?_)
  have hN : t.val < 32 := t.isLt
  have hy0 : (y 0).val < 512 := (y 0).isLt
  have hy1 : (y 1).val < 1408 := (y 1).isLt
  obtain ⟨i0, i1, i2, i3, i4, i5⟩ := index t
  blk_simp
  rw [after0_5]
  frame_out
  have h0 : ((((View.whole main_v0).slice (win0_5.rect t)).emb y) 0 : ℕ) = 512 * (t.val % 8) + (y 0).val := by
    blk_simp [i5]; omega
  have h1 : ((((View.whole main_v0).slice (win0_5.rect t)).emb y) 1 : ℕ) = 1408 * (t.val / 8) + (y 1).val := by
    blk_simp [i5]; omega
  have hE : ((View.whole main_v0).slice (win0_5.rect t)).emb y
      = ix2 ⟨512 * (t.val % 8) + (y 0).val, by omega⟩ ⟨1408 * (t.val / 8) + (y 1).val, by omega⟩ := by
    funext a
    match a with
    | 0 => exact Fin.ext h0
    | 1 => exact Fin.ext h1
  rw [hE, GluRefIdeal.Step.gated_apply, out_apply]
  have hz : k0_pay2 (grid0.coords t) (iblk m c 2 t) (iblk m c 1 t) (iblk m c 3 t) (iblk m c 4 t) y
      = GluRefIdeal.Step.conv (m ((c.tc : Thread nD τ).loc main_arg0)) (m ((c.tc : Thread nD τ).loc main_arg1)) (m ((c.tc : Thread nD τ).loc main_arg2))
        (ix2 ⟨512 * (t.val % 8) + (y 0).val, by omega⟩ ⟨1408 * (t.val / 8) + (y 1).val, by omega⟩) := by
    rw [tile_apply _ (by rw [coords0]; omega), coords0, GluRefIdeal.Step.conv_apply]
    rcases Nat.lt_or_ge 1 (y 0).val with hy | hy
    · rw [if_neg (show ¬ (y 0).val = 0 by omega), if_neg (show ¬ (y 0).val = 0 by omega), if_neg (show ¬ (y 0).val = 1 by omega),
        dif_neg (show ¬ 512 * (t.val % 8) + (y 0).val < 2 by omega), dif_neg (show ¬ 512 * (t.val % 8) + (y 0).val < 1 by omega)]
      blk_point [iblk, V, i1, i3, i4]
    rcases Nat.lt_or_ge 0 (y 0).val with hy' | hy'
    · rw [if_neg (show ¬ (y 0).val = 0 by omega), if_neg (show ¬ (y 0).val = 0 by omega), if_pos (show (y 0).val = 1 by omega),
        dif_neg (show ¬ 512 * (t.val % 8) + (y 0).val < 1 by omega)]
      by_cases ht : t.val % 8 = 0
      · rw [if_pos ht, dif_pos (show 512 * (t.val % 8) + (y 0).val < 2 by omega)]
        blk_point [iblk, V, i1, i3, i4]
      · rw [if_neg ht, dif_neg (show ¬ 512 * (t.val % 8) + (y 0).val < 2 by omega)]
        blk_point [iblk, V, i1, i2, i3, i4]
    · rw [if_pos (show (y 0).val = 0 by omega), if_pos (show (y 0).val = 0 by omega)]
      by_cases ht : t.val % 8 = 0
      · rw [if_pos ht, if_pos ht, dif_pos (show 512 * (t.val % 8) + (y 0).val < 2 by omega), dif_pos (show 512 * (t.val % 8) + (y 0).val < 1 by omega)]
        blk_point [iblk, V, i1, i3, i4]
      · rw [if_neg ht, if_neg ht, dif_neg (show ¬ 512 * (t.val % 8) + (y 0).val < 2 by omega), dif_neg (show ¬ 512 * (t.val % 8) + (y 0).val < 1 by omega)]
        blk_point [iblk, V, i1, i2, i3, i4]
  rw [hz]
  congr 1
  blk_point [iblk, V, i0]

theorem frame : Cert.quiescent_Glu := fun m g _ =>
  cast (by chain_rfl) (Gen.frame (F := Bits) m g)

theorem frame_ideal : Cert.quiescent_GluIdeal := fun m g _ => Gen.frame m g

theorem frame_reference : Cert.quiescent_GluRefIdeal := fun m g _ =>
  (θ_run Cert.GluRefIdeal.defs _ _).mono (fun r h => ⟨fun c => (h c).2, sem_eq_zero_of_no_sems (by decide) r.2⟩) (Cert.GluRefIdeal.Value.run m g)

end Cert.GluIdeal.Step

end

end
-- ==== Proof.AdamConsts.lean ====
module

public import Idealize.ShloMosaic.PureOps.Ideal

/-! The optimiser's bias corrections, `1 - 0.9^10` and `1 - 0.999^10` as float words: dividing by each is multiplying by
    its inverse. -/

@[expose] public section

noncomputable section

namespace Cert.Adam

open Idealize.ShloMosaic

theorem div_bias1 (x : EReal) : Ideal.div x (Ideal.ofBits .f32 0x3F26BD02#32) = x * ((8388608 / 5463681 : ℝ) : EReal) := by
  have h : Ideal.ofBits .f32 0x3F26BD02#32 = ((5463681 / 8388608 : ℝ) : EReal) := by
    simp [Ideal.ofBits, Ideal.ieee, -EReal.coe_mul]; norm_num
  rw [h, Ideal.div_coe (by norm_num), one_div_div]

theorem div_bias2 (x : EReal) : Ideal.div x (Ideal.ofBits .f32 0x3C231ACC#32) = x * ((268435456 / 2672307 : ℝ) : EReal) := by
  have h : Ideal.ofBits .f32 0x3C231ACC#32 = ((2672307 / 268435456 : ℝ) : EReal) := by
    simp [Ideal.ofBits, Ideal.ieee, -EReal.coe_mul]; norm_num
  rw [h, Ideal.div_coe (by norm_num), one_div_div]

end Cert.Adam

end
-- ==== Proof.Adam.lean ====
module

public import proofs.«01_k».proof.Defs
public import proofs.«01_k».proof.Proof.Gen.AdamKv.Frame
public import proofs.«01_k».proof.Proof.Gen.AdamKvIdeal.Value
public import proofs.«01_k».proof.Proof.Gen.AdamKvRefIdeal.Run
public import proofs.«01_k».proof.Proof.Gen.AdamQ.Frame
public import proofs.«01_k».proof.Proof.Gen.AdamQIdeal.Value
public import proofs.«01_k».proof.Proof.Gen.AdamQRefIdeal.Run
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.AdamConsts
public import Idealize.ShloMosaic.Lib.Pipeline.ValueKit
public import Idealize.ShloMosaic.Lib.Pipeline.ReadBack
public import Idealize.ShloMosaic.Lib.Quiescent

/-! The optimiser's calls for the weights of one layer and for the small weights, packed in rows: each is one elementwise
    step. The kernel multiplies by the bias corrections' inverses, which are named; the reference divides by the
    corrections. -/

@[expose] public section

noncomputable section

namespace Cert.AdamKvIdeal.Step

open Cert.AdamKvIdeal Cert.AdamKvIdeal.Gen Cert.AdamKvIdeal.Value Idealize.ShloMosaic Idealize.ShloMosaic.TcCoe Idealize.SL.Sem

theorem inv_bias1 : Named.named (F := Ideal) κ "inv_bias1" (φ := .f32) 0x3FC48605#32 = ((8388608 / 5463681 : ℝ) : EReal) :=
  IdealRules.named_const.ideal_named_scalar _ _ _ _ rfl

theorem inv_bias2 : Named.named (F := Ideal) κ "inv_bias2" (φ := .f32) 0x42C8E6D3#32 = ((268435456 / 2672307 : ℝ) : EReal) :=
  IdealRules.named_const.ideal_named_scalar _ _ _ _ rfl

theorem preserves : Cert.preserves_AdamKv_AdamKvIdeal :=
  ⟨IdealRules.named_const.statement κ _ _ _ _ rfl, IdealRules.named_const.statement κ _ _ _ _ rfl⟩

/-- The step: the call's arrays and the reference's are the same. -/
theorem algebraic : Cert.algebraic_AdamKvIdeal_AdamKvRefIdeal := by
  intro m g m' g' _ hag
  refine ⟨_, _, _, Value.run m g,
    (θ_run Cert.AdamKvRefIdeal.defs _ _).mono (fun r h c => ⟨(h c).1.trans ?_, (h c).2.1.trans ?_, (h c).2.2.1.trans ?_, (h c).2.2.2⟩)
      (Cert.AdamKvRefIdeal.Value.run m' g')⟩
  · rw [(hag c).1, (hag c).2.1, (hag c).2.2.1, (hag c).2.2.2]
    funext i
    simp only [G4, inv_bias1, inv_bias2, Ideal.mulf_def, ← Adam.div_bias1, ← Adam.div_bias2]
    rfl
  · rw [(hag c).2.1, (hag c).2.2.1]
    rfl
  · rw [(hag c).2.1, (hag c).2.2.2]
    rfl

theorem frame : Cert.quiescent_AdamKv := fun m g _ => Cert.AdamKv.Gen.frame m g

theorem frame_ideal : Cert.quiescent_AdamKvIdeal := fun m g _ => Gen.frame m g

theorem frame_reference : Cert.quiescent_AdamKvRefIdeal := fun m g _ =>
  (θ_run Cert.AdamKvRefIdeal.defs _ _).mono (fun r h => ⟨fun c => (h c).2.2.2, sem_eq_zero_of_no_sems (by decide) r.2⟩) (Cert.AdamKvRefIdeal.Value.run m g)

end Cert.AdamKvIdeal.Step

namespace Cert.AdamQIdeal.Step

open Cert.AdamQIdeal Cert.AdamQIdeal.Gen Cert.AdamQIdeal.Value Idealize.ShloMosaic Idealize.ShloMosaic.TcCoe Idealize.SL.Sem

theorem inv_bias1 : Named.named (F := Ideal) κ "inv_bias1" (φ := .f32) 0x3FC48605#32 = ((8388608 / 5463681 : ℝ) : EReal) :=
  IdealRules.named_const.ideal_named_scalar _ _ _ _ rfl

theorem inv_bias2 : Named.named (F := Ideal) κ "inv_bias2" (φ := .f32) 0x42C8E6D3#32 = ((268435456 / 2672307 : ℝ) : EReal) :=
  IdealRules.named_const.ideal_named_scalar _ _ _ _ rfl

theorem preserves : Cert.preserves_AdamQ_AdamQIdeal :=
  ⟨IdealRules.named_const.statement κ _ _ _ _ rfl, IdealRules.named_const.statement κ _ _ _ _ rfl⟩

/-- The step: the call's arrays and the reference's are the same. -/
theorem algebraic : Cert.algebraic_AdamQIdeal_AdamQRefIdeal := by
  intro m g m' g' _ hag
  refine ⟨_, _, _, Value.run m g,
    (θ_run Cert.AdamQRefIdeal.defs _ _).mono (fun r h c => ⟨(h c).1.trans ?_, (h c).2.1.trans ?_, (h c).2.2.1.trans ?_, (h c).2.2.2⟩)
      (Cert.AdamQRefIdeal.Value.run m' g')⟩
  · rw [(hag c).1, (hag c).2.1, (hag c).2.2.1, (hag c).2.2.2]
    funext i
    simp only [G4, inv_bias1, inv_bias2, Ideal.mulf_def, ← Adam.div_bias1, ← Adam.div_bias2]
    rfl
  · rw [(hag c).2.1, (hag c).2.2.1]
    rfl
  · rw [(hag c).2.1, (hag c).2.2.2]
    rfl

theorem frame : Cert.quiescent_AdamQ := fun m g _ => Cert.AdamQ.Gen.frame m g

theorem frame_ideal : Cert.quiescent_AdamQIdeal := fun m g _ => Gen.frame m g

theorem frame_reference : Cert.quiescent_AdamQRefIdeal := fun m g _ =>
  (θ_run Cert.AdamQRefIdeal.defs _ _).mono (fun r h => ⟨fun c => (h c).2.2.2, sem_eq_zero_of_no_sems (by decide) r.2⟩) (Cert.AdamQRefIdeal.Value.run m g)

end Cert.AdamQIdeal.Step

namespace Cert.AdamOutIdeal.Step

open Cert.AdamOutIdeal Cert.AdamOutIdeal.Gen Cert.AdamOutIdeal.Value Idealize.ShloMosaic Idealize.ShloMosaic.TcCoe Idealize.SL.Sem

theorem inv_bias1 : Named.named (F := Ideal) κ "inv_bias1" (φ := .f32) 0x3FC48605#32 = ((8388608 / 5463681 : ℝ) : EReal) :=
  IdealRules.named_const.ideal_named_scalar _ _ _ _ rfl

theorem inv_bias2 : Named.named (F := Ideal) κ "inv_bias2" (φ := .f32) 0x42C8E6D3#32 = ((268435456 / 2672307 : ℝ) : EReal) :=
  IdealRules.named_const.ideal_named_scalar _ _ _ _ rfl

theorem preserves : Cert.preserves_AdamOut_AdamOutIdeal :=
  ⟨IdealRules.named_const.statement κ _ _ _ _ rfl, IdealRules.named_const.statement κ _ _ _ _ rfl⟩

/-- The step: the call's arrays and the reference's are the same. -/
theorem algebraic : Cert.algebraic_AdamOutIdeal_AdamOutRefIdeal := by
  intro m g m' g' _ hag
  refine ⟨_, _, _, Value.run m g,
    (θ_run Cert.AdamOutRefIdeal.defs _ _).mono (fun r h c => ⟨(h c).1.trans ?_, (h c).2.1.trans ?_, (h c).2.2.1.trans ?_, (h c).2.2.2⟩)
      (Cert.AdamOutRefIdeal.Value.run m' g')⟩
  · rw [(hag c).1, (hag c).2.1, (hag c).2.2.1, (hag c).2.2.2]
    funext i
    simp only [G4, inv_bias1, inv_bias2, Ideal.mulf_def, ← Adam.div_bias1, ← Adam.div_bias2]
    rfl
  · rw [(hag c).2.1, (hag c).2.2.1]
    rfl
  · rw [(hag c).2.1, (hag c).2.2.2]
    rfl

theorem frame : Cert.quiescent_AdamOut := fun m g _ => Cert.AdamOut.Gen.frame m g

theorem frame_ideal : Cert.quiescent_AdamOutIdeal := fun m g _ => Gen.frame m g

theorem frame_reference : Cert.quiescent_AdamOutRefIdeal := fun m g _ =>
  (θ_run Cert.AdamOutRefIdeal.defs _ _).mono (fun r h => ⟨fun c => (h c).2.2.2, sem_eq_zero_of_no_sems (by decide) r.2⟩) (Cert.AdamOutRefIdeal.Value.run m g)

end Cert.AdamOutIdeal.Step

namespace Cert.AdamSmallIdeal.Step

open Cert.AdamSmallIdeal Cert.AdamSmallIdeal.Gen Cert.AdamSmallIdeal.Value Idealize.ShloMosaic Idealize.ShloMosaic.TcCoe Idealize.SL.Sem

theorem inv_bias1 : Named.named (F := Ideal) κ "inv_bias1" (φ := .f32) 0x3FC48605#32 = ((8388608 / 5463681 : ℝ) : EReal) :=
  IdealRules.named_const.ideal_named_scalar _ _ _ _ rfl

theorem inv_bias2 : Named.named (F := Ideal) κ "inv_bias2" (φ := .f32) 0x42C8E6D3#32 = ((268435456 / 2672307 : ℝ) : EReal) :=
  IdealRules.named_const.ideal_named_scalar _ _ _ _ rfl

theorem preserves : Cert.preserves_AdamSmall_AdamSmallIdeal :=
  ⟨IdealRules.named_const.statement κ _ _ _ _ rfl, IdealRules.named_const.statement κ _ _ _ _ rfl⟩

/-- The step: the call's arrays and the reference's are the same. -/
theorem algebraic : Cert.algebraic_AdamSmallIdeal_AdamSmallRefIdeal := by
  intro m g m' g' _ hag
  refine ⟨_, _, _, Value.run m g,
    (θ_run Cert.AdamSmallRefIdeal.defs _ _).mono (fun r h c => ⟨(h c).1.trans ?_, (h c).2.1.trans ?_, (h c).2.2.1.trans ?_, (h c).2.2.2⟩)
      (Cert.AdamSmallRefIdeal.Value.run m' g')⟩
  · rw [(hag c).1, (hag c).2.1, (hag c).2.2.1, (hag c).2.2.2]
    funext i
    simp only [G4, inv_bias1, inv_bias2, Ideal.mulf_def, ← Adam.div_bias1, ← Adam.div_bias2]
    rfl
  · rw [(hag c).2.1, (hag c).2.2.1]
    rfl
  · rw [(hag c).2.1, (hag c).2.2.2]
    rfl

theorem frame : Cert.quiescent_AdamSmall := fun m g _ => Cert.AdamSmall.Gen.frame m g

theorem frame_ideal : Cert.quiescent_AdamSmallIdeal := fun m g _ => Gen.frame m g

theorem frame_reference : Cert.quiescent_AdamSmallRefIdeal := fun m g _ =>
  (θ_run Cert.AdamSmallRefIdeal.defs _ _).mono (fun r h => ⟨fun c => (h c).2.2.2, sem_eq_zero_of_no_sems (by decide) r.2⟩) (Cert.AdamSmallRefIdeal.Value.run m g)

end Cert.AdamSmallIdeal.Step

end
-- ==== Proof.AdamBlocks.lean ====
module

public import proofs.«01_k».proof.Defs
public import proofs.«01_k».proof.Proof.AdamConsts
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamUp.Frame
public import proofs.«01_k».proof.Proof.Gen.AdamUpIdeal.Value
public import proofs.«01_k».proof.Proof.Gen.AdamUpRefIdeal.Run
public import proofs.«01_k».proof.Proof.Gen.AdamDown.Frame
public import proofs.«01_k».proof.Proof.Gen.AdamDownIdeal.Value
public import proofs.«01_k».proof.Proof.Gen.AdamDownRefIdeal.Run
public import Idealize.ShloMosaic.Lib.Pipeline.ValueKit
public import Idealize.ShloMosaic.Lib.Pipeline.ReadBack
public import Idealize.ShloMosaic.Lib.Quiescent

/-! The optimiser's calls whose gradient does not come in the weight's shape: for the input projection, whose gradient has
    more columns than the weight, and for the two weights of the ConvGLU, whose gradient comes as one array for each layer. -/

@[expose] public section

noncomputable section

namespace Cert.AdamInIdeal.Step

open Cert.AdamInIdeal Cert.AdamInIdeal.Gen Cert.AdamInIdeal.Value Idealize.ShloMosaic Idealize.ShloMosaic.TcCoe Idealize.SL.Sem

variable (m : (ℓ : Loc nD τ sig) → Buf (Elt Ideal) ℓ)

theorem inv_bias1 : Named.named (F := Ideal) κ "inv_bias1" (φ := .f32) 0x3FC48605#32 = ((8388608 / 5463681 : ℝ) : EReal) :=
  IdealRules.named_const.ideal_named_scalar _ _ _ _ rfl

theorem inv_bias2 : Named.named (F := Ideal) κ "inv_bias2" (φ := .f32) 0x42C8E6D3#32 = ((268435456 / 2672307 : ℝ) : EReal) :=
  IdealRules.named_const.ideal_named_scalar _ _ _ _ rfl

theorem preserves : Cert.preserves_AdamIn_AdamInIdeal :=
  ⟨IdealRules.named_const.statement κ _ _ _ _ rfl, IdealRules.named_const.statement κ _ _ _ _ rfl⟩

theorem index : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The step: the call's arrays and the reference's are the same. -/
theorem algebraic : Cert.algebraic_AdamInIdeal_AdamInRefIdeal := by
  intro m g m' g' _ hag
  refine ⟨fun c => (dats m 0 c).arrAt 4 cfg0.N, fun c => (dats m 0 c).arrAt 5 cfg0.N, fun c => (dats m 0 c).arrAt 6 cfg0.N,
    fun c => (dats m 0 c).arrAt 7 cfg0.N, run_blocks m g,
    (θ_run Cert.AdamInRefIdeal.defs _ _).mono (fun r h c => ⟨(h c).1.trans ?_, (h c).2.1.trans ?_, (h c).2.2.1.trans ?_,
      (h c).2.2.2.1.trans ?_, (h c).2.2.2.2⟩) (Cert.AdamInRefIdeal.Value.run m' g')⟩
  all_goals
    simp only [hag c]
    symm
    refine (dats m 0 c).arrAt_eq_of_covers _ _ (by decide +kernel) fun t hf y => ?_
    have hN : t.val < 8 := t.isLt
    blk_simp
    simp only [after0_4, after0_5, after0_6, after0_7]
    frame_out
    pointwise [k0_pay1, k0_pay2, k0_pay3, k0_pay4]
    try simp only [inv_bias1, inv_bias2, ← Adam.div_bias1, ← Adam.div_bias2]
    blk_point [iblk, V, index]

theorem frame : Cert.quiescent_AdamIn := fun m g _ => Cert.AdamIn.Gen.frame m g

theorem frame_ideal : Cert.quiescent_AdamInIdeal := fun m g _ => Gen.frame m g

theorem frame_reference : Cert.quiescent_AdamInRefIdeal := fun m g _ =>
  (θ_run Cert.AdamInRefIdeal.defs _ _).mono (fun r h => ⟨fun c => (h c).2.2.2.2, sem_eq_zero_of_no_sems (by decide) r.2⟩) (Cert.AdamInRefIdeal.Value.run m g)

end Cert.AdamInIdeal.Step

namespace Cert.AdamUpIdeal.Step

open Cert.AdamUpIdeal Cert.AdamUpIdeal.Gen Cert.AdamUpIdeal.Value Idealize.ShloMosaic Idealize.ShloMosaic.TcCoe Idealize.SL.Sem

variable (m : (ℓ : Loc nD τ sig) → Buf (Elt Ideal) ℓ)

theorem inv_bias1 : Named.named (F := Ideal) κ "inv_bias1" (φ := .f32) 0x3FC48605#32 = ((8388608 / 5463681 : ℝ) : EReal) :=
  IdealRules.named_const.ideal_named_scalar _ _ _ _ rfl

theorem inv_bias2 : Named.named (F := Ideal) κ "inv_bias2" (φ := .f32) 0x42C8E6D3#32 = ((268435456 / 2672307 : ℝ) : EReal) :=
  IdealRules.named_const.ideal_named_scalar _ _ _ _ rfl

theorem preserves : Cert.preserves_AdamUp_AdamUpIdeal :=
  ⟨IdealRules.named_const.statement κ _ _ _ _ rfl, IdealRules.named_const.statement κ _ _ _ _ rfl⟩

theorem layer_coords : ∀ t : Fin cfg0.N, ((grid0.coords t 0).val : ℕ) = t.val / 16 :=
  (by decide +kernel : ∀ t : Fin grid0.N, _)

/-- At a point of the first layer the kernel selects the first layer's gradient … -/
theorem first (t : Fin cfg0.N) (h : t.val < 16) {α : Type} (a b : α) :
    Scalar.select (Scalar.cmpi .eq (BitVec.ofNat 32 (grid0.coords t 0).val) 0#32) a b = a := by
  have e : Scalar.cmpi .eq (BitVec.ofNat 32 (grid0.coords t 0).val) 0#32 = 1#1 := by
    rw [layer_coords t, Nat.div_eq_of_lt h]; rfl
  rw [e]; rfl

/-- … and at a point of the second layer the second's. -/
theorem second (t : Fin cfg0.N) (h : 16 ≤ t.val) {α : Type} (a b : α) :
    Scalar.select (Scalar.cmpi .eq (BitVec.ofNat 32 (grid0.coords t 0).val) 0#32) a b = b := by
  have hN : t.val < 32 := t.isLt
  have e : Scalar.cmpi .eq (BitVec.ofNat 32 (grid0.coords t 0).val) 0#32 = 0#1 := by
    rw [layer_coords t, show t.val / 16 = 1 by omega]; rfl
  rw [e]; rfl

theorem index1_first : ∀ t : Fin cfg0.N, t.val < 16 → win0_1.index t = ![t.val, 0] :=
  (by decide +kernel : ∀ t : Fin grid0.N, _)

theorem index2_second : ∀ t : Fin cfg0.N, 16 ≤ t.val → win0_2.index t = ![t.val % 16, 0] :=
  (by decide +kernel : ∀ t : Fin grid0.N, _)

theorem index : ∀ t : Fin cfg0.N, win0_0.index t = ![t.val / 16, t.val % 16, 0] ∧ win0_3.index t = ![t.val / 16, t.val % 16, 0] ∧ win0_4.index t = ![t.val / 16, t.val % 16, 0]
    ∧ win0_5.index t = ![t.val / 16, t.val % 16, 0] ∧ win0_6.index t = ![t.val / 16, t.val % 16, 0] ∧ win0_7.index t = ![t.val / 16, t.val % 16, 0]
    ∧ win0_8.index t = ![t.val / 16, t.val % 16, 0] :=
  (by decide +kernel : ∀ t : Fin grid0.N, _)

set_option maxHeartbeats 1000000 in
/-- The step: the call's arrays and the reference's are the same. -/
theorem algebraic : Cert.algebraic_AdamUpIdeal_AdamUpRefIdeal := by
  intro m g m' g' _ hag
  refine ⟨fun c => (dats m 0 c).arrAt 5 cfg0.N, fun c => (dats m 0 c).arrAt 6 cfg0.N, fun c => (dats m 0 c).arrAt 7 cfg0.N,
    fun c => (dats m 0 c).arrAt 8 cfg0.N, run_blocks m g,
    (θ_run Cert.AdamUpRefIdeal.defs _ _).mono (fun r h c => ⟨(h c).1.trans ?_, (h c).2.1.trans ?_, (h c).2.2.1.trans ?_,
      (h c).2.2.2.1.trans ?_, (h c).2.2.2.2⟩) (Cert.AdamUpRefIdeal.Value.run m' g')⟩
  all_goals
    obtain ⟨a0, a1, a2, a3, a4⟩ := hag c
    rw [a1, a2]
    try rw [a0]
    try rw [a3]
    try rw [a4]
    symm
    refine (dats m 0 c).arrAt_eq_of_covers _ _ (by decide +kernel) fun t hf y => ?_
    have hN : t.val < 32 := t.isLt
    blk_simp
    simp only [after0_5, after0_6, after0_7, after0_8]
    frame_out
    pointwise [k0_pay1, k0_pay2, k0_pay3, k0_pay4, k0_pay5, k0_pay6, k0_pay7, k0_pay8, k0_pay9]
    try simp only [inv_bias1, inv_bias2, ← Adam.div_bias1, ← Adam.div_bias2]
    have hy : (y 0).val < 1 := (y 0).isLt
    rcases Nat.lt_or_ge t.val 16 with ht | ht
    · simp only [first t ht]
      split
      · blk_point [iblk, V, index, index1_first t ht]
      · rename_i h0
        exact absurd (by blk_simp [index]; omega) h0
    · simp only [second t ht]
      split
      · rename_i h0
        exact absurd h0 (by blk_simp [index]; omega)
      · blk_point [iblk, V, index, index2_second t ht]

theorem frame : Cert.quiescent_AdamUp := fun m g _ => Cert.AdamUp.Gen.frame m g

theorem frame_ideal : Cert.quiescent_AdamUpIdeal := fun m g _ => Gen.frame m g

theorem frame_reference : Cert.quiescent_AdamUpRefIdeal := fun m g _ =>
  (θ_run Cert.AdamUpRefIdeal.defs _ _).mono (fun r h => ⟨fun c => (h c).2.2.2.2, sem_eq_zero_of_no_sems (by decide) r.2⟩) (Cert.AdamUpRefIdeal.Value.run m g)

end Cert.AdamUpIdeal.Step

namespace Cert.AdamDownIdeal.Step

open Cert.AdamDownIdeal Cert.AdamDownIdeal.Gen Cert.AdamDownIdeal.Value Idealize.ShloMosaic Idealize.ShloMosaic.TcCoe Idealize.SL.Sem

variable (m : (ℓ : Loc nD τ sig) → Buf (Elt Ideal) ℓ)

theorem inv_bias1 : Named.named (F := Ideal) κ "inv_bias1" (φ := .f32) 0x3FC48605#32 = ((8388608 / 5463681 : ℝ) : EReal) :=
  IdealRules.named_const.ideal_named_scalar _ _ _ _ rfl

theorem inv_bias2 : Named.named (F := Ideal) κ "inv_bias2" (φ := .f32) 0x42C8E6D3#32 = ((268435456 / 2672307 : ℝ) : EReal) :=
  IdealRules.named_const.ideal_named_scalar _ _ _ _ rfl

theorem preserves : Cert.preserves_AdamDown_AdamDownIdeal :=
  ⟨IdealRules.named_const.statement κ _ _ _ _ rfl, IdealRules.named_const.statement κ _ _ _ _ rfl⟩

theorem layer_coords : ∀ t : Fin cfg0.N, ((grid0.coords t 0).val : ℕ) = t.val / 11 :=
  (by decide +kernel : ∀ t : Fin grid0.N, _)

/-- At a point of the first layer the kernel selects the first layer's gradient … -/
theorem first (t : Fin cfg0.N) (h : t.val < 11) {α : Type} (a b : α) :
    Scalar.select (Scalar.cmpi .eq (BitVec.ofNat 32 (grid0.coords t 0).val) 0#32) a b = a := by
  have e : Scalar.cmpi .eq (BitVec.ofNat 32 (grid0.coords t 0).val) 0#32 = 1#1 := by
    rw [layer_coords t, Nat.div_eq_of_lt h]; rfl
  rw [e]; rfl

/-- … and at a point of the second layer the second's. -/
theorem second (t : Fin cfg0.N) (h : 11 ≤ t.val) {α : Type} (a b : α) :
    Scalar.select (Scalar.cmpi .eq (BitVec.ofNat 32 (grid0.coords t 0).val) 0#32) a b = b := by
  have hN : t.val < 22 := t.isLt
  have e : Scalar.cmpi .eq (BitVec.ofNat 32 (grid0.coords t 0).val) 0#32 = 0#1 := by
    rw [layer_coords t, show t.val / 11 = 1 by omega]; rfl
  rw [e]; rfl

theorem index1_first : ∀ t : Fin cfg0.N, t.val < 11 → win0_1.index t = ![t.val, 0] :=
  (by decide +kernel : ∀ t : Fin grid0.N, _)

theorem index2_second : ∀ t : Fin cfg0.N, 11 ≤ t.val → win0_2.index t = ![t.val % 11, 0] :=
  (by decide +kernel : ∀ t : Fin grid0.N, _)

theorem index : ∀ t : Fin cfg0.N, win0_0.index t = ![t.val / 11, t.val % 11, 0] ∧ win0_3.index t = ![t.val / 11, t.val % 11, 0] ∧ win0_4.index t = ![t.val / 11, t.val % 11, 0]
    ∧ win0_5.index t = ![t.val / 11, t.val % 11, 0] ∧ win0_6.index t = ![t.val / 11, t.val % 11, 0] ∧ win0_7.index t = ![t.val / 11, t.val % 11, 0]
    ∧ win0_8.index t = ![t.val / 11, t.val % 11, 0] :=
  (by decide +kernel : ∀ t : Fin grid0.N, _)

set_option maxHeartbeats 1000000 in
/-- The step: the call's arrays and the reference's are the same. -/
theorem algebraic : Cert.algebraic_AdamDownIdeal_AdamDownRefIdeal := by
  intro m g m' g' _ hag
  refine ⟨fun c => (dats m 0 c).arrAt 5 cfg0.N, fun c => (dats m 0 c).arrAt 6 cfg0.N, fun c => (dats m 0 c).arrAt 7 cfg0.N,
    fun c => (dats m 0 c).arrAt 8 cfg0.N, run_blocks m g,
    (θ_run Cert.AdamDownRefIdeal.defs _ _).mono (fun r h c => ⟨(h c).1.trans ?_, (h c).2.1.trans ?_, (h c).2.2.1.trans ?_,
      (h c).2.2.2.1.trans ?_, (h c).2.2.2.2⟩) (Cert.AdamDownRefIdeal.Value.run m' g')⟩
  all_goals
    obtain ⟨a0, a1, a2, a3, a4⟩ := hag c
    rw [a1, a2]
    try rw [a0]
    try rw [a3]
    try rw [a4]
    symm
    refine (dats m 0 c).arrAt_eq_of_covers _ _ (by decide +kernel) fun t hf y => ?_
    have hN : t.val < 22 := t.isLt
    blk_simp
    simp only [after0_5, after0_6, after0_7, after0_8]
    frame_out
    pointwise [k0_pay1, k0_pay2, k0_pay3, k0_pay4, k0_pay5, k0_pay6, k0_pay7, k0_pay8, k0_pay9]
    try simp only [inv_bias1, inv_bias2, ← Adam.div_bias1, ← Adam.div_bias2]
    have hy : (y 0).val < 1 := (y 0).isLt
    rcases Nat.lt_or_ge t.val 11 with ht | ht
    · simp only [first t ht]
      split
      · blk_point [iblk, V, index, index1_first t ht]
      · rename_i h0
        exact absurd (by blk_simp [index]; omega) h0
    · simp only [second t ht]
      split
      · rename_i h0
        exact absurd h0 (by blk_simp [index]; omega)
      · blk_point [iblk, V, index, index2_second t ht]

theorem frame : Cert.quiescent_AdamDown := fun m g _ => Cert.AdamDown.Gen.frame m g

theorem frame_ideal : Cert.quiescent_AdamDownIdeal := fun m g _ => Gen.frame m g

theorem frame_reference : Cert.quiescent_AdamDownRefIdeal := fun m g _ =>
  (θ_run Cert.AdamDownRefIdeal.defs _ _).mono (fun r h => ⟨fun c => (h c).2.2.2.2, sem_eq_zero_of_no_sems (by decide) r.2⟩) (Cert.AdamDownRefIdeal.Value.run m g)

end Cert.AdamDownIdeal.Step

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Run
public import proofs.«01_k».proof.Proof.KerValue
public import proofs.«01_k».proof.Proof.RefPost
public import proofs.«01_k».proof.Proof.MmGlaProj
public import proofs.«01_k».proof.Proof.MmGateProj
public import proofs.«01_k».proof.Proof.MmMixOut
public import proofs.«01_k».proof.Proof.MmKvProj
public import proofs.«01_k».proof.Proof.MmQProj
public import proofs.«01_k».proof.Proof.MmUp
public import proofs.«01_k».proof.Proof.MmDown
public import proofs.«01_k».proof.Proof.Norm
public import proofs.«01_k».proof.Proof.NormGrad
public import proofs.«01_k».proof.Proof.ConvGrad
public import proofs.«01_k».proof.Proof.Gate
public import proofs.«01_k».proof.Proof.Adam
public import proofs.«01_k».proof.Proof.AdamBlocks
public import Idealize.ShloMosaic.Adequacy
public import Idealize.ShloMosaic.Init

@[expose] public section

noncomputable section

namespace Cert.Proof

open Idealize.ShloMosaic Idealize.SL.Sem

open Cert.KernelIdeal in
/-- The machine's kernel is the ideal kernel's text read at the machine's floats, so its frame is the frame of that text. -/
theorem kernel_text : Cert.quiescent_Kernel (hKernel := Cert.Kernel.Gen.facts) =
    ∀ (m : (ℓ : Loc nD τ sig) → Buf (Elt Bits) ℓ) (g : Dev nD → PrngReg), True →
      θ_run (defs (F := Bits)) (onTc (τ := τ) (main (F := Bits))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) := by
  chain_rfl

/-- The machine's kernel runs, keeps its arguments and leaves every counter at zero: the one run of the two
    calls, read at the machine's floats. -/
theorem frame_kernel : Cert.quiescent_Kernel (hKernel := Cert.Kernel.Gen.facts) := by
  rw [kernel_text]
  exact fun m ρ _ => Cert.KernelIdeal.Gla.frame (F := Bits) m ρ

/-- The same run over the extended reals. -/
theorem frame_ideal : Cert.quiescent_KernelIdeal (hKernelIdeal := Cert.KernelIdeal.Gen.facts) := fun m ρ _ =>
  Cert.KernelIdeal.Gla.frame (F := Ideal) m ρ

/-- The reference runs, keeps its arguments and leaves every counter at zero. -/
theorem frame_reference : Cert.quiescent_ReferenceIdeal (hReferenceIdeal := Cert.ReferenceIdeal.Gen.facts) := fun m ρ _ =>
  Cert.ReferenceIdeal.Gla.frame (F := Ideal) m ρ

/-- The ideal kernel and the reference, run on the same arguments, end with the same four gradients: those of
    `GlaSpec`. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => GlaSpec.dQ (Cert.KernelIdeal.Gla.argP m c) (Cert.KernelIdeal.Gla.argC m c) (Cert.KernelIdeal.Gla.argG m c),
    fun c => GlaSpec.dK (Cert.KernelIdeal.Gla.argP m c) (Cert.KernelIdeal.Gla.argC m c) (Cert.KernelIdeal.Gla.argG m c),
    fun c => GlaSpec.dV (Cert.KernelIdeal.Gla.argP m c) (Cert.KernelIdeal.Gla.argC m c) (Cert.KernelIdeal.Gla.argG m c),
    fun c => GlaSpec.dC (Cert.KernelIdeal.Gla.argP m c) (Cert.KernelIdeal.Gla.argC m c) (Cert.KernelIdeal.Gla.argG m c),
    Cert.KernelIdeal.Gla.run_values m g, ?_⟩
  refine (θ_run (Cert.ReferenceIdeal.defs (F := Ideal)) _ _).mono (fun r h c => ?_) (Cert.ReferenceIdeal.Gla.run_values m' g')
  have hP : Cert.ReferenceIdeal.Gla.argP m' c = Cert.KernelIdeal.Gla.argP m c := (hagree c).1
  have hC : Cert.ReferenceIdeal.Gla.argC m' c = Cert.KernelIdeal.Gla.argC m c := (hagree c).2.1
  have hG : Cert.ReferenceIdeal.Gla.argG m' c = Cert.KernelIdeal.Gla.argG m c := (hagree c).2.2
  have hc := h c
  rw [hP, hC, hG] at hc
  exact hc

/-- The claims, of the gated linear attention's program and of each single call's: the frames, that the ideal kernel is the
    kernel, and that it computes what the reference does. -/
theorem claim : Cert.Claim :=
  ⟨Cert.Kernel.Gen.facts, Cert.KernelIdeal.Gen.facts, Cert.ReferenceIdeal.Gen.facts,
  Cert.GlaProj.Gen.facts, Cert.GlaProjIdeal.Gen.facts, Cert.GlaProjRefIdeal.Gen.facts,
  Cert.GlaProjDx.Gen.facts, Cert.GlaProjDxIdeal.Gen.facts, Cert.GlaProjDxRefIdeal.Gen.facts,
  Cert.GlaProjDw.Gen.facts, Cert.GlaProjDwIdeal.Gen.facts, Cert.GlaProjDwRefIdeal.Gen.facts,
  Cert.GateProj.Gen.facts, Cert.GateProjIdeal.Gen.facts, Cert.GateProjRefIdeal.Gen.facts,
  Cert.GateProjDx.Gen.facts, Cert.GateProjDxIdeal.Gen.facts, Cert.GateProjDxRefIdeal.Gen.facts,
  Cert.GateProjDw.Gen.facts, Cert.GateProjDwIdeal.Gen.facts, Cert.GateProjDwRefIdeal.Gen.facts,
  Cert.MixOut.Gen.facts, Cert.MixOutIdeal.Gen.facts, Cert.MixOutRefIdeal.Gen.facts,
  Cert.MixOutDx.Gen.facts, Cert.MixOutDxIdeal.Gen.facts, Cert.MixOutDxRefIdeal.Gen.facts,
  Cert.MixOutDw.Gen.facts, Cert.MixOutDwIdeal.Gen.facts, Cert.MixOutDwRefIdeal.Gen.facts,
  Cert.KvProj.Gen.facts, Cert.KvProjIdeal.Gen.facts, Cert.KvProjRefIdeal.Gen.facts,
  Cert.KvProjDx.Gen.facts, Cert.KvProjDxIdeal.Gen.facts, Cert.KvProjDxRefIdeal.Gen.facts,
  Cert.KvProjDw.Gen.facts, Cert.KvProjDwIdeal.Gen.facts, Cert.KvProjDwRefIdeal.Gen.facts,
  Cert.QProj.Gen.facts, Cert.QProjIdeal.Gen.facts, Cert.QProjRefIdeal.Gen.facts,
  Cert.QProjDx.Gen.facts, Cert.QProjDxIdeal.Gen.facts, Cert.QProjDxRefIdeal.Gen.facts,
  Cert.QProjDw.Gen.facts, Cert.QProjDwIdeal.Gen.facts, Cert.QProjDwRefIdeal.Gen.facts,
  Cert.Up.Gen.facts, Cert.UpIdeal.Gen.facts, Cert.UpRefIdeal.Gen.facts,
  Cert.UpDx.Gen.facts, Cert.UpDxIdeal.Gen.facts, Cert.UpDxRefIdeal.Gen.facts,
  Cert.UpDw.Gen.facts, Cert.UpDwIdeal.Gen.facts, Cert.UpDwRefIdeal.Gen.facts,
  Cert.Down.Gen.facts, Cert.DownIdeal.Gen.facts, Cert.DownRefIdeal.Gen.facts,
  Cert.DownDx.Gen.facts, Cert.DownDxIdeal.Gen.facts, Cert.DownDxRefIdeal.Gen.facts,
  Cert.DownDw.Gen.facts, Cert.DownDwIdeal.Gen.facts, Cert.DownDwRefIdeal.Gen.facts,
  Cert.Norm.Gen.facts, Cert.NormIdeal.Gen.facts, Cert.NormRefIdeal.Gen.facts,
  Cert.NormPair.Gen.facts, Cert.NormPairIdeal.Gen.facts, Cert.NormPairRefIdeal.Gen.facts,
  Cert.NormDx.Gen.facts, Cert.NormDxIdeal.Gen.facts, Cert.NormDxRefIdeal.Gen.facts,
  Cert.Glu.Gen.facts, Cert.GluIdeal.Gen.facts, Cert.GluRefIdeal.Gen.facts,
  Cert.ConvDx.Gen.facts, Cert.ConvDxIdeal.Gen.facts, Cert.ConvDxRefIdeal.Gen.facts,
  Cert.AdamKv.Gen.facts, Cert.AdamKvIdeal.Gen.facts, Cert.AdamKvRefIdeal.Gen.facts,
  Cert.AdamQ.Gen.facts, Cert.AdamQIdeal.Gen.facts, Cert.AdamQRefIdeal.Gen.facts,
  Cert.AdamOut.Gen.facts, Cert.AdamOutIdeal.Gen.facts, Cert.AdamOutRefIdeal.Gen.facts,
  Cert.AdamIn.Gen.facts, Cert.AdamInIdeal.Gen.facts, Cert.AdamInRefIdeal.Gen.facts,
  Cert.AdamSmall.Gen.facts, Cert.AdamSmallIdeal.Gen.facts, Cert.AdamSmallRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  frame_kernel, frame_ideal, frame_reference,
  Cert.GlaProjIdeal.Product.frame, Cert.GlaProjIdeal.Product.frame_ideal, Cert.GlaProjIdeal.Product.frame_reference,
  Cert.GlaProjDxIdeal.Product.frame, Cert.GlaProjDxIdeal.Product.frame_ideal, Cert.GlaProjDxIdeal.Product.frame_reference,
  Cert.GlaProjDwIdeal.Product.frame, Cert.GlaProjDwIdeal.Product.frame_ideal, Cert.GlaProjDwIdeal.Product.frame_reference,
  Cert.GateProjIdeal.Product.frame, Cert.GateProjIdeal.Product.frame_ideal, Cert.GateProjIdeal.Product.frame_reference,
  Cert.GateProjDxIdeal.Product.frame, Cert.GateProjDxIdeal.Product.frame_ideal, Cert.GateProjDxIdeal.Product.frame_reference,
  Cert.GateProjDwIdeal.Product.frame, Cert.GateProjDwIdeal.Product.frame_ideal, Cert.GateProjDwIdeal.Product.frame_reference,
  Cert.MixOutIdeal.Product.frame, Cert.MixOutIdeal.Product.frame_ideal, Cert.MixOutIdeal.Product.frame_reference,
  Cert.MixOutDxIdeal.Product.frame, Cert.MixOutDxIdeal.Product.frame_ideal, Cert.MixOutDxIdeal.Product.frame_reference,
  Cert.MixOutDwIdeal.Product.frame, Cert.MixOutDwIdeal.Product.frame_ideal, Cert.MixOutDwIdeal.Product.frame_reference,
  Cert.KvProjIdeal.Product.frame, Cert.KvProjIdeal.Product.frame_ideal, Cert.KvProjIdeal.Product.frame_reference,
  Cert.KvProjDxIdeal.Product.frame, Cert.KvProjDxIdeal.Product.frame_ideal, Cert.KvProjDxIdeal.Product.frame_reference,
  Cert.KvProjDwIdeal.Product.frame, Cert.KvProjDwIdeal.Product.frame_ideal, Cert.KvProjDwIdeal.Product.frame_reference,
  Cert.QProjIdeal.Product.frame, Cert.QProjIdeal.Product.frame_ideal, Cert.QProjIdeal.Product.frame_reference,
  Cert.QProjDxIdeal.Product.frame, Cert.QProjDxIdeal.Product.frame_ideal, Cert.QProjDxIdeal.Product.frame_reference,
  Cert.QProjDwIdeal.Product.frame, Cert.QProjDwIdeal.Product.frame_ideal, Cert.QProjDwIdeal.Product.frame_reference,
  Cert.UpIdeal.Product.frame, Cert.UpIdeal.Product.frame_ideal, Cert.UpIdeal.Product.frame_reference,
  Cert.UpDxIdeal.Product.frame, Cert.UpDxIdeal.Product.frame_ideal, Cert.UpDxIdeal.Product.frame_reference,
  Cert.UpDwIdeal.Product.frame, Cert.UpDwIdeal.Product.frame_ideal, Cert.UpDwIdeal.Product.frame_reference,
  Cert.DownIdeal.Product.frame, Cert.DownIdeal.Product.frame_ideal, Cert.DownIdeal.Product.frame_reference,
  Cert.DownDxIdeal.Product.frame, Cert.DownDxIdeal.Product.frame_ideal, Cert.DownDxIdeal.Product.frame_reference,
  Cert.DownDwIdeal.Product.frame, Cert.DownDwIdeal.Product.frame_ideal, Cert.DownDwIdeal.Product.frame_reference,
  Cert.NormIdeal.Step.frame, Cert.NormIdeal.Step.frame_ideal, Cert.NormIdeal.Step.frame_reference,
  Cert.NormPairIdeal.Step.frame, Cert.NormPairIdeal.Step.frame_ideal, Cert.NormPairIdeal.Step.frame_reference,
  Cert.NormDxIdeal.Step.frame, Cert.NormDxIdeal.Step.frame_ideal, Cert.NormDxIdeal.Step.frame_reference,
  Cert.GluIdeal.Step.frame, Cert.GluIdeal.Step.frame_ideal, Cert.GluIdeal.Step.frame_reference,
  Cert.ConvDxIdeal.Step.frame, Cert.ConvDxIdeal.Step.frame_ideal, Cert.ConvDxIdeal.Step.frame_reference,
  Cert.AdamKvIdeal.Step.frame, Cert.AdamKvIdeal.Step.frame_ideal, Cert.AdamKvIdeal.Step.frame_reference,
  Cert.AdamQIdeal.Step.frame, Cert.AdamQIdeal.Step.frame_ideal, Cert.AdamQIdeal.Step.frame_reference,
  Cert.AdamOutIdeal.Step.frame, Cert.AdamOutIdeal.Step.frame_ideal, Cert.AdamOutIdeal.Step.frame_reference,
  Cert.AdamInIdeal.Step.frame, Cert.AdamInIdeal.Step.frame_ideal, Cert.AdamInIdeal.Step.frame_reference,
  Cert.AdamSmallIdeal.Step.frame, Cert.AdamSmallIdeal.Step.frame_ideal, Cert.AdamSmallIdeal.Step.frame_reference,
  Cert.AdamUpIdeal.Step.frame, Cert.AdamUpIdeal.Step.frame_ideal, Cert.AdamUpIdeal.Step.frame_reference,
  Cert.AdamDownIdeal.Step.frame, Cert.AdamDownIdeal.Step.frame_ideal, Cert.AdamDownIdeal.Step.frame_reference,
  trivial, algebraic,
  trivial, Cert.GlaProjIdeal.Product.algebraic,
  trivial, Cert.GlaProjDxIdeal.Product.algebraic,
  trivial, Cert.GlaProjDwIdeal.Product.algebraic,
  trivial, Cert.GateProjIdeal.Product.algebraic,
  trivial, Cert.GateProjDxIdeal.Product.algebraic,
  trivial, Cert.GateProjDwIdeal.Product.algebraic,
  trivial, Cert.MixOutIdeal.Product.algebraic,
  trivial, Cert.MixOutDxIdeal.Product.algebraic,
  trivial, Cert.MixOutDwIdeal.Product.algebraic,
  trivial, Cert.KvProjIdeal.Product.algebraic,
  trivial, Cert.KvProjDxIdeal.Product.algebraic,
  trivial, Cert.KvProjDwIdeal.Product.algebraic,
  trivial, Cert.QProjIdeal.Product.algebraic,
  trivial, Cert.QProjDxIdeal.Product.algebraic,
  trivial, Cert.QProjDwIdeal.Product.algebraic,
  trivial, Cert.UpIdeal.Product.algebraic,
  trivial, Cert.UpDxIdeal.Product.algebraic,
  trivial, Cert.UpDwIdeal.Product.algebraic,
  trivial, Cert.DownIdeal.Product.algebraic,
  trivial, Cert.DownDxIdeal.Product.algebraic,
  trivial, Cert.DownDwIdeal.Product.algebraic,
  trivial, Cert.NormIdeal.Step.algebraic,
  trivial, Cert.NormPairIdeal.Step.algebraic,
  trivial, Cert.NormDxIdeal.Step.algebraic,
  trivial, Cert.GluIdeal.Step.algebraic,
  trivial, Cert.ConvDxIdeal.Step.algebraic,
  Cert.AdamKvIdeal.Step.preserves, Cert.AdamKvIdeal.Step.algebraic,
  Cert.AdamQIdeal.Step.preserves, Cert.AdamQIdeal.Step.algebraic,
  Cert.AdamOutIdeal.Step.preserves, Cert.AdamOutIdeal.Step.algebraic,
  Cert.AdamInIdeal.Step.preserves, Cert.AdamInIdeal.Step.algebraic,
  Cert.AdamSmallIdeal.Step.preserves, Cert.AdamSmallIdeal.Step.algebraic,
  Cert.AdamUpIdeal.Step.preserves, Cert.AdamUpIdeal.Step.algebraic,
  Cert.AdamDownIdeal.Step.preserves, Cert.AdamDownIdeal.Step.algebraic⟩

end Cert.Proof

end
